-- ==== Defs.lean ====
def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxIdeal_all_real [hPre_all_real : Cert.Pre_all_real.Facts] (m : (ℓ : Loc Cert.DownDxIdeal.nD Cert.DownDxIdeal.τ Cert.DownDxIdeal.sig) → Buf (Elt Ideal) ℓ) : Prop :=
  ∀ c : Dev Cert.DownDxIdeal.nD,
    (Cert.Pre_all_real.fn (F := Ideal) (m ((c.tc : Thread Cert.DownDxIdeal.nD Cert.DownDxIdeal.τ).loc Cert.DownDxIdeal.main_arg0)) (m ((c.tc : Thread Cert.DownDxIdeal.nD Cert.DownDxIdeal.τ).loc Cert.DownDxIdeal.main_arg1)) (m ((c.tc : Thread Cert.DownDxIdeal.nD Cert.DownDxIdeal.τ).loc Cert.DownDxIdeal.main_arg2))) = (fun _ => 1#1)

def Pre_DownDxRefIdeal (m : (ℓ : Loc Cert.DownDxRefIdeal.nD Cert.DownDxRefIdeal.τ Cert.DownDxRefIdeal.sig) → Buf (Elt Ideal) ℓ) : Prop :=
  True

def Pre_DownDxRefIdeal_all_real [hPre_all_real : Cert.Pre_all_real.Facts] (m : (ℓ : Loc Cert.DownDxRefIdeal.nD Cert.DownDxRefIdeal.τ Cert.DownDxRefIdeal.sig) → Buf (Elt Ideal) ℓ) : Prop :=
  ∀ c : Dev Cert.DownDxRefIdeal.nD,
    (Cert.Pre_all_real.fn (F := Ideal) (m ((c.tc : Thread Cert.DownDxRefIdeal.nD Cert.DownDxRefIdeal.τ).loc Cert.DownDxRefIdeal.main_arg0)) (m ((c.tc : Thread Cert.DownDxRefIdeal.nD Cert.DownDxRefIdeal.τ).loc Cert.DownDxRefIdeal.main_arg1)) (m ((c.tc : Thread Cert.DownDxRefIdeal.nD Cert.DownDxRefIdeal.τ).loc Cert.DownDxRefIdeal.main_arg2))) = (fun _ => 1#1)

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdRefIdeal (m : (ℓ : Loc Cert.GateBwdRefIdeal.nD Cert.GateBwdRefIdeal.τ Cert.GateBwdRefIdeal.sig) → Buf (Elt Ideal) ℓ) : Prop :=
  True

def Pre_GuDx (m : (ℓ : Loc Cert.GuDx.nD Cert.GuDx.τ Cert.GuDx.sig) → Buf (Elt Bits) ℓ) : Prop :=
  True

def Pre_GuDxIdeal (m : (ℓ : Loc Cert.GuDxIdeal.nD Cert.GuDxIdeal.τ Cert.GuDxIdeal.sig) → Buf (Elt Ideal) ℓ) : Prop :=
  True

def Pre_GuDxRefIdeal (m : (ℓ : Loc Cert.GuDxRefIdeal.nD Cert.GuDxRefIdeal.τ Cert.GuDxRefIdeal.sig) → Buf (Elt Ideal) ℓ) : Prop :=
  True

def Pre_GuDw (m : (ℓ : Loc Cert.GuDw.nD Cert.GuDw.τ Cert.GuDw.sig) → Buf (Elt Bits) ℓ) : Prop :=
  True

def Pre_GuDwIdeal (m : (ℓ : Loc Cert.GuDwIdeal.nD Cert.GuDwIdeal.τ Cert.GuDwIdeal.sig) → Buf (Elt Ideal) ℓ) : Prop :=
  True

def Pre_GuDwRefIdeal (m : (ℓ : Loc Cert.GuDwRefIdeal.nD Cert.GuDwRefIdeal.τ Cert.GuDwRefIdeal.sig) → Buf (Elt Ideal) ℓ) : Prop :=
  True

def Pre_MixGateBwd (m : (ℓ : Loc Cert.MixGateBwd.nD Cert.MixGateBwd.τ Cert.MixGateBwd.sig) → Buf (Elt Bits) ℓ) : Prop :=
  True

def Pre_MixGateBwdIdeal (m : (ℓ : Loc Cert.MixGateBwdIdeal.nD Cert.MixGateBwdIdeal.τ Cert.MixGateBwdIdeal.sig) → Buf (Elt Ideal) ℓ) : Prop :=
  True

def Pre_MixGateBwdRefIdeal (m : (ℓ : Loc Cert.MixGateBwdRefIdeal.nD Cert.MixGateBwdRefIdeal.τ Cert.MixGateBwdRefIdeal.sig) → Buf (Elt Ideal) ℓ) : Prop :=
  True

def Pre_SsmInDx (m : (ℓ : Loc Cert.SsmInDx.nD Cert.SsmInDx.τ Cert.SsmInDx.sig) → Buf (Elt Bits) ℓ) : Prop :=
  True

def Pre_SsmInDxIdeal (m : (ℓ : Loc Cert.SsmInDxIdeal.nD Cert.SsmInDxIdeal.τ Cert.SsmInDxIdeal.sig) → Buf (Elt Ideal) ℓ) : Prop :=
  True

def Pre_SsmInDxRefIdeal (m : (ℓ : Loc Cert.SsmInDxRefIdeal.nD Cert.SsmInDxRefIdeal.τ Cert.SsmInDxRefIdeal.sig) → Buf (Elt Ideal) ℓ) : Prop :=
  True

def Pre_SsmInDw (m : (ℓ : Loc Cert.SsmInDw.nD Cert.SsmInDw.τ Cert.SsmInDw.sig) → Buf (Elt Bits) ℓ) : Prop :=
  True

def Pre_SsmInDwIdeal (m : (ℓ : Loc Cert.SsmInDwIdeal.nD Cert.SsmInDwIdeal.τ Cert.SsmInDwIdeal.sig) → Buf (Elt Ideal) ℓ) : Prop :=
  True

def Pre_SsmInDwRefIdeal (m : (ℓ : Loc Cert.SsmInDwRefIdeal.nD Cert.SsmInDwRefIdeal.τ Cert.SsmInDwRefIdeal.sig) → Buf (Elt Ideal) ℓ) : Prop :=
  True

def Pre_SsmOutDx (m : (ℓ : Loc Cert.SsmOutDx.nD Cert.SsmOutDx.τ Cert.SsmOutDx.sig) → Buf (Elt Bits) ℓ) : Prop :=
  True

def Pre_SsmOutDxIdeal (m : (ℓ : Loc Cert.SsmOutDxIdeal.nD Cert.SsmOutDxIdeal.τ Cert.SsmOutDxIdeal.sig) → Buf (Elt Ideal) ℓ) : Prop :=
  True

def Pre_SsmOutDxRefIdeal (m : (ℓ : Loc Cert.SsmOutDxRefIdeal.nD Cert.SsmOutDxRefIdeal.τ Cert.SsmOutDxRefIdeal.sig) → Buf (Elt Ideal) ℓ) : Prop :=
  True

def Pre_SsmOutDw (m : (ℓ : Loc Cert.SsmOutDw.nD Cert.SsmOutDw.τ Cert.SsmOutDw.sig) → Buf (Elt Bits) ℓ) : Prop :=
  True

def Pre_SsmOutDwIdeal (m : (ℓ : Loc Cert.SsmOutDwIdeal.nD Cert.SsmOutDwIdeal.τ Cert.SsmOutDwIdeal.sig) → Buf (Elt Ideal) ℓ) : Prop :=
  True

def Pre_SsmOutDwRefIdeal (m : (ℓ : Loc Cert.SsmOutDwRefIdeal.nD Cert.SsmOutDwRefIdeal.τ Cert.SsmOutDwRefIdeal.sig) → Buf (Elt Ideal) ℓ) : Prop :=
  True

def Pre_GnormBwd (m : (ℓ : Loc Cert.GnormBwd.nD Cert.GnormBwd.τ Cert.GnormBwd.sig) → Buf (Elt Bits) ℓ) : Prop :=
  True

def Pre_GnormBwdIdeal (m : (ℓ : Loc Cert.GnormBwdIdeal.nD Cert.GnormBwdIdeal.τ Cert.GnormBwdIdeal.sig) → Buf (Elt Ideal) ℓ) : Prop :=
  True

def Pre_GnormBwdIdeal_gnorm_real [hPre_gnorm_real : Cert.Pre_gnorm_real.Facts] (m : (ℓ : Loc Cert.GnormBwdIdeal.nD Cert.GnormBwdIdeal.τ Cert.GnormBwdIdeal.sig) → Buf (Elt Ideal) ℓ) : Prop :=
  ∀ c : Dev Cert.GnormBwdIdeal.nD,
    (Cert.Pre_gnorm_real.fn (F := Ideal) (m ((c.tc : Thread Cert.GnormBwdIdeal.nD Cert.GnormBwdIdeal.τ).loc Cert.GnormBwdIdeal.main_arg0)) (m ((c.tc : Thread Cert.GnormBwdIdeal.nD Cert.GnormBwdIdeal.τ).loc Cert.GnormBwdIdeal.main_arg1)) (m ((c.tc : Thread Cert.GnormBwdIdeal.nD Cert.GnormBwdIdeal.τ).loc Cert.GnormBwdIdeal.main_arg2)) (m ((c.tc : Thread Cert.GnormBwdIdeal.nD Cert.GnormBwdIdeal.τ).loc Cert.GnormBwdIdeal.main_arg3))) = (fun _ => 1#1)

def Pre_GnormBwdRefIdeal (m : (ℓ : Loc Cert.GnormBwdRefIdeal.nD Cert.GnormBwdRefIdeal.τ Cert.GnormBwdRefIdeal.sig) → Buf (Elt Ideal) ℓ) : Prop :=
  True

def Pre_GnormBwdRefIdeal_gnorm_real [hPre_gnorm_real : Cert.Pre_gnorm_real.Facts] (m : (ℓ : Loc Cert.GnormBwdRefIdeal.nD Cert.GnormBwdRefIdeal.τ Cert.GnormBwdRefIdeal.sig) → Buf (Elt Ideal) ℓ) : Prop :=
  ∀ c : Dev Cert.GnormBwdRefIdeal.nD,
    (Cert.Pre_gnorm_real.fn (F := Ideal) (m ((c.tc : Thread Cert.GnormBwdRefIdeal.nD Cert.GnormBwdRefIdeal.τ).loc Cert.GnormBwdRefIdeal.main_arg0)) (m ((c.tc : Thread Cert.GnormBwdRefIdeal.nD Cert.GnormBwdRefIdeal.τ).loc Cert.GnormBwdRefIdeal.main_arg1)) (m ((c.tc : Thread Cert.GnormBwdRefIdeal.nD Cert.GnormBwdRefIdeal.τ).loc Cert.GnormBwdRefIdeal.main_arg2)) (m ((c.tc : Thread Cert.GnormBwdRefIdeal.nD Cert.GnormBwdRefIdeal.τ).loc Cert.GnormBwdRefIdeal.main_arg3))) = (fun _ => 1#1)

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_conv_real [hPre_conv_real : Cert.Pre_conv_real.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_conv_real.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))) = (fun _ => 1#1)

def Pre_ConvBwdRefIdeal (m : (ℓ : Loc Cert.ConvBwdRefIdeal.nD Cert.ConvBwdRefIdeal.τ Cert.ConvBwdRefIdeal.sig) → Buf (Elt Ideal) ℓ) : Prop :=
  True

def Pre_ConvBwdRefIdeal_conv_real [hPre_conv_real : Cert.Pre_conv_real.Facts] (m : (ℓ : Loc Cert.ConvBwdRefIdeal.nD Cert.ConvBwdRefIdeal.τ Cert.ConvBwdRefIdeal.sig) → Buf (Elt Ideal) ℓ) : Prop :=
  ∀ c : Dev Cert.ConvBwdRefIdeal.nD,
    (Cert.Pre_conv_real.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))) = (fun _ => 1#1)

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_FinalLossRefIdeal (m : (ℓ : Loc Cert.FinalLossRefIdeal.nD Cert.FinalLossRefIdeal.τ Cert.FinalLossRefIdeal.sig) → Buf (Elt Ideal) ℓ) : Prop :=
  True

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_NormModRefIdeal (m : (ℓ : Loc Cert.NormModRefIdeal.nD Cert.NormModRefIdeal.τ Cert.NormModRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_SsmIn (m : (ℓ : Loc Cert.SsmIn.nD Cert.SsmIn.τ Cert.SsmIn.sig) → Buf (Elt Bits) ℓ) : Prop :=
  True

def Pre_SsmInIdeal (m : (ℓ : Loc Cert.SsmInIdeal.nD Cert.SsmInIdeal.τ Cert.SsmInIdeal.sig) → Buf (Elt Ideal) ℓ) : Prop :=
  True

def Pre_SsmInRefIdeal (m : (ℓ : Loc Cert.SsmInRefIdeal.nD Cert.SsmInRefIdeal.τ Cert.SsmInRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_GnormFwd (m : (ℓ : Loc Cert.GnormFwd.nD Cert.GnormFwd.τ Cert.GnormFwd.sig) → Buf (Elt Bits) ℓ) : Prop :=
  True

def Pre_GnormFwdIdeal (m : (ℓ : Loc Cert.GnormFwdIdeal.nD Cert.GnormFwdIdeal.τ Cert.GnormFwdIdeal.sig) → Buf (Elt Ideal) ℓ) : Prop :=
  True

def Pre_GnormFwdRefIdeal (m : (ℓ : Loc Cert.GnormFwdRefIdeal.nD Cert.GnormFwdRefIdeal.τ Cert.GnormFwdRefIdeal.sig) → Buf (Elt Ideal) ℓ) : Prop :=
  True

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutRefIdeal (m : (ℓ : Loc Cert.SsmOutRefIdeal.nD Cert.SsmOutRefIdeal.τ Cert.SsmOutRefIdeal.sig) → Buf (Elt Ideal) ℓ) : Prop :=
  True

def Pre_ModW (m : (ℓ : Loc Cert.ModW.nD Cert.ModW.τ Cert.ModW.sig) → Buf (Elt Bits) ℓ) : Prop :=
  True

def Pre_ModWIdeal (m : (ℓ : Loc Cert.ModWIdeal.nD Cert.ModWIdeal.τ Cert.ModWIdeal.sig) → Buf (Elt Ideal) ℓ) : Prop :=
  True

def Pre_ModWRefIdeal (m : (ℓ : Loc Cert.ModWRefIdeal.nD Cert.ModWRefIdeal.τ Cert.ModWRefIdeal.sig) → Buf (Elt Ideal) ℓ) : Prop :=
  True

def Pre_KvModW (m : (ℓ : Loc Cert.KvModW.nD Cert.KvModW.τ Cert.KvModW.sig) → Buf (Elt Bits) ℓ) : Prop :=
  True

def Pre_KvModWIdeal (m : (ℓ : Loc Cert.KvModWIdeal.nD Cert.KvModWIdeal.τ Cert.KvModWIdeal.sig) → Buf (Elt Ideal) ℓ) : Prop :=
  True

def Pre_KvModWRefIdeal (m : (ℓ : Loc Cert.KvModWRefIdeal.nD Cert.KvModWRefIdeal.τ Cert.KvModWRefIdeal.sig) → Buf (Elt Ideal) ℓ) : Prop :=
  True

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallSumRefIdeal (m : (ℓ : Loc Cert.SmallSumRefIdeal.nD Cert.SmallSumRefIdeal.τ Cert.SmallSumRefIdeal.sig) → Buf (Elt Ideal) ℓ) : Prop :=
  True

def Pre_GradGu (m : (ℓ : Loc Cert.GradGu.nD Cert.GradGu.τ Cert.GradGu.sig) → Buf (Elt Bits) ℓ) : Prop :=
  True

def Pre_GradGuIdeal (m : (ℓ : Loc Cert.GradGuIdeal.nD Cert.GradGuIdeal.τ Cert.GradGuIdeal.sig) → Buf (Elt Ideal) ℓ) : Prop :=
  True

def Pre_GradGuRefIdeal (m : (ℓ : Loc Cert.GradGuRefIdeal.nD Cert.GradGuRefIdeal.τ Cert.GradGuRefIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_GradSsmIn (m : (ℓ : Loc Cert.GradSsmIn.nD Cert.GradSsmIn.τ Cert.GradSsmIn.sig) → Buf (Elt Bits) ℓ) : Prop :=
  True

def Pre_GradSsmInIdeal (m : (ℓ : Loc Cert.GradSsmInIdeal.nD Cert.GradSsmInIdeal.τ Cert.GradSsmInIdeal.sig) → Buf (Elt Ideal) ℓ) : Prop :=
  True

def Pre_GradSsmInRefIdeal (m : (ℓ : Loc Cert.GradSsmInRefIdeal.nD Cert.GradSsmInRefIdeal.τ Cert.GradSsmInRefIdeal.sig) → Buf (Elt Ideal) ℓ) : Prop :=
  True

def Pre_GradSsmOut (m : (ℓ : Loc Cert.GradSsmOut.nD Cert.GradSsmOut.τ Cert.GradSsmOut.sig) → Buf (Elt Bits) ℓ) : Prop :=
  True

def Pre_GradSsmOutIdeal (m : (ℓ : Loc Cert.GradSsmOutIdeal.nD Cert.GradSsmOutIdeal.τ Cert.GradSsmOutIdeal.sig) → Buf (Elt Ideal) ℓ) : Prop :=
  True

def Pre_GradSsmOutRefIdeal (m : (ℓ : Loc Cert.GradSsmOutRefIdeal.nD Cert.GradSsmOutRefIdeal.τ Cert.GradSsmOutRefIdeal.sig) → Buf (Elt Ideal) ℓ) : Prop :=
  True

def Pre_GradKv (m : (ℓ : Loc Cert.GradKv.nD Cert.GradKv.τ Cert.GradKv.sig) → Buf (Elt Bits) ℓ) : Prop :=
  True

def Pre_GradKvIdeal (m : (ℓ : Loc Cert.GradKvIdeal.nD Cert.GradKvIdeal.τ Cert.GradKvIdeal.sig) → Buf (Elt Ideal) ℓ) : Prop :=
  True

def Pre_GradKvRefIdeal (m : (ℓ : Loc Cert.GradKvRefIdeal.nD Cert.GradKvRefIdeal.τ Cert.GradKvRefIdeal.sig) → Buf (Elt Ideal) ℓ) : Prop :=
  True

def Pre_GradAttn (m : (ℓ : Loc Cert.GradAttn.nD Cert.GradAttn.τ Cert.GradAttn.sig) → Buf (Elt Bits) ℓ) : Prop :=
  True

def Pre_GradAttnIdeal (m : (ℓ : Loc Cert.GradAttnIdeal.nD Cert.GradAttnIdeal.τ Cert.GradAttnIdeal.sig) → Buf (Elt Ideal) ℓ) : Prop :=
  True

def Pre_GradAttnRefIdeal (m : (ℓ : Loc Cert.GradAttnRefIdeal.nD Cert.GradAttnRefIdeal.τ Cert.GradAttnRefIdeal.sig) → Buf (Elt Ideal) ℓ) : Prop :=
  True

def Pre_AdamGu (m : (ℓ : Loc Cert.AdamGu.nD Cert.AdamGu.τ Cert.AdamGu.sig) → Buf (Elt Bits) ℓ) : Prop :=
  True

def Pre_AdamGuIdeal (m : (ℓ : Loc Cert.AdamGuIdeal.nD Cert.AdamGuIdeal.τ Cert.AdamGuIdeal.sig) → Buf (Elt Ideal) ℓ) : Prop :=
  True

def Pre_AdamGuRefIdeal (m : (ℓ : Loc Cert.AdamGuRefIdeal.nD Cert.AdamGuRefIdeal.τ Cert.AdamGuRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSsmIn (m : (ℓ : Loc Cert.AdamSsmIn.nD Cert.AdamSsmIn.τ Cert.AdamSsmIn.sig) → Buf (Elt Bits) ℓ) : Prop :=
  True

def Pre_AdamSsmInIdeal (m : (ℓ : Loc Cert.AdamSsmInIdeal.nD Cert.AdamSsmInIdeal.τ Cert.AdamSsmInIdeal.sig) → Buf (Elt Ideal) ℓ) : Prop :=
  True

def Pre_AdamSsmInRefIdeal (m : (ℓ : Loc Cert.AdamSsmInRefIdeal.nD Cert.AdamSsmInRefIdeal.τ Cert.AdamSsmInRefIdeal.sig) → Buf (Elt Ideal) ℓ) : Prop :=
  True

def Pre_AdamSsmOut (m : (ℓ : Loc Cert.AdamSsmOut.nD Cert.AdamSsmOut.τ Cert.AdamSsmOut.sig) → Buf (Elt Bits) ℓ) : Prop :=
  True

def Pre_AdamSsmOutIdeal (m : (ℓ : Loc Cert.AdamSsmOutIdeal.nD Cert.AdamSsmOutIdeal.τ Cert.AdamSsmOutIdeal.sig) → Buf (Elt Ideal) ℓ) : Prop :=
  True

def Pre_AdamSsmOutRefIdeal (m : (ℓ : Loc Cert.AdamSsmOutRefIdeal.nD Cert.AdamSsmOutRefIdeal.τ Cert.AdamSsmOutRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamAttn (m : (ℓ : Loc Cert.AdamAttn.nD Cert.AdamAttn.τ Cert.AdamAttn.sig) → Buf (Elt Bits) ℓ) : Prop :=
  True

def Pre_AdamAttnIdeal (m : (ℓ : Loc Cert.AdamAttnIdeal.nD Cert.AdamAttnIdeal.τ Cert.AdamAttnIdeal.sig) → Buf (Elt Ideal) ℓ) : Prop :=
  True

def Pre_AdamAttnRefIdeal (m : (ℓ : Loc Cert.AdamAttnRefIdeal.nD Cert.AdamAttnRefIdeal.τ Cert.AdamAttnRefIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModRefIdeal (m : (ℓ : Loc Cert.AdamModRefIdeal.nD Cert.AdamModRefIdeal.τ Cert.AdamModRefIdeal.sig) → Buf (Elt Ideal) ℓ) : Prop :=
  True

def Pre_AdamKvMod (m : (ℓ : Loc Cert.AdamKvMod.nD Cert.AdamKvMod.τ Cert.AdamKvMod.sig) → Buf (Elt Bits) ℓ) : Prop :=
  True

def Pre_AdamKvModIdeal (m : (ℓ : Loc Cert.AdamKvModIdeal.nD Cert.AdamKvModIdeal.τ Cert.AdamKvModIdeal.sig) → Buf (Elt Ideal) ℓ) : Prop :=
  True

def Pre_AdamKvModRefIdeal (m : (ℓ : Loc Cert.AdamKvModRefIdeal.nD Cert.AdamKvModRefIdeal.τ Cert.AdamKvModRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxIdeal_pre_all_real [hDownDxIdeal : Cert.DownDxIdeal.Facts] [hPre_all_real : Cert.Pre_all_real.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal_all_real m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDxRefIdeal_pre_all_real [hDownDxRefIdeal : Cert.DownDxRefIdeal.Facts] [hPre_all_real : Cert.Pre_all_real.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal_all_real m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2))
      ∧ r.2.sem = fun _ => 0)

def quiescent_GuDx [hGuDx : Cert.GuDx.Facts] : Prop :=
  ∀ (m : (ℓ : Loc Cert.GuDx.nD Cert.GuDx.τ Cert.GuDx.sig) → Buf (Elt Bits) ℓ) (g : Dev Cert.GuDx.nD → PrngReg), Pre_GuDx m →
    θ_run (Cert.GuDx.defs (F := Bits)) (onTc (τ := Cert.GuDx.τ) (Cert.GuDx.main (F := Bits))) ⟨m, fun _ => 0, g⟩ (fun r => (∀ c : Dev Cert.GuDx.nD,
      r.2.mem ((c.tc : Thread Cert.GuDx.nD Cert.GuDx.τ).loc Cert.GuDx.main_arg0) = m ((c.tc : Thread Cert.GuDx.nD Cert.GuDx.τ).loc Cert.GuDx.main_arg0)
      ∧ r.2.mem ((c.tc : Thread Cert.GuDx.nD Cert.GuDx.τ).loc Cert.GuDx.main_arg1) = m ((c.tc : Thread Cert.GuDx.nD Cert.GuDx.τ).loc Cert.GuDx.main_arg1)
      ∧ r.2.mem ((c.tc : Thread Cert.GuDx.nD Cert.GuDx.τ).loc Cert.GuDx.main_arg2) = m ((c.tc : Thread Cert.GuDx.nD Cert.GuDx.τ).loc Cert.GuDx.main_arg2)
      ∧ r.2.mem ((c.tc : Thread Cert.GuDx.nD Cert.GuDx.τ).loc Cert.GuDx.main_arg3) = m ((c.tc : Thread Cert.GuDx.nD Cert.GuDx.τ).loc Cert.GuDx.main_arg3)
      ∧ r.2.mem ((c.tc : Thread Cert.GuDx.nD Cert.GuDx.τ).loc Cert.GuDx.main_arg4) = m ((c.tc : Thread Cert.GuDx.nD Cert.GuDx.τ).loc Cert.GuDx.main_arg4)
      ∧ r.2.mem ((c.tc : Thread Cert.GuDx.nD Cert.GuDx.τ).loc Cert.GuDx.main_arg5) = m ((c.tc : Thread Cert.GuDx.nD Cert.GuDx.τ).loc Cert.GuDx.main_arg5))
      ∧ r.2.sem = fun _ => 0)

def quiescent_GuDxIdeal [hGuDxIdeal : Cert.GuDxIdeal.Facts] : Prop :=
  ∀ (m : (ℓ : Loc Cert.GuDxIdeal.nD Cert.GuDxIdeal.τ Cert.GuDxIdeal.sig) → Buf (Elt Ideal) ℓ) (g : Dev Cert.GuDxIdeal.nD → PrngReg), Pre_GuDxIdeal m →
    θ_run (Cert.GuDxIdeal.defs (F := Ideal)) (onTc (τ := Cert.GuDxIdeal.τ) (Cert.GuDxIdeal.main (F := Ideal))) ⟨m, fun _ => 0, g⟩ (fun r => (∀ c : Dev Cert.GuDxIdeal.nD,
      r.2.mem ((c.tc : Thread Cert.GuDxIdeal.nD Cert.GuDxIdeal.τ).loc Cert.GuDxIdeal.main_arg0) = m ((c.tc : Thread Cert.GuDxIdeal.nD Cert.GuDxIdeal.τ).loc Cert.GuDxIdeal.main_arg0)
      ∧ r.2.mem ((c.tc : Thread Cert.GuDxIdeal.nD Cert.GuDxIdeal.τ).loc Cert.GuDxIdeal.main_arg1) = m ((c.tc : Thread Cert.GuDxIdeal.nD Cert.GuDxIdeal.τ).loc Cert.GuDxIdeal.main_arg1)
      ∧ r.2.mem ((c.tc : Thread Cert.GuDxIdeal.nD Cert.GuDxIdeal.τ).loc Cert.GuDxIdeal.main_arg2) = m ((c.tc : Thread Cert.GuDxIdeal.nD Cert.GuDxIdeal.τ).loc Cert.GuDxIdeal.main_arg2)
      ∧ r.2.mem ((c.tc : Thread Cert.GuDxIdeal.nD Cert.GuDxIdeal.τ).loc Cert.GuDxIdeal.main_arg3) = m ((c.tc : Thread Cert.GuDxIdeal.nD Cert.GuDxIdeal.τ).loc Cert.GuDxIdeal.main_arg3)
      ∧ r.2.mem ((c.tc : Thread Cert.GuDxIdeal.nD Cert.GuDxIdeal.τ).loc Cert.GuDxIdeal.main_arg4) = m ((c.tc : Thread Cert.GuDxIdeal.nD Cert.GuDxIdeal.τ).loc Cert.GuDxIdeal.main_arg4)
      ∧ r.2.mem ((c.tc : Thread Cert.GuDxIdeal.nD Cert.GuDxIdeal.τ).loc Cert.GuDxIdeal.main_arg5) = m ((c.tc : Thread Cert.GuDxIdeal.nD Cert.GuDxIdeal.τ).loc Cert.GuDxIdeal.main_arg5))
      ∧ r.2.sem = fun _ => 0)

def quiescent_GuDxRefIdeal [hGuDxRefIdeal : Cert.GuDxRefIdeal.Facts] : Prop :=
  ∀ (m : (ℓ : Loc Cert.GuDxRefIdeal.nD Cert.GuDxRefIdeal.τ Cert.GuDxRefIdeal.sig) → Buf (Elt Ideal) ℓ) (g : Dev Cert.GuDxRefIdeal.nD → PrngReg), Pre_GuDxRefIdeal m →
    θ_run (Cert.GuDxRefIdeal.defs (F := Ideal)) (onTc (τ := Cert.GuDxRefIdeal.τ) (Cert.GuDxRefIdeal.main (F := Ideal))) ⟨m, fun _ => 0, g⟩ (fun r => (∀ c : Dev Cert.GuDxRefIdeal.nD,
      r.2.mem ((c.tc : Thread Cert.GuDxRefIdeal.nD Cert.GuDxRefIdeal.τ).loc Cert.GuDxRefIdeal.main_arg0) = m ((c.tc : Thread Cert.GuDxRefIdeal.nD Cert.GuDxRefIdeal.τ).loc Cert.GuDxRefIdeal.main_arg0)
      ∧ r.2.mem ((c.tc : Thread Cert.GuDxRefIdeal.nD Cert.GuDxRefIdeal.τ).loc Cert.GuDxRefIdeal.main_arg1) = m ((c.tc : Thread Cert.GuDxRefIdeal.nD Cert.GuDxRefIdeal.τ).loc Cert.GuDxRefIdeal.main_arg1)
      ∧ r.2.mem ((c.tc : Thread Cert.GuDxRefIdeal.nD Cert.GuDxRefIdeal.τ).loc Cert.GuDxRefIdeal.main_arg2) = m ((c.tc : Thread Cert.GuDxRefIdeal.nD Cert.GuDxRefIdeal.τ).loc Cert.GuDxRefIdeal.main_arg2)
      ∧ r.2.mem ((c.tc : Thread Cert.GuDxRefIdeal.nD Cert.GuDxRefIdeal.τ).loc Cert.GuDxRefIdeal.main_arg3) = m ((c.tc : Thread Cert.GuDxRefIdeal.nD Cert.GuDxRefIdeal.τ).loc Cert.GuDxRefIdeal.main_arg3)
      ∧ r.2.mem ((c.tc : Thread Cert.GuDxRefIdeal.nD Cert.GuDxRefIdeal.τ).loc Cert.GuDxRefIdeal.main_arg4) = m ((c.tc : Thread Cert.GuDxRefIdeal.nD Cert.GuDxRefIdeal.τ).loc Cert.GuDxRefIdeal.main_arg4)
      ∧ r.2.mem ((c.tc : Thread Cert.GuDxRefIdeal.nD Cert.GuDxRefIdeal.τ).loc Cert.GuDxRefIdeal.main_arg5) = m ((c.tc : Thread Cert.GuDxRefIdeal.nD Cert.GuDxRefIdeal.τ).loc Cert.GuDxRefIdeal.main_arg5))
      ∧ r.2.sem = fun _ => 0)

def quiescent_GuDw [hGuDw : Cert.GuDw.Facts] : Prop :=
  ∀ (m : (ℓ : Loc Cert.GuDw.nD Cert.GuDw.τ Cert.GuDw.sig) → Buf (Elt Bits) ℓ) (g : Dev Cert.GuDw.nD → PrngReg), Pre_GuDw m →
    θ_run (Cert.GuDw.defs (F := Bits)) (onTc (τ := Cert.GuDw.τ) (Cert.GuDw.main (F := Bits))) ⟨m, fun _ => 0, g⟩ (fun r => (∀ c : Dev Cert.GuDw.nD,
      r.2.mem ((c.tc : Thread Cert.GuDw.nD Cert.GuDw.τ).loc Cert.GuDw.main_arg0) = m ((c.tc : Thread Cert.GuDw.nD Cert.GuDw.τ).loc Cert.GuDw.main_arg0)
      ∧ r.2.mem ((c.tc : Thread Cert.GuDw.nD Cert.GuDw.τ).loc Cert.GuDw.main_arg1) = m ((c.tc : Thread Cert.GuDw.nD Cert.GuDw.τ).loc Cert.GuDw.main_arg1))
      ∧ r.2.sem = fun _ => 0)

def quiescent_GuDwIdeal [hGuDwIdeal : Cert.GuDwIdeal.Facts] : Prop :=
  ∀ (m : (ℓ : Loc Cert.GuDwIdeal.nD Cert.GuDwIdeal.τ Cert.GuDwIdeal.sig) → Buf (Elt Ideal) ℓ) (g : Dev Cert.GuDwIdeal.nD → PrngReg), Pre_GuDwIdeal m →
    θ_run (Cert.GuDwIdeal.defs (F := Ideal)) (onTc (τ := Cert.GuDwIdeal.τ) (Cert.GuDwIdeal.main (F := Ideal))) ⟨m, fun _ => 0, g⟩ (fun r => (∀ c : Dev Cert.GuDwIdeal.nD,
      r.2.mem ((c.tc : Thread Cert.GuDwIdeal.nD Cert.GuDwIdeal.τ).loc Cert.GuDwIdeal.main_arg0) = m ((c.tc : Thread Cert.GuDwIdeal.nD Cert.GuDwIdeal.τ).loc Cert.GuDwIdeal.main_arg0)
      ∧ r.2.mem ((c.tc : Thread Cert.GuDwIdeal.nD Cert.GuDwIdeal.τ).loc Cert.GuDwIdeal.main_arg1) = m ((c.tc : Thread Cert.GuDwIdeal.nD Cert.GuDwIdeal.τ).loc Cert.GuDwIdeal.main_arg1))
      ∧ r.2.sem = fun _ => 0)

def quiescent_GuDwRefIdeal [hGuDwRefIdeal : Cert.GuDwRefIdeal.Facts] : Prop :=
  ∀ (m : (ℓ : Loc Cert.GuDwRefIdeal.nD Cert.GuDwRefIdeal.τ Cert.GuDwRefIdeal.sig) → Buf (Elt Ideal) ℓ) (g : Dev Cert.GuDwRefIdeal.nD → PrngReg), Pre_GuDwRefIdeal m →
    θ_run (Cert.GuDwRefIdeal.defs (F := Ideal)) (onTc (τ := Cert.GuDwRefIdeal.τ) (Cert.GuDwRefIdeal.main (F := Ideal))) ⟨m, fun _ => 0, g⟩ (fun r => (∀ c : Dev Cert.GuDwRefIdeal.nD,
      r.2.mem ((c.tc : Thread Cert.GuDwRefIdeal.nD Cert.GuDwRefIdeal.τ).loc Cert.GuDwRefIdeal.main_arg0) = m ((c.tc : Thread Cert.GuDwRefIdeal.nD Cert.GuDwRefIdeal.τ).loc Cert.GuDwRefIdeal.main_arg0)
      ∧ r.2.mem ((c.tc : Thread Cert.GuDwRefIdeal.nD Cert.GuDwRefIdeal.τ).loc Cert.GuDwRefIdeal.main_arg1) = m ((c.tc : Thread Cert.GuDwRefIdeal.nD Cert.GuDwRefIdeal.τ).loc Cert.GuDwRefIdeal.main_arg1))
      ∧ r.2.sem = fun _ => 0)

def quiescent_MixGateBwd [hMixGateBwd : Cert.MixGateBwd.Facts] : Prop :=
  ∀ (m : (ℓ : Loc Cert.MixGateBwd.nD Cert.MixGateBwd.τ Cert.MixGateBwd.sig) → Buf (Elt Bits) ℓ) (g : Dev Cert.MixGateBwd.nD → PrngReg), Pre_MixGateBwd m →
    θ_run (Cert.MixGateBwd.defs (F := Bits)) (onTc (τ := Cert.MixGateBwd.τ) (Cert.MixGateBwd.main (F := Bits))) ⟨m, fun _ => 0, g⟩ (fun r => (∀ c : Dev Cert.MixGateBwd.nD,
      r.2.mem ((c.tc : Thread Cert.MixGateBwd.nD Cert.MixGateBwd.τ).loc Cert.MixGateBwd.main_arg0) = m ((c.tc : Thread Cert.MixGateBwd.nD Cert.MixGateBwd.τ).loc Cert.MixGateBwd.main_arg0)
      ∧ r.2.mem ((c.tc : Thread Cert.MixGateBwd.nD Cert.MixGateBwd.τ).loc Cert.MixGateBwd.main_arg1) = m ((c.tc : Thread Cert.MixGateBwd.nD Cert.MixGateBwd.τ).loc Cert.MixGateBwd.main_arg1)
      ∧ r.2.mem ((c.tc : Thread Cert.MixGateBwd.nD Cert.MixGateBwd.τ).loc Cert.MixGateBwd.main_arg2) = m ((c.tc : Thread Cert.MixGateBwd.nD Cert.MixGateBwd.τ).loc Cert.MixGateBwd.main_arg2))
      ∧ r.2.sem = fun _ => 0)

def quiescent_MixGateBwdIdeal [hMixGateBwdIdeal : Cert.MixGateBwdIdeal.Facts] : Prop :=
  ∀ (m : (ℓ : Loc Cert.MixGateBwdIdeal.nD Cert.MixGateBwdIdeal.τ Cert.MixGateBwdIdeal.sig) → Buf (Elt Ideal) ℓ) (g : Dev Cert.MixGateBwdIdeal.nD → PrngReg), Pre_MixGateBwdIdeal m →
    θ_run (Cert.MixGateBwdIdeal.defs (F := Ideal)) (onTc (τ := Cert.MixGateBwdIdeal.τ) (Cert.MixGateBwdIdeal.main (F := Ideal))) ⟨m, fun _ => 0, g⟩ (fun r => (∀ c : Dev Cert.MixGateBwdIdeal.nD,
      r.2.mem ((c.tc : Thread Cert.MixGateBwdIdeal.nD Cert.MixGateBwdIdeal.τ).loc Cert.MixGateBwdIdeal.main_arg0) = m ((c.tc : Thread Cert.MixGateBwdIdeal.nD Cert.MixGateBwdIdeal.τ).loc Cert.MixGateBwdIdeal.main_arg0)
      ∧ r.2.mem ((c.tc : Thread Cert.MixGateBwdIdeal.nD Cert.MixGateBwdIdeal.τ).loc Cert.MixGateBwdIdeal.main_arg1) = m ((c.tc : Thread Cert.MixGateBwdIdeal.nD Cert.MixGateBwdIdeal.τ).loc Cert.MixGateBwdIdeal.main_arg1)
      ∧ r.2.mem ((c.tc : Thread Cert.MixGateBwdIdeal.nD Cert.MixGateBwdIdeal.τ).loc Cert.MixGateBwdIdeal.main_arg2) = m ((c.tc : Thread Cert.MixGateBwdIdeal.nD Cert.MixGateBwdIdeal.τ).loc Cert.MixGateBwdIdeal.main_arg2))
      ∧ r.2.sem = fun _ => 0)

def quiescent_MixGateBwdRefIdeal [hMixGateBwdRefIdeal : Cert.MixGateBwdRefIdeal.Facts] : Prop :=
  ∀ (m : (ℓ : Loc Cert.MixGateBwdRefIdeal.nD Cert.MixGateBwdRefIdeal.τ Cert.MixGateBwdRefIdeal.sig) → Buf (Elt Ideal) ℓ) (g : Dev Cert.MixGateBwdRefIdeal.nD → PrngReg), Pre_MixGateBwdRefIdeal m →
    θ_run (Cert.MixGateBwdRefIdeal.defs (F := Ideal)) (onTc (τ := Cert.MixGateBwdRefIdeal.τ) (Cert.MixGateBwdRefIdeal.main (F := Ideal))) ⟨m, fun _ => 0, g⟩ (fun r => (∀ c : Dev Cert.MixGateBwdRefIdeal.nD,
      r.2.mem ((c.tc : Thread Cert.MixGateBwdRefIdeal.nD Cert.MixGateBwdRefIdeal.τ).loc Cert.MixGateBwdRefIdeal.main_arg0) = m ((c.tc : Thread Cert.MixGateBwdRefIdeal.nD Cert.MixGateBwdRefIdeal.τ).loc Cert.MixGateBwdRefIdeal.main_arg0)
      ∧ r.2.mem ((c.tc : Thread Cert.MixGateBwdRefIdeal.nD Cert.MixGateBwdRefIdeal.τ).loc Cert.MixGateBwdRefIdeal.main_arg1) = m ((c.tc : Thread Cert.MixGateBwdRefIdeal.nD Cert.MixGateBwdRefIdeal.τ).loc Cert.MixGateBwdRefIdeal.main_arg1)
      ∧ r.2.mem ((c.tc : Thread Cert.MixGateBwdRefIdeal.nD Cert.MixGateBwdRefIdeal.τ).loc Cert.MixGateBwdRefIdeal.main_arg2) = m ((c.tc : Thread Cert.MixGateBwdRefIdeal.nD Cert.MixGateBwdRefIdeal.τ).loc Cert.MixGateBwdRefIdeal.main_arg2))
      ∧ r.2.sem = fun _ => 0)

def quiescent_SsmInDx [hSsmInDx : Cert.SsmInDx.Facts] : Prop :=
  ∀ (m : (ℓ : Loc Cert.SsmInDx.nD Cert.SsmInDx.τ Cert.SsmInDx.sig) → Buf (Elt Bits) ℓ) (g : Dev Cert.SsmInDx.nD → PrngReg), Pre_SsmInDx m →
    θ_run (Cert.SsmInDx.defs (F := Bits)) (onTc (τ := Cert.SsmInDx.τ) (Cert.SsmInDx.main (F := Bits))) ⟨m, fun _ => 0, g⟩ (fun r => (∀ c : Dev Cert.SsmInDx.nD,
      r.2.mem ((c.tc : Thread Cert.SsmInDx.nD Cert.SsmInDx.τ).loc Cert.SsmInDx.main_arg0) = m ((c.tc : Thread Cert.SsmInDx.nD Cert.SsmInDx.τ).loc Cert.SsmInDx.main_arg0)
      ∧ r.2.mem ((c.tc : Thread Cert.SsmInDx.nD Cert.SsmInDx.τ).loc Cert.SsmInDx.main_arg1) = m ((c.tc : Thread Cert.SsmInDx.nD Cert.SsmInDx.τ).loc Cert.SsmInDx.main_arg1)
      ∧ r.2.mem ((c.tc : Thread Cert.SsmInDx.nD Cert.SsmInDx.τ).loc Cert.SsmInDx.main_arg2) = m ((c.tc : Thread Cert.SsmInDx.nD Cert.SsmInDx.τ).loc Cert.SsmInDx.main_arg2)
      ∧ r.2.mem ((c.tc : Thread Cert.SsmInDx.nD Cert.SsmInDx.τ).loc Cert.SsmInDx.main_arg3) = m ((c.tc : Thread Cert.SsmInDx.nD Cert.SsmInDx.τ).loc Cert.SsmInDx.main_arg3)
      ∧ r.2.mem ((c.tc : Thread Cert.SsmInDx.nD Cert.SsmInDx.τ).loc Cert.SsmInDx.main_arg4) = m ((c.tc : Thread Cert.SsmInDx.nD Cert.SsmInDx.τ).loc Cert.SsmInDx.main_arg4)
      ∧ r.2.mem ((c.tc : Thread Cert.SsmInDx.nD Cert.SsmInDx.τ).loc Cert.SsmInDx.main_arg5) = m ((c.tc : Thread Cert.SsmInDx.nD Cert.SsmInDx.τ).loc Cert.SsmInDx.main_arg5))
      ∧ r.2.sem = fun _ => 0)

def quiescent_SsmInDxIdeal [hSsmInDxIdeal : Cert.SsmInDxIdeal.Facts] : Prop :=
  ∀ (m : (ℓ : Loc Cert.SsmInDxIdeal.nD Cert.SsmInDxIdeal.τ Cert.SsmInDxIdeal.sig) → Buf (Elt Ideal) ℓ) (g : Dev Cert.SsmInDxIdeal.nD → PrngReg), Pre_SsmInDxIdeal m →
    θ_run (Cert.SsmInDxIdeal.defs (F := Ideal)) (onTc (τ := Cert.SsmInDxIdeal.τ) (Cert.SsmInDxIdeal.main (F := Ideal))) ⟨m, fun _ => 0, g⟩ (fun r => (∀ c : Dev Cert.SsmInDxIdeal.nD,
      r.2.mem ((c.tc : Thread Cert.SsmInDxIdeal.nD Cert.SsmInDxIdeal.τ).loc Cert.SsmInDxIdeal.main_arg0) = m ((c.tc : Thread Cert.SsmInDxIdeal.nD Cert.SsmInDxIdeal.τ).loc Cert.SsmInDxIdeal.main_arg0)
      ∧ r.2.mem ((c.tc : Thread Cert.SsmInDxIdeal.nD Cert.SsmInDxIdeal.τ).loc Cert.SsmInDxIdeal.main_arg1) = m ((c.tc : Thread Cert.SsmInDxIdeal.nD Cert.SsmInDxIdeal.τ).loc Cert.SsmInDxIdeal.main_arg1)
      ∧ r.2.mem ((c.tc : Thread Cert.SsmInDxIdeal.nD Cert.SsmInDxIdeal.τ).loc Cert.SsmInDxIdeal.main_arg2) = m ((c.tc : Thread Cert.SsmInDxIdeal.nD Cert.SsmInDxIdeal.τ).loc Cert.SsmInDxIdeal.main_arg2)
      ∧ r.2.mem ((c.tc : Thread Cert.SsmInDxIdeal.nD Cert.SsmInDxIdeal.τ).loc Cert.SsmInDxIdeal.main_arg3) = m ((c.tc : Thread Cert.SsmInDxIdeal.nD Cert.SsmInDxIdeal.τ).loc Cert.SsmInDxIdeal.main_arg3)
      ∧ r.2.mem ((c.tc : Thread Cert.SsmInDxIdeal.nD Cert.SsmInDxIdeal.τ).loc Cert.SsmInDxIdeal.main_arg4) = m ((c.tc : Thread Cert.SsmInDxIdeal.nD Cert.SsmInDxIdeal.τ).loc Cert.SsmInDxIdeal.main_arg4)
      ∧ r.2.mem ((c.tc : Thread Cert.SsmInDxIdeal.nD Cert.SsmInDxIdeal.τ).loc Cert.SsmInDxIdeal.main_arg5) = m ((c.tc : Thread Cert.SsmInDxIdeal.nD Cert.SsmInDxIdeal.τ).loc Cert.SsmInDxIdeal.main_arg5))
      ∧ r.2.sem = fun _ => 0)

def quiescent_SsmInDxRefIdeal [hSsmInDxRefIdeal : Cert.SsmInDxRefIdeal.Facts] : Prop :=
  ∀ (m : (ℓ : Loc Cert.SsmInDxRefIdeal.nD Cert.SsmInDxRefIdeal.τ Cert.SsmInDxRefIdeal.sig) → Buf (Elt Ideal) ℓ) (g : Dev Cert.SsmInDxRefIdeal.nD → PrngReg), Pre_SsmInDxRefIdeal m →
    θ_run (Cert.SsmInDxRefIdeal.defs (F := Ideal)) (onTc (τ := Cert.SsmInDxRefIdeal.τ) (Cert.SsmInDxRefIdeal.main (F := Ideal))) ⟨m, fun _ => 0, g⟩ (fun r => (∀ c : Dev Cert.SsmInDxRefIdeal.nD,
      r.2.mem ((c.tc : Thread Cert.SsmInDxRefIdeal.nD Cert.SsmInDxRefIdeal.τ).loc Cert.SsmInDxRefIdeal.main_arg0) = m ((c.tc : Thread Cert.SsmInDxRefIdeal.nD Cert.SsmInDxRefIdeal.τ).loc Cert.SsmInDxRefIdeal.main_arg0)
      ∧ r.2.mem ((c.tc : Thread Cert.SsmInDxRefIdeal.nD Cert.SsmInDxRefIdeal.τ).loc Cert.SsmInDxRefIdeal.main_arg1) = m ((c.tc : Thread Cert.SsmInDxRefIdeal.nD Cert.SsmInDxRefIdeal.τ).loc Cert.SsmInDxRefIdeal.main_arg1)
      ∧ r.2.mem ((c.tc : Thread Cert.SsmInDxRefIdeal.nD Cert.SsmInDxRefIdeal.τ).loc Cert.SsmInDxRefIdeal.main_arg2) = m ((c.tc : Thread Cert.SsmInDxRefIdeal.nD Cert.SsmInDxRefIdeal.τ).loc Cert.SsmInDxRefIdeal.main_arg2)
      ∧ r.2.mem ((c.tc : Thread Cert.SsmInDxRefIdeal.nD Cert.SsmInDxRefIdeal.τ).loc Cert.SsmInDxRefIdeal.main_arg3) = m ((c.tc : Thread Cert.SsmInDxRefIdeal.nD Cert.SsmInDxRefIdeal.τ).loc Cert.SsmInDxRefIdeal.main_arg3)
      ∧ r.2.mem ((c.tc : Thread Cert.SsmInDxRefIdeal.nD Cert.SsmInDxRefIdeal.τ).loc Cert.SsmInDxRefIdeal.main_arg4) = m ((c.tc : Thread Cert.SsmInDxRefIdeal.nD Cert.SsmInDxRefIdeal.τ).loc Cert.SsmInDxRefIdeal.main_arg4)
      ∧ r.2.mem ((c.tc : Thread Cert.SsmInDxRefIdeal.nD Cert.SsmInDxRefIdeal.τ).loc Cert.SsmInDxRefIdeal.main_arg5) = m ((c.tc : Thread Cert.SsmInDxRefIdeal.nD Cert.SsmInDxRefIdeal.τ).loc Cert.SsmInDxRefIdeal.main_arg5))
      ∧ r.2.sem = fun _ => 0)

def quiescent_SsmInDw [hSsmInDw : Cert.SsmInDw.Facts] : Prop :=
  ∀ (m : (ℓ : Loc Cert.SsmInDw.nD Cert.SsmInDw.τ Cert.SsmInDw.sig) → Buf (Elt Bits) ℓ) (g : Dev Cert.SsmInDw.nD → PrngReg), Pre_SsmInDw m →
    θ_run (Cert.SsmInDw.defs (F := Bits)) (onTc (τ := Cert.SsmInDw.τ) (Cert.SsmInDw.main (F := Bits))) ⟨m, fun _ => 0, g⟩ (fun r => (∀ c : Dev Cert.SsmInDw.nD,
      r.2.mem ((c.tc : Thread Cert.SsmInDw.nD Cert.SsmInDw.τ).loc Cert.SsmInDw.main_arg0) = m ((c.tc : Thread Cert.SsmInDw.nD Cert.SsmInDw.τ).loc Cert.SsmInDw.main_arg0)
      ∧ r.2.mem ((c.tc : Thread Cert.SsmInDw.nD Cert.SsmInDw.τ).loc Cert.SsmInDw.main_arg1) = m ((c.tc : Thread Cert.SsmInDw.nD Cert.SsmInDw.τ).loc Cert.SsmInDw.main_arg1))
      ∧ r.2.sem = fun _ => 0)

def quiescent_SsmInDwIdeal [hSsmInDwIdeal : Cert.SsmInDwIdeal.Facts] : Prop :=
  ∀ (m : (ℓ : Loc Cert.SsmInDwIdeal.nD Cert.SsmInDwIdeal.τ Cert.SsmInDwIdeal.sig) → Buf (Elt Ideal) ℓ) (g : Dev Cert.SsmInDwIdeal.nD → PrngReg), Pre_SsmInDwIdeal m →
    θ_run (Cert.SsmInDwIdeal.defs (F := Ideal)) (onTc (τ := Cert.SsmInDwIdeal.τ) (Cert.SsmInDwIdeal.main (F := Ideal))) ⟨m, fun _ => 0, g⟩ (fun r => (∀ c : Dev Cert.SsmInDwIdeal.nD,
      r.2.mem ((c.tc : Thread Cert.SsmInDwIdeal.nD Cert.SsmInDwIdeal.τ).loc Cert.SsmInDwIdeal.main_arg0) = m ((c.tc : Thread Cert.SsmInDwIdeal.nD Cert.SsmInDwIdeal.τ).loc Cert.SsmInDwIdeal.main_arg0)
      ∧ r.2.mem ((c.tc : Thread Cert.SsmInDwIdeal.nD Cert.SsmInDwIdeal.τ).loc Cert.SsmInDwIdeal.main_arg1) = m ((c.tc : Thread Cert.SsmInDwIdeal.nD Cert.SsmInDwIdeal.τ).loc Cert.SsmInDwIdeal.main_arg1))
      ∧ r.2.sem = fun _ => 0)

def quiescent_SsmInDwRefIdeal [hSsmInDwRefIdeal : Cert.SsmInDwRefIdeal.Facts] : Prop :=
  ∀ (m : (ℓ : Loc Cert.SsmInDwRefIdeal.nD Cert.SsmInDwRefIdeal.τ Cert.SsmInDwRefIdeal.sig) → Buf (Elt Ideal) ℓ) (g : Dev Cert.SsmInDwRefIdeal.nD → PrngReg), Pre_SsmInDwRefIdeal m →
    θ_run (Cert.SsmInDwRefIdeal.defs (F := Ideal)) (onTc (τ := Cert.SsmInDwRefIdeal.τ) (Cert.SsmInDwRefIdeal.main (F := Ideal))) ⟨m, fun _ => 0, g⟩ (fun r => (∀ c : Dev Cert.SsmInDwRefIdeal.nD,
      r.2.mem ((c.tc : Thread Cert.SsmInDwRefIdeal.nD Cert.SsmInDwRefIdeal.τ).loc Cert.SsmInDwRefIdeal.main_arg0) = m ((c.tc : Thread Cert.SsmInDwRefIdeal.nD Cert.SsmInDwRefIdeal.τ).loc Cert.SsmInDwRefIdeal.main_arg0)
      ∧ r.2.mem ((c.tc : Thread Cert.SsmInDwRefIdeal.nD Cert.SsmInDwRefIdeal.τ).loc Cert.SsmInDwRefIdeal.main_arg1) = m ((c.tc : Thread Cert.SsmInDwRefIdeal.nD Cert.SsmInDwRefIdeal.τ).loc Cert.SsmInDwRefIdeal.main_arg1))
      ∧ r.2.sem = fun _ => 0)

def quiescent_SsmOutDx [hSsmOutDx : Cert.SsmOutDx.Facts] : Prop :=
  ∀ (m : (ℓ : Loc Cert.SsmOutDx.nD Cert.SsmOutDx.τ Cert.SsmOutDx.sig) → Buf (Elt Bits) ℓ) (g : Dev Cert.SsmOutDx.nD → PrngReg), Pre_SsmOutDx m →
    θ_run (Cert.SsmOutDx.defs (F := Bits)) (onTc (τ := Cert.SsmOutDx.τ) (Cert.SsmOutDx.main (F := Bits))) ⟨m, fun _ => 0, g⟩ (fun r => (∀ c : Dev Cert.SsmOutDx.nD,
      r.2.mem ((c.tc : Thread Cert.SsmOutDx.nD Cert.SsmOutDx.τ).loc Cert.SsmOutDx.main_arg0) = m ((c.tc : Thread Cert.SsmOutDx.nD Cert.SsmOutDx.τ).loc Cert.SsmOutDx.main_arg0)
      ∧ r.2.mem ((c.tc : Thread Cert.SsmOutDx.nD Cert.SsmOutDx.τ).loc Cert.SsmOutDx.main_arg1) = m ((c.tc : Thread Cert.SsmOutDx.nD Cert.SsmOutDx.τ).loc Cert.SsmOutDx.main_arg1))
      ∧ r.2.sem = fun _ => 0)

def quiescent_SsmOutDxIdeal [hSsmOutDxIdeal : Cert.SsmOutDxIdeal.Facts] : Prop :=
  ∀ (m : (ℓ : Loc Cert.SsmOutDxIdeal.nD Cert.SsmOutDxIdeal.τ Cert.SsmOutDxIdeal.sig) → Buf (Elt Ideal) ℓ) (g : Dev Cert.SsmOutDxIdeal.nD → PrngReg), Pre_SsmOutDxIdeal m →
    θ_run (Cert.SsmOutDxIdeal.defs (F := Ideal)) (onTc (τ := Cert.SsmOutDxIdeal.τ) (Cert.SsmOutDxIdeal.main (F := Ideal))) ⟨m, fun _ => 0, g⟩ (fun r => (∀ c : Dev Cert.SsmOutDxIdeal.nD,
      r.2.mem ((c.tc : Thread Cert.SsmOutDxIdeal.nD Cert.SsmOutDxIdeal.τ).loc Cert.SsmOutDxIdeal.main_arg0) = m ((c.tc : Thread Cert.SsmOutDxIdeal.nD Cert.SsmOutDxIdeal.τ).loc Cert.SsmOutDxIdeal.main_arg0)
      ∧ r.2.mem ((c.tc : Thread Cert.SsmOutDxIdeal.nD Cert.SsmOutDxIdeal.τ).loc Cert.SsmOutDxIdeal.main_arg1) = m ((c.tc : Thread Cert.SsmOutDxIdeal.nD Cert.SsmOutDxIdeal.τ).loc Cert.SsmOutDxIdeal.main_arg1))
      ∧ r.2.sem = fun _ => 0)

def quiescent_SsmOutDxRefIdeal [hSsmOutDxRefIdeal : Cert.SsmOutDxRefIdeal.Facts] : Prop :=
  ∀ (m : (ℓ : Loc Cert.SsmOutDxRefIdeal.nD Cert.SsmOutDxRefIdeal.τ Cert.SsmOutDxRefIdeal.sig) → Buf (Elt Ideal) ℓ) (g : Dev Cert.SsmOutDxRefIdeal.nD → PrngReg), Pre_SsmOutDxRefIdeal m →
    θ_run (Cert.SsmOutDxRefIdeal.defs (F := Ideal)) (onTc (τ := Cert.SsmOutDxRefIdeal.τ) (Cert.SsmOutDxRefIdeal.main (F := Ideal))) ⟨m, fun _ => 0, g⟩ (fun r => (∀ c : Dev Cert.SsmOutDxRefIdeal.nD,
      r.2.mem ((c.tc : Thread Cert.SsmOutDxRefIdeal.nD Cert.SsmOutDxRefIdeal.τ).loc Cert.SsmOutDxRefIdeal.main_arg0) = m ((c.tc : Thread Cert.SsmOutDxRefIdeal.nD Cert.SsmOutDxRefIdeal.τ).loc Cert.SsmOutDxRefIdeal.main_arg0)
      ∧ r.2.mem ((c.tc : Thread Cert.SsmOutDxRefIdeal.nD Cert.SsmOutDxRefIdeal.τ).loc Cert.SsmOutDxRefIdeal.main_arg1) = m ((c.tc : Thread Cert.SsmOutDxRefIdeal.nD Cert.SsmOutDxRefIdeal.τ).loc Cert.SsmOutDxRefIdeal.main_arg1))
      ∧ r.2.sem = fun _ => 0)

def quiescent_SsmOutDw [hSsmOutDw : Cert.SsmOutDw.Facts] : Prop :=
  ∀ (m : (ℓ : Loc Cert.SsmOutDw.nD Cert.SsmOutDw.τ Cert.SsmOutDw.sig) → Buf (Elt Bits) ℓ) (g : Dev Cert.SsmOutDw.nD → PrngReg), Pre_SsmOutDw m →
    θ_run (Cert.SsmOutDw.defs (F := Bits)) (onTc (τ := Cert.SsmOutDw.τ) (Cert.SsmOutDw.main (F := Bits))) ⟨m, fun _ => 0, g⟩ (fun r => (∀ c : Dev Cert.SsmOutDw.nD,
      r.2.mem ((c.tc : Thread Cert.SsmOutDw.nD Cert.SsmOutDw.τ).loc Cert.SsmOutDw.main_arg0) = m ((c.tc : Thread Cert.SsmOutDw.nD Cert.SsmOutDw.τ).loc Cert.SsmOutDw.main_arg0)
      ∧ r.2.mem ((c.tc : Thread Cert.SsmOutDw.nD Cert.SsmOutDw.τ).loc Cert.SsmOutDw.main_arg1) = m ((c.tc : Thread Cert.SsmOutDw.nD Cert.SsmOutDw.τ).loc Cert.SsmOutDw.main_arg1))
      ∧ r.2.sem = fun _ => 0)

def quiescent_SsmOutDwIdeal [hSsmOutDwIdeal : Cert.SsmOutDwIdeal.Facts] : Prop :=
  ∀ (m : (ℓ : Loc Cert.SsmOutDwIdeal.nD Cert.SsmOutDwIdeal.τ Cert.SsmOutDwIdeal.sig) → Buf (Elt Ideal) ℓ) (g : Dev Cert.SsmOutDwIdeal.nD → PrngReg), Pre_SsmOutDwIdeal m →
    θ_run (Cert.SsmOutDwIdeal.defs (F := Ideal)) (onTc (τ := Cert.SsmOutDwIdeal.τ) (Cert.SsmOutDwIdeal.main (F := Ideal))) ⟨m, fun _ => 0, g⟩ (fun r => (∀ c : Dev Cert.SsmOutDwIdeal.nD,
      r.2.mem ((c.tc : Thread Cert.SsmOutDwIdeal.nD Cert.SsmOutDwIdeal.τ).loc Cert.SsmOutDwIdeal.main_arg0) = m ((c.tc : Thread Cert.SsmOutDwIdeal.nD Cert.SsmOutDwIdeal.τ).loc Cert.SsmOutDwIdeal.main_arg0)
      ∧ r.2.mem ((c.tc : Thread Cert.SsmOutDwIdeal.nD Cert.SsmOutDwIdeal.τ).loc Cert.SsmOutDwIdeal.main_arg1) = m ((c.tc : Thread Cert.SsmOutDwIdeal.nD Cert.SsmOutDwIdeal.τ).loc Cert.SsmOutDwIdeal.main_arg1))
      ∧ r.2.sem = fun _ => 0)

def quiescent_SsmOutDwRefIdeal [hSsmOutDwRefIdeal : Cert.SsmOutDwRefIdeal.Facts] : Prop :=
  ∀ (m : (ℓ : Loc Cert.SsmOutDwRefIdeal.nD Cert.SsmOutDwRefIdeal.τ Cert.SsmOutDwRefIdeal.sig) → Buf (Elt Ideal) ℓ) (g : Dev Cert.SsmOutDwRefIdeal.nD → PrngReg), Pre_SsmOutDwRefIdeal m →
    θ_run (Cert.SsmOutDwRefIdeal.defs (F := Ideal)) (onTc (τ := Cert.SsmOutDwRefIdeal.τ) (Cert.SsmOutDwRefIdeal.main (F := Ideal))) ⟨m, fun _ => 0, g⟩ (fun r => (∀ c : Dev Cert.SsmOutDwRefIdeal.nD,
      r.2.mem ((c.tc : Thread Cert.SsmOutDwRefIdeal.nD Cert.SsmOutDwRefIdeal.τ).loc Cert.SsmOutDwRefIdeal.main_arg0) = m ((c.tc : Thread Cert.SsmOutDwRefIdeal.nD Cert.SsmOutDwRefIdeal.τ).loc Cert.SsmOutDwRefIdeal.main_arg0)
      ∧ r.2.mem ((c.tc : Thread Cert.SsmOutDwRefIdeal.nD Cert.SsmOutDwRefIdeal.τ).loc Cert.SsmOutDwRefIdeal.main_arg1) = m ((c.tc : Thread Cert.SsmOutDwRefIdeal.nD Cert.SsmOutDwRefIdeal.τ).loc Cert.SsmOutDwRefIdeal.main_arg1))
      ∧ r.2.sem = fun _ => 0)

def quiescent_GnormBwd [hGnormBwd : Cert.GnormBwd.Facts] : Prop :=
  ∀ (m : (ℓ : Loc Cert.GnormBwd.nD Cert.GnormBwd.τ Cert.GnormBwd.sig) → Buf (Elt Bits) ℓ) (g : Dev Cert.GnormBwd.nD → PrngReg), Pre_GnormBwd m →
    θ_run (Cert.GnormBwd.defs (F := Bits)) (onTc (τ := Cert.GnormBwd.τ) (Cert.GnormBwd.main (F := Bits))) ⟨m, fun _ => 0, g⟩ (fun r => (∀ c : Dev Cert.GnormBwd.nD,
      r.2.mem ((c.tc : Thread Cert.GnormBwd.nD Cert.GnormBwd.τ).loc Cert.GnormBwd.main_arg0) = m ((c.tc : Thread Cert.GnormBwd.nD Cert.GnormBwd.τ).loc Cert.GnormBwd.main_arg0)
      ∧ r.2.mem ((c.tc : Thread Cert.GnormBwd.nD Cert.GnormBwd.τ).loc Cert.GnormBwd.main_arg1) = m ((c.tc : Thread Cert.GnormBwd.nD Cert.GnormBwd.τ).loc Cert.GnormBwd.main_arg1)
      ∧ r.2.mem ((c.tc : Thread Cert.GnormBwd.nD Cert.GnormBwd.τ).loc Cert.GnormBwd.main_arg2) = m ((c.tc : Thread Cert.GnormBwd.nD Cert.GnormBwd.τ).loc Cert.GnormBwd.main_arg2)
      ∧ r.2.mem ((c.tc : Thread Cert.GnormBwd.nD Cert.GnormBwd.τ).loc Cert.GnormBwd.main_arg3) = m ((c.tc : Thread Cert.GnormBwd.nD Cert.GnormBwd.τ).loc Cert.GnormBwd.main_arg3))
      ∧ r.2.sem = fun _ => 0)

def quiescent_GnormBwdIdeal [hGnormBwdIdeal : Cert.GnormBwdIdeal.Facts] : Prop :=
  ∀ (m : (ℓ : Loc Cert.GnormBwdIdeal.nD Cert.GnormBwdIdeal.τ Cert.GnormBwdIdeal.sig) → Buf (Elt Ideal) ℓ) (g : Dev Cert.GnormBwdIdeal.nD → PrngReg), Pre_GnormBwdIdeal m →
    θ_run (Cert.GnormBwdIdeal.defs (F := Ideal)) (onTc (τ := Cert.GnormBwdIdeal.τ) (Cert.GnormBwdIdeal.main (F := Ideal))) ⟨m, fun _ => 0, g⟩ (fun r => (∀ c : Dev Cert.GnormBwdIdeal.nD,
      r.2.mem ((c.tc : Thread Cert.GnormBwdIdeal.nD Cert.GnormBwdIdeal.τ).loc Cert.GnormBwdIdeal.main_arg0) = m ((c.tc : Thread Cert.GnormBwdIdeal.nD Cert.GnormBwdIdeal.τ).loc Cert.GnormBwdIdeal.main_arg0)
      ∧ r.2.mem ((c.tc : Thread Cert.GnormBwdIdeal.nD Cert.GnormBwdIdeal.τ).loc Cert.GnormBwdIdeal.main_arg1) = m ((c.tc : Thread Cert.GnormBwdIdeal.nD Cert.GnormBwdIdeal.τ).loc Cert.GnormBwdIdeal.main_arg1)
      ∧ r.2.mem ((c.tc : Thread Cert.GnormBwdIdeal.nD Cert.GnormBwdIdeal.τ).loc Cert.GnormBwdIdeal.main_arg2) = m ((c.tc : Thread Cert.GnormBwdIdeal.nD Cert.GnormBwdIdeal.τ).loc Cert.GnormBwdIdeal.main_arg2)
      ∧ r.2.mem ((c.tc : Thread Cert.GnormBwdIdeal.nD Cert.GnormBwdIdeal.τ).loc Cert.GnormBwdIdeal.main_arg3) = m ((c.tc : Thread Cert.GnormBwdIdeal.nD Cert.GnormBwdIdeal.τ).loc Cert.GnormBwdIdeal.main_arg3))
      ∧ r.2.sem = fun _ => 0)

def quiescent_GnormBwdIdeal_pre_gnorm_real [hGnormBwdIdeal : Cert.GnormBwdIdeal.Facts] [hPre_gnorm_real : Cert.Pre_gnorm_real.Facts] : Prop :=
  ∀ (m : (ℓ : Loc Cert.GnormBwdIdeal.nD Cert.GnormBwdIdeal.τ Cert.GnormBwdIdeal.sig) → Buf (Elt Ideal) ℓ) (g : Dev Cert.GnormBwdIdeal.nD → PrngReg), Pre_GnormBwdIdeal_gnorm_real m →
    θ_run (Cert.GnormBwdIdeal.defs (F := Ideal)) (onTc (τ := Cert.GnormBwdIdeal.τ) (Cert.GnormBwdIdeal.main (F := Ideal))) ⟨m, fun _ => 0, g⟩ (fun r => (∀ c : Dev Cert.GnormBwdIdeal.nD,
      r.2.mem ((c.tc : Thread Cert.GnormBwdIdeal.nD Cert.GnormBwdIdeal.τ).loc Cert.GnormBwdIdeal.main_arg0) = m ((c.tc : Thread Cert.GnormBwdIdeal.nD Cert.GnormBwdIdeal.τ).loc Cert.GnormBwdIdeal.main_arg0)
      ∧ r.2.mem ((c.tc : Thread Cert.GnormBwdIdeal.nD Cert.GnormBwdIdeal.τ).loc Cert.GnormBwdIdeal.main_arg1) = m ((c.tc : Thread Cert.GnormBwdIdeal.nD Cert.GnormBwdIdeal.τ).loc Cert.GnormBwdIdeal.main_arg1)
      ∧ r.2.mem ((c.tc : Thread Cert.GnormBwdIdeal.nD Cert.GnormBwdIdeal.τ).loc Cert.GnormBwdIdeal.main_arg2) = m ((c.tc : Thread Cert.GnormBwdIdeal.nD Cert.GnormBwdIdeal.τ).loc Cert.GnormBwdIdeal.main_arg2)
      ∧ r.2.mem ((c.tc : Thread Cert.GnormBwdIdeal.nD Cert.GnormBwdIdeal.τ).loc Cert.GnormBwdIdeal.main_arg3) = m ((c.tc : Thread Cert.GnormBwdIdeal.nD Cert.GnormBwdIdeal.τ).loc Cert.GnormBwdIdeal.main_arg3))
      ∧ r.2.sem = fun _ => 0)

def quiescent_GnormBwdRefIdeal [hGnormBwdRefIdeal : Cert.GnormBwdRefIdeal.Facts] : Prop :=
  ∀ (m : (ℓ : Loc Cert.GnormBwdRefIdeal.nD Cert.GnormBwdRefIdeal.τ Cert.GnormBwdRefIdeal.sig) → Buf (Elt Ideal) ℓ) (g : Dev Cert.GnormBwdRefIdeal.nD → PrngReg), Pre_GnormBwdRefIdeal m →
    θ_run (Cert.GnormBwdRefIdeal.defs (F := Ideal)) (onTc (τ := Cert.GnormBwdRefIdeal.τ) (Cert.GnormBwdRefIdeal.main (F := Ideal))) ⟨m, fun _ => 0, g⟩ (fun r => (∀ c : Dev Cert.GnormBwdRefIdeal.nD,
      r.2.mem ((c.tc : Thread Cert.GnormBwdRefIdeal.nD Cert.GnormBwdRefIdeal.τ).loc Cert.GnormBwdRefIdeal.main_arg0) = m ((c.tc : Thread Cert.GnormBwdRefIdeal.nD Cert.GnormBwdRefIdeal.τ).loc Cert.GnormBwdRefIdeal.main_arg0)
      ∧ r.2.mem ((c.tc : Thread Cert.GnormBwdRefIdeal.nD Cert.GnormBwdRefIdeal.τ).loc Cert.GnormBwdRefIdeal.main_arg1) = m ((c.tc : Thread Cert.GnormBwdRefIdeal.nD Cert.GnormBwdRefIdeal.τ).loc Cert.GnormBwdRefIdeal.main_arg1)
      ∧ r.2.mem ((c.tc : Thread Cert.GnormBwdRefIdeal.nD Cert.GnormBwdRefIdeal.τ).loc Cert.GnormBwdRefIdeal.main_arg2) = m ((c.tc : Thread Cert.GnormBwdRefIdeal.nD Cert.GnormBwdRefIdeal.τ).loc Cert.GnormBwdRefIdeal.main_arg2)
      ∧ r.2.mem ((c.tc : Thread Cert.GnormBwdRefIdeal.nD Cert.GnormBwdRefIdeal.τ).loc Cert.GnormBwdRefIdeal.main_arg3) = m ((c.tc : Thread Cert.GnormBwdRefIdeal.nD Cert.GnormBwdRefIdeal.τ).loc Cert.GnormBwdRefIdeal.main_arg3))
      ∧ r.2.sem = fun _ => 0)

def quiescent_GnormBwdRefIdeal_pre_gnorm_real [hGnormBwdRefIdeal : Cert.GnormBwdRefIdeal.Facts] [hPre_gnorm_real : Cert.Pre_gnorm_real.Facts] : Prop :=
  ∀ (m : (ℓ : Loc Cert.GnormBwdRefIdeal.nD Cert.GnormBwdRefIdeal.τ Cert.GnormBwdRefIdeal.sig) → Buf (Elt Ideal) ℓ) (g : Dev Cert.GnormBwdRefIdeal.nD → PrngReg), Pre_GnormBwdRefIdeal_gnorm_real m →
    θ_run (Cert.GnormBwdRefIdeal.defs (F := Ideal)) (onTc (τ := Cert.GnormBwdRefIdeal.τ) (Cert.GnormBwdRefIdeal.main (F := Ideal))) ⟨m, fun _ => 0, g⟩ (fun r => (∀ c : Dev Cert.GnormBwdRefIdeal.nD,
      r.2.mem ((c.tc : Thread Cert.GnormBwdRefIdeal.nD Cert.GnormBwdRefIdeal.τ).loc Cert.GnormBwdRefIdeal.main_arg0) = m ((c.tc : Thread Cert.GnormBwdRefIdeal.nD Cert.GnormBwdRefIdeal.τ).loc Cert.GnormBwdRefIdeal.main_arg0)
      ∧ r.2.mem ((c.tc : Thread Cert.GnormBwdRefIdeal.nD Cert.GnormBwdRefIdeal.τ).loc Cert.GnormBwdRefIdeal.main_arg1) = m ((c.tc : Thread Cert.GnormBwdRefIdeal.nD Cert.GnormBwdRefIdeal.τ).loc Cert.GnormBwdRefIdeal.main_arg1)
      ∧ r.2.mem ((c.tc : Thread Cert.GnormBwdRefIdeal.nD Cert.GnormBwdRefIdeal.τ).loc Cert.GnormBwdRefIdeal.main_arg2) = m ((c.tc : Thread Cert.GnormBwdRefIdeal.nD Cert.GnormBwdRefIdeal.τ).loc Cert.GnormBwdRefIdeal.main_arg2)
      ∧ r.2.mem ((c.tc : Thread Cert.GnormBwdRefIdeal.nD Cert.GnormBwdRefIdeal.τ).loc Cert.GnormBwdRefIdeal.main_arg3) = m ((c.tc : Thread Cert.GnormBwdRefIdeal.nD Cert.GnormBwdRefIdeal.τ).loc Cert.GnormBwdRefIdeal.main_arg3))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdIdeal_pre_conv_real [hConvBwdIdeal : Cert.ConvBwdIdeal.Facts] [hPre_conv_real : Cert.Pre_conv_real.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_conv_real m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_ConvBwdRefIdeal_pre_conv_real [hConvBwdRefIdeal : Cert.ConvBwdRefIdeal.Facts] [hPre_conv_real : Cert.Pre_conv_real.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal_conv_real m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ r.2.sem = fun _ => 0)

def quiescent_FinalLossRefIdeal [hFinalLossRefIdeal : Cert.FinalLossRefIdeal.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2)
      ∧ r.2.mem ((c.tc : Thread Cert.NormMod.nD Cert.NormMod.τ).loc Cert.NormMod.main_arg3) = m ((c.tc : Thread Cert.NormMod.nD Cert.NormMod.τ).loc Cert.NormMod.main_arg3))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
      ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ r.2.sem = fun _ => 0)

def quiescent_NormModRefIdeal [hNormModRefIdeal : Cert.NormModRefIdeal.Facts] : Prop :=
  ∀ (m : (ℓ : Loc Cert.NormModRefIdeal.nD Cert.NormModRefIdeal.τ Cert.NormModRefIdeal.sig) → Buf (Elt Ideal) ℓ) (g : Dev Cert.NormModRefIdeal.nD → PrngReg), Pre_NormModRefIdeal m →
    θ_run (Cert.NormModRefIdeal.defs (F := Ideal)) (onTc (τ := Cert.NormModRefIdeal.τ) (Cert.NormModRefIdeal.main (F := Ideal))) ⟨m, fun _ => 0, g⟩ (fun r => (∀ c : Dev Cert.NormModRefIdeal.nD,
      r.2.mem ((c.tc : Thread Cert.NormModRefIdeal.nD Cert.NormModRefIdeal.τ).loc Cert.NormModRefIdeal.main_arg0) = m ((c.tc : Thread Cert.NormModRefIdeal.nD Cert.NormModRefIdeal.τ).loc Cert.NormModRefIdeal.main_arg0)
      ∧ r.2.mem ((c.tc : Thread Cert.NormModRefIdeal.nD Cert.NormModRefIdeal.τ).loc Cert.NormModRefIdeal.main_arg1) = m ((c.tc : Thread Cert.NormModRefIdeal.nD Cert.NormModRefIdeal.τ).loc Cert.NormModRefIdeal.main_arg1)
      ∧ r.2.mem ((c.tc : Thread Cert.NormModRefIdeal.nD Cert.NormModRefIdeal.τ).loc Cert.NormModRefIdeal.main_arg2) = m ((c.tc : Thread Cert.NormModRefIdeal.nD Cert.NormModRefIdeal.τ).loc Cert.NormModRefIdeal.main_arg2)
      ∧ r.2.mem ((c.tc : Thread Cert.NormModRefIdeal.nD Cert.NormModRefIdeal.τ).loc Cert.NormModRefIdeal.main_arg3) = m ((c.tc : Thread Cert.NormModRefIdeal.nD Cert.NormModRefIdeal.τ).loc Cert.NormModRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_SsmIn [hSsmIn : Cert.SsmIn.Facts] : Prop :=
  ∀ (m : (ℓ : Loc Cert.SsmIn.nD Cert.SsmIn.τ Cert.SsmIn.sig) → Buf (Elt Bits) ℓ) (g : Dev Cert.SsmIn.nD → PrngReg), Pre_SsmIn m →
    θ_run (Cert.SsmIn.defs (F := Bits)) (onTc (τ := Cert.SsmIn.τ) (Cert.SsmIn.main (F := Bits))) ⟨m, fun _ => 0, g⟩ (fun r => (∀ c : Dev Cert.SsmIn.nD,
      r.2.mem ((c.tc : Thread Cert.SsmIn.nD Cert.SsmIn.τ).loc Cert.SsmIn.main_arg0) = m ((c.tc : Thread Cert.SsmIn.nD Cert.SsmIn.τ).loc Cert.SsmIn.main_arg0)
      ∧ r.2.mem ((c.tc : Thread Cert.SsmIn.nD Cert.SsmIn.τ).loc Cert.SsmIn.main_arg1) = m ((c.tc : Thread Cert.SsmIn.nD Cert.SsmIn.τ).loc Cert.SsmIn.main_arg1))
      ∧ r.2.sem = fun _ => 0)

def quiescent_SsmInIdeal [hSsmInIdeal : Cert.SsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg), Pre_SsmInIdeal m →
    θ_run (Cert.SsmInIdeal.defs (F := Ideal)) (onTc (τ := Cert.SsmInIdeal.τ) (Cert.SsmInIdeal.main (F := Ideal))) ⟨m, fun _ => 0, g⟩ (fun r => (∀ c : Dev Cert.SsmInIdeal.nD,
      r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
      ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ r.2.sem = fun _ => 0)

def quiescent_SsmInRefIdeal [hSsmInRefIdeal : Cert.SsmInRefIdeal.Facts] : Prop :=
  ∀ (m : (ℓ : Loc Cert.SsmInRefIdeal.nD Cert.SsmInRefIdeal.τ Cert.SsmInRefIdeal.sig) → Buf (Elt Ideal) ℓ) (g : Dev Cert.SsmInRefIdeal.nD → PrngReg), Pre_SsmInRefIdeal m →
    θ_run (Cert.SsmInRefIdeal.defs (F := Ideal)) (onTc (τ := Cert.SsmInRefIdeal.τ) (Cert.SsmInRefIdeal.main (F := Ideal))) ⟨m, fun _ => 0, g⟩ (fun r => (∀ c : Dev Cert.SsmInRefIdeal.nD,
      r.2.mem ((c.tc : Thread Cert.SsmInRefIdeal.nD Cert.SsmInRefIdeal.τ).loc Cert.SsmInRefIdeal.main_arg0) = m ((c.tc : Thread Cert.SsmInRefIdeal.nD Cert.SsmInRefIdeal.τ).loc Cert.SsmInRefIdeal.main_arg0)
      ∧ r.2.mem ((c.tc : Thread Cert.SsmInRefIdeal.nD Cert.SsmInRefIdeal.τ).loc Cert.SsmInRefIdeal.main_arg1) = m ((c.tc : Thread Cert.SsmInRefIdeal.nD Cert.SsmInRefIdeal.τ).loc Cert.SsmInRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_GnormFwd [hGnormFwd : Cert.GnormFwd.Facts] : Prop :=
  ∀ (m : (ℓ : Loc Cert.GnormFwd.nD Cert.GnormFwd.τ Cert.GnormFwd.sig) → Buf (Elt Bits) ℓ) (g : Dev Cert.GnormFwd.nD → PrngReg), Pre_GnormFwd m →
    θ_run (Cert.GnormFwd.defs (F := Bits)) (onTc (τ := Cert.GnormFwd.τ) (Cert.GnormFwd.main (F := Bits))) ⟨m, fun _ => 0, g⟩ (fun r => (∀ c : Dev Cert.GnormFwd.nD,
      r.2.mem ((c.tc : Thread Cert.GnormFwd.nD Cert.GnormFwd.τ).loc Cert.GnormFwd.main_arg0) = m ((c.tc : Thread Cert.GnormFwd.nD Cert.GnormFwd.τ).loc Cert.GnormFwd.main_arg0)
      ∧ r.2.mem ((c.tc : Thread Cert.GnormFwd.nD Cert.GnormFwd.τ).loc Cert.GnormFwd.main_arg1) = m ((c.tc : Thread Cert.GnormFwd.nD Cert.GnormFwd.τ).loc Cert.GnormFwd.main_arg1)
      ∧ r.2.mem ((c.tc : Thread Cert.GnormFwd.nD Cert.GnormFwd.τ).loc Cert.GnormFwd.main_arg2) = m ((c.tc : Thread Cert.GnormFwd.nD Cert.GnormFwd.τ).loc Cert.GnormFwd.main_arg2))
      ∧ r.2.sem = fun _ => 0)

def quiescent_GnormFwdIdeal [hGnormFwdIdeal : Cert.GnormFwdIdeal.Facts] : Prop :=
  ∀ (m : (ℓ : Loc Cert.GnormFwdIdeal.nD Cert.GnormFwdIdeal.τ Cert.GnormFwdIdeal.sig) → Buf (Elt Ideal) ℓ) (g : Dev Cert.GnormFwdIdeal.nD → PrngReg), Pre_GnormFwdIdeal m →
    θ_run (Cert.GnormFwdIdeal.defs (F := Ideal)) (onTc (τ := Cert.GnormFwdIdeal.τ) (Cert.GnormFwdIdeal.main (F := Ideal))) ⟨m, fun _ => 0, g⟩ (fun r => (∀ c : Dev Cert.GnormFwdIdeal.nD,
      r.2.mem ((c.tc : Thread Cert.GnormFwdIdeal.nD Cert.GnormFwdIdeal.τ).loc Cert.GnormFwdIdeal.main_arg0) = m ((c.tc : Thread Cert.GnormFwdIdeal.nD Cert.GnormFwdIdeal.τ).loc Cert.GnormFwdIdeal.main_arg0)
      ∧ r.2.mem ((c.tc : Thread Cert.GnormFwdIdeal.nD Cert.GnormFwdIdeal.τ).loc Cert.GnormFwdIdeal.main_arg1) = m ((c.tc : Thread Cert.GnormFwdIdeal.nD Cert.GnormFwdIdeal.τ).loc Cert.GnormFwdIdeal.main_arg1)
      ∧ r.2.mem ((c.tc : Thread Cert.GnormFwdIdeal.nD Cert.GnormFwdIdeal.τ).loc Cert.GnormFwdIdeal.main_arg2) = m ((c.tc : Thread Cert.GnormFwdIdeal.nD Cert.GnormFwdIdeal.τ).loc Cert.GnormFwdIdeal.main_arg2))
      ∧ r.2.sem = fun _ => 0)

def quiescent_GnormFwdRefIdeal [hGnormFwdRefIdeal : Cert.GnormFwdRefIdeal.Facts] : Prop :=
  ∀ (m : (ℓ : Loc Cert.GnormFwdRefIdeal.nD Cert.GnormFwdRefIdeal.τ Cert.GnormFwdRefIdeal.sig) → Buf (Elt Ideal) ℓ) (g : Dev Cert.GnormFwdRefIdeal.nD → PrngReg), Pre_GnormFwdRefIdeal m →
    θ_run (Cert.GnormFwdRefIdeal.defs (F := Ideal)) (onTc (τ := Cert.GnormFwdRefIdeal.τ) (Cert.GnormFwdRefIdeal.main (F := Ideal))) ⟨m, fun _ => 0, g⟩ (fun r => (∀ c : Dev Cert.GnormFwdRefIdeal.nD,
      r.2.mem ((c.tc : Thread Cert.GnormFwdRefIdeal.nD Cert.GnormFwdRefIdeal.τ).loc Cert.GnormFwdRefIdeal.main_arg0) = m ((c.tc : Thread Cert.GnormFwdRefIdeal.nD Cert.GnormFwdRefIdeal.τ).loc Cert.GnormFwdRefIdeal.main_arg0)
      ∧ r.2.mem ((c.tc : Thread Cert.GnormFwdRefIdeal.nD Cert.GnormFwdRefIdeal.τ).loc Cert.GnormFwdRefIdeal.main_arg1) = m ((c.tc : Thread Cert.GnormFwdRefIdeal.nD Cert.GnormFwdRefIdeal.τ).loc Cert.GnormFwdRefIdeal.main_arg1)
      ∧ r.2.mem ((c.tc : Thread Cert.GnormFwdRefIdeal.nD Cert.GnormFwdRefIdeal.τ).loc Cert.GnormFwdRefIdeal.main_arg2) = m ((c.tc : Thread Cert.GnormFwdRefIdeal.nD Cert.GnormFwdRefIdeal.τ).loc Cert.GnormFwdRefIdeal.main_arg2))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1)
      ∧ r.2.mem ((c.tc : Thread Cert.SsmOut.nD Cert.SsmOut.τ).loc Cert.SsmOut.main_arg2) = m ((c.tc : Thread Cert.SsmOut.nD Cert.SsmOut.τ).loc Cert.SsmOut.main_arg2)
      ∧ r.2.mem ((c.tc : Thread Cert.SsmOut.nD Cert.SsmOut.τ).loc Cert.SsmOut.main_arg3) = m ((c.tc : Thread Cert.SsmOut.nD Cert.SsmOut.τ).loc Cert.SsmOut.main_arg3))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
      ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2)
      ∧ r.2.mem ((c.tc : Thread Cert.SsmOutIdeal.nD Cert.SsmOutIdeal.τ).loc Cert.SsmOutIdeal.main_arg3) = m ((c.tc : Thread Cert.SsmOutIdeal.nD Cert.SsmOutIdeal.τ).loc Cert.SsmOutIdeal.main_arg3))
      ∧ r.2.sem = fun _ => 0)

def quiescent_SsmOutRefIdeal [hSsmOutRefIdeal : Cert.SsmOutRefIdeal.Facts] : Prop :=
  ∀ (m : (ℓ : Loc Cert.SsmOutRefIdeal.nD Cert.SsmOutRefIdeal.τ Cert.SsmOutRefIdeal.sig) → Buf (Elt Ideal) ℓ) (g : Dev Cert.SsmOutRefIdeal.nD → PrngReg), Pre_SsmOutRefIdeal m →
    θ_run (Cert.SsmOutRefIdeal.defs (F := Ideal)) (onTc (τ := Cert.SsmOutRefIdeal.τ) (Cert.SsmOutRefIdeal.main (F := Ideal))) ⟨m, fun _ => 0, g⟩ (fun r => (∀ c : Dev Cert.SsmOutRefIdeal.nD,
      r.2.mem ((c.tc : Thread Cert.SsmOutRefIdeal.nD Cert.SsmOutRefIdeal.τ).loc Cert.SsmOutRefIdeal.main_arg0) = m ((c.tc : Thread Cert.SsmOutRefIdeal.nD Cert.SsmOutRefIdeal.τ).loc Cert.SsmOutRefIdeal.main_arg0)
      ∧ r.2.mem ((c.tc : Thread Cert.SsmOutRefIdeal.nD Cert.SsmOutRefIdeal.τ).loc Cert.SsmOutRefIdeal.main_arg1) = m ((c.tc : Thread Cert.SsmOutRefIdeal.nD Cert.SsmOutRefIdeal.τ).loc Cert.SsmOutRefIdeal.main_arg1)
      ∧ r.2.mem ((c.tc : Thread Cert.SsmOutRefIdeal.nD Cert.SsmOutRefIdeal.τ).loc Cert.SsmOutRefIdeal.main_arg2) = m ((c.tc : Thread Cert.SsmOutRefIdeal.nD Cert.SsmOutRefIdeal.τ).loc Cert.SsmOutRefIdeal.main_arg2)
      ∧ r.2.mem ((c.tc : Thread Cert.SsmOutRefIdeal.nD Cert.SsmOutRefIdeal.τ).loc Cert.SsmOutRefIdeal.main_arg3) = m ((c.tc : Thread Cert.SsmOutRefIdeal.nD Cert.SsmOutRefIdeal.τ).loc Cert.SsmOutRefIdeal.main_arg3))
      ∧ r.2.sem = fun _ => 0)

def quiescent_ModW [hModW : Cert.ModW.Facts] : Prop :=
  ∀ (m : (ℓ : Loc Cert.ModW.nD Cert.ModW.τ Cert.ModW.sig) → Buf (Elt Bits) ℓ) (g : Dev Cert.ModW.nD → PrngReg), Pre_ModW m →
    θ_run (Cert.ModW.defs (F := Bits)) (onTc (τ := Cert.ModW.τ) (Cert.ModW.main (F := Bits))) ⟨m, fun _ => 0, g⟩ (fun r => (∀ c : Dev Cert.ModW.nD,
      r.2.mem ((c.tc : Thread Cert.ModW.nD Cert.ModW.τ).loc Cert.ModW.main_arg0) = m ((c.tc : Thread Cert.ModW.nD Cert.ModW.τ).loc Cert.ModW.main_arg0)
      ∧ r.2.mem ((c.tc : Thread Cert.ModW.nD Cert.ModW.τ).loc Cert.ModW.main_arg1) = m ((c.tc : Thread Cert.ModW.nD Cert.ModW.τ).loc Cert.ModW.main_arg1))
      ∧ r.2.sem = fun _ => 0)

def quiescent_ModWIdeal [hModWIdeal : Cert.ModWIdeal.Facts] : Prop :=
  ∀ (m : (ℓ : Loc Cert.ModWIdeal.nD Cert.ModWIdeal.τ Cert.ModWIdeal.sig) → Buf (Elt Ideal) ℓ) (g : Dev Cert.ModWIdeal.nD → PrngReg), Pre_ModWIdeal m →
    θ_run (Cert.ModWIdeal.defs (F := Ideal)) (onTc (τ := Cert.ModWIdeal.τ) (Cert.ModWIdeal.main (F := Ideal))) ⟨m, fun _ => 0, g⟩ (fun r => (∀ c : Dev Cert.ModWIdeal.nD,
      r.2.mem ((c.tc : Thread Cert.ModWIdeal.nD Cert.ModWIdeal.τ).loc Cert.ModWIdeal.main_arg0) = m ((c.tc : Thread Cert.ModWIdeal.nD Cert.ModWIdeal.τ).loc Cert.ModWIdeal.main_arg0)
      ∧ r.2.mem ((c.tc : Thread Cert.ModWIdeal.nD Cert.ModWIdeal.τ).loc Cert.ModWIdeal.main_arg1) = m ((c.tc : Thread Cert.ModWIdeal.nD Cert.ModWIdeal.τ).loc Cert.ModWIdeal.main_arg1))
      ∧ r.2.sem = fun _ => 0)

def quiescent_ModWRefIdeal [hModWRefIdeal : Cert.ModWRefIdeal.Facts] : Prop :=
  ∀ (m : (ℓ : Loc Cert.ModWRefIdeal.nD Cert.ModWRefIdeal.τ Cert.ModWRefIdeal.sig) → Buf (Elt Ideal) ℓ) (g : Dev Cert.ModWRefIdeal.nD → PrngReg), Pre_ModWRefIdeal m →
    θ_run (Cert.ModWRefIdeal.defs (F := Ideal)) (onTc (τ := Cert.ModWRefIdeal.τ) (Cert.ModWRefIdeal.main (F := Ideal))) ⟨m, fun _ => 0, g⟩ (fun r => (∀ c : Dev Cert.ModWRefIdeal.nD,
      r.2.mem ((c.tc : Thread Cert.ModWRefIdeal.nD Cert.ModWRefIdeal.τ).loc Cert.ModWRefIdeal.main_arg0) = m ((c.tc : Thread Cert.ModWRefIdeal.nD Cert.ModWRefIdeal.τ).loc Cert.ModWRefIdeal.main_arg0)
      ∧ r.2.mem ((c.tc : Thread Cert.ModWRefIdeal.nD Cert.ModWRefIdeal.τ).loc Cert.ModWRefIdeal.main_arg1) = m ((c.tc : Thread Cert.ModWRefIdeal.nD Cert.ModWRefIdeal.τ).loc Cert.ModWRefIdeal.main_arg1))
      ∧ r.2.sem = fun _ => 0)

def quiescent_KvModW [hKvModW : Cert.KvModW.Facts] : Prop :=
  ∀ (m : (ℓ : Loc Cert.KvModW.nD Cert.KvModW.τ Cert.KvModW.sig) → Buf (Elt Bits) ℓ) (g : Dev Cert.KvModW.nD → PrngReg), Pre_KvModW m →
    θ_run (Cert.KvModW.defs (F := Bits)) (onTc (τ := Cert.KvModW.τ) (Cert.KvModW.main (F := Bits))) ⟨m, fun _ => 0, g⟩ (fun r => (∀ c : Dev Cert.KvModW.nD,
      r.2.mem ((c.tc : Thread Cert.KvModW.nD Cert.KvModW.τ).loc Cert.KvModW.main_arg0) = m ((c.tc : Thread Cert.KvModW.nD Cert.KvModW.τ).loc Cert.KvModW.main_arg0)
      ∧ r.2.mem ((c.tc : Thread Cert.KvModW.nD Cert.KvModW.τ).loc Cert.KvModW.main_arg1) = m ((c.tc : Thread Cert.KvModW.nD Cert.KvModW.τ).loc Cert.KvModW.main_arg1))
      ∧ r.2.sem = fun _ => 0)

def quiescent_KvModWIdeal [hKvModWIdeal : Cert.KvModWIdeal.Facts] : Prop :=
  ∀ (m : (ℓ : Loc Cert.KvModWIdeal.nD Cert.KvModWIdeal.τ Cert.KvModWIdeal.sig) → Buf (Elt Ideal) ℓ) (g : Dev Cert.KvModWIdeal.nD → PrngReg), Pre_KvModWIdeal m →
    θ_run (Cert.KvModWIdeal.defs (F := Ideal)) (onTc (τ := Cert.KvModWIdeal.τ) (Cert.KvModWIdeal.main (F := Ideal))) ⟨m, fun _ => 0, g⟩ (fun r => (∀ c : Dev Cert.KvModWIdeal.nD,
      r.2.mem ((c.tc : Thread Cert.KvModWIdeal.nD Cert.KvModWIdeal.τ).loc Cert.KvModWIdeal.main_arg0) = m ((c.tc : Thread Cert.KvModWIdeal.nD Cert.KvModWIdeal.τ).loc Cert.KvModWIdeal.main_arg0)
      ∧ r.2.mem ((c.tc : Thread Cert.KvModWIdeal.nD Cert.KvModWIdeal.τ).loc Cert.KvModWIdeal.main_arg1) = m ((c.tc : Thread Cert.KvModWIdeal.nD Cert.KvModWIdeal.τ).loc Cert.KvModWIdeal.main_arg1))
      ∧ r.2.sem = fun _ => 0)

def quiescent_KvModWRefIdeal [hKvModWRefIdeal : Cert.KvModWRefIdeal.Facts] : Prop :=
  ∀ (m : (ℓ : Loc Cert.KvModWRefIdeal.nD Cert.KvModWRefIdeal.τ Cert.KvModWRefIdeal.sig) → Buf (Elt Ideal) ℓ) (g : Dev Cert.KvModWRefIdeal.nD → PrngReg), Pre_KvModWRefIdeal m →
    θ_run (Cert.KvModWRefIdeal.defs (F := Ideal)) (onTc (τ := Cert.KvModWRefIdeal.τ) (Cert.KvModWRefIdeal.main (F := Ideal))) ⟨m, fun _ => 0, g⟩ (fun r => (∀ c : Dev Cert.KvModWRefIdeal.nD,
      r.2.mem ((c.tc : Thread Cert.KvModWRefIdeal.nD Cert.KvModWRefIdeal.τ).loc Cert.KvModWRefIdeal.main_arg0) = m ((c.tc : Thread Cert.KvModWRefIdeal.nD Cert.KvModWRefIdeal.τ).loc Cert.KvModWRefIdeal.main_arg0)
      ∧ r.2.mem ((c.tc : Thread Cert.KvModWRefIdeal.nD Cert.KvModWRefIdeal.τ).loc Cert.KvModWRefIdeal.main_arg1) = m ((c.tc : Thread Cert.KvModWRefIdeal.nD Cert.KvModWRefIdeal.τ).loc Cert.KvModWRefIdeal.main_arg1))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ r.2.sem = fun _ => 0)

def quiescent_SmallSumRefIdeal [hSmallSumRefIdeal : Cert.SmallSumRefIdeal.Facts] : Prop :=
  ∀ (m : (ℓ : Loc Cert.SmallSumRefIdeal.nD Cert.SmallSumRefIdeal.τ Cert.SmallSumRefIdeal.sig) → Buf (Elt Ideal) ℓ) (g : Dev Cert.SmallSumRefIdeal.nD → PrngReg), Pre_SmallSumRefIdeal m →
    θ_run (Cert.SmallSumRefIdeal.defs (F := Ideal)) (onTc (τ := Cert.SmallSumRefIdeal.τ) (Cert.SmallSumRefIdeal.main (F := Ideal))) ⟨m, fun _ => 0, g⟩ (fun r => (∀ c : Dev Cert.SmallSumRefIdeal.nD,
      r.2.mem ((c.tc : Thread Cert.SmallSumRefIdeal.nD Cert.SmallSumRefIdeal.τ).loc Cert.SmallSumRefIdeal.main_arg0) = m ((c.tc : Thread Cert.SmallSumRefIdeal.nD Cert.SmallSumRefIdeal.τ).loc Cert.SmallSumRefIdeal.main_arg0))
      ∧ r.2.sem = fun _ => 0)

def quiescent_GradGu [hGradGu : Cert.GradGu.Facts] : Prop :=
  ∀ (m : (ℓ : Loc Cert.GradGu.nD Cert.GradGu.τ Cert.GradGu.sig) → Buf (Elt Bits) ℓ) (g : Dev Cert.GradGu.nD → PrngReg), Pre_GradGu m →
    θ_run (Cert.GradGu.defs (F := Bits)) (onTc (τ := Cert.GradGu.τ) (Cert.GradGu.main (F := Bits))) ⟨m, fun _ => 0, g⟩ (fun r => (∀ c : Dev Cert.GradGu.nD,
      r.2.mem ((c.tc : Thread Cert.GradGu.nD Cert.GradGu.τ).loc Cert.GradGu.main_arg0) = m ((c.tc : Thread Cert.GradGu.nD Cert.GradGu.τ).loc Cert.GradGu.main_arg0)
      ∧ r.2.mem ((c.tc : Thread Cert.GradGu.nD Cert.GradGu.τ).loc Cert.GradGu.main_arg1) = m ((c.tc : Thread Cert.GradGu.nD Cert.GradGu.τ).loc Cert.GradGu.main_arg1)
      ∧ r.2.mem ((c.tc : Thread Cert.GradGu.nD Cert.GradGu.τ).loc Cert.GradGu.main_arg2) = m ((c.tc : Thread Cert.GradGu.nD Cert.GradGu.τ).loc Cert.GradGu.main_arg2)
      ∧ r.2.mem ((c.tc : Thread Cert.GradGu.nD Cert.GradGu.τ).loc Cert.GradGu.main_arg3) = m ((c.tc : Thread Cert.GradGu.nD Cert.GradGu.τ).loc Cert.GradGu.main_arg3))
      ∧ r.2.sem = fun _ => 0)

def quiescent_GradGuIdeal [hGradGuIdeal : Cert.GradGuIdeal.Facts] : Prop :=
  ∀ (m : (ℓ : Loc Cert.GradGuIdeal.nD Cert.GradGuIdeal.τ Cert.GradGuIdeal.sig) → Buf (Elt Ideal) ℓ) (g : Dev Cert.GradGuIdeal.nD → PrngReg), Pre_GradGuIdeal m →
    θ_run (Cert.GradGuIdeal.defs (F := Ideal)) (onTc (τ := Cert.GradGuIdeal.τ) (Cert.GradGuIdeal.main (F := Ideal))) ⟨m, fun _ => 0, g⟩ (fun r => (∀ c : Dev Cert.GradGuIdeal.nD,
      r.2.mem ((c.tc : Thread Cert.GradGuIdeal.nD Cert.GradGuIdeal.τ).loc Cert.GradGuIdeal.main_arg0) = m ((c.tc : Thread Cert.GradGuIdeal.nD Cert.GradGuIdeal.τ).loc Cert.GradGuIdeal.main_arg0)
      ∧ r.2.mem ((c.tc : Thread Cert.GradGuIdeal.nD Cert.GradGuIdeal.τ).loc Cert.GradGuIdeal.main_arg1) = m ((c.tc : Thread Cert.GradGuIdeal.nD Cert.GradGuIdeal.τ).loc Cert.GradGuIdeal.main_arg1)
      ∧ r.2.mem ((c.tc : Thread Cert.GradGuIdeal.nD Cert.GradGuIdeal.τ).loc Cert.GradGuIdeal.main_arg2) = m ((c.tc : Thread Cert.GradGuIdeal.nD Cert.GradGuIdeal.τ).loc Cert.GradGuIdeal.main_arg2)
      ∧ r.2.mem ((c.tc : Thread Cert.GradGuIdeal.nD Cert.GradGuIdeal.τ).loc Cert.GradGuIdeal.main_arg3) = m ((c.tc : Thread Cert.GradGuIdeal.nD Cert.GradGuIdeal.τ).loc Cert.GradGuIdeal.main_arg3))
      ∧ r.2.sem = fun _ => 0)

def quiescent_GradGuRefIdeal [hGradGuRefIdeal : Cert.GradGuRefIdeal.Facts] : Prop :=
  ∀ (m : (ℓ : Loc Cert.GradGuRefIdeal.nD Cert.GradGuRefIdeal.τ Cert.GradGuRefIdeal.sig) → Buf (Elt Ideal) ℓ) (g : Dev Cert.GradGuRefIdeal.nD → PrngReg), Pre_GradGuRefIdeal m →
    θ_run (Cert.GradGuRefIdeal.defs (F := Ideal)) (onTc (τ := Cert.GradGuRefIdeal.τ) (Cert.GradGuRefIdeal.main (F := Ideal))) ⟨m, fun _ => 0, g⟩ (fun r => (∀ c : Dev Cert.GradGuRefIdeal.nD,
      r.2.mem ((c.tc : Thread Cert.GradGuRefIdeal.nD Cert.GradGuRefIdeal.τ).loc Cert.GradGuRefIdeal.main_arg0) = m ((c.tc : Thread Cert.GradGuRefIdeal.nD Cert.GradGuRefIdeal.τ).loc Cert.GradGuRefIdeal.main_arg0)
      ∧ r.2.mem ((c.tc : Thread Cert.GradGuRefIdeal.nD Cert.GradGuRefIdeal.τ).loc Cert.GradGuRefIdeal.main_arg1) = m ((c.tc : Thread Cert.GradGuRefIdeal.nD Cert.GradGuRefIdeal.τ).loc Cert.GradGuRefIdeal.main_arg1)
      ∧ r.2.mem ((c.tc : Thread Cert.GradGuRefIdeal.nD Cert.GradGuRefIdeal.τ).loc Cert.GradGuRefIdeal.main_arg2) = m ((c.tc : Thread Cert.GradGuRefIdeal.nD Cert.GradGuRefIdeal.τ).loc Cert.GradGuRefIdeal.main_arg2)
      ∧ r.2.mem ((c.tc : Thread Cert.GradGuRefIdeal.nD Cert.GradGuRefIdeal.τ).loc Cert.GradGuRefIdeal.main_arg3) = m ((c.tc : Thread Cert.GradGuRefIdeal.nD Cert.GradGuRefIdeal.τ).loc Cert.GradGuRefIdeal.main_arg3))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1)
      ∧ r.2.mem ((c.tc : Thread Cert.GradDown.nD Cert.GradDown.τ).loc Cert.GradDown.main_arg2) = m ((c.tc : Thread Cert.GradDown.nD Cert.GradDown.τ).loc Cert.GradDown.main_arg2)
      ∧ r.2.mem ((c.tc : Thread Cert.GradDown.nD Cert.GradDown.τ).loc Cert.GradDown.main_arg3) = m ((c.tc : Thread Cert.GradDown.nD Cert.GradDown.τ).loc Cert.GradDown.main_arg3))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1)
      ∧ r.2.mem ((c.tc : Thread Cert.GradDownIdeal.nD Cert.GradDownIdeal.τ).loc Cert.GradDownIdeal.main_arg2) = m ((c.tc : Thread Cert.GradDownIdeal.nD Cert.GradDownIdeal.τ).loc Cert.GradDownIdeal.main_arg2)
      ∧ r.2.mem ((c.tc : Thread Cert.GradDownIdeal.nD Cert.GradDownIdeal.τ).loc Cert.GradDownIdeal.main_arg3) = m ((c.tc : Thread Cert.GradDownIdeal.nD Cert.GradDownIdeal.τ).loc Cert.GradDownIdeal.main_arg3))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1)
      ∧ r.2.mem ((c.tc : Thread Cert.GradDownRefIdeal.nD Cert.GradDownRefIdeal.τ).loc Cert.GradDownRefIdeal.main_arg2) = m ((c.tc : Thread Cert.GradDownRefIdeal.nD Cert.GradDownRefIdeal.τ).loc Cert.GradDownRefIdeal.main_arg2)
      ∧ r.2.mem ((c.tc : Thread Cert.GradDownRefIdeal.nD Cert.GradDownRefIdeal.τ).loc Cert.GradDownRefIdeal.main_arg3) = m ((c.tc : Thread Cert.GradDownRefIdeal.nD Cert.GradDownRefIdeal.τ).loc Cert.GradDownRefIdeal.main_arg3))
      ∧ r.2.sem = fun _ => 0)

def quiescent_GradSsmIn [hGradSsmIn : Cert.GradSsmIn.Facts] : Prop :=
  ∀ (m : (ℓ : Loc Cert.GradSsmIn.nD Cert.GradSsmIn.τ Cert.GradSsmIn.sig) → Buf (Elt Bits) ℓ) (g : Dev Cert.GradSsmIn.nD → PrngReg), Pre_GradSsmIn m →
    θ_run (Cert.GradSsmIn.defs (F := Bits)) (onTc (τ := Cert.GradSsmIn.τ) (Cert.GradSsmIn.main (F := Bits))) ⟨m, fun _ => 0, g⟩ (fun r => (∀ c : Dev Cert.GradSsmIn.nD,
      r.2.mem ((c.tc : Thread Cert.GradSsmIn.nD Cert.GradSsmIn.τ).loc Cert.GradSsmIn.main_arg0) = m ((c.tc : Thread Cert.GradSsmIn.nD Cert.GradSsmIn.τ).loc Cert.GradSsmIn.main_arg0)
      ∧ r.2.mem ((c.tc : Thread Cert.GradSsmIn.nD Cert.GradSsmIn.τ).loc Cert.GradSsmIn.main_arg1) = m ((c.tc : Thread Cert.GradSsmIn.nD Cert.GradSsmIn.τ).loc Cert.GradSsmIn.main_arg1)
      ∧ r.2.mem ((c.tc : Thread Cert.GradSsmIn.nD Cert.GradSsmIn.τ).loc Cert.GradSsmIn.main_arg2) = m ((c.tc : Thread Cert.GradSsmIn.nD Cert.GradSsmIn.τ).loc Cert.GradSsmIn.main_arg2)
      ∧ r.2.mem ((c.tc : Thread Cert.GradSsmIn.nD Cert.GradSsmIn.τ).loc Cert.GradSsmIn.main_arg3) = m ((c.tc : Thread Cert.GradSsmIn.nD Cert.GradSsmIn.τ).loc Cert.GradSsmIn.main_arg3))
      ∧ r.2.sem = fun _ => 0)

def quiescent_GradSsmInIdeal [hGradSsmInIdeal : Cert.GradSsmInIdeal.Facts] : Prop :=
  ∀ (m : (ℓ : Loc Cert.GradSsmInIdeal.nD Cert.GradSsmInIdeal.τ Cert.GradSsmInIdeal.sig) → Buf (Elt Ideal) ℓ) (g : Dev Cert.GradSsmInIdeal.nD → PrngReg), Pre_GradSsmInIdeal m →
    θ_run (Cert.GradSsmInIdeal.defs (F := Ideal)) (onTc (τ := Cert.GradSsmInIdeal.τ) (Cert.GradSsmInIdeal.main (F := Ideal))) ⟨m, fun _ => 0, g⟩ (fun r => (∀ c : Dev Cert.GradSsmInIdeal.nD,
      r.2.mem ((c.tc : Thread Cert.GradSsmInIdeal.nD Cert.GradSsmInIdeal.τ).loc Cert.GradSsmInIdeal.main_arg0) = m ((c.tc : Thread Cert.GradSsmInIdeal.nD Cert.GradSsmInIdeal.τ).loc Cert.GradSsmInIdeal.main_arg0)
      ∧ r.2.mem ((c.tc : Thread Cert.GradSsmInIdeal.nD Cert.GradSsmInIdeal.τ).loc Cert.GradSsmInIdeal.main_arg1) = m ((c.tc : Thread Cert.GradSsmInIdeal.nD Cert.GradSsmInIdeal.τ).loc Cert.GradSsmInIdeal.main_arg1)
      ∧ r.2.mem ((c.tc : Thread Cert.GradSsmInIdeal.nD Cert.GradSsmInIdeal.τ).loc Cert.GradSsmInIdeal.main_arg2) = m ((c.tc : Thread Cert.GradSsmInIdeal.nD Cert.GradSsmInIdeal.τ).loc Cert.GradSsmInIdeal.main_arg2)
      ∧ r.2.mem ((c.tc : Thread Cert.GradSsmInIdeal.nD Cert.GradSsmInIdeal.τ).loc Cert.GradSsmInIdeal.main_arg3) = m ((c.tc : Thread Cert.GradSsmInIdeal.nD Cert.GradSsmInIdeal.τ).loc Cert.GradSsmInIdeal.main_arg3))
      ∧ r.2.sem = fun _ => 0)

def quiescent_GradSsmInRefIdeal [hGradSsmInRefIdeal : Cert.GradSsmInRefIdeal.Facts] : Prop :=
  ∀ (m : (ℓ : Loc Cert.GradSsmInRefIdeal.nD Cert.GradSsmInRefIdeal.τ Cert.GradSsmInRefIdeal.sig) → Buf (Elt Ideal) ℓ) (g : Dev Cert.GradSsmInRefIdeal.nD → PrngReg), Pre_GradSsmInRefIdeal m →
    θ_run (Cert.GradSsmInRefIdeal.defs (F := Ideal)) (onTc (τ := Cert.GradSsmInRefIdeal.τ) (Cert.GradSsmInRefIdeal.main (F := Ideal))) ⟨m, fun _ => 0, g⟩ (fun r => (∀ c : Dev Cert.GradSsmInRefIdeal.nD,
      r.2.mem ((c.tc : Thread Cert.GradSsmInRefIdeal.nD Cert.GradSsmInRefIdeal.τ).loc Cert.GradSsmInRefIdeal.main_arg0) = m ((c.tc : Thread Cert.GradSsmInRefIdeal.nD Cert.GradSsmInRefIdeal.τ).loc Cert.GradSsmInRefIdeal.main_arg0)
      ∧ r.2.mem ((c.tc : Thread Cert.GradSsmInRefIdeal.nD Cert.GradSsmInRefIdeal.τ).loc Cert.GradSsmInRefIdeal.main_arg1) = m ((c.tc : Thread Cert.GradSsmInRefIdeal.nD Cert.GradSsmInRefIdeal.τ).loc Cert.GradSsmInRefIdeal.main_arg1)
      ∧ r.2.mem ((c.tc : Thread Cert.GradSsmInRefIdeal.nD Cert.GradSsmInRefIdeal.τ).loc Cert.GradSsmInRefIdeal.main_arg2) = m ((c.tc : Thread Cert.GradSsmInRefIdeal.nD Cert.GradSsmInRefIdeal.τ).loc Cert.GradSsmInRefIdeal.main_arg2)
      ∧ r.2.mem ((c.tc : Thread Cert.GradSsmInRefIdeal.nD Cert.GradSsmInRefIdeal.τ).loc Cert.GradSsmInRefIdeal.main_arg3) = m ((c.tc : Thread Cert.GradSsmInRefIdeal.nD Cert.GradSsmInRefIdeal.τ).loc Cert.GradSsmInRefIdeal.main_arg3))
      ∧ r.2.sem = fun _ => 0)

def quiescent_GradSsmOut [hGradSsmOut : Cert.GradSsmOut.Facts] : Prop :=
  ∀ (m : (ℓ : Loc Cert.GradSsmOut.nD Cert.GradSsmOut.τ Cert.GradSsmOut.sig) → Buf (Elt Bits) ℓ) (g : Dev Cert.GradSsmOut.nD → PrngReg), Pre_GradSsmOut m →
    θ_run (Cert.GradSsmOut.defs (F := Bits)) (onTc (τ := Cert.GradSsmOut.τ) (Cert.GradSsmOut.main (F := Bits))) ⟨m, fun _ => 0, g⟩ (fun r => (∀ c : Dev Cert.GradSsmOut.nD,
      r.2.mem ((c.tc : Thread Cert.GradSsmOut.nD Cert.GradSsmOut.τ).loc Cert.GradSsmOut.main_arg0) = m ((c.tc : Thread Cert.GradSsmOut.nD Cert.GradSsmOut.τ).loc Cert.GradSsmOut.main_arg0)
      ∧ r.2.mem ((c.tc : Thread Cert.GradSsmOut.nD Cert.GradSsmOut.τ).loc Cert.GradSsmOut.main_arg1) = m ((c.tc : Thread Cert.GradSsmOut.nD Cert.GradSsmOut.τ).loc Cert.GradSsmOut.main_arg1)
      ∧ r.2.mem ((c.tc : Thread Cert.GradSsmOut.nD Cert.GradSsmOut.τ).loc Cert.GradSsmOut.main_arg2) = m ((c.tc : Thread Cert.GradSsmOut.nD Cert.GradSsmOut.τ).loc Cert.GradSsmOut.main_arg2)
      ∧ r.2.mem ((c.tc : Thread Cert.GradSsmOut.nD Cert.GradSsmOut.τ).loc Cert.GradSsmOut.main_arg3) = m ((c.tc : Thread Cert.GradSsmOut.nD Cert.GradSsmOut.τ).loc Cert.GradSsmOut.main_arg3))
      ∧ r.2.sem = fun _ => 0)

def quiescent_GradSsmOutIdeal [hGradSsmOutIdeal : Cert.GradSsmOutIdeal.Facts] : Prop :=
  ∀ (m : (ℓ : Loc Cert.GradSsmOutIdeal.nD Cert.GradSsmOutIdeal.τ Cert.GradSsmOutIdeal.sig) → Buf (Elt Ideal) ℓ) (g : Dev Cert.GradSsmOutIdeal.nD → PrngReg), Pre_GradSsmOutIdeal m →
    θ_run (Cert.GradSsmOutIdeal.defs (F := Ideal)) (onTc (τ := Cert.GradSsmOutIdeal.τ) (Cert.GradSsmOutIdeal.main (F := Ideal))) ⟨m, fun _ => 0, g⟩ (fun r => (∀ c : Dev Cert.GradSsmOutIdeal.nD,
      r.2.mem ((c.tc : Thread Cert.GradSsmOutIdeal.nD Cert.GradSsmOutIdeal.τ).loc Cert.GradSsmOutIdeal.main_arg0) = m ((c.tc : Thread Cert.GradSsmOutIdeal.nD Cert.GradSsmOutIdeal.τ).loc Cert.GradSsmOutIdeal.main_arg0)
      ∧ r.2.mem ((c.tc : Thread Cert.GradSsmOutIdeal.nD Cert.GradSsmOutIdeal.τ).loc Cert.GradSsmOutIdeal.main_arg1) = m ((c.tc : Thread Cert.GradSsmOutIdeal.nD Cert.GradSsmOutIdeal.τ).loc Cert.GradSsmOutIdeal.main_arg1)
      ∧ r.2.mem ((c.tc : Thread Cert.GradSsmOutIdeal.nD Cert.GradSsmOutIdeal.τ).loc Cert.GradSsmOutIdeal.main_arg2) = m ((c.tc : Thread Cert.GradSsmOutIdeal.nD Cert.GradSsmOutIdeal.τ).loc Cert.GradSsmOutIdeal.main_arg2)
      ∧ r.2.mem ((c.tc : Thread Cert.GradSsmOutIdeal.nD Cert.GradSsmOutIdeal.τ).loc Cert.GradSsmOutIdeal.main_arg3) = m ((c.tc : Thread Cert.GradSsmOutIdeal.nD Cert.GradSsmOutIdeal.τ).loc Cert.GradSsmOutIdeal.main_arg3))
      ∧ r.2.sem = fun _ => 0)

def quiescent_GradSsmOutRefIdeal [hGradSsmOutRefIdeal : Cert.GradSsmOutRefIdeal.Facts] : Prop :=
  ∀ (m : (ℓ : Loc Cert.GradSsmOutRefIdeal.nD Cert.GradSsmOutRefIdeal.τ Cert.GradSsmOutRefIdeal.sig) → Buf (Elt Ideal) ℓ) (g : Dev Cert.GradSsmOutRefIdeal.nD → PrngReg), Pre_GradSsmOutRefIdeal m →
    θ_run (Cert.GradSsmOutRefIdeal.defs (F := Ideal)) (onTc (τ := Cert.GradSsmOutRefIdeal.τ) (Cert.GradSsmOutRefIdeal.main (F := Ideal))) ⟨m, fun _ => 0, g⟩ (fun r => (∀ c : Dev Cert.GradSsmOutRefIdeal.nD,
      r.2.mem ((c.tc : Thread Cert.GradSsmOutRefIdeal.nD Cert.GradSsmOutRefIdeal.τ).loc Cert.GradSsmOutRefIdeal.main_arg0) = m ((c.tc : Thread Cert.GradSsmOutRefIdeal.nD Cert.GradSsmOutRefIdeal.τ).loc Cert.GradSsmOutRefIdeal.main_arg0)
      ∧ r.2.mem ((c.tc : Thread Cert.GradSsmOutRefIdeal.nD Cert.GradSsmOutRefIdeal.τ).loc Cert.GradSsmOutRefIdeal.main_arg1) = m ((c.tc : Thread Cert.GradSsmOutRefIdeal.nD Cert.GradSsmOutRefIdeal.τ).loc Cert.GradSsmOutRefIdeal.main_arg1)
      ∧ r.2.mem ((c.tc : Thread Cert.GradSsmOutRefIdeal.nD Cert.GradSsmOutRefIdeal.τ).loc Cert.GradSsmOutRefIdeal.main_arg2) = m ((c.tc : Thread Cert.GradSsmOutRefIdeal.nD Cert.GradSsmOutRefIdeal.τ).loc Cert.GradSsmOutRefIdeal.main_arg2)
      ∧ r.2.mem ((c.tc : Thread Cert.GradSsmOutRefIdeal.nD Cert.GradSsmOutRefIdeal.τ).loc Cert.GradSsmOutRefIdeal.main_arg3) = m ((c.tc : Thread Cert.GradSsmOutRefIdeal.nD Cert.GradSsmOutRefIdeal.τ).loc Cert.GradSsmOutRefIdeal.main_arg3))
      ∧ r.2.sem = fun _ => 0)

def quiescent_GradKv [hGradKv : Cert.GradKv.Facts] : Prop :=
  ∀ (m : (ℓ : Loc Cert.GradKv.nD Cert.GradKv.τ Cert.GradKv.sig) → Buf (Elt Bits) ℓ) (g : Dev Cert.GradKv.nD → PrngReg), Pre_GradKv m →
    θ_run (Cert.GradKv.defs (F := Bits)) (onTc (τ := Cert.GradKv.τ) (Cert.GradKv.main (F := Bits))) ⟨m, fun _ => 0, g⟩ (fun r => (∀ c : Dev Cert.GradKv.nD,
      r.2.mem ((c.tc : Thread Cert.GradKv.nD Cert.GradKv.τ).loc Cert.GradKv.main_arg0) = m ((c.tc : Thread Cert.GradKv.nD Cert.GradKv.τ).loc Cert.GradKv.main_arg0)
      ∧ r.2.mem ((c.tc : Thread Cert.GradKv.nD Cert.GradKv.τ).loc Cert.GradKv.main_arg1) = m ((c.tc : Thread Cert.GradKv.nD Cert.GradKv.τ).loc Cert.GradKv.main_arg1)
      ∧ r.2.mem ((c.tc : Thread Cert.GradKv.nD Cert.GradKv.τ).loc Cert.GradKv.main_arg2) = m ((c.tc : Thread Cert.GradKv.nD Cert.GradKv.τ).loc Cert.GradKv.main_arg2)
      ∧ r.2.mem ((c.tc : Thread Cert.GradKv.nD Cert.GradKv.τ).loc Cert.GradKv.main_arg3) = m ((c.tc : Thread Cert.GradKv.nD Cert.GradKv.τ).loc Cert.GradKv.main_arg3))
      ∧ r.2.sem = fun _ => 0)

def quiescent_GradKvIdeal [hGradKvIdeal : Cert.GradKvIdeal.Facts] : Prop :=
  ∀ (m : (ℓ : Loc Cert.GradKvIdeal.nD Cert.GradKvIdeal.τ Cert.GradKvIdeal.sig) → Buf (Elt Ideal) ℓ) (g : Dev Cert.GradKvIdeal.nD → PrngReg), Pre_GradKvIdeal m →
    θ_run (Cert.GradKvIdeal.defs (F := Ideal)) (onTc (τ := Cert.GradKvIdeal.τ) (Cert.GradKvIdeal.main (F := Ideal))) ⟨m, fun _ => 0, g⟩ (fun r => (∀ c : Dev Cert.GradKvIdeal.nD,
      r.2.mem ((c.tc : Thread Cert.GradKvIdeal.nD Cert.GradKvIdeal.τ).loc Cert.GradKvIdeal.main_arg0) = m ((c.tc : Thread Cert.GradKvIdeal.nD Cert.GradKvIdeal.τ).loc Cert.GradKvIdeal.main_arg0)
      ∧ r.2.mem ((c.tc : Thread Cert.GradKvIdeal.nD Cert.GradKvIdeal.τ).loc Cert.GradKvIdeal.main_arg1) = m ((c.tc : Thread Cert.GradKvIdeal.nD Cert.GradKvIdeal.τ).loc Cert.GradKvIdeal.main_arg1)
      ∧ r.2.mem ((c.tc : Thread Cert.GradKvIdeal.nD Cert.GradKvIdeal.τ).loc Cert.GradKvIdeal.main_arg2) = m ((c.tc : Thread Cert.GradKvIdeal.nD Cert.GradKvIdeal.τ).loc Cert.GradKvIdeal.main_arg2)
      ∧ r.2.mem ((c.tc : Thread Cert.GradKvIdeal.nD Cert.GradKvIdeal.τ).loc Cert.GradKvIdeal.main_arg3) = m ((c.tc : Thread Cert.GradKvIdeal.nD Cert.GradKvIdeal.τ).loc Cert.GradKvIdeal.main_arg3))
      ∧ r.2.sem = fun _ => 0)

def quiescent_GradKvRefIdeal [hGradKvRefIdeal : Cert.GradKvRefIdeal.Facts] : Prop :=
  ∀ (m : (ℓ : Loc Cert.GradKvRefIdeal.nD Cert.GradKvRefIdeal.τ Cert.GradKvRefIdeal.sig) → Buf (Elt Ideal) ℓ) (g : Dev Cert.GradKvRefIdeal.nD → PrngReg), Pre_GradKvRefIdeal m →
    θ_run (Cert.GradKvRefIdeal.defs (F := Ideal)) (onTc (τ := Cert.GradKvRefIdeal.τ) (Cert.GradKvRefIdeal.main (F := Ideal))) ⟨m, fun _ => 0, g⟩ (fun r => (∀ c : Dev Cert.GradKvRefIdeal.nD,
      r.2.mem ((c.tc : Thread Cert.GradKvRefIdeal.nD Cert.GradKvRefIdeal.τ).loc Cert.GradKvRefIdeal.main_arg0) = m ((c.tc : Thread Cert.GradKvRefIdeal.nD Cert.GradKvRefIdeal.τ).loc Cert.GradKvRefIdeal.main_arg0)
      ∧ r.2.mem ((c.tc : Thread Cert.GradKvRefIdeal.nD Cert.GradKvRefIdeal.τ).loc Cert.GradKvRefIdeal.main_arg1) = m ((c.tc : Thread Cert.GradKvRefIdeal.nD Cert.GradKvRefIdeal.τ).loc Cert.GradKvRefIdeal.main_arg1)
      ∧ r.2.mem ((c.tc : Thread Cert.GradKvRefIdeal.nD Cert.GradKvRefIdeal.τ).loc Cert.GradKvRefIdeal.main_arg2) = m ((c.tc : Thread Cert.GradKvRefIdeal.nD Cert.GradKvRefIdeal.τ).loc Cert.GradKvRefIdeal.main_arg2)
      ∧ r.2.mem ((c.tc : Thread Cert.GradKvRefIdeal.nD Cert.GradKvRefIdeal.τ).loc Cert.GradKvRefIdeal.main_arg3) = m ((c.tc : Thread Cert.GradKvRefIdeal.nD Cert.GradKvRefIdeal.τ).loc Cert.GradKvRefIdeal.main_arg3))
      ∧ r.2.sem = fun _ => 0)

def quiescent_GradAttn [hGradAttn : Cert.GradAttn.Facts] : Prop :=
  ∀ (m : (ℓ : Loc Cert.GradAttn.nD Cert.GradAttn.τ Cert.GradAttn.sig) → Buf (Elt Bits) ℓ) (g : Dev Cert.GradAttn.nD → PrngReg), Pre_GradAttn m →
    θ_run (Cert.GradAttn.defs (F := Bits)) (onTc (τ := Cert.GradAttn.τ) (Cert.GradAttn.main (F := Bits))) ⟨m, fun _ => 0, g⟩ (fun r => (∀ c : Dev Cert.GradAttn.nD,
      r.2.mem ((c.tc : Thread Cert.GradAttn.nD Cert.GradAttn.τ).loc Cert.GradAttn.main_arg0) = m ((c.tc : Thread Cert.GradAttn.nD Cert.GradAttn.τ).loc Cert.GradAttn.main_arg0)
      ∧ r.2.mem ((c.tc : Thread Cert.GradAttn.nD Cert.GradAttn.τ).loc Cert.GradAttn.main_arg1) = m ((c.tc : Thread Cert.GradAttn.nD Cert.GradAttn.τ).loc Cert.GradAttn.main_arg1)
      ∧ r.2.mem ((c.tc : Thread Cert.GradAttn.nD Cert.GradAttn.τ).loc Cert.GradAttn.main_arg2) = m ((c.tc : Thread Cert.GradAttn.nD Cert.GradAttn.τ).loc Cert.GradAttn.main_arg2)
      ∧ r.2.mem ((c.tc : Thread Cert.GradAttn.nD Cert.GradAttn.τ).loc Cert.GradAttn.main_arg3) = m ((c.tc : Thread Cert.GradAttn.nD Cert.GradAttn.τ).loc Cert.GradAttn.main_arg3))
      ∧ r.2.sem = fun _ => 0)

def quiescent_GradAttnIdeal [hGradAttnIdeal : Cert.GradAttnIdeal.Facts] : Prop :=
  ∀ (m : (ℓ : Loc Cert.GradAttnIdeal.nD Cert.GradAttnIdeal.τ Cert.GradAttnIdeal.sig) → Buf (Elt Ideal) ℓ) (g : Dev Cert.GradAttnIdeal.nD → PrngReg), Pre_GradAttnIdeal m →
    θ_run (Cert.GradAttnIdeal.defs (F := Ideal)) (onTc (τ := Cert.GradAttnIdeal.τ) (Cert.GradAttnIdeal.main (F := Ideal))) ⟨m, fun _ => 0, g⟩ (fun r => (∀ c : Dev Cert.GradAttnIdeal.nD,
      r.2.mem ((c.tc : Thread Cert.GradAttnIdeal.nD Cert.GradAttnIdeal.τ).loc Cert.GradAttnIdeal.main_arg0) = m ((c.tc : Thread Cert.GradAttnIdeal.nD Cert.GradAttnIdeal.τ).loc Cert.GradAttnIdeal.main_arg0)
      ∧ r.2.mem ((c.tc : Thread Cert.GradAttnIdeal.nD Cert.GradAttnIdeal.τ).loc Cert.GradAttnIdeal.main_arg1) = m ((c.tc : Thread Cert.GradAttnIdeal.nD Cert.GradAttnIdeal.τ).loc Cert.GradAttnIdeal.main_arg1)
      ∧ r.2.mem ((c.tc : Thread Cert.GradAttnIdeal.nD Cert.GradAttnIdeal.τ).loc Cert.GradAttnIdeal.main_arg2) = m ((c.tc : Thread Cert.GradAttnIdeal.nD Cert.GradAttnIdeal.τ).loc Cert.GradAttnIdeal.main_arg2)
      ∧ r.2.mem ((c.tc : Thread Cert.GradAttnIdeal.nD Cert.GradAttnIdeal.τ).loc Cert.GradAttnIdeal.main_arg3) = m ((c.tc : Thread Cert.GradAttnIdeal.nD Cert.GradAttnIdeal.τ).loc Cert.GradAttnIdeal.main_arg3))
      ∧ r.2.sem = fun _ => 0)

def quiescent_GradAttnRefIdeal [hGradAttnRefIdeal : Cert.GradAttnRefIdeal.Facts] : Prop :=
  ∀ (m : (ℓ : Loc Cert.GradAttnRefIdeal.nD Cert.GradAttnRefIdeal.τ Cert.GradAttnRefIdeal.sig) → Buf (Elt Ideal) ℓ) (g : Dev Cert.GradAttnRefIdeal.nD → PrngReg), Pre_GradAttnRefIdeal m →
    θ_run (Cert.GradAttnRefIdeal.defs (F := Ideal)) (onTc (τ := Cert.GradAttnRefIdeal.τ) (Cert.GradAttnRefIdeal.main (F := Ideal))) ⟨m, fun _ => 0, g⟩ (fun r => (∀ c : Dev Cert.GradAttnRefIdeal.nD,
      r.2.mem ((c.tc : Thread Cert.GradAttnRefIdeal.nD Cert.GradAttnRefIdeal.τ).loc Cert.GradAttnRefIdeal.main_arg0) = m ((c.tc : Thread Cert.GradAttnRefIdeal.nD Cert.GradAttnRefIdeal.τ).loc Cert.GradAttnRefIdeal.main_arg0)
      ∧ r.2.mem ((c.tc : Thread Cert.GradAttnRefIdeal.nD Cert.GradAttnRefIdeal.τ).loc Cert.GradAttnRefIdeal.main_arg1) = m ((c.tc : Thread Cert.GradAttnRefIdeal.nD Cert.GradAttnRefIdeal.τ).loc Cert.GradAttnRefIdeal.main_arg1)
      ∧ r.2.mem ((c.tc : Thread Cert.GradAttnRefIdeal.nD Cert.GradAttnRefIdeal.τ).loc Cert.GradAttnRefIdeal.main_arg2) = m ((c.tc : Thread Cert.GradAttnRefIdeal.nD Cert.GradAttnRefIdeal.τ).loc Cert.GradAttnRefIdeal.main_arg2)
      ∧ r.2.mem ((c.tc : Thread Cert.GradAttnRefIdeal.nD Cert.GradAttnRefIdeal.τ).loc Cert.GradAttnRefIdeal.main_arg3) = m ((c.tc : Thread Cert.GradAttnRefIdeal.nD Cert.GradAttnRefIdeal.τ).loc Cert.GradAttnRefIdeal.main_arg3))
      ∧ r.2.sem = fun _ => 0)

def quiescent_AdamGu [hAdamGu : Cert.AdamGu.Facts] : Prop :=
  ∀ (m : (ℓ : Loc Cert.AdamGu.nD Cert.AdamGu.τ Cert.AdamGu.sig) → Buf (Elt Bits) ℓ) (g : Dev Cert.AdamGu.nD → PrngReg), Pre_AdamGu m →
    θ_run (Cert.AdamGu.defs (F := Bits)) (onTc (τ := Cert.AdamGu.τ) (Cert.AdamGu.main (F := Bits))) ⟨m, fun _ => 0, g⟩ (fun r => (∀ c : Dev Cert.AdamGu.nD,
      r.2.mem ((c.tc : Thread Cert.AdamGu.nD Cert.AdamGu.τ).loc Cert.AdamGu.main_arg0) = m ((c.tc : Thread Cert.AdamGu.nD Cert.AdamGu.τ).loc Cert.AdamGu.main_arg0)
      ∧ r.2.mem ((c.tc : Thread Cert.AdamGu.nD Cert.AdamGu.τ).loc Cert.AdamGu.main_arg1) = m ((c.tc : Thread Cert.AdamGu.nD Cert.AdamGu.τ).loc Cert.AdamGu.main_arg1)
      ∧ r.2.mem ((c.tc : Thread Cert.AdamGu.nD Cert.AdamGu.τ).loc Cert.AdamGu.main_arg2) = m ((c.tc : Thread Cert.AdamGu.nD Cert.AdamGu.τ).loc Cert.AdamGu.main_arg2)
      ∧ r.2.mem ((c.tc : Thread Cert.AdamGu.nD Cert.AdamGu.τ).loc Cert.AdamGu.main_arg3) = m ((c.tc : Thread Cert.AdamGu.nD Cert.AdamGu.τ).loc Cert.AdamGu.main_arg3))
      ∧ r.2.sem = fun _ => 0)

def quiescent_AdamGuIdeal [hAdamGuIdeal : Cert.AdamGuIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg), Pre_AdamGuIdeal m →
    θ_run (Cert.AdamGuIdeal.defs (F := Ideal)) (onTc (τ := Cert.AdamGuIdeal.τ) (Cert.AdamGuIdeal.main (F := Ideal))) ⟨m, fun _ => 0, g⟩ (fun r => (∀ c : Dev Cert.AdamGuIdeal.nD,
      r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
      ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
      ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
      ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3))
      ∧ r.2.sem = fun _ => 0)

def quiescent_AdamGuRefIdeal [hAdamGuRefIdeal : Cert.AdamGuRefIdeal.Facts] : Prop :=
  ∀ (m : (ℓ : Loc Cert.AdamGuRefIdeal.nD Cert.AdamGuRefIdeal.τ Cert.AdamGuRefIdeal.sig) → Buf (Elt Ideal) ℓ) (g : Dev Cert.AdamGuRefIdeal.nD → PrngReg), Pre_AdamGuRefIdeal m →
    θ_run (Cert.AdamGuRefIdeal.defs (F := Ideal)) (onTc (τ := Cert.AdamGuRefIdeal.τ) (Cert.AdamGuRefIdeal.main (F := Ideal))) ⟨m, fun _ => 0, g⟩ (fun r => (∀ c : Dev Cert.AdamGuRefIdeal.nD,
      r.2.mem ((c.tc : Thread Cert.AdamGuRefIdeal.nD Cert.AdamGuRefIdeal.τ).loc Cert.AdamGuRefIdeal.main_arg0) = m ((c.tc : Thread Cert.AdamGuRefIdeal.nD Cert.AdamGuRefIdeal.τ).loc Cert.AdamGuRefIdeal.main_arg0)
      ∧ r.2.mem ((c.tc : Thread Cert.AdamGuRefIdeal.nD Cert.AdamGuRefIdeal.τ).loc Cert.AdamGuRefIdeal.main_arg1) = m ((c.tc : Thread Cert.AdamGuRefIdeal.nD Cert.AdamGuRefIdeal.τ).loc Cert.AdamGuRefIdeal.main_arg1)
      ∧ r.2.mem ((c.tc : Thread Cert.AdamGuRefIdeal.nD Cert.AdamGuRefIdeal.τ).loc Cert.AdamGuRefIdeal.main_arg2) = m ((c.tc : Thread Cert.AdamGuRefIdeal.nD Cert.AdamGuRefIdeal.τ).loc Cert.AdamGuRefIdeal.main_arg2)
      ∧ r.2.mem ((c.tc : Thread Cert.AdamGuRefIdeal.nD Cert.AdamGuRefIdeal.τ).loc Cert.AdamGuRefIdeal.main_arg3) = m ((c.tc : Thread Cert.AdamGuRefIdeal.nD Cert.AdamGuRefIdeal.τ).loc Cert.AdamGuRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSsmIn [hAdamSsmIn : Cert.AdamSsmIn.Facts] : Prop :=
  ∀ (m : (ℓ : Loc Cert.AdamSsmIn.nD Cert.AdamSsmIn.τ Cert.AdamSsmIn.sig) → Buf (Elt Bits) ℓ) (g : Dev Cert.AdamSsmIn.nD → PrngReg), Pre_AdamSsmIn m →
    θ_run (Cert.AdamSsmIn.defs (F := Bits)) (onTc (τ := Cert.AdamSsmIn.τ) (Cert.AdamSsmIn.main (F := Bits))) ⟨m, fun _ => 0, g⟩ (fun r => (∀ c : Dev Cert.AdamSsmIn.nD,
      r.2.mem ((c.tc : Thread Cert.AdamSsmIn.nD Cert.AdamSsmIn.τ).loc Cert.AdamSsmIn.main_arg0) = m ((c.tc : Thread Cert.AdamSsmIn.nD Cert.AdamSsmIn.τ).loc Cert.AdamSsmIn.main_arg0)
      ∧ r.2.mem ((c.tc : Thread Cert.AdamSsmIn.nD Cert.AdamSsmIn.τ).loc Cert.AdamSsmIn.main_arg1) = m ((c.tc : Thread Cert.AdamSsmIn.nD Cert.AdamSsmIn.τ).loc Cert.AdamSsmIn.main_arg1)
      ∧ r.2.mem ((c.tc : Thread Cert.AdamSsmIn.nD Cert.AdamSsmIn.τ).loc Cert.AdamSsmIn.main_arg2) = m ((c.tc : Thread Cert.AdamSsmIn.nD Cert.AdamSsmIn.τ).loc Cert.AdamSsmIn.main_arg2)
      ∧ r.2.mem ((c.tc : Thread Cert.AdamSsmIn.nD Cert.AdamSsmIn.τ).loc Cert.AdamSsmIn.main_arg3) = m ((c.tc : Thread Cert.AdamSsmIn.nD Cert.AdamSsmIn.τ).loc Cert.AdamSsmIn.main_arg3))
      ∧ r.2.sem = fun _ => 0)

def quiescent_AdamSsmInIdeal [hAdamSsmInIdeal : Cert.AdamSsmInIdeal.Facts] : Prop :=
  ∀ (m : (ℓ : Loc Cert.AdamSsmInIdeal.nD Cert.AdamSsmInIdeal.τ Cert.AdamSsmInIdeal.sig) → Buf (Elt Ideal) ℓ) (g : Dev Cert.AdamSsmInIdeal.nD → PrngReg), Pre_AdamSsmInIdeal m →
    θ_run (Cert.AdamSsmInIdeal.defs (F := Ideal)) (onTc (τ := Cert.AdamSsmInIdeal.τ) (Cert.AdamSsmInIdeal.main (F := Ideal))) ⟨m, fun _ => 0, g⟩ (fun r => (∀ c : Dev Cert.AdamSsmInIdeal.nD,
      r.2.mem ((c.tc : Thread Cert.AdamSsmInIdeal.nD Cert.AdamSsmInIdeal.τ).loc Cert.AdamSsmInIdeal.main_arg0) = m ((c.tc : Thread Cert.AdamSsmInIdeal.nD Cert.AdamSsmInIdeal.τ).loc Cert.AdamSsmInIdeal.main_arg0)
      ∧ r.2.mem ((c.tc : Thread Cert.AdamSsmInIdeal.nD Cert.AdamSsmInIdeal.τ).loc Cert.AdamSsmInIdeal.main_arg1) = m ((c.tc : Thread Cert.AdamSsmInIdeal.nD Cert.AdamSsmInIdeal.τ).loc Cert.AdamSsmInIdeal.main_arg1)
      ∧ r.2.mem ((c.tc : Thread Cert.AdamSsmInIdeal.nD Cert.AdamSsmInIdeal.τ).loc Cert.AdamSsmInIdeal.main_arg2) = m ((c.tc : Thread Cert.AdamSsmInIdeal.nD Cert.AdamSsmInIdeal.τ).loc Cert.AdamSsmInIdeal.main_arg2)
      ∧ r.2.mem ((c.tc : Thread Cert.AdamSsmInIdeal.nD Cert.AdamSsmInIdeal.τ).loc Cert.AdamSsmInIdeal.main_arg3) = m ((c.tc : Thread Cert.AdamSsmInIdeal.nD Cert.AdamSsmInIdeal.τ).loc Cert.AdamSsmInIdeal.main_arg3))
      ∧ r.2.sem = fun _ => 0)

def quiescent_AdamSsmInRefIdeal [hAdamSsmInRefIdeal : Cert.AdamSsmInRefIdeal.Facts] : Prop :=
  ∀ (m : (ℓ : Loc Cert.AdamSsmInRefIdeal.nD Cert.AdamSsmInRefIdeal.τ Cert.AdamSsmInRefIdeal.sig) → Buf (Elt Ideal) ℓ) (g : Dev Cert.AdamSsmInRefIdeal.nD → PrngReg), Pre_AdamSsmInRefIdeal m →
    θ_run (Cert.AdamSsmInRefIdeal.defs (F := Ideal)) (onTc (τ := Cert.AdamSsmInRefIdeal.τ) (Cert.AdamSsmInRefIdeal.main (F := Ideal))) ⟨m, fun _ => 0, g⟩ (fun r => (∀ c : Dev Cert.AdamSsmInRefIdeal.nD,
      r.2.mem ((c.tc : Thread Cert.AdamSsmInRefIdeal.nD Cert.AdamSsmInRefIdeal.τ).loc Cert.AdamSsmInRefIdeal.main_arg0) = m ((c.tc : Thread Cert.AdamSsmInRefIdeal.nD Cert.AdamSsmInRefIdeal.τ).loc Cert.AdamSsmInRefIdeal.main_arg0)
      ∧ r.2.mem ((c.tc : Thread Cert.AdamSsmInRefIdeal.nD Cert.AdamSsmInRefIdeal.τ).loc Cert.AdamSsmInRefIdeal.main_arg1) = m ((c.tc : Thread Cert.AdamSsmInRefIdeal.nD Cert.AdamSsmInRefIdeal.τ).loc Cert.AdamSsmInRefIdeal.main_arg1)
      ∧ r.2.mem ((c.tc : Thread Cert.AdamSsmInRefIdeal.nD Cert.AdamSsmInRefIdeal.τ).loc Cert.AdamSsmInRefIdeal.main_arg2) = m ((c.tc : Thread Cert.AdamSsmInRefIdeal.nD Cert.AdamSsmInRefIdeal.τ).loc Cert.AdamSsmInRefIdeal.main_arg2)
      ∧ r.2.mem ((c.tc : Thread Cert.AdamSsmInRefIdeal.nD Cert.AdamSsmInRefIdeal.τ).loc Cert.AdamSsmInRefIdeal.main_arg3) = m ((c.tc : Thread Cert.AdamSsmInRefIdeal.nD Cert.AdamSsmInRefIdeal.τ).loc Cert.AdamSsmInRefIdeal.main_arg3))
      ∧ r.2.sem = fun _ => 0)

def quiescent_AdamSsmOut [hAdamSsmOut : Cert.AdamSsmOut.Facts] : Prop :=
  ∀ (m : (ℓ : Loc Cert.AdamSsmOut.nD Cert.AdamSsmOut.τ Cert.AdamSsmOut.sig) → Buf (Elt Bits) ℓ) (g : Dev Cert.AdamSsmOut.nD → PrngReg), Pre_AdamSsmOut m →
    θ_run (Cert.AdamSsmOut.defs (F := Bits)) (onTc (τ := Cert.AdamSsmOut.τ) (Cert.AdamSsmOut.main (F := Bits))) ⟨m, fun _ => 0, g⟩ (fun r => (∀ c : Dev Cert.AdamSsmOut.nD,
      r.2.mem ((c.tc : Thread Cert.AdamSsmOut.nD Cert.AdamSsmOut.τ).loc Cert.AdamSsmOut.main_arg0) = m ((c.tc : Thread Cert.AdamSsmOut.nD Cert.AdamSsmOut.τ).loc Cert.AdamSsmOut.main_arg0)
      ∧ r.2.mem ((c.tc : Thread Cert.AdamSsmOut.nD Cert.AdamSsmOut.τ).loc Cert.AdamSsmOut.main_arg1) = m ((c.tc : Thread Cert.AdamSsmOut.nD Cert.AdamSsmOut.τ).loc Cert.AdamSsmOut.main_arg1)
      ∧ r.2.mem ((c.tc : Thread Cert.AdamSsmOut.nD Cert.AdamSsmOut.τ).loc Cert.AdamSsmOut.main_arg2) = m ((c.tc : Thread Cert.AdamSsmOut.nD Cert.AdamSsmOut.τ).loc Cert.AdamSsmOut.main_arg2)
      ∧ r.2.mem ((c.tc : Thread Cert.AdamSsmOut.nD Cert.AdamSsmOut.τ).loc Cert.AdamSsmOut.main_arg3) = m ((c.tc : Thread Cert.AdamSsmOut.nD Cert.AdamSsmOut.τ).loc Cert.AdamSsmOut.main_arg3))
      ∧ r.2.sem = fun _ => 0)

def quiescent_AdamSsmOutIdeal [hAdamSsmOutIdeal : Cert.AdamSsmOutIdeal.Facts] : Prop :=
  ∀ (m : (ℓ : Loc Cert.AdamSsmOutIdeal.nD Cert.AdamSsmOutIdeal.τ Cert.AdamSsmOutIdeal.sig) → Buf (Elt Ideal) ℓ) (g : Dev Cert.AdamSsmOutIdeal.nD → PrngReg), Pre_AdamSsmOutIdeal m →
    θ_run (Cert.AdamSsmOutIdeal.defs (F := Ideal)) (onTc (τ := Cert.AdamSsmOutIdeal.τ) (Cert.AdamSsmOutIdeal.main (F := Ideal))) ⟨m, fun _ => 0, g⟩ (fun r => (∀ c : Dev Cert.AdamSsmOutIdeal.nD,
      r.2.mem ((c.tc : Thread Cert.AdamSsmOutIdeal.nD Cert.AdamSsmOutIdeal.τ).loc Cert.AdamSsmOutIdeal.main_arg0) = m ((c.tc : Thread Cert.AdamSsmOutIdeal.nD Cert.AdamSsmOutIdeal.τ).loc Cert.AdamSsmOutIdeal.main_arg0)
      ∧ r.2.mem ((c.tc : Thread Cert.AdamSsmOutIdeal.nD Cert.AdamSsmOutIdeal.τ).loc Cert.AdamSsmOutIdeal.main_arg1) = m ((c.tc : Thread Cert.AdamSsmOutIdeal.nD Cert.AdamSsmOutIdeal.τ).loc Cert.AdamSsmOutIdeal.main_arg1)
      ∧ r.2.mem ((c.tc : Thread Cert.AdamSsmOutIdeal.nD Cert.AdamSsmOutIdeal.τ).loc Cert.AdamSsmOutIdeal.main_arg2) = m ((c.tc : Thread Cert.AdamSsmOutIdeal.nD Cert.AdamSsmOutIdeal.τ).loc Cert.AdamSsmOutIdeal.main_arg2)
      ∧ r.2.mem ((c.tc : Thread Cert.AdamSsmOutIdeal.nD Cert.AdamSsmOutIdeal.τ).loc Cert.AdamSsmOutIdeal.main_arg3) = m ((c.tc : Thread Cert.AdamSsmOutIdeal.nD Cert.AdamSsmOutIdeal.τ).loc Cert.AdamSsmOutIdeal.main_arg3))
      ∧ r.2.sem = fun _ => 0)

def quiescent_AdamSsmOutRefIdeal [hAdamSsmOutRefIdeal : Cert.AdamSsmOutRefIdeal.Facts] : Prop :=
  ∀ (m : (ℓ : Loc Cert.AdamSsmOutRefIdeal.nD Cert.AdamSsmOutRefIdeal.τ Cert.AdamSsmOutRefIdeal.sig) → Buf (Elt Ideal) ℓ) (g : Dev Cert.AdamSsmOutRefIdeal.nD → PrngReg), Pre_AdamSsmOutRefIdeal m →
    θ_run (Cert.AdamSsmOutRefIdeal.defs (F := Ideal)) (onTc (τ := Cert.AdamSsmOutRefIdeal.τ) (Cert.AdamSsmOutRefIdeal.main (F := Ideal))) ⟨m, fun _ => 0, g⟩ (fun r => (∀ c : Dev Cert.AdamSsmOutRefIdeal.nD,
      r.2.mem ((c.tc : Thread Cert.AdamSsmOutRefIdeal.nD Cert.AdamSsmOutRefIdeal.τ).loc Cert.AdamSsmOutRefIdeal.main_arg0) = m ((c.tc : Thread Cert.AdamSsmOutRefIdeal.nD Cert.AdamSsmOutRefIdeal.τ).loc Cert.AdamSsmOutRefIdeal.main_arg0)
      ∧ r.2.mem ((c.tc : Thread Cert.AdamSsmOutRefIdeal.nD Cert.AdamSsmOutRefIdeal.τ).loc Cert.AdamSsmOutRefIdeal.main_arg1) = m ((c.tc : Thread Cert.AdamSsmOutRefIdeal.nD Cert.AdamSsmOutRefIdeal.τ).loc Cert.AdamSsmOutRefIdeal.main_arg1)
      ∧ r.2.mem ((c.tc : Thread Cert.AdamSsmOutRefIdeal.nD Cert.AdamSsmOutRefIdeal.τ).loc Cert.AdamSsmOutRefIdeal.main_arg2) = m ((c.tc : Thread Cert.AdamSsmOutRefIdeal.nD Cert.AdamSsmOutRefIdeal.τ).loc Cert.AdamSsmOutRefIdeal.main_arg2)
      ∧ r.2.mem ((c.tc : Thread Cert.AdamSsmOutRefIdeal.nD Cert.AdamSsmOutRefIdeal.τ).loc Cert.AdamSsmOutRefIdeal.main_arg3) = m ((c.tc : Thread Cert.AdamSsmOutRefIdeal.nD Cert.AdamSsmOutRefIdeal.τ).loc Cert.AdamSsmOutRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamAttn [hAdamAttn : Cert.AdamAttn.Facts] : Prop :=
  ∀ (m : (ℓ : Loc Cert.AdamAttn.nD Cert.AdamAttn.τ Cert.AdamAttn.sig) → Buf (Elt Bits) ℓ) (g : Dev Cert.AdamAttn.nD → PrngReg), Pre_AdamAttn m →
    θ_run (Cert.AdamAttn.defs (F := Bits)) (onTc (τ := Cert.AdamAttn.τ) (Cert.AdamAttn.main (F := Bits))) ⟨m, fun _ => 0, g⟩ (fun r => (∀ c : Dev Cert.AdamAttn.nD,
      r.2.mem ((c.tc : Thread Cert.AdamAttn.nD Cert.AdamAttn.τ).loc Cert.AdamAttn.main_arg0) = m ((c.tc : Thread Cert.AdamAttn.nD Cert.AdamAttn.τ).loc Cert.AdamAttn.main_arg0)
      ∧ r.2.mem ((c.tc : Thread Cert.AdamAttn.nD Cert.AdamAttn.τ).loc Cert.AdamAttn.main_arg1) = m ((c.tc : Thread Cert.AdamAttn.nD Cert.AdamAttn.τ).loc Cert.AdamAttn.main_arg1)
      ∧ r.2.mem ((c.tc : Thread Cert.AdamAttn.nD Cert.AdamAttn.τ).loc Cert.AdamAttn.main_arg2) = m ((c.tc : Thread Cert.AdamAttn.nD Cert.AdamAttn.τ).loc Cert.AdamAttn.main_arg2)
      ∧ r.2.mem ((c.tc : Thread Cert.AdamAttn.nD Cert.AdamAttn.τ).loc Cert.AdamAttn.main_arg3) = m ((c.tc : Thread Cert.AdamAttn.nD Cert.AdamAttn.τ).loc Cert.AdamAttn.main_arg3))
      ∧ r.2.sem = fun _ => 0)

def quiescent_AdamAttnIdeal [hAdamAttnIdeal : Cert.AdamAttnIdeal.Facts] : Prop :=
  ∀ (m : (ℓ : Loc Cert.AdamAttnIdeal.nD Cert.AdamAttnIdeal.τ Cert.AdamAttnIdeal.sig) → Buf (Elt Ideal) ℓ) (g : Dev Cert.AdamAttnIdeal.nD → PrngReg), Pre_AdamAttnIdeal m →
    θ_run (Cert.AdamAttnIdeal.defs (F := Ideal)) (onTc (τ := Cert.AdamAttnIdeal.τ) (Cert.AdamAttnIdeal.main (F := Ideal))) ⟨m, fun _ => 0, g⟩ (fun r => (∀ c : Dev Cert.AdamAttnIdeal.nD,
      r.2.mem ((c.tc : Thread Cert.AdamAttnIdeal.nD Cert.AdamAttnIdeal.τ).loc Cert.AdamAttnIdeal.main_arg0) = m ((c.tc : Thread Cert.AdamAttnIdeal.nD Cert.AdamAttnIdeal.τ).loc Cert.AdamAttnIdeal.main_arg0)
      ∧ r.2.mem ((c.tc : Thread Cert.AdamAttnIdeal.nD Cert.AdamAttnIdeal.τ).loc Cert.AdamAttnIdeal.main_arg1) = m ((c.tc : Thread Cert.AdamAttnIdeal.nD Cert.AdamAttnIdeal.τ).loc Cert.AdamAttnIdeal.main_arg1)
      ∧ r.2.mem ((c.tc : Thread Cert.AdamAttnIdeal.nD Cert.AdamAttnIdeal.τ).loc Cert.AdamAttnIdeal.main_arg2) = m ((c.tc : Thread Cert.AdamAttnIdeal.nD Cert.AdamAttnIdeal.τ).loc Cert.AdamAttnIdeal.main_arg2)
      ∧ r.2.mem ((c.tc : Thread Cert.AdamAttnIdeal.nD Cert.AdamAttnIdeal.τ).loc Cert.AdamAttnIdeal.main_arg3) = m ((c.tc : Thread Cert.AdamAttnIdeal.nD Cert.AdamAttnIdeal.τ).loc Cert.AdamAttnIdeal.main_arg3))
      ∧ r.2.sem = fun _ => 0)

def quiescent_AdamAttnRefIdeal [hAdamAttnRefIdeal : Cert.AdamAttnRefIdeal.Facts] : Prop :=
  ∀ (m : (ℓ : Loc Cert.AdamAttnRefIdeal.nD Cert.AdamAttnRefIdeal.τ Cert.AdamAttnRefIdeal.sig) → Buf (Elt Ideal) ℓ) (g : Dev Cert.AdamAttnRefIdeal.nD → PrngReg), Pre_AdamAttnRefIdeal m →
    θ_run (Cert.AdamAttnRefIdeal.defs (F := Ideal)) (onTc (τ := Cert.AdamAttnRefIdeal.τ) (Cert.AdamAttnRefIdeal.main (F := Ideal))) ⟨m, fun _ => 0, g⟩ (fun r => (∀ c : Dev Cert.AdamAttnRefIdeal.nD,
      r.2.mem ((c.tc : Thread Cert.AdamAttnRefIdeal.nD Cert.AdamAttnRefIdeal.τ).loc Cert.AdamAttnRefIdeal.main_arg0) = m ((c.tc : Thread Cert.AdamAttnRefIdeal.nD Cert.AdamAttnRefIdeal.τ).loc Cert.AdamAttnRefIdeal.main_arg0)
      ∧ r.2.mem ((c.tc : Thread Cert.AdamAttnRefIdeal.nD Cert.AdamAttnRefIdeal.τ).loc Cert.AdamAttnRefIdeal.main_arg1) = m ((c.tc : Thread Cert.AdamAttnRefIdeal.nD Cert.AdamAttnRefIdeal.τ).loc Cert.AdamAttnRefIdeal.main_arg1)
      ∧ r.2.mem ((c.tc : Thread Cert.AdamAttnRefIdeal.nD Cert.AdamAttnRefIdeal.τ).loc Cert.AdamAttnRefIdeal.main_arg2) = m ((c.tc : Thread Cert.AdamAttnRefIdeal.nD Cert.AdamAttnRefIdeal.τ).loc Cert.AdamAttnRefIdeal.main_arg2)
      ∧ r.2.mem ((c.tc : Thread Cert.AdamAttnRefIdeal.nD Cert.AdamAttnRefIdeal.τ).loc Cert.AdamAttnRefIdeal.main_arg3) = m ((c.tc : Thread Cert.AdamAttnRefIdeal.nD Cert.AdamAttnRefIdeal.τ).loc Cert.AdamAttnRefIdeal.main_arg3))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_AdamModRefIdeal [hAdamModRefIdeal : Cert.AdamModRefIdeal.Facts] : Prop :=
  ∀ (m : (ℓ : Loc Cert.AdamModRefIdeal.nD Cert.AdamModRefIdeal.τ Cert.AdamModRefIdeal.sig) → Buf (Elt Ideal) ℓ) (g : Dev Cert.AdamModRefIdeal.nD → PrngReg), Pre_AdamModRefIdeal m →
    θ_run (Cert.AdamModRefIdeal.defs (F := Ideal)) (onTc (τ := Cert.AdamModRefIdeal.τ) (Cert.AdamModRefIdeal.main (F := Ideal))) ⟨m, fun _ => 0, g⟩ (fun r => (∀ c : Dev Cert.AdamModRefIdeal.nD,
      r.2.mem ((c.tc : Thread Cert.AdamModRefIdeal.nD Cert.AdamModRefIdeal.τ).loc Cert.AdamModRefIdeal.main_arg0) = m ((c.tc : Thread Cert.AdamModRefIdeal.nD Cert.AdamModRefIdeal.τ).loc Cert.AdamModRefIdeal.main_arg0)
      ∧ r.2.mem ((c.tc : Thread Cert.AdamModRefIdeal.nD Cert.AdamModRefIdeal.τ).loc Cert.AdamModRefIdeal.main_arg1) = m ((c.tc : Thread Cert.AdamModRefIdeal.nD Cert.AdamModRefIdeal.τ).loc Cert.AdamModRefIdeal.main_arg1)
      ∧ r.2.mem ((c.tc : Thread Cert.AdamModRefIdeal.nD Cert.AdamModRefIdeal.τ).loc Cert.AdamModRefIdeal.main_arg2) = m ((c.tc : Thread Cert.AdamModRefIdeal.nD Cert.AdamModRefIdeal.τ).loc Cert.AdamModRefIdeal.main_arg2)
      ∧ r.2.mem ((c.tc : Thread Cert.AdamModRefIdeal.nD Cert.AdamModRefIdeal.τ).loc Cert.AdamModRefIdeal.main_arg3) = m ((c.tc : Thread Cert.AdamModRefIdeal.nD Cert.AdamModRefIdeal.τ).loc Cert.AdamModRefIdeal.main_arg3))
      ∧ r.2.sem = fun _ => 0)

def quiescent_AdamKvMod [hAdamKvMod : Cert.AdamKvMod.Facts] : Prop :=
  ∀ (m : (ℓ : Loc Cert.AdamKvMod.nD Cert.AdamKvMod.τ Cert.AdamKvMod.sig) → Buf (Elt Bits) ℓ) (g : Dev Cert.AdamKvMod.nD → PrngReg), Pre_AdamKvMod m →
    θ_run (Cert.AdamKvMod.defs (F := Bits)) (onTc (τ := Cert.AdamKvMod.τ) (Cert.AdamKvMod.main (F := Bits))) ⟨m, fun _ => 0, g⟩ (fun r => (∀ c : Dev Cert.AdamKvMod.nD,
      r.2.mem ((c.tc : Thread Cert.AdamKvMod.nD Cert.AdamKvMod.τ).loc Cert.AdamKvMod.main_arg0) = m ((c.tc : Thread Cert.AdamKvMod.nD Cert.AdamKvMod.τ).loc Cert.AdamKvMod.main_arg0)
      ∧ r.2.mem ((c.tc : Thread Cert.AdamKvMod.nD Cert.AdamKvMod.τ).loc Cert.AdamKvMod.main_arg1) = m ((c.tc : Thread Cert.AdamKvMod.nD Cert.AdamKvMod.τ).loc Cert.AdamKvMod.main_arg1)
      ∧ r.2.mem ((c.tc : Thread Cert.AdamKvMod.nD Cert.AdamKvMod.τ).loc Cert.AdamKvMod.main_arg2) = m ((c.tc : Thread Cert.AdamKvMod.nD Cert.AdamKvMod.τ).loc Cert.AdamKvMod.main_arg2)
      ∧ r.2.mem ((c.tc : Thread Cert.AdamKvMod.nD Cert.AdamKvMod.τ).loc Cert.AdamKvMod.main_arg3) = m ((c.tc : Thread Cert.AdamKvMod.nD Cert.AdamKvMod.τ).loc Cert.AdamKvMod.main_arg3))
      ∧ r.2.sem = fun _ => 0)

def quiescent_AdamKvModIdeal [hAdamKvModIdeal : Cert.AdamKvModIdeal.Facts] : Prop :=
  ∀ (m : (ℓ : Loc Cert.AdamKvModIdeal.nD Cert.AdamKvModIdeal.τ Cert.AdamKvModIdeal.sig) → Buf (Elt Ideal) ℓ) (g : Dev Cert.AdamKvModIdeal.nD → PrngReg), Pre_AdamKvModIdeal m →
    θ_run (Cert.AdamKvModIdeal.defs (F := Ideal)) (onTc (τ := Cert.AdamKvModIdeal.τ) (Cert.AdamKvModIdeal.main (F := Ideal))) ⟨m, fun _ => 0, g⟩ (fun r => (∀ c : Dev Cert.AdamKvModIdeal.nD,
      r.2.mem ((c.tc : Thread Cert.AdamKvModIdeal.nD Cert.AdamKvModIdeal.τ).loc Cert.AdamKvModIdeal.main_arg0) = m ((c.tc : Thread Cert.AdamKvModIdeal.nD Cert.AdamKvModIdeal.τ).loc Cert.AdamKvModIdeal.main_arg0)
      ∧ r.2.mem ((c.tc : Thread Cert.AdamKvModIdeal.nD Cert.AdamKvModIdeal.τ).loc Cert.AdamKvModIdeal.main_arg1) = m ((c.tc : Thread Cert.AdamKvModIdeal.nD Cert.AdamKvModIdeal.τ).loc Cert.AdamKvModIdeal.main_arg1)
      ∧ r.2.mem ((c.tc : Thread Cert.AdamKvModIdeal.nD Cert.AdamKvModIdeal.τ).loc Cert.AdamKvModIdeal.main_arg2) = m ((c.tc : Thread Cert.AdamKvModIdeal.nD Cert.AdamKvModIdeal.τ).loc Cert.AdamKvModIdeal.main_arg2)
      ∧ r.2.mem ((c.tc : Thread Cert.AdamKvModIdeal.nD Cert.AdamKvModIdeal.τ).loc Cert.AdamKvModIdeal.main_arg3) = m ((c.tc : Thread Cert.AdamKvModIdeal.nD Cert.AdamKvModIdeal.τ).loc Cert.AdamKvModIdeal.main_arg3))
      ∧ r.2.sem = fun _ => 0)

def quiescent_AdamKvModRefIdeal [hAdamKvModRefIdeal : Cert.AdamKvModRefIdeal.Facts] : Prop :=
  ∀ (m : (ℓ : Loc Cert.AdamKvModRefIdeal.nD Cert.AdamKvModRefIdeal.τ Cert.AdamKvModRefIdeal.sig) → Buf (Elt Ideal) ℓ) (g : Dev Cert.AdamKvModRefIdeal.nD → PrngReg), Pre_AdamKvModRefIdeal m →
    θ_run (Cert.AdamKvModRefIdeal.defs (F := Ideal)) (onTc (τ := Cert.AdamKvModRefIdeal.τ) (Cert.AdamKvModRefIdeal.main (F := Ideal))) ⟨m, fun _ => 0, g⟩ (fun r => (∀ c : Dev Cert.AdamKvModRefIdeal.nD,
      r.2.mem ((c.tc : Thread Cert.AdamKvModRefIdeal.nD Cert.AdamKvModRefIdeal.τ).loc Cert.AdamKvModRefIdeal.main_arg0) = m ((c.tc : Thread Cert.AdamKvModRefIdeal.nD Cert.AdamKvModRefIdeal.τ).loc Cert.AdamKvModRefIdeal.main_arg0)
      ∧ r.2.mem ((c.tc : Thread Cert.AdamKvModRefIdeal.nD Cert.AdamKvModRefIdeal.τ).loc Cert.AdamKvModRefIdeal.main_arg1) = m ((c.tc : Thread Cert.AdamKvModRefIdeal.nD Cert.AdamKvModRefIdeal.τ).loc Cert.AdamKvModRefIdeal.main_arg1)
      ∧ r.2.mem ((c.tc : Thread Cert.AdamKvModRefIdeal.nD Cert.AdamKvModRefIdeal.τ).loc Cert.AdamKvModRefIdeal.main_arg2) = m ((c.tc : Thread Cert.AdamKvModRefIdeal.nD Cert.AdamKvModRefIdeal.τ).loc Cert.AdamKvModRefIdeal.main_arg2)
      ∧ r.2.mem ((c.tc : Thread Cert.AdamKvModRefIdeal.nD Cert.AdamKvModRefIdeal.τ).loc Cert.AdamKvModRefIdeal.main_arg3) = m ((c.tc : Thread Cert.AdamKvModRefIdeal.nD Cert.AdamKvModRefIdeal.τ).loc Cert.AdamKvModRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_DownDx_DownDxIdeal : Prop :=
  True

def algebraic_DownDxIdeal_DownDxRefIdeal_pre_all_real [hDownDxIdeal : Cert.DownDxIdeal.Facts] [hDownDxRefIdeal : Cert.DownDxRefIdeal.Facts] [hPre_all_real : Cert.Pre_all_real.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal_all_real m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v1)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v1) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v18) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_GateBwd_GateBwdIdeal : Prop :=
  True

def algebraic_GateBwdIdeal_GateBwdRefIdeal [hGateBwdIdeal : Cert.GateBwdIdeal.Facts] [hGateBwdRefIdeal : Cert.GateBwdRefIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)) (v2 : (c : Dev Cert.GateBwdIdeal.nD) → Buf (Elt Ideal) ((c.tc : Thread Cert.GateBwdIdeal.nD Cert.GateBwdIdeal.τ).loc Cert.GateBwdIdeal.main_v0_2)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_v0_2) = v2 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v16) = v0 c
          ∧ r.2.mem ((c.tc : Thread Cert.GateBwdRefIdeal.nD Cert.GateBwdRefIdeal.τ).loc Cert.GateBwdRefIdeal.main_v15) = v1 c
          ∧ r.2.mem ((c.tc : Thread Cert.GateBwdRefIdeal.nD Cert.GateBwdRefIdeal.τ).loc Cert.GateBwdRefIdeal.main_v13) = v2 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2))

def preserves_GuDx_GuDxIdeal : Prop :=
  True

def algebraic_GuDxIdeal_GuDxRefIdeal [hGuDxIdeal : Cert.GuDxIdeal.Facts] [hGuDxRefIdeal : Cert.GuDxRefIdeal.Facts] : Prop :=
  ∀ (m : (ℓ : Loc Cert.GuDxIdeal.nD Cert.GuDxIdeal.τ Cert.GuDxIdeal.sig) → Buf (Elt Ideal) ℓ) (g : Dev Cert.GuDxIdeal.nD → PrngReg)
    (m' : (ℓ : Loc Cert.GuDxRefIdeal.nD Cert.GuDxRefIdeal.τ Cert.GuDxRefIdeal.sig) → Buf (Elt Ideal) ℓ) (g' : Dev Cert.GuDxRefIdeal.nD → PrngReg), Pre_GuDxIdeal m →
    (∀ c : Dev Cert.GuDxIdeal.nD,
      m' ((c.tc : Thread Cert.GuDxRefIdeal.nD Cert.GuDxRefIdeal.τ).loc Cert.GuDxRefIdeal.main_arg0) = m ((c.tc : Thread Cert.GuDxIdeal.nD Cert.GuDxIdeal.τ).loc Cert.GuDxIdeal.main_arg0)
      ∧ m' ((c.tc : Thread Cert.GuDxRefIdeal.nD Cert.GuDxRefIdeal.τ).loc Cert.GuDxRefIdeal.main_arg1) = m ((c.tc : Thread Cert.GuDxIdeal.nD Cert.GuDxIdeal.τ).loc Cert.GuDxIdeal.main_arg1)
      ∧ m' ((c.tc : Thread Cert.GuDxRefIdeal.nD Cert.GuDxRefIdeal.τ).loc Cert.GuDxRefIdeal.main_arg2) = m ((c.tc : Thread Cert.GuDxIdeal.nD Cert.GuDxIdeal.τ).loc Cert.GuDxIdeal.main_arg2)
      ∧ m' ((c.tc : Thread Cert.GuDxRefIdeal.nD Cert.GuDxRefIdeal.τ).loc Cert.GuDxRefIdeal.main_arg3) = m ((c.tc : Thread Cert.GuDxIdeal.nD Cert.GuDxIdeal.τ).loc Cert.GuDxIdeal.main_arg3)
      ∧ m' ((c.tc : Thread Cert.GuDxRefIdeal.nD Cert.GuDxRefIdeal.τ).loc Cert.GuDxRefIdeal.main_arg4) = m ((c.tc : Thread Cert.GuDxIdeal.nD Cert.GuDxIdeal.τ).loc Cert.GuDxIdeal.main_arg4)
      ∧ m' ((c.tc : Thread Cert.GuDxRefIdeal.nD Cert.GuDxRefIdeal.τ).loc Cert.GuDxRefIdeal.main_arg5) = m ((c.tc : Thread Cert.GuDxIdeal.nD Cert.GuDxIdeal.τ).loc Cert.GuDxIdeal.main_arg5)) →
    ∃ (v0 : (c : Dev Cert.GuDxIdeal.nD) → Buf (Elt Ideal) ((c.tc : Thread Cert.GuDxIdeal.nD Cert.GuDxIdeal.τ).loc Cert.GuDxIdeal.main_v0_0)) (v1 : (c : Dev Cert.GuDxIdeal.nD) → Buf (Elt Ideal) ((c.tc : Thread Cert.GuDxIdeal.nD Cert.GuDxIdeal.τ).loc Cert.GuDxIdeal.main_v0_1)) (v2 : (c : Dev Cert.GuDxIdeal.nD) → Buf (Elt Ideal) ((c.tc : Thread Cert.GuDxIdeal.nD Cert.GuDxIdeal.τ).loc Cert.GuDxIdeal.main_v0_2)) (v3 : (c : Dev Cert.GuDxIdeal.nD) → Buf (Elt Ideal) ((c.tc : Thread Cert.GuDxIdeal.nD Cert.GuDxIdeal.τ).loc Cert.GuDxIdeal.main_v0_3)),
      θ_run (Cert.GuDxIdeal.defs (F := Ideal)) (onTc (τ := Cert.GuDxIdeal.τ) (Cert.GuDxIdeal.main (F := Ideal))) ⟨m, fun _ => 0, g⟩ (fun r => ∀ c : Dev Cert.GuDxIdeal.nD,
          r.2.mem ((c.tc : Thread Cert.GuDxIdeal.nD Cert.GuDxIdeal.τ).loc Cert.GuDxIdeal.main_v0_0) = v0 c
          ∧ r.2.mem ((c.tc : Thread Cert.GuDxIdeal.nD Cert.GuDxIdeal.τ).loc Cert.GuDxIdeal.main_v0_1) = v1 c
          ∧ r.2.mem ((c.tc : Thread Cert.GuDxIdeal.nD Cert.GuDxIdeal.τ).loc Cert.GuDxIdeal.main_v0_2) = v2 c
          ∧ r.2.mem ((c.tc : Thread Cert.GuDxIdeal.nD Cert.GuDxIdeal.τ).loc Cert.GuDxIdeal.main_v0_3) = v3 c
          ∧ r.2.mem ((c.tc : Thread Cert.GuDxIdeal.nD Cert.GuDxIdeal.τ).loc Cert.GuDxIdeal.main_arg0) = m ((c.tc : Thread Cert.GuDxIdeal.nD Cert.GuDxIdeal.τ).loc Cert.GuDxIdeal.main_arg0)
          ∧ r.2.mem ((c.tc : Thread Cert.GuDxIdeal.nD Cert.GuDxIdeal.τ).loc Cert.GuDxIdeal.main_arg1) = m ((c.tc : Thread Cert.GuDxIdeal.nD Cert.GuDxIdeal.τ).loc Cert.GuDxIdeal.main_arg1)
          ∧ r.2.mem ((c.tc : Thread Cert.GuDxIdeal.nD Cert.GuDxIdeal.τ).loc Cert.GuDxIdeal.main_arg2) = m ((c.tc : Thread Cert.GuDxIdeal.nD Cert.GuDxIdeal.τ).loc Cert.GuDxIdeal.main_arg2)
          ∧ r.2.mem ((c.tc : Thread Cert.GuDxIdeal.nD Cert.GuDxIdeal.τ).loc Cert.GuDxIdeal.main_arg3) = m ((c.tc : Thread Cert.GuDxIdeal.nD Cert.GuDxIdeal.τ).loc Cert.GuDxIdeal.main_arg3)
          ∧ r.2.mem ((c.tc : Thread Cert.GuDxIdeal.nD Cert.GuDxIdeal.τ).loc Cert.GuDxIdeal.main_arg4) = m ((c.tc : Thread Cert.GuDxIdeal.nD Cert.GuDxIdeal.τ).loc Cert.GuDxIdeal.main_arg4)
          ∧ r.2.mem ((c.tc : Thread Cert.GuDxIdeal.nD Cert.GuDxIdeal.τ).loc Cert.GuDxIdeal.main_arg5) = m ((c.tc : Thread Cert.GuDxIdeal.nD Cert.GuDxIdeal.τ).loc Cert.GuDxIdeal.main_arg5))
      ∧ θ_run (Cert.GuDxRefIdeal.defs (F := Ideal)) (onTc (τ := Cert.GuDxRefIdeal.τ) (Cert.GuDxRefIdeal.main (F := Ideal))) ⟨m', fun _ => 0, g'⟩ (fun r => ∀ c : Dev Cert.GuDxRefIdeal.nD,
          r.2.mem ((c.tc : Thread Cert.GuDxRefIdeal.nD Cert.GuDxRefIdeal.τ).loc Cert.GuDxRefIdeal.main_v54) = v0 c
          ∧ r.2.mem ((c.tc : Thread Cert.GuDxRefIdeal.nD Cert.GuDxRefIdeal.τ).loc Cert.GuDxRefIdeal.main_v37) = v1 c
          ∧ r.2.mem ((c.tc : Thread Cert.GuDxRefIdeal.nD Cert.GuDxRefIdeal.τ).loc Cert.GuDxRefIdeal.main_v32) = v2 c
          ∧ r.2.mem ((c.tc : Thread Cert.GuDxRefIdeal.nD Cert.GuDxRefIdeal.τ).loc Cert.GuDxRefIdeal.main_v29) = v3 c
          ∧ r.2.mem ((c.tc : Thread Cert.GuDxRefIdeal.nD Cert.GuDxRefIdeal.τ).loc Cert.GuDxRefIdeal.main_arg0) = m' ((c.tc : Thread Cert.GuDxRefIdeal.nD Cert.GuDxRefIdeal.τ).loc Cert.GuDxRefIdeal.main_arg0)
          ∧ r.2.mem ((c.tc : Thread Cert.GuDxRefIdeal.nD Cert.GuDxRefIdeal.τ).loc Cert.GuDxRefIdeal.main_arg1) = m' ((c.tc : Thread Cert.GuDxRefIdeal.nD Cert.GuDxRefIdeal.τ).loc Cert.GuDxRefIdeal.main_arg1)
          ∧ r.2.mem ((c.tc : Thread Cert.GuDxRefIdeal.nD Cert.GuDxRefIdeal.τ).loc Cert.GuDxRefIdeal.main_arg2) = m' ((c.tc : Thread Cert.GuDxRefIdeal.nD Cert.GuDxRefIdeal.τ).loc Cert.GuDxRefIdeal.main_arg2)
          ∧ r.2.mem ((c.tc : Thread Cert.GuDxRefIdeal.nD Cert.GuDxRefIdeal.τ).loc Cert.GuDxRefIdeal.main_arg3) = m' ((c.tc : Thread Cert.GuDxRefIdeal.nD Cert.GuDxRefIdeal.τ).loc Cert.GuDxRefIdeal.main_arg3)
          ∧ r.2.mem ((c.tc : Thread Cert.GuDxRefIdeal.nD Cert.GuDxRefIdeal.τ).loc Cert.GuDxRefIdeal.main_arg4) = m' ((c.tc : Thread Cert.GuDxRefIdeal.nD Cert.GuDxRefIdeal.τ).loc Cert.GuDxRefIdeal.main_arg4)
          ∧ r.2.mem ((c.tc : Thread Cert.GuDxRefIdeal.nD Cert.GuDxRefIdeal.τ).loc Cert.GuDxRefIdeal.main_arg5) = m' ((c.tc : Thread Cert.GuDxRefIdeal.nD Cert.GuDxRefIdeal.τ).loc Cert.GuDxRefIdeal.main_arg5))

def preserves_GuDw_GuDwIdeal : Prop :=
  True

def algebraic_GuDwIdeal_GuDwRefIdeal [hGuDwIdeal : Cert.GuDwIdeal.Facts] [hGuDwRefIdeal : Cert.GuDwRefIdeal.Facts] : Prop :=
  ∀ (m : (ℓ : Loc Cert.GuDwIdeal.nD Cert.GuDwIdeal.τ Cert.GuDwIdeal.sig) → Buf (Elt Ideal) ℓ) (g : Dev Cert.GuDwIdeal.nD → PrngReg)
    (m' : (ℓ : Loc Cert.GuDwRefIdeal.nD Cert.GuDwRefIdeal.τ Cert.GuDwRefIdeal.sig) → Buf (Elt Ideal) ℓ) (g' : Dev Cert.GuDwRefIdeal.nD → PrngReg), Pre_GuDwIdeal m →
    (∀ c : Dev Cert.GuDwIdeal.nD,
      m' ((c.tc : Thread Cert.GuDwRefIdeal.nD Cert.GuDwRefIdeal.τ).loc Cert.GuDwRefIdeal.main_arg0) = m ((c.tc : Thread Cert.GuDwIdeal.nD Cert.GuDwIdeal.τ).loc Cert.GuDwIdeal.main_arg0)
      ∧ m' ((c.tc : Thread Cert.GuDwRefIdeal.nD Cert.GuDwRefIdeal.τ).loc Cert.GuDwRefIdeal.main_arg1) = m ((c.tc : Thread Cert.GuDwIdeal.nD Cert.GuDwIdeal.τ).loc Cert.GuDwIdeal.main_arg1)) →
    ∃ (v0 : (c : Dev Cert.GuDwIdeal.nD) → Buf (Elt Ideal) ((c.tc : Thread Cert.GuDwIdeal.nD Cert.GuDwIdeal.τ).loc Cert.GuDwIdeal.main_v0)),
      θ_run (Cert.GuDwIdeal.defs (F := Ideal)) (onTc (τ := Cert.GuDwIdeal.τ) (Cert.GuDwIdeal.main (F := Ideal))) ⟨m, fun _ => 0, g⟩ (fun r => ∀ c : Dev Cert.GuDwIdeal.nD,
          r.2.mem ((c.tc : Thread Cert.GuDwIdeal.nD Cert.GuDwIdeal.τ).loc Cert.GuDwIdeal.main_v0) = v0 c
          ∧ r.2.mem ((c.tc : Thread Cert.GuDwIdeal.nD Cert.GuDwIdeal.τ).loc Cert.GuDwIdeal.main_arg0) = m ((c.tc : Thread Cert.GuDwIdeal.nD Cert.GuDwIdeal.τ).loc Cert.GuDwIdeal.main_arg0)
          ∧ r.2.mem ((c.tc : Thread Cert.GuDwIdeal.nD Cert.GuDwIdeal.τ).loc Cert.GuDwIdeal.main_arg1) = m ((c.tc : Thread Cert.GuDwIdeal.nD Cert.GuDwIdeal.τ).loc Cert.GuDwIdeal.main_arg1))
      ∧ θ_run (Cert.GuDwRefIdeal.defs (F := Ideal)) (onTc (τ := Cert.GuDwRefIdeal.τ) (Cert.GuDwRefIdeal.main (F := Ideal))) ⟨m', fun _ => 0, g'⟩ (fun r => ∀ c : Dev Cert.GuDwRefIdeal.nD,
          r.2.mem ((c.tc : Thread Cert.GuDwRefIdeal.nD Cert.GuDwRefIdeal.τ).loc Cert.GuDwRefIdeal.main_v8) = v0 c
          ∧ r.2.mem ((c.tc : Thread Cert.GuDwRefIdeal.nD Cert.GuDwRefIdeal.τ).loc Cert.GuDwRefIdeal.main_arg0) = m' ((c.tc : Thread Cert.GuDwRefIdeal.nD Cert.GuDwRefIdeal.τ).loc Cert.GuDwRefIdeal.main_arg0)
          ∧ r.2.mem ((c.tc : Thread Cert.GuDwRefIdeal.nD Cert.GuDwRefIdeal.τ).loc Cert.GuDwRefIdeal.main_arg1) = m' ((c.tc : Thread Cert.GuDwRefIdeal.nD Cert.GuDwRefIdeal.τ).loc Cert.GuDwRefIdeal.main_arg1))

def preserves_MixGateBwd_MixGateBwdIdeal : Prop :=
  True

def algebraic_MixGateBwdIdeal_MixGateBwdRefIdeal [hMixGateBwdIdeal : Cert.MixGateBwdIdeal.Facts] [hMixGateBwdRefIdeal : Cert.MixGateBwdRefIdeal.Facts] : Prop :=
  ∀ (m : (ℓ : Loc Cert.MixGateBwdIdeal.nD Cert.MixGateBwdIdeal.τ Cert.MixGateBwdIdeal.sig) → Buf (Elt Ideal) ℓ) (g : Dev Cert.MixGateBwdIdeal.nD → PrngReg)
    (m' : (ℓ : Loc Cert.MixGateBwdRefIdeal.nD Cert.MixGateBwdRefIdeal.τ Cert.MixGateBwdRefIdeal.sig) → Buf (Elt Ideal) ℓ) (g' : Dev Cert.MixGateBwdRefIdeal.nD → PrngReg), Pre_MixGateBwdIdeal m →
    (∀ c : Dev Cert.MixGateBwdIdeal.nD,
      m' ((c.tc : Thread Cert.MixGateBwdRefIdeal.nD Cert.MixGateBwdRefIdeal.τ).loc Cert.MixGateBwdRefIdeal.main_arg0) = m ((c.tc : Thread Cert.MixGateBwdIdeal.nD Cert.MixGateBwdIdeal.τ).loc Cert.MixGateBwdIdeal.main_arg0)
      ∧ m' ((c.tc : Thread Cert.MixGateBwdRefIdeal.nD Cert.MixGateBwdRefIdeal.τ).loc Cert.MixGateBwdRefIdeal.main_arg1) = m ((c.tc : Thread Cert.MixGateBwdIdeal.nD Cert.MixGateBwdIdeal.τ).loc Cert.MixGateBwdIdeal.main_arg1)
      ∧ m' ((c.tc : Thread Cert.MixGateBwdRefIdeal.nD Cert.MixGateBwdRefIdeal.τ).loc Cert.MixGateBwdRefIdeal.main_arg2) = m ((c.tc : Thread Cert.MixGateBwdIdeal.nD Cert.MixGateBwdIdeal.τ).loc Cert.MixGateBwdIdeal.main_arg2)) →
    ∃ (v0 : (c : Dev Cert.MixGateBwdIdeal.nD) → Buf (Elt Ideal) ((c.tc : Thread Cert.MixGateBwdIdeal.nD Cert.MixGateBwdIdeal.τ).loc Cert.MixGateBwdIdeal.main_v0_0)) (v1 : (c : Dev Cert.MixGateBwdIdeal.nD) → Buf (Elt Ideal) ((c.tc : Thread Cert.MixGateBwdIdeal.nD Cert.MixGateBwdIdeal.τ).loc Cert.MixGateBwdIdeal.main_v0_1)) (v2 : (c : Dev Cert.MixGateBwdIdeal.nD) → Buf (Elt Ideal) ((c.tc : Thread Cert.MixGateBwdIdeal.nD Cert.MixGateBwdIdeal.τ).loc Cert.MixGateBwdIdeal.main_v0_2)),
      θ_run (Cert.MixGateBwdIdeal.defs (F := Ideal)) (onTc (τ := Cert.MixGateBwdIdeal.τ) (Cert.MixGateBwdIdeal.main (F := Ideal))) ⟨m, fun _ => 0, g⟩ (fun r => ∀ c : Dev Cert.MixGateBwdIdeal.nD,
          r.2.mem ((c.tc : Thread Cert.MixGateBwdIdeal.nD Cert.MixGateBwdIdeal.τ).loc Cert.MixGateBwdIdeal.main_v0_0) = v0 c
          ∧ r.2.mem ((c.tc : Thread Cert.MixGateBwdIdeal.nD Cert.MixGateBwdIdeal.τ).loc Cert.MixGateBwdIdeal.main_v0_1) = v1 c
          ∧ r.2.mem ((c.tc : Thread Cert.MixGateBwdIdeal.nD Cert.MixGateBwdIdeal.τ).loc Cert.MixGateBwdIdeal.main_v0_2) = v2 c
          ∧ r.2.mem ((c.tc : Thread Cert.MixGateBwdIdeal.nD Cert.MixGateBwdIdeal.τ).loc Cert.MixGateBwdIdeal.main_arg0) = m ((c.tc : Thread Cert.MixGateBwdIdeal.nD Cert.MixGateBwdIdeal.τ).loc Cert.MixGateBwdIdeal.main_arg0)
          ∧ r.2.mem ((c.tc : Thread Cert.MixGateBwdIdeal.nD Cert.MixGateBwdIdeal.τ).loc Cert.MixGateBwdIdeal.main_arg1) = m ((c.tc : Thread Cert.MixGateBwdIdeal.nD Cert.MixGateBwdIdeal.τ).loc Cert.MixGateBwdIdeal.main_arg1)
          ∧ r.2.mem ((c.tc : Thread Cert.MixGateBwdIdeal.nD Cert.MixGateBwdIdeal.τ).loc Cert.MixGateBwdIdeal.main_arg2) = m ((c.tc : Thread Cert.MixGateBwdIdeal.nD Cert.MixGateBwdIdeal.τ).loc Cert.MixGateBwdIdeal.main_arg2))
      ∧ θ_run (Cert.MixGateBwdRefIdeal.defs (F := Ideal)) (onTc (τ := Cert.MixGateBwdRefIdeal.τ) (Cert.MixGateBwdRefIdeal.main (F := Ideal))) ⟨m', fun _ => 0, g'⟩ (fun r => ∀ c : Dev Cert.MixGateBwdRefIdeal.nD,
          r.2.mem ((c.tc : Thread Cert.MixGateBwdRefIdeal.nD Cert.MixGateBwdRefIdeal.τ).loc Cert.MixGateBwdRefIdeal.main_v12) = v0 c
          ∧ r.2.mem ((c.tc : Thread Cert.MixGateBwdRefIdeal.nD Cert.MixGateBwdRefIdeal.τ).loc Cert.MixGateBwdRefIdeal.main_v9) = v1 c
          ∧ r.2.mem ((c.tc : Thread Cert.MixGateBwdRefIdeal.nD Cert.MixGateBwdRefIdeal.τ).loc Cert.MixGateBwdRefIdeal.main_v11) = v2 c
          ∧ r.2.mem ((c.tc : Thread Cert.MixGateBwdRefIdeal.nD Cert.MixGateBwdRefIdeal.τ).loc Cert.MixGateBwdRefIdeal.main_arg0) = m' ((c.tc : Thread Cert.MixGateBwdRefIdeal.nD Cert.MixGateBwdRefIdeal.τ).loc Cert.MixGateBwdRefIdeal.main_arg0)
          ∧ r.2.mem ((c.tc : Thread Cert.MixGateBwdRefIdeal.nD Cert.MixGateBwdRefIdeal.τ).loc Cert.MixGateBwdRefIdeal.main_arg1) = m' ((c.tc : Thread Cert.MixGateBwdRefIdeal.nD Cert.MixGateBwdRefIdeal.τ).loc Cert.MixGateBwdRefIdeal.main_arg1)
          ∧ r.2.mem ((c.tc : Thread Cert.MixGateBwdRefIdeal.nD Cert.MixGateBwdRefIdeal.τ).loc Cert.MixGateBwdRefIdeal.main_arg2) = m' ((c.tc : Thread Cert.MixGateBwdRefIdeal.nD Cert.MixGateBwdRefIdeal.τ).loc Cert.MixGateBwdRefIdeal.main_arg2))

def preserves_SsmInDx_SsmInDxIdeal : Prop :=
  True

def algebraic_SsmInDxIdeal_SsmInDxRefIdeal [hSsmInDxIdeal : Cert.SsmInDxIdeal.Facts] [hSsmInDxRefIdeal : Cert.SsmInDxRefIdeal.Facts] : Prop :=
  ∀ (m : (ℓ : Loc Cert.SsmInDxIdeal.nD Cert.SsmInDxIdeal.τ Cert.SsmInDxIdeal.sig) → Buf (Elt Ideal) ℓ) (g : Dev Cert.SsmInDxIdeal.nD → PrngReg)
    (m' : (ℓ : Loc Cert.SsmInDxRefIdeal.nD Cert.SsmInDxRefIdeal.τ Cert.SsmInDxRefIdeal.sig) → Buf (Elt Ideal) ℓ) (g' : Dev Cert.SsmInDxRefIdeal.nD → PrngReg), Pre_SsmInDxIdeal m →
    (∀ c : Dev Cert.SsmInDxIdeal.nD,
      m' ((c.tc : Thread Cert.SsmInDxRefIdeal.nD Cert.SsmInDxRefIdeal.τ).loc Cert.SsmInDxRefIdeal.main_arg0) = m ((c.tc : Thread Cert.SsmInDxIdeal.nD Cert.SsmInDxIdeal.τ).loc Cert.SsmInDxIdeal.main_arg0)
      ∧ m' ((c.tc : Thread Cert.SsmInDxRefIdeal.nD Cert.SsmInDxRefIdeal.τ).loc Cert.SsmInDxRefIdeal.main_arg1) = m ((c.tc : Thread Cert.SsmInDxIdeal.nD Cert.SsmInDxIdeal.τ).loc Cert.SsmInDxIdeal.main_arg1)
      ∧ m' ((c.tc : Thread Cert.SsmInDxRefIdeal.nD Cert.SsmInDxRefIdeal.τ).loc Cert.SsmInDxRefIdeal.main_arg2) = m ((c.tc : Thread Cert.SsmInDxIdeal.nD Cert.SsmInDxIdeal.τ).loc Cert.SsmInDxIdeal.main_arg2)
      ∧ m' ((c.tc : Thread Cert.SsmInDxRefIdeal.nD Cert.SsmInDxRefIdeal.τ).loc Cert.SsmInDxRefIdeal.main_arg3) = m ((c.tc : Thread Cert.SsmInDxIdeal.nD Cert.SsmInDxIdeal.τ).loc Cert.SsmInDxIdeal.main_arg3)
      ∧ m' ((c.tc : Thread Cert.SsmInDxRefIdeal.nD Cert.SsmInDxRefIdeal.τ).loc Cert.SsmInDxRefIdeal.main_arg4) = m ((c.tc : Thread Cert.SsmInDxIdeal.nD Cert.SsmInDxIdeal.τ).loc Cert.SsmInDxIdeal.main_arg4)
      ∧ m' ((c.tc : Thread Cert.SsmInDxRefIdeal.nD Cert.SsmInDxRefIdeal.τ).loc Cert.SsmInDxRefIdeal.main_arg5) = m ((c.tc : Thread Cert.SsmInDxIdeal.nD Cert.SsmInDxIdeal.τ).loc Cert.SsmInDxIdeal.main_arg5)) →
    ∃ (v0 : (c : Dev Cert.SsmInDxIdeal.nD) → Buf (Elt Ideal) ((c.tc : Thread Cert.SsmInDxIdeal.nD Cert.SsmInDxIdeal.τ).loc Cert.SsmInDxIdeal.main_v0_0)) (v1 : (c : Dev Cert.SsmInDxIdeal.nD) → Buf (Elt Ideal) ((c.tc : Thread Cert.SsmInDxIdeal.nD Cert.SsmInDxIdeal.τ).loc Cert.SsmInDxIdeal.main_v0_1)) (v2 : (c : Dev Cert.SsmInDxIdeal.nD) → Buf (Elt Ideal) ((c.tc : Thread Cert.SsmInDxIdeal.nD Cert.SsmInDxIdeal.τ).loc Cert.SsmInDxIdeal.main_v0_2)) (v3 : (c : Dev Cert.SsmInDxIdeal.nD) → Buf (Elt Ideal) ((c.tc : Thread Cert.SsmInDxIdeal.nD Cert.SsmInDxIdeal.τ).loc Cert.SsmInDxIdeal.main_v0_3)),
      θ_run (Cert.SsmInDxIdeal.defs (F := Ideal)) (onTc (τ := Cert.SsmInDxIdeal.τ) (Cert.SsmInDxIdeal.main (F := Ideal))) ⟨m, fun _ => 0, g⟩ (fun r => ∀ c : Dev Cert.SsmInDxIdeal.nD,
          r.2.mem ((c.tc : Thread Cert.SsmInDxIdeal.nD Cert.SsmInDxIdeal.τ).loc Cert.SsmInDxIdeal.main_v0_0) = v0 c
          ∧ r.2.mem ((c.tc : Thread Cert.SsmInDxIdeal.nD Cert.SsmInDxIdeal.τ).loc Cert.SsmInDxIdeal.main_v0_1) = v1 c
          ∧ r.2.mem ((c.tc : Thread Cert.SsmInDxIdeal.nD Cert.SsmInDxIdeal.τ).loc Cert.SsmInDxIdeal.main_v0_2) = v2 c
          ∧ r.2.mem ((c.tc : Thread Cert.SsmInDxIdeal.nD Cert.SsmInDxIdeal.τ).loc Cert.SsmInDxIdeal.main_v0_3) = v3 c
          ∧ r.2.mem ((c.tc : Thread Cert.SsmInDxIdeal.nD Cert.SsmInDxIdeal.τ).loc Cert.SsmInDxIdeal.main_arg0) = m ((c.tc : Thread Cert.SsmInDxIdeal.nD Cert.SsmInDxIdeal.τ).loc Cert.SsmInDxIdeal.main_arg0)
          ∧ r.2.mem ((c.tc : Thread Cert.SsmInDxIdeal.nD Cert.SsmInDxIdeal.τ).loc Cert.SsmInDxIdeal.main_arg1) = m ((c.tc : Thread Cert.SsmInDxIdeal.nD Cert.SsmInDxIdeal.τ).loc Cert.SsmInDxIdeal.main_arg1)
          ∧ r.2.mem ((c.tc : Thread Cert.SsmInDxIdeal.nD Cert.SsmInDxIdeal.τ).loc Cert.SsmInDxIdeal.main_arg2) = m ((c.tc : Thread Cert.SsmInDxIdeal.nD Cert.SsmInDxIdeal.τ).loc Cert.SsmInDxIdeal.main_arg2)
          ∧ r.2.mem ((c.tc : Thread Cert.SsmInDxIdeal.nD Cert.SsmInDxIdeal.τ).loc Cert.SsmInDxIdeal.main_arg3) = m ((c.tc : Thread Cert.SsmInDxIdeal.nD Cert.SsmInDxIdeal.τ).loc Cert.SsmInDxIdeal.main_arg3)
          ∧ r.2.mem ((c.tc : Thread Cert.SsmInDxIdeal.nD Cert.SsmInDxIdeal.τ).loc Cert.SsmInDxIdeal.main_arg4) = m ((c.tc : Thread Cert.SsmInDxIdeal.nD Cert.SsmInDxIdeal.τ).loc Cert.SsmInDxIdeal.main_arg4)
          ∧ r.2.mem ((c.tc : Thread Cert.SsmInDxIdeal.nD Cert.SsmInDxIdeal.τ).loc Cert.SsmInDxIdeal.main_arg5) = m ((c.tc : Thread Cert.SsmInDxIdeal.nD Cert.SsmInDxIdeal.τ).loc Cert.SsmInDxIdeal.main_arg5))
      ∧ θ_run (Cert.SsmInDxRefIdeal.defs (F := Ideal)) (onTc (τ := Cert.SsmInDxRefIdeal.τ) (Cert.SsmInDxRefIdeal.main (F := Ideal))) ⟨m', fun _ => 0, g'⟩ (fun r => ∀ c : Dev Cert.SsmInDxRefIdeal.nD,
          r.2.mem ((c.tc : Thread Cert.SsmInDxRefIdeal.nD Cert.SsmInDxRefIdeal.τ).loc Cert.SsmInDxRefIdeal.main_v54) = v0 c
          ∧ r.2.mem ((c.tc : Thread Cert.SsmInDxRefIdeal.nD Cert.SsmInDxRefIdeal.τ).loc Cert.SsmInDxRefIdeal.main_v37) = v1 c
          ∧ r.2.mem ((c.tc : Thread Cert.SsmInDxRefIdeal.nD Cert.SsmInDxRefIdeal.τ).loc Cert.SsmInDxRefIdeal.main_v32) = v2 c
          ∧ r.2.mem ((c.tc : Thread Cert.SsmInDxRefIdeal.nD Cert.SsmInDxRefIdeal.τ).loc Cert.SsmInDxRefIdeal.main_v29) = v3 c
          ∧ r.2.mem ((c.tc : Thread Cert.SsmInDxRefIdeal.nD Cert.SsmInDxRefIdeal.τ).loc Cert.SsmInDxRefIdeal.main_arg0) = m' ((c.tc : Thread Cert.SsmInDxRefIdeal.nD Cert.SsmInDxRefIdeal.τ).loc Cert.SsmInDxRefIdeal.main_arg0)
          ∧ r.2.mem ((c.tc : Thread Cert.SsmInDxRefIdeal.nD Cert.SsmInDxRefIdeal.τ).loc Cert.SsmInDxRefIdeal.main_arg1) = m' ((c.tc : Thread Cert.SsmInDxRefIdeal.nD Cert.SsmInDxRefIdeal.τ).loc Cert.SsmInDxRefIdeal.main_arg1)
          ∧ r.2.mem ((c.tc : Thread Cert.SsmInDxRefIdeal.nD Cert.SsmInDxRefIdeal.τ).loc Cert.SsmInDxRefIdeal.main_arg2) = m' ((c.tc : Thread Cert.SsmInDxRefIdeal.nD Cert.SsmInDxRefIdeal.τ).loc Cert.SsmInDxRefIdeal.main_arg2)
          ∧ r.2.mem ((c.tc : Thread Cert.SsmInDxRefIdeal.nD Cert.SsmInDxRefIdeal.τ).loc Cert.SsmInDxRefIdeal.main_arg3) = m' ((c.tc : Thread Cert.SsmInDxRefIdeal.nD Cert.SsmInDxRefIdeal.τ).loc Cert.SsmInDxRefIdeal.main_arg3)
          ∧ r.2.mem ((c.tc : Thread Cert.SsmInDxRefIdeal.nD Cert.SsmInDxRefIdeal.τ).loc Cert.SsmInDxRefIdeal.main_arg4) = m' ((c.tc : Thread Cert.SsmInDxRefIdeal.nD Cert.SsmInDxRefIdeal.τ).loc Cert.SsmInDxRefIdeal.main_arg4)
          ∧ r.2.mem ((c.tc : Thread Cert.SsmInDxRefIdeal.nD Cert.SsmInDxRefIdeal.τ).loc Cert.SsmInDxRefIdeal.main_arg5) = m' ((c.tc : Thread Cert.SsmInDxRefIdeal.nD Cert.SsmInDxRefIdeal.τ).loc Cert.SsmInDxRefIdeal.main_arg5))

def preserves_SsmInDw_SsmInDwIdeal : Prop :=
  True

def algebraic_SsmInDwIdeal_SsmInDwRefIdeal [hSsmInDwIdeal : Cert.SsmInDwIdeal.Facts] [hSsmInDwRefIdeal : Cert.SsmInDwRefIdeal.Facts] : Prop :=
  ∀ (m : (ℓ : Loc Cert.SsmInDwIdeal.nD Cert.SsmInDwIdeal.τ Cert.SsmInDwIdeal.sig) → Buf (Elt Ideal) ℓ) (g : Dev Cert.SsmInDwIdeal.nD → PrngReg)
    (m' : (ℓ : Loc Cert.SsmInDwRefIdeal.nD Cert.SsmInDwRefIdeal.τ Cert.SsmInDwRefIdeal.sig) → Buf (Elt Ideal) ℓ) (g' : Dev Cert.SsmInDwRefIdeal.nD → PrngReg), Pre_SsmInDwIdeal m →
    (∀ c : Dev Cert.SsmInDwIdeal.nD,
      m' ((c.tc : Thread Cert.SsmInDwRefIdeal.nD Cert.SsmInDwRefIdeal.τ).loc Cert.SsmInDwRefIdeal.main_arg0) = m ((c.tc : Thread Cert.SsmInDwIdeal.nD Cert.SsmInDwIdeal.τ).loc Cert.SsmInDwIdeal.main_arg0)
      ∧ m' ((c.tc : Thread Cert.SsmInDwRefIdeal.nD Cert.SsmInDwRefIdeal.τ).loc Cert.SsmInDwRefIdeal.main_arg1) = m ((c.tc : Thread Cert.SsmInDwIdeal.nD Cert.SsmInDwIdeal.τ).loc Cert.SsmInDwIdeal.main_arg1)) →
    ∃ (v0 : (c : Dev Cert.SsmInDwIdeal.nD) → Buf (Elt Ideal) ((c.tc : Thread Cert.SsmInDwIdeal.nD Cert.SsmInDwIdeal.τ).loc Cert.SsmInDwIdeal.main_v0)),
      θ_run (Cert.SsmInDwIdeal.defs (F := Ideal)) (onTc (τ := Cert.SsmInDwIdeal.τ) (Cert.SsmInDwIdeal.main (F := Ideal))) ⟨m, fun _ => 0, g⟩ (fun r => ∀ c : Dev Cert.SsmInDwIdeal.nD,
          r.2.mem ((c.tc : Thread Cert.SsmInDwIdeal.nD Cert.SsmInDwIdeal.τ).loc Cert.SsmInDwIdeal.main_v0) = v0 c
          ∧ r.2.mem ((c.tc : Thread Cert.SsmInDwIdeal.nD Cert.SsmInDwIdeal.τ).loc Cert.SsmInDwIdeal.main_arg0) = m ((c.tc : Thread Cert.SsmInDwIdeal.nD Cert.SsmInDwIdeal.τ).loc Cert.SsmInDwIdeal.main_arg0)
          ∧ r.2.mem ((c.tc : Thread Cert.SsmInDwIdeal.nD Cert.SsmInDwIdeal.τ).loc Cert.SsmInDwIdeal.main_arg1) = m ((c.tc : Thread Cert.SsmInDwIdeal.nD Cert.SsmInDwIdeal.τ).loc Cert.SsmInDwIdeal.main_arg1))
      ∧ θ_run (Cert.SsmInDwRefIdeal.defs (F := Ideal)) (onTc (τ := Cert.SsmInDwRefIdeal.τ) (Cert.SsmInDwRefIdeal.main (F := Ideal))) ⟨m', fun _ => 0, g'⟩ (fun r => ∀ c : Dev Cert.SsmInDwRefIdeal.nD,
          r.2.mem ((c.tc : Thread Cert.SsmInDwRefIdeal.nD Cert.SsmInDwRefIdeal.τ).loc Cert.SsmInDwRefIdeal.main_v8) = v0 c
          ∧ r.2.mem ((c.tc : Thread Cert.SsmInDwRefIdeal.nD Cert.SsmInDwRefIdeal.τ).loc Cert.SsmInDwRefIdeal.main_arg0) = m' ((c.tc : Thread Cert.SsmInDwRefIdeal.nD Cert.SsmInDwRefIdeal.τ).loc Cert.SsmInDwRefIdeal.main_arg0)
          ∧ r.2.mem ((c.tc : Thread Cert.SsmInDwRefIdeal.nD Cert.SsmInDwRefIdeal.τ).loc Cert.SsmInDwRefIdeal.main_arg1) = m' ((c.tc : Thread Cert.SsmInDwRefIdeal.nD Cert.SsmInDwRefIdeal.τ).loc Cert.SsmInDwRefIdeal.main_arg1))

def preserves_SsmOutDx_SsmOutDxIdeal : Prop :=
  True

def algebraic_SsmOutDxIdeal_SsmOutDxRefIdeal [hSsmOutDxIdeal : Cert.SsmOutDxIdeal.Facts] [hSsmOutDxRefIdeal : Cert.SsmOutDxRefIdeal.Facts] : Prop :=
  ∀ (m : (ℓ : Loc Cert.SsmOutDxIdeal.nD Cert.SsmOutDxIdeal.τ Cert.SsmOutDxIdeal.sig) → Buf (Elt Ideal) ℓ) (g : Dev Cert.SsmOutDxIdeal.nD → PrngReg)
    (m' : (ℓ : Loc Cert.SsmOutDxRefIdeal.nD Cert.SsmOutDxRefIdeal.τ Cert.SsmOutDxRefIdeal.sig) → Buf (Elt Ideal) ℓ) (g' : Dev Cert.SsmOutDxRefIdeal.nD → PrngReg), Pre_SsmOutDxIdeal m →
    (∀ c : Dev Cert.SsmOutDxIdeal.nD,
      m' ((c.tc : Thread Cert.SsmOutDxRefIdeal.nD Cert.SsmOutDxRefIdeal.τ).loc Cert.SsmOutDxRefIdeal.main_arg0) = m ((c.tc : Thread Cert.SsmOutDxIdeal.nD Cert.SsmOutDxIdeal.τ).loc Cert.SsmOutDxIdeal.main_arg0)
      ∧ m' ((c.tc : Thread Cert.SsmOutDxRefIdeal.nD Cert.SsmOutDxRefIdeal.τ).loc Cert.SsmOutDxRefIdeal.main_arg1) = m ((c.tc : Thread Cert.SsmOutDxIdeal.nD Cert.SsmOutDxIdeal.τ).loc Cert.SsmOutDxIdeal.main_arg1)) →
    ∃ (v0 : (c : Dev Cert.SsmOutDxIdeal.nD) → Buf (Elt Ideal) ((c.tc : Thread Cert.SsmOutDxIdeal.nD Cert.SsmOutDxIdeal.τ).loc Cert.SsmOutDxIdeal.main_v0)),
      θ_run (Cert.SsmOutDxIdeal.defs (F := Ideal)) (onTc (τ := Cert.SsmOutDxIdeal.τ) (Cert.SsmOutDxIdeal.main (F := Ideal))) ⟨m, fun _ => 0, g⟩ (fun r => ∀ c : Dev Cert.SsmOutDxIdeal.nD,
          r.2.mem ((c.tc : Thread Cert.SsmOutDxIdeal.nD Cert.SsmOutDxIdeal.τ).loc Cert.SsmOutDxIdeal.main_v0) = v0 c
          ∧ r.2.mem ((c.tc : Thread Cert.SsmOutDxIdeal.nD Cert.SsmOutDxIdeal.τ).loc Cert.SsmOutDxIdeal.main_arg0) = m ((c.tc : Thread Cert.SsmOutDxIdeal.nD Cert.SsmOutDxIdeal.τ).loc Cert.SsmOutDxIdeal.main_arg0)
          ∧ r.2.mem ((c.tc : Thread Cert.SsmOutDxIdeal.nD Cert.SsmOutDxIdeal.τ).loc Cert.SsmOutDxIdeal.main_arg1) = m ((c.tc : Thread Cert.SsmOutDxIdeal.nD Cert.SsmOutDxIdeal.τ).loc Cert.SsmOutDxIdeal.main_arg1))
      ∧ θ_run (Cert.SsmOutDxRefIdeal.defs (F := Ideal)) (onTc (τ := Cert.SsmOutDxRefIdeal.τ) (Cert.SsmOutDxRefIdeal.main (F := Ideal))) ⟨m', fun _ => 0, g'⟩ (fun r => ∀ c : Dev Cert.SsmOutDxRefIdeal.nD,
          r.2.mem ((c.tc : Thread Cert.SsmOutDxRefIdeal.nD Cert.SsmOutDxRefIdeal.τ).loc Cert.SsmOutDxRefIdeal.main_v4) = v0 c
          ∧ r.2.mem ((c.tc : Thread Cert.SsmOutDxRefIdeal.nD Cert.SsmOutDxRefIdeal.τ).loc Cert.SsmOutDxRefIdeal.main_arg0) = m' ((c.tc : Thread Cert.SsmOutDxRefIdeal.nD Cert.SsmOutDxRefIdeal.τ).loc Cert.SsmOutDxRefIdeal.main_arg0)
          ∧ r.2.mem ((c.tc : Thread Cert.SsmOutDxRefIdeal.nD Cert.SsmOutDxRefIdeal.τ).loc Cert.SsmOutDxRefIdeal.main_arg1) = m' ((c.tc : Thread Cert.SsmOutDxRefIdeal.nD Cert.SsmOutDxRefIdeal.τ).loc Cert.SsmOutDxRefIdeal.main_arg1))

def preserves_SsmOutDw_SsmOutDwIdeal : Prop :=
  True

def algebraic_SsmOutDwIdeal_SsmOutDwRefIdeal [hSsmOutDwIdeal : Cert.SsmOutDwIdeal.Facts] [hSsmOutDwRefIdeal : Cert.SsmOutDwRefIdeal.Facts] : Prop :=
  ∀ (m : (ℓ : Loc Cert.SsmOutDwIdeal.nD Cert.SsmOutDwIdeal.τ Cert.SsmOutDwIdeal.sig) → Buf (Elt Ideal) ℓ) (g : Dev Cert.SsmOutDwIdeal.nD → PrngReg)
    (m' : (ℓ : Loc Cert.SsmOutDwRefIdeal.nD Cert.SsmOutDwRefIdeal.τ Cert.SsmOutDwRefIdeal.sig) → Buf (Elt Ideal) ℓ) (g' : Dev Cert.SsmOutDwRefIdeal.nD → PrngReg), Pre_SsmOutDwIdeal m →
    (∀ c : Dev Cert.SsmOutDwIdeal.nD,
      m' ((c.tc : Thread Cert.SsmOutDwRefIdeal.nD Cert.SsmOutDwRefIdeal.τ).loc Cert.SsmOutDwRefIdeal.main_arg0) = m ((c.tc : Thread Cert.SsmOutDwIdeal.nD Cert.SsmOutDwIdeal.τ).loc Cert.SsmOutDwIdeal.main_arg0)
      ∧ m' ((c.tc : Thread Cert.SsmOutDwRefIdeal.nD Cert.SsmOutDwRefIdeal.τ).loc Cert.SsmOutDwRefIdeal.main_arg1) = m ((c.tc : Thread Cert.SsmOutDwIdeal.nD Cert.SsmOutDwIdeal.τ).loc Cert.SsmOutDwIdeal.main_arg1)) →
    ∃ (v0 : (c : Dev Cert.SsmOutDwIdeal.nD) → Buf (Elt Ideal) ((c.tc : Thread Cert.SsmOutDwIdeal.nD Cert.SsmOutDwIdeal.τ).loc Cert.SsmOutDwIdeal.main_v0)),
      θ_run (Cert.SsmOutDwIdeal.defs (F := Ideal)) (onTc (τ := Cert.SsmOutDwIdeal.τ) (Cert.SsmOutDwIdeal.main (F := Ideal))) ⟨m, fun _ => 0, g⟩ (fun r => ∀ c : Dev Cert.SsmOutDwIdeal.nD,
          r.2.mem ((c.tc : Thread Cert.SsmOutDwIdeal.nD Cert.SsmOutDwIdeal.τ).loc Cert.SsmOutDwIdeal.main_v0) = v0 c
          ∧ r.2.mem ((c.tc : Thread Cert.SsmOutDwIdeal.nD Cert.SsmOutDwIdeal.τ).loc Cert.SsmOutDwIdeal.main_arg0) = m ((c.tc : Thread Cert.SsmOutDwIdeal.nD Cert.SsmOutDwIdeal.τ).loc Cert.SsmOutDwIdeal.main_arg0)
          ∧ r.2.mem ((c.tc : Thread Cert.SsmOutDwIdeal.nD Cert.SsmOutDwIdeal.τ).loc Cert.SsmOutDwIdeal.main_arg1) = m ((c.tc : Thread Cert.SsmOutDwIdeal.nD Cert.SsmOutDwIdeal.τ).loc Cert.SsmOutDwIdeal.main_arg1))
      ∧ θ_run (Cert.SsmOutDwRefIdeal.defs (F := Ideal)) (onTc (τ := Cert.SsmOutDwRefIdeal.τ) (Cert.SsmOutDwRefIdeal.main (F := Ideal))) ⟨m', fun _ => 0, g'⟩ (fun r => ∀ c : Dev Cert.SsmOutDwRefIdeal.nD,
          r.2.mem ((c.tc : Thread Cert.SsmOutDwRefIdeal.nD Cert.SsmOutDwRefIdeal.τ).loc Cert.SsmOutDwRefIdeal.main_v6) = v0 c
          ∧ r.2.mem ((c.tc : Thread Cert.SsmOutDwRefIdeal.nD Cert.SsmOutDwRefIdeal.τ).loc Cert.SsmOutDwRefIdeal.main_arg0) = m' ((c.tc : Thread Cert.SsmOutDwRefIdeal.nD Cert.SsmOutDwRefIdeal.τ).loc Cert.SsmOutDwRefIdeal.main_arg0)
          ∧ r.2.mem ((c.tc : Thread Cert.SsmOutDwRefIdeal.nD Cert.SsmOutDwRefIdeal.τ).loc Cert.SsmOutDwRefIdeal.main_arg1) = m' ((c.tc : Thread Cert.SsmOutDwRefIdeal.nD Cert.SsmOutDwRefIdeal.τ).loc Cert.SsmOutDwRefIdeal.main_arg1))

def preserves_GnormBwd_GnormBwdIdeal : Prop :=
  True

def algebraic_GnormBwdIdeal_GnormBwdRefIdeal_pre_gnorm_real [hGnormBwdIdeal : Cert.GnormBwdIdeal.Facts] [hGnormBwdRefIdeal : Cert.GnormBwdRefIdeal.Facts] [hPre_gnorm_real : Cert.Pre_gnorm_real.Facts] : Prop :=
  ∀ (m : (ℓ : Loc Cert.GnormBwdIdeal.nD Cert.GnormBwdIdeal.τ Cert.GnormBwdIdeal.sig) → Buf (Elt Ideal) ℓ) (g : Dev Cert.GnormBwdIdeal.nD → PrngReg)
    (m' : (ℓ : Loc Cert.GnormBwdRefIdeal.nD Cert.GnormBwdRefIdeal.τ Cert.GnormBwdRefIdeal.sig) → Buf (Elt Ideal) ℓ) (g' : Dev Cert.GnormBwdRefIdeal.nD → PrngReg), Pre_GnormBwdIdeal_gnorm_real m →
    (∀ c : Dev Cert.GnormBwdIdeal.nD,
      m' ((c.tc : Thread Cert.GnormBwdRefIdeal.nD Cert.GnormBwdRefIdeal.τ).loc Cert.GnormBwdRefIdeal.main_arg0) = m ((c.tc : Thread Cert.GnormBwdIdeal.nD Cert.GnormBwdIdeal.τ).loc Cert.GnormBwdIdeal.main_arg0)
      ∧ m' ((c.tc : Thread Cert.GnormBwdRefIdeal.nD Cert.GnormBwdRefIdeal.τ).loc Cert.GnormBwdRefIdeal.main_arg1) = m ((c.tc : Thread Cert.GnormBwdIdeal.nD Cert.GnormBwdIdeal.τ).loc Cert.GnormBwdIdeal.main_arg1)
      ∧ m' ((c.tc : Thread Cert.GnormBwdRefIdeal.nD Cert.GnormBwdRefIdeal.τ).loc Cert.GnormBwdRefIdeal.main_arg2) = m ((c.tc : Thread Cert.GnormBwdIdeal.nD Cert.GnormBwdIdeal.τ).loc Cert.GnormBwdIdeal.main_arg2)
      ∧ m' ((c.tc : Thread Cert.GnormBwdRefIdeal.nD Cert.GnormBwdRefIdeal.τ).loc Cert.GnormBwdRefIdeal.main_arg3) = m ((c.tc : Thread Cert.GnormBwdIdeal.nD Cert.GnormBwdIdeal.τ).loc Cert.GnormBwdIdeal.main_arg3)) →
    ∃ (v0 : (c : Dev Cert.GnormBwdIdeal.nD) → Buf (Elt Ideal) ((c.tc : Thread Cert.GnormBwdIdeal.nD Cert.GnormBwdIdeal.τ).loc Cert.GnormBwdIdeal.main_v0_0)) (v1 : (c : Dev Cert.GnormBwdIdeal.nD) → Buf (Elt Ideal) ((c.tc : Thread Cert.GnormBwdIdeal.nD Cert.GnormBwdIdeal.τ).loc Cert.GnormBwdIdeal.main_v0_1)) (v2 : (c : Dev Cert.GnormBwdIdeal.nD) → Buf (Elt Ideal) ((c.tc : Thread Cert.GnormBwdIdeal.nD Cert.GnormBwdIdeal.τ).loc Cert.GnormBwdIdeal.main_v0_2)),
      θ_run (Cert.GnormBwdIdeal.defs (F := Ideal)) (onTc (τ := Cert.GnormBwdIdeal.τ) (Cert.GnormBwdIdeal.main (F := Ideal))) ⟨m, fun _ => 0, g⟩ (fun r => ∀ c : Dev Cert.GnormBwdIdeal.nD,
          r.2.mem ((c.tc : Thread Cert.GnormBwdIdeal.nD Cert.GnormBwdIdeal.τ).loc Cert.GnormBwdIdeal.main_v0_0) = v0 c
          ∧ r.2.mem ((c.tc : Thread Cert.GnormBwdIdeal.nD Cert.GnormBwdIdeal.τ).loc Cert.GnormBwdIdeal.main_v0_1) = v1 c
          ∧ r.2.mem ((c.tc : Thread Cert.GnormBwdIdeal.nD Cert.GnormBwdIdeal.τ).loc Cert.GnormBwdIdeal.main_v0_2) = v2 c
          ∧ r.2.mem ((c.tc : Thread Cert.GnormBwdIdeal.nD Cert.GnormBwdIdeal.τ).loc Cert.GnormBwdIdeal.main_arg0) = m ((c.tc : Thread Cert.GnormBwdIdeal.nD Cert.GnormBwdIdeal.τ).loc Cert.GnormBwdIdeal.main_arg0)
          ∧ r.2.mem ((c.tc : Thread Cert.GnormBwdIdeal.nD Cert.GnormBwdIdeal.τ).loc Cert.GnormBwdIdeal.main_arg1) = m ((c.tc : Thread Cert.GnormBwdIdeal.nD Cert.GnormBwdIdeal.τ).loc Cert.GnormBwdIdeal.main_arg1)
          ∧ r.2.mem ((c.tc : Thread Cert.GnormBwdIdeal.nD Cert.GnormBwdIdeal.τ).loc Cert.GnormBwdIdeal.main_arg2) = m ((c.tc : Thread Cert.GnormBwdIdeal.nD Cert.GnormBwdIdeal.τ).loc Cert.GnormBwdIdeal.main_arg2)
          ∧ r.2.mem ((c.tc : Thread Cert.GnormBwdIdeal.nD Cert.GnormBwdIdeal.τ).loc Cert.GnormBwdIdeal.main_arg3) = m ((c.tc : Thread Cert.GnormBwdIdeal.nD Cert.GnormBwdIdeal.τ).loc Cert.GnormBwdIdeal.main_arg3))
      ∧ θ_run (Cert.GnormBwdRefIdeal.defs (F := Ideal)) (onTc (τ := Cert.GnormBwdRefIdeal.τ) (Cert.GnormBwdRefIdeal.main (F := Ideal))) ⟨m', fun _ => 0, g'⟩ (fun r => ∀ c : Dev Cert.GnormBwdRefIdeal.nD,
          r.2.mem ((c.tc : Thread Cert.GnormBwdRefIdeal.nD Cert.GnormBwdRefIdeal.τ).loc Cert.GnormBwdRefIdeal.main_v42) = v0 c
          ∧ r.2.mem ((c.tc : Thread Cert.GnormBwdRefIdeal.nD Cert.GnormBwdRefIdeal.τ).loc Cert.GnormBwdRefIdeal.main_v43) = v1 c
          ∧ r.2.mem ((c.tc : Thread Cert.GnormBwdRefIdeal.nD Cert.GnormBwdRefIdeal.τ).loc Cert.GnormBwdRefIdeal.main_v22) = v2 c
          ∧ r.2.mem ((c.tc : Thread Cert.GnormBwdRefIdeal.nD Cert.GnormBwdRefIdeal.τ).loc Cert.GnormBwdRefIdeal.main_arg0) = m' ((c.tc : Thread Cert.GnormBwdRefIdeal.nD Cert.GnormBwdRefIdeal.τ).loc Cert.GnormBwdRefIdeal.main_arg0)
          ∧ r.2.mem ((c.tc : Thread Cert.GnormBwdRefIdeal.nD Cert.GnormBwdRefIdeal.τ).loc Cert.GnormBwdRefIdeal.main_arg1) = m' ((c.tc : Thread Cert.GnormBwdRefIdeal.nD Cert.GnormBwdRefIdeal.τ).loc Cert.GnormBwdRefIdeal.main_arg1)
          ∧ r.2.mem ((c.tc : Thread Cert.GnormBwdRefIdeal.nD Cert.GnormBwdRefIdeal.τ).loc Cert.GnormBwdRefIdeal.main_arg2) = m' ((c.tc : Thread Cert.GnormBwdRefIdeal.nD Cert.GnormBwdRefIdeal.τ).loc Cert.GnormBwdRefIdeal.main_arg2)
          ∧ r.2.mem ((c.tc : Thread Cert.GnormBwdRefIdeal.nD Cert.GnormBwdRefIdeal.τ).loc Cert.GnormBwdRefIdeal.main_arg3) = m' ((c.tc : Thread Cert.GnormBwdRefIdeal.nD Cert.GnormBwdRefIdeal.τ).loc Cert.GnormBwdRefIdeal.main_arg3))

def preserves_ConvBwd_ConvBwdIdeal : Prop :=
  True

def algebraic_ConvBwdIdeal_ConvBwdRefIdeal_pre_conv_real [hConvBwdIdeal : Cert.ConvBwdIdeal.Facts] [hConvBwdRefIdeal : Cert.ConvBwdRefIdeal.Facts] [hPre_conv_real : Cert.Pre_conv_real.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal_conv_real m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)) (v2 : (c : Dev Cert.ConvBwdIdeal.nD) → Buf (Elt Ideal) ((c.tc : Thread Cert.ConvBwdIdeal.nD Cert.ConvBwdIdeal.τ).loc Cert.ConvBwdIdeal.main_v0_2)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_v0_2) = v2 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v82) = v0 c
          ∧ r.2.mem ((c.tc : Thread Cert.ConvBwdRefIdeal.nD Cert.ConvBwdRefIdeal.τ).loc Cert.ConvBwdRefIdeal.main_v80) = v1 c
          ∧ r.2.mem ((c.tc : Thread Cert.ConvBwdRefIdeal.nD Cert.ConvBwdRefIdeal.τ).loc Cert.ConvBwdRefIdeal.main_v38) = v2 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3))

def preserves_FinalLoss_FinalLossIdeal : Prop :=
  True

def algebraic_FinalLossIdeal_FinalLossRefIdeal [hFinalLossIdeal : Cert.FinalLossIdeal.Facts] [hFinalLossRefIdeal : Cert.FinalLossRefIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.FinalLossRefIdeal.nD Cert.FinalLossRefIdeal.τ Cert.FinalLossRefIdeal.sig) → Buf (Elt Ideal) ℓ) (g' : Dev Cert.FinalLossRefIdeal.nD → PrngReg), Pre_FinalLossIdeal m →
    (∀ c : Dev Cert.FinalLossIdeal.nD,
      m' ((c.tc : Thread Cert.FinalLossRefIdeal.nD Cert.FinalLossRefIdeal.τ).loc Cert.FinalLossRefIdeal.main_arg0) = m ((c.tc : Thread Cert.FinalLossIdeal.nD Cert.FinalLossIdeal.τ).loc Cert.FinalLossIdeal.main_arg0)
      ∧ m' ((c.tc : Thread Cert.FinalLossRefIdeal.nD Cert.FinalLossRefIdeal.τ).loc Cert.FinalLossRefIdeal.main_arg1) = m ((c.tc : Thread Cert.FinalLossIdeal.nD Cert.FinalLossIdeal.τ).loc Cert.FinalLossIdeal.main_arg1)
      ∧ m' ((c.tc : Thread Cert.FinalLossRefIdeal.nD Cert.FinalLossRefIdeal.τ).loc Cert.FinalLossRefIdeal.main_arg2) = m ((c.tc : Thread Cert.FinalLossIdeal.nD Cert.FinalLossIdeal.τ).loc Cert.FinalLossIdeal.main_arg2)) →
    ∃ (v0 : (c : Dev Cert.FinalLossIdeal.nD) → Buf (Elt Ideal) ((c.tc : Thread Cert.FinalLossIdeal.nD Cert.FinalLossIdeal.τ).loc Cert.FinalLossIdeal.main_v0_0)) (v1 : (c : Dev Cert.FinalLossIdeal.nD) → Buf (Elt Ideal) ((c.tc : Thread Cert.FinalLossIdeal.nD Cert.FinalLossIdeal.τ).loc Cert.FinalLossIdeal.main_v0_1)) (v2 : (c : Dev Cert.FinalLossIdeal.nD) → Buf (Elt Ideal) ((c.tc : Thread Cert.FinalLossIdeal.nD Cert.FinalLossIdeal.τ).loc Cert.FinalLossIdeal.main_v0_2)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v0_0) = v0 c
          ∧ r.2.mem ((c.tc : Thread Cert.FinalLossIdeal.nD Cert.FinalLossIdeal.τ).loc Cert.FinalLossIdeal.main_v0_1) = v1 c
          ∧ r.2.mem ((c.tc : Thread Cert.FinalLossIdeal.nD Cert.FinalLossIdeal.τ).loc Cert.FinalLossIdeal.main_v0_2) = v2 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ θ_run (Cert.FinalLossRefIdeal.defs (F := Ideal)) (onTc (τ := Cert.FinalLossRefIdeal.τ) (Cert.FinalLossRefIdeal.main (F := Ideal))) ⟨m', fun _ => 0, g'⟩ (fun r => ∀ c : Dev Cert.FinalLossRefIdeal.nD,
          r.2.mem ((c.tc : Thread Cert.FinalLossRefIdeal.nD Cert.FinalLossRefIdeal.τ).loc Cert.FinalLossRefIdeal.main_v24) = v0 c
          ∧ r.2.mem ((c.tc : Thread Cert.FinalLossRefIdeal.nD Cert.FinalLossRefIdeal.τ).loc Cert.FinalLossRefIdeal.main_v49) = v1 c
          ∧ r.2.mem ((c.tc : Thread Cert.FinalLossRefIdeal.nD Cert.FinalLossRefIdeal.τ).loc Cert.FinalLossRefIdeal.main_v33) = v2 c
          ∧ r.2.mem ((c.tc : Thread Cert.FinalLossRefIdeal.nD Cert.FinalLossRefIdeal.τ).loc Cert.FinalLossRefIdeal.main_arg0) = m' ((c.tc : Thread Cert.FinalLossRefIdeal.nD Cert.FinalLossRefIdeal.τ).loc Cert.FinalLossRefIdeal.main_arg0)
          ∧ r.2.mem ((c.tc : Thread Cert.FinalLossRefIdeal.nD Cert.FinalLossRefIdeal.τ).loc Cert.FinalLossRefIdeal.main_arg1) = m' ((c.tc : Thread Cert.FinalLossRefIdeal.nD Cert.FinalLossRefIdeal.τ).loc Cert.FinalLossRefIdeal.main_arg1)
          ∧ r.2.mem ((c.tc : Thread Cert.FinalLossRefIdeal.nD Cert.FinalLossRefIdeal.τ).loc Cert.FinalLossRefIdeal.main_arg2) = m' ((c.tc : Thread Cert.FinalLossRefIdeal.nD Cert.FinalLossRefIdeal.τ).loc Cert.FinalLossRefIdeal.main_arg2))

def preserves_NormMod_NormModIdeal : Prop :=
  True

def algebraic_NormModIdeal_NormModRefIdeal [hNormModIdeal : Cert.NormModIdeal.Facts] [hNormModRefIdeal : Cert.NormModRefIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.NormModRefIdeal.nD Cert.NormModRefIdeal.τ Cert.NormModRefIdeal.sig) → Buf (Elt Ideal) ℓ) (g' : Dev Cert.NormModRefIdeal.nD → PrngReg), Pre_NormModIdeal m →
    (∀ c : Dev Cert.NormModIdeal.nD,
      m' ((c.tc : Thread Cert.NormModRefIdeal.nD Cert.NormModRefIdeal.τ).loc Cert.NormModRefIdeal.main_arg0) = m ((c.tc : Thread Cert.NormModIdeal.nD Cert.NormModIdeal.τ).loc Cert.NormModIdeal.main_arg0)
      ∧ m' ((c.tc : Thread Cert.NormModRefIdeal.nD Cert.NormModRefIdeal.τ).loc Cert.NormModRefIdeal.main_arg1) = m ((c.tc : Thread Cert.NormModIdeal.nD Cert.NormModIdeal.τ).loc Cert.NormModIdeal.main_arg1)
      ∧ m' ((c.tc : Thread Cert.NormModRefIdeal.nD Cert.NormModRefIdeal.τ).loc Cert.NormModRefIdeal.main_arg2) = m ((c.tc : Thread Cert.NormModIdeal.nD Cert.NormModIdeal.τ).loc Cert.NormModIdeal.main_arg2)
      ∧ m' ((c.tc : Thread Cert.NormModRefIdeal.nD Cert.NormModRefIdeal.τ).loc Cert.NormModRefIdeal.main_arg3) = m ((c.tc : Thread Cert.NormModIdeal.nD Cert.NormModIdeal.τ).loc Cert.NormModIdeal.main_arg3)) →
    ∃ (v0 : (c : Dev Cert.NormModIdeal.nD) → Buf (Elt Ideal) ((c.tc : Thread Cert.NormModIdeal.nD Cert.NormModIdeal.τ).loc Cert.NormModIdeal.main_v0)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v0) = v0 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
          ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ θ_run (Cert.NormModRefIdeal.defs (F := Ideal)) (onTc (τ := Cert.NormModRefIdeal.τ) (Cert.NormModRefIdeal.main (F := Ideal))) ⟨m', fun _ => 0, g'⟩ (fun r => ∀ c : Dev Cert.NormModRefIdeal.nD,
          r.2.mem ((c.tc : Thread Cert.NormModRefIdeal.nD Cert.NormModRefIdeal.τ).loc Cert.NormModRefIdeal.main_v18) = v0 c
          ∧ r.2.mem ((c.tc : Thread Cert.NormModRefIdeal.nD Cert.NormModRefIdeal.τ).loc Cert.NormModRefIdeal.main_arg0) = m' ((c.tc : Thread Cert.NormModRefIdeal.nD Cert.NormModRefIdeal.τ).loc Cert.NormModRefIdeal.main_arg0)
          ∧ r.2.mem ((c.tc : Thread Cert.NormModRefIdeal.nD Cert.NormModRefIdeal.τ).loc Cert.NormModRefIdeal.main_arg1) = m' ((c.tc : Thread Cert.NormModRefIdeal.nD Cert.NormModRefIdeal.τ).loc Cert.NormModRefIdeal.main_arg1)
          ∧ r.2.mem ((c.tc : Thread Cert.NormModRefIdeal.nD Cert.NormModRefIdeal.τ).loc Cert.NormModRefIdeal.main_arg2) = m' ((c.tc : Thread Cert.NormModRefIdeal.nD Cert.NormModRefIdeal.τ).loc Cert.NormModRefIdeal.main_arg2)
          ∧ r.2.mem ((c.tc : Thread Cert.NormModRefIdeal.nD Cert.NormModRefIdeal.τ).loc Cert.NormModRefIdeal.main_arg3) = m' ((c.tc : Thread Cert.NormModRefIdeal.nD Cert.NormModRefIdeal.τ).loc Cert.NormModRefIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v1_0)) (v1 : (c : Dev Cert.FfnUpIdeal.nD) → Buf (Elt Ideal) ((c.tc : Thread Cert.FfnUpIdeal.nD Cert.FfnUpIdeal.τ).loc Cert.FfnUpIdeal.main_v1_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v1_0) = v0 c
          ∧ r.2.mem ((c.tc : Thread Cert.FfnUpIdeal.nD Cert.FfnUpIdeal.τ).loc Cert.FfnUpIdeal.main_v1_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v4) = v0 c
          ∧ r.2.mem ((c.tc : Thread Cert.FfnUpRefIdeal.nD Cert.FfnUpRefIdeal.τ).loc Cert.FfnUpRefIdeal.main_v11) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v0_0)) (v1 : (c : Dev Cert.FfnDownIdeal.nD) → Buf (Elt Ideal) ((c.tc : Thread Cert.FfnDownIdeal.nD Cert.FfnDownIdeal.τ).loc Cert.FfnDownIdeal.main_v0_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0_0) = v0 c
          ∧ r.2.mem ((c.tc : Thread Cert.FfnDownIdeal.nD Cert.FfnDownIdeal.τ).loc Cert.FfnDownIdeal.main_v0_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_v7) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_SsmIn_SsmInIdeal : Prop :=
  True

def algebraic_SsmInIdeal_SsmInRefIdeal [hSsmInIdeal : Cert.SsmInIdeal.Facts] [hSsmInRefIdeal : Cert.SsmInRefIdeal.Facts] : Prop :=
  ∀ (m : (ℓ : Loc Cert.SsmInIdeal.nD Cert.SsmInIdeal.τ Cert.SsmInIdeal.sig) → Buf (Elt Ideal) ℓ) (g : Dev Cert.SsmInIdeal.nD → PrngReg)
    (m' : (ℓ : Loc Cert.SsmInRefIdeal.nD Cert.SsmInRefIdeal.τ Cert.SsmInRefIdeal.sig) → Buf (Elt Ideal) ℓ) (g' : Dev Cert.SsmInRefIdeal.nD → PrngReg), Pre_SsmInIdeal m →
    (∀ c : Dev Cert.SsmInIdeal.nD,
      m' ((c.tc : Thread Cert.SsmInRefIdeal.nD Cert.SsmInRefIdeal.τ).loc Cert.SsmInRefIdeal.main_arg0) = m ((c.tc : Thread Cert.SsmInIdeal.nD Cert.SsmInIdeal.τ).loc Cert.SsmInIdeal.main_arg0)
      ∧ m' ((c.tc : Thread Cert.SsmInRefIdeal.nD Cert.SsmInRefIdeal.τ).loc Cert.SsmInRefIdeal.main_arg1) = m ((c.tc : Thread Cert.SsmInIdeal.nD Cert.SsmInIdeal.τ).loc Cert.SsmInIdeal.main_arg1)) →
    ∃ (v0 : (c : Dev Cert.SsmInIdeal.nD) → Buf (Elt Ideal) ((c.tc : Thread Cert.SsmInIdeal.nD Cert.SsmInIdeal.τ).loc Cert.SsmInIdeal.main_v0)),
      θ_run (Cert.SsmInIdeal.defs (F := Ideal)) (onTc (τ := Cert.SsmInIdeal.τ) (Cert.SsmInIdeal.main (F := Ideal))) ⟨m, fun _ => 0, g⟩ (fun r => ∀ c : Dev Cert.SsmInIdeal.nD,
          r.2.mem ((c.tc : Thread Cert.SsmInIdeal.nD Cert.SsmInIdeal.τ).loc Cert.SsmInIdeal.main_v0) = v0 c
          ∧ r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
          ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ θ_run (Cert.SsmInRefIdeal.defs (F := Ideal)) (onTc (τ := Cert.SsmInRefIdeal.τ) (Cert.SsmInRefIdeal.main (F := Ideal))) ⟨m', fun _ => 0, g'⟩ (fun r => ∀ c : Dev Cert.SsmInRefIdeal.nD,
          r.2.mem ((c.tc : Thread Cert.SsmInRefIdeal.nD Cert.SsmInRefIdeal.τ).loc Cert.SsmInRefIdeal.main_v3) = v0 c
          ∧ r.2.mem ((c.tc : Thread Cert.SsmInRefIdeal.nD Cert.SsmInRefIdeal.τ).loc Cert.SsmInRefIdeal.main_arg0) = m' ((c.tc : Thread Cert.SsmInRefIdeal.nD Cert.SsmInRefIdeal.τ).loc Cert.SsmInRefIdeal.main_arg0)
          ∧ r.2.mem ((c.tc : Thread Cert.SsmInRefIdeal.nD Cert.SsmInRefIdeal.τ).loc Cert.SsmInRefIdeal.main_arg1) = m' ((c.tc : Thread Cert.SsmInRefIdeal.nD Cert.SsmInRefIdeal.τ).loc Cert.SsmInRefIdeal.main_arg1))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v34) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_GnormFwd_GnormFwdIdeal : Prop :=
  True

def algebraic_GnormFwdIdeal_GnormFwdRefIdeal [hGnormFwdIdeal : Cert.GnormFwdIdeal.Facts] [hGnormFwdRefIdeal : Cert.GnormFwdRefIdeal.Facts] : Prop :=
  ∀ (m : (ℓ : Loc Cert.GnormFwdIdeal.nD Cert.GnormFwdIdeal.τ Cert.GnormFwdIdeal.sig) → Buf (Elt Ideal) ℓ) (g : Dev Cert.GnormFwdIdeal.nD → PrngReg)
    (m' : (ℓ : Loc Cert.GnormFwdRefIdeal.nD Cert.GnormFwdRefIdeal.τ Cert.GnormFwdRefIdeal.sig) → Buf (Elt Ideal) ℓ) (g' : Dev Cert.GnormFwdRefIdeal.nD → PrngReg), Pre_GnormFwdIdeal m →
    (∀ c : Dev Cert.GnormFwdIdeal.nD,
      m' ((c.tc : Thread Cert.GnormFwdRefIdeal.nD Cert.GnormFwdRefIdeal.τ).loc Cert.GnormFwdRefIdeal.main_arg0) = m ((c.tc : Thread Cert.GnormFwdIdeal.nD Cert.GnormFwdIdeal.τ).loc Cert.GnormFwdIdeal.main_arg0)
      ∧ m' ((c.tc : Thread Cert.GnormFwdRefIdeal.nD Cert.GnormFwdRefIdeal.τ).loc Cert.GnormFwdRefIdeal.main_arg1) = m ((c.tc : Thread Cert.GnormFwdIdeal.nD Cert.GnormFwdIdeal.τ).loc Cert.GnormFwdIdeal.main_arg1)
      ∧ m' ((c.tc : Thread Cert.GnormFwdRefIdeal.nD Cert.GnormFwdRefIdeal.τ).loc Cert.GnormFwdRefIdeal.main_arg2) = m ((c.tc : Thread Cert.GnormFwdIdeal.nD Cert.GnormFwdIdeal.τ).loc Cert.GnormFwdIdeal.main_arg2)) →
    ∃ (v0 : (c : Dev Cert.GnormFwdIdeal.nD) → Buf (Elt Ideal) ((c.tc : Thread Cert.GnormFwdIdeal.nD Cert.GnormFwdIdeal.τ).loc Cert.GnormFwdIdeal.main_v0)),
      θ_run (Cert.GnormFwdIdeal.defs (F := Ideal)) (onTc (τ := Cert.GnormFwdIdeal.τ) (Cert.GnormFwdIdeal.main (F := Ideal))) ⟨m, fun _ => 0, g⟩ (fun r => ∀ c : Dev Cert.GnormFwdIdeal.nD,
          r.2.mem ((c.tc : Thread Cert.GnormFwdIdeal.nD Cert.GnormFwdIdeal.τ).loc Cert.GnormFwdIdeal.main_v0) = v0 c
          ∧ r.2.mem ((c.tc : Thread Cert.GnormFwdIdeal.nD Cert.GnormFwdIdeal.τ).loc Cert.GnormFwdIdeal.main_arg0) = m ((c.tc : Thread Cert.GnormFwdIdeal.nD Cert.GnormFwdIdeal.τ).loc Cert.GnormFwdIdeal.main_arg0)
          ∧ r.2.mem ((c.tc : Thread Cert.GnormFwdIdeal.nD Cert.GnormFwdIdeal.τ).loc Cert.GnormFwdIdeal.main_arg1) = m ((c.tc : Thread Cert.GnormFwdIdeal.nD Cert.GnormFwdIdeal.τ).loc Cert.GnormFwdIdeal.main_arg1)
          ∧ r.2.mem ((c.tc : Thread Cert.GnormFwdIdeal.nD Cert.GnormFwdIdeal.τ).loc Cert.GnormFwdIdeal.main_arg2) = m ((c.tc : Thread Cert.GnormFwdIdeal.nD Cert.GnormFwdIdeal.τ).loc Cert.GnormFwdIdeal.main_arg2))
      ∧ θ_run (Cert.GnormFwdRefIdeal.defs (F := Ideal)) (onTc (τ := Cert.GnormFwdRefIdeal.τ) (Cert.GnormFwdRefIdeal.main (F := Ideal))) ⟨m', fun _ => 0, g'⟩ (fun r => ∀ c : Dev Cert.GnormFwdRefIdeal.nD,
          r.2.mem ((c.tc : Thread Cert.GnormFwdRefIdeal.nD Cert.GnormFwdRefIdeal.τ).loc Cert.GnormFwdRefIdeal.main_v17) = v0 c
          ∧ r.2.mem ((c.tc : Thread Cert.GnormFwdRefIdeal.nD Cert.GnormFwdRefIdeal.τ).loc Cert.GnormFwdRefIdeal.main_arg0) = m' ((c.tc : Thread Cert.GnormFwdRefIdeal.nD Cert.GnormFwdRefIdeal.τ).loc Cert.GnormFwdRefIdeal.main_arg0)
          ∧ r.2.mem ((c.tc : Thread Cert.GnormFwdRefIdeal.nD Cert.GnormFwdRefIdeal.τ).loc Cert.GnormFwdRefIdeal.main_arg1) = m' ((c.tc : Thread Cert.GnormFwdRefIdeal.nD Cert.GnormFwdRefIdeal.τ).loc Cert.GnormFwdRefIdeal.main_arg1)
          ∧ r.2.mem ((c.tc : Thread Cert.GnormFwdRefIdeal.nD Cert.GnormFwdRefIdeal.τ).loc Cert.GnormFwdRefIdeal.main_arg2) = m' ((c.tc : Thread Cert.GnormFwdRefIdeal.nD Cert.GnormFwdRefIdeal.τ).loc Cert.GnormFwdRefIdeal.main_arg2))

def preserves_SsmOut_SsmOutIdeal : Prop :=
  True

def algebraic_SsmOutIdeal_SsmOutRefIdeal [hSsmOutIdeal : Cert.SsmOutIdeal.Facts] [hSsmOutRefIdeal : Cert.SsmOutRefIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutRefIdeal.nD Cert.SsmOutRefIdeal.τ Cert.SsmOutRefIdeal.sig) → Buf (Elt Ideal) ℓ) (g' : Dev Cert.SsmOutRefIdeal.nD → PrngReg), Pre_SsmOutIdeal m →
    (∀ c : Dev Cert.SsmOutIdeal.nD,
      m' ((c.tc : Thread Cert.SsmOutRefIdeal.nD Cert.SsmOutRefIdeal.τ).loc Cert.SsmOutRefIdeal.main_arg0) = m ((c.tc : Thread Cert.SsmOutIdeal.nD Cert.SsmOutIdeal.τ).loc Cert.SsmOutIdeal.main_arg0)
      ∧ m' ((c.tc : Thread Cert.SsmOutRefIdeal.nD Cert.SsmOutRefIdeal.τ).loc Cert.SsmOutRefIdeal.main_arg1) = m ((c.tc : Thread Cert.SsmOutIdeal.nD Cert.SsmOutIdeal.τ).loc Cert.SsmOutIdeal.main_arg1)
      ∧ m' ((c.tc : Thread Cert.SsmOutRefIdeal.nD Cert.SsmOutRefIdeal.τ).loc Cert.SsmOutRefIdeal.main_arg2) = m ((c.tc : Thread Cert.SsmOutIdeal.nD Cert.SsmOutIdeal.τ).loc Cert.SsmOutIdeal.main_arg2)
      ∧ m' ((c.tc : Thread Cert.SsmOutRefIdeal.nD Cert.SsmOutRefIdeal.τ).loc Cert.SsmOutRefIdeal.main_arg3) = m ((c.tc : Thread Cert.SsmOutIdeal.nD Cert.SsmOutIdeal.τ).loc Cert.SsmOutIdeal.main_arg3)) →
    ∃ (v0 : (c : Dev Cert.SsmOutIdeal.nD) → Buf (Elt Ideal) ((c.tc : Thread Cert.SsmOutIdeal.nD Cert.SsmOutIdeal.τ).loc Cert.SsmOutIdeal.main_v0_0)) (v1 : (c : Dev Cert.SsmOutIdeal.nD) → Buf (Elt Ideal) ((c.tc : Thread Cert.SsmOutIdeal.nD Cert.SsmOutIdeal.τ).loc Cert.SsmOutIdeal.main_v0_1)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v0_0) = v0 c
          ∧ r.2.mem ((c.tc : Thread Cert.SsmOutIdeal.nD Cert.SsmOutIdeal.τ).loc Cert.SsmOutIdeal.main_v0_1) = v1 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
          ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2)
          ∧ r.2.mem ((c.tc : Thread Cert.SsmOutIdeal.nD Cert.SsmOutIdeal.τ).loc Cert.SsmOutIdeal.main_arg3) = m ((c.tc : Thread Cert.SsmOutIdeal.nD Cert.SsmOutIdeal.τ).loc Cert.SsmOutIdeal.main_arg3))
      ∧ θ_run (Cert.SsmOutRefIdeal.defs (F := Ideal)) (onTc (τ := Cert.SsmOutRefIdeal.τ) (Cert.SsmOutRefIdeal.main (F := Ideal))) ⟨m', fun _ => 0, g'⟩ (fun r => ∀ c : Dev Cert.SsmOutRefIdeal.nD,
          r.2.mem ((c.tc : Thread Cert.SsmOutRefIdeal.nD Cert.SsmOutRefIdeal.τ).loc Cert.SsmOutRefIdeal.main_v2) = v0 c
          ∧ r.2.mem ((c.tc : Thread Cert.SsmOutRefIdeal.nD Cert.SsmOutRefIdeal.τ).loc Cert.SsmOutRefIdeal.main_v5) = v1 c
          ∧ r.2.mem ((c.tc : Thread Cert.SsmOutRefIdeal.nD Cert.SsmOutRefIdeal.τ).loc Cert.SsmOutRefIdeal.main_arg0) = m' ((c.tc : Thread Cert.SsmOutRefIdeal.nD Cert.SsmOutRefIdeal.τ).loc Cert.SsmOutRefIdeal.main_arg0)
          ∧ r.2.mem ((c.tc : Thread Cert.SsmOutRefIdeal.nD Cert.SsmOutRefIdeal.τ).loc Cert.SsmOutRefIdeal.main_arg1) = m' ((c.tc : Thread Cert.SsmOutRefIdeal.nD Cert.SsmOutRefIdeal.τ).loc Cert.SsmOutRefIdeal.main_arg1)
          ∧ r.2.mem ((c.tc : Thread Cert.SsmOutRefIdeal.nD Cert.SsmOutRefIdeal.τ).loc Cert.SsmOutRefIdeal.main_arg2) = m' ((c.tc : Thread Cert.SsmOutRefIdeal.nD Cert.SsmOutRefIdeal.τ).loc Cert.SsmOutRefIdeal.main_arg2)
          ∧ r.2.mem ((c.tc : Thread Cert.SsmOutRefIdeal.nD Cert.SsmOutRefIdeal.τ).loc Cert.SsmOutRefIdeal.main_arg3) = m' ((c.tc : Thread Cert.SsmOutRefIdeal.nD Cert.SsmOutRefIdeal.τ).loc Cert.SsmOutRefIdeal.main_arg3))

def preserves_ModW_ModWIdeal : Prop :=
  True

def algebraic_ModWIdeal_ModWRefIdeal [hModWIdeal : Cert.ModWIdeal.Facts] [hModWRefIdeal : Cert.ModWRefIdeal.Facts] : Prop :=
  ∀ (m : (ℓ : Loc Cert.ModWIdeal.nD Cert.ModWIdeal.τ Cert.ModWIdeal.sig) → Buf (Elt Ideal) ℓ) (g : Dev Cert.ModWIdeal.nD → PrngReg)
    (m' : (ℓ : Loc Cert.ModWRefIdeal.nD Cert.ModWRefIdeal.τ Cert.ModWRefIdeal.sig) → Buf (Elt Ideal) ℓ) (g' : Dev Cert.ModWRefIdeal.nD → PrngReg), Pre_ModWIdeal m →
    (∀ c : Dev Cert.ModWIdeal.nD,
      m' ((c.tc : Thread Cert.ModWRefIdeal.nD Cert.ModWRefIdeal.τ).loc Cert.ModWRefIdeal.main_arg0) = m ((c.tc : Thread Cert.ModWIdeal.nD Cert.ModWIdeal.τ).loc Cert.ModWIdeal.main_arg0)
      ∧ m' ((c.tc : Thread Cert.ModWRefIdeal.nD Cert.ModWRefIdeal.τ).loc Cert.ModWRefIdeal.main_arg1) = m ((c.tc : Thread Cert.ModWIdeal.nD Cert.ModWIdeal.τ).loc Cert.ModWIdeal.main_arg1)) →
    ∃ (v0 : (c : Dev Cert.ModWIdeal.nD) → Buf (Elt Ideal) ((c.tc : Thread Cert.ModWIdeal.nD Cert.ModWIdeal.τ).loc Cert.ModWIdeal.main_v0)),
      θ_run (Cert.ModWIdeal.defs (F := Ideal)) (onTc (τ := Cert.ModWIdeal.τ) (Cert.ModWIdeal.main (F := Ideal))) ⟨m, fun _ => 0, g⟩ (fun r => ∀ c : Dev Cert.ModWIdeal.nD,
          r.2.mem ((c.tc : Thread Cert.ModWIdeal.nD Cert.ModWIdeal.τ).loc Cert.ModWIdeal.main_v0) = v0 c
          ∧ r.2.mem ((c.tc : Thread Cert.ModWIdeal.nD Cert.ModWIdeal.τ).loc Cert.ModWIdeal.main_arg0) = m ((c.tc : Thread Cert.ModWIdeal.nD Cert.ModWIdeal.τ).loc Cert.ModWIdeal.main_arg0)
          ∧ r.2.mem ((c.tc : Thread Cert.ModWIdeal.nD Cert.ModWIdeal.τ).loc Cert.ModWIdeal.main_arg1) = m ((c.tc : Thread Cert.ModWIdeal.nD Cert.ModWIdeal.τ).loc Cert.ModWIdeal.main_arg1))
      ∧ θ_run (Cert.ModWRefIdeal.defs (F := Ideal)) (onTc (τ := Cert.ModWRefIdeal.τ) (Cert.ModWRefIdeal.main (F := Ideal))) ⟨m', fun _ => 0, g'⟩ (fun r => ∀ c : Dev Cert.ModWRefIdeal.nD,
          r.2.mem ((c.tc : Thread Cert.ModWRefIdeal.nD Cert.ModWRefIdeal.τ).loc Cert.ModWRefIdeal.main_v6) = v0 c
          ∧ r.2.mem ((c.tc : Thread Cert.ModWRefIdeal.nD Cert.ModWRefIdeal.τ).loc Cert.ModWRefIdeal.main_arg0) = m' ((c.tc : Thread Cert.ModWRefIdeal.nD Cert.ModWRefIdeal.τ).loc Cert.ModWRefIdeal.main_arg0)
          ∧ r.2.mem ((c.tc : Thread Cert.ModWRefIdeal.nD Cert.ModWRefIdeal.τ).loc Cert.ModWRefIdeal.main_arg1) = m' ((c.tc : Thread Cert.ModWRefIdeal.nD Cert.ModWRefIdeal.τ).loc Cert.ModWRefIdeal.main_arg1))

def preserves_KvModW_KvModWIdeal : Prop :=
  True

def algebraic_KvModWIdeal_KvModWRefIdeal [hKvModWIdeal : Cert.KvModWIdeal.Facts] [hKvModWRefIdeal : Cert.KvModWRefIdeal.Facts] : Prop :=
  ∀ (m : (ℓ : Loc Cert.KvModWIdeal.nD Cert.KvModWIdeal.τ Cert.KvModWIdeal.sig) → Buf (Elt Ideal) ℓ) (g : Dev Cert.KvModWIdeal.nD → PrngReg)
    (m' : (ℓ : Loc Cert.KvModWRefIdeal.nD Cert.KvModWRefIdeal.τ Cert.KvModWRefIdeal.sig) → Buf (Elt Ideal) ℓ) (g' : Dev Cert.KvModWRefIdeal.nD → PrngReg), Pre_KvModWIdeal m →
    (∀ c : Dev Cert.KvModWIdeal.nD,
      m' ((c.tc : Thread Cert.KvModWRefIdeal.nD Cert.KvModWRefIdeal.τ).loc Cert.KvModWRefIdeal.main_arg0) = m ((c.tc : Thread Cert.KvModWIdeal.nD Cert.KvModWIdeal.τ).loc Cert.KvModWIdeal.main_arg0)
      ∧ m' ((c.tc : Thread Cert.KvModWRefIdeal.nD Cert.KvModWRefIdeal.τ).loc Cert.KvModWRefIdeal.main_arg1) = m ((c.tc : Thread Cert.KvModWIdeal.nD Cert.KvModWIdeal.τ).loc Cert.KvModWIdeal.main_arg1)) →
    ∃ (v0 : (c : Dev Cert.KvModWIdeal.nD) → Buf (Elt Ideal) ((c.tc : Thread Cert.KvModWIdeal.nD Cert.KvModWIdeal.τ).loc Cert.KvModWIdeal.main_v0)),
      θ_run (Cert.KvModWIdeal.defs (F := Ideal)) (onTc (τ := Cert.KvModWIdeal.τ) (Cert.KvModWIdeal.main (F := Ideal))) ⟨m, fun _ => 0, g⟩ (fun r => ∀ c : Dev Cert.KvModWIdeal.nD,
          r.2.mem ((c.tc : Thread Cert.KvModWIdeal.nD Cert.KvModWIdeal.τ).loc Cert.KvModWIdeal.main_v0) = v0 c
          ∧ r.2.mem ((c.tc : Thread Cert.KvModWIdeal.nD Cert.KvModWIdeal.τ).loc Cert.KvModWIdeal.main_arg0) = m ((c.tc : Thread Cert.KvModWIdeal.nD Cert.KvModWIdeal.τ).loc Cert.KvModWIdeal.main_arg0)
          ∧ r.2.mem ((c.tc : Thread Cert.KvModWIdeal.nD Cert.KvModWIdeal.τ).loc Cert.KvModWIdeal.main_arg1) = m ((c.tc : Thread Cert.KvModWIdeal.nD Cert.KvModWIdeal.τ).loc Cert.KvModWIdeal.main_arg1))
      ∧ θ_run (Cert.KvModWRefIdeal.defs (F := Ideal)) (onTc (τ := Cert.KvModWRefIdeal.τ) (Cert.KvModWRefIdeal.main (F := Ideal))) ⟨m', fun _ => 0, g'⟩ (fun r => ∀ c : Dev Cert.KvModWRefIdeal.nD,
          r.2.mem ((c.tc : Thread Cert.KvModWRefIdeal.nD Cert.KvModWRefIdeal.τ).loc Cert.KvModWRefIdeal.main_v6) = v0 c
          ∧ r.2.mem ((c.tc : Thread Cert.KvModWRefIdeal.nD Cert.KvModWRefIdeal.τ).loc Cert.KvModWRefIdeal.main_arg0) = m' ((c.tc : Thread Cert.KvModWRefIdeal.nD Cert.KvModWRefIdeal.τ).loc Cert.KvModWRefIdeal.main_arg0)
          ∧ r.2.mem ((c.tc : Thread Cert.KvModWRefIdeal.nD Cert.KvModWRefIdeal.τ).loc Cert.KvModWRefIdeal.main_arg1) = m' ((c.tc : Thread Cert.KvModWRefIdeal.nD Cert.KvModWRefIdeal.τ).loc Cert.KvModWRefIdeal.main_arg1))

def preserves_SmallSum_SmallSumIdeal : Prop :=
  True

def algebraic_SmallSumIdeal_SmallSumRefIdeal [hSmallSumIdeal : Cert.SmallSumIdeal.Facts] [hSmallSumRefIdeal : Cert.SmallSumRefIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumRefIdeal.nD Cert.SmallSumRefIdeal.τ Cert.SmallSumRefIdeal.sig) → Buf (Elt Ideal) ℓ) (g' : Dev Cert.SmallSumRefIdeal.nD → PrngReg), Pre_SmallSumIdeal m →
    (∀ c : Dev Cert.SmallSumIdeal.nD,
      m' ((c.tc : Thread Cert.SmallSumRefIdeal.nD Cert.SmallSumRefIdeal.τ).loc Cert.SmallSumRefIdeal.main_arg0) = m ((c.tc : Thread Cert.SmallSumIdeal.nD Cert.SmallSumIdeal.τ).loc Cert.SmallSumIdeal.main_arg0)) →
    ∃ (v0 : (c : Dev Cert.SmallSumIdeal.nD) → Buf (Elt Ideal) ((c.tc : Thread Cert.SmallSumIdeal.nD Cert.SmallSumIdeal.τ).loc Cert.SmallSumIdeal.main_v0)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v0) = v0 c
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ θ_run (Cert.SmallSumRefIdeal.defs (F := Ideal)) (onTc (τ := Cert.SmallSumRefIdeal.τ) (Cert.SmallSumRefIdeal.main (F := Ideal))) ⟨m', fun _ => 0, g'⟩ (fun r => ∀ c : Dev Cert.SmallSumRefIdeal.nD,
          r.2.mem ((c.tc : Thread Cert.SmallSumRefIdeal.nD Cert.SmallSumRefIdeal.τ).loc Cert.SmallSumRefIdeal.main_v0) = v0 c
          ∧ r.2.mem ((c.tc : Thread Cert.SmallSumRefIdeal.nD Cert.SmallSumRefIdeal.τ).loc Cert.SmallSumRefIdeal.main_arg0) = m' ((c.tc : Thread Cert.SmallSumRefIdeal.nD Cert.SmallSumRefIdeal.τ).loc Cert.SmallSumRefIdeal.main_arg0))

def preserves_GradGu_GradGuIdeal : Prop :=
  True

def algebraic_GradGuIdeal_GradGuRefIdeal [hGradGuIdeal : Cert.GradGuIdeal.Facts] [hGradGuRefIdeal : Cert.GradGuRefIdeal.Facts] : Prop :=
  ∀ (m : (ℓ : Loc Cert.GradGuIdeal.nD Cert.GradGuIdeal.τ Cert.GradGuIdeal.sig) → Buf (Elt Ideal) ℓ) (g : Dev Cert.GradGuIdeal.nD → PrngReg)
    (m' : (ℓ : Loc Cert.GradGuRefIdeal.nD Cert.GradGuRefIdeal.τ Cert.GradGuRefIdeal.sig) → Buf (Elt Ideal) ℓ) (g' : Dev Cert.GradGuRefIdeal.nD → PrngReg), Pre_GradGuIdeal m →
    (∀ c : Dev Cert.GradGuIdeal.nD,
      m' ((c.tc : Thread Cert.GradGuRefIdeal.nD Cert.GradGuRefIdeal.τ).loc Cert.GradGuRefIdeal.main_arg0) = m ((c.tc : Thread Cert.GradGuIdeal.nD Cert.GradGuIdeal.τ).loc Cert.GradGuIdeal.main_arg0)
      ∧ m' ((c.tc : Thread Cert.GradGuRefIdeal.nD Cert.GradGuRefIdeal.τ).loc Cert.GradGuRefIdeal.main_arg1) = m ((c.tc : Thread Cert.GradGuIdeal.nD Cert.GradGuIdeal.τ).loc Cert.GradGuIdeal.main_arg1)
      ∧ m' ((c.tc : Thread Cert.GradGuRefIdeal.nD Cert.GradGuRefIdeal.τ).loc Cert.GradGuRefIdeal.main_arg2) = m ((c.tc : Thread Cert.GradGuIdeal.nD Cert.GradGuIdeal.τ).loc Cert.GradGuIdeal.main_arg2)
      ∧ m' ((c.tc : Thread Cert.GradGuRefIdeal.nD Cert.GradGuRefIdeal.τ).loc Cert.GradGuRefIdeal.main_arg3) = m ((c.tc : Thread Cert.GradGuIdeal.nD Cert.GradGuIdeal.τ).loc Cert.GradGuIdeal.main_arg3)) →
    ∃ (v0 : (c : Dev Cert.GradGuIdeal.nD) → Buf (Elt Ideal) ((c.tc : Thread Cert.GradGuIdeal.nD Cert.GradGuIdeal.τ).loc Cert.GradGuIdeal.main_v0)),
      θ_run (Cert.GradGuIdeal.defs (F := Ideal)) (onTc (τ := Cert.GradGuIdeal.τ) (Cert.GradGuIdeal.main (F := Ideal))) ⟨m, fun _ => 0, g⟩ (fun r => ∀ c : Dev Cert.GradGuIdeal.nD,
          r.2.mem ((c.tc : Thread Cert.GradGuIdeal.nD Cert.GradGuIdeal.τ).loc Cert.GradGuIdeal.main_v0) = v0 c
          ∧ r.2.mem ((c.tc : Thread Cert.GradGuIdeal.nD Cert.GradGuIdeal.τ).loc Cert.GradGuIdeal.main_arg0) = m ((c.tc : Thread Cert.GradGuIdeal.nD Cert.GradGuIdeal.τ).loc Cert.GradGuIdeal.main_arg0)
          ∧ r.2.mem ((c.tc : Thread Cert.GradGuIdeal.nD Cert.GradGuIdeal.τ).loc Cert.GradGuIdeal.main_arg1) = m ((c.tc : Thread Cert.GradGuIdeal.nD Cert.GradGuIdeal.τ).loc Cert.GradGuIdeal.main_arg1)
          ∧ r.2.mem ((c.tc : Thread Cert.GradGuIdeal.nD Cert.GradGuIdeal.τ).loc Cert.GradGuIdeal.main_arg2) = m ((c.tc : Thread Cert.GradGuIdeal.nD Cert.GradGuIdeal.τ).loc Cert.GradGuIdeal.main_arg2)
          ∧ r.2.mem ((c.tc : Thread Cert.GradGuIdeal.nD Cert.GradGuIdeal.τ).loc Cert.GradGuIdeal.main_arg3) = m ((c.tc : Thread Cert.GradGuIdeal.nD Cert.GradGuIdeal.τ).loc Cert.GradGuIdeal.main_arg3))
      ∧ θ_run (Cert.GradGuRefIdeal.defs (F := Ideal)) (onTc (τ := Cert.GradGuRefIdeal.τ) (Cert.GradGuRefIdeal.main (F := Ideal))) ⟨m', fun _ => 0, g'⟩ (fun r => ∀ c : Dev Cert.GradGuRefIdeal.nD,
          r.2.mem ((c.tc : Thread Cert.GradGuRefIdeal.nD Cert.GradGuRefIdeal.τ).loc Cert.GradGuRefIdeal.main_v11) = v0 c
          ∧ r.2.mem ((c.tc : Thread Cert.GradGuRefIdeal.nD Cert.GradGuRefIdeal.τ).loc Cert.GradGuRefIdeal.main_arg0) = m' ((c.tc : Thread Cert.GradGuRefIdeal.nD Cert.GradGuRefIdeal.τ).loc Cert.GradGuRefIdeal.main_arg0)
          ∧ r.2.mem ((c.tc : Thread Cert.GradGuRefIdeal.nD Cert.GradGuRefIdeal.τ).loc Cert.GradGuRefIdeal.main_arg1) = m' ((c.tc : Thread Cert.GradGuRefIdeal.nD Cert.GradGuRefIdeal.τ).loc Cert.GradGuRefIdeal.main_arg1)
          ∧ r.2.mem ((c.tc : Thread Cert.GradGuRefIdeal.nD Cert.GradGuRefIdeal.τ).loc Cert.GradGuRefIdeal.main_arg2) = m' ((c.tc : Thread Cert.GradGuRefIdeal.nD Cert.GradGuRefIdeal.τ).loc Cert.GradGuRefIdeal.main_arg2)
          ∧ r.2.mem ((c.tc : Thread Cert.GradGuRefIdeal.nD Cert.GradGuRefIdeal.τ).loc Cert.GradGuRefIdeal.main_arg3) = m' ((c.tc : Thread Cert.GradGuRefIdeal.nD Cert.GradGuRefIdeal.τ).loc Cert.GradGuRefIdeal.main_arg3))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)
      ∧ m' ((c.tc : Thread Cert.GradDownRefIdeal.nD Cert.GradDownRefIdeal.τ).loc Cert.GradDownRefIdeal.main_arg2) = m ((c.tc : Thread Cert.GradDownIdeal.nD Cert.GradDownIdeal.τ).loc Cert.GradDownIdeal.main_arg2)
      ∧ m' ((c.tc : Thread Cert.GradDownRefIdeal.nD Cert.GradDownRefIdeal.τ).loc Cert.GradDownRefIdeal.main_arg3) = m ((c.tc : Thread Cert.GradDownIdeal.nD Cert.GradDownIdeal.τ).loc Cert.GradDownIdeal.main_arg3)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1)
          ∧ r.2.mem ((c.tc : Thread Cert.GradDownIdeal.nD Cert.GradDownIdeal.τ).loc Cert.GradDownIdeal.main_arg2) = m ((c.tc : Thread Cert.GradDownIdeal.nD Cert.GradDownIdeal.τ).loc Cert.GradDownIdeal.main_arg2)
          ∧ r.2.mem ((c.tc : Thread Cert.GradDownIdeal.nD Cert.GradDownIdeal.τ).loc Cert.GradDownIdeal.main_arg3) = m ((c.tc : Thread Cert.GradDownIdeal.nD Cert.GradDownIdeal.τ).loc Cert.GradDownIdeal.main_arg3))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v11) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1)
          ∧ r.2.mem ((c.tc : Thread Cert.GradDownRefIdeal.nD Cert.GradDownRefIdeal.τ).loc Cert.GradDownRefIdeal.main_arg2) = m' ((c.tc : Thread Cert.GradDownRefIdeal.nD Cert.GradDownRefIdeal.τ).loc Cert.GradDownRefIdeal.main_arg2)
          ∧ r.2.mem ((c.tc : Thread Cert.GradDownRefIdeal.nD Cert.GradDownRefIdeal.τ).loc Cert.GradDownRefIdeal.main_arg3) = m' ((c.tc : Thread Cert.GradDownRefIdeal.nD Cert.GradDownRefIdeal.τ).loc Cert.GradDownRefIdeal.main_arg3))

def preserves_GradSsmIn_GradSsmInIdeal : Prop :=
  True

def algebraic_GradSsmInIdeal_GradSsmInRefIdeal [hGradSsmInIdeal : Cert.GradSsmInIdeal.Facts] [hGradSsmInRefIdeal : Cert.GradSsmInRefIdeal.Facts] : Prop :=
  ∀ (m : (ℓ : Loc Cert.GradSsmInIdeal.nD Cert.GradSsmInIdeal.τ Cert.GradSsmInIdeal.sig) → Buf (Elt Ideal) ℓ) (g : Dev Cert.GradSsmInIdeal.nD → PrngReg)
    (m' : (ℓ : Loc Cert.GradSsmInRefIdeal.nD Cert.GradSsmInRefIdeal.τ Cert.GradSsmInRefIdeal.sig) → Buf (Elt Ideal) ℓ) (g' : Dev Cert.GradSsmInRefIdeal.nD → PrngReg), Pre_GradSsmInIdeal m →
    (∀ c : Dev Cert.GradSsmInIdeal.nD,
      m' ((c.tc : Thread Cert.GradSsmInRefIdeal.nD Cert.GradSsmInRefIdeal.τ).loc Cert.GradSsmInRefIdeal.main_arg0) = m ((c.tc : Thread Cert.GradSsmInIdeal.nD Cert.GradSsmInIdeal.τ).loc Cert.GradSsmInIdeal.main_arg0)
      ∧ m' ((c.tc : Thread Cert.GradSsmInRefIdeal.nD Cert.GradSsmInRefIdeal.τ).loc Cert.GradSsmInRefIdeal.main_arg1) = m ((c.tc : Thread Cert.GradSsmInIdeal.nD Cert.GradSsmInIdeal.τ).loc Cert.GradSsmInIdeal.main_arg1)
      ∧ m' ((c.tc : Thread Cert.GradSsmInRefIdeal.nD Cert.GradSsmInRefIdeal.τ).loc Cert.GradSsmInRefIdeal.main_arg2) = m ((c.tc : Thread Cert.GradSsmInIdeal.nD Cert.GradSsmInIdeal.τ).loc Cert.GradSsmInIdeal.main_arg2)
      ∧ m' ((c.tc : Thread Cert.GradSsmInRefIdeal.nD Cert.GradSsmInRefIdeal.τ).loc Cert.GradSsmInRefIdeal.main_arg3) = m ((c.tc : Thread Cert.GradSsmInIdeal.nD Cert.GradSsmInIdeal.τ).loc Cert.GradSsmInIdeal.main_arg3)) →
    ∃ (v0 : (c : Dev Cert.GradSsmInIdeal.nD) → Buf (Elt Ideal) ((c.tc : Thread Cert.GradSsmInIdeal.nD Cert.GradSsmInIdeal.τ).loc Cert.GradSsmInIdeal.main_v0)),
      θ_run (Cert.GradSsmInIdeal.defs (F := Ideal)) (onTc (τ := Cert.GradSsmInIdeal.τ) (Cert.GradSsmInIdeal.main (F := Ideal))) ⟨m, fun _ => 0, g⟩ (fun r => ∀ c : Dev Cert.GradSsmInIdeal.nD,
          r.2.mem ((c.tc : Thread Cert.GradSsmInIdeal.nD Cert.GradSsmInIdeal.τ).loc Cert.GradSsmInIdeal.main_v0) = v0 c
          ∧ r.2.mem ((c.tc : Thread Cert.GradSsmInIdeal.nD Cert.GradSsmInIdeal.τ).loc Cert.GradSsmInIdeal.main_arg0) = m ((c.tc : Thread Cert.GradSsmInIdeal.nD Cert.GradSsmInIdeal.τ).loc Cert.GradSsmInIdeal.main_arg0)
          ∧ r.2.mem ((c.tc : Thread Cert.GradSsmInIdeal.nD Cert.GradSsmInIdeal.τ).loc Cert.GradSsmInIdeal.main_arg1) = m ((c.tc : Thread Cert.GradSsmInIdeal.nD Cert.GradSsmInIdeal.τ).loc Cert.GradSsmInIdeal.main_arg1)
          ∧ r.2.mem ((c.tc : Thread Cert.GradSsmInIdeal.nD Cert.GradSsmInIdeal.τ).loc Cert.GradSsmInIdeal.main_arg2) = m ((c.tc : Thread Cert.GradSsmInIdeal.nD Cert.GradSsmInIdeal.τ).loc Cert.GradSsmInIdeal.main_arg2)
          ∧ r.2.mem ((c.tc : Thread Cert.GradSsmInIdeal.nD Cert.GradSsmInIdeal.τ).loc Cert.GradSsmInIdeal.main_arg3) = m ((c.tc : Thread Cert.GradSsmInIdeal.nD Cert.GradSsmInIdeal.τ).loc Cert.GradSsmInIdeal.main_arg3))
      ∧ θ_run (Cert.GradSsmInRefIdeal.defs (F := Ideal)) (onTc (τ := Cert.GradSsmInRefIdeal.τ) (Cert.GradSsmInRefIdeal.main (F := Ideal))) ⟨m', fun _ => 0, g'⟩ (fun r => ∀ c : Dev Cert.GradSsmInRefIdeal.nD,
          r.2.mem ((c.tc : Thread Cert.GradSsmInRefIdeal.nD Cert.GradSsmInRefIdeal.τ).loc Cert.GradSsmInRefIdeal.main_v11) = v0 c
          ∧ r.2.mem ((c.tc : Thread Cert.GradSsmInRefIdeal.nD Cert.GradSsmInRefIdeal.τ).loc Cert.GradSsmInRefIdeal.main_arg0) = m' ((c.tc : Thread Cert.GradSsmInRefIdeal.nD Cert.GradSsmInRefIdeal.τ).loc Cert.GradSsmInRefIdeal.main_arg0)
          ∧ r.2.mem ((c.tc : Thread Cert.GradSsmInRefIdeal.nD Cert.GradSsmInRefIdeal.τ).loc Cert.GradSsmInRefIdeal.main_arg1) = m' ((c.tc : Thread Cert.GradSsmInRefIdeal.nD Cert.GradSsmInRefIdeal.τ).loc Cert.GradSsmInRefIdeal.main_arg1)
          ∧ r.2.mem ((c.tc : Thread Cert.GradSsmInRefIdeal.nD Cert.GradSsmInRefIdeal.τ).loc Cert.GradSsmInRefIdeal.main_arg2) = m' ((c.tc : Thread Cert.GradSsmInRefIdeal.nD Cert.GradSsmInRefIdeal.τ).loc Cert.GradSsmInRefIdeal.main_arg2)
          ∧ r.2.mem ((c.tc : Thread Cert.GradSsmInRefIdeal.nD Cert.GradSsmInRefIdeal.τ).loc Cert.GradSsmInRefIdeal.main_arg3) = m' ((c.tc : Thread Cert.GradSsmInRefIdeal.nD Cert.GradSsmInRefIdeal.τ).loc Cert.GradSsmInRefIdeal.main_arg3))

def preserves_GradSsmOut_GradSsmOutIdeal : Prop :=
  True

def algebraic_GradSsmOutIdeal_GradSsmOutRefIdeal [hGradSsmOutIdeal : Cert.GradSsmOutIdeal.Facts] [hGradSsmOutRefIdeal : Cert.GradSsmOutRefIdeal.Facts] : Prop :=
  ∀ (m : (ℓ : Loc Cert.GradSsmOutIdeal.nD Cert.GradSsmOutIdeal.τ Cert.GradSsmOutIdeal.sig) → Buf (Elt Ideal) ℓ) (g : Dev Cert.GradSsmOutIdeal.nD → PrngReg)
    (m' : (ℓ : Loc Cert.GradSsmOutRefIdeal.nD Cert.GradSsmOutRefIdeal.τ Cert.GradSsmOutRefIdeal.sig) → Buf (Elt Ideal) ℓ) (g' : Dev Cert.GradSsmOutRefIdeal.nD → PrngReg), Pre_GradSsmOutIdeal m →
    (∀ c : Dev Cert.GradSsmOutIdeal.nD,
      m' ((c.tc : Thread Cert.GradSsmOutRefIdeal.nD Cert.GradSsmOutRefIdeal.τ).loc Cert.GradSsmOutRefIdeal.main_arg0) = m ((c.tc : Thread Cert.GradSsmOutIdeal.nD Cert.GradSsmOutIdeal.τ).loc Cert.GradSsmOutIdeal.main_arg0)
      ∧ m' ((c.tc : Thread Cert.GradSsmOutRefIdeal.nD Cert.GradSsmOutRefIdeal.τ).loc Cert.GradSsmOutRefIdeal.main_arg1) = m ((c.tc : Thread Cert.GradSsmOutIdeal.nD Cert.GradSsmOutIdeal.τ).loc Cert.GradSsmOutIdeal.main_arg1)
      ∧ m' ((c.tc : Thread Cert.GradSsmOutRefIdeal.nD Cert.GradSsmOutRefIdeal.τ).loc Cert.GradSsmOutRefIdeal.main_arg2) = m ((c.tc : Thread Cert.GradSsmOutIdeal.nD Cert.GradSsmOutIdeal.τ).loc Cert.GradSsmOutIdeal.main_arg2)
      ∧ m' ((c.tc : Thread Cert.GradSsmOutRefIdeal.nD Cert.GradSsmOutRefIdeal.τ).loc Cert.GradSsmOutRefIdeal.main_arg3) = m ((c.tc : Thread Cert.GradSsmOutIdeal.nD Cert.GradSsmOutIdeal.τ).loc Cert.GradSsmOutIdeal.main_arg3)) →
    ∃ (v0 : (c : Dev Cert.GradSsmOutIdeal.nD) → Buf (Elt Ideal) ((c.tc : Thread Cert.GradSsmOutIdeal.nD Cert.GradSsmOutIdeal.τ).loc Cert.GradSsmOutIdeal.main_v0)),
      θ_run (Cert.GradSsmOutIdeal.defs (F := Ideal)) (onTc (τ := Cert.GradSsmOutIdeal.τ) (Cert.GradSsmOutIdeal.main (F := Ideal))) ⟨m, fun _ => 0, g⟩ (fun r => ∀ c : Dev Cert.GradSsmOutIdeal.nD,
          r.2.mem ((c.tc : Thread Cert.GradSsmOutIdeal.nD Cert.GradSsmOutIdeal.τ).loc Cert.GradSsmOutIdeal.main_v0) = v0 c
          ∧ r.2.mem ((c.tc : Thread Cert.GradSsmOutIdeal.nD Cert.GradSsmOutIdeal.τ).loc Cert.GradSsmOutIdeal.main_arg0) = m ((c.tc : Thread Cert.GradSsmOutIdeal.nD Cert.GradSsmOutIdeal.τ).loc Cert.GradSsmOutIdeal.main_arg0)
          ∧ r.2.mem ((c.tc : Thread Cert.GradSsmOutIdeal.nD Cert.GradSsmOutIdeal.τ).loc Cert.GradSsmOutIdeal.main_arg1) = m ((c.tc : Thread Cert.GradSsmOutIdeal.nD Cert.GradSsmOutIdeal.τ).loc Cert.GradSsmOutIdeal.main_arg1)
          ∧ r.2.mem ((c.tc : Thread Cert.GradSsmOutIdeal.nD Cert.GradSsmOutIdeal.τ).loc Cert.GradSsmOutIdeal.main_arg2) = m ((c.tc : Thread Cert.GradSsmOutIdeal.nD Cert.GradSsmOutIdeal.τ).loc Cert.GradSsmOutIdeal.main_arg2)
          ∧ r.2.mem ((c.tc : Thread Cert.GradSsmOutIdeal.nD Cert.GradSsmOutIdeal.τ).loc Cert.GradSsmOutIdeal.main_arg3) = m ((c.tc : Thread Cert.GradSsmOutIdeal.nD Cert.GradSsmOutIdeal.τ).loc Cert.GradSsmOutIdeal.main_arg3))
      ∧ θ_run (Cert.GradSsmOutRefIdeal.defs (F := Ideal)) (onTc (τ := Cert.GradSsmOutRefIdeal.τ) (Cert.GradSsmOutRefIdeal.main (F := Ideal))) ⟨m', fun _ => 0, g'⟩ (fun r => ∀ c : Dev Cert.GradSsmOutRefIdeal.nD,
          r.2.mem ((c.tc : Thread Cert.GradSsmOutRefIdeal.nD Cert.GradSsmOutRefIdeal.τ).loc Cert.GradSsmOutRefIdeal.main_v11) = v0 c
          ∧ r.2.mem ((c.tc : Thread Cert.GradSsmOutRefIdeal.nD Cert.GradSsmOutRefIdeal.τ).loc Cert.GradSsmOutRefIdeal.main_arg0) = m' ((c.tc : Thread Cert.GradSsmOutRefIdeal.nD Cert.GradSsmOutRefIdeal.τ).loc Cert.GradSsmOutRefIdeal.main_arg0)
          ∧ r.2.mem ((c.tc : Thread Cert.GradSsmOutRefIdeal.nD Cert.GradSsmOutRefIdeal.τ).loc Cert.GradSsmOutRefIdeal.main_arg1) = m' ((c.tc : Thread Cert.GradSsmOutRefIdeal.nD Cert.GradSsmOutRefIdeal.τ).loc Cert.GradSsmOutRefIdeal.main_arg1)
          ∧ r.2.mem ((c.tc : Thread Cert.GradSsmOutRefIdeal.nD Cert.GradSsmOutRefIdeal.τ).loc Cert.GradSsmOutRefIdeal.main_arg2) = m' ((c.tc : Thread Cert.GradSsmOutRefIdeal.nD Cert.GradSsmOutRefIdeal.τ).loc Cert.GradSsmOutRefIdeal.main_arg2)
          ∧ r.2.mem ((c.tc : Thread Cert.GradSsmOutRefIdeal.nD Cert.GradSsmOutRefIdeal.τ).loc Cert.GradSsmOutRefIdeal.main_arg3) = m' ((c.tc : Thread Cert.GradSsmOutRefIdeal.nD Cert.GradSsmOutRefIdeal.τ).loc Cert.GradSsmOutRefIdeal.main_arg3))

def preserves_GradKv_GradKvIdeal : Prop :=
  True

def algebraic_GradKvIdeal_GradKvRefIdeal [hGradKvIdeal : Cert.GradKvIdeal.Facts] [hGradKvRefIdeal : Cert.GradKvRefIdeal.Facts] : Prop :=
  ∀ (m : (ℓ : Loc Cert.GradKvIdeal.nD Cert.GradKvIdeal.τ Cert.GradKvIdeal.sig) → Buf (Elt Ideal) ℓ) (g : Dev Cert.GradKvIdeal.nD → PrngReg)
    (m' : (ℓ : Loc Cert.GradKvRefIdeal.nD Cert.GradKvRefIdeal.τ Cert.GradKvRefIdeal.sig) → Buf (Elt Ideal) ℓ) (g' : Dev Cert.GradKvRefIdeal.nD → PrngReg), Pre_GradKvIdeal m →
    (∀ c : Dev Cert.GradKvIdeal.nD,
      m' ((c.tc : Thread Cert.GradKvRefIdeal.nD Cert.GradKvRefIdeal.τ).loc Cert.GradKvRefIdeal.main_arg0) = m ((c.tc : Thread Cert.GradKvIdeal.nD Cert.GradKvIdeal.τ).loc Cert.GradKvIdeal.main_arg0)
      ∧ m' ((c.tc : Thread Cert.GradKvRefIdeal.nD Cert.GradKvRefIdeal.τ).loc Cert.GradKvRefIdeal.main_arg1) = m ((c.tc : Thread Cert.GradKvIdeal.nD Cert.GradKvIdeal.τ).loc Cert.GradKvIdeal.main_arg1)
      ∧ m' ((c.tc : Thread Cert.GradKvRefIdeal.nD Cert.GradKvRefIdeal.τ).loc Cert.GradKvRefIdeal.main_arg2) = m ((c.tc : Thread Cert.GradKvIdeal.nD Cert.GradKvIdeal.τ).loc Cert.GradKvIdeal.main_arg2)
      ∧ m' ((c.tc : Thread Cert.GradKvRefIdeal.nD Cert.GradKvRefIdeal.τ).loc Cert.GradKvRefIdeal.main_arg3) = m ((c.tc : Thread Cert.GradKvIdeal.nD Cert.GradKvIdeal.τ).loc Cert.GradKvIdeal.main_arg3)) →
    ∃ (v0 : (c : Dev Cert.GradKvIdeal.nD) → Buf (Elt Ideal) ((c.tc : Thread Cert.GradKvIdeal.nD Cert.GradKvIdeal.τ).loc Cert.GradKvIdeal.main_v0)),
      θ_run (Cert.GradKvIdeal.defs (F := Ideal)) (onTc (τ := Cert.GradKvIdeal.τ) (Cert.GradKvIdeal.main (F := Ideal))) ⟨m, fun _ => 0, g⟩ (fun r => ∀ c : Dev Cert.GradKvIdeal.nD,
          r.2.mem ((c.tc : Thread Cert.GradKvIdeal.nD Cert.GradKvIdeal.τ).loc Cert.GradKvIdeal.main_v0) = v0 c
          ∧ r.2.mem ((c.tc : Thread Cert.GradKvIdeal.nD Cert.GradKvIdeal.τ).loc Cert.GradKvIdeal.main_arg0) = m ((c.tc : Thread Cert.GradKvIdeal.nD Cert.GradKvIdeal.τ).loc Cert.GradKvIdeal.main_arg0)
          ∧ r.2.mem ((c.tc : Thread Cert.GradKvIdeal.nD Cert.GradKvIdeal.τ).loc Cert.GradKvIdeal.main_arg1) = m ((c.tc : Thread Cert.GradKvIdeal.nD Cert.GradKvIdeal.τ).loc Cert.GradKvIdeal.main_arg1)
          ∧ r.2.mem ((c.tc : Thread Cert.GradKvIdeal.nD Cert.GradKvIdeal.τ).loc Cert.GradKvIdeal.main_arg2) = m ((c.tc : Thread Cert.GradKvIdeal.nD Cert.GradKvIdeal.τ).loc Cert.GradKvIdeal.main_arg2)
          ∧ r.2.mem ((c.tc : Thread Cert.GradKvIdeal.nD Cert.GradKvIdeal.τ).loc Cert.GradKvIdeal.main_arg3) = m ((c.tc : Thread Cert.GradKvIdeal.nD Cert.GradKvIdeal.τ).loc Cert.GradKvIdeal.main_arg3))
      ∧ θ_run (Cert.GradKvRefIdeal.defs (F := Ideal)) (onTc (τ := Cert.GradKvRefIdeal.τ) (Cert.GradKvRefIdeal.main (F := Ideal))) ⟨m', fun _ => 0, g'⟩ (fun r => ∀ c : Dev Cert.GradKvRefIdeal.nD,
          r.2.mem ((c.tc : Thread Cert.GradKvRefIdeal.nD Cert.GradKvRefIdeal.τ).loc Cert.GradKvRefIdeal.main_v11) = v0 c
          ∧ r.2.mem ((c.tc : Thread Cert.GradKvRefIdeal.nD Cert.GradKvRefIdeal.τ).loc Cert.GradKvRefIdeal.main_arg0) = m' ((c.tc : Thread Cert.GradKvRefIdeal.nD Cert.GradKvRefIdeal.τ).loc Cert.GradKvRefIdeal.main_arg0)
          ∧ r.2.mem ((c.tc : Thread Cert.GradKvRefIdeal.nD Cert.GradKvRefIdeal.τ).loc Cert.GradKvRefIdeal.main_arg1) = m' ((c.tc : Thread Cert.GradKvRefIdeal.nD Cert.GradKvRefIdeal.τ).loc Cert.GradKvRefIdeal.main_arg1)
          ∧ r.2.mem ((c.tc : Thread Cert.GradKvRefIdeal.nD Cert.GradKvRefIdeal.τ).loc Cert.GradKvRefIdeal.main_arg2) = m' ((c.tc : Thread Cert.GradKvRefIdeal.nD Cert.GradKvRefIdeal.τ).loc Cert.GradKvRefIdeal.main_arg2)
          ∧ r.2.mem ((c.tc : Thread Cert.GradKvRefIdeal.nD Cert.GradKvRefIdeal.τ).loc Cert.GradKvRefIdeal.main_arg3) = m' ((c.tc : Thread Cert.GradKvRefIdeal.nD Cert.GradKvRefIdeal.τ).loc Cert.GradKvRefIdeal.main_arg3))

def preserves_GradAttn_GradAttnIdeal : Prop :=
  True

def algebraic_GradAttnIdeal_GradAttnRefIdeal [hGradAttnIdeal : Cert.GradAttnIdeal.Facts] [hGradAttnRefIdeal : Cert.GradAttnRefIdeal.Facts] : Prop :=
  ∀ (m : (ℓ : Loc Cert.GradAttnIdeal.nD Cert.GradAttnIdeal.τ Cert.GradAttnIdeal.sig) → Buf (Elt Ideal) ℓ) (g : Dev Cert.GradAttnIdeal.nD → PrngReg)
    (m' : (ℓ : Loc Cert.GradAttnRefIdeal.nD Cert.GradAttnRefIdeal.τ Cert.GradAttnRefIdeal.sig) → Buf (Elt Ideal) ℓ) (g' : Dev Cert.GradAttnRefIdeal.nD → PrngReg), Pre_GradAttnIdeal m →
    (∀ c : Dev Cert.GradAttnIdeal.nD,
      m' ((c.tc : Thread Cert.GradAttnRefIdeal.nD Cert.GradAttnRefIdeal.τ).loc Cert.GradAttnRefIdeal.main_arg0) = m ((c.tc : Thread Cert.GradAttnIdeal.nD Cert.GradAttnIdeal.τ).loc Cert.GradAttnIdeal.main_arg0)
      ∧ m' ((c.tc : Thread Cert.GradAttnRefIdeal.nD Cert.GradAttnRefIdeal.τ).loc Cert.GradAttnRefIdeal.main_arg1) = m ((c.tc : Thread Cert.GradAttnIdeal.nD Cert.GradAttnIdeal.τ).loc Cert.GradAttnIdeal.main_arg1)
      ∧ m' ((c.tc : Thread Cert.GradAttnRefIdeal.nD Cert.GradAttnRefIdeal.τ).loc Cert.GradAttnRefIdeal.main_arg2) = m ((c.tc : Thread Cert.GradAttnIdeal.nD Cert.GradAttnIdeal.τ).loc Cert.GradAttnIdeal.main_arg2)
      ∧ m' ((c.tc : Thread Cert.GradAttnRefIdeal.nD Cert.GradAttnRefIdeal.τ).loc Cert.GradAttnRefIdeal.main_arg3) = m ((c.tc : Thread Cert.GradAttnIdeal.nD Cert.GradAttnIdeal.τ).loc Cert.GradAttnIdeal.main_arg3)) →
    ∃ (v0 : (c : Dev Cert.GradAttnIdeal.nD) → Buf (Elt Ideal) ((c.tc : Thread Cert.GradAttnIdeal.nD Cert.GradAttnIdeal.τ).loc Cert.GradAttnIdeal.main_v0)),
      θ_run (Cert.GradAttnIdeal.defs (F := Ideal)) (onTc (τ := Cert.GradAttnIdeal.τ) (Cert.GradAttnIdeal.main (F := Ideal))) ⟨m, fun _ => 0, g⟩ (fun r => ∀ c : Dev Cert.GradAttnIdeal.nD,
          r.2.mem ((c.tc : Thread Cert.GradAttnIdeal.nD Cert.GradAttnIdeal.τ).loc Cert.GradAttnIdeal.main_v0) = v0 c
          ∧ r.2.mem ((c.tc : Thread Cert.GradAttnIdeal.nD Cert.GradAttnIdeal.τ).loc Cert.GradAttnIdeal.main_arg0) = m ((c.tc : Thread Cert.GradAttnIdeal.nD Cert.GradAttnIdeal.τ).loc Cert.GradAttnIdeal.main_arg0)
          ∧ r.2.mem ((c.tc : Thread Cert.GradAttnIdeal.nD Cert.GradAttnIdeal.τ).loc Cert.GradAttnIdeal.main_arg1) = m ((c.tc : Thread Cert.GradAttnIdeal.nD Cert.GradAttnIdeal.τ).loc Cert.GradAttnIdeal.main_arg1)
          ∧ r.2.mem ((c.tc : Thread Cert.GradAttnIdeal.nD Cert.GradAttnIdeal.τ).loc Cert.GradAttnIdeal.main_arg2) = m ((c.tc : Thread Cert.GradAttnIdeal.nD Cert.GradAttnIdeal.τ).loc Cert.GradAttnIdeal.main_arg2)
          ∧ r.2.mem ((c.tc : Thread Cert.GradAttnIdeal.nD Cert.GradAttnIdeal.τ).loc Cert.GradAttnIdeal.main_arg3) = m ((c.tc : Thread Cert.GradAttnIdeal.nD Cert.GradAttnIdeal.τ).loc Cert.GradAttnIdeal.main_arg3))
      ∧ θ_run (Cert.GradAttnRefIdeal.defs (F := Ideal)) (onTc (τ := Cert.GradAttnRefIdeal.τ) (Cert.GradAttnRefIdeal.main (F := Ideal))) ⟨m', fun _ => 0, g'⟩ (fun r => ∀ c : Dev Cert.GradAttnRefIdeal.nD,
          r.2.mem ((c.tc : Thread Cert.GradAttnRefIdeal.nD Cert.GradAttnRefIdeal.τ).loc Cert.GradAttnRefIdeal.main_v11) = v0 c
          ∧ r.2.mem ((c.tc : Thread Cert.GradAttnRefIdeal.nD Cert.GradAttnRefIdeal.τ).loc Cert.GradAttnRefIdeal.main_arg0) = m' ((c.tc : Thread Cert.GradAttnRefIdeal.nD Cert.GradAttnRefIdeal.τ).loc Cert.GradAttnRefIdeal.main_arg0)
          ∧ r.2.mem ((c.tc : Thread Cert.GradAttnRefIdeal.nD Cert.GradAttnRefIdeal.τ).loc Cert.GradAttnRefIdeal.main_arg1) = m' ((c.tc : Thread Cert.GradAttnRefIdeal.nD Cert.GradAttnRefIdeal.τ).loc Cert.GradAttnRefIdeal.main_arg1)
          ∧ r.2.mem ((c.tc : Thread Cert.GradAttnRefIdeal.nD Cert.GradAttnRefIdeal.τ).loc Cert.GradAttnRefIdeal.main_arg2) = m' ((c.tc : Thread Cert.GradAttnRefIdeal.nD Cert.GradAttnRefIdeal.τ).loc Cert.GradAttnRefIdeal.main_arg2)
          ∧ r.2.mem ((c.tc : Thread Cert.GradAttnRefIdeal.nD Cert.GradAttnRefIdeal.τ).loc Cert.GradAttnRefIdeal.main_arg3) = m' ((c.tc : Thread Cert.GradAttnRefIdeal.nD Cert.GradAttnRefIdeal.τ).loc Cert.GradAttnRefIdeal.main_arg3))

def preserves_AdamGu_AdamGuIdeal : Prop :=
  True

def algebraic_AdamGuIdeal_AdamGuRefIdeal [hAdamGuIdeal : Cert.AdamGuIdeal.Facts] [hAdamGuRefIdeal : Cert.AdamGuRefIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg)
    (m' : (ℓ : Loc Cert.AdamGuRefIdeal.nD Cert.AdamGuRefIdeal.τ Cert.AdamGuRefIdeal.sig) → Buf (Elt Ideal) ℓ) (g' : Dev Cert.AdamGuRefIdeal.nD → PrngReg), Pre_AdamGuIdeal m →
    (∀ c : Dev Cert.AdamGuIdeal.nD,
      m' ((c.tc : Thread Cert.AdamGuRefIdeal.nD Cert.AdamGuRefIdeal.τ).loc Cert.AdamGuRefIdeal.main_arg0) = m ((c.tc : Thread Cert.AdamGuIdeal.nD Cert.AdamGuIdeal.τ).loc Cert.AdamGuIdeal.main_arg0)
      ∧ m' ((c.tc : Thread Cert.AdamGuRefIdeal.nD Cert.AdamGuRefIdeal.τ).loc Cert.AdamGuRefIdeal.main_arg1) = m ((c.tc : Thread Cert.AdamGuIdeal.nD Cert.AdamGuIdeal.τ).loc Cert.AdamGuIdeal.main_arg1)
      ∧ m' ((c.tc : Thread Cert.AdamGuRefIdeal.nD Cert.AdamGuRefIdeal.τ).loc Cert.AdamGuRefIdeal.main_arg2) = m ((c.tc : Thread Cert.AdamGuIdeal.nD Cert.AdamGuIdeal.τ).loc Cert.AdamGuIdeal.main_arg2)
      ∧ m' ((c.tc : Thread Cert.AdamGuRefIdeal.nD Cert.AdamGuRefIdeal.τ).loc Cert.AdamGuRefIdeal.main_arg3) = m ((c.tc : Thread Cert.AdamGuIdeal.nD Cert.AdamGuIdeal.τ).loc Cert.AdamGuIdeal.main_arg3)) →
    ∃ (v0 : (c : Dev Cert.AdamGuIdeal.nD) → Buf (Elt Ideal) ((c.tc : Thread Cert.AdamGuIdeal.nD Cert.AdamGuIdeal.τ).loc Cert.AdamGuIdeal.main_v0_0)) (v1 : (c : Dev Cert.AdamGuIdeal.nD) → Buf (Elt Ideal) ((c.tc : Thread Cert.AdamGuIdeal.nD Cert.AdamGuIdeal.τ).loc Cert.AdamGuIdeal.main_v0_1)) (v2 : (c : Dev Cert.AdamGuIdeal.nD) → Buf (Elt Ideal) ((c.tc : Thread Cert.AdamGuIdeal.nD Cert.AdamGuIdeal.τ).loc Cert.AdamGuIdeal.main_v0_2)),
      θ_run (Cert.AdamGuIdeal.defs (F := Ideal)) (onTc (τ := Cert.AdamGuIdeal.τ) (Cert.AdamGuIdeal.main (F := Ideal))) ⟨m, fun _ => 0, g⟩ (fun r => ∀ c : Dev Cert.AdamGuIdeal.nD,
          r.2.mem ((c.tc : Thread Cert.AdamGuIdeal.nD Cert.AdamGuIdeal.τ).loc Cert.AdamGuIdeal.main_v0_0) = v0 c
          ∧ r.2.mem ((c.tc : Thread Cert.AdamGuIdeal.nD Cert.AdamGuIdeal.τ).loc Cert.AdamGuIdeal.main_v0_1) = v1 c
          ∧ r.2.mem ((c.tc : Thread Cert.AdamGuIdeal.nD Cert.AdamGuIdeal.τ).loc Cert.AdamGuIdeal.main_v0_2) = v2 c
          ∧ r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
          ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
          ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
          ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3))
      ∧ θ_run (Cert.AdamGuRefIdeal.defs (F := Ideal)) (onTc (τ := Cert.AdamGuRefIdeal.τ) (Cert.AdamGuRefIdeal.main (F := Ideal))) ⟨m', fun _ => 0, g'⟩ (fun r => ∀ c : Dev Cert.AdamGuRefIdeal.nD,
          r.2.mem ((c.tc : Thread Cert.AdamGuRefIdeal.nD Cert.AdamGuRefIdeal.τ).loc Cert.AdamGuRefIdeal.main_v23) = v0 c
          ∧ r.2.mem ((c.tc : Thread Cert.AdamGuRefIdeal.nD Cert.AdamGuRefIdeal.τ).loc Cert.AdamGuRefIdeal.main_v4) = v1 c
          ∧ r.2.mem ((c.tc : Thread Cert.AdamGuRefIdeal.nD Cert.AdamGuRefIdeal.τ).loc Cert.AdamGuRefIdeal.main_v10) = v2 c
          ∧ r.2.mem ((c.tc : Thread Cert.AdamGuRefIdeal.nD Cert.AdamGuRefIdeal.τ).loc Cert.AdamGuRefIdeal.main_arg0) = m' ((c.tc : Thread Cert.AdamGuRefIdeal.nD Cert.AdamGuRefIdeal.τ).loc Cert.AdamGuRefIdeal.main_arg0)
          ∧ r.2.mem ((c.tc : Thread Cert.AdamGuRefIdeal.nD Cert.AdamGuRefIdeal.τ).loc Cert.AdamGuRefIdeal.main_arg1) = m' ((c.tc : Thread Cert.AdamGuRefIdeal.nD Cert.AdamGuRefIdeal.τ).loc Cert.AdamGuRefIdeal.main_arg1)
          ∧ r.2.mem ((c.tc : Thread Cert.AdamGuRefIdeal.nD Cert.AdamGuRefIdeal.τ).loc Cert.AdamGuRefIdeal.main_arg2) = m' ((c.tc : Thread Cert.AdamGuRefIdeal.nD Cert.AdamGuRefIdeal.τ).loc Cert.AdamGuRefIdeal.main_arg2)
          ∧ r.2.mem ((c.tc : Thread Cert.AdamGuRefIdeal.nD Cert.AdamGuRefIdeal.τ).loc Cert.AdamGuRefIdeal.main_arg3) = m' ((c.tc : Thread Cert.AdamGuRefIdeal.nD Cert.AdamGuRefIdeal.τ).loc Cert.AdamGuRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSsmIn_AdamSsmInIdeal : Prop :=
  True

def algebraic_AdamSsmInIdeal_AdamSsmInRefIdeal [hAdamSsmInIdeal : Cert.AdamSsmInIdeal.Facts] [hAdamSsmInRefIdeal : Cert.AdamSsmInRefIdeal.Facts] : Prop :=
  ∀ (m : (ℓ : Loc Cert.AdamSsmInIdeal.nD Cert.AdamSsmInIdeal.τ Cert.AdamSsmInIdeal.sig) → Buf (Elt Ideal) ℓ) (g : Dev Cert.AdamSsmInIdeal.nD → PrngReg)
    (m' : (ℓ : Loc Cert.AdamSsmInRefIdeal.nD Cert.AdamSsmInRefIdeal.τ Cert.AdamSsmInRefIdeal.sig) → Buf (Elt Ideal) ℓ) (g' : Dev Cert.AdamSsmInRefIdeal.nD → PrngReg), Pre_AdamSsmInIdeal m →
    (∀ c : Dev Cert.AdamSsmInIdeal.nD,
      m' ((c.tc : Thread Cert.AdamSsmInRefIdeal.nD Cert.AdamSsmInRefIdeal.τ).loc Cert.AdamSsmInRefIdeal.main_arg0) = m ((c.tc : Thread Cert.AdamSsmInIdeal.nD Cert.AdamSsmInIdeal.τ).loc Cert.AdamSsmInIdeal.main_arg0)
      ∧ m' ((c.tc : Thread Cert.AdamSsmInRefIdeal.nD Cert.AdamSsmInRefIdeal.τ).loc Cert.AdamSsmInRefIdeal.main_arg1) = m ((c.tc : Thread Cert.AdamSsmInIdeal.nD Cert.AdamSsmInIdeal.τ).loc Cert.AdamSsmInIdeal.main_arg1)
      ∧ m' ((c.tc : Thread Cert.AdamSsmInRefIdeal.nD Cert.AdamSsmInRefIdeal.τ).loc Cert.AdamSsmInRefIdeal.main_arg2) = m ((c.tc : Thread Cert.AdamSsmInIdeal.nD Cert.AdamSsmInIdeal.τ).loc Cert.AdamSsmInIdeal.main_arg2)
      ∧ m' ((c.tc : Thread Cert.AdamSsmInRefIdeal.nD Cert.AdamSsmInRefIdeal.τ).loc Cert.AdamSsmInRefIdeal.main_arg3) = m ((c.tc : Thread Cert.AdamSsmInIdeal.nD Cert.AdamSsmInIdeal.τ).loc Cert.AdamSsmInIdeal.main_arg3)) →
    ∃ (v0 : (c : Dev Cert.AdamSsmInIdeal.nD) → Buf (Elt Ideal) ((c.tc : Thread Cert.AdamSsmInIdeal.nD Cert.AdamSsmInIdeal.τ).loc Cert.AdamSsmInIdeal.main_v0_0)) (v1 : (c : Dev Cert.AdamSsmInIdeal.nD) → Buf (Elt Ideal) ((c.tc : Thread Cert.AdamSsmInIdeal.nD Cert.AdamSsmInIdeal.τ).loc Cert.AdamSsmInIdeal.main_v0_1)) (v2 : (c : Dev Cert.AdamSsmInIdeal.nD) → Buf (Elt Ideal) ((c.tc : Thread Cert.AdamSsmInIdeal.nD Cert.AdamSsmInIdeal.τ).loc Cert.AdamSsmInIdeal.main_v0_2)),
      θ_run (Cert.AdamSsmInIdeal.defs (F := Ideal)) (onTc (τ := Cert.AdamSsmInIdeal.τ) (Cert.AdamSsmInIdeal.main (F := Ideal))) ⟨m, fun _ => 0, g⟩ (fun r => ∀ c : Dev Cert.AdamSsmInIdeal.nD,
          r.2.mem ((c.tc : Thread Cert.AdamSsmInIdeal.nD Cert.AdamSsmInIdeal.τ).loc Cert.AdamSsmInIdeal.main_v0_0) = v0 c
          ∧ r.2.mem ((c.tc : Thread Cert.AdamSsmInIdeal.nD Cert.AdamSsmInIdeal.τ).loc Cert.AdamSsmInIdeal.main_v0_1) = v1 c
          ∧ r.2.mem ((c.tc : Thread Cert.AdamSsmInIdeal.nD Cert.AdamSsmInIdeal.τ).loc Cert.AdamSsmInIdeal.main_v0_2) = v2 c
          ∧ r.2.mem ((c.tc : Thread Cert.AdamSsmInIdeal.nD Cert.AdamSsmInIdeal.τ).loc Cert.AdamSsmInIdeal.main_arg0) = m ((c.tc : Thread Cert.AdamSsmInIdeal.nD Cert.AdamSsmInIdeal.τ).loc Cert.AdamSsmInIdeal.main_arg0)
          ∧ r.2.mem ((c.tc : Thread Cert.AdamSsmInIdeal.nD Cert.AdamSsmInIdeal.τ).loc Cert.AdamSsmInIdeal.main_arg1) = m ((c.tc : Thread Cert.AdamSsmInIdeal.nD Cert.AdamSsmInIdeal.τ).loc Cert.AdamSsmInIdeal.main_arg1)
          ∧ r.2.mem ((c.tc : Thread Cert.AdamSsmInIdeal.nD Cert.AdamSsmInIdeal.τ).loc Cert.AdamSsmInIdeal.main_arg2) = m ((c.tc : Thread Cert.AdamSsmInIdeal.nD Cert.AdamSsmInIdeal.τ).loc Cert.AdamSsmInIdeal.main_arg2)
          ∧ r.2.mem ((c.tc : Thread Cert.AdamSsmInIdeal.nD Cert.AdamSsmInIdeal.τ).loc Cert.AdamSsmInIdeal.main_arg3) = m ((c.tc : Thread Cert.AdamSsmInIdeal.nD Cert.AdamSsmInIdeal.τ).loc Cert.AdamSsmInIdeal.main_arg3))
      ∧ θ_run (Cert.AdamSsmInRefIdeal.defs (F := Ideal)) (onTc (τ := Cert.AdamSsmInRefIdeal.τ) (Cert.AdamSsmInRefIdeal.main (F := Ideal))) ⟨m', fun _ => 0, g'⟩ (fun r => ∀ c : Dev Cert.AdamSsmInRefIdeal.nD,
          r.2.mem ((c.tc : Thread Cert.AdamSsmInRefIdeal.nD Cert.AdamSsmInRefIdeal.τ).loc Cert.AdamSsmInRefIdeal.main_v23) = v0 c
          ∧ r.2.mem ((c.tc : Thread Cert.AdamSsmInRefIdeal.nD Cert.AdamSsmInRefIdeal.τ).loc Cert.AdamSsmInRefIdeal.main_v4) = v1 c
          ∧ r.2.mem ((c.tc : Thread Cert.AdamSsmInRefIdeal.nD Cert.AdamSsmInRefIdeal.τ).loc Cert.AdamSsmInRefIdeal.main_v10) = v2 c
          ∧ r.2.mem ((c.tc : Thread Cert.AdamSsmInRefIdeal.nD Cert.AdamSsmInRefIdeal.τ).loc Cert.AdamSsmInRefIdeal.main_arg0) = m' ((c.tc : Thread Cert.AdamSsmInRefIdeal.nD Cert.AdamSsmInRefIdeal.τ).loc Cert.AdamSsmInRefIdeal.main_arg0)
          ∧ r.2.mem ((c.tc : Thread Cert.AdamSsmInRefIdeal.nD Cert.AdamSsmInRefIdeal.τ).loc Cert.AdamSsmInRefIdeal.main_arg1) = m' ((c.tc : Thread Cert.AdamSsmInRefIdeal.nD Cert.AdamSsmInRefIdeal.τ).loc Cert.AdamSsmInRefIdeal.main_arg1)
          ∧ r.2.mem ((c.tc : Thread Cert.AdamSsmInRefIdeal.nD Cert.AdamSsmInRefIdeal.τ).loc Cert.AdamSsmInRefIdeal.main_arg2) = m' ((c.tc : Thread Cert.AdamSsmInRefIdeal.nD Cert.AdamSsmInRefIdeal.τ).loc Cert.AdamSsmInRefIdeal.main_arg2)
          ∧ r.2.mem ((c.tc : Thread Cert.AdamSsmInRefIdeal.nD Cert.AdamSsmInRefIdeal.τ).loc Cert.AdamSsmInRefIdeal.main_arg3) = m' ((c.tc : Thread Cert.AdamSsmInRefIdeal.nD Cert.AdamSsmInRefIdeal.τ).loc Cert.AdamSsmInRefIdeal.main_arg3))

def preserves_AdamSsmOut_AdamSsmOutIdeal : Prop :=
  True

def algebraic_AdamSsmOutIdeal_AdamSsmOutRefIdeal [hAdamSsmOutIdeal : Cert.AdamSsmOutIdeal.Facts] [hAdamSsmOutRefIdeal : Cert.AdamSsmOutRefIdeal.Facts] : Prop :=
  ∀ (m : (ℓ : Loc Cert.AdamSsmOutIdeal.nD Cert.AdamSsmOutIdeal.τ Cert.AdamSsmOutIdeal.sig) → Buf (Elt Ideal) ℓ) (g : Dev Cert.AdamSsmOutIdeal.nD → PrngReg)
    (m' : (ℓ : Loc Cert.AdamSsmOutRefIdeal.nD Cert.AdamSsmOutRefIdeal.τ Cert.AdamSsmOutRefIdeal.sig) → Buf (Elt Ideal) ℓ) (g' : Dev Cert.AdamSsmOutRefIdeal.nD → PrngReg), Pre_AdamSsmOutIdeal m →
    (∀ c : Dev Cert.AdamSsmOutIdeal.nD,
      m' ((c.tc : Thread Cert.AdamSsmOutRefIdeal.nD Cert.AdamSsmOutRefIdeal.τ).loc Cert.AdamSsmOutRefIdeal.main_arg0) = m ((c.tc : Thread Cert.AdamSsmOutIdeal.nD Cert.AdamSsmOutIdeal.τ).loc Cert.AdamSsmOutIdeal.main_arg0)
      ∧ m' ((c.tc : Thread Cert.AdamSsmOutRefIdeal.nD Cert.AdamSsmOutRefIdeal.τ).loc Cert.AdamSsmOutRefIdeal.main_arg1) = m ((c.tc : Thread Cert.AdamSsmOutIdeal.nD Cert.AdamSsmOutIdeal.τ).loc Cert.AdamSsmOutIdeal.main_arg1)
      ∧ m' ((c.tc : Thread Cert.AdamSsmOutRefIdeal.nD Cert.AdamSsmOutRefIdeal.τ).loc Cert.AdamSsmOutRefIdeal.main_arg2) = m ((c.tc : Thread Cert.AdamSsmOutIdeal.nD Cert.AdamSsmOutIdeal.τ).loc Cert.AdamSsmOutIdeal.main_arg2)
      ∧ m' ((c.tc : Thread Cert.AdamSsmOutRefIdeal.nD Cert.AdamSsmOutRefIdeal.τ).loc Cert.AdamSsmOutRefIdeal.main_arg3) = m ((c.tc : Thread Cert.AdamSsmOutIdeal.nD Cert.AdamSsmOutIdeal.τ).loc Cert.AdamSsmOutIdeal.main_arg3)) →
    ∃ (v0 : (c : Dev Cert.AdamSsmOutIdeal.nD) → Buf (Elt Ideal) ((c.tc : Thread Cert.AdamSsmOutIdeal.nD Cert.AdamSsmOutIdeal.τ).loc Cert.AdamSsmOutIdeal.main_v0_0)) (v1 : (c : Dev Cert.AdamSsmOutIdeal.nD) → Buf (Elt Ideal) ((c.tc : Thread Cert.AdamSsmOutIdeal.nD Cert.AdamSsmOutIdeal.τ).loc Cert.AdamSsmOutIdeal.main_v0_1)) (v2 : (c : Dev Cert.AdamSsmOutIdeal.nD) → Buf (Elt Ideal) ((c.tc : Thread Cert.AdamSsmOutIdeal.nD Cert.AdamSsmOutIdeal.τ).loc Cert.AdamSsmOutIdeal.main_v0_2)),
      θ_run (Cert.AdamSsmOutIdeal.defs (F := Ideal)) (onTc (τ := Cert.AdamSsmOutIdeal.τ) (Cert.AdamSsmOutIdeal.main (F := Ideal))) ⟨m, fun _ => 0, g⟩ (fun r => ∀ c : Dev Cert.AdamSsmOutIdeal.nD,
          r.2.mem ((c.tc : Thread Cert.AdamSsmOutIdeal.nD Cert.AdamSsmOutIdeal.τ).loc Cert.AdamSsmOutIdeal.main_v0_0) = v0 c
          ∧ r.2.mem ((c.tc : Thread Cert.AdamSsmOutIdeal.nD Cert.AdamSsmOutIdeal.τ).loc Cert.AdamSsmOutIdeal.main_v0_1) = v1 c
          ∧ r.2.mem ((c.tc : Thread Cert.AdamSsmOutIdeal.nD Cert.AdamSsmOutIdeal.τ).loc Cert.AdamSsmOutIdeal.main_v0_2) = v2 c
          ∧ r.2.mem ((c.tc : Thread Cert.AdamSsmOutIdeal.nD Cert.AdamSsmOutIdeal.τ).loc Cert.AdamSsmOutIdeal.main_arg0) = m ((c.tc : Thread Cert.AdamSsmOutIdeal.nD Cert.AdamSsmOutIdeal.τ).loc Cert.AdamSsmOutIdeal.main_arg0)
          ∧ r.2.mem ((c.tc : Thread Cert.AdamSsmOutIdeal.nD Cert.AdamSsmOutIdeal.τ).loc Cert.AdamSsmOutIdeal.main_arg1) = m ((c.tc : Thread Cert.AdamSsmOutIdeal.nD Cert.AdamSsmOutIdeal.τ).loc Cert.AdamSsmOutIdeal.main_arg1)
          ∧ r.2.mem ((c.tc : Thread Cert.AdamSsmOutIdeal.nD Cert.AdamSsmOutIdeal.τ).loc Cert.AdamSsmOutIdeal.main_arg2) = m ((c.tc : Thread Cert.AdamSsmOutIdeal.nD Cert.AdamSsmOutIdeal.τ).loc Cert.AdamSsmOutIdeal.main_arg2)
          ∧ r.2.mem ((c.tc : Thread Cert.AdamSsmOutIdeal.nD Cert.AdamSsmOutIdeal.τ).loc Cert.AdamSsmOutIdeal.main_arg3) = m ((c.tc : Thread Cert.AdamSsmOutIdeal.nD Cert.AdamSsmOutIdeal.τ).loc Cert.AdamSsmOutIdeal.main_arg3))
      ∧ θ_run (Cert.AdamSsmOutRefIdeal.defs (F := Ideal)) (onTc (τ := Cert.AdamSsmOutRefIdeal.τ) (Cert.AdamSsmOutRefIdeal.main (F := Ideal))) ⟨m', fun _ => 0, g'⟩ (fun r => ∀ c : Dev Cert.AdamSsmOutRefIdeal.nD,
          r.2.mem ((c.tc : Thread Cert.AdamSsmOutRefIdeal.nD Cert.AdamSsmOutRefIdeal.τ).loc Cert.AdamSsmOutRefIdeal.main_v23) = v0 c
          ∧ r.2.mem ((c.tc : Thread Cert.AdamSsmOutRefIdeal.nD Cert.AdamSsmOutRefIdeal.τ).loc Cert.AdamSsmOutRefIdeal.main_v4) = v1 c
          ∧ r.2.mem ((c.tc : Thread Cert.AdamSsmOutRefIdeal.nD Cert.AdamSsmOutRefIdeal.τ).loc Cert.AdamSsmOutRefIdeal.main_v10) = v2 c
          ∧ r.2.mem ((c.tc : Thread Cert.AdamSsmOutRefIdeal.nD Cert.AdamSsmOutRefIdeal.τ).loc Cert.AdamSsmOutRefIdeal.main_arg0) = m' ((c.tc : Thread Cert.AdamSsmOutRefIdeal.nD Cert.AdamSsmOutRefIdeal.τ).loc Cert.AdamSsmOutRefIdeal.main_arg0)
          ∧ r.2.mem ((c.tc : Thread Cert.AdamSsmOutRefIdeal.nD Cert.AdamSsmOutRefIdeal.τ).loc Cert.AdamSsmOutRefIdeal.main_arg1) = m' ((c.tc : Thread Cert.AdamSsmOutRefIdeal.nD Cert.AdamSsmOutRefIdeal.τ).loc Cert.AdamSsmOutRefIdeal.main_arg1)
          ∧ r.2.mem ((c.tc : Thread Cert.AdamSsmOutRefIdeal.nD Cert.AdamSsmOutRefIdeal.τ).loc Cert.AdamSsmOutRefIdeal.main_arg2) = m' ((c.tc : Thread Cert.AdamSsmOutRefIdeal.nD Cert.AdamSsmOutRefIdeal.τ).loc Cert.AdamSsmOutRefIdeal.main_arg2)
          ∧ r.2.mem ((c.tc : Thread Cert.AdamSsmOutRefIdeal.nD Cert.AdamSsmOutRefIdeal.τ).loc Cert.AdamSsmOutRefIdeal.main_arg3) = m' ((c.tc : Thread Cert.AdamSsmOutRefIdeal.nD Cert.AdamSsmOutRefIdeal.τ).loc Cert.AdamSsmOutRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v23) = v0 c
          ∧ r.2.mem ((c.tc : Thread Cert.AdamKvRefIdeal.nD Cert.AdamKvRefIdeal.τ).loc Cert.AdamKvRefIdeal.main_v4) = v1 c
          ∧ r.2.mem ((c.tc : Thread Cert.AdamKvRefIdeal.nD Cert.AdamKvRefIdeal.τ).loc Cert.AdamKvRefIdeal.main_v10) = v2 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamAttn_AdamAttnIdeal : Prop :=
  True

def algebraic_AdamAttnIdeal_AdamAttnRefIdeal [hAdamAttnIdeal : Cert.AdamAttnIdeal.Facts] [hAdamAttnRefIdeal : Cert.AdamAttnRefIdeal.Facts] : Prop :=
  ∀ (m : (ℓ : Loc Cert.AdamAttnIdeal.nD Cert.AdamAttnIdeal.τ Cert.AdamAttnIdeal.sig) → Buf (Elt Ideal) ℓ) (g : Dev Cert.AdamAttnIdeal.nD → PrngReg)
    (m' : (ℓ : Loc Cert.AdamAttnRefIdeal.nD Cert.AdamAttnRefIdeal.τ Cert.AdamAttnRefIdeal.sig) → Buf (Elt Ideal) ℓ) (g' : Dev Cert.AdamAttnRefIdeal.nD → PrngReg), Pre_AdamAttnIdeal m →
    (∀ c : Dev Cert.AdamAttnIdeal.nD,
      m' ((c.tc : Thread Cert.AdamAttnRefIdeal.nD Cert.AdamAttnRefIdeal.τ).loc Cert.AdamAttnRefIdeal.main_arg0) = m ((c.tc : Thread Cert.AdamAttnIdeal.nD Cert.AdamAttnIdeal.τ).loc Cert.AdamAttnIdeal.main_arg0)
      ∧ m' ((c.tc : Thread Cert.AdamAttnRefIdeal.nD Cert.AdamAttnRefIdeal.τ).loc Cert.AdamAttnRefIdeal.main_arg1) = m ((c.tc : Thread Cert.AdamAttnIdeal.nD Cert.AdamAttnIdeal.τ).loc Cert.AdamAttnIdeal.main_arg1)
      ∧ m' ((c.tc : Thread Cert.AdamAttnRefIdeal.nD Cert.AdamAttnRefIdeal.τ).loc Cert.AdamAttnRefIdeal.main_arg2) = m ((c.tc : Thread Cert.AdamAttnIdeal.nD Cert.AdamAttnIdeal.τ).loc Cert.AdamAttnIdeal.main_arg2)
      ∧ m' ((c.tc : Thread Cert.AdamAttnRefIdeal.nD Cert.AdamAttnRefIdeal.τ).loc Cert.AdamAttnRefIdeal.main_arg3) = m ((c.tc : Thread Cert.AdamAttnIdeal.nD Cert.AdamAttnIdeal.τ).loc Cert.AdamAttnIdeal.main_arg3)) →
    ∃ (v0 : (c : Dev Cert.AdamAttnIdeal.nD) → Buf (Elt Ideal) ((c.tc : Thread Cert.AdamAttnIdeal.nD Cert.AdamAttnIdeal.τ).loc Cert.AdamAttnIdeal.main_v0_0)) (v1 : (c : Dev Cert.AdamAttnIdeal.nD) → Buf (Elt Ideal) ((c.tc : Thread Cert.AdamAttnIdeal.nD Cert.AdamAttnIdeal.τ).loc Cert.AdamAttnIdeal.main_v0_1)) (v2 : (c : Dev Cert.AdamAttnIdeal.nD) → Buf (Elt Ideal) ((c.tc : Thread Cert.AdamAttnIdeal.nD Cert.AdamAttnIdeal.τ).loc Cert.AdamAttnIdeal.main_v0_2)),
      θ_run (Cert.AdamAttnIdeal.defs (F := Ideal)) (onTc (τ := Cert.AdamAttnIdeal.τ) (Cert.AdamAttnIdeal.main (F := Ideal))) ⟨m, fun _ => 0, g⟩ (fun r => ∀ c : Dev Cert.AdamAttnIdeal.nD,
          r.2.mem ((c.tc : Thread Cert.AdamAttnIdeal.nD Cert.AdamAttnIdeal.τ).loc Cert.AdamAttnIdeal.main_v0_0) = v0 c
          ∧ r.2.mem ((c.tc : Thread Cert.AdamAttnIdeal.nD Cert.AdamAttnIdeal.τ).loc Cert.AdamAttnIdeal.main_v0_1) = v1 c
          ∧ r.2.mem ((c.tc : Thread Cert.AdamAttnIdeal.nD Cert.AdamAttnIdeal.τ).loc Cert.AdamAttnIdeal.main_v0_2) = v2 c
          ∧ r.2.mem ((c.tc : Thread Cert.AdamAttnIdeal.nD Cert.AdamAttnIdeal.τ).loc Cert.AdamAttnIdeal.main_arg0) = m ((c.tc : Thread Cert.AdamAttnIdeal.nD Cert.AdamAttnIdeal.τ).loc Cert.AdamAttnIdeal.main_arg0)
          ∧ r.2.mem ((c.tc : Thread Cert.AdamAttnIdeal.nD Cert.AdamAttnIdeal.τ).loc Cert.AdamAttnIdeal.main_arg1) = m ((c.tc : Thread Cert.AdamAttnIdeal.nD Cert.AdamAttnIdeal.τ).loc Cert.AdamAttnIdeal.main_arg1)
          ∧ r.2.mem ((c.tc : Thread Cert.AdamAttnIdeal.nD Cert.AdamAttnIdeal.τ).loc Cert.AdamAttnIdeal.main_arg2) = m ((c.tc : Thread Cert.AdamAttnIdeal.nD Cert.AdamAttnIdeal.τ).loc Cert.AdamAttnIdeal.main_arg2)
          ∧ r.2.mem ((c.tc : Thread Cert.AdamAttnIdeal.nD Cert.AdamAttnIdeal.τ).loc Cert.AdamAttnIdeal.main_arg3) = m ((c.tc : Thread Cert.AdamAttnIdeal.nD Cert.AdamAttnIdeal.τ).loc Cert.AdamAttnIdeal.main_arg3))
      ∧ θ_run (Cert.AdamAttnRefIdeal.defs (F := Ideal)) (onTc (τ := Cert.AdamAttnRefIdeal.τ) (Cert.AdamAttnRefIdeal.main (F := Ideal))) ⟨m', fun _ => 0, g'⟩ (fun r => ∀ c : Dev Cert.AdamAttnRefIdeal.nD,
          r.2.mem ((c.tc : Thread Cert.AdamAttnRefIdeal.nD Cert.AdamAttnRefIdeal.τ).loc Cert.AdamAttnRefIdeal.main_v23) = v0 c
          ∧ r.2.mem ((c.tc : Thread Cert.AdamAttnRefIdeal.nD Cert.AdamAttnRefIdeal.τ).loc Cert.AdamAttnRefIdeal.main_v4) = v1 c
          ∧ r.2.mem ((c.tc : Thread Cert.AdamAttnRefIdeal.nD Cert.AdamAttnRefIdeal.τ).loc Cert.AdamAttnRefIdeal.main_v10) = v2 c
          ∧ r.2.mem ((c.tc : Thread Cert.AdamAttnRefIdeal.nD Cert.AdamAttnRefIdeal.τ).loc Cert.AdamAttnRefIdeal.main_arg0) = m' ((c.tc : Thread Cert.AdamAttnRefIdeal.nD Cert.AdamAttnRefIdeal.τ).loc Cert.AdamAttnRefIdeal.main_arg0)
          ∧ r.2.mem ((c.tc : Thread Cert.AdamAttnRefIdeal.nD Cert.AdamAttnRefIdeal.τ).loc Cert.AdamAttnRefIdeal.main_arg1) = m' ((c.tc : Thread Cert.AdamAttnRefIdeal.nD Cert.AdamAttnRefIdeal.τ).loc Cert.AdamAttnRefIdeal.main_arg1)
          ∧ r.2.mem ((c.tc : Thread Cert.AdamAttnRefIdeal.nD Cert.AdamAttnRefIdeal.τ).loc Cert.AdamAttnRefIdeal.main_arg2) = m' ((c.tc : Thread Cert.AdamAttnRefIdeal.nD Cert.AdamAttnRefIdeal.τ).loc Cert.AdamAttnRefIdeal.main_arg2)
          ∧ r.2.mem ((c.tc : Thread Cert.AdamAttnRefIdeal.nD Cert.AdamAttnRefIdeal.τ).loc Cert.AdamAttnRefIdeal.main_arg3) = m' ((c.tc : Thread Cert.AdamAttnRefIdeal.nD Cert.AdamAttnRefIdeal.τ).loc Cert.AdamAttnRefIdeal.main_arg3))

def preserves_AdamMod_AdamModIdeal : Prop :=
  True

def algebraic_AdamModIdeal_AdamModRefIdeal [hAdamModIdeal : Cert.AdamModIdeal.Facts] [hAdamModRefIdeal : Cert.AdamModRefIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModRefIdeal.nD Cert.AdamModRefIdeal.τ Cert.AdamModRefIdeal.sig) → Buf (Elt Ideal) ℓ) (g' : Dev Cert.AdamModRefIdeal.nD → PrngReg), Pre_AdamModIdeal m →
    (∀ c : Dev Cert.AdamModIdeal.nD,
      m' ((c.tc : Thread Cert.AdamModRefIdeal.nD Cert.AdamModRefIdeal.τ).loc Cert.AdamModRefIdeal.main_arg0) = m ((c.tc : Thread Cert.AdamModIdeal.nD Cert.AdamModIdeal.τ).loc Cert.AdamModIdeal.main_arg0)
      ∧ m' ((c.tc : Thread Cert.AdamModRefIdeal.nD Cert.AdamModRefIdeal.τ).loc Cert.AdamModRefIdeal.main_arg1) = m ((c.tc : Thread Cert.AdamModIdeal.nD Cert.AdamModIdeal.τ).loc Cert.AdamModIdeal.main_arg1)
      ∧ m' ((c.tc : Thread Cert.AdamModRefIdeal.nD Cert.AdamModRefIdeal.τ).loc Cert.AdamModRefIdeal.main_arg2) = m ((c.tc : Thread Cert.AdamModIdeal.nD Cert.AdamModIdeal.τ).loc Cert.AdamModIdeal.main_arg2)
      ∧ m' ((c.tc : Thread Cert.AdamModRefIdeal.nD Cert.AdamModRefIdeal.τ).loc Cert.AdamModRefIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v0_0)) (v1 : (c : Dev Cert.AdamModIdeal.nD) → Buf (Elt Ideal) ((c.tc : Thread Cert.AdamModIdeal.nD Cert.AdamModIdeal.τ).loc Cert.AdamModIdeal.main_v0_1)) (v2 : (c : Dev Cert.AdamModIdeal.nD) → Buf (Elt Ideal) ((c.tc : Thread Cert.AdamModIdeal.nD Cert.AdamModIdeal.τ).loc Cert.AdamModIdeal.main_v0_2)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v0_0) = v0 c
          ∧ r.2.mem ((c.tc : Thread Cert.AdamModIdeal.nD Cert.AdamModIdeal.τ).loc Cert.AdamModIdeal.main_v0_1) = v1 c
          ∧ r.2.mem ((c.tc : Thread Cert.AdamModIdeal.nD Cert.AdamModIdeal.τ).loc Cert.AdamModIdeal.main_v0_2) = v2 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.AdamModRefIdeal.defs (F := Ideal)) (onTc (τ := Cert.AdamModRefIdeal.τ) (Cert.AdamModRefIdeal.main (F := Ideal))) ⟨m', fun _ => 0, g'⟩ (fun r => ∀ c : Dev Cert.AdamModRefIdeal.nD,
          r.2.mem ((c.tc : Thread Cert.AdamModRefIdeal.nD Cert.AdamModRefIdeal.τ).loc Cert.AdamModRefIdeal.main_v23) = v0 c
          ∧ r.2.mem ((c.tc : Thread Cert.AdamModRefIdeal.nD Cert.AdamModRefIdeal.τ).loc Cert.AdamModRefIdeal.main_v4) = v1 c
          ∧ r.2.mem ((c.tc : Thread Cert.AdamModRefIdeal.nD Cert.AdamModRefIdeal.τ).loc Cert.AdamModRefIdeal.main_v10) = v2 c
          ∧ r.2.mem ((c.tc : Thread Cert.AdamModRefIdeal.nD Cert.AdamModRefIdeal.τ).loc Cert.AdamModRefIdeal.main_arg0) = m' ((c.tc : Thread Cert.AdamModRefIdeal.nD Cert.AdamModRefIdeal.τ).loc Cert.AdamModRefIdeal.main_arg0)
          ∧ r.2.mem ((c.tc : Thread Cert.AdamModRefIdeal.nD Cert.AdamModRefIdeal.τ).loc Cert.AdamModRefIdeal.main_arg1) = m' ((c.tc : Thread Cert.AdamModRefIdeal.nD Cert.AdamModRefIdeal.τ).loc Cert.AdamModRefIdeal.main_arg1)
          ∧ r.2.mem ((c.tc : Thread Cert.AdamModRefIdeal.nD Cert.AdamModRefIdeal.τ).loc Cert.AdamModRefIdeal.main_arg2) = m' ((c.tc : Thread Cert.AdamModRefIdeal.nD Cert.AdamModRefIdeal.τ).loc Cert.AdamModRefIdeal.main_arg2)
          ∧ r.2.mem ((c.tc : Thread Cert.AdamModRefIdeal.nD Cert.AdamModRefIdeal.τ).loc Cert.AdamModRefIdeal.main_arg3) = m' ((c.tc : Thread Cert.AdamModRefIdeal.nD Cert.AdamModRefIdeal.τ).loc Cert.AdamModRefIdeal.main_arg3))

def preserves_AdamKvMod_AdamKvModIdeal : Prop :=
  True

def algebraic_AdamKvModIdeal_AdamKvModRefIdeal [hAdamKvModIdeal : Cert.AdamKvModIdeal.Facts] [hAdamKvModRefIdeal : Cert.AdamKvModRefIdeal.Facts] : Prop :=
  ∀ (m : (ℓ : Loc Cert.AdamKvModIdeal.nD Cert.AdamKvModIdeal.τ Cert.AdamKvModIdeal.sig) → Buf (Elt Ideal) ℓ) (g : Dev Cert.AdamKvModIdeal.nD → PrngReg)
    (m' : (ℓ : Loc Cert.AdamKvModRefIdeal.nD Cert.AdamKvModRefIdeal.τ Cert.AdamKvModRefIdeal.sig) → Buf (Elt Ideal) ℓ) (g' : Dev Cert.AdamKvModRefIdeal.nD → PrngReg), Pre_AdamKvModIdeal m →
    (∀ c : Dev Cert.AdamKvModIdeal.nD,
      m' ((c.tc : Thread Cert.AdamKvModRefIdeal.nD Cert.AdamKvModRefIdeal.τ).loc Cert.AdamKvModRefIdeal.main_arg0) = m ((c.tc : Thread Cert.AdamKvModIdeal.nD Cert.AdamKvModIdeal.τ).loc Cert.AdamKvModIdeal.main_arg0)
      ∧ m' ((c.tc : Thread Cert.AdamKvModRefIdeal.nD Cert.AdamKvModRefIdeal.τ).loc Cert.AdamKvModRefIdeal.main_arg1) = m ((c.tc : Thread Cert.AdamKvModIdeal.nD Cert.AdamKvModIdeal.τ).loc Cert.AdamKvModIdeal.main_arg1)
      ∧ m' ((c.tc : Thread Cert.AdamKvModRefIdeal.nD Cert.AdamKvModRefIdeal.τ).loc Cert.AdamKvModRefIdeal.main_arg2) = m ((c.tc : Thread Cert.AdamKvModIdeal.nD Cert.AdamKvModIdeal.τ).loc Cert.AdamKvModIdeal.main_arg2)
      ∧ m' ((c.tc : Thread Cert.AdamKvModRefIdeal.nD Cert.AdamKvModRefIdeal.τ).loc Cert.AdamKvModRefIdeal.main_arg3) = m ((c.tc : Thread Cert.AdamKvModIdeal.nD Cert.AdamKvModIdeal.τ).loc Cert.AdamKvModIdeal.main_arg3)) →
    ∃ (v0 : (c : Dev Cert.AdamKvModIdeal.nD) → Buf (Elt Ideal) ((c.tc : Thread Cert.AdamKvModIdeal.nD Cert.AdamKvModIdeal.τ).loc Cert.AdamKvModIdeal.main_v0_0)) (v1 : (c : Dev Cert.AdamKvModIdeal.nD) → Buf (Elt Ideal) ((c.tc : Thread Cert.AdamKvModIdeal.nD Cert.AdamKvModIdeal.τ).loc Cert.AdamKvModIdeal.main_v0_1)) (v2 : (c : Dev Cert.AdamKvModIdeal.nD) → Buf (Elt Ideal) ((c.tc : Thread Cert.AdamKvModIdeal.nD Cert.AdamKvModIdeal.τ).loc Cert.AdamKvModIdeal.main_v0_2)),
      θ_run (Cert.AdamKvModIdeal.defs (F := Ideal)) (onTc (τ := Cert.AdamKvModIdeal.τ) (Cert.AdamKvModIdeal.main (F := Ideal))) ⟨m, fun _ => 0, g⟩ (fun r => ∀ c : Dev Cert.AdamKvModIdeal.nD,
          r.2.mem ((c.tc : Thread Cert.AdamKvModIdeal.nD Cert.AdamKvModIdeal.τ).loc Cert.AdamKvModIdeal.main_v0_0) = v0 c
          ∧ r.2.mem ((c.tc : Thread Cert.AdamKvModIdeal.nD Cert.AdamKvModIdeal.τ).loc Cert.AdamKvModIdeal.main_v0_1) = v1 c
          ∧ r.2.mem ((c.tc : Thread Cert.AdamKvModIdeal.nD Cert.AdamKvModIdeal.τ).loc Cert.AdamKvModIdeal.main_v0_2) = v2 c
          ∧ r.2.mem ((c.tc : Thread Cert.AdamKvModIdeal.nD Cert.AdamKvModIdeal.τ).loc Cert.AdamKvModIdeal.main_arg0) = m ((c.tc : Thread Cert.AdamKvModIdeal.nD Cert.AdamKvModIdeal.τ).loc Cert.AdamKvModIdeal.main_arg0)
          ∧ r.2.mem ((c.tc : Thread Cert.AdamKvModIdeal.nD Cert.AdamKvModIdeal.τ).loc Cert.AdamKvModIdeal.main_arg1) = m ((c.tc : Thread Cert.AdamKvModIdeal.nD Cert.AdamKvModIdeal.τ).loc Cert.AdamKvModIdeal.main_arg1)
          ∧ r.2.mem ((c.tc : Thread Cert.AdamKvModIdeal.nD Cert.AdamKvModIdeal.τ).loc Cert.AdamKvModIdeal.main_arg2) = m ((c.tc : Thread Cert.AdamKvModIdeal.nD Cert.AdamKvModIdeal.τ).loc Cert.AdamKvModIdeal.main_arg2)
          ∧ r.2.mem ((c.tc : Thread Cert.AdamKvModIdeal.nD Cert.AdamKvModIdeal.τ).loc Cert.AdamKvModIdeal.main_arg3) = m ((c.tc : Thread Cert.AdamKvModIdeal.nD Cert.AdamKvModIdeal.τ).loc Cert.AdamKvModIdeal.main_arg3))
      ∧ θ_run (Cert.AdamKvModRefIdeal.defs (F := Ideal)) (onTc (τ := Cert.AdamKvModRefIdeal.τ) (Cert.AdamKvModRefIdeal.main (F := Ideal))) ⟨m', fun _ => 0, g'⟩ (fun r => ∀ c : Dev Cert.AdamKvModRefIdeal.nD,
          r.2.mem ((c.tc : Thread Cert.AdamKvModRefIdeal.nD Cert.AdamKvModRefIdeal.τ).loc Cert.AdamKvModRefIdeal.main_v23) = v0 c
          ∧ r.2.mem ((c.tc : Thread Cert.AdamKvModRefIdeal.nD Cert.AdamKvModRefIdeal.τ).loc Cert.AdamKvModRefIdeal.main_v4) = v1 c
          ∧ r.2.mem ((c.tc : Thread Cert.AdamKvModRefIdeal.nD Cert.AdamKvModRefIdeal.τ).loc Cert.AdamKvModRefIdeal.main_v10) = v2 c
          ∧ r.2.mem ((c.tc : Thread Cert.AdamKvModRefIdeal.nD Cert.AdamKvModRefIdeal.τ).loc Cert.AdamKvModRefIdeal.main_arg0) = m' ((c.tc : Thread Cert.AdamKvModRefIdeal.nD Cert.AdamKvModRefIdeal.τ).loc Cert.AdamKvModRefIdeal.main_arg0)
          ∧ r.2.mem ((c.tc : Thread Cert.AdamKvModRefIdeal.nD Cert.AdamKvModRefIdeal.τ).loc Cert.AdamKvModRefIdeal.main_arg1) = m' ((c.tc : Thread Cert.AdamKvModRefIdeal.nD Cert.AdamKvModRefIdeal.τ).loc Cert.AdamKvModRefIdeal.main_arg1)
          ∧ r.2.mem ((c.tc : Thread Cert.AdamKvModRefIdeal.nD Cert.AdamKvModRefIdeal.τ).loc Cert.AdamKvModRefIdeal.main_arg2) = m' ((c.tc : Thread Cert.AdamKvModRefIdeal.nD Cert.AdamKvModRefIdeal.τ).loc Cert.AdamKvModRefIdeal.main_arg2)
          ∧ r.2.mem ((c.tc : Thread Cert.AdamKvModRefIdeal.nD Cert.AdamKvModRefIdeal.τ).loc Cert.AdamKvModRefIdeal.main_arg3) = m' ((c.tc : Thread Cert.AdamKvModRefIdeal.nD Cert.AdamKvModRefIdeal.τ).loc Cert.AdamKvModRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hGateBwd : Cert.GateBwd.Facts) (hGateBwdIdeal : Cert.GateBwdIdeal.Facts) (hGateBwdRefIdeal : Cert.GateBwdRefIdeal.Facts) (hGuDx : Cert.GuDx.Facts) (hGuDxIdeal : Cert.GuDxIdeal.Facts) (hGuDxRefIdeal : Cert.GuDxRefIdeal.Facts) (hGuDw : Cert.GuDw.Facts) (hGuDwIdeal : Cert.GuDwIdeal.Facts) (hGuDwRefIdeal : Cert.GuDwRefIdeal.Facts) (hMixGateBwd : Cert.MixGateBwd.Facts) (hMixGateBwdIdeal : Cert.MixGateBwdIdeal.Facts) (hMixGateBwdRefIdeal : Cert.MixGateBwdRefIdeal.Facts) (hSsmInDx : Cert.SsmInDx.Facts) (hSsmInDxIdeal : Cert.SsmInDxIdeal.Facts) (hSsmInDxRefIdeal : Cert.SsmInDxRefIdeal.Facts) (hSsmInDw : Cert.SsmInDw.Facts) (hSsmInDwIdeal : Cert.SsmInDwIdeal.Facts) (hSsmInDwRefIdeal : Cert.SsmInDwRefIdeal.Facts) (hSsmOutDx : Cert.SsmOutDx.Facts) (hSsmOutDxIdeal : Cert.SsmOutDxIdeal.Facts) (hSsmOutDxRefIdeal : Cert.SsmOutDxRefIdeal.Facts) (hSsmOutDw : Cert.SsmOutDw.Facts) (hSsmOutDwIdeal : Cert.SsmOutDwIdeal.Facts) (hSsmOutDwRefIdeal : Cert.SsmOutDwRefIdeal.Facts) (hGnormBwd : Cert.GnormBwd.Facts) (hGnormBwdIdeal : Cert.GnormBwdIdeal.Facts) (hGnormBwdRefIdeal : Cert.GnormBwdRefIdeal.Facts) (hConvBwd : Cert.ConvBwd.Facts) (hConvBwdIdeal : Cert.ConvBwdIdeal.Facts) (hConvBwdRefIdeal : Cert.ConvBwdRefIdeal.Facts) (hFinalLoss : Cert.FinalLoss.Facts) (hFinalLossIdeal : Cert.FinalLossIdeal.Facts) (hFinalLossRefIdeal : Cert.FinalLossRefIdeal.Facts) (hNormMod : Cert.NormMod.Facts) (hNormModIdeal : Cert.NormModIdeal.Facts) (hNormModRefIdeal : Cert.NormModRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hSsmIn : Cert.SsmIn.Facts) (hSsmInIdeal : Cert.SsmInIdeal.Facts) (hSsmInRefIdeal : Cert.SsmInRefIdeal.Facts) (hConvFwd : Cert.ConvFwd.Facts) (hConvFwdIdeal : Cert.ConvFwdIdeal.Facts) (hConvFwdRefIdeal : Cert.ConvFwdRefIdeal.Facts) (hGnormFwd : Cert.GnormFwd.Facts) (hGnormFwdIdeal : Cert.GnormFwdIdeal.Facts) (hGnormFwdRefIdeal : Cert.GnormFwdRefIdeal.Facts) (hSsmOut : Cert.SsmOut.Facts) (hSsmOutIdeal : Cert.SsmOutIdeal.Facts) (hSsmOutRefIdeal : Cert.SsmOutRefIdeal.Facts) (hModW : Cert.ModW.Facts) (hModWIdeal : Cert.ModWIdeal.Facts) (hModWRefIdeal : Cert.ModWRefIdeal.Facts) (hKvModW : Cert.KvModW.Facts) (hKvModWIdeal : Cert.KvModWIdeal.Facts) (hKvModWRefIdeal : Cert.KvModWRefIdeal.Facts) (hSmallSum : Cert.SmallSum.Facts) (hSmallSumIdeal : Cert.SmallSumIdeal.Facts) (hSmallSumRefIdeal : Cert.SmallSumRefIdeal.Facts) (hGradGu : Cert.GradGu.Facts) (hGradGuIdeal : Cert.GradGuIdeal.Facts) (hGradGuRefIdeal : Cert.GradGuRefIdeal.Facts) (hGradDown : Cert.GradDown.Facts) (hGradDownIdeal : Cert.GradDownIdeal.Facts) (hGradDownRefIdeal : Cert.GradDownRefIdeal.Facts) (hGradSsmIn : Cert.GradSsmIn.Facts) (hGradSsmInIdeal : Cert.GradSsmInIdeal.Facts) (hGradSsmInRefIdeal : Cert.GradSsmInRefIdeal.Facts) (hGradSsmOut : Cert.GradSsmOut.Facts) (hGradSsmOutIdeal : Cert.GradSsmOutIdeal.Facts) (hGradSsmOutRefIdeal : Cert.GradSsmOutRefIdeal.Facts) (hGradKv : Cert.GradKv.Facts) (hGradKvIdeal : Cert.GradKvIdeal.Facts) (hGradKvRefIdeal : Cert.GradKvRefIdeal.Facts) (hGradAttn : Cert.GradAttn.Facts) (hGradAttnIdeal : Cert.GradAttnIdeal.Facts) (hGradAttnRefIdeal : Cert.GradAttnRefIdeal.Facts) (hAdamGu : Cert.AdamGu.Facts) (hAdamGuIdeal : Cert.AdamGuIdeal.Facts) (hAdamGuRefIdeal : Cert.AdamGuRefIdeal.Facts) (hAdamDown : Cert.AdamDown.Facts) (hAdamDownIdeal : Cert.AdamDownIdeal.Facts) (hAdamDownRefIdeal : Cert.AdamDownRefIdeal.Facts) (hAdamSsmIn : Cert.AdamSsmIn.Facts) (hAdamSsmInIdeal : Cert.AdamSsmInIdeal.Facts) (hAdamSsmInRefIdeal : Cert.AdamSsmInRefIdeal.Facts) (hAdamSsmOut : Cert.AdamSsmOut.Facts) (hAdamSsmOutIdeal : Cert.AdamSsmOutIdeal.Facts) (hAdamSsmOutRefIdeal : Cert.AdamSsmOutRefIdeal.Facts) (hAdamKv : Cert.AdamKv.Facts) (hAdamKvIdeal : Cert.AdamKvIdeal.Facts) (hAdamKvRefIdeal : Cert.AdamKvRefIdeal.Facts) (hAdamAttn : Cert.AdamAttn.Facts) (hAdamAttnIdeal : Cert.AdamAttnIdeal.Facts) (hAdamAttnRefIdeal : Cert.AdamAttnRefIdeal.Facts) (hAdamMod : Cert.AdamMod.Facts) (hAdamModIdeal : Cert.AdamModIdeal.Facts) (hAdamModRefIdeal : Cert.AdamModRefIdeal.Facts) (hAdamKvMod : Cert.AdamKvMod.Facts) (hAdamKvModIdeal : Cert.AdamKvModIdeal.Facts) (hAdamKvModRefIdeal : Cert.AdamKvModRefIdeal.Facts) (hAdamSmall : Cert.AdamSmall.Facts) (hAdamSmallIdeal : Cert.AdamSmallIdeal.Facts) (hAdamSmallRefIdeal : Cert.AdamSmallRefIdeal.Facts) (hPre_all_real : Cert.Pre_all_real.Facts) (hPre_gnorm_real : Cert.Pre_gnorm_real.Facts) (hPre_conv_real : Cert.Pre_conv_real.Facts),
    quiescent_DownDx (hDownDx := hDownDx)
    ∧ quiescent_DownDxIdeal (hDownDxIdeal := hDownDxIdeal)
    ∧ quiescent_DownDxIdeal_pre_all_real (hDownDxIdeal := hDownDxIdeal) (hPre_all_real := hPre_all_real)
    ∧ quiescent_DownDxRefIdeal (hDownDxRefIdeal := hDownDxRefIdeal)
    ∧ quiescent_DownDxRefIdeal_pre_all_real (hDownDxRefIdeal := hDownDxRefIdeal) (hPre_all_real := hPre_all_real)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_GateBwd (hGateBwd := hGateBwd)
    ∧ quiescent_GateBwdIdeal (hGateBwdIdeal := hGateBwdIdeal)
    ∧ quiescent_GateBwdRefIdeal (hGateBwdRefIdeal := hGateBwdRefIdeal)
    ∧ quiescent_GuDx (hGuDx := hGuDx)
    ∧ quiescent_GuDxIdeal (hGuDxIdeal := hGuDxIdeal)
    ∧ quiescent_GuDxRefIdeal (hGuDxRefIdeal := hGuDxRefIdeal)
    ∧ quiescent_GuDw (hGuDw := hGuDw)
    ∧ quiescent_GuDwIdeal (hGuDwIdeal := hGuDwIdeal)
    ∧ quiescent_GuDwRefIdeal (hGuDwRefIdeal := hGuDwRefIdeal)
    ∧ quiescent_MixGateBwd (hMixGateBwd := hMixGateBwd)
    ∧ quiescent_MixGateBwdIdeal (hMixGateBwdIdeal := hMixGateBwdIdeal)
    ∧ quiescent_MixGateBwdRefIdeal (hMixGateBwdRefIdeal := hMixGateBwdRefIdeal)
    ∧ quiescent_SsmInDx (hSsmInDx := hSsmInDx)
    ∧ quiescent_SsmInDxIdeal (hSsmInDxIdeal := hSsmInDxIdeal)
    ∧ quiescent_SsmInDxRefIdeal (hSsmInDxRefIdeal := hSsmInDxRefIdeal)
    ∧ quiescent_SsmInDw (hSsmInDw := hSsmInDw)
    ∧ quiescent_SsmInDwIdeal (hSsmInDwIdeal := hSsmInDwIdeal)
    ∧ quiescent_SsmInDwRefIdeal (hSsmInDwRefIdeal := hSsmInDwRefIdeal)
    ∧ quiescent_SsmOutDx (hSsmOutDx := hSsmOutDx)
    ∧ quiescent_SsmOutDxIdeal (hSsmOutDxIdeal := hSsmOutDxIdeal)
    ∧ quiescent_SsmOutDxRefIdeal (hSsmOutDxRefIdeal := hSsmOutDxRefIdeal)
    ∧ quiescent_SsmOutDw (hSsmOutDw := hSsmOutDw)
    ∧ quiescent_SsmOutDwIdeal (hSsmOutDwIdeal := hSsmOutDwIdeal)
    ∧ quiescent_SsmOutDwRefIdeal (hSsmOutDwRefIdeal := hSsmOutDwRefIdeal)
    ∧ quiescent_GnormBwd (hGnormBwd := hGnormBwd)
    ∧ quiescent_GnormBwdIdeal (hGnormBwdIdeal := hGnormBwdIdeal)
    ∧ quiescent_GnormBwdIdeal_pre_gnorm_real (hGnormBwdIdeal := hGnormBwdIdeal) (hPre_gnorm_real := hPre_gnorm_real)
    ∧ quiescent_GnormBwdRefIdeal (hGnormBwdRefIdeal := hGnormBwdRefIdeal)
    ∧ quiescent_GnormBwdRefIdeal_pre_gnorm_real (hGnormBwdRefIdeal := hGnormBwdRefIdeal) (hPre_gnorm_real := hPre_gnorm_real)
    ∧ quiescent_ConvBwd (hConvBwd := hConvBwd)
    ∧ quiescent_ConvBwdIdeal (hConvBwdIdeal := hConvBwdIdeal)
    ∧ quiescent_ConvBwdIdeal_pre_conv_real (hConvBwdIdeal := hConvBwdIdeal) (hPre_conv_real := hPre_conv_real)
    ∧ quiescent_ConvBwdRefIdeal (hConvBwdRefIdeal := hConvBwdRefIdeal)
    ∧ quiescent_ConvBwdRefIdeal_pre_conv_real (hConvBwdRefIdeal := hConvBwdRefIdeal) (hPre_conv_real := hPre_conv_real)
    ∧ quiescent_FinalLoss (hFinalLoss := hFinalLoss)
    ∧ quiescent_FinalLossIdeal (hFinalLossIdeal := hFinalLossIdeal)
    ∧ quiescent_FinalLossRefIdeal (hFinalLossRefIdeal := hFinalLossRefIdeal)
    ∧ quiescent_NormMod (hNormMod := hNormMod)
    ∧ quiescent_NormModIdeal (hNormModIdeal := hNormModIdeal)
    ∧ quiescent_NormModRefIdeal (hNormModRefIdeal := hNormModRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_SsmIn (hSsmIn := hSsmIn)
    ∧ quiescent_SsmInIdeal (hSsmInIdeal := hSsmInIdeal)
    ∧ quiescent_SsmInRefIdeal (hSsmInRefIdeal := hSsmInRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_GnormFwd (hGnormFwd := hGnormFwd)
    ∧ quiescent_GnormFwdIdeal (hGnormFwdIdeal := hGnormFwdIdeal)
    ∧ quiescent_GnormFwdRefIdeal (hGnormFwdRefIdeal := hGnormFwdRefIdeal)
    ∧ quiescent_SsmOut (hSsmOut := hSsmOut)
    ∧ quiescent_SsmOutIdeal (hSsmOutIdeal := hSsmOutIdeal)
    ∧ quiescent_SsmOutRefIdeal (hSsmOutRefIdeal := hSsmOutRefIdeal)
    ∧ quiescent_ModW (hModW := hModW)
    ∧ quiescent_ModWIdeal (hModWIdeal := hModWIdeal)
    ∧ quiescent_ModWRefIdeal (hModWRefIdeal := hModWRefIdeal)
    ∧ quiescent_KvModW (hKvModW := hKvModW)
    ∧ quiescent_KvModWIdeal (hKvModWIdeal := hKvModWIdeal)
    ∧ quiescent_KvModWRefIdeal (hKvModWRefIdeal := hKvModWRefIdeal)
    ∧ quiescent_SmallSum (hSmallSum := hSmallSum)
    ∧ quiescent_SmallSumIdeal (hSmallSumIdeal := hSmallSumIdeal)
    ∧ quiescent_SmallSumRefIdeal (hSmallSumRefIdeal := hSmallSumRefIdeal)
    ∧ quiescent_GradGu (hGradGu := hGradGu)
    ∧ quiescent_GradGuIdeal (hGradGuIdeal := hGradGuIdeal)
    ∧ quiescent_GradGuRefIdeal (hGradGuRefIdeal := hGradGuRefIdeal)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_GradSsmIn (hGradSsmIn := hGradSsmIn)
    ∧ quiescent_GradSsmInIdeal (hGradSsmInIdeal := hGradSsmInIdeal)
    ∧ quiescent_GradSsmInRefIdeal (hGradSsmInRefIdeal := hGradSsmInRefIdeal)
    ∧ quiescent_GradSsmOut (hGradSsmOut := hGradSsmOut)
    ∧ quiescent_GradSsmOutIdeal (hGradSsmOutIdeal := hGradSsmOutIdeal)
    ∧ quiescent_GradSsmOutRefIdeal (hGradSsmOutRefIdeal := hGradSsmOutRefIdeal)
    ∧ quiescent_GradKv (hGradKv := hGradKv)
    ∧ quiescent_GradKvIdeal (hGradKvIdeal := hGradKvIdeal)
    ∧ quiescent_GradKvRefIdeal (hGradKvRefIdeal := hGradKvRefIdeal)
    ∧ quiescent_GradAttn (hGradAttn := hGradAttn)
    ∧ quiescent_GradAttnIdeal (hGradAttnIdeal := hGradAttnIdeal)
    ∧ quiescent_GradAttnRefIdeal (hGradAttnRefIdeal := hGradAttnRefIdeal)
    ∧ quiescent_AdamGu (hAdamGu := hAdamGu)
    ∧ quiescent_AdamGuIdeal (hAdamGuIdeal := hAdamGuIdeal)
    ∧ quiescent_AdamGuRefIdeal (hAdamGuRefIdeal := hAdamGuRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSsmIn (hAdamSsmIn := hAdamSsmIn)
    ∧ quiescent_AdamSsmInIdeal (hAdamSsmInIdeal := hAdamSsmInIdeal)
    ∧ quiescent_AdamSsmInRefIdeal (hAdamSsmInRefIdeal := hAdamSsmInRefIdeal)
    ∧ quiescent_AdamSsmOut (hAdamSsmOut := hAdamSsmOut)
    ∧ quiescent_AdamSsmOutIdeal (hAdamSsmOutIdeal := hAdamSsmOutIdeal)
    ∧ quiescent_AdamSsmOutRefIdeal (hAdamSsmOutRefIdeal := hAdamSsmOutRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamAttn (hAdamAttn := hAdamAttn)
    ∧ quiescent_AdamAttnIdeal (hAdamAttnIdeal := hAdamAttnIdeal)
    ∧ quiescent_AdamAttnRefIdeal (hAdamAttnRefIdeal := hAdamAttnRefIdeal)
    ∧ quiescent_AdamMod (hAdamMod := hAdamMod)
    ∧ quiescent_AdamModIdeal (hAdamModIdeal := hAdamModIdeal)
    ∧ quiescent_AdamModRefIdeal (hAdamModRefIdeal := hAdamModRefIdeal)
    ∧ quiescent_AdamKvMod (hAdamKvMod := hAdamKvMod)
    ∧ quiescent_AdamKvModIdeal (hAdamKvModIdeal := hAdamKvModIdeal)
    ∧ quiescent_AdamKvModRefIdeal (hAdamKvModRefIdeal := hAdamKvModRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_DownDx_DownDxIdeal
    ∧ algebraic_DownDxIdeal_DownDxRefIdeal_pre_all_real (hDownDxIdeal := hDownDxIdeal) (hDownDxRefIdeal := hDownDxRefIdeal) (hPre_all_real := hPre_all_real)
    ∧ preserves_DownDw_DownDwIdeal
    ∧ algebraic_DownDwIdeal_DownDwRefIdeal (hDownDwIdeal := hDownDwIdeal) (hDownDwRefIdeal := hDownDwRefIdeal)
    ∧ preserves_GateBwd_GateBwdIdeal
    ∧ algebraic_GateBwdIdeal_GateBwdRefIdeal (hGateBwdIdeal := hGateBwdIdeal) (hGateBwdRefIdeal := hGateBwdRefIdeal)
    ∧ preserves_GuDx_GuDxIdeal
    ∧ algebraic_GuDxIdeal_GuDxRefIdeal (hGuDxIdeal := hGuDxIdeal) (hGuDxRefIdeal := hGuDxRefIdeal)
    ∧ preserves_GuDw_GuDwIdeal
    ∧ algebraic_GuDwIdeal_GuDwRefIdeal (hGuDwIdeal := hGuDwIdeal) (hGuDwRefIdeal := hGuDwRefIdeal)
    ∧ preserves_MixGateBwd_MixGateBwdIdeal
    ∧ algebraic_MixGateBwdIdeal_MixGateBwdRefIdeal (hMixGateBwdIdeal := hMixGateBwdIdeal) (hMixGateBwdRefIdeal := hMixGateBwdRefIdeal)
    ∧ preserves_SsmInDx_SsmInDxIdeal
    ∧ algebraic_SsmInDxIdeal_SsmInDxRefIdeal (hSsmInDxIdeal := hSsmInDxIdeal) (hSsmInDxRefIdeal := hSsmInDxRefIdeal)
    ∧ preserves_SsmInDw_SsmInDwIdeal
    ∧ algebraic_SsmInDwIdeal_SsmInDwRefIdeal (hSsmInDwIdeal := hSsmInDwIdeal) (hSsmInDwRefIdeal := hSsmInDwRefIdeal)
    ∧ preserves_SsmOutDx_SsmOutDxIdeal
    ∧ algebraic_SsmOutDxIdeal_SsmOutDxRefIdeal (hSsmOutDxIdeal := hSsmOutDxIdeal) (hSsmOutDxRefIdeal := hSsmOutDxRefIdeal)
    ∧ preserves_SsmOutDw_SsmOutDwIdeal
    ∧ algebraic_SsmOutDwIdeal_SsmOutDwRefIdeal (hSsmOutDwIdeal := hSsmOutDwIdeal) (hSsmOutDwRefIdeal := hSsmOutDwRefIdeal)
    ∧ preserves_GnormBwd_GnormBwdIdeal
    ∧ algebraic_GnormBwdIdeal_GnormBwdRefIdeal_pre_gnorm_real (hGnormBwdIdeal := hGnormBwdIdeal) (hGnormBwdRefIdeal := hGnormBwdRefIdeal) (hPre_gnorm_real := hPre_gnorm_real)
    ∧ preserves_ConvBwd_ConvBwdIdeal
    ∧ algebraic_ConvBwdIdeal_ConvBwdRefIdeal_pre_conv_real (hConvBwdIdeal := hConvBwdIdeal) (hConvBwdRefIdeal := hConvBwdRefIdeal) (hPre_conv_real := hPre_conv_real)
    ∧ preserves_FinalLoss_FinalLossIdeal
    ∧ algebraic_FinalLossIdeal_FinalLossRefIdeal (hFinalLossIdeal := hFinalLossIdeal) (hFinalLossRefIdeal := hFinalLossRefIdeal)
    ∧ preserves_NormMod_NormModIdeal
    ∧ algebraic_NormModIdeal_NormModRefIdeal (hNormModIdeal := hNormModIdeal) (hNormModRefIdeal := hNormModRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_SsmIn_SsmInIdeal
    ∧ algebraic_SsmInIdeal_SsmInRefIdeal (hSsmInIdeal := hSsmInIdeal) (hSsmInRefIdeal := hSsmInRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_GnormFwd_GnormFwdIdeal
    ∧ algebraic_GnormFwdIdeal_GnormFwdRefIdeal (hGnormFwdIdeal := hGnormFwdIdeal) (hGnormFwdRefIdeal := hGnormFwdRefIdeal)
    ∧ preserves_SsmOut_SsmOutIdeal
    ∧ algebraic_SsmOutIdeal_SsmOutRefIdeal (hSsmOutIdeal := hSsmOutIdeal) (hSsmOutRefIdeal := hSsmOutRefIdeal)
    ∧ preserves_ModW_ModWIdeal
    ∧ algebraic_ModWIdeal_ModWRefIdeal (hModWIdeal := hModWIdeal) (hModWRefIdeal := hModWRefIdeal)
    ∧ preserves_KvModW_KvModWIdeal
    ∧ algebraic_KvModWIdeal_KvModWRefIdeal (hKvModWIdeal := hKvModWIdeal) (hKvModWRefIdeal := hKvModWRefIdeal)
    ∧ preserves_SmallSum_SmallSumIdeal
    ∧ algebraic_SmallSumIdeal_SmallSumRefIdeal (hSmallSumIdeal := hSmallSumIdeal) (hSmallSumRefIdeal := hSmallSumRefIdeal)
    ∧ preserves_GradGu_GradGuIdeal
    ∧ algebraic_GradGuIdeal_GradGuRefIdeal (hGradGuIdeal := hGradGuIdeal) (hGradGuRefIdeal := hGradGuRefIdeal)
    ∧ preserves_GradDown_GradDownIdeal
    ∧ algebraic_GradDownIdeal_GradDownRefIdeal (hGradDownIdeal := hGradDownIdeal) (hGradDownRefIdeal := hGradDownRefIdeal)
    ∧ preserves_GradSsmIn_GradSsmInIdeal
    ∧ algebraic_GradSsmInIdeal_GradSsmInRefIdeal (hGradSsmInIdeal := hGradSsmInIdeal) (hGradSsmInRefIdeal := hGradSsmInRefIdeal)
    ∧ preserves_GradSsmOut_GradSsmOutIdeal
    ∧ algebraic_GradSsmOutIdeal_GradSsmOutRefIdeal (hGradSsmOutIdeal := hGradSsmOutIdeal) (hGradSsmOutRefIdeal := hGradSsmOutRefIdeal)
    ∧ preserves_GradKv_GradKvIdeal
    ∧ algebraic_GradKvIdeal_GradKvRefIdeal (hGradKvIdeal := hGradKvIdeal) (hGradKvRefIdeal := hGradKvRefIdeal)
    ∧ preserves_GradAttn_GradAttnIdeal
    ∧ algebraic_GradAttnIdeal_GradAttnRefIdeal (hGradAttnIdeal := hGradAttnIdeal) (hGradAttnRefIdeal := hGradAttnRefIdeal)
    ∧ preserves_AdamGu_AdamGuIdeal
    ∧ algebraic_AdamGuIdeal_AdamGuRefIdeal (hAdamGuIdeal := hAdamGuIdeal) (hAdamGuRefIdeal := hAdamGuRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSsmIn_AdamSsmInIdeal
    ∧ algebraic_AdamSsmInIdeal_AdamSsmInRefIdeal (hAdamSsmInIdeal := hAdamSsmInIdeal) (hAdamSsmInRefIdeal := hAdamSsmInRefIdeal)
    ∧ preserves_AdamSsmOut_AdamSsmOutIdeal
    ∧ algebraic_AdamSsmOutIdeal_AdamSsmOutRefIdeal (hAdamSsmOutIdeal := hAdamSsmOutIdeal) (hAdamSsmOutRefIdeal := hAdamSsmOutRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamAttn_AdamAttnIdeal
    ∧ algebraic_AdamAttnIdeal_AdamAttnRefIdeal (hAdamAttnIdeal := hAdamAttnIdeal) (hAdamAttnRefIdeal := hAdamAttnRefIdeal)
    ∧ preserves_AdamMod_AdamModIdeal
    ∧ algebraic_AdamModIdeal_AdamModRefIdeal (hAdamModIdeal := hAdamModIdeal) (hAdamModRefIdeal := hAdamModRefIdeal)
    ∧ preserves_AdamKvMod_AdamKvModIdeal
    ∧ algebraic_AdamKvModIdeal_AdamKvModRefIdeal (hAdamKvModIdeal := hAdamKvModIdeal) (hAdamKvModRefIdeal := hAdamKvModRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_all_real.lean ====
abbrev S2048x1024 : Shape := ⟨2, ![2048, 1024]⟩
abbrev S2x1408x1024 : Shape := ⟨3, ![2, 1408, 1024]⟩
abbrev S4x2048x1408 : Shape := ⟨3, ![4, 2048, 1408]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2x1408x1024 : S_.BroadcastsInDim S2x1408x1024 (![] : Fin 0 → Fin S2x1408x1024.rank)
  reducesTo_S2x1408x1024_S_d0_1_2 : S2x1408x1024.ReducesTo [0, 1, 2] S_
  bcast_S_S4x2048x1408 : S_.BroadcastsInDim S4x2048x1408 (![] : Fin 0 → Fin S4x2048x1408.rank)
  reducesTo_S4x2048x1408_S_d0_1_2 : S4x2048x1408.ReducesTo [0, 1, 2] S_

variable [Facts]

def fn {F : FTy → Type} [FloatOps F] (main_arg0 : FVec F S2048x1024 .bf16) (main_arg1 : FVec F S2x1408x1024 .bf16) (main_arg2 : FVec F S4x2048x1408 .f32) : IVec S_ 1 :=
  let main_v0 : FVec F S2048x1024 .bf16 := Host.absf main_arg0
  let main_cst : FVec F S_ .bf16 := constant S_ .bf16 0x7F80#16
  let main_v1 : FVec F S2048x1024 .bf16 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2x1408x1024 .bf16 := Host.absf main_arg1
  let main_cst_0 : FVec F S_ .bf16 := constant S_ .bf16 0x7F80#16
  let main_v5 : FVec F S2x1408x1024 .bf16 := broadcastInDim S2x1408x1024 ![] bcast_S_S2x1408x1024 main_cst_0
  let main_v6 : IVec S2x1408x1024 1 := cmpf .olt main_v4 main_v5
  let main_c_1 : IVec S_ 1 := constantI S_ 1 1#1
  let main_v7 : IVec S_ 1 := (fun x v => Host.reduce IntOp.andi x v reducesTo_S2x1408x1024_S_d0_1_2 h_S_) main_v6 main_c_1
  let main_v8 : IVec S_ 1 := andi main_v3 main_v7
  let main_v9 : FVec F S4x2048x1408 .f32 := Host.absf main_arg2
  let main_cst_2 : FVec F S_ .f32 := constant S_ .f32 0x7F800000#32
  let main_v10 : FVec F S4x2048x1408 .f32 := broadcastInDim S4x2048x1408 ![] bcast_S_S4x2048x1408 main_cst_2
  let main_v11 : IVec S4x2048x1408 1 := cmpf .olt main_v9 main_v10
  let main_c_3 : IVec S_ 1 := constantI S_ 1 1#1
  let main_v12 : IVec S_ 1 := (fun x v => Host.reduce IntOp.andi x v reducesTo_S4x2048x1408_S_d0_1_2 h_S_) main_v11 main_c_3
  let main_v13 : IVec S_ 1 := andi main_v8 main_v12
  main_v13
-- ==== Pre_conv_real.lean ====
abbrev S2048x6176 : Shape := ⟨2, ![2048, 6176]⟩
abbrev S4x4096 : Shape := ⟨2, ![4, 4096]⟩
abbrev S1x4096 : Shape := ⟨2, ![1, 4096]⟩
abbrev S2048x4096 : Shape := ⟨2, ![2048, 4096]⟩
abbrev S_ : Shape := ⟨0, ![]⟩

class Facts : Prop where
  bcast_S_S2048x6176 : S_.BroadcastsInDim S2048x6176 (![] : Fin 0 → Fin S2048x6176.rank)
  reducesTo_S2048x6176_S_d0_1 : S2048x6176.ReducesTo [0, 1] S_
  h_S_ : 0 < S_.numel
  bcast_S_S4x4096 : S_.BroadcastsInDim S4x4096 (![] : Fin 0 → Fin S4x4096.rank)
  reducesTo_S4x4096_S_d0_1 : S4x4096.ReducesTo [0, 1] S_
  bcast_S_S1x4096 : S_.BroadcastsInDim S1x4096 (![] : Fin 0 → Fin S1x4096.rank)
  reducesTo_S1x4096_S_d0_1 : S1x4096.ReducesTo [0, 1] S_
  bcast_S_S2048x4096 : S_.BroadcastsInDim S2048x4096 (![] : Fin 0 → Fin S2048x4096.rank)
  reducesTo_S2048x4096_S_d0_1 : S2048x4096.ReducesTo [0, 1] S_

variable [Facts]

def fn_part1 {F : FTy → Type} [FloatOps F] (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  main_v18

def fn {F : FTy → Type} [FloatOps F] (main_arg0 : FVec F S2048x6176 .f32) (main_arg1 : FVec F S4x4096 .f32) (main_arg2 : FVec F S1x4096 .f32) (main_arg3 : FVec F S2048x4096 .f32) : IVec S_ 1 :=
  let main_v0 : FVec F S2048x6176 .f32 := Host.absf main_arg0
  let main_cst : FVec F S_ .f32 := constant S_ .f32 0x7F800000#32
  let main_v1 : FVec F S2048x6176 .f32 := broadcastInDim S2048x6176 ![] bcast_S_S2048x6176 main_cst
  let main_v2 : IVec S2048x6176 1 := cmpf .olt main_v0 main_v1
  let main_c : IVec S_ 1 := constantI S_ 1 1#1
  let main_v3 : IVec S_ 1 := (fun x v => Host.reduce IntOp.andi x v reducesTo_S2048x6176_S_d0_1 h_S_) main_v2 main_c
  let main_v4 : FVec F S4x4096 .f32 := Host.absf main_arg1
  let main_cst_0 : FVec F S_ .f32 := constant S_ .f32 0x7F800000#32
  let main_v5 : FVec F S4x4096 .f32 := broadcastInDim S4x4096 ![] bcast_S_S4x4096 main_cst_0
  let main_v6 : IVec S4x4096 1 := cmpf .olt main_v4 main_v5
  let main_c_1 : IVec S_ 1 := constantI S_ 1 1#1
  let main_v7 : IVec S_ 1 := (fun x v => Host.reduce IntOp.andi x v reducesTo_S4x4096_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_v13 main_v16
-- ==== Pre_gnorm_real.lean ====
abbrev S2048x2048 : Shape := ⟨2, ![2048, 2048]⟩
abbrev S2048x6176 : Shape := ⟨2, ![2048, 6176]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x6176 : S_.BroadcastsInDim S2048x6176 (![] : Fin 0 → Fin S2048x6176.rank)
  reducesTo_S2048x6176_S_d0_1 : S2048x6176.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S2048x2048 .f32) (main_arg1 : FVec F S2048x6176 .f32) (main_arg2 : FVec F S1x2048 .f32) (main_arg3 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x6176 .f32 := Host.absf main_arg1
  let main_cst_0 : FVec F S_ .f32 := constant S_ .f32 0x7F800000#32
  let main_v5 : FVec F S2048x6176 .f32 := broadcastInDim S2048x6176 ![] bcast_S_S2048x6176 main_cst_0
  let main_v6 : IVec S2048x6176 1 := cmpf .olt main_v4 main_v5
  let main_c_1 : IVec S_ 1 := constantI S_ 1 1#1
  let main_v7 : IVec S_ 1 := (fun x v => Host.reduce IntOp.andi x v reducesTo_S2048x6176_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== DownDx.lean ====
abbrev S2048x1024 : Shape := ⟨2, ![2048, 1024]⟩
abbrev S2x1408x1024 : Shape := ⟨3, ![2, 1408, 1024]⟩
abbrev S4x2048x1408 : Shape := ⟨3, ![4, 2048, 1408]⟩
abbrev S2x2x2048x1408 : Shape := ⟨4, ![2, 2, 2048, 1408]⟩
abbrev S512x1024 : Shape := ⟨2, ![512, 1024]⟩
abbrev S1x1408x1024 : Shape := ⟨3, ![1, 1408, 1024]⟩
abbrev S2x1x512x1408 : Shape := ⟨4, ![2, 1, 512, 1408]⟩
abbrev S1408x1024 : Shape := ⟨2, ![1408, 1024]⟩
abbrev S512x1408 : Shape := ⟨2, ![512, 1408]⟩
abbrev S1x1x512x1408 : Shape := ⟨4, ![1, 1, 512, 1408]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S2x1408x1024, .bf16⟩
  | .hbm, ⟨2, _⟩ => ⟨S4x2048x1408, .f32⟩
  | .hbm, ⟨3, _⟩ => ⟨S2x2x2048x1408, .f32⟩
  | .hbm, ⟨4, _⟩ => ⟨S2x2x2048x1408, .bf16⟩
  | .local _ .vmem, ⟨0, _⟩ => ⟨S512x1024, .bf16⟩
  | .local _ .vmem, ⟨1, _⟩ => ⟨S512x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S2x1x512x1408, .f32⟩
  | .local _ .vmem, ⟨5, _⟩ => ⟨S2x1x512x1408, .f32⟩
  | .local _ .vmem, ⟨6, _⟩ => ⟨S2x1x512x1408, .bf16⟩
  | .local _ .vmem, ⟨7, _⟩ => ⟨S2x1x512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownDxRefIdeal.lean ====
abbrev S2048x1024 : Shape := ⟨2, ![2048, 1024]⟩
abbrev S2x1408x1024 : Shape := ⟨3, ![2, 1408, 1024]⟩
abbrev S4x2048x1408 : Shape := ⟨3, ![4, 2048, 1408]⟩
abbrev S2x2x2048x1408 : Shape := ⟨4, ![2, 2, 2048, 1408]⟩
abbrev S1x2x2048x1408 : Shape := ⟨4, ![1, 2, 2048, 1408]⟩
abbrev S2x2048x1408 : Shape := ⟨3, ![2, 2048, 1408]⟩
abbrev S_ : Shape := ⟨0, ![]⟩
abbrev S2048x2x1408 : Shape := ⟨3, ![2048, 2, 1408]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x1408x1024, .bf16⟩
  | .hbm, ⟨2, _⟩ => ⟨S4x2048x1408, .f32⟩
  | .hbm, ⟨3, _⟩ => ⟨S2x1408x1024, .f32⟩
  | .hbm, ⟨4, _⟩ => ⟨S2048x1024, .f32⟩
  | .hbm, ⟨5, _⟩ => ⟨S2x2x2048x1408, .f32⟩
  | .hbm, ⟨6, _⟩ => ⟨S1x2x2048x1408, .f32⟩
  | .hbm, ⟨7, _⟩ => ⟨S2x2048x1408, .f32⟩
  | .hbm, ⟨8, _⟩ => ⟨S1x2x2048x1408, .f32⟩
  | .hbm, ⟨9, _⟩ => ⟨S2x2048x1408, .f32⟩
  | .hbm, ⟨10, _⟩ => ⟨S2x2048x1408, .f32⟩
  | .hbm, ⟨11, _⟩ => ⟨S2x2048x1408, .f32⟩
  | .hbm, ⟨12, _⟩ => ⟨S_, .f32⟩
  | .hbm, ⟨13, _⟩ => ⟨S2x2048x1408, .f32⟩
  | .hbm, ⟨14, _⟩ => ⟨S2x2048x1408, .f32⟩
  | .hbm, ⟨15, _⟩ => ⟨S_, .f32⟩
  | .hbm, ⟨16, _⟩ => ⟨S2x2048x1408, .f32⟩
  | .hbm, ⟨17, _⟩ => ⟨S2x2048x1408, .f32⟩
  | .hbm, ⟨18, _⟩ => ⟨S_, .f32⟩
  | .hbm, ⟨19, _⟩ => ⟨S2x2048x1408, .f32⟩
  | .hbm, ⟨20, _⟩ => ⟨S2x2048x1408, .f32⟩
  | .hbm, ⟨21, _⟩ => ⟨S2x2048x1408, .f32⟩
  | .hbm, ⟨22, _⟩ => ⟨S2x2048x1408, .f32⟩
  | .hbm, ⟨23, _⟩ => ⟨S2x2048x1408, .f32⟩
  | .hbm, ⟨24, _⟩ => ⟨S2048x1024, .f32⟩
  | .hbm, ⟨25, _⟩ => ⟨S2048x2x1408, .f32⟩
  | .hbm, ⟨26, _⟩ => ⟨S2x2048x1408, .f32⟩
  | .hbm, ⟨27, _⟩ => ⟨S2x2048x1408, .f32⟩
  | .hbm, ⟨28, _⟩ => ⟨S2x2048x1408, .f32⟩
  | .hbm, ⟨29, _⟩ => ⟨S2x2048x1408, .f32⟩
  | .hbm, ⟨30, _⟩ => ⟨S2x2048x1408, .f32⟩
  | .hbm, ⟨31, _⟩ => ⟨S2x2048x1408, .f32⟩
  | .hbm, ⟨32, _⟩ => ⟨S2x2048x1408, .f32⟩
  | .hbm, ⟨33, _⟩ => ⟨S1x2x2048x1408, .f32⟩
  | .hbm, ⟨34, _⟩ => ⟨S1x2x2048x1408, .f32⟩
  | .hbm, ⟨35, _⟩ => ⟨S2x2x2048x1408, .f32⟩
  | .hbm, ⟨36, _⟩ => ⟨S2x2x2048x1408, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]
-- ==== DownDw.lean ====
abbrev S2x2048x1408 : Shape := ⟨3, ![2, 2048, 1408]⟩
abbrev S2048x1024 : Shape := ⟨2, ![2048, 1024]⟩
abbrev S2x1408x1024 : Shape := ⟨3, ![2, 1408, 1024]⟩
abbrev S1x2048x1408 : Shape := ⟨3, ![1, 2048, 1408]⟩
abbrev S1x1408x1024 : Shape := ⟨3, ![1, 1408, 1024]⟩
abbrev S2048x1408 : Shape := ⟨2, ![2048, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2x2048x1408, .bf16⟩
  | .hbm, ⟨1, _⟩ => ⟨S2048x1024, .bf16⟩
  | .hbm, ⟨2, _⟩ => ⟨S2x1408x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S1x1408x1024, .bf16⟩
  | .local _ .vmem, ⟨4, _⟩ => ⟨S1x1408x1024, .bf16⟩
  | _, _ => ⟨S2x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![2, 1, 1, 1, 1], ![false, false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== DownDwRefIdeal.lean ====
abbrev S2x2048x1408 : Shape := ⟨3, ![2, 2048, 1408]⟩
abbrev S2048x1024 : Shape := ⟨2, ![2048, 1024]⟩
abbrev S_ : Shape := ⟨0, ![]⟩
abbrev S2x1408x1024 : Shape := ⟨3, ![2, 1408, 1024]⟩
abbrev S1024x2x1408 : Shape := ⟨3, ![1024, 2, 1408]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x1408, .bf16⟩
  | .hbm, ⟨1, _⟩ => ⟨S2048x1024, .bf16⟩
  | .hbm, ⟨2, _⟩ => ⟨S2x2048x1408, .f32⟩
  | .hbm, ⟨3, _⟩ => ⟨S2048x1024, .f32⟩
  | .hbm, ⟨4, _⟩ => ⟨S_, .f32⟩
  | .hbm, ⟨5, _⟩ => ⟨S2x1408x1024, .f32⟩
  | .hbm, ⟨6, _⟩ => ⟨S2048x1024, .f32⟩
  | .hbm, ⟨7, _⟩ => ⟨S1024x2x1408, .f32⟩
  | .hbm, ⟨8, _⟩ => ⟨S2x1408x1024, .f32⟩
  | .hbm, ⟨9, _⟩ => ⟨S2x1408x1024, .bf16⟩
  | _, _ => ⟨S2x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GateBwd.lean ====
abbrev S2048x1024 : Shape := ⟨2, ![2048, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .bf16⟩
  | .hbm, ⟨4, _⟩ => ⟨S1x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | .local _ .vmem, ⟨8, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GateBwdRefIdeal.lean ====
abbrev S2048x1024 : Shape := ⟨2, ![2048, 1024]⟩
abbrev S1x1024 : Shape := ⟨2, ![1, 1024]⟩
abbrev S_ : Shape := ⟨0, ![]⟩
abbrev S1024 : Shape := ⟨1, ![1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== GuDx.lean ====
abbrev S4x2048x1408 : Shape := ⟨3, ![4, 2048, 1408]⟩
abbrev S4x1024x1408 : Shape := ⟨3, ![4, 1024, 1408]⟩
abbrev S2048x1024 : Shape := ⟨2, ![2048, 1024]⟩
abbrev S1x1024 : Shape := ⟨2, ![1, 1024]⟩
abbrev S1x512x1408 : Shape := ⟨3, ![1, 512, 1408]⟩
abbrev S1x1024x1408 : Shape := ⟨3, ![1, 1024, 1408]⟩
abbrev S512x1024 : Shape := ⟨2, ![512, 1024]⟩
abbrev S512x1408 : Shape := ⟨2, ![512, 1408]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4x2048x1408, .bf16⟩
  | .hbm, ⟨1, _⟩ => ⟨S4x1024x1408, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | _, _ => ⟨S4x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨3, ![4, 4, 1], ![false, false, false]⟩

def k0_cond3 (i : grid0.Coords) : BitVec 1 :=
  let arg1 : BitVec 32 := BitVec.ofNat 32 (i 1).val
  let c3_i32 : BitVec 32 := 3#32
  let v22 : BitVec 1 := Scalar.cmpi .eq arg1 c3_i32
  let arg2 : BitVec 32 := BitVec.ofNat 32 (i 2).val
  let c0_i32_15 : BitVec 32 := 0#32
  let v23 : BitVec 1 := Scalar.cmpi .eq arg2 c0_i32_15
  let v24 : BitVec 1 := Scalar.andi v22 v23
  let v25 : BitVec 32 := Scalar.extui v24
  let c0_i32_16 : BitVec 32 := 0#32
  let v26 : BitVec 1 := Scalar.cmpi .ne v25 c0_i32_16
  v26

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== GuDxRefIdeal.lean ====
abbrev S4x2048x1408 : Shape := ⟨3, ![4, 2048, 1408]⟩
abbrev S4x1024x1408 : Shape := ⟨3, ![4, 1024, 1408]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S4x1408x2048 : Shape := ⟨3, ![4, 1408, 2048]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S4x2048x1408, .bf16⟩
  | .hbm, ⟨1, _⟩ => ⟨S4x1024x1408, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S4x2048x1408, .f32⟩
  | .hbm, ⟨7, _⟩ => ⟨S4x1024x1408, .f32⟩
  | .hbm, ⟨8, _⟩ => ⟨S_, .f32⟩
  | .hbm, ⟨9, _⟩ => ⟨S1x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S4x1408x2048, .f32⟩
  | .hbm, ⟨37, _⟩ => ⟨S4x2048x1408, .f32⟩
  | .hbm, ⟨38, _⟩ => ⟨S4x1408x2048, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x1024, .f32⟩
  | .hbm, ⟨60, _⟩ => ⟨S2048x1024, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | _, _ => ⟨S4x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== GuDw.lean ====
abbrev S2048x1024 : Shape := ⟨2, ![2048, 1024]⟩
abbrev S4x2048x1408 : Shape := ⟨3, ![4, 2048, 1408]⟩
abbrev S4x1024x1408 : Shape := ⟨3, ![4, 1024, 1408]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S4x2048x1408, .bf16⟩
  | .hbm, ⟨2, _⟩ => ⟨S4x1024x1408, .bf16⟩
  | .local _ .vmem, ⟨0, _⟩ => ⟨S2048x1024, .bf16⟩
  | .local _ .vmem, ⟨1, _⟩ => ⟨S1x2048x1408, .bf16⟩
  | .local _ .vmem, ⟨2, _⟩ => ⟨S1x2048x1408, .bf16⟩
  | .local _ .vmem, ⟨3, _⟩ => ⟨S1x1024x1408, .bf16⟩
  | .local _ .vmem, ⟨4, _⟩ => ⟨S1x1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![4, 1, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== GuDwRefIdeal.lean ====
abbrev S2048x1024 : Shape := ⟨2, ![2048, 1024]⟩
abbrev S4x2048x1408 : Shape := ⟨3, ![4, 2048, 1408]⟩
abbrev S_ : Shape := ⟨0, ![]⟩
abbrev S4x1024x1408 : Shape := ⟨3, ![4, 1024, 1408]⟩
abbrev S4x1408x2048 : Shape := ⟨3, ![4, 1408, 2048]⟩
abbrev S4x1408x1024 : Shape := ⟨3, ![4, 1408, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x2048x1408, .bf16⟩
  | .hbm, ⟨2, _⟩ => ⟨S2048x1024, .f32⟩
  | .hbm, ⟨3, _⟩ => ⟨S4x2048x1408, .f32⟩
  | .hbm, ⟨4, _⟩ => ⟨S_, .f32⟩
  | .hbm, ⟨5, _⟩ => ⟨S4x1024x1408, .f32⟩
  | .hbm, ⟨6, _⟩ => ⟨S4x1408x2048, .f32⟩
  | .hbm, ⟨7, _⟩ => ⟨S4x2048x1408, .f32⟩
  | .hbm, ⟨8, _⟩ => ⟨S4x1408x2048, .f32⟩
  | .hbm, ⟨9, _⟩ => ⟨S4x1408x1024, .f32⟩
  | .hbm, ⟨10, _⟩ => ⟨S4x1024x1408, .f32⟩
  | .hbm, ⟨11, _⟩ => ⟨S4x1024x1408, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MixGateBwd.lean ====
abbrev S2048x1024 : Shape := ⟨2, ![2048, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .bf16⟩
  | .hbm, ⟨4, _⟩ => ⟨S1x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | .local _ .vmem, ⟨8, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MixGateBwdRefIdeal.lean ====
abbrev S2048x1024 : Shape := ⟨2, ![2048, 1024]⟩
abbrev S1x1024 : Shape := ⟨2, ![1, 1024]⟩
abbrev S_ : Shape := ⟨0, ![]⟩
abbrev S1024 : Shape := ⟨1, ![1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== SsmInDx.lean ====
abbrev S4x2048x1544 : Shape := ⟨3, ![4, 2048, 1544]⟩
abbrev S4x1024x1544 : Shape := ⟨3, ![4, 1024, 1544]⟩
abbrev S2048x1024 : Shape := ⟨2, ![2048, 1024]⟩
abbrev S1x1024 : Shape := ⟨2, ![1, 1024]⟩
abbrev S1x512x1544 : Shape := ⟨3, ![1, 512, 1544]⟩
abbrev S1x1024x1544 : Shape := ⟨3, ![1, 1024, 1544]⟩
abbrev S512x1024 : Shape := ⟨2, ![512, 1024]⟩
abbrev S512x1544 : Shape := ⟨2, ![512, 1544]⟩
abbrev S1024x1544 : Shape := ⟨2, ![1024, 1544]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4x2048x1544, .bf16⟩
  | .hbm, ⟨1, _⟩ => ⟨S4x1024x1544, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S1x512x1544, .bf16⟩
  | .local _ .vmem, ⟨1, _⟩ => ⟨S1x512x1544, .bf16⟩
  | .local _ .vmem, ⟨2, _⟩ => ⟨S1x1024x1544, .bf16⟩
  | .local _ .vmem, ⟨3, _⟩ => ⟨S1x1024x1544, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | _, _ => ⟨S4x2048x1544, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨3, ![4, 4, 1], ![false, false, false]⟩

def k0_cond3 (i : grid0.Coords) : BitVec 1 :=
  let arg1 : BitVec 32 := BitVec.ofNat 32 (i 1).val
  let c3_i32 : BitVec 32 := 3#32
  let v22 : BitVec 1 := Scalar.cmpi .eq arg1 c3_i32
  let arg2 : BitVec 32 := BitVec.ofNat 32 (i 2).val
  let c0_i32_15 : BitVec 32 := 0#32
  let v23 : BitVec 1 := Scalar.cmpi .eq arg2 c0_i32_15
  let v24 : BitVec 1 := Scalar.andi v22 v23
  let v25 : BitVec 32 := Scalar.extui v24
  let c0_i32_16 : BitVec 32 := 0#32
  let v26 : BitVec 1 := Scalar.cmpi .ne v25 c0_i32_16
  v26

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1544 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x1544 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== SsmInDxRefIdeal.lean ====
abbrev S4x2048x1544 : Shape := ⟨3, ![4, 2048, 1544]⟩
abbrev S4x1024x1544 : Shape := ⟨3, ![4, 1024, 1544]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S4x1544x2048 : Shape := ⟨3, ![4, 1544, 2048]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S4x2048x1544, .bf16⟩
  | .hbm, ⟨1, _⟩ => ⟨S4x1024x1544, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S4x2048x1544, .f32⟩
  | .hbm, ⟨7, _⟩ => ⟨S4x1024x1544, .f32⟩
  | .hbm, ⟨8, _⟩ => ⟨S_, .f32⟩
  | .hbm, ⟨9, _⟩ => ⟨S1x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S4x1544x2048, .f32⟩
  | .hbm, ⟨37, _⟩ => ⟨S4x2048x1544, .f32⟩
  | .hbm, ⟨38, _⟩ => ⟨S4x1544x2048, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x1024, .f32⟩
  | .hbm, ⟨60, _⟩ => ⟨S2048x1024, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | _, _ => ⟨S4x2048x1544, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== SsmInDw.lean ====
abbrev S2048x1024 : Shape := ⟨2, ![2048, 1024]⟩
abbrev S4x2048x1544 : Shape := ⟨3, ![4, 2048, 1544]⟩
abbrev S4x1024x1544 : Shape := ⟨3, ![4, 1024, 1544]⟩
abbrev S1x2048x1544 : Shape := ⟨3, ![1, 2048, 1544]⟩
abbrev S1x1024x1544 : Shape := ⟨3, ![1, 1024, 1544]⟩
abbrev S2048x1544 : Shape := ⟨2, ![2048, 1544]⟩
abbrev S1024x1544 : Shape := ⟨2, ![1024, 1544]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S4x2048x1544, .bf16⟩
  | .hbm, ⟨2, _⟩ => ⟨S4x1024x1544, .bf16⟩
  | .local _ .vmem, ⟨0, _⟩ => ⟨S2048x1024, .bf16⟩
  | .local _ .vmem, ⟨1, _⟩ => ⟨S1x2048x1544, .bf16⟩
  | .local _ .vmem, ⟨2, _⟩ => ⟨S1x2048x1544, .bf16⟩
  | .local _ .vmem, ⟨3, _⟩ => ⟨S1x1024x1544, .bf16⟩
  | .local _ .vmem, ⟨4, _⟩ => ⟨S1x1024x1544, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![4, 1, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, false, true]

abbrev stage0_1 : Fin 2 → Memref sig .tc .vmem S1x2048x1544 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false, true]

abbrev stage0_2 : Fin 2 → Memref sig .tc .vmem S1x1024x1544 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== SsmInDwRefIdeal.lean ====
abbrev S2048x1024 : Shape := ⟨2, ![2048, 1024]⟩
abbrev S4x2048x1544 : Shape := ⟨3, ![4, 2048, 1544]⟩
abbrev S_ : Shape := ⟨0, ![]⟩
abbrev S4x1024x1544 : Shape := ⟨3, ![4, 1024, 1544]⟩
abbrev S4x1544x2048 : Shape := ⟨3, ![4, 1544, 2048]⟩
abbrev S4x1544x1024 : Shape := ⟨3, ![4, 1544, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x2048x1544, .bf16⟩
  | .hbm, ⟨2, _⟩ => ⟨S2048x1024, .f32⟩
  | .hbm, ⟨3, _⟩ => ⟨S4x2048x1544, .f32⟩
  | .hbm, ⟨4, _⟩ => ⟨S_, .f32⟩
  | .hbm, ⟨5, _⟩ => ⟨S4x1024x1544, .f32⟩
  | .hbm, ⟨6, _⟩ => ⟨S4x1544x2048, .f32⟩
  | .hbm, ⟨7, _⟩ => ⟨S4x2048x1544, .f32⟩
  | .hbm, ⟨8, _⟩ => ⟨S4x1544x2048, .f32⟩
  | .hbm, ⟨9, _⟩ => ⟨S4x1544x1024, .f32⟩
  | .hbm, ⟨10, _⟩ => ⟨S4x1024x1544, .f32⟩
  | .hbm, ⟨11, _⟩ => ⟨S4x1024x1544, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== SsmOutDx.lean ====
abbrev S2048x1024 : Shape := ⟨2, ![2048, 1024]⟩
abbrev S2048x2048 : Shape := ⟨2, ![2048, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 2, 2, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg2.toNat, arg4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== SsmOutDxRefIdeal.lean ====
abbrev S2048x1024 : Shape := ⟨2, ![2048, 1024]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x2048, .f32⟩
  | .hbm, ⟨6, _⟩ => ⟨S2048x1024, .f32⟩
  | .hbm, ⟨7, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsmOutDw.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![1, 2, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== SsmOutDwRefIdeal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x2048, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GnormBwd.lean ====
abbrev S2048x2048 : Shape := ⟨2, ![2048, 2048]⟩
abbrev S2048x6176 : Shape := ⟨2, ![2048, 6176]⟩
abbrev S1x2048 : Shape := ⟨2, ![1, 2048]⟩
abbrev S512x256 : Shape := ⟨2, ![512, 256]⟩
abbrev S1x256 : Shape := ⟨2, ![1, 256]⟩
abbrev S512 : Shape := ⟨1, ![512]⟩
abbrev S512x1 : Shape := ⟨2, ![512, 1]⟩
abbrev S256 : Shape := ⟨1, ![256]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x6176, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S1x2048, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S1x256, .f32⟩
  | .local _ .vmem, ⟨5, _⟩ => ⟨S1x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S1x256, .f32⟩
  | .local _ .vmem, ⟨13, _⟩ => ⟨S1x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== GnormBwdRefIdeal.lean ====
abbrev S2048x2048 : Shape := ⟨2, ![2048, 2048]⟩
abbrev S2048x6176 : Shape := ⟨2, ![2048, 6176]⟩
abbrev S1x2048 : Shape := ⟨2, ![1, 2048]⟩
abbrev S_ : Shape := ⟨0, ![]⟩
abbrev S2048x8x256 : Shape := ⟨3, ![2048, 8, 256]⟩
abbrev S2048x8 : Shape := ⟨2, ![2048, 8]⟩
abbrev S2048x8x1 : Shape := ⟨3, ![2048, 8, 1]⟩
abbrev S2048 : Shape := ⟨1, ![2048]⟩

abbrev nBuf : Space → Nat
  | .hbm => 71
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x6176, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x8x256, .f32⟩
  | .hbm, ⟨20, _⟩ => ⟨S2048x8x256, .f32⟩
  | .hbm, ⟨21, _⟩ => ⟨S_, .f32⟩
  | .hbm, ⟨22, _⟩ => ⟨S2048x8, .f32⟩
  | .hbm, ⟨23, _⟩ => ⟨S2048x8x1, .f32⟩
  | .hbm, ⟨24, _⟩ => ⟨S_, .f32⟩
  | .hbm, ⟨25, _⟩ => ⟨S2048x8x1, .f32⟩
  | .hbm, ⟨26, _⟩ => ⟨S2048x8x1, .f32⟩
  | .hbm, ⟨27, _⟩ => ⟨S_, .f32⟩
  | .hbm, ⟨28, _⟩ => ⟨S2048x8x1, .f32⟩
  | .hbm, ⟨29, _⟩ => ⟨S2048x8x1, .f32⟩
  | .hbm, ⟨30, _⟩ => ⟨S2048x8x1, .f32⟩
  | .hbm, ⟨31, _⟩ => ⟨S2048x8x1, .f32⟩
  | .hbm, ⟨32, _⟩ => ⟨S_, .f32⟩
  | .hbm, ⟨33, _⟩ => ⟨S2048x8x1, .f32⟩
  | .hbm, ⟨34, _⟩ => ⟨S2048x8x1, .f32⟩
  | .hbm, ⟨35, _⟩ => ⟨S2048x8x256, .f32⟩
  | .hbm, ⟨36, _⟩ => ⟨S2048x8x256, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S2048x2048, .f32⟩
  | .hbm, ⟨45, _⟩ => ⟨S2048x2048, .f32⟩
  | .hbm, ⟨46, _⟩ => ⟨S2048x8x256, .f32⟩
  | .hbm, ⟨47, _⟩ => ⟨S2048x8x256, .f32⟩
  | .hbm, ⟨48, _⟩ => ⟨S_, .f32⟩
  | .hbm, ⟨49, _⟩ => ⟨S2048x8, .f32⟩
  | .hbm, ⟨50, _⟩ => ⟨S2048x8x1, .f32⟩
  | .hbm, ⟨51, _⟩ => ⟨S2048x8x256, .f32⟩
  | .hbm, ⟨52, _⟩ => ⟨S2048x8x256, .f32⟩
  | .hbm, ⟨53, _⟩ => ⟨S2048x8x1, .f32⟩
  | .hbm, ⟨54, _⟩ => ⟨S_, .f32⟩
  | .hbm, ⟨55, _⟩ => ⟨S2048x8x1, .f32⟩
  | .hbm, ⟨56, _⟩ => ⟨S2048x8x1, .f32⟩
  | .hbm, ⟨57, _⟩ => ⟨S_, .f32⟩
  | .hbm, ⟨58, _⟩ => ⟨S2048x8, .f32⟩
  | .hbm, ⟨59, _⟩ => ⟨S2048x8x256, .f32⟩
  | .hbm, ⟨60, _⟩ => ⟨S2048x8x256, .f32⟩
  | .hbm, ⟨61, _⟩ => ⟨S2048x8x256, .f32⟩
  | .hbm, ⟨62, _⟩ => ⟨S2048x8x256, .f32⟩
  | .hbm, ⟨63, _⟩ => ⟨S2048x8x256, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v43 : Ref sig .tc := ⟨.hbm, 70, rfl⟩

abbrev nD : Nat := 1
abbrev τ : Topo := Topo.v7x

variable {F : FTy → Type} [FloatOps F]
-- ==== ConvBwd.lean ====
abbrev S2048x6176 : Shape := ⟨2, ![2048, 6176]⟩
abbrev S4x4096 : Shape := ⟨2, ![4, 4096]⟩
abbrev S1x4096 : Shape := ⟨2, ![1, 4096]⟩
abbrev S2048x4096 : Shape := ⟨2, ![2048, 4096]⟩
abbrev S2048x256 : Shape := ⟨2, ![2048, 256]⟩
abbrev S4x256 : Shape := ⟨2, ![4, 256]⟩
abbrev S1x256 : Shape := ⟨2, ![1, 256]⟩
abbrev S256 : Shape := ⟨1, ![256]⟩

abbrev nBuf : Space → Nat
  | .hbm => 7
  | .vmem => 14
  | .smem => 0
  | _ => 0

abbrev bufTy : (tb : Table) → Fin (tcTables nBuf tb) → BufTy
  | .hbm, ⟨0, _⟩ => ⟨S2048x6176, .f32⟩
  | .hbm, ⟨1, _⟩ => ⟨S4x4096, .f32⟩
  | .hbm, ⟨2, _⟩ => ⟨S1x4096, .f32⟩
  | .hbm, ⟨3, _⟩ => ⟨S2048x4096, .f32⟩
  | .hbm, ⟨4, _⟩ => ⟨S2048x4096, .f32⟩
  | .hbm, ⟨5, _⟩ => ⟨S4x4096, .f32⟩
  | .hbm, ⟨6, _⟩ => ⟨S1x4096, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S4x256, .f32⟩
  | .local _ .vmem, ⟨11, _⟩ => ⟨S4x256, .f32⟩
  | .local _ .vmem, ⟨12, _⟩ => ⟨S1x256, .f32⟩
  | .local _ .vmem, ⟨13, _⟩ => ⟨S1x256, .f32⟩
  | _, _ => ⟨S2048x6176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvBwdRefIdeal.lean ====
abbrev S2048x6176 : Shape := ⟨2, ![2048, 6176]⟩
abbrev S4x4096 : Shape := ⟨2, ![4, 4096]⟩
abbrev S1x4096 : Shape := ⟨2, ![1, 4096]⟩
abbrev S2048x4096 : Shape := ⟨2, ![2048, 4096]⟩
abbrev S_ : Shape := ⟨0, ![]⟩
abbrev S3x4096 : Shape := ⟨2, ![3, 4096]⟩
abbrev S2051x4096 : Shape := ⟨2, ![2051, 4096]⟩
abbrev S4096 : Shape := ⟨1, ![4096]⟩

abbrev nBuf : Space → Nat
  | .hbm => 122
  | .vmem => 0
  | .smem => 0
  | _ => 0

abbrev bufTy : (tb : Table) → Fin (tcTables nBuf tb) → BufTy
  | .hbm, ⟨0, _⟩ => ⟨S2048x6176, .f32⟩
  | .hbm, ⟨1, _⟩ => ⟨S4x4096, .f32⟩
  | .hbm, ⟨2, _⟩ => ⟨S1x4096, .f32⟩
  | .hbm, ⟨3, _⟩ => ⟨S2048x4096, .f32⟩
  | .hbm, ⟨4, _⟩ => ⟨S2048x4096, .f32⟩
  | .hbm, ⟨5, _⟩ => ⟨S_, .f32⟩
  | .hbm, ⟨6, _⟩ => ⟨S3x4096, .f32⟩
  | .hbm, ⟨7, _⟩ => ⟨S2051x4096, .f32⟩
  | .hbm, ⟨8, _⟩ => ⟨S_, .f32⟩
  | .hbm, ⟨9, _⟩ => ⟨S3x4096, .f32⟩
  | .hbm, ⟨10, _⟩ => ⟨S1x4096, .f32⟩
  | .hbm, ⟨11, _⟩ => ⟨S4096, .f32⟩
  | .hbm, ⟨12, _⟩ => ⟨S2048x4096, .f32⟩
  | .hbm, ⟨13, _⟩ => ⟨S1x4096, .f32⟩
  | .hbm, ⟨14, _⟩ => ⟨S2048x4096, .f32⟩
  | .hbm, ⟨15, _⟩ => ⟨S2048x4096, .f32⟩
  | .hbm, ⟨16, _⟩ => ⟨S_, .f32⟩
  | .hbm, ⟨17, _⟩ => ⟨S2048x4096, .f32⟩
  | .hbm, ⟨18, _⟩ => ⟨S2048x4096, .f32⟩
  | .hbm, ⟨19, _⟩ => ⟨S1x4096, .f32⟩
  | .hbm, ⟨20, _⟩ => ⟨S4096, .f32⟩
  | .hbm, ⟨21, _⟩ => ⟨S2048x4096, .f32⟩
  | .hbm, ⟨22, _⟩ => ⟨S1x4096, .f32⟩
  | .hbm, ⟨23, _⟩ => ⟨S2048x4096, .f32⟩
  | .hbm, ⟨24, _⟩ => ⟨S2048x4096, .f32⟩
  | .hbm, ⟨25, _⟩ => ⟨S2048x4096, .f32⟩
  | .hbm, ⟨26, _⟩ => ⟨S1x4096, .f32⟩
  | .hbm, ⟨27, _⟩ => ⟨S4096, .f32⟩
  | .hbm, ⟨28, _⟩ => ⟨S2048x4096, .f32⟩
  | .hbm, ⟨29, _⟩ => ⟨S1x4096, .f32⟩
  | .hbm, ⟨30, _⟩ => ⟨S2048x4096, .f32⟩
  | .hbm, ⟨31, _⟩ => ⟨S2048x4096, .f32⟩
  | .hbm, ⟨32, _⟩ => ⟨S2048x4096, .f32⟩
  | .hbm, ⟨33, _⟩ => ⟨S1x4096, .f32⟩
  | .hbm, ⟨34, _⟩ => ⟨S4096, .f32⟩
  | .hbm, ⟨35, _⟩ => ⟨S2048x4096, .f32⟩
  | .hbm, ⟨36, _⟩ => ⟨S1x4096, .f32⟩
  | .hbm, ⟨37, _⟩ => ⟨S2048x4096, .f32⟩
  | .hbm, ⟨38, _⟩ => ⟨S2048x4096, .f32⟩
  | .hbm, ⟨39, _⟩ => ⟨S2048x4096, .f32⟩
  | .hbm, ⟨40, _⟩ => ⟨S2048x4096, .f32⟩
  | .hbm, ⟨41, _⟩ => ⟨S2048x4096, .f32⟩
  | .hbm, ⟨42, _⟩ => ⟨S2048x4096, .f32⟩
  | .hbm, ⟨43, _⟩ => ⟨S2048x4096, .f32⟩
  | .hbm, ⟨44, _⟩ => ⟨S_, .f32⟩
  | .hbm, ⟨45, _⟩ => ⟨S2048x4096, .f32⟩
  | .hbm, ⟨46, _⟩ => ⟨S2048x4096, .f32⟩
  | .hbm, ⟨47, _⟩ => ⟨S_, .f32⟩
  | .hbm, ⟨48, _⟩ => ⟨S2048x4096, .f32⟩
  | .hbm, ⟨49, _⟩ => ⟨S2048x4096, .f32⟩
  | .hbm, ⟨50, _⟩ => ⟨S_, .f32⟩
  | .hbm, ⟨51, _⟩ => ⟨S2048x4096, .f32⟩
  | .hbm, ⟨52, _⟩ => ⟨S2048x4096, .f32⟩
  | .hbm, ⟨53, _⟩ => ⟨S2048x4096, .f32⟩
  | .hbm, ⟨54, _⟩ => ⟨S2048x4096, .f32⟩
  | .hbm, ⟨55, _⟩ => ⟨S2048x4096, .f32⟩
  | .hbm, ⟨56, _⟩ => ⟨S2048x4096, .f32⟩
  | .hbm, ⟨57, _⟩ => ⟨S2048x4096, .f32⟩
  | .hbm, ⟨58, _⟩ => ⟨S2048x4096, .f32⟩
  | .hbm, ⟨59, _⟩ => ⟨S_, .f32⟩
  | .hbm, ⟨60, _⟩ => ⟨S4096, .f32⟩
  | .hbm, ⟨61, _⟩ => ⟨S1x4096, .f32⟩
  | .hbm, ⟨62, _⟩ => ⟨S2048x4096, .f32⟩
  | .hbm, ⟨63, _⟩ => ⟨S2048x4096, .f32⟩
  | .hbm, ⟨64, _⟩ => ⟨S2048x4096, .f32⟩
  | .hbm, ⟨65, _⟩ => ⟨S_, .f32⟩
  | .hbm, ⟨66, _⟩ => ⟨S4096, .f32⟩
  | .hbm, ⟨67, _⟩ => ⟨S1x4096, .f32⟩
  | .hbm, ⟨68, _⟩ => ⟨S_, .f32⟩
  | .hbm, ⟨69, _⟩ => ⟨S4096, .f32⟩
  | .hbm, ⟨70, _⟩ => ⟨S_, .f32⟩
  | .hbm, ⟨71, _⟩ => ⟨S2051x4096, .f32⟩
  | .hbm, ⟨72, _⟩ => ⟨S1x4096, .f32⟩
  | .hbm, ⟨73, _⟩ => ⟨S_, .f32⟩
  | .hbm, ⟨74, _⟩ => ⟨S4x4096, .f32⟩
  | .hbm, ⟨75, _⟩ => ⟨S2048x4096, .f32⟩
  | .hbm, ⟨76, _⟩ => ⟨S2048x4096, .f32⟩
  | .hbm, ⟨77, _⟩ => ⟨S2048x4096, .f32⟩
  | .hbm, ⟨78, _⟩ => ⟨S_, .f32⟩
  | .hbm, ⟨79, _⟩ => ⟨S4096, .f32⟩
  | .hbm, ⟨80, _⟩ => ⟨S1x4096, .f32⟩
  | .hbm, ⟨81, _⟩ => ⟨S_, .f32⟩
  | .hbm, ⟨82, _⟩ => ⟨S4096, .f32⟩
  | .hbm, ⟨83, _⟩ => ⟨S_, .f32⟩
  | .hbm, ⟨84, _⟩ => ⟨S2051x4096, .f32⟩
  | .hbm, ⟨85, _⟩ => ⟨S2051x4096, .f32⟩
  | .hbm, ⟨86, _⟩ => ⟨S1x4096, .f32⟩
  | .hbm, ⟨87, _⟩ => ⟨S_, .f32⟩
  | .hbm, ⟨88, _⟩ => ⟨S4x4096, .f32⟩
  | .hbm, ⟨89, _⟩ => ⟨S4x4096, .f32⟩
  | .hbm, ⟨90, _⟩ => ⟨S2048x4096, .f32⟩
  | .hbm, ⟨91, _⟩ => ⟨S2048x4096, .f32⟩
  | .hbm, ⟨92, _⟩ => ⟨S2048x4096, .f32⟩
  | .hbm, ⟨93, _⟩ => ⟨S_, .f32⟩
  | .hbm, ⟨94, _⟩ => ⟨S4096, .f32⟩
  | .hbm, ⟨95, _⟩ => ⟨S1x4096, .f32⟩
  | .hbm, ⟨96, _⟩ => ⟨S_, .f32⟩
  | .hbm, ⟨97, _⟩ => ⟨S4096, .f32⟩
  | .hbm, ⟨98, _⟩ => ⟨S_, .f32⟩
  | .hbm, ⟨99, _⟩ => ⟨S2051x4096, .f32⟩
  | .hbm, ⟨100, _⟩ => ⟨S2051x4096, .f32⟩
  | .hbm, ⟨101, _⟩ => ⟨S1x4096, .f32⟩
  | .hbm, ⟨102, _⟩ => ⟨S_, .f32⟩
  | .hbm, ⟨103, _⟩ => ⟨S4x4096, .f32⟩
  | .hbm, ⟨104, _⟩ => ⟨S4x4096, .f32⟩
  | .hbm, ⟨105, _⟩ => ⟨S2048x4096, .f32⟩
  | .hbm, ⟨106, _⟩ => ⟨S2048x4096, .f32⟩
  | .hbm, ⟨107, _⟩ => ⟨S2048x4096, .f32⟩
  | .hbm, ⟨108, _⟩ => ⟨S_, .f32⟩
  | .hbm, ⟨109, _⟩ => ⟨S4096, .f32⟩
  | .hbm, ⟨110, _⟩ => ⟨S1x4096, .f32⟩
  | .hbm, ⟨111, _⟩ => ⟨S_, .f32⟩
  | .hbm, ⟨112, _⟩ => ⟨S4096, .f32⟩
  | .hbm, ⟨113, _⟩ => ⟨S_, .f32⟩
  | .hbm, ⟨114, _⟩ => ⟨S2051x4096, .f32⟩
  | .hbm, ⟨115, _⟩ => ⟨S2051x4096, .f32⟩
  | .hbm, ⟨116, _⟩ => ⟨S1x4096, .f32⟩
  | .hbm, ⟨117, _⟩ => ⟨S_, .f32⟩
  | .hbm, ⟨118, _⟩ => ⟨S4x4096, .f32⟩
  | .hbm, ⟨119, _⟩ => ⟨S4x4096, .f32⟩
  | .hbm, ⟨120, _⟩ => ⟨S3x4096, .f32⟩
  | .hbm, ⟨121, _⟩ => ⟨S2048x4096, .f32⟩
  | _, _ => ⟨S2048x6176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v35_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v35_1 : Ref sig .tc := ⟨.hbm, 53, rfl⟩
abbrev main_v35_0 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v36 : Ref sig .tc := ⟨.hbm, 58, rfl⟩
abbrev main_cst_2 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_3 : Ref sig .tc := ⟨.hbm, 65, rfl⟩
abbrev main_v42 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_14 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_15 : Ref sig .tc := ⟨.hbm, 108, rfl⟩
abbrev main_v73 : Ref sig .tc := ⟨.hbm, 109, rfl⟩
abbrev main_v74 : Ref sig .tc := ⟨.hbm, 110, rfl⟩
abbrev main_cst_16 : Ref sig .tc := ⟨.hbm, 111, rfl⟩
abbrev main_v75 : Ref sig .tc := ⟨.hbm, 112, rfl⟩
abbrev main_cst_17 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_18 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩

abbrev nD : Nat := 1
abbrev τ : Topo := Topo.v7x

variable {F : FTy → Type} [FloatOps F]
-- ==== FinalLoss.lean ====
abbrev S2048x1024 : Shape := ⟨2, ![2048, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S1x1, .f32⟩
  | .hbm, ⟨4, _⟩ => ⟨S2048x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FinalLossRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1x1 : Shape := ⟨2, ![1, 1]⟩
abbrev S1024 : Shape := ⟨1, ![1024]⟩

abbrev nBuf : Space → Nat
  | .hbm => 69
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1x1, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S2048x1024, .f32⟩
  | .hbm, ⟨57, _⟩ => ⟨S2048x1024, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_13 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== NormMod.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormModRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== FfnUp.lean ====
abbrev S2048x1024 : Shape := ⟨2, ![2048, 1024]⟩
abbrev S4x1024x1408 : Shape := ⟨3, ![4, 1024, 1408]⟩
abbrev S2x2x1024x1408 : Shape := ⟨4, ![2, 2, 1024, 1408]⟩
abbrev S2x2x2048x1408 : Shape := ⟨4, ![2, 2, 2048, 1408]⟩
abbrev S2x2048x1408 : Shape := ⟨3, ![2, 2048, 1408]⟩
abbrev S512x1024 : Shape := ⟨2, ![512, 1024]⟩
abbrev S2x1x1024x1408 : Shape := ⟨4, ![2, 1, 1024, 1408]⟩
abbrev S2x1x512x1408 : Shape := ⟨4, ![2, 1, 512, 1408]⟩
abbrev S1x512x1408 : Shape := ⟨3, ![1, 512, 1408]⟩
abbrev S1x1x1024x1408 : Shape := ⟨4, ![1, 1, 1024, 1408]⟩
abbrev S1024x1408 : Shape := ⟨2, ![1024, 1408]⟩
abbrev S512x1408 : Shape := ⟨2, ![512, 1408]⟩
abbrev S1x1x512x1408 : Shape := ⟨4, ![1, 1, 512, 1408]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S4x1024x1408, .bf16⟩
  | .hbm, ⟨2, _⟩ => ⟨S2x2x1024x1408, .bf16⟩
  | .hbm, ⟨3, _⟩ => ⟨S2x2x2048x1408, .f32⟩
  | .hbm, ⟨4, _⟩ => ⟨S2x2048x1408, .bf16⟩
  | .local _ .vmem, ⟨0, _⟩ => ⟨S512x1024, .bf16⟩
  | .local _ .vmem, ⟨1, _⟩ => ⟨S512x1024, .bf16⟩
  | .local _ .vmem, ⟨2, _⟩ => ⟨S2x1x1024x1408, .bf16⟩
  | .local _ .vmem, ⟨3, _⟩ => ⟨S2x1x1024x1408, .bf16⟩
  | .local _ .vmem, ⟨4, _⟩ => ⟨S2x1x512x1408, .f32⟩
  | .local _ .vmem, ⟨5, _⟩ => ⟨S2x1x512x1408, .f32⟩
  | .local _ .vmem, ⟨6, _⟩ => ⟨S1x512x1408, .bf16⟩
  | .local _ .vmem, ⟨7, _⟩ => ⟨S1x512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpRefIdeal.lean ====
abbrev S2048x1024 : Shape := ⟨2, ![2048, 1024]⟩
abbrev S4x1024x1408 : Shape := ⟨3, ![4, 1024, 1408]⟩
abbrev S2x2x1024x1408 : Shape := ⟨4, ![2, 2, 1024, 1408]⟩
abbrev S2x2x1408x2048 : Shape := ⟨4, ![2, 2, 1408, 2048]⟩
abbrev S2x2x2048x1408 : Shape := ⟨4, ![2, 2, 2048, 1408]⟩
abbrev S1x2x2048x1408 : Shape := ⟨4, ![1, 2, 2048, 1408]⟩
abbrev S2x2048x1408 : Shape := ⟨3, ![2, 2048, 1408]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x1408, .bf16⟩
  | .hbm, ⟨2, _⟩ => ⟨S2048x1024, .f32⟩
  | .hbm, ⟨3, _⟩ => ⟨S4x1024x1408, .f32⟩
  | .hbm, ⟨4, _⟩ => ⟨S2x2x1024x1408, .f32⟩
  | .hbm, ⟨5, _⟩ => ⟨S2x2x1408x2048, .f32⟩
  | .hbm, ⟨6, _⟩ => ⟨S2x2x2048x1408, .f32⟩
  | .hbm, ⟨7, _⟩ => ⟨S1x2x2048x1408, .f32⟩
  | .hbm, ⟨8, _⟩ => ⟨S2x2048x1408, .f32⟩
  | .hbm, ⟨9, _⟩ => ⟨S1x2x2048x1408, .f32⟩
  | .hbm, ⟨10, _⟩ => ⟨S2x2048x1408, .f32⟩
  | .hbm, ⟨11, _⟩ => ⟨S2x2048x1408, .f32⟩
  | .hbm, ⟨12, _⟩ => ⟨S2x2048x1408, .f32⟩
  | .hbm, ⟨13, _⟩ => ⟨S_, .f32⟩
  | .hbm, ⟨14, _⟩ => ⟨S2x2048x1408, .f32⟩
  | .hbm, ⟨15, _⟩ => ⟨S2x2048x1408, .f32⟩
  | .hbm, ⟨16, _⟩ => ⟨S_, .f32⟩
  | .hbm, ⟨17, _⟩ => ⟨S2x2048x1408, .f32⟩
  | .hbm, ⟨18, _⟩ => ⟨S2x2048x1408, .f32⟩
  | .hbm, ⟨19, _⟩ => ⟨S2x2048x1408, .f32⟩
  | .hbm, ⟨20, _⟩ => ⟨S2x2048x1408, .f32⟩
  | .hbm, ⟨21, _⟩ => ⟨S2x2048x1408, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== FfnDown.lean ====
abbrev S2x2048x1408 : Shape := ⟨3, ![2, 2048, 1408]⟩
abbrev S2x1408x1024 : Shape := ⟨3, ![2, 1408, 1024]⟩
abbrev S2048x1024 : Shape := ⟨2, ![2048, 1024]⟩
abbrev S1x1024 : Shape := ⟨2, ![1, 1024]⟩
abbrev S1x512x1408 : Shape := ⟨3, ![1, 512, 1408]⟩
abbrev S1x1408x1024 : Shape := ⟨3, ![1, 1408, 1024]⟩
abbrev S512x1024 : Shape := ⟨2, ![512, 1024]⟩
abbrev S512x1408 : Shape := ⟨2, ![512, 1408]⟩
abbrev S1408x1024 : Shape := ⟨2, ![1408, 1024]⟩

abbrev nBuf : Space → Nat
  | .hbm => 6
  | .vmem => 12
  | .smem => 0
  | _ => 0

abbrev bufTy : (tb : Table) → Fin (tcTables nBuf tb) → BufTy
  | .hbm, ⟨0, _⟩ => ⟨S2x2048x1408, .bf16⟩
  | .hbm, ⟨1, _⟩ => ⟨S2x1408x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S2x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨5, ![1, 4, 1, 2, 1], ![false, false, false, false, false]⟩

def k0_cond2 (i : grid0.Coords) : BitVec 1 :=
  let arg3 : BitVec 32 := BitVec.ofNat 32 (i 3).val
  let c1_i32 : BitVec 32 := 1#32
  let v15 : BitVec 1 := Scalar.cmpi .eq arg3 c1_i32
  let arg4 : BitVec 32 := BitVec.ofNat 32 (i 4).val
  let c0_i32_11 : BitVec 32 := 0#32
  let v16 : BitVec 1 := Scalar.cmpi .eq arg4 c0_i32_11
  let v17 : BitVec 1 := Scalar.andi v15 v16
  let v18 : BitVec 32 := Scalar.extui v17
  let c0_i32_12 : BitVec 32 := 0#32
  let v19 : BitVec 1 := Scalar.cmpi .ne v18 c0_i32_12
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg3.toNat, arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg3.toNat, arg4.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true, false, false]
-- ==== FfnDownRefIdeal.lean ====
abbrev S2x2048x1408 : Shape := ⟨3, ![2, 2048, 1408]⟩
abbrev S2x1408x1024 : Shape := ⟨3, ![2, 1408, 1024]⟩
abbrev S2048x1024 : Shape := ⟨2, ![2048, 1024]⟩
abbrev S1x1024 : Shape := ⟨2, ![1, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2x2048x1408, .bf16⟩
  | .hbm, ⟨1, _⟩ => ⟨S2x1408x1024, .bf16⟩
  | .hbm, ⟨2, _⟩ => ⟨S2048x1024, .f32⟩
  | .hbm, ⟨3, _⟩ => ⟨S1x1024, .f32⟩
  | .hbm, ⟨4, _⟩ => ⟨S2x2048x1408, .f32⟩
  | .hbm, ⟨5, _⟩ => ⟨S2x1408x1024, .f32⟩
  | .hbm, ⟨6, _⟩ => ⟨S2048x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S2048x1024, .f32⟩
  | .hbm, ⟨11, _⟩ => ⟨S2048x1024, .f32⟩
  | .hbm, ⟨12, _⟩ => ⟨S2048x1024, .f32⟩
  | _, _ => ⟨S2x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== SsmIn.lean ====
abbrev S2048x1024 : Shape := ⟨2, ![2048, 1024]⟩
abbrev S4x1024x1544 : Shape := ⟨3, ![4, 1024, 1544]⟩
abbrev S4x2048x1544 : Shape := ⟨3, ![4, 2048, 1544]⟩
abbrev S1024x1024 : Shape := ⟨2, ![1024, 1024]⟩
abbrev S1x1024x1544 : Shape := ⟨3, ![1, 1024, 1544]⟩
abbrev S1024x1544 : Shape := ⟨2, ![1024, 1544]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S4x1024x1544, .bf16⟩
  | .hbm, ⟨2, _⟩ => ⟨S4x2048x1544, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1544, .bf16⟩
  | .local _ .vmem, ⟨3, _⟩ => ⟨S1x1024x1544, .bf16⟩
  | .local _ .vmem, ⟨4, _⟩ => ⟨S1x1024x1544, .f32⟩
  | .local _ .vmem, ⟨5, _⟩ => ⟨S1x1024x1544, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![4, 2, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1x1024x1544 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false, true]

abbrev stage0_2 : Fin 2 → Memref sig .tc .vmem S1x1024x1544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== SsmInRefIdeal.lean ====
abbrev S2048x1024 : Shape := ⟨2, ![2048, 1024]⟩
abbrev S4x1024x1544 : Shape := ⟨3, ![4, 1024, 1544]⟩
abbrev S4x1544x2048 : Shape := ⟨3, ![4, 1544, 2048]⟩
abbrev S4x2048x1544 : Shape := ⟨3, ![4, 2048, 1544]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x1544, .bf16⟩
  | .hbm, ⟨2, _⟩ => ⟨S2048x1024, .f32⟩
  | .hbm, ⟨3, _⟩ => ⟨S4x1024x1544, .f32⟩
  | .hbm, ⟨4, _⟩ => ⟨S4x1544x2048, .f32⟩
  | .hbm, ⟨5, _⟩ => ⟨S4x2048x1544, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ConvFwd.lean ====
abbrev S2048x6176 : Shape := ⟨2, ![2048, 6176]⟩
abbrev S4x4096 : Shape := ⟨2, ![4, 4096]⟩
abbrev S1x4096 : Shape := ⟨2, ![1, 4096]⟩
abbrev S2048x4096 : Shape := ⟨2, ![2048, 4096]⟩
abbrev S2048x256 : Shape := ⟨2, ![2048, 256]⟩
abbrev S4x256 : Shape := ⟨2, ![4, 256]⟩
abbrev S1x256 : Shape := ⟨2, ![1, 256]⟩

abbrev nBuf : Space → Nat
  | .hbm => 4
  | .vmem => 8
  | .smem => 0
  | _ => 0

abbrev bufTy : (tb : Table) → Fin (tcTables nBuf tb) → BufTy
  | .hbm, ⟨0, _⟩ => ⟨S2048x6176, .f32⟩
  | .hbm, ⟨1, _⟩ => ⟨S4x4096, .f32⟩
  | .hbm, ⟨2, _⟩ => ⟨S1x4096, .f32⟩
  | .hbm, ⟨3, _⟩ => ⟨S2048x4096, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | _, _ => ⟨S2048x6176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvFwdRefIdeal.lean ====
abbrev S2048x6176 : Shape := ⟨2, ![2048, 6176]⟩
abbrev S4x4096 : Shape := ⟨2, ![4, 4096]⟩
abbrev S1x4096 : Shape := ⟨2, ![1, 4096]⟩
abbrev S2048x4096 : Shape := ⟨2, ![2048, 4096]⟩
abbrev S_ : Shape := ⟨0, ![]⟩
abbrev S3x4096 : Shape := ⟨2, ![3, 4096]⟩
abbrev S2051x4096 : Shape := ⟨2, ![2051, 4096]⟩
abbrev S4096 : Shape := ⟨1, ![4096]⟩

abbrev nBuf : Space → Nat
  | .hbm => 48
  | .vmem => 0
  | .smem => 0
  | _ => 0

abbrev bufTy : (tb : Table) → Fin (tcTables nBuf tb) → BufTy
  | .hbm, ⟨0, _⟩ => ⟨S2048x6176, .f32⟩
  | .hbm, ⟨1, _⟩ => ⟨S4x4096, .f32⟩
  | .hbm, ⟨2, _⟩ => ⟨S1x4096, .f32⟩
  | .hbm, ⟨3, _⟩ => ⟨S2048x4096, .f32⟩
  | .hbm, ⟨4, _⟩ => ⟨S_, .f32⟩
  | .hbm, ⟨5, _⟩ => ⟨S3x4096, .f32⟩
  | .hbm, ⟨6, _⟩ => ⟨S2051x4096, .f32⟩
  | .hbm, ⟨7, _⟩ => ⟨S1x4096, .f32⟩
  | .hbm, ⟨8, _⟩ => ⟨S4096, .f32⟩
  | .hbm, ⟨9, _⟩ => ⟨S2048x4096, .f32⟩
  | .hbm, ⟨10, _⟩ => ⟨S1x4096, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S1x4096, .f32⟩
  | .hbm, ⟨17, _⟩ => ⟨S4096, .f32⟩
  | .hbm, ⟨18, _⟩ => ⟨S2048x4096, .f32⟩
  | .hbm, ⟨19, _⟩ => ⟨S1x4096, .f32⟩
  | .hbm, ⟨20, _⟩ => ⟨S2048x4096, .f32⟩
  | .hbm, ⟨21, _⟩ => ⟨S2048x4096, .f32⟩
  | .hbm, ⟨22, _⟩ => ⟨S2048x4096, .f32⟩
  | .hbm, ⟨23, _⟩ => ⟨S1x4096, .f32⟩
  | .hbm, ⟨24, _⟩ => ⟨S4096, .f32⟩
  | .hbm, ⟨25, _⟩ => ⟨S2048x4096, .f32⟩
  | .hbm, ⟨26, _⟩ => ⟨S1x4096, .f32⟩
  | .hbm, ⟨27, _⟩ => ⟨S2048x4096, .f32⟩
  | .hbm, ⟨28, _⟩ => ⟨S2048x4096, .f32⟩
  | .hbm, ⟨29, _⟩ => ⟨S2048x4096, .f32⟩
  | .hbm, ⟨30, _⟩ => ⟨S1x4096, .f32⟩
  | .hbm, ⟨31, _⟩ => ⟨S4096, .f32⟩
  | .hbm, ⟨32, _⟩ => ⟨S2048x4096, .f32⟩
  | .hbm, ⟨33, _⟩ => ⟨S1x4096, .f32⟩
  | .hbm, ⟨34, _⟩ => ⟨S2048x4096, .f32⟩
  | .hbm, ⟨35, _⟩ => ⟨S2048x4096, .f32⟩
  | .hbm, ⟨36, _⟩ => ⟨S2048x4096, .f32⟩
  | .hbm, ⟨37, _⟩ => ⟨S2048x4096, .f32⟩
  | .hbm, ⟨38, _⟩ => ⟨S2048x4096, .f32⟩
  | .hbm, ⟨39, _⟩ => ⟨S2048x4096, .f32⟩
  | .hbm, ⟨40, _⟩ => ⟨S2048x4096, .f32⟩
  | .hbm, ⟨41, _⟩ => ⟨S_, .f32⟩
  | .hbm, ⟨42, _⟩ => ⟨S2048x4096, .f32⟩
  | .hbm, ⟨43, _⟩ => ⟨S2048x4096, .f32⟩
  | .hbm, ⟨44, _⟩ => ⟨S_, .f32⟩
  | .hbm, ⟨45, _⟩ => ⟨S2048x4096, .f32⟩
  | .hbm, ⟨46, _⟩ => ⟨S2048x4096, .f32⟩
  | .hbm, ⟨47, _⟩ => ⟨S2048x4096, .f32⟩
  | _, _ => ⟨S2048x6176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== GnormFwd.lean ====
abbrev S2048x2048 : Shape := ⟨2, ![2048, 2048]⟩
abbrev S2048x6176 : Shape := ⟨2, ![2048, 6176]⟩
abbrev S1x2048 : Shape := ⟨2, ![1, 2048]⟩
abbrev S512x256 : Shape := ⟨2, ![512, 256]⟩
abbrev S1x256 : Shape := ⟨2, ![1, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x6176, .f32⟩
  | .hbm, ⟨2, _⟩ => ⟨S1x2048, .f32⟩
  | .hbm, ⟨3, _⟩ => ⟨S2048x2048, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S1x256, .f32⟩
  | .local _ .vmem, ⟨5, _⟩ => ⟨S1x256, .f32⟩
  | .local _ .vmem, ⟨6, _⟩ => ⟨S512x256, .bf16⟩
  | .local _ .vmem, ⟨7, _⟩ => ⟨S512x256, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GnormFwdRefIdeal.lean ====
abbrev S2048x2048 : Shape := ⟨2, ![2048, 2048]⟩
abbrev S2048x6176 : Shape := ⟨2, ![2048, 6176]⟩
abbrev S1x2048 : Shape := ⟨2, ![1, 2048]⟩
abbrev S_ : Shape := ⟨0, ![]⟩
abbrev S2048x8x256 : Shape := ⟨3, ![2048, 8, 256]⟩
abbrev S2048x8 : Shape := ⟨2, ![2048, 8]⟩
abbrev S2048x8x1 : Shape := ⟨3, ![2048, 8, 1]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x6176, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x8x256, .f32⟩
  | .hbm, ⟨15, _⟩ => ⟨S2048x8x256, .f32⟩
  | .hbm, ⟨16, _⟩ => ⟨S_, .f32⟩
  | .hbm, ⟨17, _⟩ => ⟨S2048x8, .f32⟩
  | .hbm, ⟨18, _⟩ => ⟨S2048x8x1, .f32⟩
  | .hbm, ⟨19, _⟩ => ⟨S_, .f32⟩
  | .hbm, ⟨20, _⟩ => ⟨S2048x8x1, .f32⟩
  | .hbm, ⟨21, _⟩ => ⟨S2048x8x1, .f32⟩
  | .hbm, ⟨22, _⟩ => ⟨S_, .f32⟩
  | .hbm, ⟨23, _⟩ => ⟨S2048x8x1, .f32⟩
  | .hbm, ⟨24, _⟩ => ⟨S2048x8x1, .f32⟩
  | .hbm, ⟨25, _⟩ => ⟨S2048x8x1, .f32⟩
  | .hbm, ⟨26, _⟩ => ⟨S2048x8x256, .f32⟩
  | .hbm, ⟨27, _⟩ => ⟨S2048x8x256, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== SsmOut.lean ====
abbrev S2048x2048 : Shape := ⟨2, ![2048, 2048]⟩
abbrev S2048x1024 : Shape := ⟨2, ![2048, 1024]⟩
abbrev S1x1024 : Shape := ⟨2, ![1, 1024]⟩
abbrev S512x1024 : Shape := ⟨2, ![512, 1024]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨5, ![1, 4, 1, 1, 2], ![false, false, false, false, false]⟩

def k0_cond2 (i : grid0.Coords) : BitVec 1 :=
  let arg3 : BitVec 32 := BitVec.ofNat 32 (i 3).val
  let c0_i32_9 : BitVec 32 := 0#32
  let v13 : BitVec 1 := Scalar.cmpi .eq arg3 c0_i32_9
  let arg4 : BitVec 32 := BitVec.ofNat 32 (i 4).val
  let c1_i32 : BitVec 32 := 1#32
  let v14 : BitVec 1 := Scalar.cmpi .eq arg4 c1_i32
  let v15 : BitVec 1 := Scalar.andi v13 v14
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true, false, false]
-- ==== SsmOutRefIdeal.lean ====
abbrev S2048x2048 : Shape := ⟨2, ![2048, 2048]⟩
abbrev S2048x1024 : Shape := ⟨2, ![2048, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .f32⟩
  | .hbm, ⟨3, _⟩ => ⟨S1x1024, .f32⟩
  | .hbm, ⟨4, _⟩ => ⟨S2048x2048, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== ModW.lean ====
abbrev S1024x8 : Shape := ⟨2, ![1024, 8]⟩
abbrev S4x8x2304 : Shape := ⟨3, ![4, 8, 2304]⟩
abbrev S4x1024x2304 : Shape := ⟨3, ![4, 1024, 2304]⟩
abbrev S512x8 : Shape := ⟨2, ![512, 8]⟩
abbrev S1x8x256 : Shape := ⟨3, ![1, 8, 256]⟩
abbrev S1x512x256 : Shape := ⟨3, ![1, 512, 256]⟩
abbrev S512x1 : Shape := ⟨2, ![512, 1]⟩
abbrev S1x1x256 : Shape := ⟨3, ![1, 1, 256]⟩
abbrev S1x256 : Shape := ⟨2, ![1, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S1024x8, .f32⟩
  | .hbm, ⟨1, _⟩ => ⟨S4x8x2304, .f32⟩
  | .hbm, ⟨2, _⟩ => ⟨S4x1024x2304, .f32⟩
  | .local _ .vmem, ⟨0, _⟩ => ⟨S512x8, .f32⟩
  | .local _ .vmem, ⟨1, _⟩ => ⟨S512x8, .f32⟩
  | .local _ .vmem, ⟨2, _⟩ => ⟨S1x8x256, .f32⟩
  | .local _ .vmem, ⟨3, _⟩ => ⟨S1x8x256, .f32⟩
  | .local _ .vmem, ⟨4, _⟩ => ⟨S1x512x256, .f32⟩
  | .local _ .vmem, ⟨5, _⟩ => ⟨S1x512x256, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 9], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ModWIdeal.lean ====
abbrev S1024x8 : Shape := ⟨2, ![1024, 8]⟩
abbrev S4x8x2304 : Shape := ⟨3, ![4, 8, 2304]⟩
abbrev S4x1024x2304 : Shape := ⟨3, ![4, 1024, 2304]⟩
abbrev S512x8 : Shape := ⟨2, ![512, 8]⟩
abbrev S1x8x256 : Shape := ⟨3, ![1, 8, 256]⟩
abbrev S1x512x256 : Shape := ⟨3, ![1, 512, 256]⟩
abbrev S512x1 : Shape := ⟨2, ![512, 1]⟩
abbrev S1x1x256 : Shape := ⟨3, ![1, 1, 256]⟩
abbrev S1x256 : Shape := ⟨2, ![1, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S1024x8, .f32⟩
  | .hbm, ⟨1, _⟩ => ⟨S4x8x2304, .f32⟩
  | .hbm, ⟨2, _⟩ => ⟨S4x1024x2304, .f32⟩
  | .local _ .vmem, ⟨0, _⟩ => ⟨S512x8, .f32⟩
  | .local _ .vmem, ⟨1, _⟩ => ⟨S512x8, .f32⟩
  | .local _ .vmem, ⟨2, _⟩ => ⟨S1x8x256, .f32⟩
  | .local _ .vmem, ⟨3, _⟩ => ⟨S1x8x256, .f32⟩
  | .local _ .vmem, ⟨4, _⟩ => ⟨S1x512x256, .f32⟩
  | .local _ .vmem, ⟨5, _⟩ => ⟨S1x512x256, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 9], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ModWRefIdeal.lean ====
abbrev S1024x8 : Shape := ⟨2, ![1024, 8]⟩
abbrev S4x8x2304 : Shape := ⟨3, ![4, 8, 2304]⟩
abbrev S_ : Shape := ⟨0, ![]⟩
abbrev S4x1024x2304 : Shape := ⟨3, ![4, 1024, 2304]⟩
abbrev S8x1024 : Shape := ⟨2, ![8, 1024]⟩
abbrev S4x2304x8 : Shape := ⟨3, ![4, 2304, 8]⟩
abbrev S4x2304x1024 : Shape := ⟨3, ![4, 2304, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x8, .f32⟩
  | .hbm, ⟨1, _⟩ => ⟨S4x8x2304, .f32⟩
  | .hbm, ⟨2, _⟩ => ⟨S_, .f32⟩
  | .hbm, ⟨3, _⟩ => ⟨S4x1024x2304, .f32⟩
  | .hbm, ⟨4, _⟩ => ⟨S8x1024, .f32⟩
  | .hbm, ⟨5, _⟩ => ⟨S4x2304x8, .f32⟩
  | .hbm, ⟨6, _⟩ => ⟨S4x8x2304, .f32⟩
  | .hbm, ⟨7, _⟩ => ⟨S4x2304x8, .f32⟩
  | .hbm, ⟨8, _⟩ => ⟨S4x2304x1024, .f32⟩
  | .hbm, ⟨9, _⟩ => ⟨S4x1024x2304, .f32⟩
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KvModW.lean ====
abbrev S1024x8 : Shape := ⟨2, ![1024, 8]⟩
abbrev S1x8x512 : Shape := ⟨3, ![1, 8, 512]⟩
abbrev S1x1024x512 : Shape := ⟨3, ![1, 1024, 512]⟩
abbrev S512x8 : Shape := ⟨2, ![512, 8]⟩
abbrev S1x8x256 : Shape := ⟨3, ![1, 8, 256]⟩
abbrev S1x512x256 : Shape := ⟨3, ![1, 512, 256]⟩
abbrev S512x1 : Shape := ⟨2, ![512, 1]⟩
abbrev S1x1x256 : Shape := ⟨3, ![1, 1, 256]⟩
abbrev S1x256 : Shape := ⟨2, ![1, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S1024x8, .f32⟩
  | .hbm, ⟨1, _⟩ => ⟨S1x8x512, .f32⟩
  | .hbm, ⟨2, _⟩ => ⟨S1x1024x512, .f32⟩
  | .local _ .vmem, ⟨0, _⟩ => ⟨S512x8, .f32⟩
  | .local _ .vmem, ⟨1, _⟩ => ⟨S512x8, .f32⟩
  | .local _ .vmem, ⟨2, _⟩ => ⟨S1x8x256, .f32⟩
  | .local _ .vmem, ⟨3, _⟩ => ⟨S1x8x256, .f32⟩
  | .local _ .vmem, ⟨4, _⟩ => ⟨S1x512x256, .f32⟩
  | .local _ .vmem, ⟨5, _⟩ => ⟨S1x512x256, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== KvModWRefIdeal.lean ====
abbrev S1024x8 : Shape := ⟨2, ![1024, 8]⟩
abbrev S1x8x512 : Shape := ⟨3, ![1, 8, 512]⟩
abbrev S_ : Shape := ⟨0, ![]⟩
abbrev S1x1024x512 : Shape := ⟨3, ![1, 1024, 512]⟩
abbrev S8x1024 : Shape := ⟨2, ![8, 1024]⟩
abbrev S1x512x8 : Shape := ⟨3, ![1, 512, 8]⟩
abbrev S1x512x1024 : Shape := ⟨3, ![1, 512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x8, .f32⟩
  | .hbm, ⟨1, _⟩ => ⟨S1x8x512, .f32⟩
  | .hbm, ⟨2, _⟩ => ⟨S_, .f32⟩
  | .hbm, ⟨3, _⟩ => ⟨S1x1024x512, .f32⟩
  | .hbm, ⟨4, _⟩ => ⟨S8x1024, .f32⟩
  | .hbm, ⟨5, _⟩ => ⟨S1x512x8, .f32⟩
  | .hbm, ⟨6, _⟩ => ⟨S1x8x512, .f32⟩
  | .hbm, ⟨7, _⟩ => ⟨S1x512x8, .f32⟩
  | .hbm, ⟨8, _⟩ => ⟨S1x512x1024, .f32⟩
  | .hbm, ⟨9, _⟩ => ⟨S1x1024x512, .f32⟩
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SmallSum.lean ====
abbrev S8x8x7936 : Shape := ⟨3, ![8, 8, 7936]⟩
abbrev S8x7936 : Shape := ⟨2, ![8, 7936]⟩
abbrev S1x8x7936 : Shape := ⟨3, ![1, 8, 7936]⟩

abbrev nBuf : Space → Nat
  | .hbm => 2
  | .vmem => 2
  | .smem => 0
  | _ => 0

abbrev bufTy : (tb : Table) → Fin (tcTables nBuf tb) → BufTy
  | .hbm, ⟨0, _⟩ => ⟨S8x8x7936, .f32⟩
  | .hbm, ⟨1, _⟩ => ⟨S8x7936, .f32⟩
  | .local _ .vmem, ⟨0, _⟩ => ⟨S8x8x7936, .f32⟩
  | .local _ .vmem, ⟨1, _⟩ => ⟨S8x7936, .f32⟩
  | _, _ => ⟨S8x8x7936, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x8x7936 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x7936 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SmallSumRefIdeal.lean ====
abbrev S8x8x7936 : Shape := ⟨3, ![8, 8, 7936]⟩
abbrev S_ : Shape := ⟨0, ![]⟩
abbrev S8x7936 : Shape := ⟨2, ![8, 7936]⟩

abbrev nBuf : Space → Nat
  | .hbm => 3
  | .vmem => 0
  | .smem => 0
  | _ => 0

abbrev bufTy : (tb : Table) → Fin (tcTables nBuf tb) → BufTy
  | .hbm, ⟨0, _⟩ => ⟨S8x8x7936, .f32⟩
  | .hbm, ⟨1, _⟩ => ⟨S_, .f32⟩
  | .hbm, ⟨2, _⟩ => ⟨S8x7936, .f32⟩
  | _, _ => ⟨S8x8x7936, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GradGu.lean ====
abbrev S1x4x2x512x1408 : Shape := ⟨5, ![1, 4, 2, 512, 1408]⟩
abbrev S1x4x512x1408 : Shape := ⟨4, ![1, 4, 512, 1408]⟩
abbrev S3x1x512x1408 : Shape := ⟨4, ![3, 1, 512, 1408]⟩
abbrev S8x2x512x1408 : Shape := ⟨4, ![8, 2, 512, 1408]⟩
abbrev S1x1x1x256x1408 : Shape := ⟨5, ![1, 1, 1, 256, 1408]⟩
abbrev S1x1x256x1408 : Shape := ⟨4, ![1, 1, 256, 1408]⟩
abbrev S3x1x256x1408 : Shape := ⟨4, ![3, 1, 256, 1408]⟩
abbrev S256x1408 : Shape := ⟨2, ![256, 1408]⟩

abbrev nBuf : Space → Nat
  | .hbm => 5
  | .vmem => 8
  | .smem => 0
  | _ => 0

abbrev bufTy : (tb : Table) → Fin (tcTables nBuf tb) → BufTy
  | .hbm, ⟨0, _⟩ => ⟨S1x4x2x512x1408, .bf16⟩
  | .hbm, ⟨1, _⟩ => ⟨S1x4x512x1408, .bf16⟩
  | .hbm, ⟨2, _⟩ => ⟨S3x1x512x1408, .bf16⟩
  | .hbm, ⟨3, _⟩ => ⟨S8x2x512x1408, .f32⟩
  | .hbm, ⟨4, _⟩ => ⟨S8x2x512x1408, .f32⟩
  | .local _ .vmem, ⟨0, _⟩ => ⟨S1x1x1x256x1408, .bf16⟩
  | .local _ .vmem, ⟨1, _⟩ => ⟨S1x1x1x256x1408, .bf16⟩
  | .local _ .vmem, ⟨2, _⟩ => ⟨S1x1x256x1408, .bf16⟩
  | .local _ .vmem, ⟨3, _⟩ => ⟨S1x1x256x1408, .bf16⟩
  | .local _ .vmem, ⟨4, _⟩ => ⟨S3x1x256x1408, .bf16⟩
  | .local _ .vmem, ⟨5, _⟩ => ⟨S3x1x256x1408, .bf16⟩
  | .local _ .vmem, ⟨6, _⟩ => ⟨S1x1x256x1408, .f32⟩
  | .local _ .vmem, ⟨7, _⟩ => ⟨S1x1x256x1408, .f32⟩
  | _, _ => ⟨S1x4x2x512x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 2], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, arg1.toNat, c0_i32_1.toNat]

abbrev stage0_0 : Fin 2 → Memref sig .tc .vmem S1x1x1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GradGuRefIdeal.lean ====
abbrev S1x4x2x512x1408 : Shape := ⟨5, ![1, 4, 2, 512, 1408]⟩
abbrev S1x4x512x1408 : Shape := ⟨4, ![1, 4, 512, 1408]⟩
abbrev S3x1x512x1408 : Shape := ⟨4, ![3, 1, 512, 1408]⟩
abbrev S8x2x512x1408 : Shape := ⟨4, ![8, 2, 512, 1408]⟩
abbrev S1x1x1x512x1408 : Shape := ⟨5, ![1, 1, 1, 512, 1408]⟩
abbrev S1x512x1408 : Shape := ⟨3, ![1, 512, 1408]⟩
abbrev S1x1x512x1408 : Shape := ⟨4, ![1, 1, 512, 1408]⟩
abbrev S3x512x1408 : Shape := ⟨3, ![3, 512, 1408]⟩
abbrev S5x512x1408 : Shape := ⟨3, ![5, 512, 1408]⟩
abbrev S_ : Shape := ⟨0, ![]⟩
abbrev S512x1408 : Shape := ⟨2, ![512, 1408]⟩

abbrev nBuf : Space → Nat
  | .hbm => 21
  | .vmem => 0
  | .smem => 0
  | _ => 0

abbrev bufTy : (tb : Table) → Fin (tcTables nBuf tb) → BufTy
  | .hbm, ⟨0, _⟩ => ⟨S1x4x2x512x1408, .bf16⟩
  | .hbm, ⟨1, _⟩ => ⟨S1x4x512x1408, .bf16⟩
  | .hbm, ⟨2, _⟩ => ⟨S3x1x512x1408, .bf16⟩
  | .hbm, ⟨3, _⟩ => ⟨S8x2x512x1408, .f32⟩
  | .hbm, ⟨4, _⟩ => ⟨S1x1x1x512x1408, .bf16⟩
  | .hbm, ⟨5, _⟩ => ⟨S1x512x1408, .bf16⟩
  | .hbm, ⟨6, _⟩ => ⟨S1x512x1408, .f32⟩
  | .hbm, ⟨7, _⟩ => ⟨S1x1x512x1408, .bf16⟩
  | .hbm, ⟨8, _⟩ => ⟨S1x512x1408, .bf16⟩
  | .hbm, ⟨9, _⟩ => ⟨S1x512x1408, .f32⟩
  | .hbm, ⟨10, _⟩ => ⟨S3x512x1408, .bf16⟩
  | .hbm, ⟨11, _⟩ => ⟨S3x512x1408, .f32⟩
  | .hbm, ⟨12, _⟩ => ⟨S5x512x1408, .f32⟩
  | .hbm, ⟨13, _⟩ => ⟨S_, .f32⟩
  | .hbm, ⟨14, _⟩ => ⟨S512x1408, .f32⟩
  | .hbm, ⟨15, _⟩ => ⟨S1x1x512x1408, .f32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S8x2x512x1408, .f32⟩
  | _, _ => ⟨S1x4x2x512x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_c_0 : Ref sig .tc := ⟨.hbm, 17, rfl⟩
abbrev main_c_1 : Ref sig .tc := ⟨.hbm, 18, rfl⟩
abbrev main_c_2 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== GradDown.lean ====
abbrev S1x4x2x352x1024 : Shape := ⟨5, ![1, 4, 2, 352, 1024]⟩
abbrev S1x4x352x1024 : Shape := ⟨4, ![1, 4, 352, 1024]⟩
abbrev S3x1x352x1024 : Shape := ⟨4, ![3, 1, 352, 1024]⟩
abbrev S8x2x352x1024 : Shape := ⟨4, ![8, 2, 352, 1024]⟩
abbrev S1x1x1x352x1024 : Shape := ⟨5, ![1, 1, 1, 352, 1024]⟩
abbrev S1x1x352x1024 : Shape := ⟨4, ![1, 1, 352, 1024]⟩
abbrev S352x1024 : Shape := ⟨2, ![352, 1024]⟩

abbrev nBuf : Space → Nat
  | .hbm => 5
  | .vmem => 4
  | .smem => 0
  | _ => 0

abbrev bufTy : (tb : Table) → Fin (tcTables nBuf tb) → BufTy
  | .hbm, ⟨0, _⟩ => ⟨S1x4x2x352x1024, .bf16⟩
  | .hbm, ⟨1, _⟩ => ⟨S1x4x352x1024, .bf16⟩
  | .hbm, ⟨2, _⟩ => ⟨S3x1x352x1024, .bf16⟩
  | .hbm, ⟨3, _⟩ => ⟨S8x2x352x1024, .f32⟩
  | .hbm, ⟨4, _⟩ => ⟨S8x2x352x1024, .f32⟩
  | .local _ .vmem, ⟨0, _⟩ => ⟨S1x1x1x352x1024, .bf16⟩
  | .local _ .vmem, ⟨1, _⟩ => ⟨S1x1x352x1024, .bf16⟩
  | .local _ .vmem, ⟨2, _⟩ => ⟨S3x1x352x1024, .bf16⟩
  | .local _ .vmem, ⟨3, _⟩ => ⟨S1x1x352x1024, .f32⟩
  | _, _ => ⟨S1x4x2x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, arg1.toNat, c0_i32_1.toNat]

abbrev stage0_0 : Fin 1 → Memref sig .tc .vmem S1x1x1x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S3x1x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== GradDownRefIdeal.lean ====
abbrev S1x4x2x352x1024 : Shape := ⟨5, ![1, 4, 2, 352, 1024]⟩
abbrev S1x4x352x1024 : Shape := ⟨4, ![1, 4, 352, 1024]⟩
abbrev S3x1x352x1024 : Shape := ⟨4, ![3, 1, 352, 1024]⟩
abbrev S8x2x352x1024 : Shape := ⟨4, ![8, 2, 352, 1024]⟩
abbrev S1x1x1x352x1024 : Shape := ⟨5, ![1, 1, 1, 352, 1024]⟩
abbrev S1x352x1024 : Shape := ⟨3, ![1, 352, 1024]⟩
abbrev S1x1x352x1024 : Shape := ⟨4, ![1, 1, 352, 1024]⟩
abbrev S3x352x1024 : Shape := ⟨3, ![3, 352, 1024]⟩
abbrev S5x352x1024 : Shape := ⟨3, ![5, 352, 1024]⟩
abbrev S_ : Shape := ⟨0, ![]⟩
abbrev S352x1024 : Shape := ⟨2, ![352, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1x4x2x352x1024, .bf16⟩
  | .hbm, ⟨1, _⟩ => ⟨S1x4x352x1024, .bf16⟩
  | .hbm, ⟨2, _⟩ => ⟨S3x1x352x1024, .bf16⟩
  | .hbm, ⟨3, _⟩ => ⟨S8x2x352x1024, .f32⟩
  | .hbm, ⟨4, _⟩ => ⟨S1x1x1x352x1024, .bf16⟩
  | .hbm, ⟨5, _⟩ => ⟨S1x352x1024, .bf16⟩
  | .hbm, ⟨6, _⟩ => ⟨S1x352x1024, .f32⟩
  | .hbm, ⟨7, _⟩ => ⟨S1x1x352x1024, .bf16⟩
  | .hbm, ⟨8, _⟩ => ⟨S1x352x1024, .bf16⟩
  | .hbm, ⟨9, _⟩ => ⟨S1x352x1024, .f32⟩
  | .hbm, ⟨10, _⟩ => ⟨S3x352x1024, .bf16⟩
  | .hbm, ⟨11, _⟩ => ⟨S3x352x1024, .f32⟩
  | .hbm, ⟨12, _⟩ => ⟨S5x352x1024, .f32⟩
  | .hbm, ⟨13, _⟩ => ⟨S_, .f32⟩
  | .hbm, ⟨14, _⟩ => ⟨S352x1024, .f32⟩
  | .hbm, ⟨15, _⟩ => ⟨S1x1x352x1024, .f32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S8x2x352x1024, .f32⟩
  | _, _ => ⟨S1x4x2x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_c_0 : Ref sig .tc := ⟨.hbm, 17, rfl⟩
abbrev main_c_1 : Ref sig .tc := ⟨.hbm, 18, rfl⟩
abbrev main_c_2 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== GradSsmIn.lean ====
abbrev S1x4x2x512x1544 : Shape := ⟨5, ![1, 4, 2, 512, 1544]⟩
abbrev S1x4x512x1544 : Shape := ⟨4, ![1, 4, 512, 1544]⟩
abbrev S3x1x512x1544 : Shape := ⟨4, ![3, 1, 512, 1544]⟩
abbrev S2x2x512x1544 : Shape := ⟨4, ![2, 2, 512, 1544]⟩
abbrev S1x1x1x256x1544 : Shape := ⟨5, ![1, 1, 1, 256, 1544]⟩
abbrev S1x1x256x1544 : Shape := ⟨4, ![1, 1, 256, 1544]⟩
abbrev S3x1x256x1544 : Shape := ⟨4, ![3, 1, 256, 1544]⟩
abbrev S256x1544 : Shape := ⟨2, ![256, 1544]⟩

abbrev nBuf : Space → Nat
  | .hbm => 5
  | .vmem => 8
  | .smem => 0
  | _ => 0

abbrev bufTy : (tb : Table) → Fin (tcTables nBuf tb) → BufTy
  | .hbm, ⟨0, _⟩ => ⟨S1x4x2x512x1544, .bf16⟩
  | .hbm, ⟨1, _⟩ => ⟨S1x4x512x1544, .bf16⟩
  | .hbm, ⟨2, _⟩ => ⟨S3x1x512x1544, .bf16⟩
  | .hbm, ⟨3, _⟩ => ⟨S2x2x512x1544, .f32⟩
  | .hbm, ⟨4, _⟩ => ⟨S2x2x512x1544, .f32⟩
  | .local _ .vmem, ⟨0, _⟩ => ⟨S1x1x1x256x1544, .bf16⟩
  | .local _ .vmem, ⟨1, _⟩ => ⟨S1x1x1x256x1544, .bf16⟩
  | .local _ .vmem, ⟨2, _⟩ => ⟨S1x1x256x1544, .bf16⟩
  | .local _ .vmem, ⟨3, _⟩ => ⟨S1x1x256x1544, .bf16⟩
  | .local _ .vmem, ⟨4, _⟩ => ⟨S3x1x256x1544, .bf16⟩
  | .local _ .vmem, ⟨5, _⟩ => ⟨S3x1x256x1544, .bf16⟩
  | .local _ .vmem, ⟨6, _⟩ => ⟨S1x1x256x1544, .f32⟩
  | .local _ .vmem, ⟨7, _⟩ => ⟨S1x1x256x1544, .f32⟩
  | _, _ => ⟨S1x4x2x512x1544, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 2], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, arg1.toNat, c0_i32_1.toNat]

abbrev stage0_0 : Fin 2 → Memref sig .tc .vmem S1x1x1x256x1544 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1544 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x1x256x1544 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x1544 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GradSsmInRefIdeal.lean ====
abbrev S1x4x2x512x1544 : Shape := ⟨5, ![1, 4, 2, 512, 1544]⟩
abbrev S1x4x512x1544 : Shape := ⟨4, ![1, 4, 512, 1544]⟩
abbrev S3x1x512x1544 : Shape := ⟨4, ![3, 1, 512, 1544]⟩
abbrev S2x2x512x1544 : Shape := ⟨4, ![2, 2, 512, 1544]⟩
abbrev S1x1x1x512x1544 : Shape := ⟨5, ![1, 1, 1, 512, 1544]⟩
abbrev S1x512x1544 : Shape := ⟨3, ![1, 512, 1544]⟩
abbrev S1x1x512x1544 : Shape := ⟨4, ![1, 1, 512, 1544]⟩
abbrev S3x512x1544 : Shape := ⟨3, ![3, 512, 1544]⟩
abbrev S5x512x1544 : Shape := ⟨3, ![5, 512, 1544]⟩
abbrev S_ : Shape := ⟨0, ![]⟩
abbrev S512x1544 : Shape := ⟨2, ![512, 1544]⟩

abbrev nBuf : Space → Nat
  | .hbm => 21
  | .vmem => 0
  | .smem => 0
  | _ => 0

abbrev bufTy : (tb : Table) → Fin (tcTables nBuf tb) → BufTy
  | .hbm, ⟨0, _⟩ => ⟨S1x4x2x512x1544, .bf16⟩
  | .hbm, ⟨1, _⟩ => ⟨S1x4x512x1544, .bf16⟩
  | .hbm, ⟨2, _⟩ => ⟨S3x1x512x1544, .bf16⟩
  | .hbm, ⟨3, _⟩ => ⟨S2x2x512x1544, .f32⟩
  | .hbm, ⟨4, _⟩ => ⟨S1x1x1x512x1544, .bf16⟩
  | .hbm, ⟨5, _⟩ => ⟨S1x512x1544, .bf16⟩
  | .hbm, ⟨6, _⟩ => ⟨S1x512x1544, .f32⟩
  | .hbm, ⟨7, _⟩ => ⟨S1x1x512x1544, .bf16⟩
  | .hbm, ⟨8, _⟩ => ⟨S1x512x1544, .bf16⟩
  | .hbm, ⟨9, _⟩ => ⟨S1x512x1544, .f32⟩
  | .hbm, ⟨10, _⟩ => ⟨S3x512x1544, .bf16⟩
  | .hbm, ⟨11, _⟩ => ⟨S3x512x1544, .f32⟩
  | .hbm, ⟨12, _⟩ => ⟨S5x512x1544, .f32⟩
  | .hbm, ⟨13, _⟩ => ⟨S_, .f32⟩
  | .hbm, ⟨14, _⟩ => ⟨S512x1544, .f32⟩
  | .hbm, ⟨15, _⟩ => ⟨S1x1x512x1544, .f32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S2x2x512x1544, .f32⟩
  | _, _ => ⟨S1x4x2x512x1544, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_c_0 : Ref sig .tc := ⟨.hbm, 17, rfl⟩
abbrev main_c_1 : Ref sig .tc := ⟨.hbm, 18, rfl⟩
abbrev main_c_2 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== GradSsmOut.lean ====
abbrev S1x4x2x256x1024 : Shape := ⟨5, ![1, 4, 2, 256, 1024]⟩
abbrev S1x4x256x1024 : Shape := ⟨4, ![1, 4, 256, 1024]⟩
abbrev S3x1x256x1024 : Shape := ⟨4, ![3, 1, 256, 1024]⟩
abbrev S2x2x256x1024 : Shape := ⟨4, ![2, 2, 256, 1024]⟩
abbrev S1x1x1x256x1024 : Shape := ⟨5, ![1, 1, 1, 256, 1024]⟩
abbrev S1x1x256x1024 : Shape := ⟨4, ![1, 1, 256, 1024]⟩
abbrev S256x1024 : Shape := ⟨2, ![256, 1024]⟩

abbrev nBuf : Space → Nat
  | .hbm => 5
  | .vmem => 4
  | .smem => 0
  | _ => 0

abbrev bufTy : (tb : Table) → Fin (tcTables nBuf tb) → BufTy
  | .hbm, ⟨0, _⟩ => ⟨S1x4x2x256x1024, .bf16⟩
  | .hbm, ⟨1, _⟩ => ⟨S1x4x256x1024, .bf16⟩
  | .hbm, ⟨2, _⟩ => ⟨S3x1x256x1024, .bf16⟩
  | .hbm, ⟨3, _⟩ => ⟨S2x2x256x1024, .f32⟩
  | .hbm, ⟨4, _⟩ => ⟨S2x2x256x1024, .f32⟩
  | .local _ .vmem, ⟨0, _⟩ => ⟨S1x1x1x256x1024, .bf16⟩
  | .local _ .vmem, ⟨1, _⟩ => ⟨S1x1x256x1024, .bf16⟩
  | .local _ .vmem, ⟨2, _⟩ => ⟨S3x1x256x1024, .bf16⟩
  | .local _ .vmem, ⟨3, _⟩ => ⟨S1x1x256x1024, .f32⟩
  | _, _ => ⟨S1x4x2x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, arg1.toNat, c0_i32_1.toNat]

abbrev stage0_0 : Fin 1 → Memref sig .tc .vmem S1x1x1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S3x1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== GradSsmOutRefIdeal.lean ====
abbrev S1x4x2x256x1024 : Shape := ⟨5, ![1, 4, 2, 256, 1024]⟩
abbrev S1x4x256x1024 : Shape := ⟨4, ![1, 4, 256, 1024]⟩
abbrev S3x1x256x1024 : Shape := ⟨4, ![3, 1, 256, 1024]⟩
abbrev S2x2x256x1024 : Shape := ⟨4, ![2, 2, 256, 1024]⟩
abbrev S1x1x1x256x1024 : Shape := ⟨5, ![1, 1, 1, 256, 1024]⟩
abbrev S1x256x1024 : Shape := ⟨3, ![1, 256, 1024]⟩
abbrev S1x1x256x1024 : Shape := ⟨4, ![1, 1, 256, 1024]⟩
abbrev S3x256x1024 : Shape := ⟨3, ![3, 256, 1024]⟩
abbrev S5x256x1024 : Shape := ⟨3, ![5, 256, 1024]⟩
abbrev S_ : Shape := ⟨0, ![]⟩
abbrev S256x1024 : Shape := ⟨2, ![256, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1x4x2x256x1024, .bf16⟩
  | .hbm, ⟨1, _⟩ => ⟨S1x4x256x1024, .bf16⟩
  | .hbm, ⟨2, _⟩ => ⟨S3x1x256x1024, .bf16⟩
  | .hbm, ⟨3, _⟩ => ⟨S2x2x256x1024, .f32⟩
  | .hbm, ⟨4, _⟩ => ⟨S1x1x1x256x1024, .bf16⟩
  | .hbm, ⟨5, _⟩ => ⟨S1x256x1024, .bf16⟩
  | .hbm, ⟨6, _⟩ => ⟨S1x256x1024, .f32⟩
  | .hbm, ⟨7, _⟩ => ⟨S1x1x256x1024, .bf16⟩
  | .hbm, ⟨8, _⟩ => ⟨S1x256x1024, .bf16⟩
  | .hbm, ⟨9, _⟩ => ⟨S1x256x1024, .f32⟩
  | .hbm, ⟨10, _⟩ => ⟨S3x256x1024, .bf16⟩
  | .hbm, ⟨11, _⟩ => ⟨S3x256x1024, .f32⟩
  | .hbm, ⟨12, _⟩ => ⟨S5x256x1024, .f32⟩
  | .hbm, ⟨13, _⟩ => ⟨S_, .f32⟩
  | .hbm, ⟨14, _⟩ => ⟨S256x1024, .f32⟩
  | .hbm, ⟨15, _⟩ => ⟨S1x1x256x1024, .f32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S2x2x256x1024, .f32⟩
  | _, _ => ⟨S1x4x2x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_c_0 : Ref sig .tc := ⟨.hbm, 17, rfl⟩
abbrev main_c_1 : Ref sig .tc := ⟨.hbm, 18, rfl⟩
abbrev main_c_2 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== GradKv.lean ====
abbrev S1x4x2x128x512 : Shape := ⟨5, ![1, 4, 2, 128, 512]⟩
abbrev S1x4x128x512 : Shape := ⟨4, ![1, 4, 128, 512]⟩
abbrev S3x1x128x512 : Shape := ⟨4, ![3, 1, 128, 512]⟩
abbrev S1x2x128x512 : Shape := ⟨4, ![1, 2, 128, 512]⟩
abbrev S1x1x1x128x512 : Shape := ⟨5, ![1, 1, 1, 128, 512]⟩
abbrev S1x1x128x512 : Shape := ⟨4, ![1, 1, 128, 512]⟩
abbrev S128x512 : Shape := ⟨2, ![128, 512]⟩

abbrev nBuf : Space → Nat
  | .hbm => 5
  | .vmem => 4
  | .smem => 0
  | _ => 0

abbrev bufTy : (tb : Table) → Fin (tcTables nBuf tb) → BufTy
  | .hbm, ⟨0, _⟩ => ⟨S1x4x2x128x512, .bf16⟩
  | .hbm, ⟨1, _⟩ => ⟨S1x4x128x512, .bf16⟩
  | .hbm, ⟨2, _⟩ => ⟨S3x1x128x512, .bf16⟩
  | .hbm, ⟨3, _⟩ => ⟨S1x2x128x512, .f32⟩
  | .hbm, ⟨4, _⟩ => ⟨S1x2x128x512, .f32⟩
  | .local _ .vmem, ⟨0, _⟩ => ⟨S1x1x1x128x512, .bf16⟩
  | .local _ .vmem, ⟨1, _⟩ => ⟨S1x1x128x512, .bf16⟩
  | .local _ .vmem, ⟨2, _⟩ => ⟨S3x1x128x512, .bf16⟩
  | .local _ .vmem, ⟨3, _⟩ => ⟨S1x1x128x512, .f32⟩
  | _, _ => ⟨S1x4x2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, arg1.toNat, c0_i32_1.toNat]

abbrev stage0_0 : Fin 1 → Memref sig .tc .vmem S1x1x1x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S3x1x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== GradKvRefIdeal.lean ====
abbrev S1x4x2x128x512 : Shape := ⟨5, ![1, 4, 2, 128, 512]⟩
abbrev S1x4x128x512 : Shape := ⟨4, ![1, 4, 128, 512]⟩
abbrev S3x1x128x512 : Shape := ⟨4, ![3, 1, 128, 512]⟩
abbrev S1x2x128x512 : Shape := ⟨4, ![1, 2, 128, 512]⟩
abbrev S1x1x1x128x512 : Shape := ⟨5, ![1, 1, 1, 128, 512]⟩
abbrev S1x128x512 : Shape := ⟨3, ![1, 128, 512]⟩
abbrev S1x1x128x512 : Shape := ⟨4, ![1, 1, 128, 512]⟩
abbrev S3x128x512 : Shape := ⟨3, ![3, 128, 512]⟩
abbrev S5x128x512 : Shape := ⟨3, ![5, 128, 512]⟩
abbrev S_ : Shape := ⟨0, ![]⟩
abbrev S128x512 : Shape := ⟨2, ![128, 512]⟩

abbrev nBuf : Space → Nat
  | .hbm => 21
  | .vmem => 0
  | .smem => 0
  | _ => 0

abbrev bufTy : (tb : Table) → Fin (tcTables nBuf tb) → BufTy
  | .hbm, ⟨0, _⟩ => ⟨S1x4x2x128x512, .bf16⟩
  | .hbm, ⟨1, _⟩ => ⟨S1x4x128x512, .bf16⟩
  | .hbm, ⟨2, _⟩ => ⟨S3x1x128x512, .bf16⟩
  | .hbm, ⟨3, _⟩ => ⟨S1x2x128x512, .f32⟩
  | .hbm, ⟨4, _⟩ => ⟨S1x1x1x128x512, .bf16⟩
  | .hbm, ⟨5, _⟩ => ⟨S1x128x512, .bf16⟩
  | .hbm, ⟨6, _⟩ => ⟨S1x128x512, .f32⟩
  | .hbm, ⟨7, _⟩ => ⟨S1x1x128x512, .bf16⟩
  | .hbm, ⟨8, _⟩ => ⟨S1x128x512, .bf16⟩
  | .hbm, ⟨9, _⟩ => ⟨S1x128x512, .f32⟩
  | .hbm, ⟨10, _⟩ => ⟨S3x128x512, .bf16⟩
  | .hbm, ⟨11, _⟩ => ⟨S3x128x512, .f32⟩
  | .hbm, ⟨12, _⟩ => ⟨S5x128x512, .f32⟩
  | .hbm, ⟨13, _⟩ => ⟨S_, .f32⟩
  | .hbm, ⟨14, _⟩ => ⟨S128x512, .f32⟩
  | .hbm, ⟨15, _⟩ => ⟨S1x1x128x512, .f32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S1x2x128x512, .f32⟩
  | _, _ => ⟨S1x4x2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_c_0 : Ref sig .tc := ⟨.hbm, 17, rfl⟩
abbrev main_c_1 : Ref sig .tc := ⟨.hbm, 18, rfl⟩
abbrev main_c_2 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== GradAttn.lean ====
abbrev S1x4x2x128x1024 : Shape := ⟨5, ![1, 4, 2, 128, 1024]⟩
abbrev S1x4x128x1024 : Shape := ⟨4, ![1, 4, 128, 1024]⟩
abbrev S3x1x128x1024 : Shape := ⟨4, ![3, 1, 128, 1024]⟩
abbrev S2x2x128x1024 : Shape := ⟨4, ![2, 2, 128, 1024]⟩
abbrev S1x1x1x128x1024 : Shape := ⟨5, ![1, 1, 1, 128, 1024]⟩
abbrev S1x1x128x1024 : Shape := ⟨4, ![1, 1, 128, 1024]⟩
abbrev S128x1024 : Shape := ⟨2, ![128, 1024]⟩

abbrev nBuf : Space → Nat
  | .hbm => 5
  | .vmem => 4
  | .smem => 0
  | _ => 0

abbrev bufTy : (tb : Table) → Fin (tcTables nBuf tb) → BufTy
  | .hbm, ⟨0, _⟩ => ⟨S1x4x2x128x1024, .bf16⟩
  | .hbm, ⟨1, _⟩ => ⟨S1x4x128x1024, .bf16⟩
  | .hbm, ⟨2, _⟩ => ⟨S3x1x128x1024, .bf16⟩
  | .hbm, ⟨3, _⟩ => ⟨S2x2x128x1024, .f32⟩
  | .hbm, ⟨4, _⟩ => ⟨S2x2x128x1024, .f32⟩
  | .local _ .vmem, ⟨0, _⟩ => ⟨S1x1x1x128x1024, .bf16⟩
  | .local _ .vmem, ⟨1, _⟩ => ⟨S1x1x128x1024, .bf16⟩
  | .local _ .vmem, ⟨2, _⟩ => ⟨S3x1x128x1024, .bf16⟩
  | .local _ .vmem, ⟨3, _⟩ => ⟨S1x1x128x1024, .f32⟩
  | _, _ => ⟨S1x4x2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, arg1.toNat, c0_i32_1.toNat]

abbrev stage0_0 : Fin 1 → Memref sig .tc .vmem S1x1x1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S3x1x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== GradAttnRefIdeal.lean ====
abbrev S1x4x2x128x1024 : Shape := ⟨5, ![1, 4, 2, 128, 1024]⟩
abbrev S1x4x128x1024 : Shape := ⟨4, ![1, 4, 128, 1024]⟩
abbrev S3x1x128x1024 : Shape := ⟨4, ![3, 1, 128, 1024]⟩
abbrev S2x2x128x1024 : Shape := ⟨4, ![2, 2, 128, 1024]⟩
abbrev S1x1x1x128x1024 : Shape := ⟨5, ![1, 1, 1, 128, 1024]⟩
abbrev S1x128x1024 : Shape := ⟨3, ![1, 128, 1024]⟩
abbrev S1x1x128x1024 : Shape := ⟨4, ![1, 1, 128, 1024]⟩
abbrev S3x128x1024 : Shape := ⟨3, ![3, 128, 1024]⟩
abbrev S5x128x1024 : Shape := ⟨3, ![5, 128, 1024]⟩
abbrev S_ : Shape := ⟨0, ![]⟩
abbrev S128x1024 : Shape := ⟨2, ![128, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1x4x2x128x1024, .bf16⟩
  | .hbm, ⟨1, _⟩ => ⟨S1x4x128x1024, .bf16⟩
  | .hbm, ⟨2, _⟩ => ⟨S3x1x128x1024, .bf16⟩
  | .hbm, ⟨3, _⟩ => ⟨S2x2x128x1024, .f32⟩
  | .hbm, ⟨4, _⟩ => ⟨S1x1x1x128x1024, .bf16⟩
  | .hbm, ⟨5, _⟩ => ⟨S1x128x1024, .bf16⟩
  | .hbm, ⟨6, _⟩ => ⟨S1x128x1024, .f32⟩
  | .hbm, ⟨7, _⟩ => ⟨S1x1x128x1024, .bf16⟩
  | .hbm, ⟨8, _⟩ => ⟨S1x128x1024, .bf16⟩
  | .hbm, ⟨9, _⟩ => ⟨S1x128x1024, .f32⟩
  | .hbm, ⟨10, _⟩ => ⟨S3x128x1024, .bf16⟩
  | .hbm, ⟨11, _⟩ => ⟨S3x128x1024, .f32⟩
  | .hbm, ⟨12, _⟩ => ⟨S5x128x1024, .f32⟩
  | .hbm, ⟨13, _⟩ => ⟨S_, .f32⟩
  | .hbm, ⟨14, _⟩ => ⟨S128x1024, .f32⟩
  | .hbm, ⟨15, _⟩ => ⟨S1x1x128x1024, .f32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S2x2x128x1024, .f32⟩
  | _, _ => ⟨S1x4x2x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_c_0 : Ref sig .tc := ⟨.hbm, 17, rfl⟩
abbrev main_c_1 : Ref sig .tc := ⟨.hbm, 18, rfl⟩
abbrev main_c_2 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== AdamGu.lean ====
abbrev S8x1024x1408 : Shape := ⟨3, ![8, 1024, 1408]⟩
abbrev S1x256x1408 : Shape := ⟨3, ![1, 256, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S8x1024x1408, .f32⟩
  | .hbm, ⟨1, _⟩ => ⟨S8x1024x1408, .f32⟩
  | .hbm, ⟨2, _⟩ => ⟨S8x1024x1408, .f32⟩
  | .hbm, ⟨3, _⟩ => ⟨S8x1024x1408, .f32⟩
  | .hbm, ⟨4, _⟩ => ⟨S8x1024x1408, .f32⟩
  | .hbm, ⟨5, _⟩ => ⟨S8x1024x1408, .f32⟩
  | .hbm, ⟨6, _⟩ => ⟨S8x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | _, _ => ⟨S8x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamGuIdeal.lean ====
abbrev S8x1024x1408 : Shape := ⟨3, ![8, 1024, 1408]⟩
abbrev S1x256x1408 : Shape := ⟨3, ![1, 256, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S8x1024x1408, .f32⟩
  | .hbm, ⟨1, _⟩ => ⟨S8x1024x1408, .f32⟩
  | .hbm, ⟨2, _⟩ => ⟨S8x1024x1408, .f32⟩
  | .hbm, ⟨3, _⟩ => ⟨S8x1024x1408, .f32⟩
  | .hbm, ⟨4, _⟩ => ⟨S8x1024x1408, .f32⟩
  | .hbm, ⟨5, _⟩ => ⟨S8x1024x1408, .f32⟩
  | .hbm, ⟨6, _⟩ => ⟨S8x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | _, _ => ⟨S8x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamGuRefIdeal.lean ====
abbrev S8x1024x1408 : Shape := ⟨3, ![8, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x1024x1408, .f32⟩
  | .hbm, ⟨1, _⟩ => ⟨S8x1024x1408, .f32⟩
  | .hbm, ⟨2, _⟩ => ⟨S8x1024x1408, .f32⟩
  | .hbm, ⟨3, _⟩ => ⟨S8x1024x1408, .f32⟩
  | .hbm, ⟨4, _⟩ => ⟨S_, .f32⟩
  | .hbm, ⟨5, _⟩ => ⟨S8x1024x1408, .f32⟩
  | .hbm, ⟨6, _⟩ => ⟨S8x1024x1408, .f32⟩
  | .hbm, ⟨7, _⟩ => ⟨S_, .f32⟩
  | .hbm, ⟨8, _⟩ => ⟨S8x1024x1408, .f32⟩
  | .hbm, ⟨9, _⟩ => ⟨S8x1024x1408, .f32⟩
  | .hbm, ⟨10, _⟩ => ⟨S8x1024x1408, .f32⟩
  | .hbm, ⟨11, _⟩ => ⟨S_, .f32⟩
  | .hbm, ⟨12, _⟩ => ⟨S8x1024x1408, .f32⟩
  | .hbm, ⟨13, _⟩ => ⟨S8x1024x1408, .f32⟩
  | .hbm, ⟨14, _⟩ => ⟨S8x1024x1408, .f32⟩
  | .hbm, ⟨15, _⟩ => ⟨S_, .f32⟩
  | .hbm, ⟨16, _⟩ => ⟨S8x1024x1408, .f32⟩
  | .hbm, ⟨17, _⟩ => ⟨S8x1024x1408, .f32⟩
  | .hbm, ⟨18, _⟩ => ⟨S8x1024x1408, .f32⟩
  | .hbm, ⟨19, _⟩ => ⟨S_, .f32⟩
  | .hbm, ⟨20, _⟩ => ⟨S8x1024x1408, .f32⟩
  | .hbm, ⟨21, _⟩ => ⟨S8x1024x1408, .f32⟩
  | .hbm, ⟨22, _⟩ => ⟨S_, .f32⟩
  | .hbm, ⟨23, _⟩ => ⟨S8x1024x1408, .f32⟩
  | .hbm, ⟨24, _⟩ => ⟨S8x1024x1408, .f32⟩
  | .hbm, ⟨25, _⟩ => ⟨S8x1024x1408, .f32⟩
  | .hbm, ⟨26, _⟩ => ⟨S_, .f32⟩
  | .hbm, ⟨27, _⟩ => ⟨S8x1024x1408, .f32⟩
  | .hbm, ⟨28, _⟩ => ⟨S8x1024x1408, .f32⟩
  | .hbm, ⟨29, _⟩ => ⟨S8x1024x1408, .f32⟩
  | .hbm, ⟨30, _⟩ => ⟨S_, .f32⟩
  | .hbm, ⟨31, _⟩ => ⟨S8x1024x1408, .f32⟩
  | .hbm, ⟨32, _⟩ => ⟨S8x1024x1408, .f32⟩
  | .hbm, ⟨33, _⟩ => ⟨S8x1024x1408, .f32⟩
  | .hbm, ⟨34, _⟩ => ⟨S_, .f32⟩
  | .hbm, ⟨35, _⟩ => ⟨S8x1024x1408, .f32⟩
  | .hbm, ⟨36, _⟩ => ⟨S8x1024x1408, .f32⟩
  | _, _ => ⟨S8x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S8x704x1024 : Shape := ⟨3, ![8, 704, 1024]⟩
abbrev S1x352x1024 : Shape := ⟨3, ![1, 352, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S8x704x1024, .f32⟩
  | .hbm, ⟨1, _⟩ => ⟨S8x704x1024, .f32⟩
  | .hbm, ⟨2, _⟩ => ⟨S8x704x1024, .f32⟩
  | .hbm, ⟨3, _⟩ => ⟨S8x704x1024, .f32⟩
  | .hbm, ⟨4, _⟩ => ⟨S8x704x1024, .f32⟩
  | .hbm, ⟨5, _⟩ => ⟨S8x704x1024, .f32⟩
  | .hbm, ⟨6, _⟩ => ⟨S8x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S8x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamDownIdeal.lean ====
abbrev S8x704x1024 : Shape := ⟨3, ![8, 704, 1024]⟩
abbrev S1x352x1024 : Shape := ⟨3, ![1, 352, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S8x704x1024, .f32⟩
  | .hbm, ⟨1, _⟩ => ⟨S8x704x1024, .f32⟩
  | .hbm, ⟨2, _⟩ => ⟨S8x704x1024, .f32⟩
  | .hbm, ⟨3, _⟩ => ⟨S8x704x1024, .f32⟩
  | .hbm, ⟨4, _⟩ => ⟨S8x704x1024, .f32⟩
  | .hbm, ⟨5, _⟩ => ⟨S8x704x1024, .f32⟩
  | .hbm, ⟨6, _⟩ => ⟨S8x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S8x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamDownRefIdeal.lean ====
abbrev S8x704x1024 : Shape := ⟨3, ![8, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x704x1024, .f32⟩
  | .hbm, ⟨1, _⟩ => ⟨S8x704x1024, .f32⟩
  | .hbm, ⟨2, _⟩ => ⟨S8x704x1024, .f32⟩
  | .hbm, ⟨3, _⟩ => ⟨S8x704x1024, .f32⟩
  | .hbm, ⟨4, _⟩ => ⟨S_, .f32⟩
  | .hbm, ⟨5, _⟩ => ⟨S8x704x1024, .f32⟩
  | .hbm, ⟨6, _⟩ => ⟨S8x704x1024, .f32⟩
  | .hbm, ⟨7, _⟩ => ⟨S_, .f32⟩
  | .hbm, ⟨8, _⟩ => ⟨S8x704x1024, .f32⟩
  | .hbm, ⟨9, _⟩ => ⟨S8x704x1024, .f32⟩
  | .hbm, ⟨10, _⟩ => ⟨S8x704x1024, .f32⟩
  | .hbm, ⟨11, _⟩ => ⟨S_, .f32⟩
  | .hbm, ⟨12, _⟩ => ⟨S8x704x1024, .f32⟩
  | .hbm, ⟨13, _⟩ => ⟨S8x704x1024, .f32⟩
  | .hbm, ⟨14, _⟩ => ⟨S8x704x1024, .f32⟩
  | .hbm, ⟨15, _⟩ => ⟨S_, .f32⟩
  | .hbm, ⟨16, _⟩ => ⟨S8x704x1024, .f32⟩
  | .hbm, ⟨17, _⟩ => ⟨S8x704x1024, .f32⟩
  | .hbm, ⟨18, _⟩ => ⟨S8x704x1024, .f32⟩
  | .hbm, ⟨19, _⟩ => ⟨S_, .f32⟩
  | .hbm, ⟨20, _⟩ => ⟨S8x704x1024, .f32⟩
  | .hbm, ⟨21, _⟩ => ⟨S8x704x1024, .f32⟩
  | .hbm, ⟨22, _⟩ => ⟨S_, .f32⟩
  | .hbm, ⟨23, _⟩ => ⟨S8x704x1024, .f32⟩
  | .hbm, ⟨24, _⟩ => ⟨S8x704x1024, .f32⟩
  | .hbm, ⟨25, _⟩ => ⟨S8x704x1024, .f32⟩
  | .hbm, ⟨26, _⟩ => ⟨S_, .f32⟩
  | .hbm, ⟨27, _⟩ => ⟨S8x704x1024, .f32⟩
  | .hbm, ⟨28, _⟩ => ⟨S8x704x1024, .f32⟩
  | .hbm, ⟨29, _⟩ => ⟨S8x704x1024, .f32⟩
  | .hbm, ⟨30, _⟩ => ⟨S_, .f32⟩
  | .hbm, ⟨31, _⟩ => ⟨S8x704x1024, .f32⟩
  | .hbm, ⟨32, _⟩ => ⟨S8x704x1024, .f32⟩
  | .hbm, ⟨33, _⟩ => ⟨S8x704x1024, .f32⟩
  | .hbm, ⟨34, _⟩ => ⟨S_, .f32⟩
  | .hbm, ⟨35, _⟩ => ⟨S8x704x1024, .f32⟩
  | .hbm, ⟨36, _⟩ => ⟨S8x704x1024, .f32⟩
  | _, _ => ⟨S8x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSsmIn.lean ====
abbrev S2x1024x1544 : Shape := ⟨3, ![2, 1024, 1544]⟩
abbrev S1x256x1544 : Shape := ⟨3, ![1, 256, 1544]⟩
abbrev S256x1544 : Shape := ⟨2, ![256, 1544]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1544, .f32⟩
  | .hbm, ⟨1, _⟩ => ⟨S2x1024x1544, .f32⟩
  | .hbm, ⟨2, _⟩ => ⟨S2x1024x1544, .f32⟩
  | .hbm, ⟨3, _⟩ => ⟨S2x1024x1544, .f32⟩
  | .hbm, ⟨4, _⟩ => ⟨S2x1024x1544, .f32⟩
  | .hbm, ⟨5, _⟩ => ⟨S2x1024x1544, .f32⟩
  | .hbm, ⟨6, _⟩ => ⟨S2x1024x1544, .f32⟩
  | .local _ .vmem, ⟨0, _⟩ => ⟨S1x256x1544, .f32⟩
  | .local _ .vmem, ⟨1, _⟩ => ⟨S1x256x1544, .f32⟩
  | .local _ .vmem, ⟨2, _⟩ => ⟨S1x256x1544, .f32⟩
  | .local _ .vmem, ⟨3, _⟩ => ⟨S1x256x1544, .f32⟩
  | .local _ .vmem, ⟨4, _⟩ => ⟨S1x256x1544, .f32⟩
  | .local _ .vmem, ⟨5, _⟩ => ⟨S1x256x1544, .f32⟩
  | .local _ .vmem, ⟨6, _⟩ => ⟨S1x256x1544, .f32⟩
  | .local _ .vmem, ⟨7, _⟩ => ⟨S1x256x1544, .f32⟩
  | .local _ .vmem, ⟨8, _⟩ => ⟨S1x256x1544, .f32⟩
  | .local _ .vmem, ⟨9, _⟩ => ⟨S1x256x1544, .f32⟩
  | .local _ .vmem, ⟨10, _⟩ => ⟨S1x256x1544, .f32⟩
  | .local _ .vmem, ⟨11, _⟩ => ⟨S1x256x1544, .f32⟩
  | .local _ .vmem, ⟨12, _⟩ => ⟨S1x256x1544, .f32⟩
  | .local _ .vmem, ⟨13, _⟩ => ⟨S1x256x1544, .f32⟩
  | _, _ => ⟨S2x1024x1544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1544 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1544 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1544 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1544 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamSsmInIdeal.lean ====
abbrev S2x1024x1544 : Shape := ⟨3, ![2, 1024, 1544]⟩
abbrev S1x256x1544 : Shape := ⟨3, ![1, 256, 1544]⟩
abbrev S256x1544 : Shape := ⟨2, ![256, 1544]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1544, .f32⟩
  | .hbm, ⟨1, _⟩ => ⟨S2x1024x1544, .f32⟩
  | .hbm, ⟨2, _⟩ => ⟨S2x1024x1544, .f32⟩
  | .hbm, ⟨3, _⟩ => ⟨S2x1024x1544, .f32⟩
  | .hbm, ⟨4, _⟩ => ⟨S2x1024x1544, .f32⟩
  | .hbm, ⟨5, _⟩ => ⟨S2x1024x1544, .f32⟩
  | .hbm, ⟨6, _⟩ => ⟨S2x1024x1544, .f32⟩
  | .local _ .vmem, ⟨0, _⟩ => ⟨S1x256x1544, .f32⟩
  | .local _ .vmem, ⟨1, _⟩ => ⟨S1x256x1544, .f32⟩
  | .local _ .vmem, ⟨2, _⟩ => ⟨S1x256x1544, .f32⟩
  | .local _ .vmem, ⟨3, _⟩ => ⟨S1x256x1544, .f32⟩
  | .local _ .vmem, ⟨4, _⟩ => ⟨S1x256x1544, .f32⟩
  | .local _ .vmem, ⟨5, _⟩ => ⟨S1x256x1544, .f32⟩
  | .local _ .vmem, ⟨6, _⟩ => ⟨S1x256x1544, .f32⟩
  | .local _ .vmem, ⟨7, _⟩ => ⟨S1x256x1544, .f32⟩
  | .local _ .vmem, ⟨8, _⟩ => ⟨S1x256x1544, .f32⟩
  | .local _ .vmem, ⟨9, _⟩ => ⟨S1x256x1544, .f32⟩
  | .local _ .vmem, ⟨10, _⟩ => ⟨S1x256x1544, .f32⟩
  | .local _ .vmem, ⟨11, _⟩ => ⟨S1x256x1544, .f32⟩
  | .local _ .vmem, ⟨12, _⟩ => ⟨S1x256x1544, .f32⟩
  | .local _ .vmem, ⟨13, _⟩ => ⟨S1x256x1544, .f32⟩
  | _, _ => ⟨S2x1024x1544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1544 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1544 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1544 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1544 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamSsmInRefIdeal.lean ====
abbrev S2x1024x1544 : Shape := ⟨3, ![2, 1024, 1544]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1544, .f32⟩
  | .hbm, ⟨1, _⟩ => ⟨S2x1024x1544, .f32⟩
  | .hbm, ⟨2, _⟩ => ⟨S2x1024x1544, .f32⟩
  | .hbm, ⟨3, _⟩ => ⟨S2x1024x1544, .f32⟩
  | .hbm, ⟨4, _⟩ => ⟨S_, .f32⟩
  | .hbm, ⟨5, _⟩ => ⟨S2x1024x1544, .f32⟩
  | .hbm, ⟨6, _⟩ => ⟨S2x1024x1544, .f32⟩
  | .hbm, ⟨7, _⟩ => ⟨S_, .f32⟩
  | .hbm, ⟨8, _⟩ => ⟨S2x1024x1544, .f32⟩
  | .hbm, ⟨9, _⟩ => ⟨S2x1024x1544, .f32⟩
  | .hbm, ⟨10, _⟩ => ⟨S2x1024x1544, .f32⟩
  | .hbm, ⟨11, _⟩ => ⟨S_, .f32⟩
  | .hbm, ⟨12, _⟩ => ⟨S2x1024x1544, .f32⟩
  | .hbm, ⟨13, _⟩ => ⟨S2x1024x1544, .f32⟩
  | .hbm, ⟨14, _⟩ => ⟨S2x1024x1544, .f32⟩
  | .hbm, ⟨15, _⟩ => ⟨S_, .f32⟩
  | .hbm, ⟨16, _⟩ => ⟨S2x1024x1544, .f32⟩
  | .hbm, ⟨17, _⟩ => ⟨S2x1024x1544, .f32⟩
  | .hbm, ⟨18, _⟩ => ⟨S2x1024x1544, .f32⟩
  | .hbm, ⟨19, _⟩ => ⟨S_, .f32⟩
  | .hbm, ⟨20, _⟩ => ⟨S2x1024x1544, .f32⟩
  | .hbm, ⟨21, _⟩ => ⟨S2x1024x1544, .f32⟩
  | .hbm, ⟨22, _⟩ => ⟨S_, .f32⟩
  | .hbm, ⟨23, _⟩ => ⟨S2x1024x1544, .f32⟩
  | .hbm, ⟨24, _⟩ => ⟨S2x1024x1544, .f32⟩
  | .hbm, ⟨25, _⟩ => ⟨S2x1024x1544, .f32⟩
  | .hbm, ⟨26, _⟩ => ⟨S_, .f32⟩
  | .hbm, ⟨27, _⟩ => ⟨S2x1024x1544, .f32⟩
  | .hbm, ⟨28, _⟩ => ⟨S2x1024x1544, .f32⟩
  | .hbm, ⟨29, _⟩ => ⟨S2x1024x1544, .f32⟩
  | .hbm, ⟨30, _⟩ => ⟨S_, .f32⟩
  | .hbm, ⟨31, _⟩ => ⟨S2x1024x1544, .f32⟩
  | .hbm, ⟨32, _⟩ => ⟨S2x1024x1544, .f32⟩
  | .hbm, ⟨33, _⟩ => ⟨S2x1024x1544, .f32⟩
  | .hbm, ⟨34, _⟩ => ⟨S_, .f32⟩
  | .hbm, ⟨35, _⟩ => ⟨S2x1024x1544, .f32⟩
  | .hbm, ⟨36, _⟩ => ⟨S2x1024x1544, .f32⟩
  | _, _ => ⟨S2x1024x1544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSsmOut.lean ====
abbrev S2x512x1024 : Shape := ⟨3, ![2, 512, 1024]⟩
abbrev S1x512x1024 : Shape := ⟨3, ![1, 512, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamSsmOutIdeal.lean ====
abbrev S2x512x1024 : Shape := ⟨3, ![2, 512, 1024]⟩
abbrev S1x512x1024 : Shape := ⟨3, ![1, 512, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamSsmOutRefIdeal.lean ====
abbrev S2x512x1024 : Shape := ⟨3, ![2, 512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S_, .f32⟩
  | .hbm, ⟨5, _⟩ => ⟨S2x512x1024, .f32⟩
  | .hbm, ⟨6, _⟩ => ⟨S2x512x1024, .f32⟩
  | .hbm, ⟨7, _⟩ => ⟨S_, .f32⟩
  | .hbm, ⟨8, _⟩ => ⟨S2x512x1024, .f32⟩
  | .hbm, ⟨9, _⟩ => ⟨S2x512x1024, .f32⟩
  | .hbm, ⟨10, _⟩ => ⟨S2x512x1024, .f32⟩
  | .hbm, ⟨11, _⟩ => ⟨S_, .f32⟩
  | .hbm, ⟨12, _⟩ => ⟨S2x512x1024, .f32⟩
  | .hbm, ⟨13, _⟩ => ⟨S2x512x1024, .f32⟩
  | .hbm, ⟨14, _⟩ => ⟨S2x512x1024, .f32⟩
  | .hbm, ⟨15, _⟩ => ⟨S_, .f32⟩
  | .hbm, ⟨16, _⟩ => ⟨S2x512x1024, .f32⟩
  | .hbm, ⟨17, _⟩ => ⟨S2x512x1024, .f32⟩
  | .hbm, ⟨18, _⟩ => ⟨S2x512x1024, .f32⟩
  | .hbm, ⟨19, _⟩ => ⟨S_, .f32⟩
  | .hbm, ⟨20, _⟩ => ⟨S2x512x1024, .f32⟩
  | .hbm, ⟨21, _⟩ => ⟨S2x512x1024, .f32⟩
  | .hbm, ⟨22, _⟩ => ⟨S_, .f32⟩
  | .hbm, ⟨23, _⟩ => ⟨S2x512x1024, .f32⟩
  | .hbm, ⟨24, _⟩ => ⟨S2x512x1024, .f32⟩
  | .hbm, ⟨25, _⟩ => ⟨S2x512x1024, .f32⟩
  | .hbm, ⟨26, _⟩ => ⟨S_, .f32⟩
  | .hbm, ⟨27, _⟩ => ⟨S2x512x1024, .f32⟩
  | .hbm, ⟨28, _⟩ => ⟨S2x512x1024, .f32⟩
  | .hbm, ⟨29, _⟩ => ⟨S2x512x1024, .f32⟩
  | .hbm, ⟨30, _⟩ => ⟨S_, .f32⟩
  | .hbm, ⟨31, _⟩ => ⟨S2x512x1024, .f32⟩
  | .hbm, ⟨32, _⟩ => ⟨S2x512x1024, .f32⟩
  | .hbm, ⟨33, _⟩ => ⟨S2x512x1024, .f32⟩
  | .hbm, ⟨34, _⟩ => ⟨S_, .f32⟩
  | .hbm, ⟨35, _⟩ => ⟨S2x512x1024, .f32⟩
  | .hbm, ⟨36, _⟩ => ⟨S2x512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKv.lean ====
abbrev S1x256x512 : Shape := ⟨3, ![1, 256, 512]⟩
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x256x512, .f32⟩
  | .hbm, ⟨1, _⟩ => ⟨S1x256x512, .f32⟩
  | .hbm, ⟨2, _⟩ => ⟨S1x256x512, .f32⟩
  | .hbm, ⟨3, _⟩ => ⟨S1x256x512, .f32⟩
  | .hbm, ⟨4, _⟩ => ⟨S1x256x512, .f32⟩
  | .hbm, ⟨5, _⟩ => ⟨S1x256x512, .f32⟩
  | .hbm, ⟨6, _⟩ => ⟨S1x256x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamKvIdeal.lean ====
abbrev S1x256x512 : Shape := ⟨3, ![1, 256, 512]⟩
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x256x512, .f32⟩
  | .hbm, ⟨1, _⟩ => ⟨S1x256x512, .f32⟩
  | .hbm, ⟨2, _⟩ => ⟨S1x256x512, .f32⟩
  | .hbm, ⟨3, _⟩ => ⟨S1x256x512, .f32⟩
  | .hbm, ⟨4, _⟩ => ⟨S1x256x512, .f32⟩
  | .hbm, ⟨5, _⟩ => ⟨S1x256x512, .f32⟩
  | .hbm, ⟨6, _⟩ => ⟨S1x256x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamKvRefIdeal.lean ====
abbrev S1x256x512 : Shape := ⟨3, ![1, 256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256x512, .f32⟩
  | .hbm, ⟨1, _⟩ => ⟨S1x256x512, .f32⟩
  | .hbm, ⟨2, _⟩ => ⟨S1x256x512, .f32⟩
  | .hbm, ⟨3, _⟩ => ⟨S1x256x512, .f32⟩
  | .hbm, ⟨4, _⟩ => ⟨S_, .f32⟩
  | .hbm, ⟨5, _⟩ => ⟨S1x256x512, .f32⟩
  | .hbm, ⟨6, _⟩ => ⟨S1x256x512, .f32⟩
  | .hbm, ⟨7, _⟩ => ⟨S_, .f32⟩
  | .hbm, ⟨8, _⟩ => ⟨S1x256x512, .f32⟩
  | .hbm, ⟨9, _⟩ => ⟨S1x256x512, .f32⟩
  | .hbm, ⟨10, _⟩ => ⟨S1x256x512, .f32⟩
  | .hbm, ⟨11, _⟩ => ⟨S_, .f32⟩
  | .hbm, ⟨12, _⟩ => ⟨S1x256x512, .f32⟩
  | .hbm, ⟨13, _⟩ => ⟨S1x256x512, .f32⟩
  | .hbm, ⟨14, _⟩ => ⟨S1x256x512, .f32⟩
  | .hbm, ⟨15, _⟩ => ⟨S_, .f32⟩
  | .hbm, ⟨16, _⟩ => ⟨S1x256x512, .f32⟩
  | .hbm, ⟨17, _⟩ => ⟨S1x256x512, .f32⟩
  | .hbm, ⟨18, _⟩ => ⟨S1x256x512, .f32⟩
  | .hbm, ⟨19, _⟩ => ⟨S_, .f32⟩
  | .hbm, ⟨20, _⟩ => ⟨S1x256x512, .f32⟩
  | .hbm, ⟨21, _⟩ => ⟨S1x256x512, .f32⟩
  | .hbm, ⟨22, _⟩ => ⟨S_, .f32⟩
  | .hbm, ⟨23, _⟩ => ⟨S1x256x512, .f32⟩
  | .hbm, ⟨24, _⟩ => ⟨S1x256x512, .f32⟩
  | .hbm, ⟨25, _⟩ => ⟨S1x256x512, .f32⟩
  | .hbm, ⟨26, _⟩ => ⟨S_, .f32⟩
  | .hbm, ⟨27, _⟩ => ⟨S1x256x512, .f32⟩
  | .hbm, ⟨28, _⟩ => ⟨S1x256x512, .f32⟩
  | .hbm, ⟨29, _⟩ => ⟨S1x256x512, .f32⟩
  | .hbm, ⟨30, _⟩ => ⟨S_, .f32⟩
  | .hbm, ⟨31, _⟩ => ⟨S1x256x512, .f32⟩
  | .hbm, ⟨32, _⟩ => ⟨S1x256x512, .f32⟩
  | .hbm, ⟨33, _⟩ => ⟨S1x256x512, .f32⟩
  | .hbm, ⟨34, _⟩ => ⟨S_, .f32⟩
  | .hbm, ⟨35, _⟩ => ⟨S1x256x512, .f32⟩
  | .hbm, ⟨36, _⟩ => ⟨S1x256x512, .f32⟩
  | _, _ => ⟨S1x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAttn.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamAttnIdeal.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamAttnRefIdeal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMod.lean ====
abbrev S4x1024x2304 : Shape := ⟨3, ![4, 1024, 2304]⟩
abbrev S1x128x2304 : Shape := ⟨3, ![1, 128, 2304]⟩
abbrev S128x2304 : Shape := ⟨2, ![128, 2304]⟩

abbrev nBuf : Space → Nat
  | .hbm => 7
  | .vmem => 14
  | .smem => 0
  | _ => 0

abbrev bufTy : (tb : Table) → Fin (tcTables nBuf tb) → BufTy
  | .hbm, ⟨0, _⟩ => ⟨S4x1024x2304, .f32⟩
  | .hbm, ⟨1, _⟩ => ⟨S4x1024x2304, .f32⟩
  | .hbm, ⟨2, _⟩ => ⟨S4x1024x2304, .f32⟩
  | .hbm, ⟨3, _⟩ => ⟨S4x1024x2304, .f32⟩
  | .hbm, ⟨4, _⟩ => ⟨S4x1024x2304, .f32⟩
  | .hbm, ⟨5, _⟩ => ⟨S4x1024x2304, .f32⟩
  | .hbm, ⟨6, _⟩ => ⟨S4x1024x2304, .f32⟩
  | .local _ .vmem, ⟨0, _⟩ => ⟨S1x128x2304, .f32⟩
  | .local _ .vmem, ⟨1, _⟩ => ⟨S1x128x2304, .f32⟩
  | .local _ .vmem, ⟨2, _⟩ => ⟨S1x128x2304, .f32⟩
  | .local _ .vmem, ⟨3, _⟩ => ⟨S1x128x2304, .f32⟩
  | .local _ .vmem, ⟨4, _⟩ => ⟨S1x128x2304, .f32⟩
  | .local _ .vmem, ⟨5, _⟩ => ⟨S1x128x2304, .f32⟩
  | .local _ .vmem, ⟨6, _⟩ => ⟨S1x128x2304, .f32⟩
  | .local _ .vmem, ⟨7, _⟩ => ⟨S1x128x2304, .f32⟩
  | .local _ .vmem, ⟨8, _⟩ => ⟨S1x128x2304, .f32⟩
  | .local _ .vmem, ⟨9, _⟩ => ⟨S1x128x2304, .f32⟩
  | .local _ .vmem, ⟨10, _⟩ => ⟨S1x128x2304, .f32⟩
  | .local _ .vmem, ⟨11, _⟩ => ⟨S1x128x2304, .f32⟩
  | .local _ .vmem, ⟨12, _⟩ => ⟨S1x128x2304, .f32⟩
  | .local _ .vmem, ⟨13, _⟩ => ⟨S1x128x2304, .f32⟩
  | _, _ => ⟨S4x1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamModIdeal.lean ====
abbrev S4x1024x2304 : Shape := ⟨3, ![4, 1024, 2304]⟩
abbrev S1x128x2304 : Shape := ⟨3, ![1, 128, 2304]⟩
abbrev S128x2304 : Shape := ⟨2, ![128, 2304]⟩

abbrev nBuf : Space → Nat
  | .hbm => 7
  | .vmem => 14
  | .smem => 0
  | _ => 0

abbrev bufTy : (tb : Table) → Fin (tcTables nBuf tb) → BufTy
  | .hbm, ⟨0, _⟩ => ⟨S4x1024x2304, .f32⟩
  | .hbm, ⟨1, _⟩ => ⟨S4x1024x2304, .f32⟩
  | .hbm, ⟨2, _⟩ => ⟨S4x1024x2304, .f32⟩
  | .hbm, ⟨3, _⟩ => ⟨S4x1024x2304, .f32⟩
  | .hbm, ⟨4, _⟩ => ⟨S4x1024x2304, .f32⟩
  | .hbm, ⟨5, _⟩ => ⟨S4x1024x2304, .f32⟩
  | .hbm, ⟨6, _⟩ => ⟨S4x1024x2304, .f32⟩
  | .local _ .vmem, ⟨0, _⟩ => ⟨S1x128x2304, .f32⟩
  | .local _ .vmem, ⟨1, _⟩ => ⟨S1x128x2304, .f32⟩
  | .local _ .vmem, ⟨2, _⟩ => ⟨S1x128x2304, .f32⟩
  | .local _ .vmem, ⟨3, _⟩ => ⟨S1x128x2304, .f32⟩
  | .local _ .vmem, ⟨4, _⟩ => ⟨S1x128x2304, .f32⟩
  | .local _ .vmem, ⟨5, _⟩ => ⟨S1x128x2304, .f32⟩
  | .local _ .vmem, ⟨6, _⟩ => ⟨S1x128x2304, .f32⟩
  | .local _ .vmem, ⟨7, _⟩ => ⟨S1x128x2304, .f32⟩
  | .local _ .vmem, ⟨8, _⟩ => ⟨S1x128x2304, .f32⟩
  | .local _ .vmem, ⟨9, _⟩ => ⟨S1x128x2304, .f32⟩
  | .local _ .vmem, ⟨10, _⟩ => ⟨S1x128x2304, .f32⟩
  | .local _ .vmem, ⟨11, _⟩ => ⟨S1x128x2304, .f32⟩
  | .local _ .vmem, ⟨12, _⟩ => ⟨S1x128x2304, .f32⟩
  | .local _ .vmem, ⟨13, _⟩ => ⟨S1x128x2304, .f32⟩
  | _, _ => ⟨S4x1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamModRefIdeal.lean ====
abbrev S4x1024x2304 : Shape := ⟨3, ![4, 1024, 2304]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x2304, .f32⟩
  | .hbm, ⟨1, _⟩ => ⟨S4x1024x2304, .f32⟩
  | .hbm, ⟨2, _⟩ => ⟨S4x1024x2304, .f32⟩
  | .hbm, ⟨3, _⟩ => ⟨S4x1024x2304, .f32⟩
  | .hbm, ⟨4, _⟩ => ⟨S_, .f32⟩
  | .hbm, ⟨5, _⟩ => ⟨S4x1024x2304, .f32⟩
  | .hbm, ⟨6, _⟩ => ⟨S4x1024x2304, .f32⟩
  | .hbm, ⟨7, _⟩ => ⟨S_, .f32⟩
  | .hbm, ⟨8, _⟩ => ⟨S4x1024x2304, .f32⟩
  | .hbm, ⟨9, _⟩ => ⟨S4x1024x2304, .f32⟩
  | .hbm, ⟨10, _⟩ => ⟨S4x1024x2304, .f32⟩
  | .hbm, ⟨11, _⟩ => ⟨S_, .f32⟩
  | .hbm, ⟨12, _⟩ => ⟨S4x1024x2304, .f32⟩
  | .hbm, ⟨13, _⟩ => ⟨S4x1024x2304, .f32⟩
  | .hbm, ⟨14, _⟩ => ⟨S4x1024x2304, .f32⟩
  | .hbm, ⟨15, _⟩ => ⟨S_, .f32⟩
  | .hbm, ⟨16, _⟩ => ⟨S4x1024x2304, .f32⟩
  | .hbm, ⟨17, _⟩ => ⟨S4x1024x2304, .f32⟩
  | .hbm, ⟨18, _⟩ => ⟨S4x1024x2304, .f32⟩
  | .hbm, ⟨19, _⟩ => ⟨S_, .f32⟩
  | .hbm, ⟨20, _⟩ => ⟨S4x1024x2304, .f32⟩
  | .hbm, ⟨21, _⟩ => ⟨S4x1024x2304, .f32⟩
  | .hbm, ⟨22, _⟩ => ⟨S_, .f32⟩
  | .hbm, ⟨23, _⟩ => ⟨S4x1024x2304, .f32⟩
  | .hbm, ⟨24, _⟩ => ⟨S4x1024x2304, .f32⟩
  | .hbm, ⟨25, _⟩ => ⟨S4x1024x2304, .f32⟩
  | .hbm, ⟨26, _⟩ => ⟨S_, .f32⟩
  | .hbm, ⟨27, _⟩ => ⟨S4x1024x2304, .f32⟩
  | .hbm, ⟨28, _⟩ => ⟨S4x1024x2304, .f32⟩
  | .hbm, ⟨29, _⟩ => ⟨S4x1024x2304, .f32⟩
  | .hbm, ⟨30, _⟩ => ⟨S_, .f32⟩
  | .hbm, ⟨31, _⟩ => ⟨S4x1024x2304, .f32⟩
  | .hbm, ⟨32, _⟩ => ⟨S4x1024x2304, .f32⟩
  | .hbm, ⟨33, _⟩ => ⟨S4x1024x2304, .f32⟩
  | .hbm, ⟨34, _⟩ => ⟨S_, .f32⟩
  | .hbm, ⟨35, _⟩ => ⟨S4x1024x2304, .f32⟩
  | .hbm, ⟨36, _⟩ => ⟨S4x1024x2304, .f32⟩
  | _, _ => ⟨S4x1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKvMod.lean ====
abbrev S1x1024x512 : Shape := ⟨3, ![1, 1024, 512]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamKvModIdeal.lean ====
abbrev S1x1024x512 : Shape := ⟨3, ![1, 1024, 512]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamKvModRefIdeal.lean ====
abbrev S1x1024x512 : Shape := ⟨3, ![1, 1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S_, .f32⟩
  | .hbm, ⟨5, _⟩ => ⟨S1x1024x512, .f32⟩
  | .hbm, ⟨6, _⟩ => ⟨S1x1024x512, .f32⟩
  | .hbm, ⟨7, _⟩ => ⟨S_, .f32⟩
  | .hbm, ⟨8, _⟩ => ⟨S1x1024x512, .f32⟩
  | .hbm, ⟨9, _⟩ => ⟨S1x1024x512, .f32⟩
  | .hbm, ⟨10, _⟩ => ⟨S1x1024x512, .f32⟩
  | .hbm, ⟨11, _⟩ => ⟨S_, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S_, .f32⟩
  | .hbm, ⟨16, _⟩ => ⟨S1x1024x512, .f32⟩
  | .hbm, ⟨17, _⟩ => ⟨S1x1024x512, .f32⟩
  | .hbm, ⟨18, _⟩ => ⟨S1x1024x512, .f32⟩
  | .hbm, ⟨19, _⟩ => ⟨S_, .f32⟩
  | .hbm, ⟨20, _⟩ => ⟨S1x1024x512, .f32⟩
  | .hbm, ⟨21, _⟩ => ⟨S1x1024x512, .f32⟩
  | .hbm, ⟨22, _⟩ => ⟨S_, .f32⟩
  | .hbm, ⟨23, _⟩ => ⟨S1x1024x512, .f32⟩
  | .hbm, ⟨24, _⟩ => ⟨S1x1024x512, .f32⟩
  | .hbm, ⟨25, _⟩ => ⟨S1x1024x512, .f32⟩
  | .hbm, ⟨26, _⟩ => ⟨S_, .f32⟩
  | .hbm, ⟨27, _⟩ => ⟨S1x1024x512, .f32⟩
  | .hbm, ⟨28, _⟩ => ⟨S1x1024x512, .f32⟩
  | .hbm, ⟨29, _⟩ => ⟨S1x1024x512, .f32⟩
  | .hbm, ⟨30, _⟩ => ⟨S_, .f32⟩
  | .hbm, ⟨31, _⟩ => ⟨S1x1024x512, .f32⟩
  | .hbm, ⟨32, _⟩ => ⟨S1x1024x512, .f32⟩
  | .hbm, ⟨33, _⟩ => ⟨S1x1024x512, .f32⟩
  | .hbm, ⟨34, _⟩ => ⟨S_, .f32⟩
  | .hbm, ⟨35, _⟩ => ⟨S1x1024x512, .f32⟩
  | .hbm, ⟨36, _⟩ => ⟨S1x1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1x8x7936 : Shape := ⟨3, ![1, 8, 7936]⟩
abbrev S8x7936 : Shape := ⟨2, ![8, 7936]⟩

abbrev nBuf : Space → Nat
  | .hbm => 7
  | .vmem => 7
  | .smem => 0
  | _ => 0

abbrev bufTy : (tb : Table) → Fin (tcTables nBuf tb) → BufTy
  | .hbm, ⟨0, _⟩ => ⟨S1x8x7936, .f32⟩
  | .hbm, ⟨1, _⟩ => ⟨S1x8x7936, .f32⟩
  | .hbm, ⟨2, _⟩ => ⟨S1x8x7936, .f32⟩
  | .hbm, ⟨3, _⟩ => ⟨S1x8x7936, .f32⟩
  | .hbm, ⟨4, _⟩ => ⟨S1x8x7936, .f32⟩
  | .hbm, ⟨5, _⟩ => ⟨S1x8x7936, .f32⟩
  | .hbm, ⟨6, _⟩ => ⟨S1x8x7936, .f32⟩
  | .local _ .vmem, ⟨0, _⟩ => ⟨S1x8x7936, .f32⟩
  | .local _ .vmem, ⟨1, _⟩ => ⟨S1x8x7936, .f32⟩
  | .local _ .vmem, ⟨2, _⟩ => ⟨S1x8x7936, .f32⟩
  | .local _ .vmem, ⟨3, _⟩ => ⟨S1x8x7936, .f32⟩
  | .local _ .vmem, ⟨4, _⟩ => ⟨S1x8x7936, .f32⟩
  | .local _ .vmem, ⟨5, _⟩ => ⟨S1x8x7936, .f32⟩
  | .local _ .vmem, ⟨6, _⟩ => ⟨S1x8x7936, .f32⟩
  | _, _ => ⟨S1x8x7936, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x7936 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x8x7936 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x8x7936 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x8x7936 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x8x7936 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x8x7936 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x8x7936 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamSmallRefIdeal.lean ====
abbrev S1x8x7936 : Shape := ⟨3, ![1, 8, 7936]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8x7936, .f32⟩
  | .hbm, ⟨1, _⟩ => ⟨S1x8x7936, .f32⟩
  | .hbm, ⟨2, _⟩ => ⟨S1x8x7936, .f32⟩
  | .hbm, ⟨3, _⟩ => ⟨S1x8x7936, .f32⟩
  | .hbm, ⟨4, _⟩ => ⟨S_, .f32⟩
  | .hbm, ⟨5, _⟩ => ⟨S1x8x7936, .f32⟩
  | .hbm, ⟨6, _⟩ => ⟨S1x8x7936, .f32⟩
  | .hbm, ⟨7, _⟩ => ⟨S_, .f32⟩
  | .hbm, ⟨8, _⟩ => ⟨S1x8x7936, .f32⟩
  | .hbm, ⟨9, _⟩ => ⟨S1x8x7936, .f32⟩
  | .hbm, ⟨10, _⟩ => ⟨S1x8x7936, .f32⟩
  | .hbm, ⟨11, _⟩ => ⟨S_, .f32⟩
  | .hbm, ⟨12, _⟩ => ⟨S1x8x7936, .f32⟩
  | .hbm, ⟨13, _⟩ => ⟨S1x8x7936, .f32⟩
  | .hbm, ⟨14, _⟩ => ⟨S1x8x7936, .f32⟩
  | .hbm, ⟨15, _⟩ => ⟨S_, .f32⟩
  | .hbm, ⟨16, _⟩ => ⟨S1x8x7936, .f32⟩
  | .hbm, ⟨17, _⟩ => ⟨S1x8x7936, .f32⟩
  | .hbm, ⟨18, _⟩ => ⟨S1x8x7936, .f32⟩
  | .hbm, ⟨19, _⟩ => ⟨S_, .f32⟩
  | .hbm, ⟨20, _⟩ => ⟨S1x8x7936, .f32⟩
  | .hbm, ⟨21, _⟩ => ⟨S1x8x7936, .f32⟩
  | .hbm, ⟨22, _⟩ => ⟨S_, .f32⟩
  | .hbm, ⟨23, _⟩ => ⟨S1x8x7936, .f32⟩
  | .hbm, ⟨24, _⟩ => ⟨S1x8x7936, .f32⟩
  | .hbm, ⟨25, _⟩ => ⟨S1x8x7936, .f32⟩
  | .hbm, ⟨26, _⟩ => ⟨S_, .f32⟩
  | .hbm, ⟨27, _⟩ => ⟨S1x8x7936, .f32⟩
  | .hbm, ⟨28, _⟩ => ⟨S1x8x7936, .f32⟩
  | .hbm, ⟨29, _⟩ => ⟨S1x8x7936, .f32⟩
  | .hbm, ⟨30, _⟩ => ⟨S_, .f32⟩
  | .hbm, ⟨31, _⟩ => ⟨S1x8x7936, .f32⟩
  | .hbm, ⟨32, _⟩ => ⟨S1x8x7936, .f32⟩
  | .hbm, ⟨33, _⟩ => ⟨S1x8x7936, .f32⟩
  | .hbm, ⟨34, _⟩ => ⟨S_, .f32⟩
  | .hbm, ⟨35, _⟩ => ⟨S1x8x7936, .f32⟩
  | .hbm, ⟨36, _⟩ => ⟨S1x8x7936, .f32⟩
  | _, _ => ⟨S1x8x7936, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.AllReal.lean ====
/-
  Hand-written. Extended reals that are real numbers: what a printed test `jnp.all(jnp.abs(x) < jnp.inf)` says of the
  elements of `x`, and sums of real numbers.
-/
module

public import Idealize.ShloMosaic.Lib.ReduceAll
public import Idealize.ShloMosaic.Lib.Pointwise

@[expose] public section

noncomputable section

namespace Cert.Proof

open Idealize.ShloMosaic

/-- An extended real whose absolute value is less than infinity is a real number. -/
theorem exists_real {x : EReal} (h : max x (-x) < ⊤) : ∃ r : ℝ, x = (r : EReal) := by
  induction x using EReal.rec with
  | bot => simp at h
  | coe r => exact ⟨r, rfl⟩
  | top => simp at h

/-- A sum of real numbers, taken in the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The word of f32's infinity. -/
theorem inf_f32 : Ideal.ofBits .f32 0x7F800000#32 = (⊤ : EReal) := by
  simp [Ideal.ofBits, Ideal.ieee]

/-- The word of bf16's infinity. -/
theorem inf_bf16 : Ideal.ofBits .bf16 0x7F80#16 = (⊤ : EReal) := by
  simp [Ideal.ofBits, Ideal.ieee]

/-- An `f32` array whose printed test came out 1 holds real numbers. -/
theorem all_real_f32 {s t u : Shape} {axes : List (Fin s.rank)} [Subsingleton t.Idx] (x : FVec Ideal s .f32)
    (b : FVec Ideal s .f32) (hb : ∀ i, b i = Ideal.ofBits .f32 0x7F800000#32) (init : u.Idx → BitVec 1)
    (h : s.ReducesTo axes t) (hu : 0 < u.numel) (j : t.Idx)
    (e : Host.reduce IntOp.andi (cmpf .olt (Host.absf x) b) init h hu j = 1#1) :
    ∃ f : s.Idx → ℝ, x = fun i => (f i : EReal) := by
  have key : ∀ i, ∃ r : ℝ, x i = (r : EReal) := fun i => by
    have e1 : Ideal.cmp .olt (max (x i) (-(x i))) (b i) = 1#1 := Host.reduce_andi_all _ _ _ _ j e i
    rw [hb, inf_f32] at e1
    refine exists_real ?_
    by_contra hn
    simp only [Ideal.cmp, hn] at e1
    exact absurd e1 (by decide)
  exact ⟨fun i => (key i).choose, funext fun i => (key i).choose_spec⟩

/-- A `bf16` array whose printed test came out 1 holds real numbers. -/
theorem all_real_bf16 {s t u : Shape} {axes : List (Fin s.rank)} [Subsingleton t.Idx] (x : FVec Ideal s .bf16)
    (b : FVec Ideal s .bf16) (hb : ∀ i, b i = Ideal.ofBits .bf16 0x7F80#16) (init : u.Idx → BitVec 1)
    (h : s.ReducesTo axes t) (hu : 0 < u.numel) (j : t.Idx)
    (e : Host.reduce IntOp.andi (cmpf .olt (Host.absf x) b) init h hu j = 1#1) :
    ∃ f : s.Idx → ℝ, x = fun i => (f i : EReal) := by
  have key : ∀ i, ∃ r : ℝ, x i = (r : EReal) := fun i => by
    have e1 : Ideal.cmp .olt (max (x i) (-(x i))) (b i) = 1#1 := Host.reduce_andi_all _ _ _ _ j e i
    rw [hb, inf_bf16] at e1
    refine exists_real ?_
    by_contra hn
    simp only [Ideal.cmp, hn] at e1
    exact absurd e1 (by decide)
  exact ⟨fun i => (key i).choose, funext fun i => (key i).choose_spec⟩

/-- Sums, differences, products and quotients of real numbers are real numbers. -/
theorem real_add {x y : EReal} (hx : ∃ r : ℝ, x = (r : EReal)) (hy : ∃ r : ℝ, y = (r : EReal)) : ∃ r : ℝ, x + y = (r : EReal) := by
  obtain ⟨a, rfl⟩ := hx; obtain ⟨b, rfl⟩ := hy; exact ⟨a + b, (EReal.coe_add a b).symm⟩

theorem real_sub {x y : EReal} (hx : ∃ r : ℝ, x = (r : EReal)) (hy : ∃ r : ℝ, y = (r : EReal)) : ∃ r : ℝ, x - y = (r : EReal) := by
  obtain ⟨a, rfl⟩ := hx; obtain ⟨b, rfl⟩ := hy; exact ⟨a - b, (EReal.coe_sub a b).symm⟩

theorem real_mul {x y : EReal} (hx : ∃ r : ℝ, x = (r : EReal)) (hy : ∃ r : ℝ, y = (r : EReal)) : ∃ r : ℝ, x * y = (r : EReal) := by
  obtain ⟨a, rfl⟩ := hx; obtain ⟨b, rfl⟩ := hy; exact ⟨a * b, (EReal.coe_mul a b).symm⟩

theorem real_sum {ι : Type} (s : Finset ι) (f : ι → EReal) (h : ∀ i, ∃ r : ℝ, f i = (r : EReal)) : ∃ r : ℝ, ∑ i ∈ s, f i = (r : EReal) :=
  ⟨_, (Finset.sum_congr rfl fun i _ => (h i).choose_spec).trans (coe_sum s fun i => (h i).choose)⟩

theorem real_div {x : EReal} (hx : ∃ r : ℝ, x = (r : EReal)) {w : ℝ} (hw : w ≠ 0) : ∃ r : ℝ, Ideal.div x (w : EReal) = (r : EReal) := by
  obtain ⟨a, rfl⟩ := hx; exact ⟨a * (1 / w), (Ideal.div_coe hw _).trans (EReal.coe_mul a (1 / w)).symm⟩

/-- The sigmoid of a real number, as the kernels print it. -/
theorem sigmoid_coe (x : ℝ) : Ideal.div 1 (1 + Ideal.exp (-(x : EReal))) = ((1 / (1 + Real.exp (-x)) : ℝ) : EReal) := by
  have hpos : (1 + Real.exp (-x)) ≠ 0 := by positivity
  rw [← EReal.coe_neg, Ideal.exp_coe, ← EReal.coe_one, ← EReal.coe_add, Ideal.div_coe hpos, ← EReal.coe_mul, one_mul]

end Cert.Proof

end
-- ==== Proof.DownDx.lean ====
/-
  Hand-written. The gradient of the FFN's gate and up halves through `silu(g) · u @ w_down`: the kernel's call and the
  reference end with the same array when the arguments are real numbers.
-/
module

public import proofs.«01_k».proof.Defs
public import proofs.«01_k».proof.Proof.Gen.DownDxIdeal.Value
public import proofs.«01_k».proof.Proof.Gen.DownDxRefIdeal.Run
public import proofs.«01_k».proof.Proof.Gen.DownDxRefIdeal.Read
public import proofs.«01_k».proof.Proof.Gen.Pre_all_real
public import proofs.«01_k».proof.Proof.AllReal
public import Idealize.ShloMosaic.Lib.Pipeline.Value
public import Idealize.ShloMosaic.Lib.StableHlo.Run
public import Idealize.ShloMosaic.Lib.Pointwise

@[expose] public section

set_option maxRecDepth 16384

noncomputable section

namespace Cert.DownDxIdeal.Hand

open Cert.DownDxIdeal Cert.DownDxIdeal.Gen Idealize.ShloMosaic Idealize.ShloMosaic.TcCoe Idealize.SL.Sem
open Idealize.ShloMosaic.Pipeline (Dat)

/-- The sigmoid as the kernel computes it. -/
def sgm (x : EReal) : EReal := Ideal.div 1 (1 + Ideal.exp (-x))

/-- The two gradients at one element, the gate's (`c = 0`) and the up half's, from the activation's gradient `da`. -/
def grad (c : Nat) (da g u : EReal) : EReal :=
  if c < 1 then da * u * (sgm g * (1 + g * (1 - sgm g))) else da * (g * sgm g)

/-- The activation's gradient at part `p`, token `l` and column `t`. -/
def dact (df : Vec Ideal S2048x1024 .bf16) (w : Vec Ideal S2x1408x1024 .bf16) (p : Fin 2) (l : Fin 2048) (t : Fin 1408) : EReal :=
  ∑ d : Fin 1024, (show EReal from df (ix2 l d)) * (show EReal from w (ix3 p t d))

/-- Half `c` and part `p` of the four parts of `gu`. -/
def part (c p : Fin 2) : Fin 4 := ⟨c.val * 2 + p.val, by omega⟩

/-- The gradient of the gate (`0`) and up (`1`) halves. -/
def G (df : Vec Ideal S2048x1024 .bf16) (w : Vec Ideal S2x1408x1024 .bf16) (gu : Vec Ideal S4x2048x1408 .f32) :
    Vec Ideal S2x2x2048x1408 .bf16 :=
  fun i => (grad (i 0).val (dact df w (i 1) (i 2) (i 3)) (gu (ix3 (part 0 (i 1)) (i 2) (i 3))) (gu (ix3 (part 1 (i 1)) (i 2) (i 3))) : EReal)

theorem hz2 : (![0, 0] : Fin 2 → Nat) = fun _ => 0 := funext fun a => by fin_cases a <;> rfl
theorem hz3 : (![0, 0, 0] : Fin 3 → Nat) = fun _ => 0 := funext fun a => by fin_cases a <;> rfl

/-- The activation's gradient in a block. -/
theorem pay2_apply (v0 : Vec Ideal S512x1024 .bf16) (v1 : Vec Ideal S1x1408x1024 .bf16) (r : Fin 512) (t : Fin 1408) :
    k0_pay2 (F := Ideal) v0 v1 (ix2 r t) = (∑ d : Fin 1024, (show EReal from v0 (ix2 r d)) * (show EReal from v1 (ix3 (0 : Fin 1) t d)) : EReal) := by
  pointwise [k0_pay2]

/-- The up half's gradient in a block. -/
theorem pay1_apply (v3 v5 : FVec Ideal S512x1408 .f32) (v4 : Vec Ideal S1x1x512x1408 .f32) (h5 : v5 = k0_pay3 v4) (r : Fin 512) (t : Fin 1408) :
    k0_pay1 (F := Ideal) v3 v5 (k0_pay5 v4) (ix4 (0 : Fin 1) (0 : Fin 1) r t) = (grad 1 (v3 (ix2 r t)) (v4 (ix4 (0 : Fin 1) (0 : Fin 1) r t)) 0 : EReal) := by
  subst h5
  pointwise [k0_pay1, k0_pay3, k0_pay5]
  simp [grad, sgm]

/-- The gate's gradient in a block. -/
theorem pay4_apply (v0 : Vec Ideal S512x1024 .bf16) (v1 : Vec Ideal S1x1408x1024 .bf16) (v4 v6 : Vec Ideal S1x1x512x1408 .f32) (r : Fin 512) (t : Fin 1408) :
    k0_pay4 (F := Ideal) v0 v1 v4 v6 (ix4 (0 : Fin 1) (0 : Fin 1) r t)
      = (grad 0 (k0_pay2 (F := Ideal) v0 v1 (ix2 r t)) (v4 (ix4 (0 : Fin 1) (0 : Fin 1) r t)) (v6 (ix4 (0 : Fin 1) (0 : Fin 1) r t)) : EReal) := by
  unfold k0_pay4
  generalize k0_pay2 (F := Ideal) v0 v1 = da
  pointwise [k0_pay3]
  simp [grad, sgm]

/-- What the body leaves in the output's block, at an index. -/
def B (x0 : Vec Ideal S512x1024 .bf16) (x1 : Vec Ideal S1x1408x1024 .bf16) (x2 : Vec Ideal S2x1x512x1408 .f32) : Vec Ideal S2x1x512x1408 .bf16 :=
  fun j => (grad (j 0).val (∑ d : Fin 1024, (show EReal from x0 (ix2 (j 2) d)) * (show EReal from x1 (ix3 (0 : Fin 1) (j 3) d)))
    (x2 (ix4 (0 : Fin 2) (0 : Fin 1) (j 2) (j 3))) (x2 (ix4 (1 : Fin 2) (0 : Fin 1) (j 2) (j 3))) : EReal)

theorem emb_r0_2 (r : Fin 512) (t : Fin 1408) :
    r0_2.emb (ix4 (0 : Fin 1) (0 : Fin 1) r t : S1x1x512x1408.Idx) = (ix4 (0 : Fin 2) (0 : Fin 1) r t : S2x1x512x1408.Idx) := by
  funext a; apply Fin.ext
  match a with
  | ⟨0, _⟩ => rfl
  | ⟨1, _⟩ => rfl
  | ⟨2, _⟩ => show 0 + 1 * r.val = r.val; omega
  | ⟨3, _⟩ => show 0 + 1 * t.val = t.val; omega

theorem emb_r0_3 (r : Fin 512) (t : Fin 1408) :
    r0_3.emb (ix4 (0 : Fin 1) (0 : Fin 1) r t : S1x1x512x1408.Idx) = (ix4 (1 : Fin 2) (0 : Fin 1) r t : S2x1x512x1408.Idx) := by
  funext a; apply Fin.ext
  match a with
  | ⟨0, _⟩ => rfl
  | ⟨1, _⟩ => rfl
  | ⟨2, _⟩ => show 0 + 1 * r.val = r.val; omega
  | ⟨3, _⟩ => show 0 + 1 * t.val = t.val; omega

/-- Where the two loads of `gu`'s block read it. -/
theorem ld_g (x2 : Vec Ideal S2x1x512x1408 .f32) (r : Fin 512) (t : Fin 1408) :
    View.ld x2 r0_2 (ix4 (0 : Fin 1) (0 : Fin 1) r t) = x2 (ix4 (0 : Fin 2) (0 : Fin 1) r t) := congrArg x2 (emb_r0_2 r t)
theorem ld_u (x2 : Vec Ideal S2x1x512x1408 .f32) (r : Fin 512) (t : Fin 1408) :
    View.ld x2 r0_3 (ix4 (0 : Fin 1) (0 : Fin 1) r t) = x2 (ix4 (1 : Fin 2) (0 : Fin 1) r t) := congrArg x2 (emb_r0_3 r t)

theorem out_eq (x0 : Vec Ideal S512x1024 .bf16) (x1 : Vec Ideal S1x1408x1024 .bf16) (x2 : Vec Ideal S2x1x512x1408 .f32) :
    out0_3 (F := Ideal) x0 x1 x2 = B x0 x1 x2 := by
  unfold out0_3
  rw [View.ld_unit_zero hz2, View.ld_unit_zero hz3]
  funext y
  refine View.canon_apply_of_pieces (B x0 x1 x2) _ (fun p hp j => ?_) y (cover0_3 _ _ y)
  simp only [List.mem_cons, List.mem_nil_iff, or_false] at hp
  rcases hp with rfl | rfl
  · idx_vars j
    fin_cases j0; fin_cases j1
    refine (pay1_apply (k0_pay2 x0 x1) (k0_pay3 (View.ld x2 r0_2)) (View.ld x2 r0_2) rfl j2 j3).trans ?_
    rw [pay2_apply]
    exact (congrArg (fun g : EReal => grad 1 _ g 0) (ld_g x2 j2 j3)).trans (congrArg (B x0 x1 x2) (emb_r0_3 j2 j3)).symm
  · idx_vars j
    fin_cases j0; fin_cases j1
    refine (pay4_apply x0 x1 (View.ld x2 r0_2) (View.ld x2 r0_3) j2 j3).trans ?_
    rw [pay2_apply]
    exact (congrArg₂ (fun g u : EReal => grad 0 _ g u) (ld_g x2 j2 j3) (ld_u x2 j2 j3)).trans (congrArg (B x0 x1 x2) (emb_r0_2 j2 j3)).symm

variable (m : (ℓ : Loc nD τ sig) → Buf (Elt Ideal) ℓ) (ρ : Dev nD → PrngReg)

/-- The call's third operand: the four parts of `gu` as two halves of two parts. -/
theorem V_main_v0 (c : Dev nD) :
    V m c main_v0 = shapeCast S2x2x2048x1408 (m ((c : Thread nD τ).loc main_arg2)) shapeCasts_S4x2048x1408_S2x2x2048x1408 := by
  show StableHlo.after hostOps0 _ (Proc.devRef .tc main_v0) = _
  after_results
  rfl

/-- That operand at an index. -/
theorem parts_apply (x : Vec Ideal S4x2048x1408 .f32) (h p : Fin 2) (l : Fin 2048) (t : Fin 1408) :
    shapeCast S2x2x2048x1408 x shapeCasts_S4x2048x1408_S2x2x2048x1408 (ix4 h p l t) = x (ix3 (part h p) l t) := by
  refine shapeCast_apply x _ _ _ ?_
  rw [Shape.rowMajor_val_three, Shape.rowMajor_val_four]
  rfl

theorem V_main_v0_apply (c : Dev nD) (h p : Fin 2) (l : Fin 2048) (t : Fin 1408) :
    V m c main_v0 (ix4 h p l t) = m ((c : Thread nD τ).loc main_arg2) (ix3 (part h p) l t) :=
  (congrFun (V_main_v0 m c) _).trans (parts_apply _ h p l t)

/-- The point's part and token block. -/
theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, win0_1.index t (0 : Fin 3) = t.val / 4 ∧ win0_1.index t (1 : Fin 3) = 0 ∧ win0_1.index t (2 : Fin 3) = 0 :=
  (by decide +kernel : ∀ t : Fin grid0.N, _)
theorem idx2 : ∀ t : Fin cfg0.N, win0_2.index t (0 : Fin 4) = 0 ∧ win0_2.index t (1 : Fin 4) = t.val / 4 ∧ win0_2.index t (2 : Fin 4) = t.val % 4 ∧ win0_2.index t (3 : Fin 4) = 0 :=
  (by decide +kernel : ∀ t : Fin grid0.N, _)
theorem idx3 : ∀ t : Fin cfg0.N, win0_3.index t (0 : Fin 4) = 0 ∧ win0_3.index t (1 : Fin 4) = t.val / 4 ∧ win0_3.index t (2 : Fin 4) = t.val % 4 ∧ win0_3.index t (3 : Fin 4) = 0 :=
  (by decide +kernel : ∀ t : Fin grid0.N, _)

/-- The part that point `t` works on. -/
def pt (t : Fin cfg0.N) : Fin 2 := ⟨t.val / 4, by have h : t.val < 8 := t.isLt; omega⟩
/-- The token that row `r` of point `t`'s block is. -/
def tok (t : Fin cfg0.N) (r : Fin 512) : Fin 2048 := ⟨t.val % 4 * 512 + r.val, by have h := r.isLt; omega⟩

theorem iblk0 (c : Dev nD) (t : Fin cfg0.N) (r : Fin 512) (d : Fin 1024) :
    iblk m c 0 t (ix2 r d) = V m c main_arg0 (ix2 (tok t r) d) := by
  obtain ⟨e0, e1⟩ := idx0 t
  show V m c main_arg0 (((cfg0.win 0).blk t).view.emb (ix2 r d)) = _
  congr 1
  funext a; apply Fin.ext
  match a with
  | ⟨0, _⟩ => show win0_0.index t (0 : Fin 2) * 512 + 1 * r.val = t.val % 4 * 512 + r.val; omega
  | ⟨1, _⟩ => show win0_0.index t (1 : Fin 2) * 1024 + 1 * d.val = d.val; omega

theorem iblk1 (c : Dev nD) (t : Fin cfg0.N) (x : Fin 1408) (d : Fin 1024) :
    iblk m c 1 t (ix3 (0 : Fin 1) x d) = V m c main_arg1 (ix3 (pt t) x d) := by
  obtain ⟨e0, e1, e2⟩ := idx1 t
  show V m c main_arg1 (((cfg0.win 1).blk t).view.emb (ix3 (0 : Fin 1) x d)) = _
  congr 1
  funext a; apply Fin.ext
  match a with
  | ⟨0, _⟩ => show win0_1.index t (0 : Fin 3) * 1 + 1 * 0 = t.val / 4; omega
  | ⟨1, _⟩ => show win0_1.index t (1 : Fin 3) * 1408 + 1 * x.val = x.val; omega
  | ⟨2, _⟩ => show win0_1.index t (2 : Fin 3) * 1024 + 1 * d.val = d.val; omega

theorem iblk2 (c : Dev nD) (t : Fin cfg0.N) (h : Fin 2) (r : Fin 512) (x : Fin 1408) :
    iblk m c 2 t (ix4 h (0 : Fin 1) r x) = V m c main_v0 (ix4 h (pt t) (tok t r) x) := by
  obtain ⟨e0, e1, e2, e3⟩ := idx2 t
  show V m c main_v0 (((cfg0.win 2).blk t).view.emb (ix4 h (0 : Fin 1) r x)) = _
  congr 1
  funext a; apply Fin.ext
  match a with
  | ⟨0, _⟩ => show win0_2.index t (0 : Fin 4) * 2 + 1 * h.val = h.val; omega
  | ⟨1, _⟩ => show win0_2.index t (1 : Fin 4) * 1 + 1 * 0 = t.val / 4; omega
  | ⟨2, _⟩ => show win0_2.index t (2 : Fin 4) * 512 + 1 * r.val = t.val % 4 * 512 + r.val; omega
  | ⟨3, _⟩ => show win0_2.index t (3 : Fin 4) * 1408 + 1 * x.val = x.val; omega

/-- Where an index of the output's block `t` lies in the result. -/
theorem emb3 (t : Fin cfg0.N) (j : S2x1x512x1408.Idx) :
    ((cfg0.win 3).blk t).view.emb j = (ix4 (j 0) (pt t) (tok t (j 2)) (j 3) : S2x2x2048x1408.Idx) := by
  obtain ⟨e0, e1, e2, e3⟩ := idx3 t
  idx_vars j
  funext a; apply Fin.ext
  match a with
  | ⟨0, _⟩ => show win0_3.index t (0 : Fin 4) * 2 + 1 * j0.val = j0.val; omega
  | ⟨1, _⟩ => show win0_3.index t (1 : Fin 4) * 1 + 1 * (j1 : Fin 1).val = t.val / 4; omega
  | ⟨2, _⟩ => show win0_3.index t (2 : Fin 4) * 512 + 1 * j2.val = t.val % 4 * 512 + j2.val; omega
  | ⟨3, _⟩ => show win0_3.index t (3 : Fin 4) * 1408 + 1 * j3.val = j3.val; omega

/-- Each point writes back its block of `G`. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Value.flushed3]
  funext j
  show out0_3 (F := Ideal) (iblk m c 0 t) (iblk m c 1 t) (iblk m c 2 t) j
    = G (m ((c : Thread nD τ).loc main_arg0)) (m ((c : Thread nD τ).loc main_arg1)) (m ((c : Thread nD τ).loc main_arg2)) (((cfg0.win 3).blk t).view.emb j)
  rw [emb3, out_eq]
  have eg := (iblk2 m c t 0 (j 2) (j 3)).trans (V_main_v0_apply m c 0 (pt t) (tok t (j 2)) (j 3))
  have eu := (iblk2 m c t 1 (j 2) (j 3)).trans (V_main_v0_apply m c 1 (pt t) (tok t (j 2)) (j 3))
  have ed : (∑ d : Fin 1024, (show EReal from iblk m c 0 t (ix2 (j 2) d)) * (show EReal from iblk m c 1 t (ix3 (0 : Fin 1) (j 3) d)) : EReal)
      = dact (m ((c : Thread nD τ).loc main_arg0)) (m ((c : Thread nD τ).loc main_arg1)) (pt t) (tok t (j 2)) (j 3) := by
    refine Finset.sum_congr rfl fun d _ => ?_
    exact congrArg₂ (fun x y : EReal => x * y) ((iblk0 m c t (j 2) d).trans (congrFun (V_main_arg0 m c) _))
      ((iblk1 m c t (j 3) d).trans (congrFun (V_main_arg1 m c) _))
  show (grad (j 0).val _ _ _ : EReal) = grad (j 0).val _ _ _
  rw [ed]
  exact congrArg₂ (fun g u : EReal => grad (j 0).val _ g u) eg eu

/-- Every index of the result is in some point's block. -/
theorem covered (i : S2x2x2048x1408.Idx) :
    ∃ t : Fin cfg0.N, (cfg0.win 3).flush t = true ∧ i ∈ ((cfg0.win 3).blk t).view.set := by
  have h1 : (i 1).val < 2 := (i 1).isLt
  have h2 : (i 2).val < 2048 := (i 2).isLt
  obtain ⟨t, ht⟩ : ∃ t : Fin cfg0.N, t.val = (i 1).val * 4 + (i 2).val / 512 :=
    ⟨⟨(i 1).val * 4 + (i 2).val / 512, by show _ < 8; omega⟩, rfl⟩
  obtain ⟨r, hr⟩ : ∃ r : Fin 512, r.val = (i 2).val % 512 := ⟨⟨(i 2).val % 512, by omega⟩, rfl⟩
  refine ⟨t, flush0_3 _, ?_⟩
  have h := ((cfg0.win 3).blk t).view.emb_mem_set (ix4 (i 0) (0 : Fin 1) r (i 3) : S2x1x512x1408.Idx)
  have e : ((cfg0.win 3).blk t).view.emb (ix4 (i 0) (0 : Fin 1) r (i 3) : S2x1x512x1408.Idx) = i := by
    rw [emb3]
    funext a; apply Fin.ext
    match a with
    | ⟨0, _⟩ => rfl
    | ⟨1, _⟩ => show t.val / 4 = (i 1).val; omega
    | ⟨2, _⟩ => show t.val % 4 * 512 + r.val = (i 2).val; omega
    | ⟨3, _⟩ => rfl
  rw [e] at h
  exact h

/-- The run: the result is `G` of the arguments, which end unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans
      ((dats m 0 c).arrAt_eq_of_cover 3 _ (fun t _ => flushed_eq m c t) covered), (h c).2⟩) (Value.run_blocks m ρ)

end Cert.DownDxIdeal.Hand

namespace Cert.Proof

open Idealize.ShloMosaic Idealize.ShloMosaic.TcCoe Idealize.SL.Sem
open Cert.DownDxIdeal.Hand (G sgm grad dact part)

/-- Over real numbers the gate's gradient in the reference's grouping is the kernel's. -/
theorem grad_gate (da g u : ℝ) :
    (da : EReal) * u * sgm g + (g : EReal) * ((da : EReal) * u) * (sgm g * (1 - sgm g)) = grad 0 da g u := by
  unfold grad sgm
  rw [if_pos (by decide), sigmoid_coe]
  norm_cast
  ring

/-- Over real numbers the up half's gradient in the reference's grouping is the kernel's. -/
theorem grad_up (da g u : ℝ) : (g : EReal) * sgm g * da = grad 1 da g u := by
  unfold grad sgm
  rw [if_neg (by decide), sigmoid_coe]
  norm_cast
  ring

section
open Cert.DownDxRefIdeal.Read

/-- `gu` as two halves of two parts, at an index. -/
theorem v2_apply (gu : Vec Ideal Cert.DownDxIdeal.S4x2048x1408 .f32) (h p : Fin 2) (l : Fin 2048) (t : Fin 1408) :
    val_main_v2 (F := Ideal) gu (ix4 h p l t) = gu (ix3 (part h p) l t) :=
  Cert.DownDxIdeal.Hand.parts_apply gu h p l t

/-- The gate's gradient in the reference, at an index. -/
theorem v14_apply (df : Vec Ideal Cert.DownDxIdeal.S2048x1024 .bf16) (w : Vec Ideal Cert.DownDxIdeal.S2x1408x1024 .bf16)
    (gu : Vec Ideal Cert.DownDxIdeal.S4x2048x1408 .f32) (p : Fin 2) (l : Fin 2048) (t : Fin 1408) :
    val_main_v14 (F := Ideal) df w gu (ix3 p l t)
      = (dact df w p l t * gu (ix3 (part 1 p) l t) * sgm (gu (ix3 (part 0 p) l t))
        + (show EReal from gu (ix3 (part 0 p) l t)) * (dact df w p l t * gu (ix3 (part 1 p) l t)) * (sgm (gu (ix3 (part 0 p) l t)) * (1 - sgm (gu (ix3 (part 0 p) l t)))) : EReal) := by
  rw [← v2_apply gu 0, ← v2_apply gu 1]
  pointwise [val_main_v14, val_main_call1_v1, val_main_call1_v2, val_main_call1_v0, val_main_v13, val_main_v11, val_main_v10, val_main_v1, val_main_v0,
    val_main_v7_1, val_main_call0_v7, val_main_call0_v6, val_main_call0_cst_1, val_main_v7_2, val_main_call0_v4, val_main_call0_cst_0, val_main_call0_v3,
    val_main_call0_v2, val_main_call0_cst, val_main_call0_v1, val_main_call0_v0, val_main_v6, val_main_v5, val_main_v4, val_main_v3]
  rfl

/-- The up half's gradient in the reference, at an index. -/
theorem v12_apply (df : Vec Ideal Cert.DownDxIdeal.S2048x1024 .bf16) (w : Vec Ideal Cert.DownDxIdeal.S2x1408x1024 .bf16)
    (gu : Vec Ideal Cert.DownDxIdeal.S4x2048x1408 .f32) (p : Fin 2) (l : Fin 2048) (t : Fin 1408) :
    val_main_v12 (F := Ideal) df w gu (ix3 p l t)
      = ((show EReal from gu (ix3 (part 0 p) l t)) * sgm (gu (ix3 (part 0 p) l t)) * dact df w p l t : EReal) := by
  rw [← v2_apply gu 0]
  pointwise [val_main_v12, val_main_v7_0, val_main_v11, val_main_v10, val_main_v1, val_main_v0,
    val_main_v7_2, val_main_call0_v4, val_main_call0_cst_0, val_main_call0_v3,
    val_main_call0_v2, val_main_call0_cst, val_main_call0_v1, val_main_call0_v0, val_main_v4, val_main_v3]
  rfl

/-- The reference's result is the kernel's when the arguments are real numbers. -/
theorem downDx_ref (df : Cert.DownDxIdeal.S2048x1024.Idx → ℝ) (w : Cert.DownDxIdeal.S2x1408x1024.Idx → ℝ) (gu : Cert.DownDxIdeal.S4x2048x1408.Idx → ℝ) :
    val_main_v18 (F := Ideal) (fun i => (df i : EReal)) (fun i => (w i : EReal)) (fun i => (gu i : EReal))
      = G (fun i => (df i : EReal)) (fun i => (w i : EReal)) (fun i => (gu i : EReal)) := by
  funext i
  idx_vars i
  obtain ⟨da, hda⟩ : ∃ da : ℝ, dact (fun i => (df i : EReal)) (fun i => (w i : EReal)) i1 i2 i3 = (da : EReal) :=
    ⟨∑ d : Fin 1024, df (ix2 i2 d) * w (ix3 i1 i3 d), by
      rw [← coe_sum]
      exact Finset.sum_congr rfl fun d _ => (EReal.coe_mul _ _).symm⟩
  have e14 := v14_apply (fun i => (df i : EReal)) (fun i => (w i : EReal)) (fun i => (gu i : EReal)) i1 i2 i3
  have e12 := v12_apply (fun i => (df i : EReal)) (fun i => (w i : EReal)) (fun i => (gu i : EReal)) i1 i2 i3
  rw [hda] at e14 e12
  show _ = (grad i0.val (dact _ _ i1 i2 i3) _ _ : EReal)
  rw [hda]
  fin_cases i0
  · refine Eq.trans ?_ (e14.trans (grad_gate da _ _))
    pointwise [val_main_v18, val_main_v17, val_main_v15]
  · refine Eq.trans ?_ (e12.trans (grad_up da _ _))
    pointwise [val_main_v18, val_main_v17, val_main_v16]

end

open Cert.Pre_all_real in
/-- The precondition says that the three arguments hold real numbers. -/
theorem reals_of_pre (df : Vec Ideal Cert.DownDxIdeal.S2048x1024 .bf16) (w : Vec Ideal Cert.DownDxIdeal.S2x1408x1024 .bf16)
    (gu : Vec Ideal Cert.DownDxIdeal.S4x2048x1408 .f32) (h : Cert.Pre_all_real.fn (F := Ideal) df w gu = fun _ => 1#1) :
    (∃ f : Cert.DownDxIdeal.S2048x1024.Idx → ℝ, df = fun i => (f i : EReal))
      ∧ (∃ f : Cert.DownDxIdeal.S2x1408x1024.Idx → ℝ, w = fun i => (f i : EReal))
      ∧ (∃ f : Cert.DownDxIdeal.S4x2048x1408.Idx → ℝ, gu = fun i => (f i : EReal)) := by
  have h0 := congrFun h (Shape.Idx.first (by decide))
  obtain ⟨h1, h2⟩ := IntOp.andi_eq_one.1 h0
  obtain ⟨h3, h4⟩ := IntOp.andi_eq_one.1 h1
  haveI : Subsingleton S_.Idx := ⟨fun a b => funext fun x => x.elim0⟩
  exact ⟨all_real_bf16 df _ (fun _ => rfl) _ _ _ _ h3, all_real_bf16 w _ (fun _ => rfl) _ _ _ _ h4, all_real_f32 gu _ (fun _ => rfl) _ _ _ _ h2⟩

/-- The reference's result is the kernel's under the precondition. -/
theorem downDx_ref_of_pre (df : Vec Ideal Cert.DownDxIdeal.S2048x1024 .bf16) (w : Vec Ideal Cert.DownDxIdeal.S2x1408x1024 .bf16)
    (gu : Vec Ideal Cert.DownDxIdeal.S4x2048x1408 .f32) (h : Cert.Pre_all_real.fn (F := Ideal) df w gu = fun _ => 1#1) :
    Cert.DownDxRefIdeal.Read.val_main_v18 (F := Ideal) df w gu = G df w gu := by
  obtain ⟨⟨f0, rfl⟩, ⟨f1, rfl⟩, ⟨f2, rfl⟩⟩ := reals_of_pre _ _ _ h
  exact downDx_ref f0 f1 f2

/-- The kernel's call and the reference, from memories that agree on real arguments, end with equal results. -/
theorem downDx : Cert.algebraic_DownDxIdeal_DownDxRefIdeal_pre_all_real (hDownDxIdeal := Cert.DownDxIdeal.Gen.facts) (hDownDxRefIdeal := Cert.DownDxRefIdeal.Gen.facts) (hPre_all_real := Cert.Pre_all_real.Gen.facts) := by
  intro m ρ m' ρ' hpre hag
  refine ⟨fun c => G (m ((c.tc : Thread Cert.DownDxIdeal.nD Cert.DownDxIdeal.τ).loc Cert.DownDxIdeal.main_arg0)) (m ((c.tc : Thread Cert.DownDxIdeal.nD Cert.DownDxIdeal.τ).loc Cert.DownDxIdeal.main_arg1)) (m ((c.tc : Thread Cert.DownDxIdeal.nD Cert.DownDxIdeal.τ).loc Cert.DownDxIdeal.main_arg2)),
    Cert.DownDxIdeal.Hand.run m ρ, (θ_run _ _ _).mono (fun _ h c => ⟨(h c).1.trans ?_, (h c).2⟩) (Cert.DownDxRefIdeal.Value.run m' ρ')⟩
  rw [Cert.DownDxRefIdeal.Read.val_main_v18_eq, (hag c).1, (hag c).2.1, (hag c).2.2]
  exact downDx_ref_of_pre _ _ _ (hpre c)

end Cert.Proof

end
-- ==== Proof.DownDw.lean ====
/-
  Hand-written. The gradient of the FFN's `w_down`: the kernel's call and the reference end with the same array, at
  every element the sum over the tokens of `a · df`.
-/
module

public import proofs.«01_k».proof.Defs
public import proofs.«01_k».proof.Proof.Gen.DownDwIdeal.Value
public import proofs.«01_k».proof.Proof.Gen.DownDwRefIdeal.Run
public import proofs.«01_k».proof.Proof.Gen.DownDwRefIdeal.Read
public import Idealize.ShloMosaic.Lib.Pipeline.Value
public import Idealize.ShloMosaic.Lib.Pointwise

@[expose] public section

set_option maxRecDepth 16384

noncomputable section

namespace Cert.DownDwIdeal.Hand

open Cert.DownDwIdeal Cert.DownDwIdeal.Gen Idealize.ShloMosaic Idealize.ShloMosaic.TcCoe Idealize.SL.Sem
open Idealize.ShloMosaic.Pipeline (Dat)

/-- The gradient of `w_down`: at part `p`, row `t` and column `d` the sum over the tokens of `a[p, l, t] · df[l, d]`. -/
def G (a : Vec Ideal S2x2048x1408 .bf16) (df : Vec Ideal S2048x1024 .bf16) : Vec Ideal S2x1408x1024 .bf16 :=
  fun i => (∑ l : Fin 2048, (show EReal from a (ix3 (i 0) l (i 1))) * (show EReal from df (ix2 l (i 2))) : EReal)

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output's block, at an index. -/
theorem out_apply (x0 : Vec Ideal S1x2048x1408 .bf16) (x1 : Vec Ideal S2048x1024 .bf16) (j : S1x1408x1024.Idx) :
    out0_2 (F := Ideal) x0 x1 j = (∑ l : Fin 2048, (show EReal from x0 (ix3 (0 : Fin 1) l (j 1))) * (show EReal from x1 (ix2 l (j 2))) : EReal) := by
  unfold out0_2
  rw [View.canon_unit_zero hz3, View.ld_unit_zero hz3, View.ld_unit_zero hz2]
  idx_vars j
  pointwise [k0_pay1]

variable (m : (ℓ : Loc nD τ sig) → Buf (Elt Ideal) ℓ) (ρ : Dev nD → PrngReg)

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

/-- Block `t` of `a` is its part `t`. -/
theorem iblk0 (c : Dev nD) (t : Fin cfg0.N) (l : Fin 2048) (x : Fin 1408) :
    iblk m c 0 t (ix3 (0 : Fin 1) l x) = V m c main_arg0 (ix3 (⟨t.val, t.isLt⟩ : Fin 2) l x) := by
  obtain ⟨e0, e1, e2⟩ := idx0 t
  show V m c main_arg0 (((cfg0.win 0).blk t).view.emb (ix3 (0 : Fin 1) l x)) = _
  congr 1
  funext a; apply Fin.ext
  match a with
  | ⟨0, _⟩ => show win0_0.index t (0 : Fin 3) * 1 + 1 * 0 = t.val; omega
  | ⟨1, _⟩ => show win0_0.index t (1 : Fin 3) * 2048 + 1 * l.val = l.val; omega
  | ⟨2, _⟩ => show win0_0.index t (2 : Fin 3) * 1408 + 1 * x.val = x.val; omega

/-- The block of `df` is all of it. -/
theorem iblk1 (c : Dev nD) (t : Fin cfg0.N) (l : Fin 2048) (x : Fin 1024) :
    iblk m c 1 t (ix2 l x) = V m c main_arg1 (ix2 l x) := by
  obtain ⟨e0, e1⟩ := idx1 t
  show V m c main_arg1 (((cfg0.win 1).blk t).view.emb (ix2 l x)) = _
  congr 1
  funext a; apply Fin.ext
  match a with
  | ⟨0, _⟩ => show win0_1.index t (0 : Fin 2) * 2048 + 1 * l.val = l.val; omega
  | ⟨1, _⟩ => show win0_1.index t (1 : Fin 2) * 1024 + 1 * x.val = x.val; omega

/-- Where an index of the output's block `t` lies in the result. -/
theorem emb2 (t : Fin cfg0.N) (j : S1x1408x1024.Idx) :
    ((cfg0.win 2).blk t).view.emb j = (ix3 (⟨t.val, t.isLt⟩ : Fin 2) (j 1) (j 2) : S2x1408x1024.Idx) := by
  obtain ⟨e0, e1, e2⟩ := idx2 t
  idx_vars j
  funext a; apply Fin.ext
  match a with
  | ⟨0, _⟩ => show win0_2.index t (0 : Fin 3) * 1 + 1 * (j0 : Fin 1).val = t.val; omega
  | ⟨1, _⟩ => show win0_2.index t (1 : Fin 3) * 1408 + 1 * j1.val = j1.val; omega
  | ⟨2, _⟩ => show win0_2.index t (2 : Fin 3) * 1024 + 1 * j2.val = j2.val; omega

/-- Each point writes back its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2]
  funext j
  show out0_2 (F := Ideal) (iblk m c 0 t) (iblk m c 1 t) j = G (V m c main_arg0) (V m c main_arg1) (((cfg0.win 2).blk t).view.emb j)
  rw [emb2, out_apply]
  show (∑ l : Fin 2048, _ : EReal) = (∑ l : Fin 2048, _ : EReal)
  refine Finset.sum_congr rfl fun l _ => ?_
  exact congrArg₂ (fun x y : EReal => x * y) (iblk0 m c t l (j 1)) (iblk1 m c t l (j 2))

/-- Every index of the result is in some point's block. -/
theorem covered (i : S2x1408x1024.Idx) :
    ∃ t : Fin cfg0.N, (cfg0.win 2).flush t = true ∧ i ∈ ((cfg0.win 2).blk t).view.set :=
  ⟨⟨(i 0).val, (i 0).isLt⟩, flush0_2 _, by
    have h := ((cfg0.win 2).blk ⟨(i 0).val, (i 0).isLt⟩).view.emb_mem_set (ix3 (0 : Fin 1) (i 1) (i 2) : S1x1408x1024.Idx)
    rw [emb2] at h
    exact (eq_ix3 i) ▸ h⟩

/-- The run: the result is `G` of the arguments, which end unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
      ((dats m 0 c).arrAt_eq_of_cover 2 _ (fun t _ => flushed_eq m c t) covered), (h c).2⟩) (Value.run_blocks m ρ)

end Cert.DownDwIdeal.Hand

namespace Cert.Proof

open Idealize.ShloMosaic Idealize.ShloMosaic.TcCoe Idealize.SL.Sem

/-- The reference's result, at an index. -/
theorem downDw_ref (a : Vec Ideal Cert.DownDwIdeal.S2x2048x1408 .bf16) (df : Vec Ideal Cert.DownDwIdeal.S2048x1024 .bf16) :
    Cert.DownDwRefIdeal.Read.val_main_v6 (F := Ideal) a df = Cert.DownDwIdeal.Hand.G a df := by
  funext j
  rw [Cert.DownDwRefIdeal.Read.val_main_v6_apply, Cert.DownDwRefIdeal.Read.val_main_v5_apply, Cert.DownDwRefIdeal.Read.val_main_v4_apply]
  show (∑ l : Fin 2048, _ : EReal) = (∑ l : Fin 2048, _ : EReal)
  refine Finset.sum_congr rfl fun l _ => ?_
  rw [mul_comm]
  idx_vars j
  refine congrArg₂ (fun x y : EReal => x * y) (congrArg a ?_) (congrArg df ?_)
  · funext x; match x with
    | ⟨0, _⟩ => rfl
    | ⟨1, _⟩ => rfl
    | ⟨2, _⟩ => rfl
  · funext x; match x with
    | ⟨0, _⟩ => rfl
    | ⟨1, _⟩ => rfl

/-- The kernel's call and the reference, from memories that agree on the arguments, end with equal results. -/
theorem downDw : Cert.algebraic_DownDwIdeal_DownDwRefIdeal (hDownDwIdeal := Cert.DownDwIdeal.Gen.facts) (hDownDwRefIdeal := Cert.DownDwRefIdeal.Gen.facts) := by
  intro m ρ m' ρ' _ hag
  refine ⟨fun c => Cert.DownDwIdeal.Hand.G (m ((c.tc : Thread Cert.DownDwIdeal.nD Cert.DownDwIdeal.τ).loc Cert.DownDwIdeal.main_arg0)) (m ((c.tc : Thread Cert.DownDwIdeal.nD Cert.DownDwIdeal.τ).loc Cert.DownDwIdeal.main_arg1)),
    Cert.DownDwIdeal.Hand.run m ρ, (θ_run _ _ _).mono (fun _ h c => ⟨(h c).1.trans ?_, (h c).2⟩) (Cert.DownDwRefIdeal.Value.run m' ρ')⟩
  rw [Cert.DownDwRefIdeal.Read.val_main_v6_eq, (hag c).1, (hag c).2]
  exact downDw_ref _ _

end Cert.Proof

end
-- ==== Proof.Rms.lean ====
/-
  Hand-written. The root-mean-square norm over a row: its factor in the extended reals, and its gradient as the
  kernels write it and as differentiation gives it, which are equal over all extended reals. And the sums that the kernels
  take block by block.
-/
module

public import proofs.«01_k».proof.Proof.AllReal
public import Idealize.ShloMosaic.Lib.Pointwise

@[expose] public section

noncomputable section

namespace Cert.Proof

open Idealize.ShloMosaic

/-- The word of 1024. -/
theorem word_1024 : Ideal.ofBits .f32 0x44800000#32 = ((1024 : ℝ) : EReal) := by
  simp [Ideal.ofBits, Ideal.ieee]
  rw [← EReal.coe_mul]
  norm_num

/-- The word of 256. -/
theorem word_256 : Ideal.ofBits .f32 0x43800000#32 = ((256 : ℝ) : EReal) := by
  simp [Ideal.ofBits, Ideal.ieee]
  rw [← EReal.coe_mul]
  norm_num

/-- The word of -1/2. -/
theorem word_neg_half : Ideal.ofBits .f32 0xBF000000#32 = ((-(1 / 2) : ℝ) : EReal) := by
  simp [Ideal.ofBits, Ideal.ieee]
  rw [← EReal.coe_mul]
  norm_num

/-- The word of the norm's small constant is a positive number. -/
theorem word_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee]

/-- The mean of the squares of a row of any width, divided by `W`, with the small constant added. -/
def msOf {n : ℕ} (W : EReal) (x : Fin n → EReal) : EReal :=
  Ideal.div (∑ k, x k * x k) W + Ideal.ofBits .f32 0x3727C5AC#32

/-- The factor that the norm multiplies a row by. -/
def rmsOf {n : ℕ} (W : EReal) (x : Fin n → EReal) : EReal := Ideal.rsqrt (msOf W x)

/-- The gradient through that norm as the kernels write it: `dxi + r * (g - xhat * mean(g * xhat))` with `xhat = x * r`. -/
def normGradOf {n : ℕ} (W : EReal) (x g : Fin n → EReal) (dxi : EReal) (d : Fin n) : EReal :=
  dxi + rmsOf W x * (g d - x d * rmsOf W x * Ideal.div (∑ k, g k * (x k * rmsOf W x)) W)

/-- The factor of the mean of the squares in the gradient as differentiation gives it. -/
def msGradOf {n : ℕ} (W : EReal) (x g : Fin n → EReal) : EReal :=
  Ideal.div ((∑ k, x k * g k) * (Ideal.ofBits .f32 0xBF000000#32 * Ideal.div (rmsOf W x) (msOf W x))) W

/-- The mean of the squares is positive. -/
theorem msOf_pos {n : ℕ} {W : EReal} {w : ℝ} (hW : W = (w : EReal)) (hw : 0 < w) (x : Fin n → EReal) : 0 < msOf W x := by
  obtain ⟨e, he, hε⟩ := word_eps
  unfold msOf
  rw [hW, hε, Ideal.div_coe hw.ne']
  have h : (0 : EReal) ≤ (∑ k, x k * x k) * ((1 / w : ℝ) : EReal) := by
    refine mul_nonneg (Finset.sum_nonneg fun k _ => ?_) (by exact_mod_cast (by positivity : (0 : ℝ) ≤ 1 / w))
    rcases le_total 0 (x k) with h | h
    · exact mul_nonneg h h
    · exact EReal.mul_nonneg_iff.mpr (Or.inr ⟨h, h⟩)
  exact lt_of_lt_of_le (by exact_mod_cast he) (le_add_of_nonneg_left h)

/-- A positive real factor goes into a sum of extended reals. -/
theorem mul_sum_of_pos (c : ℝ) (hc : 0 ≤ c) {n : ℕ} (f : Fin n → EReal) : (c : EReal) * ∑ k, f k = ∑ k, (c : EReal) * f k := by
  classical
  induction (Finset.univ : Finset (Fin n)) using Finset.induction_on with
  | empty => simp
  | insert a s ha ih =>
    rw [Finset.sum_insert ha, Finset.sum_insert ha, EReal.left_distrib_of_nonneg_of_ne_top (by exact_mod_cast hc) (EReal.coe_ne_top c), ih]

/-- The two forms of the gradient are equal. -/
theorem norm_grad_of {n : ℕ} {W : EReal} {w : ℝ} (hW : W = (w : EReal)) (hw : 0 < w) (x g : Fin n → EReal) (dxi : EReal) (d : Fin n) :
    dxi + (g d * rmsOf W x + x d * msGradOf W x g + msGradOf W x g * x d) = normGradOf W x g dxi d := by
  have hp := msOf_pos hW hw x
  unfold normGradOf
  refine congrArg (fun y : EReal => dxi + y) ?_
  by_cases ht : msOf W x = ⊤
  · have hr : rmsOf W x = 0 := by unfold rmsOf; rw [ht]; rfl
    have hg : msGradOf W x g = 0 := by
      unfold msGradOf
      rw [hr, ht]
      have h0 : Ideal.div 0 ⊤ = 0 := by simp [Ideal.div]
      rw [h0, mul_zero, mul_zero, hW, Ideal.div_coe hw.ne', zero_mul]
    rw [hg, hr]
    simp
  · obtain ⟨s, hs, hms⟩ : ∃ s : ℝ, 0 < s ∧ msOf W x = (s : EReal) := by
      refine ⟨(msOf W x).toReal, EReal.toReal_pos hp ht, (EReal.coe_toReal ht (ne_bot_of_gt hp)).symm⟩
    have hr : rmsOf W x = (((Real.sqrt s)⁻¹ : ℝ) : EReal) := by
      unfold rmsOf
      rw [hms, Ideal.rsqrt_coe, if_neg (not_lt.mpr hs.le), if_neg hs.ne']
    obtain ⟨c, hc⟩ : ∃ c : ℝ, c = (Real.sqrt s)⁻¹ := ⟨_, rfl⟩
    have hc0 : 0 < c := by rw [hc]; exact inv_pos.mpr (Real.sqrt_pos.mpr hs)
    have hq : (1 / s) = c * c := by rw [hc, ← mul_inv, Real.mul_self_sqrt hs.le, one_div]
    obtain ⟨S, hS⟩ : ∃ S : EReal, S = ∑ k, x k * g k := ⟨_, rfl⟩
    have e1 : (∑ k, g k * (x k * (c : EReal)) : EReal) = (c : EReal) * S := by
      rw [hS, mul_sum_of_pos c hc0.le]
      refine Finset.sum_congr rfl fun k _ => ?_
      rw [← mul_assoc, mul_comm (g k), mul_comm]
    have e2 : msGradOf W x g = S * ((-(c * c * c / 2 / w) : ℝ) : EReal) := by
      unfold msGradOf
      rw [← hS, hr, hms, ← hc, hW, word_neg_half, Ideal.div_coe hs.ne', Ideal.div_coe hw.ne', hq, mul_assoc, ← EReal.coe_mul, ← EReal.coe_mul, ← EReal.coe_mul]
      congr 2
      ring
    rw [hr, ← hc, e1, e2, hW, Ideal.div_coe hw.ne']
    obtain ⟨Z, hZ⟩ : ∃ Z : EReal, Z = x d * S := ⟨_, rfl⟩
    have l1 : x d * (S * ((-(c * c * c / 2 / w) : ℝ) : EReal)) = Z * ((-(c * c * c / 2 / w) : ℝ) : EReal) := by
      rw [hZ]
      exact (mul_assoc _ _ _).symm
    have l2 : S * ((-(c * c * c / 2 / w) : ℝ) : EReal) * x d = Z * ((-(c * c * c / 2 / w) : ℝ) : EReal) := by rw [mul_comm, l1]
    have l3 : x d * (c : EReal) * ((c : EReal) * S * ((1 / w : ℝ) : EReal)) = Z * ((c * c * (1 / w) : ℝ) : EReal) := by
      rw [hZ, EReal.coe_mul, EReal.coe_mul]
      ac_rfl
    rw [l1, l2, l3, sub_eq_add_neg, EReal.left_distrib_of_nonneg_of_ne_top (by exact_mod_cast hc0.le) (EReal.coe_ne_top c), mul_comm (g d), add_assoc]
    refine congrArg (fun y : EReal => (c : EReal) * g d + y) ?_
    have two : ∀ y : EReal, y + y = y * ((2 : ℝ) : EReal) := fun y => by
      have h := EReal.right_distrib_of_nonneg (a := 1) (b := 1) (c := y) zero_le_one zero_le_one
      rw [one_mul] at h
      rw [← h, mul_comm]
      congr 1
      rw [← EReal.coe_one, ← EReal.coe_add]
      norm_num
    rw [two, ← mul_neg, ← EReal.coe_neg, mul_assoc Z, ← EReal.coe_mul, mul_comm (c : EReal), mul_assoc Z, ← EReal.coe_mul]
    congr 2
    ring

/-- Over real numbers the gradient through the norm is a real number. -/
theorem normGradOf_real {n : ℕ} {W : EReal} {w : ℝ} (hW : W = (w : EReal)) (hw : 0 < w) (x g : Fin n → EReal) (d : Fin n)
    (hx : ∀ k, ∃ r : ℝ, x k = (r : EReal)) (hg : ∀ k, ∃ r : ℝ, g k = (r : EReal)) : ∃ r : ℝ, normGradOf W x g 0 d = (r : EReal) := by
  obtain ⟨e, _, hε⟩ := word_eps
  have hm : ∃ r : ℝ, msOf W x = (r : EReal) := by
    unfold msOf
    rw [hW]
    exact real_add (real_div (real_sum _ _ fun k => real_mul (hx k) (hx k)) hw.ne') ⟨e, hε⟩
  have hr : ∃ r : ℝ, rmsOf W x = (r : EReal) := by
    obtain ⟨s, hs⟩ := hm
    have hp := msOf_pos hW hw x
    rw [hs] at hp
    have hp' : 0 < s := by exact_mod_cast hp
    refine ⟨(Real.sqrt s)⁻¹, ?_⟩
    unfold rmsOf
    rw [hs, Ideal.rsqrt_coe, if_neg (not_lt.mpr hp'.le), if_neg hp'.ne']
  unfold normGradOf
  refine real_add ⟨0, rfl⟩ (real_mul hr (real_sub (hg d) (real_mul (real_mul (hx d) hr) ?_)))
  rw [show Ideal.div (∑ k, g k * (x k * rmsOf W x)) W = Ideal.div (∑ k, g k * (x k * rmsOf W x)) (w : EReal) from congrArg _ hW]
  exact real_div (real_sum _ _ fun k => real_mul (hg k) (real_mul (hx k) hr)) hw.ne'

/-- The mean of the squares of a row of 1024 columns, with the small constant added. -/
def ms (x : Fin 1024 → EReal) : EReal :=
  Ideal.div (∑ k, x k * x k) (Ideal.ofBits .f32 0x44800000#32) + Ideal.ofBits .f32 0x3727C5AC#32

/-- The factor that the norm multiplies a row by. -/
def rms (x : Fin 1024 → EReal) : EReal := Ideal.rsqrt (ms x)

/-- The gradient through the norm as the kernels write it: `dxi + r * (g - xhat * mean(g * xhat))` with `xhat = x * r`. -/
def normGrad (x g : Fin 1024 → EReal) (dxi : EReal) (d : Fin 1024) : EReal :=
  dxi + rms x * (g d - x d * rms x * Ideal.div (∑ k, g k * (x k * rms x)) (Ideal.ofBits .f32 0x44800000#32))

/-- The factor of the mean of the squares in the gradient as differentiation gives it. -/
def msGrad (x g : Fin 1024 → EReal) : EReal :=
  Ideal.div ((∑ k, x k * g k) * (Ideal.ofBits .f32 0xBF000000#32 * Ideal.div (rms x) (ms x))) (Ideal.ofBits .f32 0x44800000#32)

/-- The two forms of the gradient over 1024 columns are equal. -/
theorem norm_grad (x g : Fin 1024 → EReal) (dxi : EReal) (d : Fin 1024) :
    dxi + (g d * rms x + x d * msGrad x g + msGrad x g * x d) = normGrad x g dxi d :=
  norm_grad_of word_1024 (by norm_num) x g dxi d

/-- An accumulator that starts at a fourth's first point and takes a term at each point holds after the fourth the sum of its terms. -/
theorem acc_total (A P : (n : ℕ) → n < 16 → EReal) (h0 : ∀ n h, n % 4 = 0 → A n h = P n h)
    (hs : ∀ n (h : n + 1 < 16), (n + 1) % 4 ≠ 0 → A (n + 1) h = A n (Nat.lt_of_succ_lt h) + P (n + 1) h) (i : ℕ) (hi : 4 * i + 3 < 16) :
    A (4 * i + 3) hi = P (4 * i) (by omega) + P (4 * i + 1) (by omega) + P (4 * i + 2) (by omega) + P (4 * i + 3) hi := by
  rw [hs (4 * i + 2) hi (by omega), hs (4 * i + 1) (by omega) (by omega), hs (4 * i) (by omega) (by omega), h0 (4 * i) (by omega) (by omega)]

/-- A row that starts at zero and takes a term at each fourth's last point ends at the sum of the terms. -/
theorem rows_total (R : (n : ℕ) → n < 16 → EReal) (S : Fin 4 → EReal) (h0 : R 0 (by omega) = 0)
    (hk : ∀ n (h : n + 1 < 16), (n + 1) % 4 ≠ 3 → R (n + 1) h = R n (Nat.lt_of_succ_lt h))
    (hs : ∀ n (h : n + 1 < 16), (n + 1) % 4 = 3 → R (n + 1) h = R n (Nat.lt_of_succ_lt h) + S ⟨(n + 1) / 4, by omega⟩) :
    R 15 (by omega) = S 0 + S 1 + S 2 + S 3 := by
  rw [hs 14 (by omega) (by omega), hk 13 (by omega) (by omega), hk 12 (by omega) (by omega), hk 11 (by omega) (by omega),
    hs 10 (by omega) (by omega), hk 9 (by omega) (by omega), hk 8 (by omega) (by omega), hk 7 (by omega) (by omega),
    hs 6 (by omega) (by omega), hk 5 (by omega) (by omega), hk 4 (by omega) (by omega), hk 3 (by omega) (by omega),
    hs 2 (by omega) (by omega), hk 1 (by omega) (by omega), hk 0 (by omega) (by omega), h0, zero_add]
  rfl

/-- A row that takes a term at each of four points ends at the sum of the terms. -/
theorem rows4 (R : (n : ℕ) → n < 4 → EReal) (S : Fin 4 → EReal) (h0 : R 0 (by omega) = S 0)
    (hs : ∀ n (h : n + 1 < 4), R (n + 1) h = R n (Nat.lt_of_succ_lt h) + S ⟨n + 1, h⟩) :
    R 3 (by omega) = S 0 + S 1 + S 2 + S 3 := by
  rw [hs 2 (by omega), hs 1 (by omega), hs 0 (by omega), h0]
  rfl

/-- A finite factor that isn't negative goes into a sum of four. -/
theorem mul_sum4 {s : EReal} (h0 : 0 ≤ s) (h1 : s ≠ ⊤) (a b c d : EReal) : s * (a + b + c + d) = s * a + s * b + s * c + s * d := by
  rw [EReal.left_distrib_of_nonneg_of_ne_top h0 h1, EReal.left_distrib_of_nonneg_of_ne_top h0 h1, EReal.left_distrib_of_nonneg_of_ne_top h0 h1]

/-- The word of 1/2. -/
theorem word_half : Ideal.ofBits .f32 0x3F000000#32 = ((1 / 2 : ℝ) : EReal) := by
  simp [Ideal.ofBits, Ideal.ieee]
  rw [← EReal.coe_mul]
  norm_num

/-- The word of 1. -/
theorem word_one : Ideal.ofBits .f32 0x3F800000#32 = (1 : EReal) := by
  refine Eq.trans (b := ((1 : ℝ) : EReal)) ?_ rfl
  simp [Ideal.ofBits, Ideal.ieee]
  rw [← EReal.coe_mul]
  norm_num

/-- The token that row `r` of block `i` is. -/
def blockRow (i : Fin 4) (r : Fin 512) : Fin 2048 := ⟨i.val * 512 + r.val, by omega⟩

/-- A sum over the tokens is the sum of the four blocks' sums. -/
theorem sum_tokens (f : Fin 2048 → EReal) :
    (∑ l, f l) = (∑ r, f (blockRow 0 r)) + (∑ r, f (blockRow 1 r)) + (∑ r, f (blockRow 2 r)) + ∑ r, f (blockRow 3 r) := by
  rw [Fin.sum_univ_tiles 4 512 (by norm_num) f, Fin.sum_univ_four]
  rfl

end Cert.Proof

end
-- ==== Proof.GateBwd.lean ====
/-
  Hand-written. The gradients of the FFN's residual `x + 0.5 * gate * (f + bias)`: the kernel's call and the reference end with the same three arrays, the gradients of
  the sub-layer's result, of the gate and of the result's bias.
-/
module

public import proofs.«01_k».proof.Defs
public import proofs.«01_k».proof.Proof.Gen.GateBwdIdeal.Value
public import proofs.«01_k».proof.Proof.Gen.GateBwdRefIdeal.Run
public import proofs.«01_k».proof.Proof.Gen.GateBwdRefIdeal.Read
public import proofs.«01_k».proof.Proof.Rms
public import Idealize.ShloMosaic.Lib.Pipeline.Value
public import Idealize.ShloMosaic.Lib.Pipeline.ValueKit
public import Idealize.ShloMosaic.Lib.Pointwise

@[expose] public section

set_option maxRecDepth 16384

noncomputable section

namespace Cert.GateBwdIdeal.Hand

open Cert.GateBwdIdeal Cert.GateBwdIdeal.Gen Idealize.ShloMosaic Idealize.ShloMosaic.TcCoe Idealize.SL.Sem
open Idealize.ShloMosaic.Pipeline (Dat)
open Cert.Proof (rows4 blockRow sum_tokens mul_sum4)

/-- The residual's factor. -/
def scale : EReal := Ideal.ofBits .f32 0x3F000000#32

theorem scale_nonneg : 0 ≤ scale := by
  unfold scale; rw [Cert.Proof.word_half]; exact_mod_cast (by norm_num : (0 : ℝ) ≤ 1 / 2)

theorem scale_ne_top : scale ≠ ⊤ := by
  unfold scale; rw [Cert.Proof.word_half]; exact EReal.coe_ne_top _

/-! ## The payloads at an index -/

theorem pay3_apply (dx : Vec Ideal S512x1024 .f32) (g : Vec Ideal S1x1024 .f32) (r : Fin 512) (d : Fin 1024) :
    k0_pay3 (F := Ideal) dx g (ix2 r d) = (scale * (show EReal from g (ix2 (0 : Fin 1) d)) * (show EReal from dx (ix2 r d)) : EReal) := by
  unfold scale
  pointwise [k0_pay3]

theorem pay4_apply (dx : Vec Ideal S512x1024 .f32) (g : Vec Ideal S1x1024 .f32) (r : Fin 512) (d : Fin 1024) :
    k0_pay4 (F := Ideal) dx g (ix2 r d) = (scale * (show EReal from g (ix2 (0 : Fin 1) d)) * (show EReal from dx (ix2 r d)) : EReal) :=
  pay3_apply dx g r d

theorem pay5_apply (dx : Vec Ideal S512x1024 .f32) (g w : Vec Ideal S1x1024 .f32) (d : Fin 1024) :
    k0_pay5 (F := Ideal) dx g w (ix2 (0 : Fin 1) d)
      = ((show EReal from w (ix2 (0 : Fin 1) d)) + ∑ r : Fin 512, scale * (show EReal from g (ix2 (0 : Fin 1) d)) * (show EReal from dx (ix2 r d)) : EReal) := by
  refine Eq.trans (b := ((show EReal from w (ix2 (0 : Fin 1) d)) + ∑ r : Fin 512, (show EReal from k0_pay3 (F := Ideal) dx g (ix2 r d)) : EReal)) ?_
    (congrArg (fun y : EReal => _ + y) (Finset.sum_congr rfl fun r _ => pay3_apply dx g r d))
  unfold k0_pay5
  generalize k0_pay3 (F := Ideal) dx g = v
  pointwise []

theorem pay6_apply (dx : Vec Ideal S512x1024 .f32) (w : Vec Ideal S1x1024 .f32) (f : Vec Ideal S512x1024 .f32) (d : Fin 1024) :
    k0_pay6 (F := Ideal) dx w f (ix2 (0 : Fin 1) d)
      = ((show EReal from w (ix2 (0 : Fin 1) d)) + scale * ∑ r : Fin 512, (show EReal from f (ix2 r d)) * (show EReal from dx (ix2 r d)) : EReal) := by
  unfold scale
  pointwise [k0_pay6]

theorem pay1_apply (d : Fin 1024) : k0_pay1 (F := Ideal) (ix2 (0 : Fin 1) d) = (0 : EReal) := by
  pointwise [k0_pay1]

theorem pay2_apply (d : Fin 1024) : k0_pay2 (F := Ideal) (ix2 (0 : Fin 1) d) = (0 : EReal) := by
  pointwise [k0_pay2]

variable (m : (ℓ : Loc nD τ sig) → Buf (Elt Ideal) ℓ) (ρ : Dev nD → PrngReg)

/-! ## What each point leaves -/

/-- What the point before left. -/
abbrev before (c : Dev nD) (t : Fin cfg0.N) := outsAt0 m c (t.val - 1) (Nat.lt_of_le_of_lt (Nat.sub_le _ _) t.isLt)

/-- What a point leaves in the block of the sub-layer's gradient. -/
theorem tile3 (c : Dev nD) (t : Fin cfg0.N) :
    (outsAt0 m c t.val t.isLt).1 = k0_pay4 (F := Ideal) (iblk m c 1 t) (iblk m c 2 t) := by
  by_cases h0 : t.val % 4 = 0
  · rw [outsAt0_A m c t h0]
    frame_out
  · rw [outsAt0_B m c t h0]
    frame_out

/-- What the first point leaves in the two rows. -/
theorem rows_first (c : Dev nD) (t : Fin cfg0.N) (h : t.val % 4 = 0) :
    (outsAt0 m c t.val t.isLt).2.1 = k0_pay6 (F := Ideal) (iblk m c 1 t) (k0_pay1 (F := Ideal)) (iblk m c 0 t)
      ∧ (outsAt0 m c t.val t.isLt).2.2 = k0_pay5 (F := Ideal) (iblk m c 1 t) (iblk m c 2 t) (k0_pay2 (F := Ideal)) := by
  rw [outsAt0_A m c t h]
  refine ⟨?_, ?_⟩ <;> frame_out

/-- What another point leaves there. -/
theorem rows_next (c : Dev nD) (t : Fin cfg0.N) (h : ¬t.val % 4 = 0) :
    (outsAt0 m c t.val t.isLt).2.1 = k0_pay6 (F := Ideal) (iblk m c 1 t) (before m c t).2.1 (iblk m c 0 t)
      ∧ (outsAt0 m c t.val t.isLt).2.2 = k0_pay5 (F := Ideal) (iblk m c 1 t) (iblk m c 2 t) (before m c t).2.2 := by
  rw [outsAt0_B m c t h]
  refine ⟨?_, ?_⟩ <;> frame_out

/-! ## The blocks the points work on -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

/-- The block of tokens that point `t` works on. -/
def blkOf (t : Fin cfg0.N) : Fin 4 := ⟨t.val, t.isLt⟩

theorem iblk0 (c : Dev nD) (t : Fin cfg0.N) (r : Fin 512) (d : Fin 1024) :
    iblk m c 0 t (ix2 r d) = m ((c : Thread nD τ).loc main_arg0) (ix2 (blockRow (blkOf t) r) d) := by
  obtain ⟨e0, e1⟩ := idx0 t
  show V m c main_arg0 (((cfg0.win 0).blk t).view.emb (ix2 r d)) = _
  refine Eq.trans ?_ (congrFun (V_main_arg0 m c) _)
  congr 1
  funext a; apply Fin.ext
  match a with
  | ⟨0, _⟩ => show win0_0.index t (0 : Fin 2) * 512 + 1 * r.val = t.val * 512 + r.val; omega
  | ⟨1, _⟩ => show win0_0.index t (1 : Fin 2) * 1024 + 1 * d.val = d.val; omega

theorem iblk1 (c : Dev nD) (t : Fin cfg0.N) (r : Fin 512) (d : Fin 1024) :
    iblk m c 1 t (ix2 r d) = m ((c : Thread nD τ).loc main_arg1) (ix2 (blockRow (blkOf t) r) d) := by
  obtain ⟨e0, e1⟩ := idx1 t
  show V m c main_arg1 (((cfg0.win 1).blk t).view.emb (ix2 r d)) = _
  refine Eq.trans ?_ (congrFun (V_main_arg1 m c) _)
  congr 1
  funext a; apply Fin.ext
  match a with
  | ⟨0, _⟩ => show win0_1.index t (0 : Fin 2) * 512 + 1 * r.val = t.val * 512 + r.val; omega
  | ⟨1, _⟩ => show win0_1.index t (1 : Fin 2) * 1024 + 1 * d.val = d.val; omega

theorem iblk2 (c : Dev nD) (t : Fin cfg0.N) (d : Fin 1024) :
    iblk m c 2 t (ix2 (0 : Fin 1) d) = m ((c : Thread nD τ).loc main_arg2) (ix2 (0 : Fin 1) d) := by
  obtain ⟨e0, e1⟩ := idx2 t
  show V m c main_arg2 (((cfg0.win 2).blk t).view.emb (ix2 (0 : Fin 1) d)) = _
  refine Eq.trans ?_ (congrFun (V_main_arg2 m c) _)
  congr 1
  funext a; apply Fin.ext
  match a with
  | ⟨0, _⟩ => show win0_2.index t (0 : Fin 2) * 1 + 1 * 0 = 0; omega
  | ⟨1, _⟩ => show win0_2.index t (1 : Fin 2) * 1024 + 1 * d.val = d.val; omega

/-- Where an index of an output's block lies in the result. -/
theorem emb3 (t : Fin cfg0.N) (j : S512x1024.Idx) :
    ((cfg0.win 3).blk t).view.emb j = (ix2 (blockRow (blkOf t) (j 0)) (j 1) : S2048x1024.Idx) := by
  obtain ⟨e0, e1⟩ := idx3 t
  idx_vars j
  funext a; apply Fin.ext
  match a with
  | ⟨0, _⟩ => show win0_3.index t (0 : Fin 2) * 512 + 1 * j0.val = t.val * 512 + j0.val; omega
  | ⟨1, _⟩ => show win0_3.index t (1 : Fin 2) * 1024 + 1 * j1.val = j1.val; omega

theorem emb4 (t : Fin cfg0.N) (j : S1x1024.Idx) : ((cfg0.win 4).blk t).view.emb j = (j : S1x1024.Idx) := by
  obtain ⟨e0, e1⟩ := idx4 t
  idx_vars j
  funext a; apply Fin.ext
  match a with
  | ⟨0, _⟩ => show win0_4.index t (0 : Fin 2) * 1 + 1 * j0.val = j0.val; omega
  | ⟨1, _⟩ => show win0_4.index t (1 : Fin 2) * 1024 + 1 * j1.val = j1.val; omega

theorem emb5 (t : Fin cfg0.N) (j : S1x1024.Idx) : ((cfg0.win 5).blk t).view.emb j = (j : S1x1024.Idx) := by
  obtain ⟨e0, e1⟩ := idx5 t
  idx_vars j
  funext a; apply Fin.ext
  match a with
  | ⟨0, _⟩ => show win0_5.index t (0 : Fin 2) * 1 + 1 * j0.val = j0.val; omega
  | ⟨1, _⟩ => show win0_5.index t (1 : Fin 2) * 1024 + 1 * j1.val = j1.val; omega

/-! ## The results -/

/-- The gradient of the sub-layer's result. -/
def Df (dx : Vec Ideal S2048x1024 .f32) (g : Vec Ideal S1x1024 .f32) : Vec Ideal S2048x1024 .bf16 :=
  fun i => (scale * (show EReal from g (ix2 (0 : Fin 1) (i 1))) * (show EReal from dx (ix2 (i 0) (i 1))) : EReal)

/-- The gradient of the gate. -/
def Dg (f dx : Vec Ideal S2048x1024 .f32) : Vec Ideal S1x1024 .f32 :=
  fun i => (scale * ∑ l : Fin 2048, (show EReal from f (ix2 l (i 1))) * (show EReal from dx (ix2 l (i 1))) : EReal)

/-- The gradient of the bias: the sum of the first over the tokens. -/
def Db (dx : Vec Ideal S2048x1024 .f32) (g : Vec Ideal S1x1024 .f32) : Vec Ideal S1x1024 .f32 :=
  fun i => (∑ l : Fin 2048, scale * (show EReal from g (ix2 (0 : Fin 1) (i 1))) * (show EReal from dx (ix2 l (i 1))) : EReal)

/-- Each point writes back its block of the sub-layer's gradient. -/
theorem flushed_Df (c : Dev nD) (t : Fin cfg0.N) :
    (dats m 0 c).flushed 3 t = ((cfg0.win 3).blk t).view.read (Elt Ideal) (Df (m ((c : Thread nD τ).loc main_arg1)) (m ((c : Thread nD τ).loc main_arg2))) := by
  rw [Value.flushed3]
  funext j
  show (outsAt0 m c t.val t.isLt).1 j = Df _ _ (((cfg0.win 3).blk t).view.emb j)
  rw [emb3, tile3]
  idx_vars j
  rw [pay4_apply]
  exact congrArg₂ (fun x y : EReal => scale * x * y) (iblk2 m c t j1) (iblk1 m c t j0 j1)

/-- The grid's last point. -/
abbrev lastPt : Fin cfg0.N := ⟨3, by show 3 < 4; omega⟩

theorem last_point (t : Fin cfg0.N) (h : t.val % 4 = 3) : t = lastPt :=
  Fin.ext (by have h' : t.val < 4 := t.isLt; show t.val = 3; omega)

/-- What is written back of the gate's gradient. -/
theorem flushed_Dg (c : Dev nD) (t : Fin cfg0.N) (hf : (cfg0.win 4).flush t = true) :
    (dats m 0 c).flushed 4 t = ((cfg0.win 4).blk t).view.read (Elt Ideal) (Dg (m ((c : Thread nD τ).loc main_arg0)) (m ((c : Thread nD τ).loc main_arg1))) := by
  obtain rfl := last_point t ((flush0_4 t).mp hf)
  rw [Value.flushed4]
  funext j
  refine Eq.trans (b := Dg (m ((c : Thread nD τ).loc main_arg0)) (m ((c : Thread nD τ).loc main_arg1)) j) ?_ (congrArg (Dg (m ((c : Thread nD τ).loc main_arg0)) (m ((c : Thread nD τ).loc main_arg1))) (emb4 lastPt j).symm)
  idx_vars j
  fin_cases j0
  have step : ∀ (w : Vec Ideal S1x1024 .f32) (n : ℕ) (hn : n < cfg0.N), k0_pay6 (F := Ideal) (iblk m c 1 ⟨n, hn⟩) w (iblk m c 0 ⟨n, hn⟩) (ix2 (0 : Fin 1) j1)
      = ((show EReal from w (ix2 (0 : Fin 1) j1)) + scale * ∑ r : Fin 512, (show EReal from m ((c : Thread nD τ).loc main_arg0) (ix2 (blockRow (blkOf ⟨n, hn⟩) r) j1)) * (show EReal from m ((c : Thread nD τ).loc main_arg1) (ix2 (blockRow (blkOf ⟨n, hn⟩) r) j1)) : EReal) := fun w n hn =>
    (pay6_apply _ _ _ j1).trans (congrArg (fun y : EReal => _ + scale * y) (Finset.sum_congr rfl fun r _ =>
      congrArg₂ (fun x y : EReal => x * y) (iblk0 m c ⟨n, hn⟩ r j1) (iblk1 m c ⟨n, hn⟩ r j1)))
  refine (rows4 (fun n hn => ((outsAt0 m c n hn).2.1 (ix2 (0 : Fin 1) j1) : EReal))
    (fun i => scale * ∑ r : Fin 512, (show EReal from m ((c : Thread nD τ).loc main_arg0) (ix2 (blockRow i r) j1)) * (show EReal from m ((c : Thread nD τ).loc main_arg1) (ix2 (blockRow i r) j1))) ?_ (fun n hn => ?_)).trans ?_
  · refine (congrFun (rows_first m c ⟨0, by show 0 < 4; omega⟩ rfl).1 (ix2 (0 : Fin 1) j1)).trans ((step _ 0 _).trans ?_)
    rw [pay1_apply]
    exact zero_add _
  · exact (congrFun (rows_next m c ⟨n + 1, hn⟩ (by show ¬(n + 1) % 4 = 0; omega)).1 (ix2 (0 : Fin 1) j1)).trans (step _ (n + 1) hn)
  · rw [← mul_sum4 scale_nonneg scale_ne_top]
    exact congrArg (fun y : EReal => scale * y) (sum_tokens (fun l => (show EReal from m ((c : Thread nD τ).loc main_arg0) (ix2 l j1)) * (show EReal from m ((c : Thread nD τ).loc main_arg1) (ix2 l j1)))).symm

/-- What is written back of the bias's gradient. -/
theorem flushed_Db (c : Dev nD) (t : Fin cfg0.N) (hf : (cfg0.win 5).flush t = true) :
    (dats m 0 c).flushed 5 t = ((cfg0.win 5).blk t).view.read (Elt Ideal) (Db (m ((c : Thread nD τ).loc main_arg1)) (m ((c : Thread nD τ).loc main_arg2))) := by
  obtain rfl := last_point t ((flush0_5 t).mp hf)
  rw [Value.flushed5]
  funext j
  refine Eq.trans (b := Db (m ((c : Thread nD τ).loc main_arg1)) (m ((c : Thread nD τ).loc main_arg2)) j) ?_ (congrArg (Db (m ((c : Thread nD τ).loc main_arg1)) (m ((c : Thread nD τ).loc main_arg2))) (emb5 lastPt j).symm)
  idx_vars j
  fin_cases j0
  have step : ∀ (w : Vec Ideal S1x1024 .f32) (n : ℕ) (hn : n < cfg0.N), k0_pay5 (F := Ideal) (iblk m c 1 ⟨n, hn⟩) (iblk m c 2 ⟨n, hn⟩) w (ix2 (0 : Fin 1) j1)
      = ((show EReal from w (ix2 (0 : Fin 1) j1)) + ∑ r : Fin 512, scale * (show EReal from m ((c : Thread nD τ).loc main_arg2) (ix2 (0 : Fin 1) j1)) * (show EReal from m ((c : Thread nD τ).loc main_arg1) (ix2 (blockRow (blkOf ⟨n, hn⟩) r) j1)) : EReal) := fun w n hn =>
    (pay5_apply _ _ _ j1).trans (congrArg (fun y : EReal => _ + y) (Finset.sum_congr rfl fun r _ =>
      congrArg₂ (fun x y : EReal => scale * x * y) (iblk2 m c ⟨n, hn⟩ j1) (iblk1 m c ⟨n, hn⟩ r j1)))
  refine (rows4 (fun n hn => ((outsAt0 m c n hn).2.2 (ix2 (0 : Fin 1) j1) : EReal))
    (fun i => ∑ r : Fin 512, scale * (show EReal from m ((c : Thread nD τ).loc main_arg2) (ix2 (0 : Fin 1) j1)) * (show EReal from m ((c : Thread nD τ).loc main_arg1) (ix2 (blockRow i r) j1))) ?_ (fun n hn => ?_)).trans ?_
  · refine (congrFun (rows_first m c ⟨0, by show 0 < 4; omega⟩ rfl).2 (ix2 (0 : Fin 1) j1)).trans ((step _ 0 _).trans ?_)
    rw [pay2_apply]
    exact zero_add _
  · exact (congrFun (rows_next m c ⟨n + 1, hn⟩ (by show ¬(n + 1) % 4 = 0; omega)).2 (ix2 (0 : Fin 1) j1)).trans (step _ (n + 1) hn)
  · exact (sum_tokens (fun l => scale * (show EReal from m ((c : Thread nD τ).loc main_arg2) (ix2 (0 : Fin 1) j1)) * (show EReal from m ((c : Thread nD τ).loc main_arg1) (ix2 l j1)))).symm

/-- Every index of a result is in some point's block. -/
theorem covered3 (i : S2048x1024.Idx) :
    ∃ t : Fin cfg0.N, (cfg0.win 3).flush t = true ∧ i ∈ ((cfg0.win 3).blk t).view.set := by
  have h0 : (i 0).val < 2048 := (i 0).isLt
  obtain ⟨t, ht⟩ : ∃ t : Fin cfg0.N, t.val = (i 0).val / 512 := ⟨⟨(i 0).val / 512, by show _ < 4; omega⟩, rfl⟩
  obtain ⟨r, hr⟩ : ∃ r : Fin 512, r.val = (i 0).val % 512 := ⟨⟨(i 0).val % 512, by omega⟩, rfl⟩
  refine ⟨t, flush0_3 t, ?_⟩
  have h := ((cfg0.win 3).blk t).view.emb_mem_set (ix2 r (i 1) : S512x1024.Idx)
  have e : ((cfg0.win 3).blk t).view.emb (ix2 r (i 1) : S512x1024.Idx) = i := by
    rw [emb3]
    funext a; apply Fin.ext
    match a with
    | ⟨0, _⟩ => show t.val * 512 + r.val = (i 0).val; omega
    | ⟨1, _⟩ => rfl
  rw [e] at h
  exact h

theorem covered4 (i : S1x1024.Idx) : ∃ t : Fin cfg0.N, (cfg0.win 4).flush t = true ∧ i ∈ ((cfg0.win 4).blk t).view.set := by
  refine ⟨lastPt, (flush0_4 _).mpr rfl, ?_⟩
  have h := ((cfg0.win 4).blk lastPt).view.emb_mem_set i
  rw [emb4] at h
  exact h

theorem covered5 (i : S1x1024.Idx) : ∃ t : Fin cfg0.N, (cfg0.win 5).flush t = true ∧ i ∈ ((cfg0.win 5).blk t).view.set := by
  refine ⟨lastPt, (flush0_5 _).mpr rfl, ?_⟩
  have h := ((cfg0.win 5).blk lastPt).view.emb_mem_set i
  rw [emb5] at h
  exact h

/-- The run: the three results are the gradients of the arguments, which end unchanged. -/
theorem run : θ_run defs (onTc (τ := τ) (main (F := Ideal))) ⟨m, fun _ => 0, ρ⟩ fun r => ∀ c : Dev nD,
      r.2.mem ((c : Thread nD τ).loc main_v0_0) = Df (m ((c : Thread nD τ).loc main_arg1)) (m ((c : Thread nD τ).loc main_arg2))
      ∧ r.2.mem ((c : Thread nD τ).loc main_v0_1) = Dg (m ((c : Thread nD τ).loc main_arg0)) (m ((c : Thread nD τ).loc main_arg1))
      ∧ r.2.mem ((c : Thread nD τ).loc main_v0_2) = Db (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨
      (h c).1.trans ((dats m 0 c).arrAt_eq_of_cover 3 _ (fun t _ => flushed_Df m c t) covered3),
      (h c).2.1.trans ((dats m 0 c).arrAt_eq_of_cover 4 _ (fun t hf => flushed_Dg m c t hf) covered4),
      (h c).2.2.1.trans ((dats m 0 c).arrAt_eq_of_cover 5 _ (fun t hf => flushed_Db m c t hf) covered5), (h c).2.2.2⟩) (Value.run_blocks m ρ)

end Cert.GateBwdIdeal.Hand

namespace Cert.Proof

open Idealize.ShloMosaic Idealize.ShloMosaic.TcCoe Idealize.SL.Sem
open Cert.GateBwdIdeal.Hand (Df Dg Db scale)
open Cert.GateBwdRefIdeal.Read

/-- The sub-layer's gradient in the reference. -/
theorem gateBwd_df (dx : Vec Ideal Cert.GateBwdIdeal.S2048x1024 .f32) (g : Vec Ideal Cert.GateBwdIdeal.S1x1024 .f32) :
    val_main_v16 (F := Ideal) dx g = Df dx g := by
  funext j
  idx_vars j
  show _ = (scale * (show EReal from g (ix2 (0 : Fin 1) j1)) * (show EReal from dx (ix2 j0 j1)) : EReal)
  unfold scale
  pointwise [val_main_v16, val_main_v8, val_main_v7, val_main_v2, val_main_v1, val_main_cst_0]

/-- The gate's gradient in the reference. -/
theorem gateBwd_dg (f dx : Vec Ideal Cert.GateBwdIdeal.S2048x1024 .f32) : val_main_v15 (F := Ideal) f dx = Dg f dx := by
  funext j
  idx_vars j
  fin_cases j0
  refine Eq.trans (b := (scale * ∑ l : Fin 2048, (show EReal from dx (ix2 l j1)) * (show EReal from f (ix2 l j1)) : EReal)) ?_
    (congrArg (fun y : EReal => scale * y) (Finset.sum_congr rfl fun l _ => mul_comm _ _))
  unfold scale
  pointwise [val_main_v15, val_main_v14, val_main_cst_3, val_main_v11, val_main_v10, val_main_cst_1, val_main_v9, val_main_v4, val_main_v3, val_main_v0, val_main_cst]

/-- The bias's gradient in the reference. -/
theorem gateBwd_db (dx : Vec Ideal Cert.GateBwdIdeal.S2048x1024 .f32) (g : Vec Ideal Cert.GateBwdIdeal.S1x1024 .f32) :
    val_main_v13 (F := Ideal) dx g = Db dx g := by
  funext j
  idx_vars j
  fin_cases j0
  show _ = (∑ l : Fin 2048, scale * (show EReal from g (ix2 (0 : Fin 1) j1)) * (show EReal from dx (ix2 l j1)) : EReal)
  unfold scale
  pointwise [val_main_v13, val_main_v12, val_main_cst_2, val_main_v8, val_main_v7, val_main_v2, val_main_v1, val_main_cst_0]

/-- The kernel's call and the reference, from memories that agree on the arguments, end with equal results. -/
theorem gateBwd : Cert.algebraic_GateBwdIdeal_GateBwdRefIdeal (hGateBwdIdeal := Cert.GateBwdIdeal.Gen.facts) (hGateBwdRefIdeal := Cert.GateBwdRefIdeal.Gen.facts) := by
  intro m ρ m' ρ' _ hag
  refine ⟨_, _, _, Cert.GateBwdIdeal.Hand.run m ρ, (θ_run _ _ _).mono (fun _ h c => ⟨(h c).1.trans ?_, (h c).2.1.trans ?_, (h c).2.2.1.trans ?_, (h c).2.2.2⟩) (Cert.GateBwdRefIdeal.Value.run m' ρ')⟩
  · rw [val_main_v16_eq, (hag c).2.1, (hag c).2.2]
    exact gateBwd_df _ _
  · rw [val_main_v15_eq, (hag c).1, (hag c).2.1]
    exact gateBwd_dg _ _
  · rw [val_main_v13_eq, (hag c).2.1, (hag c).2.2]
    exact gateBwd_db _ _

end Cert.Proof

end
-- ==== Proof.GuDx.lean ====
/-
  Hand-written. The gradient through the FFN's first product, its modulation and its norm: the kernel's call and the
  reference end with the same four arrays, the gradients of the residual stream, of the norm's weight, of the scale and of
  the shift.
-/
module

public import proofs.«01_k».proof.Defs
public import proofs.«01_k».proof.Proof.Gen.GuDxIdeal.Value
public import proofs.«01_k».proof.Proof.Gen.GuDxRefIdeal.Run
public import proofs.«01_k».proof.Proof.Gen.GuDxRefIdeal.Read
public import proofs.«01_k».proof.Proof.Rms
public import Idealize.ShloMosaic.Lib.Pipeline.Value
public import Idealize.ShloMosaic.Lib.Pipeline.ValueKit
public import Idealize.ShloMosaic.Lib.Pointwise

@[expose] public section

set_option maxRecDepth 16384

noncomputable section

namespace Cert.GuDxIdeal.Hand

open Cert.GuDxIdeal Cert.GuDxIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

open Cert.Proof (ms rms normGrad msGrad acc_total rows_total blockRow sum_tokens)

/-! ## The payloads at an index -/

theorem pay8_apply (x : Vec Ideal S512x1024 .f32) (r : Fin 512) :
    k0_pay8 (F := Ideal) x (ix2 r (0 : Fin 1)) = (rms (fun k => x (ix2 r k)) : EReal) := by
  pointwise [k0_pay8]
  rfl

theorem pay9_apply (x : Vec Ideal S512x1024 .f32) (r : Fin 512) (d : Fin 1024) :
    k0_pay9 (F := Ideal) x (ix2 r d) = ((show EReal from x (ix2 r d)) * rms (fun k => x (ix2 r k)) : EReal) := by
  rw [← pay8_apply]
  unfold k0_pay9
  generalize k0_pay8 (F := Ideal) x = r8
  pointwise []

theorem pay10_apply (v : Vec Ideal S512x1024 .f32) (w : Vec Ideal S1x1024 .f32) (d : Fin 1024) :
    k0_pay10 (F := Ideal) v w (ix2 (0 : Fin 1) d) = ((show EReal from w (ix2 (0 : Fin 1) d)) + ∑ r : Fin 512, (show EReal from v (ix2 r d)) : EReal) := by
  pointwise [k0_pay10]

theorem pay5_apply (v : Vec Ideal S512x1024 .f32) (a : Vec Ideal S1x512x1408 .bf16) (b : Vec Ideal S1x1024x1408 .bf16) (r : Fin 512) (d : Fin 1024) :
    k0_pay5 (F := Ideal) v a b (ix2 r d)
      = ((show EReal from v (ix2 r d)) + ∑ k : Fin 1408, (show EReal from a (ix3 (0 : Fin 1) r k)) * (show EReal from b (ix3 (0 : Fin 1) d k)) : EReal) := by
  pointwise [k0_pay5]

theorem pay11_apply (v x : Vec Ideal S512x1024 .f32) (n w : Vec Ideal S1x1024 .f32) (d : Fin 1024) :
    k0_pay11 (F := Ideal) v x n w (ix2 (0 : Fin 1) d)
      = ((show EReal from w (ix2 (0 : Fin 1) d))
        + ∑ r : Fin 512, (show EReal from v (ix2 r d)) * ((show EReal from k0_pay9 (F := Ideal) x (ix2 r d)) * (show EReal from n (ix2 (0 : Fin 1) d))) : EReal) := by
  unfold k0_pay11
  generalize k0_pay9 (F := Ideal) x = r9
  pointwise []

theorem pay12_apply (v : Vec Ideal S512x1024 .f32) (s : Vec Ideal S1x1024 .f32) (r : Fin 512) (d : Fin 1024) :
    k0_pay12 (F := Ideal) v s (ix2 r d) = ((show EReal from v (ix2 r d)) * (1 + (show EReal from s (ix2 (0 : Fin 1) d))) : EReal) := by
  pointwise [k0_pay12]

theorem pay6_apply (h v : Vec Ideal S512x1024 .f32) (w : Vec Ideal S1x1024 .f32) (d : Fin 1024) :
    k0_pay6 (F := Ideal) h v w (ix2 (0 : Fin 1) d)
      = ((show EReal from w (ix2 (0 : Fin 1) d)) + ∑ r : Fin 512, (show EReal from v (ix2 r d)) * (show EReal from h (ix2 r d)) : EReal) := by
  pointwise [k0_pay6]

theorem pay7_apply (r8 : Vec Ideal S512x1 .f32) (h : Vec Ideal S512x1024 .f32) (n : Vec Ideal S1x1024 .f32) (v x : Vec Ideal S512x1024 .f32)
    (r : Fin 512) (d : Fin 1024) :
    k0_pay7 (F := Ideal) r8 h n v x (ix2 r d)
      = ((show EReal from x (ix2 r d)) + (show EReal from r8 (ix2 r (0 : Fin 1))) * ((show EReal from v (ix2 r d)) * (show EReal from n (ix2 (0 : Fin 1) d))
          - (show EReal from h (ix2 r d)) * Ideal.div (∑ k : Fin 1024, (show EReal from v (ix2 r k)) * (show EReal from n (ix2 (0 : Fin 1) k)) * (show EReal from h (ix2 r k))) (Ideal.ofBits .f32 0x44800000#32)) : EReal) := by
  pointwise [k0_pay7]

theorem pay1_apply (d : Fin 1024) : k0_pay1 (F := Ideal) (ix2 (0 : Fin 1) d) = (0 : EReal) := by
  pointwise [k0_pay1]

theorem pay2_apply (d : Fin 1024) : k0_pay2 (F := Ideal) (ix2 (0 : Fin 1) d) = (0 : EReal) := by
  pointwise [k0_pay2]

theorem pay3_apply (d : Fin 1024) : k0_pay3 (F := Ideal) (ix2 (0 : Fin 1) d) = (0 : EReal) := by
  pointwise [k0_pay3]

theorem pay4_apply (r : Fin 512) (d : Fin 1024) : k0_pay4 (F := Ideal) (ix2 r d) = (0 : EReal) := by
  pointwise [k0_pay4]

/-! ## What each point leaves -/

/-- What the point before left. -/
abbrev before (c : Dev nD) (t : Fin cfg0.N) := outsAt0 m c (t.val - 1) (Nat.lt_of_le_of_lt (Nat.sub_le _ _) t.isLt)

/-- What a point of part 0 leaves in the accumulator. -/
theorem acc_first (c : Dev nD) (t : Fin cfg0.N) (h : t.val % 4 = 0) :
    (outsAt0 m c t.val t.isLt).2.2.2.2 = k0_pay5 (F := Ideal) (k0_pay4 (F := Ideal)) (iblk m c 0 t) (iblk m c 1 t) := by
  by_cases h0 : t.val % 16 = 0
  · rw [outsAt0_A m c t h0 h (by omega)]
    frame_out
  · rw [outsAt0_D m c t h0 h (by omega)]
    frame_out

/-- What a point of another part leaves there. -/
theorem acc_next (c : Dev nD) (t : Fin cfg0.N) (h : ¬t.val % 4 = 0) :
    (outsAt0 m c t.val t.isLt).2.2.2.2 = k0_pay5 (F := Ideal) (before m c t).2.2.2.2 (iblk m c 0 t) (iblk m c 1 t) := by
  by_cases h0 : t.val % 4 = 3
  · rw [outsAt0_C m c t (by omega) h h0]
    frame_out
    exact congrArg (fun a => k0_pay5 (F := Ideal) a (iblk m c 0 t) (iblk m c 1 t)) ((Memref.isWhole_whole cc0_scratch0).read_unread _)
  · rw [outsAt0_B m c t (by omega) h h0]
    frame_out
    exact congrArg (fun a => k0_pay5 (F := Ideal) a (iblk m c 0 t) (iblk m c 1 t)) ((Memref.isWhole_whole cc0_scratch0).read_unread _)

/-- The first point leaves zero in the three rows. -/
theorem rows_first (c : Dev nD) (t : Fin cfg0.N) (h : t.val % 16 = 0) :
    (outsAt0 m c t.val t.isLt).2.1 = k0_pay1 (F := Ideal) ∧ (outsAt0 m c t.val t.isLt).2.2.1 = k0_pay2 (F := Ideal)
      ∧ (outsAt0 m c t.val t.isLt).2.2.2.1 = k0_pay3 (F := Ideal) := by
  rw [outsAt0_A m c t h (by omega) (by omega)]
  refine ⟨?_, ?_, ?_⟩ <;> frame_out

/-- The points of the parts before the last leave the rows as they were. -/
theorem rows_keep (c : Dev nD) (t : Fin cfg0.N) (h : ¬t.val % 16 = 0) (h3 : ¬t.val % 4 = 3) :
    (outsAt0 m c t.val t.isLt).2.1 = (before m c t).2.1 ∧ (outsAt0 m c t.val t.isLt).2.2.1 = (before m c t).2.2.1
      ∧ (outsAt0 m c t.val t.isLt).2.2.2.1 = (before m c t).2.2.2.1 := by
  by_cases h0 : t.val % 4 = 0
  · rw [outsAt0_D m c t h h0 h3]
    exact ⟨rfl, rfl, rfl⟩
  · rw [outsAt0_B m c t h h0 h3]
    exact ⟨rfl, rfl, rfl⟩

/-- What the last part's point leaves in the shift's row. -/
theorem row9 (c : Dev nD) (t : Fin cfg0.N) (h3 : t.val % 4 = 3) :
    (outsAt0 m c t.val t.isLt).2.2.2.1 = k0_pay10 (F := Ideal) (outsAt0 m c t.val t.isLt).2.2.2.2 (before m c t).2.2.2.1 := by
  rw [acc_next m c t (by omega), outsAt0_C m c t (by omega) (by omega) h3]
  frame_out
  exact congrArg (fun a => k0_pay10 (F := Ideal) (k0_pay5 (F := Ideal) a (iblk m c 0 t) (iblk m c 1 t)) (before m c t).2.2.2.1) ((Memref.isWhole_whole cc0_scratch0).read_unread _)

/-- What it leaves in the scale's row. -/
theorem row8 (c : Dev nD) (t : Fin cfg0.N) (h3 : t.val % 4 = 3) :
    (outsAt0 m c t.val t.isLt).2.2.1 = k0_pay11 (F := Ideal) (outsAt0 m c t.val t.isLt).2.2.2.2 (iblk m c 2 t) (iblk m c 3 t) (before m c t).2.2.1 := by
  rw [acc_next m c t (by omega), outsAt0_C m c t (by omega) (by omega) h3]
  frame_out
  exact congrArg (fun a => k0_pay11 (F := Ideal) (k0_pay5 (F := Ideal) a (iblk m c 0 t) (iblk m c 1 t)) (iblk m c 2 t) (iblk m c 3 t) (before m c t).2.2.1) ((Memref.isWhole_whole cc0_scratch0).read_unread _)

/-- What it leaves in the norm weight's row. -/
theorem row7 (c : Dev nD) (t : Fin cfg0.N) (h3 : t.val % 4 = 3) :
    (outsAt0 m c t.val t.isLt).2.1 = k0_pay6 (F := Ideal) (k0_pay9 (F := Ideal) (iblk m c 2 t)) (k0_pay12 (F := Ideal) (outsAt0 m c t.val t.isLt).2.2.2.2 (iblk m c 4 t)) (before m c t).2.1 := by
  rw [acc_next m c t (by omega), outsAt0_C m c t (by omega) (by omega) h3]
  frame_out
  exact congrArg (fun a => k0_pay6 (F := Ideal) (k0_pay9 (F := Ideal) (iblk m c 2 t)) (k0_pay12 (F := Ideal) (k0_pay5 (F := Ideal) a (iblk m c 0 t) (iblk m c 1 t)) (iblk m c 4 t)) (before m c t).2.1) ((Memref.isWhole_whole cc0_scratch0).read_unread _)

/-- What it leaves in the residual stream's block. -/
theorem tile6 (c : Dev nD) (t : Fin cfg0.N) (h3 : t.val % 4 = 3) :
    (outsAt0 m c t.val t.isLt).1 = k0_pay7 (F := Ideal) (k0_pay8 (F := Ideal) (iblk m c 2 t)) (k0_pay9 (F := Ideal) (iblk m c 2 t)) (iblk m c 3 t)
      (k0_pay12 (F := Ideal) (outsAt0 m c t.val t.isLt).2.2.2.2 (iblk m c 4 t)) (iblk m c 5 t) := by
  rw [acc_next m c t (by omega), outsAt0_C m c t (by omega) (by omega) h3]
  frame_out
  exact congrArg (fun a => k0_pay7 (F := Ideal) (k0_pay8 (F := Ideal) (iblk m c 2 t)) (k0_pay9 (F := Ideal) (iblk m c 2 t)) (iblk m c 3 t) (k0_pay12 (F := Ideal) (k0_pay5 (F := Ideal) a (iblk m c 0 t) (iblk m c 1 t)) (iblk m c 4 t)) (iblk m c 5 t)) ((Memref.isWhole_whole cc0_scratch0).read_unread _)

/-! ## The blocks the points work on -/

theorem idx0 : ∀ t : Fin cfg0.N, win0_0.index t (0 : Fin 3) = t.val % 4 ∧ win0_0.index t (1 : Fin 3) = t.val / 4 ∧ win0_0.index t (2 : Fin 3) = 0 :=
  (by decide +kernel : ∀ t : Fin grid0.N, _)
theorem idx1 : ∀ t : Fin cfg0.N, win0_1.index t (0 : Fin 3) = t.val % 4 ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val / 4 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val / 4 ∧ win0_5.index t (1 : Fin 2) = 0 :=
  (by decide +kernel : ∀ t : Fin grid0.N, _)
theorem idx6 : ∀ t : Fin cfg0.N, win0_6.index t (0 : Fin 2) = t.val / 4 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)

/-- The part that point `t` works on. -/
def pt (t : Fin cfg0.N) : Fin 4 := ⟨t.val % 4, by omega⟩
/-- The block of tokens that it works on. -/
def blkOf (t : Fin cfg0.N) : Fin 4 := ⟨t.val / 4, by have h' : t.val < 16 := t.isLt; omega⟩

theorem iblk0 (c : Dev nD) (t : Fin cfg0.N) (r : Fin 512) (k : Fin 1408) :
    iblk m c 0 t (ix3 (0 : Fin 1) r k) = m ((c : Thread nD τ).loc main_arg0) (ix3 (pt t) (blockRow (blkOf t) r) k) := by
  obtain ⟨e0, e1, e2⟩ := idx0 t
  show V m c main_arg0 (((cfg0.win 0).blk t).view.emb (ix3 (0 : Fin 1) r k)) = _
  refine Eq.trans ?_ (congrFun (V_main_arg0 m c) _)
  congr 1
  funext a; apply Fin.ext
  match a with
  | ⟨0, _⟩ => show win0_0.index t (0 : Fin 3) * 1 + 1 * 0 = t.val % 4; omega
  | ⟨1, _⟩ => show win0_0.index t (1 : Fin 3) * 512 + 1 * r.val = t.val / 4 * 512 + r.val; omega
  | ⟨2, _⟩ => show win0_0.index t (2 : Fin 3) * 1408 + 1 * k.val = k.val; omega

theorem iblk1 (c : Dev nD) (t : Fin cfg0.N) (d : Fin 1024) (k : Fin 1408) :
    iblk m c 1 t (ix3 (0 : Fin 1) d k) = m ((c : Thread nD τ).loc main_arg1) (ix3 (pt t) d k) := by
  obtain ⟨e0, e1, e2⟩ := idx1 t
  show V m c main_arg1 (((cfg0.win 1).blk t).view.emb (ix3 (0 : Fin 1) d k)) = _
  refine Eq.trans ?_ (congrFun (V_main_arg1 m c) _)
  congr 1
  funext a; apply Fin.ext
  match a with
  | ⟨0, _⟩ => show win0_1.index t (0 : Fin 3) * 1 + 1 * 0 = t.val % 4; omega
  | ⟨1, _⟩ => show win0_1.index t (1 : Fin 3) * 1024 + 1 * d.val = d.val; omega
  | ⟨2, _⟩ => show win0_1.index t (2 : Fin 3) * 1408 + 1 * k.val = k.val; omega

theorem iblk2 (c : Dev nD) (t : Fin cfg0.N) (r : Fin 512) (d : Fin 1024) :
    iblk m c 2 t (ix2 r d) = m ((c : Thread nD τ).loc main_arg2) (ix2 (blockRow (blkOf t) r) d) := by
  obtain ⟨e0, e1⟩ := idx2 t
  show V m c main_arg2 (((cfg0.win 2).blk t).view.emb (ix2 r d)) = _
  refine Eq.trans ?_ (congrFun (V_main_arg2 m c) _)
  congr 1
  funext a; apply Fin.ext
  match a with
  | ⟨0, _⟩ => show win0_2.index t (0 : Fin 2) * 512 + 1 * r.val = t.val / 4 * 512 + r.val; omega
  | ⟨1, _⟩ => show win0_2.index t (1 : Fin 2) * 1024 + 1 * d.val = d.val; omega

theorem iblk5 (c : Dev nD) (t : Fin cfg0.N) (r : Fin 512) (d : Fin 1024) :
    iblk m c 5 t (ix2 r d) = m ((c : Thread nD τ).loc main_arg5) (ix2 (blockRow (blkOf t) r) d) := by
  obtain ⟨e0, e1⟩ := idx5 t
  show V m c main_arg5 (((cfg0.win 5).blk t).view.emb (ix2 r d)) = _
  refine Eq.trans ?_ (congrFun (V_main_arg5 m c) _)
  congr 1
  funext a; apply Fin.ext
  match a with
  | ⟨0, _⟩ => show win0_5.index t (0 : Fin 2) * 512 + 1 * r.val = t.val / 4 * 512 + r.val; omega
  | ⟨1, _⟩ => show win0_5.index t (1 : Fin 2) * 1024 + 1 * d.val = d.val; omega

theorem iblk3 (c : Dev nD) (t : Fin cfg0.N) (d : Fin 1024) :
    iblk m c 3 t (ix2 (0 : Fin 1) d) = m ((c : Thread nD τ).loc main_arg3) (ix2 (0 : Fin 1) d) := by
  obtain ⟨e0, e1⟩ := idx3 t
  show V m c main_arg3 (((cfg0.win 3).blk t).view.emb (ix2 (0 : Fin 1) d)) = _
  refine Eq.trans ?_ (congrFun (V_main_arg3 m c) _)
  congr 1
  funext a; apply Fin.ext
  match a with
  | ⟨0, _⟩ => show win0_3.index t (0 : Fin 2) * 1 + 1 * 0 = 0; omega
  | ⟨1, _⟩ => show win0_3.index t (1 : Fin 2) * 1024 + 1 * d.val = d.val; omega

theorem iblk4 (c : Dev nD) (t : Fin cfg0.N) (d : Fin 1024) :
    iblk m c 4 t (ix2 (0 : Fin 1) d) = m ((c : Thread nD τ).loc main_arg4) (ix2 (0 : Fin 1) d) := by
  obtain ⟨e0, e1⟩ := idx4 t
  show V m c main_arg4 (((cfg0.win 4).blk t).view.emb (ix2 (0 : Fin 1) d)) = _
  refine Eq.trans ?_ (congrFun (V_main_arg4 m c) _)
  congr 1
  funext a; apply Fin.ext
  match a with
  | ⟨0, _⟩ => show win0_4.index t (0 : Fin 2) * 1 + 1 * 0 = 0; omega
  | ⟨1, _⟩ => show win0_4.index t (1 : Fin 2) * 1024 + 1 * d.val = d.val; omega

/-- Where an index of an output's block lies in the result. -/
theorem emb6 (t : Fin cfg0.N) (j : S512x1024.Idx) :
    ((cfg0.win 6).blk t).view.emb j = (ix2 (blockRow (blkOf t) (j 0)) (j 1) : S2048x1024.Idx) := by
  obtain ⟨e0, e1⟩ := idx6 t
  idx_vars j
  funext a; apply Fin.ext
  match a with
  | ⟨0, _⟩ => show win0_6.index t (0 : Fin 2) * 512 + 1 * j0.val = t.val / 4 * 512 + j0.val; omega
  | ⟨1, _⟩ => show win0_6.index t (1 : Fin 2) * 1024 + 1 * j1.val = j1.val; omega

theorem emb7 (t : Fin cfg0.N) (j : S1x1024.Idx) : ((cfg0.win 7).blk t).view.emb j = (j : S1x1024.Idx) := by
  obtain ⟨e0, e1⟩ := idx7 t
  idx_vars j
  funext a; apply Fin.ext
  match a with
  | ⟨0, _⟩ => show win0_7.index t (0 : Fin 2) * 1 + 1 * j0.val = j0.val; omega
  | ⟨1, _⟩ => show win0_7.index t (1 : Fin 2) * 1024 + 1 * j1.val = j1.val; omega

theorem emb8 (t : Fin cfg0.N) (j : S1x1024.Idx) : ((cfg0.win 8).blk t).view.emb j = (j : S1x1024.Idx) := by
  obtain ⟨e0, e1⟩ := idx8 t
  idx_vars j
  funext a; apply Fin.ext
  match a with
  | ⟨0, _⟩ => show win0_8.index t (0 : Fin 2) * 1 + 1 * j0.val = j0.val; omega
  | ⟨1, _⟩ => show win0_8.index t (1 : Fin 2) * 1024 + 1 * j1.val = j1.val; omega

theorem emb9 (t : Fin cfg0.N) (j : S1x1024.Idx) : ((cfg0.win 9).blk t).view.emb j = (j : S1x1024.Idx) := by
  obtain ⟨e0, e1⟩ := idx9 t
  idx_vars j
  funext a; apply Fin.ext
  match a with
  | ⟨0, _⟩ => show win0_9.index t (0 : Fin 2) * 1 + 1 * j0.val = j0.val; omega
  | ⟨1, _⟩ => show win0_9.index t (1 : Fin 2) * 1024 + 1 * j1.val = j1.val; omega

/-! ## The results -/

/-- One part's product. -/
def part (a : Vec Ideal S4x2048x1408 .bf16) (b : Vec Ideal S4x1024x1408 .bf16) (s : Fin 4) (l : Fin 2048) (d : Fin 1024) : EReal :=
  ∑ k : Fin 1408, (show EReal from a (ix3 s l k)) * (show EReal from b (ix3 s d k))

/-- The gradient of the modulated row: the sum of the four parts' products. -/
def dh (a : Vec Ideal S4x2048x1408 .bf16) (b : Vec Ideal S4x1024x1408 .bf16) (l : Fin 2048) (d : Fin 1024) : EReal :=
  part a b 0 l d + part a b 1 l d + part a b 2 l d + part a b 3 l d

/-- A row of the residual stream. -/
def row (x : Vec Ideal S2048x1024 .f32) (l : Fin 2048) : Fin 1024 → EReal := fun d => x (ix2 l d)

/-- The normed row. -/
def xhat (x : Vec Ideal S2048x1024 .f32) (l : Fin 2048) (d : Fin 1024) : EReal := row x l d * rms (row x l)

/-- The gradient of the norm's result. -/
def dn (a : Vec Ideal S4x2048x1408 .bf16) (b : Vec Ideal S4x1024x1408 .bf16) (sc : Vec Ideal S1x1024 .f32) (l : Fin 2048) (d : Fin 1024) : EReal :=
  dh a b l d * (1 + (show EReal from sc (ix2 (0 : Fin 1) d)))

/-- The gradient of the normed row. -/
def dxhat (a : Vec Ideal S4x2048x1408 .bf16) (b : Vec Ideal S4x1024x1408 .bf16) (nw sc : Vec Ideal S1x1024 .f32) (l : Fin 2048) (d : Fin 1024) : EReal :=
  dn a b sc l d * (show EReal from nw (ix2 (0 : Fin 1) d))

/-- The gradient of the residual stream. -/
def Dx (a : Vec Ideal S4x2048x1408 .bf16) (b : Vec Ideal S4x1024x1408 .bf16) (x : Vec Ideal S2048x1024 .f32) (nw sc : Vec Ideal S1x1024 .f32)
    (dxi : Vec Ideal S2048x1024 .f32) : Vec Ideal S2048x1024 .f32 :=
  fun i => (normGrad (row x (i 0)) (dxhat a b nw sc (i 0)) (dxi (ix2 (i 0) (i 1))) (i 1) : EReal)

/-- The gradient of the norm's weight. -/
def Dnw (a : Vec Ideal S4x2048x1408 .bf16) (b : Vec Ideal S4x1024x1408 .bf16) (x : Vec Ideal S2048x1024 .f32) (sc : Vec Ideal S1x1024 .f32) : Vec Ideal S1x1024 .f32 :=
  fun i => (∑ l, dn a b sc l (i 1) * xhat x l (i 1) : EReal)

/-- The gradient of the scale. -/
def Dsc (a : Vec Ideal S4x2048x1408 .bf16) (b : Vec Ideal S4x1024x1408 .bf16) (x : Vec Ideal S2048x1024 .f32) (nw : Vec Ideal S1x1024 .f32) : Vec Ideal S1x1024 .f32 :=
  fun i => (∑ l, dh a b l (i 1) * (xhat x l (i 1) * (show EReal from nw (ix2 (0 : Fin 1) (i 1)))) : EReal)

/-- The gradient of the shift. -/
def Dsh (a : Vec Ideal S4x2048x1408 .bf16) (b : Vec Ideal S4x1024x1408 .bf16) : Vec Ideal S1x1024 .f32 :=
  fun i => (∑ l, dh a b l (i 1) : EReal)

/-- What a point adds to the accumulator. -/
theorem step_eq (c : Dev nD) (t : Fin cfg0.N) (r : Fin 512) (d : Fin 1024) :
    (∑ k : Fin 1408, (show EReal from iblk m c 0 t (ix3 (0 : Fin 1) r k)) * (show EReal from iblk m c 1 t (ix3 (0 : Fin 1) d k)) : EReal)
      = part (m ((c : Thread nD τ).loc main_arg0)) (m ((c : Thread nD τ).loc main_arg1)) (pt t) (blockRow (blkOf t) r) d :=
  Finset.sum_congr rfl fun k _ => congrArg₂ (fun x y : EReal => x * y) (iblk0 m c t r k) (iblk1 m c t d k)

/-- After the last part's point the accumulator holds the gradient of the block's modulated rows. -/
theorem acc_eq (c : Dev nD) (t : Fin cfg0.N) (h3 : t.val % 4 = 3) (r : Fin 512) (d : Fin 1024) :
    (outsAt0 m c t.val t.isLt).2.2.2.2 (ix2 r d)
      = (dh (m ((c : Thread nD τ).loc main_arg0)) (m ((c : Thread nD τ).loc main_arg1)) (blockRow (blkOf t) r) d : EReal) := by
  have hN : t.val < 16 := t.isLt
  obtain ⟨i, hi⟩ : ∃ i, t.val = 4 * i + 3 := ⟨t.val / 4, by omega⟩
  have key := acc_total (fun n hn => ((outsAt0 m c n hn).2.2.2.2 (ix2 r d) : EReal))
    (fun n hn => part (m ((c : Thread nD τ).loc main_arg0)) (m ((c : Thread nD τ).loc main_arg1)) (pt ⟨n, hn⟩) (blockRow (blkOf ⟨n, hn⟩) r) d)
    (fun n hn h => by
      refine (congrFun (acc_first m c ⟨n, hn⟩ h) (ix2 r d)).trans ?_
      rw [pay5_apply, pay4_apply]
      exact (zero_add _).trans (step_eq m c ⟨n, hn⟩ r d))
    (fun n hn h => by
      refine (congrFun (acc_next m c ⟨n + 1, hn⟩ h) (ix2 r d)).trans ?_
      rw [pay5_apply]
      exact congrArg (fun y : EReal => _ + y) (step_eq m c ⟨n + 1, hn⟩ r d)) i (by omega)
  have e : ∀ (n : ℕ) (hn : n < cfg0.N), n = 4 * i + 3 → (outsAt0 m c n hn).2.2.2.2 (ix2 r d) = (outsAt0 m c (4 * i + 3) (by show _ < 16; omega)).2.2.2.2 (ix2 r d) := by
    intro n hn e; subst e; rfl
  refine (e _ t.isLt hi).trans (key.trans ?_)
  have p : ∀ (s : Fin 4) (hn : 4 * i + s.val < cfg0.N), pt ⟨4 * i + s.val, hn⟩ = s ∧ blkOf ⟨4 * i + s.val, hn⟩ = blkOf t := fun s hn =>
    ⟨Fin.ext (by show (4 * i + s.val) % 4 = s.val; omega), Fin.ext (by show (4 * i + s.val) / 4 = t.val / 4; omega)⟩
  have q : ∀ (s : Fin 4) (hn : 4 * i + s.val < cfg0.N),
      part (m ((c : Thread nD τ).loc main_arg0)) (m ((c : Thread nD τ).loc main_arg1)) (pt ⟨4 * i + s.val, hn⟩) (blockRow (blkOf ⟨4 * i + s.val, hn⟩) r) d
        = part (m ((c : Thread nD τ).loc main_arg0)) (m ((c : Thread nD τ).loc main_arg1)) s (blockRow (blkOf t) r) d := fun s hn => by
    rw [(p s hn).1, (p s hn).2]
  exact congrArg₂ (· + ·) (congrArg₂ (· + ·) (congrArg₂ (· + ·) (q 0 _) (q 1 _)) (q 2 _)) (q 3 _)

theorem row_eq (c : Dev nD) (t : Fin cfg0.N) (r : Fin 512) :
    (fun k : Fin 1024 => (show EReal from iblk m c 2 t (ix2 r k))) = row (m ((c : Thread nD τ).loc main_arg2)) (blockRow (blkOf t) r) :=
  funext fun k => iblk2 m c t r k

theorem xhat_eq (c : Dev nD) (t : Fin cfg0.N) (r : Fin 512) (d : Fin 1024) :
    k0_pay9 (F := Ideal) (iblk m c 2 t) (ix2 r d) = (xhat (m ((c : Thread nD τ).loc main_arg2)) (blockRow (blkOf t) r) d : EReal) :=
  (pay9_apply _ r d).trans (congrArg₂ (fun x y : EReal => x * y) (iblk2 m c t r d) (congrArg rms (row_eq m c t r)))

theorem dn_eq (c : Dev nD) (t : Fin cfg0.N) (h3 : t.val % 4 = 3) (r : Fin 512) (d : Fin 1024) :
    k0_pay12 (F := Ideal) (outsAt0 m c t.val t.isLt).2.2.2.2 (iblk m c 4 t) (ix2 r d)
      = (dn (m ((c : Thread nD τ).loc main_arg0)) (m ((c : Thread nD τ).loc main_arg1)) (m ((c : Thread nD τ).loc main_arg4)) (blockRow (blkOf t) r) d : EReal) :=
  (pay12_apply _ _ r d).trans (congrArg₂ (fun x y : EReal => x * y) (acc_eq m c t h3 r d) (congrArg (fun y : EReal => 1 + y) (iblk4 m c t d)))

/-- The points that write back. -/
theorem last6 : ∀ t : Fin cfg0.N, (cfg0.win 6).flush t = true ↔ t.val % 4 = 3 := flush0_6
theorem last7 : ∀ t : Fin cfg0.N, (cfg0.win 7).flush t = true ↔ t.val % 16 = 15 := flush0_7
theorem last8 : ∀ t : Fin cfg0.N, (cfg0.win 8).flush t = true ↔ t.val % 16 = 15 := flush0_8
theorem last9 : ∀ t : Fin cfg0.N, (cfg0.win 9).flush t = true ↔ t.val % 16 = 15 := flush0_9

/-- Each point that writes back writes its block of the residual stream's gradient. -/
theorem flushed_Dx (c : Dev nD) (t : Fin cfg0.N) (hf : (cfg0.win 6).flush t = true) :
    (dats m 0 c).flushed 6 t = ((cfg0.win 6).blk t).view.read (Elt Ideal)
      (Dx (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5))) := by
  rw [Value.flushed6]
  funext j
  show (outsAt0 m c t.val t.isLt).1 j = Dx _ _ _ _ _ _ (((cfg0.win 6).blk t).view.emb j)
  have h3 := (last6 t).mp hf
  rw [emb6, tile6 m c t h3]
  idx_vars j
  rw [pay7_apply]
  have eg : ∀ k : Fin 1024, (show EReal from k0_pay12 (F := Ideal) (outsAt0 m c t.val t.isLt).2.2.2.2 (iblk m c 4 t) (ix2 j0 k)) * (show EReal from iblk m c 3 t (ix2 (0 : Fin 1) k))
      = dxhat (m ((c : Thread nD τ).loc main_arg0)) (m ((c : Thread nD τ).loc main_arg1)) (m ((c : Thread nD τ).loc main_arg3)) (m ((c : Thread nD τ).loc main_arg4)) (blockRow (blkOf t) j0) k :=
    fun k => congrArg₂ (fun x y : EReal => x * y) (dn_eq m c t h3 j0 k) (iblk3 m c t k)
  refine congrArg₂ (fun x y : EReal => x + y) (iblk5 m c t j0 j1) ?_
  refine congrArg₂ (fun x y : EReal => x * y) ((pay8_apply _ j0).trans (congrArg rms (row_eq m c t j0))) ?_
  refine congrArg₂ (fun x y : EReal => x - y) (eg j1) ?_
  refine congrArg₂ (fun x y : EReal => x * y) (xhat_eq m c t j0 j1) ?_
  refine congrArg (fun x : EReal => Ideal.div x (Ideal.ofBits .f32 0x44800000#32)) ?_
  exact Finset.sum_congr rfl fun k _ => congrArg₂ (fun x y : EReal => x * y) (eg k) (xhat_eq m c t j0 k)

/-- The grid's last point. -/
abbrev lastPt : Fin cfg0.N := ⟨15, by show 15 < 16; omega⟩

theorem last_point (t : Fin cfg0.N) (h : t.val % 16 = 15) : t = lastPt :=
  Fin.ext (by have h' : t.val < 16 := t.isLt; show t.val = 15; omega)

/-- What is written back of the norm weight's gradient. -/
theorem flushed_Dnw (c : Dev nD) (t : Fin cfg0.N) (hf : (cfg0.win 7).flush t = true) :
    (dats m 0 c).flushed 7 t = ((cfg0.win 7).blk t).view.read (Elt Ideal) (Dnw (m ((c : Thread nD τ).loc main_arg0)) (m ((c : Thread nD τ).loc main_arg1)) (m ((c : Thread nD τ).loc main_arg2)) (m ((c : Thread nD τ).loc main_arg4))) := by
  obtain rfl := last_point t ((last7 t).mp hf)
  rw [Value.flushed7]
  funext j
  refine Eq.trans (b := Dnw (m ((c : Thread nD τ).loc main_arg0)) (m ((c : Thread nD τ).loc main_arg1)) (m ((c : Thread nD τ).loc main_arg2)) (m ((c : Thread nD τ).loc main_arg4)) j) ?_ (congrArg (Dnw (m ((c : Thread nD τ).loc main_arg0)) (m ((c : Thread nD τ).loc main_arg1)) (m ((c : Thread nD τ).loc main_arg2)) (m ((c : Thread nD τ).loc main_arg4))) (emb7 lastPt j).symm)
  idx_vars j
  fin_cases j0
  refine Eq.trans ?_ (sum_tokens (fun l => dn (m ((c : Thread nD τ).loc main_arg0)) (m ((c : Thread nD τ).loc main_arg1)) (m ((c : Thread nD τ).loc main_arg4)) l j1 * xhat (m ((c : Thread nD τ).loc main_arg2)) l j1)).symm
  refine rows_total (fun n hn => ((outsAt0 m c n hn).2.1 (ix2 (0 : Fin 1) j1) : EReal))
    (fun i => ∑ r : Fin 512, dn (m ((c : Thread nD τ).loc main_arg0)) (m ((c : Thread nD τ).loc main_arg1)) (m ((c : Thread nD τ).loc main_arg4)) (blockRow i r) j1 * xhat (m ((c : Thread nD τ).loc main_arg2)) (blockRow i r) j1) ?_ (fun n hn h => ?_) (fun n hn h => ?_)
  · exact (congrFun (rows_first m c ⟨0, by show 0 < 16; omega⟩ rfl).1 (ix2 (0 : Fin 1) j1)).trans (pay1_apply j1)
  · exact congrFun (rows_keep m c ⟨n + 1, hn⟩ (by show ¬(n + 1) % 16 = 0; omega) h).1 (ix2 (0 : Fin 1) j1)
  · refine (congrFun (row7 m c ⟨n + 1, hn⟩ h) (ix2 (0 : Fin 1) j1)).trans ?_
    rw [pay6_apply]
    exact congrArg (fun y : EReal => _ + y) (Finset.sum_congr rfl fun r _ =>
      congrArg₂ (fun x y : EReal => x * y) (dn_eq m c ⟨n + 1, hn⟩ h r j1) (xhat_eq m c ⟨n + 1, hn⟩ r j1))
/-- What is written back of the scale's gradient. -/
theorem flushed_Dsc (c : Dev nD) (t : Fin cfg0.N) (hf : (cfg0.win 8).flush t = true) :
    (dats m 0 c).flushed 8 t = ((cfg0.win 8).blk t).view.read (Elt Ideal) (Dsc (m ((c : Thread nD τ).loc main_arg0)) (m ((c : Thread nD τ).loc main_arg1)) (m ((c : Thread nD τ).loc main_arg2)) (m ((c : Thread nD τ).loc main_arg3))) := by
  obtain rfl := last_point t ((last8 t).mp hf)
  rw [Value.flushed8]
  funext j
  refine Eq.trans (b := Dsc (m ((c : Thread nD τ).loc main_arg0)) (m ((c : Thread nD τ).loc main_arg1)) (m ((c : Thread nD τ).loc main_arg2)) (m ((c : Thread nD τ).loc main_arg3)) j) ?_ (congrArg (Dsc (m ((c : Thread nD τ).loc main_arg0)) (m ((c : Thread nD τ).loc main_arg1)) (m ((c : Thread nD τ).loc main_arg2)) (m ((c : Thread nD τ).loc main_arg3))) (emb8 lastPt j).symm)
  idx_vars j
  fin_cases j0
  refine Eq.trans ?_ (sum_tokens (fun l => dh (m ((c : Thread nD τ).loc main_arg0)) (m ((c : Thread nD τ).loc main_arg1)) l j1 * (xhat (m ((c : Thread nD τ).loc main_arg2)) l j1 * (show EReal from (m ((c : Thread nD τ).loc main_arg3)) (ix2 (0 : Fin 1) j1))))).symm
  refine rows_total (fun n hn => ((outsAt0 m c n hn).2.2.1 (ix2 (0 : Fin 1) j1) : EReal))
    (fun i => ∑ r : Fin 512, dh (m ((c : Thread nD τ).loc main_arg0)) (m ((c : Thread nD τ).loc main_arg1)) (blockRow i r) j1 * (xhat (m ((c : Thread nD τ).loc main_arg2)) (blockRow i r) j1 * (show EReal from (m ((c : Thread nD τ).loc main_arg3)) (ix2 (0 : Fin 1) j1)))) ?_ (fun n hn h => ?_) (fun n hn h => ?_)
  · exact (congrFun (rows_first m c ⟨0, by show 0 < 16; omega⟩ rfl).2.1 (ix2 (0 : Fin 1) j1)).trans (pay2_apply j1)
  · exact congrFun (rows_keep m c ⟨n + 1, hn⟩ (by show ¬(n + 1) % 16 = 0; omega) h).2.1 (ix2 (0 : Fin 1) j1)
  · refine (congrFun (row8 m c ⟨n + 1, hn⟩ h) (ix2 (0 : Fin 1) j1)).trans ?_
    rw [pay11_apply]
    exact congrArg (fun y : EReal => _ + y) (Finset.sum_congr rfl fun r _ =>
      congrArg₂ (fun x y : EReal => x * y) (acc_eq m c ⟨n + 1, hn⟩ h r j1)
        (congrArg₂ (fun x y : EReal => x * y) (xhat_eq m c ⟨n + 1, hn⟩ r j1) (iblk3 m c ⟨n + 1, hn⟩ j1)))
/-- What is written back of the shift's gradient. -/
theorem flushed_Dsh (c : Dev nD) (t : Fin cfg0.N) (hf : (cfg0.win 9).flush t = true) :
    (dats m 0 c).flushed 9 t = ((cfg0.win 9).blk t).view.read (Elt Ideal) (Dsh (m ((c : Thread nD τ).loc main_arg0)) (m ((c : Thread nD τ).loc main_arg1))) := by
  obtain rfl := last_point t ((last9 t).mp hf)
  rw [Value.flushed9]
  funext j
  refine Eq.trans (b := Dsh (m ((c : Thread nD τ).loc main_arg0)) (m ((c : Thread nD τ).loc main_arg1)) j) ?_ (congrArg (Dsh (m ((c : Thread nD τ).loc main_arg0)) (m ((c : Thread nD τ).loc main_arg1))) (emb9 lastPt j).symm)
  idx_vars j
  fin_cases j0
  refine Eq.trans ?_ (sum_tokens (fun l => dh (m ((c : Thread nD τ).loc main_arg0)) (m ((c : Thread nD τ).loc main_arg1)) l j1)).symm
  refine rows_total (fun n hn => ((outsAt0 m c n hn).2.2.2.1 (ix2 (0 : Fin 1) j1) : EReal))
    (fun i => ∑ r : Fin 512, dh (m ((c : Thread nD τ).loc main_arg0)) (m ((c : Thread nD τ).loc main_arg1)) (blockRow i r) j1) ?_ (fun n hn h => ?_) (fun n hn h => ?_)
  · exact (congrFun (rows_first m c ⟨0, by show 0 < 16; omega⟩ rfl).2.2 (ix2 (0 : Fin 1) j1)).trans (pay3_apply j1)
  · exact congrFun (rows_keep m c ⟨n + 1, hn⟩ (by show ¬(n + 1) % 16 = 0; omega) h).2.2 (ix2 (0 : Fin 1) j1)
  · refine (congrFun (row9 m c ⟨n + 1, hn⟩ h) (ix2 (0 : Fin 1) j1)).trans ?_
    rw [pay10_apply]
    exact congrArg (fun y : EReal => _ + y) (Finset.sum_congr rfl fun r _ => acc_eq m c ⟨n + 1, hn⟩ h r j1)
/-- Every index of a result is in some point's block. -/
theorem covered6 (i : S2048x1024.Idx) :
    ∃ t : Fin cfg0.N, (cfg0.win 6).flush t = true ∧ i ∈ ((cfg0.win 6).blk t).view.set := by
  have h0 : (i 0).val < 2048 := (i 0).isLt
  obtain ⟨t, ht⟩ : ∃ t : Fin cfg0.N, t.val = (i 0).val / 512 * 4 + 3 :=
    ⟨⟨(i 0).val / 512 * 4 + 3, by show _ < 16; omega⟩, rfl⟩
  obtain ⟨r, hr⟩ : ∃ r : Fin 512, r.val = (i 0).val % 512 := ⟨⟨(i 0).val % 512, by omega⟩, rfl⟩
  refine ⟨t, (last6 t).mpr (by omega), ?_⟩
  have h := ((cfg0.win 6).blk t).view.emb_mem_set (ix2 r (i 1) : S512x1024.Idx)
  have e : ((cfg0.win 6).blk t).view.emb (ix2 r (i 1) : S512x1024.Idx) = i := by
    rw [emb6]
    funext a; apply Fin.ext
    match a with
    | ⟨0, _⟩ => show t.val / 4 * 512 + r.val = (i 0).val; omega
    | ⟨1, _⟩ => rfl
  rw [e] at h
  exact h

theorem covered7 (i : S1x1024.Idx) : ∃ t : Fin cfg0.N, (cfg0.win 7).flush t = true ∧ i ∈ ((cfg0.win 7).blk t).view.set := by
  refine ⟨⟨15, by show 15 < 16; omega⟩, (last7 _).mpr rfl, ?_⟩
  have h := ((cfg0.win 7).blk ⟨15, by show 15 < 16; omega⟩).view.emb_mem_set i
  rw [emb7] at h
  exact h

theorem covered8 (i : S1x1024.Idx) : ∃ t : Fin cfg0.N, (cfg0.win 8).flush t = true ∧ i ∈ ((cfg0.win 8).blk t).view.set := by
  refine ⟨⟨15, by show 15 < 16; omega⟩, (last8 _).mpr rfl, ?_⟩
  have h := ((cfg0.win 8).blk ⟨15, by show 15 < 16; omega⟩).view.emb_mem_set i
  rw [emb8] at h
  exact h

theorem covered9 (i : S1x1024.Idx) : ∃ t : Fin cfg0.N, (cfg0.win 9).flush t = true ∧ i ∈ ((cfg0.win 9).blk t).view.set := by
  refine ⟨⟨15, by show 15 < 16; omega⟩, (last9 _).mpr rfl, ?_⟩
  have h := ((cfg0.win 9).blk ⟨15, by show 15 < 16; omega⟩).view.emb_mem_set i
  rw [emb9] at h
  exact h

/-- The run: the four results are the gradients of the arguments, which end unchanged. -/
theorem run : θ_run defs (onTc (τ := τ) (main (F := Ideal))) ⟨m, fun _ => 0, ρ⟩ fun r => ∀ c : Dev nD,
      r.2.mem ((c : Thread nD τ).loc main_v0_0) = Dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = Dnw (m ((c : Thread nD τ).loc main_arg0)) (m ((c : Thread nD τ).loc main_arg1)) (m ((c : Thread nD τ).loc main_arg2)) (m ((c : Thread nD τ).loc main_arg4))
      ∧ r.2.mem ((c : Thread nD τ).loc main_v0_2) = Dsc (m ((c : Thread nD τ).loc main_arg0)) (m ((c : Thread nD τ).loc main_arg1)) (m ((c : Thread nD τ).loc main_arg2)) (m ((c : Thread nD τ).loc main_arg3))
      ∧ r.2.mem ((c : Thread nD τ).loc main_v0_3) = Dsh (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨
      (h c).1.trans ((dats m 0 c).arrAt_eq_of_cover 6 _ (fun t hf => flushed_Dx m c t hf) covered6),
      (h c).2.1.trans ((dats m 0 c).arrAt_eq_of_cover 7 _ (fun t hf => flushed_Dnw m c t hf) covered7),
      (h c).2.2.1.trans ((dats m 0 c).arrAt_eq_of_cover 8 _ (fun t hf => flushed_Dsc m c t hf) covered8),
      (h c).2.2.2.1.trans ((dats m 0 c).arrAt_eq_of_cover 9 _ (fun t hf => flushed_Dsh m c t hf) covered9), (h c).2.2.2.2⟩) (Value.run_blocks m ρ)

end Cert.GuDxIdeal.Hand

namespace Cert.Proof

open Idealize.ShloMosaic Idealize.ShloMosaic.TcCoe Idealize.SL.Sem
open Cert.GuDxIdeal.Hand (part dh row xhat dn dxhat Dx Dnw Dsc Dsh)
open Cert.GuDxRefIdeal.Read

theorem guDx_v27 (a : Vec Ideal Cert.GuDxIdeal.S4x2048x1408 .bf16) (b : Vec Ideal Cert.GuDxIdeal.S4x1024x1408 .bf16) (l : Fin 2048) (d : Fin 1024) :
    val_main_v27 (F := Ideal) a b (ix2 l d) = (dh a b l d : EReal) := by
  pointwise [val_main_v27, val_main_v26, val_main_v1, val_main_v0]
  exact Fin.sum_univ_four _

theorem guDx_v9 (x : Vec Ideal Cert.GuDxIdeal.S2048x1024 .f32) (l : Fin 2048) :
    val_main_v9 (F := Ideal) x (ix2 l (0 : Fin 1)) = (ms (row x l) : EReal) := by
  pointwise [val_main_v9, val_main_v8, val_main_cst_2, val_main_v7, val_main_v6, val_main_cst_1, val_main_v5, val_main_v4, val_main_v3, val_main_cst_0]
  rfl

theorem guDx_v10 (x : Vec Ideal Cert.GuDxIdeal.S2048x1024 .f32) (l : Fin 2048) :
    val_main_v10 (F := Ideal) x (ix2 l (0 : Fin 1)) = (rms (row x l) : EReal) :=
  congrArg Ideal.rsqrt (guDx_v9 x l)

theorem guDx_v15 (x : Vec Ideal Cert.GuDxIdeal.S2048x1024 .f32) (l : Fin 2048) (d : Fin 1024) :
    val_main_v15 (F := Ideal) x (ix2 l d) = (xhat x l d : EReal) := by
  refine Eq.trans (b := ((show EReal from x (ix2 l d)) * (show EReal from val_main_v10 (F := Ideal) x (ix2 l (0 : Fin 1))) : EReal)) ?_ (congrArg (fun y : EReal => (show EReal from x (ix2 l d)) * y) (guDx_v10 x l))
  unfold val_main_v15 val_main_v14
  generalize val_main_v10 (F := Ideal) x = r
  pointwise []

theorem guDx_v34 (a : Vec Ideal Cert.GuDxIdeal.S4x2048x1408 .bf16) (b : Vec Ideal Cert.GuDxIdeal.S4x1024x1408 .bf16) (sc : Vec Ideal Cert.GuDxIdeal.S1x1024 .f32) (l : Fin 2048) (d : Fin 1024) :
    val_main_v34 (F := Ideal) a b sc (ix2 l d) = (dn a b sc l d : EReal) := by
  refine Eq.trans (b := ((show EReal from val_main_v27 (F := Ideal) a b (ix2 l d)) * (1 + (show EReal from sc (ix2 (0 : Fin 1) d))) : EReal)) ?_ (congrArg (fun y : EReal => y * (1 + (show EReal from sc (ix2 (0 : Fin 1) d)))) (guDx_v27 a b l d))
  unfold val_main_v34
  generalize val_main_v27 (F := Ideal) a b = r
  pointwise [val_main_v33, val_main_v19, val_main_v18, val_main_cst_4]

theorem guDx_v39 (a : Vec Ideal Cert.GuDxIdeal.S4x2048x1408 .bf16) (b : Vec Ideal Cert.GuDxIdeal.S4x1024x1408 .bf16) (nw sc : Vec Ideal Cert.GuDxIdeal.S1x1024 .f32) (l : Fin 2048) (d : Fin 1024) :
    val_main_v39 (F := Ideal) a b nw sc (ix2 l d) = (dxhat a b nw sc l d : EReal) := by
  refine Eq.trans (b := ((show EReal from val_main_v34 (F := Ideal) a b sc (ix2 l d)) * (show EReal from nw (ix2 (0 : Fin 1) d)) : EReal)) ?_ (congrArg (fun y : EReal => y * (show EReal from nw (ix2 (0 : Fin 1) d))) (guDx_v34 a b sc l d))
  unfold val_main_v39
  generalize val_main_v34 (F := Ideal) a b sc = r
  pointwise [val_main_v38]

/-- The shift's gradient in the reference. -/
theorem guDx_dsh (a : Vec Ideal Cert.GuDxIdeal.S4x2048x1408 .bf16) (b : Vec Ideal Cert.GuDxIdeal.S4x1024x1408 .bf16) :
    val_main_v29 (F := Ideal) a b = Dsh a b := by
  funext j
  idx_vars j
  fin_cases j0
  refine Eq.trans (b := (∑ l : Fin 2048, (show EReal from val_main_v27 (F := Ideal) a b (ix2 l j1)) : EReal)) ?_ (Finset.sum_congr rfl fun l _ => guDx_v27 a b l j1)
  unfold val_main_v29 val_main_v28
  generalize val_main_v27 (F := Ideal) a b = r
  pointwise [val_main_cst_5]

/-- The scale's gradient in the reference. -/
theorem guDx_dsc (a : Vec Ideal Cert.GuDxIdeal.S4x2048x1408 .bf16) (b : Vec Ideal Cert.GuDxIdeal.S4x1024x1408 .bf16) (x : Vec Ideal Cert.GuDxIdeal.S2048x1024 .f32) (nw : Vec Ideal Cert.GuDxIdeal.S1x1024 .f32) :
    val_main_v32 (F := Ideal) a b x nw = Dsc a b x nw := by
  funext j
  idx_vars j
  fin_cases j0
  refine Eq.trans (b := (∑ l : Fin 2048, (show EReal from val_main_v15 (F := Ideal) x (ix2 l j1)) * (show EReal from nw (ix2 (0 : Fin 1) j1)) * (show EReal from val_main_v27 (F := Ideal) a b (ix2 l j1)) : EReal)) ?_
    (Finset.sum_congr rfl fun l _ => (mul_comm _ _).trans (congrArg₂ (fun x y : EReal => x * y) (guDx_v27 a b l j1) (congrArg (fun y : EReal => y * (show EReal from nw (ix2 (0 : Fin 1) j1))) (guDx_v15 x l j1))))
  unfold val_main_v32 val_main_v31 val_main_v30 val_main_v17
  generalize val_main_v27 (F := Ideal) a b = r
  generalize val_main_v15 (F := Ideal) x = h
  pointwise [val_main_cst_6, val_main_v16]

/-- The norm weight's gradient in the reference. -/
theorem guDx_dnw (a : Vec Ideal Cert.GuDxIdeal.S4x2048x1408 .bf16) (b : Vec Ideal Cert.GuDxIdeal.S4x1024x1408 .bf16) (x : Vec Ideal Cert.GuDxIdeal.S2048x1024 .f32) (sc : Vec Ideal Cert.GuDxIdeal.S1x1024 .f32) :
    val_main_v37 (F := Ideal) a b x sc = Dnw a b x sc := by
  funext j
  idx_vars j
  fin_cases j0
  refine Eq.trans (b := (∑ l : Fin 2048, (show EReal from val_main_v15 (F := Ideal) x (ix2 l j1)) * (show EReal from val_main_v34 (F := Ideal) a b sc (ix2 l j1)) : EReal)) ?_
    (Finset.sum_congr rfl fun l _ => (mul_comm _ _).trans (congrArg₂ (fun x y : EReal => x * y) (guDx_v34 a b sc l j1) (guDx_v15 x l j1)))
  unfold val_main_v37 val_main_v36 val_main_v35
  generalize val_main_v34 (F := Ideal) a b sc = r
  generalize val_main_v15 (F := Ideal) x = h
  pointwise [val_main_cst_7]

/-- The factor of the mean of the squares in the reference's gradient. -/
theorem guDx_v48 (a : Vec Ideal Cert.GuDxIdeal.S4x2048x1408 .bf16) (b : Vec Ideal Cert.GuDxIdeal.S4x1024x1408 .bf16) (x : Vec Ideal Cert.GuDxIdeal.S2048x1024 .f32) (nw sc : Vec Ideal Cert.GuDxIdeal.S1x1024 .f32) (l : Fin 2048) :
    val_main_v48 (F := Ideal) a b x nw sc (ix1 l) = (msGrad (row x l) (dxhat a b nw sc l) : EReal) := by
  unfold msGrad
  rw [← guDx_v10, ← guDx_v9]
  refine Eq.trans (b := (Ideal.div ((∑ k : Fin 1024, (show EReal from x (ix2 l k)) * (show EReal from val_main_v39 (F := Ideal) a b nw sc (ix2 l k)))
      * (Ideal.ofBits .f32 0xBF000000#32 * Ideal.div (show EReal from val_main_v10 (F := Ideal) x (ix2 l (0 : Fin 1))) (show EReal from val_main_v9 (F := Ideal) x (ix2 l (0 : Fin 1))))) (Ideal.ofBits .f32 0x44800000#32) : EReal)) ?_ ?_
  · unfold val_main_v48 val_main_v47 val_main_v45 val_main_v42 val_main_v41 val_main_v40 val_main_v13 val_main_v11
    generalize val_main_v39 (F := Ideal) a b nw sc = g
    generalize val_main_v10 (F := Ideal) x = r
    generalize val_main_v9 (F := Ideal) x = s
    pointwise [val_main_cst_10, val_main_v46, val_main_cst_9, val_main_cst_8, val_main_v12, val_main_cst_3]
    exact Fin.sum_univ_one _
  · refine congrArg (fun y : EReal => Ideal.div (y * _) _) (Finset.sum_congr rfl fun k _ => ?_)
    exact congrArg (fun y : EReal => (show EReal from x (ix2 l k)) * y) (guDx_v39 a b nw sc l k)

/-- The residual stream's gradient in the reference, at an index. -/
theorem guDx_v54 (a : Vec Ideal Cert.GuDxIdeal.S4x2048x1408 .bf16) (b : Vec Ideal Cert.GuDxIdeal.S4x1024x1408 .bf16) (x : Vec Ideal Cert.GuDxIdeal.S2048x1024 .f32) (nw sc : Vec Ideal Cert.GuDxIdeal.S1x1024 .f32)
    (dxi : Vec Ideal Cert.GuDxIdeal.S2048x1024 .f32) (l : Fin 2048) (d : Fin 1024) :
    val_main_v54 (F := Ideal) a b x nw sc dxi (ix2 l d)
      = ((show EReal from dxi (ix2 l d)) + (dxhat a b nw sc l d * rms (row x l) + row x l d * msGrad (row x l) (dxhat a b nw sc l) + msGrad (row x l) (dxhat a b nw sc l) * row x l d) : EReal) := by
  have e39 := guDx_v39 a b nw sc l d
  have e48 := guDx_v48 a b x nw sc l
  have e10 := guDx_v10 x l
  rw [← e39, ← e48, ← e10]
  unfold val_main_v54 val_main_v53 val_main_v52 val_main_v51 val_main_v50 val_main_v49 val_main_v44 val_main_v43
  generalize val_main_v39 (F := Ideal) a b nw sc = g
  generalize val_main_v48 (F := Ideal) a b x nw sc = s
  generalize val_main_v10 (F := Ideal) x = r
  pointwise []
  rfl

/-- The residual stream's gradient in the reference. -/
theorem guDx_dx (a : Vec Ideal Cert.GuDxIdeal.S4x2048x1408 .bf16) (b : Vec Ideal Cert.GuDxIdeal.S4x1024x1408 .bf16) (x : Vec Ideal Cert.GuDxIdeal.S2048x1024 .f32) (nw sc : Vec Ideal Cert.GuDxIdeal.S1x1024 .f32)
    (dxi : Vec Ideal Cert.GuDxIdeal.S2048x1024 .f32) : val_main_v54 (F := Ideal) a b x nw sc dxi = Dx a b x nw sc dxi := by
  funext i
  idx_vars i
  exact (guDx_v54 a b x nw sc dxi i0 i1).trans (norm_grad (row x i0) (dxhat a b nw sc i0) (dxi (ix2 i0 i1)) i1)

/-- The kernel's call and the reference, from memories that agree on the arguments, end with equal results. -/
theorem guDx : Cert.algebraic_GuDxIdeal_GuDxRefIdeal (hGuDxIdeal := Cert.GuDxIdeal.Gen.facts) (hGuDxRefIdeal := Cert.GuDxRefIdeal.Gen.facts) := by
  intro m ρ m' ρ' _ hag
  refine ⟨_, _, _, _, Cert.GuDxIdeal.Hand.run m ρ, (θ_run _ _ _).mono (fun _ h c => ⟨(h c).1.trans ?_, (h c).2.1.trans ?_, (h c).2.2.1.trans ?_, (h c).2.2.2.1.trans ?_, (h c).2.2.2.2⟩) (Cert.GuDxRefIdeal.Value.run m' ρ')⟩
  · rw [val_main_v54_eq, (hag c).1, (hag c).2.1, (hag c).2.2.1, (hag c).2.2.2.1, (hag c).2.2.2.2.1, (hag c).2.2.2.2.2]
    exact guDx_dx _ _ _ _ _ _
  · rw [val_main_v37_eq, (hag c).1, (hag c).2.1, (hag c).2.2.1, (hag c).2.2.2.2.1]
    exact guDx_dnw _ _ _ _
  · rw [val_main_v32_eq, (hag c).1, (hag c).2.1, (hag c).2.2.1, (hag c).2.2.2.1]
    exact guDx_dsc _ _ _ _
  · rw [val_main_v29_eq, (hag c).1, (hag c).2.1]
    exact guDx_dsh _ _

end Cert.Proof

end
-- ==== Proof.GuDw.lean ====
/-
  Hand-written. The gradient of the FFN's `w_gu`: the kernel's call and the reference end with the same array, at
  every element the sum over the tokens of `a · df`.
-/
module

public import proofs.«01_k».proof.Defs
public import proofs.«01_k».proof.Proof.Gen.GuDwIdeal.Value
public import proofs.«01_k».proof.Proof.Gen.GuDwRefIdeal.Run
public import proofs.«01_k».proof.Proof.Gen.GuDwRefIdeal.Read
public import Idealize.ShloMosaic.Lib.Pipeline.Value
public import Idealize.ShloMosaic.Lib.Pointwise

@[expose] public section

set_option maxRecDepth 16384

noncomputable section

namespace Cert.GuDwIdeal.Hand

open Cert.GuDwIdeal Cert.GuDwIdeal.Gen Idealize.ShloMosaic Idealize.ShloMosaic.TcCoe Idealize.SL.Sem
open Idealize.ShloMosaic.Pipeline (Dat)

/-- The gradient of `w_gu`: at part `p`, row `d` and column `t` the sum over the tokens of `h[l, d] · dgu[p, l, t]`. -/
def G (h : Vec Ideal S2048x1024 .bf16) (dgu : Vec Ideal S4x2048x1408 .bf16) : Vec Ideal S4x1024x1408 .bf16 :=
  fun i => (∑ l : Fin 2048, (show EReal from h (ix2 l (i 1))) * (show EReal from dgu (ix3 (i 0) l (i 2))) : EReal)

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output's block, at an index. -/
theorem out_apply (x0 : Vec Ideal S2048x1024 .bf16) (x1 : Vec Ideal S1x2048x1408 .bf16) (j : S1x1024x1408.Idx) :
    out0_2 (F := Ideal) x0 x1 j = (∑ l : Fin 2048, (show EReal from x0 (ix2 l (j 1))) * (show EReal from x1 (ix3 (0 : Fin 1) l (j 2))) : EReal) := by
  unfold out0_2
  rw [View.canon_unit_zero hz3, View.ld_unit_zero hz2, View.ld_unit_zero hz3]
  idx_vars j
  pointwise [k0_pay1]

variable (m : (ℓ : Loc nD τ sig) → Buf (Elt Ideal) ℓ) (ρ : Dev nD → PrngReg)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

/-- The block of `h` is all of it. -/
theorem iblk0 (c : Dev nD) (t : Fin cfg0.N) (l : Fin 2048) (x : Fin 1024) :
    iblk m c 0 t (ix2 l x) = V m c main_arg0 (ix2 l x) := by
  obtain ⟨e0, e1⟩ := idx0 t
  show V m c main_arg0 (((cfg0.win 0).blk t).view.emb (ix2 l x)) = _
  congr 1
  funext a; apply Fin.ext
  match a with
  | ⟨0, _⟩ => show win0_0.index t (0 : Fin 2) * 2048 + 1 * l.val = l.val; omega
  | ⟨1, _⟩ => show win0_0.index t (1 : Fin 2) * 1024 + 1 * x.val = x.val; omega

/-- Block `t` of `dgu` is its part `t`. -/
theorem iblk1 (c : Dev nD) (t : Fin cfg0.N) (l : Fin 2048) (x : Fin 1408) :
    iblk m c 1 t (ix3 (0 : Fin 1) l x) = V m c main_arg1 (ix3 (⟨t.val, t.isLt⟩ : Fin 4) l x) := by
  obtain ⟨e0, e1, e2⟩ := idx1 t
  show V m c main_arg1 (((cfg0.win 1).blk t).view.emb (ix3 (0 : Fin 1) l x)) = _
  congr 1
  funext a; apply Fin.ext
  match a with
  | ⟨0, _⟩ => show win0_1.index t (0 : Fin 3) * 1 + 1 * 0 = t.val; omega
  | ⟨1, _⟩ => show win0_1.index t (1 : Fin 3) * 2048 + 1 * l.val = l.val; omega
  | ⟨2, _⟩ => show win0_1.index t (2 : Fin 3) * 1408 + 1 * x.val = x.val; omega

/-- Where an index of the output's block `t` lies in the result. -/
theorem emb2 (t : Fin cfg0.N) (j : S1x1024x1408.Idx) :
    ((cfg0.win 2).blk t).view.emb j = (ix3 (⟨t.val, t.isLt⟩ : Fin 4) (j 1) (j 2) : S4x1024x1408.Idx) := by
  obtain ⟨e0, e1, e2⟩ := idx2 t
  idx_vars j
  funext a; apply Fin.ext
  match a with
  | ⟨0, _⟩ => show win0_2.index t (0 : Fin 3) * 1 + 1 * (j0 : Fin 1).val = t.val; omega
  | ⟨1, _⟩ => show win0_2.index t (1 : Fin 3) * 1024 + 1 * j1.val = j1.val; omega
  | ⟨2, _⟩ => show win0_2.index t (2 : Fin 3) * 1408 + 1 * j2.val = j2.val; omega

/-- Each point writes back its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2]
  funext j
  show out0_2 (F := Ideal) (iblk m c 0 t) (iblk m c 1 t) j = G (V m c main_arg0) (V m c main_arg1) (((cfg0.win 2).blk t).view.emb j)
  rw [emb2, out_apply]
  show (∑ l : Fin 2048, _ : EReal) = (∑ l : Fin 2048, _ : EReal)
  refine Finset.sum_congr rfl fun l _ => ?_
  exact congrArg₂ (fun x y : EReal => x * y) (iblk0 m c t l (j 1)) (iblk1 m c t l (j 2))

/-- Every index of the result is in some point's block. -/
theorem covered (i : S4x1024x1408.Idx) :
    ∃ t : Fin cfg0.N, (cfg0.win 2).flush t = true ∧ i ∈ ((cfg0.win 2).blk t).view.set :=
  ⟨⟨(i 0).val, (i 0).isLt⟩, flush0_2 _, by
    have h := ((cfg0.win 2).blk ⟨(i 0).val, (i 0).isLt⟩).view.emb_mem_set (ix3 (0 : Fin 1) (i 1) (i 2) : S1x1024x1408.Idx)
    rw [emb2] at h
    exact (eq_ix3 i) ▸ h⟩

/-- The run: the result is `G` of the arguments, which end unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
      ((dats m 0 c).arrAt_eq_of_cover 2 _ (fun t _ => flushed_eq m c t) covered), (h c).2⟩) (Value.run_blocks m ρ)

end Cert.GuDwIdeal.Hand

namespace Cert.Proof

open Idealize.ShloMosaic Idealize.ShloMosaic.TcCoe Idealize.SL.Sem

/-- The reference's result, at an index. -/
theorem guDw_ref (h : Vec Ideal Cert.GuDwIdeal.S2048x1024 .bf16) (dgu : Vec Ideal Cert.GuDwIdeal.S4x2048x1408 .bf16) :
    Cert.GuDwRefIdeal.Read.val_main_v8 (F := Ideal) h dgu = Cert.GuDwIdeal.Hand.G h dgu := by
  funext j
  rw [Cert.GuDwRefIdeal.Read.val_main_v8_apply, Cert.GuDwRefIdeal.Read.val_main_v7_apply, Cert.GuDwRefIdeal.Read.val_main_v6_apply]
  show (∑ l : Fin 2048, _ : EReal) = (∑ l : Fin 2048, _ : EReal)
  refine Finset.sum_congr rfl fun l _ => ?_
  rw [mul_comm, Cert.GuDwRefIdeal.Read.val_main_v5_apply]
  idx_vars j
  refine congrArg₂ (fun x y : EReal => x * y) (congrArg h ?_) (congrArg dgu ?_)
  · funext x; match x with
    | ⟨0, _⟩ => rfl
    | ⟨1, _⟩ => rfl
  · funext x; match x with
    | ⟨0, _⟩ => rfl
    | ⟨1, _⟩ => rfl
    | ⟨2, _⟩ => rfl

/-- The kernel's call and the reference, from memories that agree on the arguments, end with equal results. -/
theorem guDw : Cert.algebraic_GuDwIdeal_GuDwRefIdeal (hGuDwIdeal := Cert.GuDwIdeal.Gen.facts) (hGuDwRefIdeal := Cert.GuDwRefIdeal.Gen.facts) := by
  intro m ρ m' ρ' _ hag
  refine ⟨fun c => Cert.GuDwIdeal.Hand.G (m ((c.tc : Thread Cert.GuDwIdeal.nD Cert.GuDwIdeal.τ).loc Cert.GuDwIdeal.main_arg0)) (m ((c.tc : Thread Cert.GuDwIdeal.nD Cert.GuDwIdeal.τ).loc Cert.GuDwIdeal.main_arg1)),
    Cert.GuDwIdeal.Hand.run m ρ, (θ_run _ _ _).mono (fun _ h c => ⟨(h c).1.trans ?_, (h c).2⟩) (Cert.GuDwRefIdeal.Value.run m' ρ')⟩
  rw [Cert.GuDwRefIdeal.Read.val_main_v8_eq, (hag c).1, (hag c).2]
  exact guDw_ref _ _

end Cert.Proof

end
-- ==== Proof.MixGateBwd.lean ====
/-
  Hand-written. The gradients of the mixer's residual `x + gate * (f + bias)`: the kernel's call and the reference end with the same three arrays, the gradients of
  the sub-layer's result, of the gate and of the result's bias.
-/
module

public import proofs.«01_k».proof.Defs
public import proofs.«01_k».proof.Proof.GateBwd
public import proofs.«01_k».proof.Proof.Gen.MixGateBwdIdeal.Value
public import proofs.«01_k».proof.Proof.Gen.MixGateBwdRefIdeal.Run
public import proofs.«01_k».proof.Proof.Gen.MixGateBwdRefIdeal.Read
public import proofs.«01_k».proof.Proof.Rms
public import Idealize.ShloMosaic.Lib.Pipeline.Value
public import Idealize.ShloMosaic.Lib.Pipeline.ValueKit
public import Idealize.ShloMosaic.Lib.Pointwise

@[expose] public section

set_option maxRecDepth 16384

noncomputable section

namespace Cert.MixGateBwdIdeal.Hand

open Cert.MixGateBwdIdeal Cert.MixGateBwdIdeal.Gen Idealize.ShloMosaic Idealize.ShloMosaic.TcCoe Idealize.SL.Sem
open Idealize.ShloMosaic.Pipeline (Dat)
open Cert.Proof (rows4 blockRow sum_tokens mul_sum4)

/-- The residual's factor. -/
def scale : EReal := Ideal.ofBits .f32 0x3F800000#32

theorem scale_nonneg : 0 ≤ scale := by
  unfold scale; rw [Cert.Proof.word_one]; exact zero_le_one

theorem scale_ne_top : scale ≠ ⊤ := by
  unfold scale; rw [Cert.Proof.word_one]; exact EReal.coe_ne_top 1

/-! ## The payloads at an index -/

theorem pay3_apply (dx : Vec Ideal S512x1024 .f32) (g : Vec Ideal S1x1024 .f32) (r : Fin 512) (d : Fin 1024) :
    k0_pay3 (F := Ideal) dx g (ix2 r d) = (scale * (show EReal from g (ix2 (0 : Fin 1) d)) * (show EReal from dx (ix2 r d)) : EReal) := by
  unfold scale
  pointwise [k0_pay3]

theorem pay4_apply (dx : Vec Ideal S512x1024 .f32) (g : Vec Ideal S1x1024 .f32) (r : Fin 512) (d : Fin 1024) :
    k0_pay4 (F := Ideal) dx g (ix2 r d) = (scale * (show EReal from g (ix2 (0 : Fin 1) d)) * (show EReal from dx (ix2 r d)) : EReal) :=
  pay3_apply dx g r d

theorem pay5_apply (dx : Vec Ideal S512x1024 .f32) (g w : Vec Ideal S1x1024 .f32) (d : Fin 1024) :
    k0_pay5 (F := Ideal) dx g w (ix2 (0 : Fin 1) d)
      = ((show EReal from w (ix2 (0 : Fin 1) d)) + ∑ r : Fin 512, scale * (show EReal from g (ix2 (0 : Fin 1) d)) * (show EReal from dx (ix2 r d)) : EReal) := by
  refine Eq.trans (b := ((show EReal from w (ix2 (0 : Fin 1) d)) + ∑ r : Fin 512, (show EReal from k0_pay3 (F := Ideal) dx g (ix2 r d)) : EReal)) ?_
    (congrArg (fun y : EReal => _ + y) (Finset.sum_congr rfl fun r _ => pay3_apply dx g r d))
  unfold k0_pay5
  generalize k0_pay3 (F := Ideal) dx g = v
  pointwise []

theorem pay6_apply (dx : Vec Ideal S512x1024 .f32) (w : Vec Ideal S1x1024 .f32) (f : Vec Ideal S512x1024 .f32) (d : Fin 1024) :
    k0_pay6 (F := Ideal) dx w f (ix2 (0 : Fin 1) d)
      = ((show EReal from w (ix2 (0 : Fin 1) d)) + scale * ∑ r : Fin 512, (show EReal from f (ix2 r d)) * (show EReal from dx (ix2 r d)) : EReal) := by
  unfold scale
  pointwise [k0_pay6]

theorem pay1_apply (d : Fin 1024) : k0_pay1 (F := Ideal) (ix2 (0 : Fin 1) d) = (0 : EReal) := Cert.GateBwdIdeal.Hand.pay1_apply d

theorem pay2_apply (d : Fin 1024) : k0_pay2 (F := Ideal) (ix2 (0 : Fin 1) d) = (0 : EReal) := Cert.GateBwdIdeal.Hand.pay2_apply d

variable (m : (ℓ : Loc nD τ sig) → Buf (Elt Ideal) ℓ) (ρ : Dev nD → PrngReg)

/-! ## What each point leaves -/

/-- What the point before left. -/
abbrev before (c : Dev nD) (t : Fin cfg0.N) := outsAt0 m c (t.val - 1) (Nat.lt_of_le_of_lt (Nat.sub_le _ _) t.isLt)

/-- What a point leaves in the block of the sub-layer's gradient. -/
theorem tile3 (c : Dev nD) (t : Fin cfg0.N) :
    (outsAt0 m c t.val t.isLt).1 = k0_pay4 (F := Ideal) (iblk m c 1 t) (iblk m c 2 t) := by
  by_cases h0 : t.val % 4 = 0
  · rw [outsAt0_A m c t h0]
    frame_out
  · rw [outsAt0_B m c t h0]
    frame_out

/-- What the first point leaves in the two rows. -/
theorem rows_first (c : Dev nD) (t : Fin cfg0.N) (h : t.val % 4 = 0) :
    (outsAt0 m c t.val t.isLt).2.1 = k0_pay6 (F := Ideal) (iblk m c 1 t) (k0_pay1 (F := Ideal)) (iblk m c 0 t)
      ∧ (outsAt0 m c t.val t.isLt).2.2 = k0_pay5 (F := Ideal) (iblk m c 1 t) (iblk m c 2 t) (k0_pay2 (F := Ideal)) := by
  rw [outsAt0_A m c t h]
  refine ⟨?_, ?_⟩ <;> frame_out

/-- What another point leaves there. -/
theorem rows_next (c : Dev nD) (t : Fin cfg0.N) (h : ¬t.val % 4 = 0) :
    (outsAt0 m c t.val t.isLt).2.1 = k0_pay6 (F := Ideal) (iblk m c 1 t) (before m c t).2.1 (iblk m c 0 t)
      ∧ (outsAt0 m c t.val t.isLt).2.2 = k0_pay5 (F := Ideal) (iblk m c 1 t) (iblk m c 2 t) (before m c t).2.2 := by
  rw [outsAt0_B m c t h]
  refine ⟨?_, ?_⟩ <;> frame_out

/-! ## The blocks the points work on, as in the FFN's call -/

/-- The block of tokens that point `t` works on. -/
def blkOf (t : Fin cfg0.N) : Fin 4 := ⟨t.val, t.isLt⟩

theorem iblk0 (c : Dev nD) (t : Fin cfg0.N) (r : Fin 512) (d : Fin 1024) :
    iblk m c 0 t (ix2 r d) = m ((c : Thread nD τ).loc main_arg0) (ix2 (blockRow (blkOf t) r) d) := Cert.GateBwdIdeal.Hand.iblk0 m c t r d

theorem iblk1 (c : Dev nD) (t : Fin cfg0.N) (r : Fin 512) (d : Fin 1024) :
    iblk m c 1 t (ix2 r d) = m ((c : Thread nD τ).loc main_arg1) (ix2 (blockRow (blkOf t) r) d) := Cert.GateBwdIdeal.Hand.iblk1 m c t r d

theorem iblk2 (c : Dev nD) (t : Fin cfg0.N) (d : Fin 1024) :
    iblk m c 2 t (ix2 (0 : Fin 1) d) = m ((c : Thread nD τ).loc main_arg2) (ix2 (0 : Fin 1) d) := Cert.GateBwdIdeal.Hand.iblk2 m c t d

/-- Where an index of an output's block lies in the result. -/
theorem emb3 (t : Fin cfg0.N) (j : S512x1024.Idx) :
    ((cfg0.win 3).blk t).view.emb j = (ix2 (blockRow (blkOf t) (j 0)) (j 1) : S2048x1024.Idx) := Cert.GateBwdIdeal.Hand.emb3 t j

theorem emb4 (t : Fin cfg0.N) (j : S1x1024.Idx) : ((cfg0.win 4).blk t).view.emb j = (j : S1x1024.Idx) := Cert.GateBwdIdeal.Hand.emb4 t j

theorem emb5 (t : Fin cfg0.N) (j : S1x1024.Idx) : ((cfg0.win 5).blk t).view.emb j = (j : S1x1024.Idx) := Cert.GateBwdIdeal.Hand.emb5 t j

/-! ## The results -/

/-- The gradient of the sub-layer's result. -/
def Df (dx : Vec Ideal S2048x1024 .f32) (g : Vec Ideal S1x1024 .f32) : Vec Ideal S2048x1024 .bf16 :=
  fun i => (scale * (show EReal from g (ix2 (0 : Fin 1) (i 1))) * (show EReal from dx (ix2 (i 0) (i 1))) : EReal)

/-- The gradient of the gate. -/
def Dg (f dx : Vec Ideal S2048x1024 .f32) : Vec Ideal S1x1024 .f32 :=
  fun i => (scale * ∑ l : Fin 2048, (show EReal from f (ix2 l (i 1))) * (show EReal from dx (ix2 l (i 1))) : EReal)

/-- The gradient of the bias: the sum of the first over the tokens. -/
def Db (dx : Vec Ideal S2048x1024 .f32) (g : Vec Ideal S1x1024 .f32) : Vec Ideal S1x1024 .f32 :=
  fun i => (∑ l : Fin 2048, scale * (show EReal from g (ix2 (0 : Fin 1) (i 1))) * (show EReal from dx (ix2 l (i 1))) : EReal)

/-- Each point writes back its block of the sub-layer's gradient. -/
theorem flushed_Df (c : Dev nD) (t : Fin cfg0.N) :
    (dats m 0 c).flushed 3 t = ((cfg0.win 3).blk t).view.read (Elt Ideal) (Df (m ((c : Thread nD τ).loc main_arg1)) (m ((c : Thread nD τ).loc main_arg2))) := by
  rw [Value.flushed3]
  funext j
  show (outsAt0 m c t.val t.isLt).1 j = Df _ _ (((cfg0.win 3).blk t).view.emb j)
  rw [emb3, tile3]
  idx_vars j
  rw [pay4_apply]
  exact congrArg₂ (fun x y : EReal => scale * x * y) (iblk2 m c t j1) (iblk1 m c t j0 j1)

/-- The grid's last point. -/
abbrev lastPt : Fin cfg0.N := ⟨3, by show 3 < 4; omega⟩

theorem last_point (t : Fin cfg0.N) (h : t.val % 4 = 3) : t = lastPt := Cert.GateBwdIdeal.Hand.last_point t h

/-- What is written back of the gate's gradient. -/
theorem flushed_Dg (c : Dev nD) (t : Fin cfg0.N) (hf : (cfg0.win 4).flush t = true) :
    (dats m 0 c).flushed 4 t = ((cfg0.win 4).blk t).view.read (Elt Ideal) (Dg (m ((c : Thread nD τ).loc main_arg0)) (m ((c : Thread nD τ).loc main_arg1))) := by
  obtain rfl := last_point t ((flush0_4 t).mp hf)
  rw [Value.flushed4]
  funext j
  refine Eq.trans (b := Dg (m ((c : Thread nD τ).loc main_arg0)) (m ((c : Thread nD τ).loc main_arg1)) j) ?_ (congrArg (Dg (m ((c : Thread nD τ).loc main_arg0)) (m ((c : Thread nD τ).loc main_arg1))) (emb4 lastPt j).symm)
  idx_vars j
  fin_cases j0
  have step : ∀ (w : Vec Ideal S1x1024 .f32) (n : ℕ) (hn : n < cfg0.N), k0_pay6 (F := Ideal) (iblk m c 1 ⟨n, hn⟩) w (iblk m c 0 ⟨n, hn⟩) (ix2 (0 : Fin 1) j1)
      = ((show EReal from w (ix2 (0 : Fin 1) j1)) + scale * ∑ r : Fin 512, (show EReal from m ((c : Thread nD τ).loc main_arg0) (ix2 (blockRow (blkOf ⟨n, hn⟩) r) j1)) * (show EReal from m ((c : Thread nD τ).loc main_arg1) (ix2 (blockRow (blkOf ⟨n, hn⟩) r) j1)) : EReal) := fun w n hn =>
    (pay6_apply _ _ _ j1).trans (congrArg (fun y : EReal => _ + scale * y) (Finset.sum_congr rfl fun r _ =>
      congrArg₂ (fun x y : EReal => x * y) (iblk0 m c ⟨n, hn⟩ r j1) (iblk1 m c ⟨n, hn⟩ r j1)))
  refine (rows4 (fun n hn => ((outsAt0 m c n hn).2.1 (ix2 (0 : Fin 1) j1) : EReal))
    (fun i => scale * ∑ r : Fin 512, (show EReal from m ((c : Thread nD τ).loc main_arg0) (ix2 (blockRow i r) j1)) * (show EReal from m ((c : Thread nD τ).loc main_arg1) (ix2 (blockRow i r) j1))) ?_ (fun n hn => ?_)).trans ?_
  · refine (congrFun (rows_first m c ⟨0, by show 0 < 4; omega⟩ rfl).1 (ix2 (0 : Fin 1) j1)).trans ((step _ 0 _).trans ?_)
    rw [pay1_apply]
    exact zero_add _
  · exact (congrFun (rows_next m c ⟨n + 1, hn⟩ (by show ¬(n + 1) % 4 = 0; omega)).1 (ix2 (0 : Fin 1) j1)).trans (step _ (n + 1) hn)
  · rw [← mul_sum4 scale_nonneg scale_ne_top]
    exact congrArg (fun y : EReal => scale * y) (sum_tokens (fun l => (show EReal from m ((c : Thread nD τ).loc main_arg0) (ix2 l j1)) * (show EReal from m ((c : Thread nD τ).loc main_arg1) (ix2 l j1)))).symm

/-- What is written back of the bias's gradient. -/
theorem flushed_Db (c : Dev nD) (t : Fin cfg0.N) (hf : (cfg0.win 5).flush t = true) :
    (dats m 0 c).flushed 5 t = ((cfg0.win 5).blk t).view.read (Elt Ideal) (Db (m ((c : Thread nD τ).loc main_arg1)) (m ((c : Thread nD τ).loc main_arg2))) := by
  obtain rfl := last_point t ((flush0_5 t).mp hf)
  rw [Value.flushed5]
  funext j
  refine Eq.trans (b := Db (m ((c : Thread nD τ).loc main_arg1)) (m ((c : Thread nD τ).loc main_arg2)) j) ?_ (congrArg (Db (m ((c : Thread nD τ).loc main_arg1)) (m ((c : Thread nD τ).loc main_arg2))) (emb5 lastPt j).symm)
  idx_vars j
  fin_cases j0
  have step : ∀ (w : Vec Ideal S1x1024 .f32) (n : ℕ) (hn : n < cfg0.N), k0_pay5 (F := Ideal) (iblk m c 1 ⟨n, hn⟩) (iblk m c 2 ⟨n, hn⟩) w (ix2 (0 : Fin 1) j1)
      = ((show EReal from w (ix2 (0 : Fin 1) j1)) + ∑ r : Fin 512, scale * (show EReal from m ((c : Thread nD τ).loc main_arg2) (ix2 (0 : Fin 1) j1)) * (show EReal from m ((c : Thread nD τ).loc main_arg1) (ix2 (blockRow (blkOf ⟨n, hn⟩) r) j1)) : EReal) := fun w n hn =>
    (pay5_apply _ _ _ j1).trans (congrArg (fun y : EReal => _ + y) (Finset.sum_congr rfl fun r _ =>
      congrArg₂ (fun x y : EReal => scale * x * y) (iblk2 m c ⟨n, hn⟩ j1) (iblk1 m c ⟨n, hn⟩ r j1)))
  refine (rows4 (fun n hn => ((outsAt0 m c n hn).2.2 (ix2 (0 : Fin 1) j1) : EReal))
    (fun i => ∑ r : Fin 512, scale * (show EReal from m ((c : Thread nD τ).loc main_arg2) (ix2 (0 : Fin 1) j1)) * (show EReal from m ((c : Thread nD τ).loc main_arg1) (ix2 (blockRow i r) j1))) ?_ (fun n hn => ?_)).trans ?_
  · refine (congrFun (rows_first m c ⟨0, by show 0 < 4; omega⟩ rfl).2 (ix2 (0 : Fin 1) j1)).trans ((step _ 0 _).trans ?_)
    rw [pay2_apply]
    exact zero_add _
  · exact (congrFun (rows_next m c ⟨n + 1, hn⟩ (by show ¬(n + 1) % 4 = 0; omega)).2 (ix2 (0 : Fin 1) j1)).trans (step _ (n + 1) hn)
  · exact (sum_tokens (fun l => scale * (show EReal from m ((c : Thread nD τ).loc main_arg2) (ix2 (0 : Fin 1) j1)) * (show EReal from m ((c : Thread nD τ).loc main_arg1) (ix2 l j1)))).symm

/-- Every index of a result is in some point's block. -/
theorem covered3 (i : S2048x1024.Idx) :
    ∃ t : Fin cfg0.N, (cfg0.win 3).flush t = true ∧ i ∈ ((cfg0.win 3).blk t).view.set := Cert.GateBwdIdeal.Hand.covered3 i

theorem covered4 (i : S1x1024.Idx) : ∃ t : Fin cfg0.N, (cfg0.win 4).flush t = true ∧ i ∈ ((cfg0.win 4).blk t).view.set := Cert.GateBwdIdeal.Hand.covered4 i

theorem covered5 (i : S1x1024.Idx) : ∃ t : Fin cfg0.N, (cfg0.win 5).flush t = true ∧ i ∈ ((cfg0.win 5).blk t).view.set := Cert.GateBwdIdeal.Hand.covered5 i

/-- The run: the three results are the gradients of the arguments, which end unchanged. -/
theorem run : θ_run defs (onTc (τ := τ) (main (F := Ideal))) ⟨m, fun _ => 0, ρ⟩ fun r => ∀ c : Dev nD,
      r.2.mem ((c : Thread nD τ).loc main_v0_0) = Df (m ((c : Thread nD τ).loc main_arg1)) (m ((c : Thread nD τ).loc main_arg2))
      ∧ r.2.mem ((c : Thread nD τ).loc main_v0_1) = Dg (m ((c : Thread nD τ).loc main_arg0)) (m ((c : Thread nD τ).loc main_arg1))
      ∧ r.2.mem ((c : Thread nD τ).loc main_v0_2) = Db (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨
      (h c).1.trans ((dats m 0 c).arrAt_eq_of_cover 3 _ (fun t _ => flushed_Df m c t) covered3),
      (h c).2.1.trans ((dats m 0 c).arrAt_eq_of_cover 4 _ (fun t hf => flushed_Dg m c t hf) covered4),
      (h c).2.2.1.trans ((dats m 0 c).arrAt_eq_of_cover 5 _ (fun t hf => flushed_Db m c t hf) covered5), (h c).2.2.2⟩) (Value.run_blocks m ρ)

end Cert.MixGateBwdIdeal.Hand

namespace Cert.Proof

open Idealize.ShloMosaic Idealize.ShloMosaic.TcCoe Idealize.SL.Sem
open Cert.MixGateBwdIdeal.Hand (Df Dg Db scale)
open Cert.MixGateBwdRefIdeal.Read

/-- The sub-layer's gradient in the reference. -/
theorem mixGateBwd_df (dx : Vec Ideal Cert.MixGateBwdIdeal.S2048x1024 .f32) (g : Vec Ideal Cert.MixGateBwdIdeal.S1x1024 .f32) :
    val_main_v12 (F := Ideal) dx g = Df dx g := by
  funext j
  idx_vars j
  show _ = (scale * (show EReal from g (ix2 (0 : Fin 1) j1)) * (show EReal from dx (ix2 j0 j1)) : EReal)
  simp only [scale, word_one, one_mul]
  pointwise [val_main_v12, val_main_v6, val_main_v5]

/-- The gate's gradient in the reference. -/
theorem mixGateBwd_dg (f dx : Vec Ideal Cert.MixGateBwdIdeal.S2048x1024 .f32) : val_main_v9 (F := Ideal) f dx = Dg f dx := by
  funext j
  idx_vars j
  fin_cases j0
  refine Eq.trans (b := (scale * ∑ l : Fin 2048, (show EReal from dx (ix2 l j1)) * (show EReal from f (ix2 l j1)) : EReal)) ?_
    (congrArg (fun y : EReal => scale * y) (Finset.sum_congr rfl fun l _ => mul_comm _ _))
  simp only [scale, word_one, one_mul]
  pointwise [val_main_v9, val_main_v8, val_main_cst_0, val_main_v7, val_main_v2, val_main_v1, val_main_v0, val_main_cst]

/-- The bias's gradient in the reference. -/
theorem mixGateBwd_db (dx : Vec Ideal Cert.MixGateBwdIdeal.S2048x1024 .f32) (g : Vec Ideal Cert.MixGateBwdIdeal.S1x1024 .f32) :
    val_main_v11 (F := Ideal) dx g = Db dx g := by
  funext j
  idx_vars j
  fin_cases j0
  show _ = (∑ l : Fin 2048, scale * (show EReal from g (ix2 (0 : Fin 1) j1)) * (show EReal from dx (ix2 l j1)) : EReal)
  simp only [scale, word_one, one_mul]
  pointwise [val_main_v11, val_main_v10, val_main_cst_1, val_main_v6, val_main_v5]

/-- The kernel's call and the reference, from memories that agree on the arguments, end with equal results. -/
theorem mixGateBwd : Cert.algebraic_MixGateBwdIdeal_MixGateBwdRefIdeal (hMixGateBwdIdeal := Cert.MixGateBwdIdeal.Gen.facts) (hMixGateBwdRefIdeal := Cert.MixGateBwdRefIdeal.Gen.facts) := by
  intro m ρ m' ρ' _ hag
  refine ⟨_, _, _, Cert.MixGateBwdIdeal.Hand.run m ρ, (θ_run _ _ _).mono (fun _ h c => ⟨(h c).1.trans ?_, (h c).2.1.trans ?_, (h c).2.2.1.trans ?_, (h c).2.2.2⟩) (Cert.MixGateBwdRefIdeal.Value.run m' ρ')⟩
  · rw [val_main_v12_eq, (hag c).2.1, (hag c).2.2]
    exact mixGateBwd_df _ _
  · rw [val_main_v9_eq, (hag c).1, (hag c).2.1]
    exact mixGateBwd_dg _ _
  · rw [val_main_v11_eq, (hag c).2.1, (hag c).2.2]
    exact mixGateBwd_db _ _

end Cert.Proof

end
-- ==== Proof.SsmInDx.lean ====
/-
  Hand-written. The gradient through the state-space layer's input projection, its modulation and its norm: the kernel's call and the
  reference end with the same four arrays, the gradients of the residual stream, of the norm's weight, of the scale and of
  the shift.
-/
module

public import proofs.«01_k».proof.Defs
public import proofs.«01_k».proof.Proof.GuDx
public import proofs.«01_k».proof.Proof.Gen.SsmInDxIdeal.Value
public import proofs.«01_k».proof.Proof.Gen.SsmInDxRefIdeal.Run
public import proofs.«01_k».proof.Proof.Gen.SsmInDxRefIdeal.Read
public import proofs.«01_k».proof.Proof.Rms
public import Idealize.ShloMosaic.Lib.Pipeline.Value
public import Idealize.ShloMosaic.Lib.Pipeline.ValueKit
public import Idealize.ShloMosaic.Lib.Pointwise

@[expose] public section

set_option maxRecDepth 16384

noncomputable section

namespace Cert.SsmInDxIdeal.Hand

open Cert.SsmInDxIdeal Cert.SsmInDxIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

open Cert.Proof (ms rms normGrad msGrad acc_total rows_total blockRow sum_tokens)

/-! ## The payloads at an index -/

theorem pay8_apply (x : Vec Ideal S512x1024 .f32) (r : Fin 512) :
    k0_pay8 (F := Ideal) x (ix2 r (0 : Fin 1)) = (rms (fun k => x (ix2 r k)) : EReal) := by
  pointwise [k0_pay8]
  rfl

theorem pay9_apply (x : Vec Ideal S512x1024 .f32) (r : Fin 512) (d : Fin 1024) :
    k0_pay9 (F := Ideal) x (ix2 r d) = ((show EReal from x (ix2 r d)) * rms (fun k => x (ix2 r k)) : EReal) := by
  rw [← pay8_apply]
  unfold k0_pay9
  generalize k0_pay8 (F := Ideal) x = r8
  pointwise []

theorem pay10_apply (v : Vec Ideal S512x1024 .f32) (w : Vec Ideal S1x1024 .f32) (d : Fin 1024) :
    k0_pay10 (F := Ideal) v w (ix2 (0 : Fin 1) d) = ((show EReal from w (ix2 (0 : Fin 1) d)) + ∑ r : Fin 512, (show EReal from v (ix2 r d)) : EReal) := by
  pointwise [k0_pay10]

theorem pay5_apply (v : Vec Ideal S512x1024 .f32) (a : Vec Ideal S1x512x1544 .bf16) (b : Vec Ideal S1x1024x1544 .bf16) (r : Fin 512) (d : Fin 1024) :
    k0_pay5 (F := Ideal) v a b (ix2 r d)
      = ((show EReal from v (ix2 r d)) + ∑ k : Fin 1544, (show EReal from a (ix3 (0 : Fin 1) r k)) * (show EReal from b (ix3 (0 : Fin 1) d k)) : EReal) := by
  pointwise [k0_pay5]

theorem pay11_apply (v x : Vec Ideal S512x1024 .f32) (n w : Vec Ideal S1x1024 .f32) (d : Fin 1024) :
    k0_pay11 (F := Ideal) v x n w (ix2 (0 : Fin 1) d)
      = ((show EReal from w (ix2 (0 : Fin 1) d))
        + ∑ r : Fin 512, (show EReal from v (ix2 r d)) * ((show EReal from k0_pay9 (F := Ideal) x (ix2 r d)) * (show EReal from n (ix2 (0 : Fin 1) d))) : EReal) := by
  unfold k0_pay11
  generalize k0_pay9 (F := Ideal) x = r9
  pointwise []

theorem pay12_apply (v : Vec Ideal S512x1024 .f32) (s : Vec Ideal S1x1024 .f32) (r : Fin 512) (d : Fin 1024) :
    k0_pay12 (F := Ideal) v s (ix2 r d) = ((show EReal from v (ix2 r d)) * (1 + (show EReal from s (ix2 (0 : Fin 1) d))) : EReal) := by
  pointwise [k0_pay12]

theorem pay6_apply (h v : Vec Ideal S512x1024 .f32) (w : Vec Ideal S1x1024 .f32) (d : Fin 1024) :
    k0_pay6 (F := Ideal) h v w (ix2 (0 : Fin 1) d)
      = ((show EReal from w (ix2 (0 : Fin 1) d)) + ∑ r : Fin 512, (show EReal from v (ix2 r d)) * (show EReal from h (ix2 r d)) : EReal) := by
  pointwise [k0_pay6]

theorem pay7_apply (r8 : Vec Ideal S512x1 .f32) (h : Vec Ideal S512x1024 .f32) (n : Vec Ideal S1x1024 .f32) (v x : Vec Ideal S512x1024 .f32)
    (r : Fin 512) (d : Fin 1024) :
    k0_pay7 (F := Ideal) r8 h n v x (ix2 r d)
      = ((show EReal from x (ix2 r d)) + (show EReal from r8 (ix2 r (0 : Fin 1))) * ((show EReal from v (ix2 r d)) * (show EReal from n (ix2 (0 : Fin 1) d))
          - (show EReal from h (ix2 r d)) * Ideal.div (∑ k : Fin 1024, (show EReal from v (ix2 r k)) * (show EReal from n (ix2 (0 : Fin 1) k)) * (show EReal from h (ix2 r k))) (Ideal.ofBits .f32 0x44800000#32)) : EReal) := by
  pointwise [k0_pay7]

theorem pay1_apply (d : Fin 1024) : k0_pay1 (F := Ideal) (ix2 (0 : Fin 1) d) = (0 : EReal) := by
  pointwise [k0_pay1]

theorem pay2_apply (d : Fin 1024) : k0_pay2 (F := Ideal) (ix2 (0 : Fin 1) d) = (0 : EReal) := by
  pointwise [k0_pay2]

theorem pay3_apply (d : Fin 1024) : k0_pay3 (F := Ideal) (ix2 (0 : Fin 1) d) = (0 : EReal) := by
  pointwise [k0_pay3]

theorem pay4_apply (r : Fin 512) (d : Fin 1024) : k0_pay4 (F := Ideal) (ix2 r d) = (0 : EReal) := by
  pointwise [k0_pay4]

/-! ## What each point leaves -/

/-- What the point before left. -/
abbrev before (c : Dev nD) (t : Fin cfg0.N) := outsAt0 m c (t.val - 1) (Nat.lt_of_le_of_lt (Nat.sub_le _ _) t.isLt)

/-- What a point of part 0 leaves in the accumulator. -/
theorem acc_first (c : Dev nD) (t : Fin cfg0.N) (h : t.val % 4 = 0) :
    (outsAt0 m c t.val t.isLt).2.2.2.2 = k0_pay5 (F := Ideal) (k0_pay4 (F := Ideal)) (iblk m c 0 t) (iblk m c 1 t) := by
  by_cases h0 : t.val % 16 = 0
  · rw [outsAt0_A m c t h0 h (by omega)]
    frame_out
  · rw [outsAt0_D m c t h0 h (by omega)]
    frame_out

/-- What a point of another part leaves there. -/
theorem acc_next (c : Dev nD) (t : Fin cfg0.N) (h : ¬t.val % 4 = 0) :
    (outsAt0 m c t.val t.isLt).2.2.2.2 = k0_pay5 (F := Ideal) (before m c t).2.2.2.2 (iblk m c 0 t) (iblk m c 1 t) := by
  by_cases h0 : t.val % 4 = 3
  · rw [outsAt0_C m c t (by omega) h h0]
    frame_out
    exact congrArg (fun a => k0_pay5 (F := Ideal) a (iblk m c 0 t) (iblk m c 1 t)) ((Memref.isWhole_whole cc0_scratch0).read_unread _)
  · rw [outsAt0_B m c t (by omega) h h0]
    frame_out
    exact congrArg (fun a => k0_pay5 (F := Ideal) a (iblk m c 0 t) (iblk m c 1 t)) ((Memref.isWhole_whole cc0_scratch0).read_unread _)

/-- The first point leaves zero in the three rows. -/
theorem rows_first (c : Dev nD) (t : Fin cfg0.N) (h : t.val % 16 = 0) :
    (outsAt0 m c t.val t.isLt).2.1 = k0_pay1 (F := Ideal) ∧ (outsAt0 m c t.val t.isLt).2.2.1 = k0_pay2 (F := Ideal)
      ∧ (outsAt0 m c t.val t.isLt).2.2.2.1 = k0_pay3 (F := Ideal) := by
  rw [outsAt0_A m c t h (by omega) (by omega)]
  refine ⟨?_, ?_, ?_⟩ <;> frame_out

/-- The points of the parts before the last leave the rows as they were. -/
theorem rows_keep (c : Dev nD) (t : Fin cfg0.N) (h : ¬t.val % 16 = 0) (h3 : ¬t.val % 4 = 3) :
    (outsAt0 m c t.val t.isLt).2.1 = (before m c t).2.1 ∧ (outsAt0 m c t.val t.isLt).2.2.1 = (before m c t).2.2.1
      ∧ (outsAt0 m c t.val t.isLt).2.2.2.1 = (before m c t).2.2.2.1 := by
  by_cases h0 : t.val % 4 = 0
  · rw [outsAt0_D m c t h h0 h3]
    exact ⟨rfl, rfl, rfl⟩
  · rw [outsAt0_B m c t h h0 h3]
    exact ⟨rfl, rfl, rfl⟩

/-- What the last part's point leaves in the shift's row. -/
theorem row9 (c : Dev nD) (t : Fin cfg0.N) (h3 : t.val % 4 = 3) :
    (outsAt0 m c t.val t.isLt).2.2.2.1 = k0_pay10 (F := Ideal) (outsAt0 m c t.val t.isLt).2.2.2.2 (before m c t).2.2.2.1 := by
  rw [acc_next m c t (by omega), outsAt0_C m c t (by omega) (by omega) h3]
  frame_out
  exact congrArg (fun a => k0_pay10 (F := Ideal) (k0_pay5 (F := Ideal) a (iblk m c 0 t) (iblk m c 1 t)) (before m c t).2.2.2.1) ((Memref.isWhole_whole cc0_scratch0).read_unread _)

/-- What it leaves in the scale's row. -/
theorem row8 (c : Dev nD) (t : Fin cfg0.N) (h3 : t.val % 4 = 3) :
    (outsAt0 m c t.val t.isLt).2.2.1 = k0_pay11 (F := Ideal) (outsAt0 m c t.val t.isLt).2.2.2.2 (iblk m c 2 t) (iblk m c 3 t) (before m c t).2.2.1 := by
  rw [acc_next m c t (by omega), outsAt0_C m c t (by omega) (by omega) h3]
  frame_out
  exact congrArg (fun a => k0_pay11 (F := Ideal) (k0_pay5 (F := Ideal) a (iblk m c 0 t) (iblk m c 1 t)) (iblk m c 2 t) (iblk m c 3 t) (before m c t).2.2.1) ((Memref.isWhole_whole cc0_scratch0).read_unread _)

/-- What it leaves in the norm weight's row. -/
theorem row7 (c : Dev nD) (t : Fin cfg0.N) (h3 : t.val % 4 = 3) :
    (outsAt0 m c t.val t.isLt).2.1 = k0_pay6 (F := Ideal) (k0_pay9 (F := Ideal) (iblk m c 2 t)) (k0_pay12 (F := Ideal) (outsAt0 m c t.val t.isLt).2.2.2.2 (iblk m c 4 t)) (before m c t).2.1 := by
  rw [acc_next m c t (by omega), outsAt0_C m c t (by omega) (by omega) h3]
  frame_out
  exact congrArg (fun a => k0_pay6 (F := Ideal) (k0_pay9 (F := Ideal) (iblk m c 2 t)) (k0_pay12 (F := Ideal) (k0_pay5 (F := Ideal) a (iblk m c 0 t) (iblk m c 1 t)) (iblk m c 4 t)) (before m c t).2.1) ((Memref.isWhole_whole cc0_scratch0).read_unread _)

/-- What it leaves in the residual stream's block. -/
theorem tile6 (c : Dev nD) (t : Fin cfg0.N) (h3 : t.val % 4 = 3) :
    (outsAt0 m c t.val t.isLt).1 = k0_pay7 (F := Ideal) (k0_pay8 (F := Ideal) (iblk m c 2 t)) (k0_pay9 (F := Ideal) (iblk m c 2 t)) (iblk m c 3 t)
      (k0_pay12 (F := Ideal) (outsAt0 m c t.val t.isLt).2.2.2.2 (iblk m c 4 t)) (iblk m c 5 t) := by
  rw [acc_next m c t (by omega), outsAt0_C m c t (by omega) (by omega) h3]
  frame_out
  exact congrArg (fun a => k0_pay7 (F := Ideal) (k0_pay8 (F := Ideal) (iblk m c 2 t)) (k0_pay9 (F := Ideal) (iblk m c 2 t)) (iblk m c 3 t) (k0_pay12 (F := Ideal) (k0_pay5 (F := Ideal) a (iblk m c 0 t) (iblk m c 1 t)) (iblk m c 4 t)) (iblk m c 5 t)) ((Memref.isWhole_whole cc0_scratch0).read_unread _)

/-! ## The blocks the points work on -/

theorem idx0 : ∀ t : Fin cfg0.N, win0_0.index t (0 : Fin 3) = t.val % 4 ∧ win0_0.index t (1 : Fin 3) = t.val / 4 ∧ win0_0.index t (2 : Fin 3) = 0 :=
  (by decide +kernel : ∀ t : Fin grid0.N, _)
theorem idx1 : ∀ t : Fin cfg0.N, win0_1.index t (0 : Fin 3) = t.val % 4 ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val / 4 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val / 4 ∧ win0_5.index t (1 : Fin 2) = 0 :=
  (by decide +kernel : ∀ t : Fin grid0.N, _)
theorem idx6 : ∀ t : Fin cfg0.N, win0_6.index t (0 : Fin 2) = t.val / 4 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)

/-- The part that point `t` works on. -/
def pt (t : Fin cfg0.N) : Fin 4 := ⟨t.val % 4, by omega⟩
/-- The block of tokens that it works on. -/
def blkOf (t : Fin cfg0.N) : Fin 4 := ⟨t.val / 4, by have h' : t.val < 16 := t.isLt; omega⟩

theorem iblk0 (c : Dev nD) (t : Fin cfg0.N) (r : Fin 512) (k : Fin 1544) :
    iblk m c 0 t (ix3 (0 : Fin 1) r k) = m ((c : Thread nD τ).loc main_arg0) (ix3 (pt t) (blockRow (blkOf t) r) k) := by
  obtain ⟨e0, e1, e2⟩ := idx0 t
  show V m c main_arg0 (((cfg0.win 0).blk t).view.emb (ix3 (0 : Fin 1) r k)) = _
  refine Eq.trans ?_ (congrFun (V_main_arg0 m c) _)
  congr 1
  funext a; apply Fin.ext
  match a with
  | ⟨0, _⟩ => show win0_0.index t (0 : Fin 3) * 1 + 1 * 0 = t.val % 4; omega
  | ⟨1, _⟩ => show win0_0.index t (1 : Fin 3) * 512 + 1 * r.val = t.val / 4 * 512 + r.val; omega
  | ⟨2, _⟩ => show win0_0.index t (2 : Fin 3) * 1544 + 1 * k.val = k.val; omega

theorem iblk1 (c : Dev nD) (t : Fin cfg0.N) (d : Fin 1024) (k : Fin 1544) :
    iblk m c 1 t (ix3 (0 : Fin 1) d k) = m ((c : Thread nD τ).loc main_arg1) (ix3 (pt t) d k) := by
  obtain ⟨e0, e1, e2⟩ := idx1 t
  show V m c main_arg1 (((cfg0.win 1).blk t).view.emb (ix3 (0 : Fin 1) d k)) = _
  refine Eq.trans ?_ (congrFun (V_main_arg1 m c) _)
  congr 1
  funext a; apply Fin.ext
  match a with
  | ⟨0, _⟩ => show win0_1.index t (0 : Fin 3) * 1 + 1 * 0 = t.val % 4; omega
  | ⟨1, _⟩ => show win0_1.index t (1 : Fin 3) * 1024 + 1 * d.val = d.val; omega
  | ⟨2, _⟩ => show win0_1.index t (2 : Fin 3) * 1544 + 1 * k.val = k.val; omega

theorem iblk2 (c : Dev nD) (t : Fin cfg0.N) (r : Fin 512) (d : Fin 1024) :
    iblk m c 2 t (ix2 r d) = m ((c : Thread nD τ).loc main_arg2) (ix2 (blockRow (blkOf t) r) d) := by
  obtain ⟨e0, e1⟩ := idx2 t
  show V m c main_arg2 (((cfg0.win 2).blk t).view.emb (ix2 r d)) = _
  refine Eq.trans ?_ (congrFun (V_main_arg2 m c) _)
  congr 1
  funext a; apply Fin.ext
  match a with
  | ⟨0, _⟩ => show win0_2.index t (0 : Fin 2) * 512 + 1 * r.val = t.val / 4 * 512 + r.val; omega
  | ⟨1, _⟩ => show win0_2.index t (1 : Fin 2) * 1024 + 1 * d.val = d.val; omega

theorem iblk5 (c : Dev nD) (t : Fin cfg0.N) (r : Fin 512) (d : Fin 1024) :
    iblk m c 5 t (ix2 r d) = m ((c : Thread nD τ).loc main_arg5) (ix2 (blockRow (blkOf t) r) d) := by
  obtain ⟨e0, e1⟩ := idx5 t
  show V m c main_arg5 (((cfg0.win 5).blk t).view.emb (ix2 r d)) = _
  refine Eq.trans ?_ (congrFun (V_main_arg5 m c) _)
  congr 1
  funext a; apply Fin.ext
  match a with
  | ⟨0, _⟩ => show win0_5.index t (0 : Fin 2) * 512 + 1 * r.val = t.val / 4 * 512 + r.val; omega
  | ⟨1, _⟩ => show win0_5.index t (1 : Fin 2) * 1024 + 1 * d.val = d.val; omega

theorem iblk3 (c : Dev nD) (t : Fin cfg0.N) (d : Fin 1024) :
    iblk m c 3 t (ix2 (0 : Fin 1) d) = m ((c : Thread nD τ).loc main_arg3) (ix2 (0 : Fin 1) d) := by
  obtain ⟨e0, e1⟩ := idx3 t
  show V m c main_arg3 (((cfg0.win 3).blk t).view.emb (ix2 (0 : Fin 1) d)) = _
  refine Eq.trans ?_ (congrFun (V_main_arg3 m c) _)
  congr 1
  funext a; apply Fin.ext
  match a with
  | ⟨0, _⟩ => show win0_3.index t (0 : Fin 2) * 1 + 1 * 0 = 0; omega
  | ⟨1, _⟩ => show win0_3.index t (1 : Fin 2) * 1024 + 1 * d.val = d.val; omega

theorem iblk4 (c : Dev nD) (t : Fin cfg0.N) (d : Fin 1024) :
    iblk m c 4 t (ix2 (0 : Fin 1) d) = m ((c : Thread nD τ).loc main_arg4) (ix2 (0 : Fin 1) d) := by
  obtain ⟨e0, e1⟩ := idx4 t
  show V m c main_arg4 (((cfg0.win 4).blk t).view.emb (ix2 (0 : Fin 1) d)) = _
  refine Eq.trans ?_ (congrFun (V_main_arg4 m c) _)
  congr 1
  funext a; apply Fin.ext
  match a with
  | ⟨0, _⟩ => show win0_4.index t (0 : Fin 2) * 1 + 1 * 0 = 0; omega
  | ⟨1, _⟩ => show win0_4.index t (1 : Fin 2) * 1024 + 1 * d.val = d.val; omega

/-- Where an index of an output's block lies in the result. -/
theorem emb6 (t : Fin cfg0.N) (j : S512x1024.Idx) :
    ((cfg0.win 6).blk t).view.emb j = (ix2 (blockRow (blkOf t) (j 0)) (j 1) : S2048x1024.Idx) := by
  obtain ⟨e0, e1⟩ := idx6 t
  idx_vars j
  funext a; apply Fin.ext
  match a with
  | ⟨0, _⟩ => show win0_6.index t (0 : Fin 2) * 512 + 1 * j0.val = t.val / 4 * 512 + j0.val; omega
  | ⟨1, _⟩ => show win0_6.index t (1 : Fin 2) * 1024 + 1 * j1.val = j1.val; omega

theorem emb7 (t : Fin cfg0.N) (j : S1x1024.Idx) : ((cfg0.win 7).blk t).view.emb j = (j : S1x1024.Idx) := by
  obtain ⟨e0, e1⟩ := idx7 t
  idx_vars j
  funext a; apply Fin.ext
  match a with
  | ⟨0, _⟩ => show win0_7.index t (0 : Fin 2) * 1 + 1 * j0.val = j0.val; omega
  | ⟨1, _⟩ => show win0_7.index t (1 : Fin 2) * 1024 + 1 * j1.val = j1.val; omega

theorem emb8 (t : Fin cfg0.N) (j : S1x1024.Idx) : ((cfg0.win 8).blk t).view.emb j = (j : S1x1024.Idx) := by
  obtain ⟨e0, e1⟩ := idx8 t
  idx_vars j
  funext a; apply Fin.ext
  match a with
  | ⟨0, _⟩ => show win0_8.index t (0 : Fin 2) * 1 + 1 * j0.val = j0.val; omega
  | ⟨1, _⟩ => show win0_8.index t (1 : Fin 2) * 1024 + 1 * j1.val = j1.val; omega

theorem emb9 (t : Fin cfg0.N) (j : S1x1024.Idx) : ((cfg0.win 9).blk t).view.emb j = (j : S1x1024.Idx) := by
  obtain ⟨e0, e1⟩ := idx9 t
  idx_vars j
  funext a; apply Fin.ext
  match a with
  | ⟨0, _⟩ => show win0_9.index t (0 : Fin 2) * 1 + 1 * j0.val = j0.val; omega
  | ⟨1, _⟩ => show win0_9.index t (1 : Fin 2) * 1024 + 1 * j1.val = j1.val; omega

/-! ## The results -/

/-- One part's product. -/
def part (a : Vec Ideal S4x2048x1544 .bf16) (b : Vec Ideal S4x1024x1544 .bf16) (s : Fin 4) (l : Fin 2048) (d : Fin 1024) : EReal :=
  ∑ k : Fin 1544, (show EReal from a (ix3 s l k)) * (show EReal from b (ix3 s d k))

/-- The gradient of the modulated row: the sum of the four parts' products. -/
def dh (a : Vec Ideal S4x2048x1544 .bf16) (b : Vec Ideal S4x1024x1544 .bf16) (l : Fin 2048) (d : Fin 1024) : EReal :=
  part a b 0 l d + part a b 1 l d + part a b 2 l d + part a b 3 l d

/-- A row of the residual stream. -/
def row (x : Vec Ideal S2048x1024 .f32) (l : Fin 2048) : Fin 1024 → EReal := fun d => x (ix2 l d)

/-- The normed row. -/
def xhat (x : Vec Ideal S2048x1024 .f32) (l : Fin 2048) (d : Fin 1024) : EReal := row x l d * rms (row x l)

/-- The gradient of the norm's result. -/
def dn (a : Vec Ideal S4x2048x1544 .bf16) (b : Vec Ideal S4x1024x1544 .bf16) (sc : Vec Ideal S1x1024 .f32) (l : Fin 2048) (d : Fin 1024) : EReal :=
  dh a b l d * (1 + (show EReal from sc (ix2 (0 : Fin 1) d)))

/-- The gradient of the normed row. -/
def dxhat (a : Vec Ideal S4x2048x1544 .bf16) (b : Vec Ideal S4x1024x1544 .bf16) (nw sc : Vec Ideal S1x1024 .f32) (l : Fin 2048) (d : Fin 1024) : EReal :=
  dn a b sc l d * (show EReal from nw (ix2 (0 : Fin 1) d))

/-- The gradient of the residual stream. -/
def Dx (a : Vec Ideal S4x2048x1544 .bf16) (b : Vec Ideal S4x1024x1544 .bf16) (x : Vec Ideal S2048x1024 .f32) (nw sc : Vec Ideal S1x1024 .f32)
    (dxi : Vec Ideal S2048x1024 .f32) : Vec Ideal S2048x1024 .f32 :=
  fun i => (normGrad (row x (i 0)) (dxhat a b nw sc (i 0)) (dxi (ix2 (i 0) (i 1))) (i 1) : EReal)

/-- The gradient of the norm's weight. -/
def Dnw (a : Vec Ideal S4x2048x1544 .bf16) (b : Vec Ideal S4x1024x1544 .bf16) (x : Vec Ideal S2048x1024 .f32) (sc : Vec Ideal S1x1024 .f32) : Vec Ideal S1x1024 .f32 :=
  fun i => (∑ l, dn a b sc l (i 1) * xhat x l (i 1) : EReal)

/-- The gradient of the scale. -/
def Dsc (a : Vec Ideal S4x2048x1544 .bf16) (b : Vec Ideal S4x1024x1544 .bf16) (x : Vec Ideal S2048x1024 .f32) (nw : Vec Ideal S1x1024 .f32) : Vec Ideal S1x1024 .f32 :=
  fun i => (∑ l, dh a b l (i 1) * (xhat x l (i 1) * (show EReal from nw (ix2 (0 : Fin 1) (i 1)))) : EReal)

/-- The gradient of the shift. -/
def Dsh (a : Vec Ideal S4x2048x1544 .bf16) (b : Vec Ideal S4x1024x1544 .bf16) : Vec Ideal S1x1024 .f32 :=
  fun i => (∑ l, dh a b l (i 1) : EReal)

/-- What a point adds to the accumulator. -/
theorem step_eq (c : Dev nD) (t : Fin cfg0.N) (r : Fin 512) (d : Fin 1024) :
    (∑ k : Fin 1544, (show EReal from iblk m c 0 t (ix3 (0 : Fin 1) r k)) * (show EReal from iblk m c 1 t (ix3 (0 : Fin 1) d k)) : EReal)
      = part (m ((c : Thread nD τ).loc main_arg0)) (m ((c : Thread nD τ).loc main_arg1)) (pt t) (blockRow (blkOf t) r) d :=
  Finset.sum_congr rfl fun k _ => congrArg₂ (fun x y : EReal => x * y) (iblk0 m c t r k) (iblk1 m c t d k)

/-- After the last part's point the accumulator holds the gradient of the block's modulated rows. -/
theorem acc_eq (c : Dev nD) (t : Fin cfg0.N) (h3 : t.val % 4 = 3) (r : Fin 512) (d : Fin 1024) :
    (outsAt0 m c t.val t.isLt).2.2.2.2 (ix2 r d)
      = (dh (m ((c : Thread nD τ).loc main_arg0)) (m ((c : Thread nD τ).loc main_arg1)) (blockRow (blkOf t) r) d : EReal) := by
  have hN : t.val < 16 := t.isLt
  obtain ⟨i, hi⟩ : ∃ i, t.val = 4 * i + 3 := ⟨t.val / 4, by omega⟩
  have key := acc_total (fun n hn => ((outsAt0 m c n hn).2.2.2.2 (ix2 r d) : EReal))
    (fun n hn => part (m ((c : Thread nD τ).loc main_arg0)) (m ((c : Thread nD τ).loc main_arg1)) (pt ⟨n, hn⟩) (blockRow (blkOf ⟨n, hn⟩) r) d)
    (fun n hn h => by
      refine (congrFun (acc_first m c ⟨n, hn⟩ h) (ix2 r d)).trans ?_
      rw [pay5_apply, pay4_apply]
      exact (zero_add _).trans (step_eq m c ⟨n, hn⟩ r d))
    (fun n hn h => by
      refine (congrFun (acc_next m c ⟨n + 1, hn⟩ h) (ix2 r d)).trans ?_
      rw [pay5_apply]
      exact congrArg (fun y : EReal => _ + y) (step_eq m c ⟨n + 1, hn⟩ r d)) i (by omega)
  have e : ∀ (n : ℕ) (hn : n < cfg0.N), n = 4 * i + 3 → (outsAt0 m c n hn).2.2.2.2 (ix2 r d) = (outsAt0 m c (4 * i + 3) (by show _ < 16; omega)).2.2.2.2 (ix2 r d) := by
    intro n hn e; subst e; rfl
  refine (e _ t.isLt hi).trans (key.trans ?_)
  have p : ∀ (s : Fin 4) (hn : 4 * i + s.val < cfg0.N), pt ⟨4 * i + s.val, hn⟩ = s ∧ blkOf ⟨4 * i + s.val, hn⟩ = blkOf t := fun s hn =>
    ⟨Fin.ext (by show (4 * i + s.val) % 4 = s.val; omega), Fin.ext (by show (4 * i + s.val) / 4 = t.val / 4; omega)⟩
  have q : ∀ (s : Fin 4) (hn : 4 * i + s.val < cfg0.N),
      part (m ((c : Thread nD τ).loc main_arg0)) (m ((c : Thread nD τ).loc main_arg1)) (pt ⟨4 * i + s.val, hn⟩) (blockRow (blkOf ⟨4 * i + s.val, hn⟩) r) d
        = part (m ((c : Thread nD τ).loc main_arg0)) (m ((c : Thread nD τ).loc main_arg1)) s (blockRow (blkOf t) r) d := fun s hn => by
    rw [(p s hn).1, (p s hn).2]
  exact congrArg₂ (· + ·) (congrArg₂ (· + ·) (congrArg₂ (· + ·) (q 0 _) (q 1 _)) (q 2 _)) (q 3 _)

theorem row_eq (c : Dev nD) (t : Fin cfg0.N) (r : Fin 512) :
    (fun k : Fin 1024 => (show EReal from iblk m c 2 t (ix2 r k))) = row (m ((c : Thread nD τ).loc main_arg2)) (blockRow (blkOf t) r) :=
  funext fun k => iblk2 m c t r k

theorem xhat_eq (c : Dev nD) (t : Fin cfg0.N) (r : Fin 512) (d : Fin 1024) :
    k0_pay9 (F := Ideal) (iblk m c 2 t) (ix2 r d) = (xhat (m ((c : Thread nD τ).loc main_arg2)) (blockRow (blkOf t) r) d : EReal) :=
  (pay9_apply _ r d).trans (congrArg₂ (fun x y : EReal => x * y) (iblk2 m c t r d) (congrArg rms (row_eq m c t r)))

theorem dn_eq (c : Dev nD) (t : Fin cfg0.N) (h3 : t.val % 4 = 3) (r : Fin 512) (d : Fin 1024) :
    k0_pay12 (F := Ideal) (outsAt0 m c t.val t.isLt).2.2.2.2 (iblk m c 4 t) (ix2 r d)
      = (dn (m ((c : Thread nD τ).loc main_arg0)) (m ((c : Thread nD τ).loc main_arg1)) (m ((c : Thread nD τ).loc main_arg4)) (blockRow (blkOf t) r) d : EReal) :=
  (pay12_apply _ _ r d).trans (congrArg₂ (fun x y : EReal => x * y) (acc_eq m c t h3 r d) (congrArg (fun y : EReal => 1 + y) (iblk4 m c t d)))

/-- The points that write back. -/
theorem last6 : ∀ t : Fin cfg0.N, (cfg0.win 6).flush t = true ↔ t.val % 4 = 3 := flush0_6
theorem last7 : ∀ t : Fin cfg0.N, (cfg0.win 7).flush t = true ↔ t.val % 16 = 15 := flush0_7
theorem last8 : ∀ t : Fin cfg0.N, (cfg0.win 8).flush t = true ↔ t.val % 16 = 15 := flush0_8
theorem last9 : ∀ t : Fin cfg0.N, (cfg0.win 9).flush t = true ↔ t.val % 16 = 15 := flush0_9

/-- Each point that writes back writes its block of the residual stream's gradient. -/
theorem flushed_Dx (c : Dev nD) (t : Fin cfg0.N) (hf : (cfg0.win 6).flush t = true) :
    (dats m 0 c).flushed 6 t = ((cfg0.win 6).blk t).view.read (Elt Ideal)
      (Dx (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5))) := by
  rw [Value.flushed6]
  funext j
  show (outsAt0 m c t.val t.isLt).1 j = Dx _ _ _ _ _ _ (((cfg0.win 6).blk t).view.emb j)
  have h3 := (last6 t).mp hf
  rw [emb6, tile6 m c t h3]
  idx_vars j
  rw [pay7_apply]
  have eg : ∀ k : Fin 1024, (show EReal from k0_pay12 (F := Ideal) (outsAt0 m c t.val t.isLt).2.2.2.2 (iblk m c 4 t) (ix2 j0 k)) * (show EReal from iblk m c 3 t (ix2 (0 : Fin 1) k))
      = dxhat (m ((c : Thread nD τ).loc main_arg0)) (m ((c : Thread nD τ).loc main_arg1)) (m ((c : Thread nD τ).loc main_arg3)) (m ((c : Thread nD τ).loc main_arg4)) (blockRow (blkOf t) j0) k :=
    fun k => congrArg₂ (fun x y : EReal => x * y) (dn_eq m c t h3 j0 k) (iblk3 m c t k)
  refine congrArg₂ (fun x y : EReal => x + y) (iblk5 m c t j0 j1) ?_
  refine congrArg₂ (fun x y : EReal => x * y) ((pay8_apply _ j0).trans (congrArg rms (row_eq m c t j0))) ?_
  refine congrArg₂ (fun x y : EReal => x - y) (eg j1) ?_
  refine congrArg₂ (fun x y : EReal => x * y) (xhat_eq m c t j0 j1) ?_
  refine congrArg (fun x : EReal => Ideal.div x (Ideal.ofBits .f32 0x44800000#32)) ?_
  exact Finset.sum_congr rfl fun k _ => congrArg₂ (fun x y : EReal => x * y) (eg k) (xhat_eq m c t j0 k)

/-- The grid's last point. -/
abbrev lastPt : Fin cfg0.N := ⟨15, by show 15 < 16; omega⟩

theorem last_point (t : Fin cfg0.N) (h : t.val % 16 = 15) : t = lastPt :=
  Fin.ext (by have h' : t.val < 16 := t.isLt; show t.val = 15; omega)

/-- What is written back of the norm weight's gradient. -/
theorem flushed_Dnw (c : Dev nD) (t : Fin cfg0.N) (hf : (cfg0.win 7).flush t = true) :
    (dats m 0 c).flushed 7 t = ((cfg0.win 7).blk t).view.read (Elt Ideal) (Dnw (m ((c : Thread nD τ).loc main_arg0)) (m ((c : Thread nD τ).loc main_arg1)) (m ((c : Thread nD τ).loc main_arg2)) (m ((c : Thread nD τ).loc main_arg4))) := by
  obtain rfl := last_point t ((last7 t).mp hf)
  rw [Value.flushed7]
  funext j
  refine Eq.trans (b := Dnw (m ((c : Thread nD τ).loc main_arg0)) (m ((c : Thread nD τ).loc main_arg1)) (m ((c : Thread nD τ).loc main_arg2)) (m ((c : Thread nD τ).loc main_arg4)) j) ?_ (congrArg (Dnw (m ((c : Thread nD τ).loc main_arg0)) (m ((c : Thread nD τ).loc main_arg1)) (m ((c : Thread nD τ).loc main_arg2)) (m ((c : Thread nD τ).loc main_arg4))) (emb7 lastPt j).symm)
  idx_vars j
  fin_cases j0
  refine Eq.trans ?_ (sum_tokens (fun l => dn (m ((c : Thread nD τ).loc main_arg0)) (m ((c : Thread nD τ).loc main_arg1)) (m ((c : Thread nD τ).loc main_arg4)) l j1 * xhat (m ((c : Thread nD τ).loc main_arg2)) l j1)).symm
  refine rows_total (fun n hn => ((outsAt0 m c n hn).2.1 (ix2 (0 : Fin 1) j1) : EReal))
    (fun i => ∑ r : Fin 512, dn (m ((c : Thread nD τ).loc main_arg0)) (m ((c : Thread nD τ).loc main_arg1)) (m ((c : Thread nD τ).loc main_arg4)) (blockRow i r) j1 * xhat (m ((c : Thread nD τ).loc main_arg2)) (blockRow i r) j1) ?_ (fun n hn h => ?_) (fun n hn h => ?_)
  · exact (congrFun (rows_first m c ⟨0, by show 0 < 16; omega⟩ rfl).1 (ix2 (0 : Fin 1) j1)).trans (pay1_apply j1)
  · exact congrFun (rows_keep m c ⟨n + 1, hn⟩ (by show ¬(n + 1) % 16 = 0; omega) h).1 (ix2 (0 : Fin 1) j1)
  · refine (congrFun (row7 m c ⟨n + 1, hn⟩ h) (ix2 (0 : Fin 1) j1)).trans ?_
    rw [pay6_apply]
    exact congrArg (fun y : EReal => _ + y) (Finset.sum_congr rfl fun r _ =>
      congrArg₂ (fun x y : EReal => x * y) (dn_eq m c ⟨n + 1, hn⟩ h r j1) (xhat_eq m c ⟨n + 1, hn⟩ r j1))
/-- What is written back of the scale's gradient. -/
theorem flushed_Dsc (c : Dev nD) (t : Fin cfg0.N) (hf : (cfg0.win 8).flush t = true) :
    (dats m 0 c).flushed 8 t = ((cfg0.win 8).blk t).view.read (Elt Ideal) (Dsc (m ((c : Thread nD τ).loc main_arg0)) (m ((c : Thread nD τ).loc main_arg1)) (m ((c : Thread nD τ).loc main_arg2)) (m ((c : Thread nD τ).loc main_arg3))) := by
  obtain rfl := last_point t ((last8 t).mp hf)
  rw [Value.flushed8]
  funext j
  refine Eq.trans (b := Dsc (m ((c : Thread nD τ).loc main_arg0)) (m ((c : Thread nD τ).loc main_arg1)) (m ((c : Thread nD τ).loc main_arg2)) (m ((c : Thread nD τ).loc main_arg3)) j) ?_ (congrArg (Dsc (m ((c : Thread nD τ).loc main_arg0)) (m ((c : Thread nD τ).loc main_arg1)) (m ((c : Thread nD τ).loc main_arg2)) (m ((c : Thread nD τ).loc main_arg3))) (emb8 lastPt j).symm)
  idx_vars j
  fin_cases j0
  refine Eq.trans ?_ (sum_tokens (fun l => dh (m ((c : Thread nD τ).loc main_arg0)) (m ((c : Thread nD τ).loc main_arg1)) l j1 * (xhat (m ((c : Thread nD τ).loc main_arg2)) l j1 * (show EReal from (m ((c : Thread nD τ).loc main_arg3)) (ix2 (0 : Fin 1) j1))))).symm
  refine rows_total (fun n hn => ((outsAt0 m c n hn).2.2.1 (ix2 (0 : Fin 1) j1) : EReal))
    (fun i => ∑ r : Fin 512, dh (m ((c : Thread nD τ).loc main_arg0)) (m ((c : Thread nD τ).loc main_arg1)) (blockRow i r) j1 * (xhat (m ((c : Thread nD τ).loc main_arg2)) (blockRow i r) j1 * (show EReal from (m ((c : Thread nD τ).loc main_arg3)) (ix2 (0 : Fin 1) j1)))) ?_ (fun n hn h => ?_) (fun n hn h => ?_)
  · exact (congrFun (rows_first m c ⟨0, by show 0 < 16; omega⟩ rfl).2.1 (ix2 (0 : Fin 1) j1)).trans (pay2_apply j1)
  · exact congrFun (rows_keep m c ⟨n + 1, hn⟩ (by show ¬(n + 1) % 16 = 0; omega) h).2.1 (ix2 (0 : Fin 1) j1)
  · refine (congrFun (row8 m c ⟨n + 1, hn⟩ h) (ix2 (0 : Fin 1) j1)).trans ?_
    rw [pay11_apply]
    exact congrArg (fun y : EReal => _ + y) (Finset.sum_congr rfl fun r _ =>
      congrArg₂ (fun x y : EReal => x * y) (acc_eq m c ⟨n + 1, hn⟩ h r j1)
        (congrArg₂ (fun x y : EReal => x * y) (xhat_eq m c ⟨n + 1, hn⟩ r j1) (iblk3 m c ⟨n + 1, hn⟩ j1)))
/-- What is written back of the shift's gradient. -/
theorem flushed_Dsh (c : Dev nD) (t : Fin cfg0.N) (hf : (cfg0.win 9).flush t = true) :
    (dats m 0 c).flushed 9 t = ((cfg0.win 9).blk t).view.read (Elt Ideal) (Dsh (m ((c : Thread nD τ).loc main_arg0)) (m ((c : Thread nD τ).loc main_arg1))) := by
  obtain rfl := last_point t ((last9 t).mp hf)
  rw [Value.flushed9]
  funext j
  refine Eq.trans (b := Dsh (m ((c : Thread nD τ).loc main_arg0)) (m ((c : Thread nD τ).loc main_arg1)) j) ?_ (congrArg (Dsh (m ((c : Thread nD τ).loc main_arg0)) (m ((c : Thread nD τ).loc main_arg1))) (emb9 lastPt j).symm)
  idx_vars j
  fin_cases j0
  refine Eq.trans ?_ (sum_tokens (fun l => dh (m ((c : Thread nD τ).loc main_arg0)) (m ((c : Thread nD τ).loc main_arg1)) l j1)).symm
  refine rows_total (fun n hn => ((outsAt0 m c n hn).2.2.2.1 (ix2 (0 : Fin 1) j1) : EReal))
    (fun i => ∑ r : Fin 512, dh (m ((c : Thread nD τ).loc main_arg0)) (m ((c : Thread nD τ).loc main_arg1)) (blockRow i r) j1) ?_ (fun n hn h => ?_) (fun n hn h => ?_)
  · exact (congrFun (rows_first m c ⟨0, by show 0 < 16; omega⟩ rfl).2.2 (ix2 (0 : Fin 1) j1)).trans (pay3_apply j1)
  · exact congrFun (rows_keep m c ⟨n + 1, hn⟩ (by show ¬(n + 1) % 16 = 0; omega) h).2.2 (ix2 (0 : Fin 1) j1)
  · refine (congrFun (row9 m c ⟨n + 1, hn⟩ h) (ix2 (0 : Fin 1) j1)).trans ?_
    rw [pay10_apply]
    exact congrArg (fun y : EReal => _ + y) (Finset.sum_congr rfl fun r _ => acc_eq m c ⟨n + 1, hn⟩ h r j1)
/-- Every index of a result is in some point's block. -/
theorem covered6 (i : S2048x1024.Idx) :
    ∃ t : Fin cfg0.N, (cfg0.win 6).flush t = true ∧ i ∈ ((cfg0.win 6).blk t).view.set := by
  have h0 : (i 0).val < 2048 := (i 0).isLt
  obtain ⟨t, ht⟩ : ∃ t : Fin cfg0.N, t.val = (i 0).val / 512 * 4 + 3 :=
    ⟨⟨(i 0).val / 512 * 4 + 3, by show _ < 16; omega⟩, rfl⟩
  obtain ⟨r, hr⟩ : ∃ r : Fin 512, r.val = (i 0).val % 512 := ⟨⟨(i 0).val % 512, by omega⟩, rfl⟩
  refine ⟨t, (last6 t).mpr (by omega), ?_⟩
  have h := ((cfg0.win 6).blk t).view.emb_mem_set (ix2 r (i 1) : S512x1024.Idx)
  have e : ((cfg0.win 6).blk t).view.emb (ix2 r (i 1) : S512x1024.Idx) = i := by
    rw [emb6]
    funext a; apply Fin.ext
    match a with
    | ⟨0, _⟩ => show t.val / 4 * 512 + r.val = (i 0).val; omega
    | ⟨1, _⟩ => rfl
  rw [e] at h
  exact h

theorem covered7 (i : S1x1024.Idx) : ∃ t : Fin cfg0.N, (cfg0.win 7).flush t = true ∧ i ∈ ((cfg0.win 7).blk t).view.set := by
  refine ⟨⟨15, by show 15 < 16; omega⟩, (last7 _).mpr rfl, ?_⟩
  have h := ((cfg0.win 7).blk ⟨15, by show 15 < 16; omega⟩).view.emb_mem_set i
  rw [emb7] at h
  exact h

theorem covered8 (i : S1x1024.Idx) : ∃ t : Fin cfg0.N, (cfg0.win 8).flush t = true ∧ i ∈ ((cfg0.win 8).blk t).view.set := by
  refine ⟨⟨15, by show 15 < 16; omega⟩, (last8 _).mpr rfl, ?_⟩
  have h := ((cfg0.win 8).blk ⟨15, by show 15 < 16; omega⟩).view.emb_mem_set i
  rw [emb8] at h
  exact h

theorem covered9 (i : S1x1024.Idx) : ∃ t : Fin cfg0.N, (cfg0.win 9).flush t = true ∧ i ∈ ((cfg0.win 9).blk t).view.set := by
  refine ⟨⟨15, by show 15 < 16; omega⟩, (last9 _).mpr rfl, ?_⟩
  have h := ((cfg0.win 9).blk ⟨15, by show 15 < 16; omega⟩).view.emb_mem_set i
  rw [emb9] at h
  exact h

/-- The run: the four results are the gradients of the arguments, which end unchanged. -/
theorem run : θ_run defs (onTc (τ := τ) (main (F := Ideal))) ⟨m, fun _ => 0, ρ⟩ fun r => ∀ c : Dev nD,
      r.2.mem ((c : Thread nD τ).loc main_v0_0) = Dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = Dnw (m ((c : Thread nD τ).loc main_arg0)) (m ((c : Thread nD τ).loc main_arg1)) (m ((c : Thread nD τ).loc main_arg2)) (m ((c : Thread nD τ).loc main_arg4))
      ∧ r.2.mem ((c : Thread nD τ).loc main_v0_2) = Dsc (m ((c : Thread nD τ).loc main_arg0)) (m ((c : Thread nD τ).loc main_arg1)) (m ((c : Thread nD τ).loc main_arg2)) (m ((c : Thread nD τ).loc main_arg3))
      ∧ r.2.mem ((c : Thread nD τ).loc main_v0_3) = Dsh (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨
      (h c).1.trans ((dats m 0 c).arrAt_eq_of_cover 6 _ (fun t hf => flushed_Dx m c t hf) covered6),
      (h c).2.1.trans ((dats m 0 c).arrAt_eq_of_cover 7 _ (fun t hf => flushed_Dnw m c t hf) covered7),
      (h c).2.2.1.trans ((dats m 0 c).arrAt_eq_of_cover 8 _ (fun t hf => flushed_Dsc m c t hf) covered8),
      (h c).2.2.2.1.trans ((dats m 0 c).arrAt_eq_of_cover 9 _ (fun t hf => flushed_Dsh m c t hf) covered9), (h c).2.2.2.2⟩) (Value.run_blocks m ρ)

end Cert.SsmInDxIdeal.Hand

namespace Cert.Proof

open Idealize.ShloMosaic Idealize.ShloMosaic.TcCoe Idealize.SL.Sem
open Cert.SsmInDxIdeal.Hand (part dh row xhat dn dxhat Dx Dnw Dsc Dsh)
open Cert.SsmInDxRefIdeal.Read

theorem ssmInDx_v27 (a : Vec Ideal Cert.SsmInDxIdeal.S4x2048x1544 .bf16) (b : Vec Ideal Cert.SsmInDxIdeal.S4x1024x1544 .bf16) (l : Fin 2048) (d : Fin 1024) :
    val_main_v27 (F := Ideal) a b (ix2 l d) = (dh a b l d : EReal) := by
  pointwise [val_main_v27, val_main_v26, val_main_v1, val_main_v0]
  exact Fin.sum_univ_four _

theorem ssmInDx_v9 (x : Vec Ideal Cert.SsmInDxIdeal.S2048x1024 .f32) (l : Fin 2048) :
    val_main_v9 (F := Ideal) x (ix2 l (0 : Fin 1)) = (ms (row x l) : EReal) := guDx_v9 x l

theorem ssmInDx_v10 (x : Vec Ideal Cert.SsmInDxIdeal.S2048x1024 .f32) (l : Fin 2048) :
    val_main_v10 (F := Ideal) x (ix2 l (0 : Fin 1)) = (rms (row x l) : EReal) := guDx_v10 x l

theorem ssmInDx_v15 (x : Vec Ideal Cert.SsmInDxIdeal.S2048x1024 .f32) (l : Fin 2048) (d : Fin 1024) :
    val_main_v15 (F := Ideal) x (ix2 l d) = (xhat x l d : EReal) := guDx_v15 x l d

theorem ssmInDx_v34 (a : Vec Ideal Cert.SsmInDxIdeal.S4x2048x1544 .bf16) (b : Vec Ideal Cert.SsmInDxIdeal.S4x1024x1544 .bf16) (sc : Vec Ideal Cert.SsmInDxIdeal.S1x1024 .f32) (l : Fin 2048) (d : Fin 1024) :
    val_main_v34 (F := Ideal) a b sc (ix2 l d) = (dn a b sc l d : EReal) := by
  refine Eq.trans (b := ((show EReal from val_main_v27 (F := Ideal) a b (ix2 l d)) * (1 + (show EReal from sc (ix2 (0 : Fin 1) d))) : EReal)) ?_ (congrArg (fun y : EReal => y * (1 + (show EReal from sc (ix2 (0 : Fin 1) d)))) (ssmInDx_v27 a b l d))
  unfold val_main_v34
  generalize val_main_v27 (F := Ideal) a b = r
  pointwise [val_main_v33, val_main_v19, val_main_v18, val_main_cst_4]

theorem ssmInDx_v39 (a : Vec Ideal Cert.SsmInDxIdeal.S4x2048x1544 .bf16) (b : Vec Ideal Cert.SsmInDxIdeal.S4x1024x1544 .bf16) (nw sc : Vec Ideal Cert.SsmInDxIdeal.S1x1024 .f32) (l : Fin 2048) (d : Fin 1024) :
    val_main_v39 (F := Ideal) a b nw sc (ix2 l d) = (dxhat a b nw sc l d : EReal) := by
  refine Eq.trans (b := ((show EReal from val_main_v34 (F := Ideal) a b sc (ix2 l d)) * (show EReal from nw (ix2 (0 : Fin 1) d)) : EReal)) ?_ (congrArg (fun y : EReal => y * (show EReal from nw (ix2 (0 : Fin 1) d))) (ssmInDx_v34 a b sc l d))
  unfold val_main_v39
  generalize val_main_v34 (F := Ideal) a b sc = r
  pointwise [val_main_v38]

/-- The shift's gradient in the reference. -/
theorem ssmInDx_dsh (a : Vec Ideal Cert.SsmInDxIdeal.S4x2048x1544 .bf16) (b : Vec Ideal Cert.SsmInDxIdeal.S4x1024x1544 .bf16) :
    val_main_v29 (F := Ideal) a b = Dsh a b := by
  funext j
  idx_vars j
  fin_cases j0
  refine Eq.trans (b := (∑ l : Fin 2048, (show EReal from val_main_v27 (F := Ideal) a b (ix2 l j1)) : EReal)) ?_ (Finset.sum_congr rfl fun l _ => ssmInDx_v27 a b l j1)
  unfold val_main_v29 val_main_v28
  generalize val_main_v27 (F := Ideal) a b = r
  pointwise [val_main_cst_5]

/-- The scale's gradient in the reference. -/
theorem ssmInDx_dsc (a : Vec Ideal Cert.SsmInDxIdeal.S4x2048x1544 .bf16) (b : Vec Ideal Cert.SsmInDxIdeal.S4x1024x1544 .bf16) (x : Vec Ideal Cert.SsmInDxIdeal.S2048x1024 .f32) (nw : Vec Ideal Cert.SsmInDxIdeal.S1x1024 .f32) :
    val_main_v32 (F := Ideal) a b x nw = Dsc a b x nw := by
  funext j
  idx_vars j
  fin_cases j0
  refine Eq.trans (b := (∑ l : Fin 2048, (show EReal from val_main_v15 (F := Ideal) x (ix2 l j1)) * (show EReal from nw (ix2 (0 : Fin 1) j1)) * (show EReal from val_main_v27 (F := Ideal) a b (ix2 l j1)) : EReal)) ?_
    (Finset.sum_congr rfl fun l _ => (mul_comm _ _).trans (congrArg₂ (fun x y : EReal => x * y) (ssmInDx_v27 a b l j1) (congrArg (fun y : EReal => y * (show EReal from nw (ix2 (0 : Fin 1) j1))) (ssmInDx_v15 x l j1))))
  unfold val_main_v32 val_main_v31 val_main_v30 val_main_v17
  generalize val_main_v27 (F := Ideal) a b = r
  generalize val_main_v15 (F := Ideal) x = h
  pointwise [val_main_cst_6, val_main_v16]

/-- The norm weight's gradient in the reference. -/
theorem ssmInDx_dnw (a : Vec Ideal Cert.SsmInDxIdeal.S4x2048x1544 .bf16) (b : Vec Ideal Cert.SsmInDxIdeal.S4x1024x1544 .bf16) (x : Vec Ideal Cert.SsmInDxIdeal.S2048x1024 .f32) (sc : Vec Ideal Cert.SsmInDxIdeal.S1x1024 .f32) :
    val_main_v37 (F := Ideal) a b x sc = Dnw a b x sc := by
  funext j
  idx_vars j
  fin_cases j0
  refine Eq.trans (b := (∑ l : Fin 2048, (show EReal from val_main_v15 (F := Ideal) x (ix2 l j1)) * (show EReal from val_main_v34 (F := Ideal) a b sc (ix2 l j1)) : EReal)) ?_
    (Finset.sum_congr rfl fun l _ => (mul_comm _ _).trans (congrArg₂ (fun x y : EReal => x * y) (ssmInDx_v34 a b sc l j1) (ssmInDx_v15 x l j1)))
  unfold val_main_v37 val_main_v36 val_main_v35
  generalize val_main_v34 (F := Ideal) a b sc = r
  generalize val_main_v15 (F := Ideal) x = h
  pointwise [val_main_cst_7]

/-- The factor of the mean of the squares in the reference's gradient. -/
theorem ssmInDx_v48 (a : Vec Ideal Cert.SsmInDxIdeal.S4x2048x1544 .bf16) (b : Vec Ideal Cert.SsmInDxIdeal.S4x1024x1544 .bf16) (x : Vec Ideal Cert.SsmInDxIdeal.S2048x1024 .f32) (nw sc : Vec Ideal Cert.SsmInDxIdeal.S1x1024 .f32) (l : Fin 2048) :
    val_main_v48 (F := Ideal) a b x nw sc (ix1 l) = (msGrad (row x l) (dxhat a b nw sc l) : EReal) := by
  unfold msGrad
  rw [← ssmInDx_v10, ← ssmInDx_v9]
  refine Eq.trans (b := (Ideal.div ((∑ k : Fin 1024, (show EReal from x (ix2 l k)) * (show EReal from val_main_v39 (F := Ideal) a b nw sc (ix2 l k)))
      * (Ideal.ofBits .f32 0xBF000000#32 * Ideal.div (show EReal from val_main_v10 (F := Ideal) x (ix2 l (0 : Fin 1))) (show EReal from val_main_v9 (F := Ideal) x (ix2 l (0 : Fin 1))))) (Ideal.ofBits .f32 0x44800000#32) : EReal)) ?_ ?_
  · unfold val_main_v48 val_main_v47 val_main_v45 val_main_v42 val_main_v41 val_main_v40 val_main_v13 val_main_v11
    generalize val_main_v39 (F := Ideal) a b nw sc = g
    generalize val_main_v10 (F := Ideal) x = r
    generalize val_main_v9 (F := Ideal) x = s
    pointwise [val_main_cst_10, val_main_v46, val_main_cst_9, val_main_cst_8, val_main_v12, val_main_cst_3]
    exact Fin.sum_univ_one _
  · refine congrArg (fun y : EReal => Ideal.div (y * _) _) (Finset.sum_congr rfl fun k _ => ?_)
    exact congrArg (fun y : EReal => (show EReal from x (ix2 l k)) * y) (ssmInDx_v39 a b nw sc l k)

/-- The residual stream's gradient in the reference, at an index. -/
theorem ssmInDx_v54 (a : Vec Ideal Cert.SsmInDxIdeal.S4x2048x1544 .bf16) (b : Vec Ideal Cert.SsmInDxIdeal.S4x1024x1544 .bf16) (x : Vec Ideal Cert.SsmInDxIdeal.S2048x1024 .f32) (nw sc : Vec Ideal Cert.SsmInDxIdeal.S1x1024 .f32)
    (dxi : Vec Ideal Cert.SsmInDxIdeal.S2048x1024 .f32) (l : Fin 2048) (d : Fin 1024) :
    val_main_v54 (F := Ideal) a b x nw sc dxi (ix2 l d)
      = ((show EReal from dxi (ix2 l d)) + (dxhat a b nw sc l d * rms (row x l) + row x l d * msGrad (row x l) (dxhat a b nw sc l) + msGrad (row x l) (dxhat a b nw sc l) * row x l d) : EReal) := by
  have e39 := ssmInDx_v39 a b nw sc l d
  have e48 := ssmInDx_v48 a b x nw sc l
  have e10 := ssmInDx_v10 x l
  rw [← e39, ← e48, ← e10]
  unfold val_main_v54 val_main_v53 val_main_v52 val_main_v51 val_main_v50 val_main_v49 val_main_v44 val_main_v43
  generalize val_main_v39 (F := Ideal) a b nw sc = g
  generalize val_main_v48 (F := Ideal) a b x nw sc = s
  generalize val_main_v10 (F := Ideal) x = r
  pointwise []
  rfl

/-- The residual stream's gradient in the reference. -/
theorem ssmInDx_dx (a : Vec Ideal Cert.SsmInDxIdeal.S4x2048x1544 .bf16) (b : Vec Ideal Cert.SsmInDxIdeal.S4x1024x1544 .bf16) (x : Vec Ideal Cert.SsmInDxIdeal.S2048x1024 .f32) (nw sc : Vec Ideal Cert.SsmInDxIdeal.S1x1024 .f32)
    (dxi : Vec Ideal Cert.SsmInDxIdeal.S2048x1024 .f32) : val_main_v54 (F := Ideal) a b x nw sc dxi = Dx a b x nw sc dxi := by
  funext i
  idx_vars i
  exact (ssmInDx_v54 a b x nw sc dxi i0 i1).trans (norm_grad (row x i0) (dxhat a b nw sc i0) (dxi (ix2 i0 i1)) i1)

/-- The kernel's call and the reference, from memories that agree on the arguments, end with equal results. -/
theorem ssmInDx : Cert.algebraic_SsmInDxIdeal_SsmInDxRefIdeal (hSsmInDxIdeal := Cert.SsmInDxIdeal.Gen.facts) (hSsmInDxRefIdeal := Cert.SsmInDxRefIdeal.Gen.facts) := by
  intro m ρ m' ρ' _ hag
  refine ⟨_, _, _, _, Cert.SsmInDxIdeal.Hand.run m ρ, (θ_run _ _ _).mono (fun _ h c => ⟨(h c).1.trans ?_, (h c).2.1.trans ?_, (h c).2.2.1.trans ?_, (h c).2.2.2.1.trans ?_, (h c).2.2.2.2⟩) (Cert.SsmInDxRefIdeal.Value.run m' ρ')⟩
  · rw [val_main_v54_eq, (hag c).1, (hag c).2.1, (hag c).2.2.1, (hag c).2.2.2.1, (hag c).2.2.2.2.1, (hag c).2.2.2.2.2]
    exact ssmInDx_dx _ _ _ _ _ _
  · rw [val_main_v37_eq, (hag c).1, (hag c).2.1, (hag c).2.2.1, (hag c).2.2.2.2.1]
    exact ssmInDx_dnw _ _ _ _
  · rw [val_main_v32_eq, (hag c).1, (hag c).2.1, (hag c).2.2.1, (hag c).2.2.2.1]
    exact ssmInDx_dsc _ _ _ _
  · rw [val_main_v29_eq, (hag c).1, (hag c).2.1]
    exact ssmInDx_dsh _ _

end Cert.Proof

end
-- ==== Proof.SsmInDw.lean ====
/-
  Hand-written. The gradient of the state-space layer's `w_in`: the kernel's call and the reference end with the same array, at
  every element the sum over the tokens of `h · dzx`.
-/
module

public import proofs.«01_k».proof.Defs
public import proofs.«01_k».proof.Proof.Gen.SsmInDwIdeal.Value
public import proofs.«01_k».proof.Proof.Gen.SsmInDwRefIdeal.Run
public import proofs.«01_k».proof.Proof.Gen.SsmInDwRefIdeal.Read
public import Idealize.ShloMosaic.Lib.Pipeline.Value
public import Idealize.ShloMosaic.Lib.Pointwise

@[expose] public section

set_option maxRecDepth 16384

noncomputable section

namespace Cert.SsmInDwIdeal.Hand

open Cert.SsmInDwIdeal Cert.SsmInDwIdeal.Gen Idealize.ShloMosaic Idealize.ShloMosaic.TcCoe Idealize.SL.Sem
open Idealize.ShloMosaic.Pipeline (Dat)

/-- The gradient of `w_in`: at part `p`, row `d` and column `t` the sum over the tokens of `h[l, d] · dzx[p, l, t]`. -/
def G (h : Vec Ideal S2048x1024 .bf16) (dzx : Vec Ideal S4x2048x1544 .bf16) : Vec Ideal S4x1024x1544 .bf16 :=
  fun i => (∑ l : Fin 2048, (show EReal from h (ix2 l (i 1))) * (show EReal from dzx (ix3 (i 0) l (i 2))) : EReal)

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output's block, at an index. -/
theorem out_apply (x0 : Vec Ideal S2048x1024 .bf16) (x1 : Vec Ideal S1x2048x1544 .bf16) (j : S1x1024x1544.Idx) :
    out0_2 (F := Ideal) x0 x1 j = (∑ l : Fin 2048, (show EReal from x0 (ix2 l (j 1))) * (show EReal from x1 (ix3 (0 : Fin 1) l (j 2))) : EReal) := by
  unfold out0_2
  rw [View.canon_unit_zero hz3, View.ld_unit_zero hz2, View.ld_unit_zero hz3]
  idx_vars j
  pointwise [k0_pay1]

variable (m : (ℓ : Loc nD τ sig) → Buf (Elt Ideal) ℓ) (ρ : Dev nD → PrngReg)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

/-- The block of `h` is all of it. -/
theorem iblk0 (c : Dev nD) (t : Fin cfg0.N) (l : Fin 2048) (x : Fin 1024) :
    iblk m c 0 t (ix2 l x) = V m c main_arg0 (ix2 l x) := by
  obtain ⟨e0, e1⟩ := idx0 t
  show V m c main_arg0 (((cfg0.win 0).blk t).view.emb (ix2 l x)) = _
  congr 1
  funext a; apply Fin.ext
  match a with
  | ⟨0, _⟩ => show win0_0.index t (0 : Fin 2) * 2048 + 1 * l.val = l.val; omega
  | ⟨1, _⟩ => show win0_0.index t (1 : Fin 2) * 1024 + 1 * x.val = x.val; omega

/-- Block `t` of `dzx` is its part `t`. -/
theorem iblk1 (c : Dev nD) (t : Fin cfg0.N) (l : Fin 2048) (x : Fin 1544) :
    iblk m c 1 t (ix3 (0 : Fin 1) l x) = V m c main_arg1 (ix3 (⟨t.val, t.isLt⟩ : Fin 4) l x) := by
  obtain ⟨e0, e1, e2⟩ := idx1 t
  show V m c main_arg1 (((cfg0.win 1).blk t).view.emb (ix3 (0 : Fin 1) l x)) = _
  congr 1
  funext a; apply Fin.ext
  match a with
  | ⟨0, _⟩ => show win0_1.index t (0 : Fin 3) * 1 + 1 * 0 = t.val; omega
  | ⟨1, _⟩ => show win0_1.index t (1 : Fin 3) * 2048 + 1 * l.val = l.val; omega
  | ⟨2, _⟩ => show win0_1.index t (2 : Fin 3) * 1544 + 1 * x.val = x.val; omega

/-- Where an index of the output's block `t` lies in the result. -/
theorem emb2 (t : Fin cfg0.N) (j : S1x1024x1544.Idx) :
    ((cfg0.win 2).blk t).view.emb j = (ix3 (⟨t.val, t.isLt⟩ : Fin 4) (j 1) (j 2) : S4x1024x1544.Idx) := by
  obtain ⟨e0, e1, e2⟩ := idx2 t
  idx_vars j
  funext a; apply Fin.ext
  match a with
  | ⟨0, _⟩ => show win0_2.index t (0 : Fin 3) * 1 + 1 * (j0 : Fin 1).val = t.val; omega
  | ⟨1, _⟩ => show win0_2.index t (1 : Fin 3) * 1024 + 1 * j1.val = j1.val; omega
  | ⟨2, _⟩ => show win0_2.index t (2 : Fin 3) * 1544 + 1 * j2.val = j2.val; omega

/-- Each point writes back its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2]
  funext j
  show out0_2 (F := Ideal) (iblk m c 0 t) (iblk m c 1 t) j = G (V m c main_arg0) (V m c main_arg1) (((cfg0.win 2).blk t).view.emb j)
  rw [emb2, out_apply]
  show (∑ l : Fin 2048, _ : EReal) = (∑ l : Fin 2048, _ : EReal)
  refine Finset.sum_congr rfl fun l _ => ?_
  exact congrArg₂ (fun x y : EReal => x * y) (iblk0 m c t l (j 1)) (iblk1 m c t l (j 2))

/-- Every index of the result is in some point's block. -/
theorem covered (i : S4x1024x1544.Idx) :
    ∃ t : Fin cfg0.N, (cfg0.win 2).flush t = true ∧ i ∈ ((cfg0.win 2).blk t).view.set :=
  ⟨⟨(i 0).val, (i 0).isLt⟩, flush0_2 _, by
    have h := ((cfg0.win 2).blk ⟨(i 0).val, (i 0).isLt⟩).view.emb_mem_set (ix3 (0 : Fin 1) (i 1) (i 2) : S1x1024x1544.Idx)
    rw [emb2] at h
    exact (eq_ix3 i) ▸ h⟩

/-- The run: the result is `G` of the arguments, which end unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
      ((dats m 0 c).arrAt_eq_of_cover 2 _ (fun t _ => flushed_eq m c t) covered), (h c).2⟩) (Value.run_blocks m ρ)

end Cert.SsmInDwIdeal.Hand

namespace Cert.Proof

open Idealize.ShloMosaic Idealize.ShloMosaic.TcCoe Idealize.SL.Sem

/-- The reference's result, at an index. -/
theorem ssmInDw_ref (h : Vec Ideal Cert.SsmInDwIdeal.S2048x1024 .bf16) (dzx : Vec Ideal Cert.SsmInDwIdeal.S4x2048x1544 .bf16) :
    Cert.SsmInDwRefIdeal.Read.val_main_v8 (F := Ideal) h dzx = Cert.SsmInDwIdeal.Hand.G h dzx := by
  funext j
  rw [Cert.SsmInDwRefIdeal.Read.val_main_v8_apply, Cert.SsmInDwRefIdeal.Read.val_main_v7_apply, Cert.SsmInDwRefIdeal.Read.val_main_v6_apply]
  show (∑ l : Fin 2048, _ : EReal) = (∑ l : Fin 2048, _ : EReal)
  refine Finset.sum_congr rfl fun l _ => ?_
  rw [mul_comm, Cert.SsmInDwRefIdeal.Read.val_main_v5_apply]
  idx_vars j
  refine congrArg₂ (fun x y : EReal => x * y) (congrArg h ?_) (congrArg dzx ?_)
  · funext x; match x with
    | ⟨0, _⟩ => rfl
    | ⟨1, _⟩ => rfl
  · funext x; match x with
    | ⟨0, _⟩ => rfl
    | ⟨1, _⟩ => rfl
    | ⟨2, _⟩ => rfl

/-- The kernel's call and the reference, from memories that agree on the arguments, end with equal results. -/
theorem ssmInDw : Cert.algebraic_SsmInDwIdeal_SsmInDwRefIdeal (hSsmInDwIdeal := Cert.SsmInDwIdeal.Gen.facts) (hSsmInDwRefIdeal := Cert.SsmInDwRefIdeal.Gen.facts) := by
  intro m ρ m' ρ' _ hag
  refine ⟨fun c => Cert.SsmInDwIdeal.Hand.G (m ((c.tc : Thread Cert.SsmInDwIdeal.nD Cert.SsmInDwIdeal.τ).loc Cert.SsmInDwIdeal.main_arg0)) (m ((c.tc : Thread Cert.SsmInDwIdeal.nD Cert.SsmInDwIdeal.τ).loc Cert.SsmInDwIdeal.main_arg1)),
    Cert.SsmInDwIdeal.Hand.run m ρ, (θ_run _ _ _).mono (fun _ h c => ⟨(h c).1.trans ?_, (h c).2⟩) (Cert.SsmInDwRefIdeal.Value.run m' ρ')⟩
  rw [Cert.SsmInDwRefIdeal.Read.val_main_v8_eq, (hag c).1, (hag c).2]
  exact ssmInDw_ref _ _

end Cert.Proof

end
-- ==== Proof.SsmOutDx.lean ====
/-
  Hand-written. The gradient of the state-space layer's output projection in its operand: the kernel's call and the reference
  end with the same array.
-/
module

public import proofs.«01_k».proof.Defs
public import proofs.«01_k».proof.Proof.Gen.SsmOutDxIdeal.Value
public import proofs.«01_k».proof.Proof.Gen.SsmOutDxRefIdeal.Run
public import proofs.«01_k».proof.Proof.Gen.SsmOutDxRefIdeal.Read
public import Idealize.ShloMosaic.Lib.Pipeline.Value
public import Idealize.ShloMosaic.Lib.Pointwise

@[expose] public section

set_option maxRecDepth 16384

noncomputable section

namespace Cert.SsmOutDxIdeal.Hand

open Cert.SsmOutDxIdeal Cert.SsmOutDxIdeal.Gen Idealize.ShloMosaic Idealize.ShloMosaic.TcCoe Idealize.SL.Sem
open Idealize.ShloMosaic.Pipeline (Dat)

/-- The gradient of `y` in `y @ w_out`: at token `l` and column `t` the sum over `d` of `df[l, d] · w_out[t, d]`. -/
def G (a : Vec Ideal S2048x1024 .bf16) (b : Vec Ideal S2048x1024 .bf16) : Vec Ideal S2048x2048 .f32 :=
  fun i => (∑ k : Fin 1024, (show EReal from a (ix2 (i 0) k)) * (show EReal from b (ix2 (i 1) k)) : EReal)

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output's block, at an index. -/
theorem out_apply (x0 : Vec Ideal S1024x1024 .bf16) (x1 : Vec Ideal S1024x1024 .bf16) (j : S1024x1024.Idx) :
    out0_2 (F := Ideal) x0 x1 j = (∑ k : Fin 1024, (show EReal from x0 (ix2 (j 0) k)) * (show EReal from x1 (ix2 (j 1) k)) : EReal) := by
  unfold out0_2
  rw [View.canon_unit_zero hz2, View.ld_unit_zero hz2]
  idx_vars j
  pointwise [k0_pay1]

variable (m : (ℓ : Loc nD τ sig) → Buf (Elt Ideal) ℓ) (ρ : Dev nD → PrngReg)

theorem idx0 : ∀ t : Fin cfg0.N, win0_0.index t (0 : Fin 2) = t.val / 2 ∧ win0_0.index t (1 : Fin 2) = 0 :=
  (by decide +kernel : ∀ t : Fin grid0.N, _)
theorem idx1 : ∀ t : Fin cfg0.N, win0_1.index t (0 : Fin 2) = t.val % 2 ∧ win0_1.index t (1 : Fin 2) = 0 :=
  (by decide +kernel : ∀ t : Fin grid0.N, _)
theorem idx2 : ∀ t : Fin cfg0.N, win0_2.index t (0 : Fin 2) = t.val / 2 ∧ win0_2.index t (1 : Fin 2) = t.val % 2 :=
  (by decide +kernel : ∀ t : Fin grid0.N, _)

/-- The array's coordinate of the block's coordinate `x` at point `t`. -/
def blk0 (t : Fin cfg0.N) (x : Fin 1024) : Fin 2048 := ⟨t.val / 2 * 1024 + x.val, by have h : t.val < 4 := t.isLt; have hx := x.isLt; omega⟩
/-- The array's coordinate of the block's coordinate `x` at point `t`. -/
def blk1 (t : Fin cfg0.N) (x : Fin 1024) : Fin 2048 := ⟨t.val % 2 * 1024 + x.val, by have h : t.val < 4 := t.isLt; have hx := x.isLt; omega⟩

theorem iblk0 (c : Dev nD) (t : Fin cfg0.N) (x : Fin 1024) (y : Fin 1024) :
    iblk m c 0 t (ix2 x y) = V m c main_arg0 (ix2 (blk0 t x : Fin 2048) y) := by
  obtain ⟨e0, e1⟩ := idx0 t
  show V m c main_arg0 (((cfg0.win 0).blk t).view.emb (ix2 x y)) = _
  congr 1
  funext a; apply Fin.ext
  match a with
  | ⟨0, _⟩ => show win0_0.index t (0 : Fin 2) * 1024 + 1 * x.val = t.val / 2 * 1024 + x.val; omega
  | ⟨1, _⟩ => show win0_0.index t (1 : Fin 2) * 1024 + 1 * y.val = y.val; omega

theorem iblk1 (c : Dev nD) (t : Fin cfg0.N) (x : Fin 1024) (y : Fin 1024) :
    iblk m c 1 t (ix2 x y) = V m c main_arg1 (ix2 (blk1 t x : Fin 2048) y) := by
  obtain ⟨e0, e1⟩ := idx1 t
  show V m c main_arg1 (((cfg0.win 1).blk t).view.emb (ix2 x y)) = _
  congr 1
  funext a; apply Fin.ext
  match a with
  | ⟨0, _⟩ => show win0_1.index t (0 : Fin 2) * 1024 + 1 * x.val = t.val % 2 * 1024 + x.val; omega
  | ⟨1, _⟩ => show win0_1.index t (1 : Fin 2) * 1024 + 1 * y.val = y.val; omega

/-- Where an index of the output's block `t` lies in the result. -/
theorem emb2 (t : Fin cfg0.N) (j : S1024x1024.Idx) :
    ((cfg0.win 2).blk t).view.emb j = (ix2 (blk0 t (j 0) : Fin 2048) (blk1 t (j 1) : Fin 2048) : S2048x2048.Idx) := by
  obtain ⟨e0, e1⟩ := idx2 t
  idx_vars j
  funext a; apply Fin.ext
  match a with
  | ⟨0, _⟩ => show win0_2.index t (0 : Fin 2) * 1024 + 1 * j0.val = t.val / 2 * 1024 + j0.val; omega
  | ⟨1, _⟩ => show win0_2.index t (1 : Fin 2) * 1024 + 1 * j1.val = t.val % 2 * 1024 + j1.val; omega

/-- Each point writes back its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2]
  funext j
  show out0_2 (F := Ideal) (iblk m c 0 t) (iblk m c 1 t) j = G (V m c main_arg0) (V m c main_arg1) (((cfg0.win 2).blk t).view.emb j)
  rw [emb2, out_apply]
  show (∑ k : Fin 1024, _ : EReal) = (∑ k : Fin 1024, _ : EReal)
  refine Finset.sum_congr rfl fun k _ => ?_
  exact congrArg₂ (fun x y : EReal => x * y) (iblk0 m c t (j 0) k) (iblk1 m c t (j 1) k)

/-- Every index of the result is in some point's block. -/
theorem covered (i : S2048x2048.Idx) :
    ∃ t : Fin cfg0.N, (cfg0.win 2).flush t = true ∧ i ∈ ((cfg0.win 2).blk t).view.set := by
  have h0 : (i 0).val < 2048 := (i 0).isLt
  have h1 : (i 1).val < 2048 := (i 1).isLt
  obtain ⟨t, ht⟩ : ∃ t : Fin cfg0.N, t.val = (i 0).val / 1024 * 2 + (i 1).val / 1024 :=
    ⟨⟨(i 0).val / 1024 * 2 + (i 1).val / 1024, by show _ < 4; omega⟩, rfl⟩
  obtain ⟨r0, hr0⟩ : ∃ r : Fin 1024, r.val = (i 0).val % 1024 := ⟨⟨(i 0).val % 1024, by omega⟩, rfl⟩
  obtain ⟨r1, hr1⟩ : ∃ r : Fin 1024, r.val = (i 1).val % 1024 := ⟨⟨(i 1).val % 1024, by omega⟩, rfl⟩
  refine ⟨t, flush0_2 _, ?_⟩
  have h := ((cfg0.win 2).blk t).view.emb_mem_set (ix2 r0 r1 : S1024x1024.Idx)
  have e : ((cfg0.win 2).blk t).view.emb (ix2 r0 r1 : S1024x1024.Idx) = i := by
    rw [emb2]
    funext a; apply Fin.ext
    match a with
    | ⟨0, _⟩ => show t.val / 2 * 1024 + r0.val = (i 0).val; omega
    | ⟨1, _⟩ => show t.val % 2 * 1024 + r1.val = (i 1).val; omega
  rw [e] at h
  exact h

/-- The run: the result is `G` of the arguments, which end unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
      ((dats m 0 c).arrAt_eq_of_cover 2 _ (fun t _ => flushed_eq m c t) covered), (h c).2⟩) (Value.run_blocks m ρ)

end Cert.SsmOutDxIdeal.Hand

namespace Cert.Proof

open Idealize.ShloMosaic Idealize.ShloMosaic.TcCoe Idealize.SL.Sem
open Cert.SsmOutDxRefIdeal.Read

/-- The reference's result, at every index. -/
theorem ssmOutDx_ref (a : Vec Ideal Cert.SsmOutDxIdeal.S2048x1024 .bf16) (b : Vec Ideal Cert.SsmOutDxIdeal.S2048x1024 .bf16) :
    val_main_v4 (F := Ideal) a b = Cert.SsmOutDxIdeal.Hand.G a b := by
  funext j
  idx_vars j
  refine Eq.trans (b := (∑ k : Fin 1024, (show EReal from a (ix2 j0 k)) * (show EReal from b (ix2 j1 k)) : EReal)) ?_ (Finset.sum_congr rfl fun k _ => rfl)
  pointwise [val_main_v4, val_main_v1, val_main_v0]

/-- The kernel's call and the reference, from memories that agree on the arguments, end with equal results. -/
theorem ssmOutDx : Cert.algebraic_SsmOutDxIdeal_SsmOutDxRefIdeal (hSsmOutDxIdeal := Cert.SsmOutDxIdeal.Gen.facts) (hSsmOutDxRefIdeal := Cert.SsmOutDxRefIdeal.Gen.facts) := by
  intro m ρ m' ρ' _ hag
  refine ⟨fun c => Cert.SsmOutDxIdeal.Hand.G (m ((c.tc : Thread Cert.SsmOutDxIdeal.nD Cert.SsmOutDxIdeal.τ).loc Cert.SsmOutDxIdeal.main_arg0)) (m ((c.tc : Thread Cert.SsmOutDxIdeal.nD Cert.SsmOutDxIdeal.τ).loc Cert.SsmOutDxIdeal.main_arg1)),
    Cert.SsmOutDxIdeal.Hand.run m ρ, (θ_run _ _ _).mono (fun _ h c => ⟨(h c).1.trans ?_, (h c).2⟩) (Cert.SsmOutDxRefIdeal.Value.run m' ρ')⟩
  rw [val_main_v4_eq, (hag c).1, (hag c).2]
  exact ssmOutDx_ref _ _

end Cert.Proof

end
-- ==== Proof.SsmOutDw.lean ====
/-
  Hand-written. The gradient of the state-space layer's output projection `w_out`: the kernel's call and the reference end with the
  same array.
-/
module

public import proofs.«01_k».proof.Defs
public import proofs.«01_k».proof.Proof.Gen.SsmOutDwIdeal.Value
public import proofs.«01_k».proof.Proof.Gen.SsmOutDwRefIdeal.Run
public import proofs.«01_k».proof.Proof.Gen.SsmOutDwRefIdeal.Read
public import Idealize.ShloMosaic.Lib.Pipeline.Value
public import Idealize.ShloMosaic.Lib.Pointwise

@[expose] public section

set_option maxRecDepth 16384

noncomputable section

namespace Cert.SsmOutDwIdeal.Hand

open Cert.SsmOutDwIdeal Cert.SsmOutDwIdeal.Gen Idealize.ShloMosaic Idealize.ShloMosaic.TcCoe Idealize.SL.Sem
open Idealize.ShloMosaic.Pipeline (Dat)

/-- The gradient of `w_out`: at row `t` and column `d` the sum over the tokens of `y[l, t] · df[l, d]`. -/
def G (a : Vec Ideal S2048x2048 .bf16) (b : Vec Ideal S2048x1024 .bf16) : Vec Ideal S2048x1024 .bf16 :=
  fun i => (∑ k : Fin 2048, (show EReal from a (ix2 k (i 0))) * (show EReal from b (ix2 k (i 1))) : EReal)

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output's block, at an index. -/
theorem out_apply (x0 : Vec Ideal S2048x1024 .bf16) (x1 : Vec Ideal S2048x1024 .bf16) (j : S1024x1024.Idx) :
    out0_2 (F := Ideal) x0 x1 j = (∑ k : Fin 2048, (show EReal from x0 (ix2 k (j 0))) * (show EReal from x1 (ix2 k (j 1))) : EReal) := by
  unfold out0_2
  rw [View.canon_unit_zero hz2, View.ld_unit_zero hz2]
  idx_vars j
  pointwise [k0_pay1]

variable (m : (ℓ : Loc nD τ sig) → Buf (Elt Ideal) ℓ) (ρ : Dev nD → PrngReg)

theorem idx0 : ∀ t : Fin cfg0.N, win0_0.index t (0 : Fin 2) = 0 ∧ win0_0.index t (1 : Fin 2) = t.val :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

/-- The array's coordinate of the block's coordinate `x` at point `t`. -/
def blk0 (t : Fin cfg0.N) (x : Fin 1024) : Fin 2048 := ⟨t.val * 1024 + x.val, by have h : t.val < 2 := t.isLt; have hx := x.isLt; omega⟩

theorem iblk0 (c : Dev nD) (t : Fin cfg0.N) (x : Fin 2048) (y : Fin 1024) :
    iblk m c 0 t (ix2 x y) = V m c main_arg0 (ix2 x (blk0 t y : Fin 2048)) := by
  obtain ⟨e0, e1⟩ := idx0 t
  show V m c main_arg0 (((cfg0.win 0).blk t).view.emb (ix2 x y)) = _
  congr 1
  funext a; apply Fin.ext
  match a with
  | ⟨0, _⟩ => show win0_0.index t (0 : Fin 2) * 2048 + 1 * x.val = x.val; omega
  | ⟨1, _⟩ => show win0_0.index t (1 : Fin 2) * 1024 + 1 * y.val = t.val * 1024 + y.val; omega

theorem iblk1 (c : Dev nD) (t : Fin cfg0.N) (x : Fin 2048) (y : Fin 1024) :
    iblk m c 1 t (ix2 x y) = V m c main_arg1 (ix2 x y) := by
  obtain ⟨e0, e1⟩ := idx1 t
  show V m c main_arg1 (((cfg0.win 1).blk t).view.emb (ix2 x y)) = _
  congr 1
  funext a; apply Fin.ext
  match a with
  | ⟨0, _⟩ => show win0_1.index t (0 : Fin 2) * 2048 + 1 * x.val = x.val; omega
  | ⟨1, _⟩ => show win0_1.index t (1 : Fin 2) * 1024 + 1 * y.val = y.val; omega

/-- Where an index of the output's block `t` lies in the result. -/
theorem emb2 (t : Fin cfg0.N) (j : S1024x1024.Idx) :
    ((cfg0.win 2).blk t).view.emb j = (ix2 (blk0 t (j 0) : Fin 2048) (j 1) : S2048x1024.Idx) := by
  obtain ⟨e0, e1⟩ := idx2 t
  idx_vars j
  funext a; apply Fin.ext
  match a with
  | ⟨0, _⟩ => show win0_2.index t (0 : Fin 2) * 1024 + 1 * j0.val = t.val * 1024 + j0.val; omega
  | ⟨1, _⟩ => show win0_2.index t (1 : Fin 2) * 1024 + 1 * j1.val = j1.val; omega

/-- Each point writes back its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2]
  funext j
  show out0_2 (F := Ideal) (iblk m c 0 t) (iblk m c 1 t) j = G (V m c main_arg0) (V m c main_arg1) (((cfg0.win 2).blk t).view.emb j)
  rw [emb2, out_apply]
  show (∑ k : Fin 2048, _ : EReal) = (∑ k : Fin 2048, _ : EReal)
  refine Finset.sum_congr rfl fun k _ => ?_
  exact congrArg₂ (fun x y : EReal => x * y) (iblk0 m c t k (j 0)) (iblk1 m c t k (j 1))

/-- Every index of the result is in some point's block. -/
theorem covered (i : S2048x1024.Idx) :
    ∃ t : Fin cfg0.N, (cfg0.win 2).flush t = true ∧ i ∈ ((cfg0.win 2).blk t).view.set := by
  have h0 : (i 0).val < 2048 := (i 0).isLt
  have h1 : (i 1).val < 1024 := (i 1).isLt
  obtain ⟨t, ht⟩ : ∃ t : Fin cfg0.N, t.val = (i 0).val / 1024 :=
    ⟨⟨(i 0).val / 1024, by show _ < 2; omega⟩, rfl⟩
  obtain ⟨r0, hr0⟩ : ∃ r : Fin 1024, r.val = (i 0).val % 1024 := ⟨⟨(i 0).val % 1024, by omega⟩, rfl⟩
  refine ⟨t, flush0_2 _, ?_⟩
  have h := ((cfg0.win 2).blk t).view.emb_mem_set (ix2 r0 (i 1) : S1024x1024.Idx)
  have e : ((cfg0.win 2).blk t).view.emb (ix2 r0 (i 1) : S1024x1024.Idx) = i := by
    rw [emb2]
    funext a; apply Fin.ext
    match a with
    | ⟨0, _⟩ => show t.val * 1024 + r0.val = (i 0).val; omega
    | ⟨1, _⟩ => rfl
  rw [e] at h
  exact h

/-- The run: the result is `G` of the arguments, which end unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
      ((dats m 0 c).arrAt_eq_of_cover 2 _ (fun t _ => flushed_eq m c t) covered), (h c).2⟩) (Value.run_blocks m ρ)

end Cert.SsmOutDwIdeal.Hand

namespace Cert.Proof

open Idealize.ShloMosaic Idealize.ShloMosaic.TcCoe Idealize.SL.Sem
open Cert.SsmOutDwRefIdeal.Read

/-- The reference's result, at every index. -/
theorem ssmOutDw_ref (a : Vec Ideal Cert.SsmOutDwIdeal.S2048x2048 .bf16) (b : Vec Ideal Cert.SsmOutDwIdeal.S2048x1024 .bf16) :
    val_main_v6 (F := Ideal) a b = Cert.SsmOutDwIdeal.Hand.G a b := by
  funext j
  idx_vars j
  refine Eq.trans (b := (∑ k : Fin 2048, (show EReal from b (ix2 k j1)) * (show EReal from a (ix2 k j0)) : EReal)) ?_ (Finset.sum_congr rfl fun k _ => mul_comm _ _)
  pointwise [val_main_v6, val_main_v5, val_main_v4, val_main_v1, val_main_v0]

/-- The kernel's call and the reference, from memories that agree on the arguments, end with equal results. -/
theorem ssmOutDw : Cert.algebraic_SsmOutDwIdeal_SsmOutDwRefIdeal (hSsmOutDwIdeal := Cert.SsmOutDwIdeal.Gen.facts) (hSsmOutDwRefIdeal := Cert.SsmOutDwRefIdeal.Gen.facts) := by
  intro m ρ m' ρ' _ hag
  refine ⟨fun c => Cert.SsmOutDwIdeal.Hand.G (m ((c.tc : Thread Cert.SsmOutDwIdeal.nD Cert.SsmOutDwIdeal.τ).loc Cert.SsmOutDwIdeal.main_arg0)) (m ((c.tc : Thread Cert.SsmOutDwIdeal.nD Cert.SsmOutDwIdeal.τ).loc Cert.SsmOutDwIdeal.main_arg1)),
    Cert.SsmOutDwIdeal.Hand.run m ρ, (θ_run _ _ _).mono (fun _ h c => ⟨(h c).1.trans ?_, (h c).2⟩) (Cert.SsmOutDwRefIdeal.Value.run m' ρ')⟩
  rw [val_main_v6_eq, (hag c).1, (hag c).2]
  exact ssmOutDw_ref _ _

end Cert.Proof

end
-- ==== Proof.GnormBwd.lean ====
/-
  Hand-written. The gradient of the mixer's gated norm: the kernel's call and the reference end with the same three arrays, the
  gradients of the scan's output, of the gate's argument and of the norm's weight.
-/
module

public import proofs.«01_k».proof.Defs
public import proofs.«01_k».proof.Proof.Gen.GnormBwdIdeal.Value
public import proofs.«01_k».proof.Proof.Gen.GnormBwdRefIdeal.Run
public import proofs.«01_k».proof.Proof.Gen.GnormBwdRefIdeal.Read
public import proofs.«01_k».proof.Proof.Gen.Pre_gnorm_real
public import proofs.«01_k».proof.Proof.Rms
public import Idealize.ShloMosaic.Lib.Pipeline.Value
public import Idealize.ShloMosaic.Lib.Pipeline.ValueKit
public import Idealize.ShloMosaic.Lib.Pointwise

@[expose] public section

set_option maxRecDepth 16384

noncomputable section

namespace Cert.GnormBwdIdeal.Hand

open Cert.GnormBwdIdeal Cert.GnormBwdIdeal.Gen Idealize.ShloMosaic Idealize.ShloMosaic.TcCoe Idealize.SL.Sem
open Idealize.ShloMosaic.Pipeline (Dat)
open Cert.Proof (msOf rmsOf normGradOf rows4 blockRow sum_tokens)

/-- The width of a group. -/
abbrev W : EReal := Ideal.ofBits .f32 0x43800000#32

/-- The sigmoid as the kernel computes it. -/
def sgm (x : EReal) : EReal := Ideal.div 1 (1 + Ideal.exp (-x))

/-- The gate and its derivative. -/
def silu (x : EReal) : EReal := x * sgm x
def dsilu (x : EReal) : EReal := sgm x * (1 + x * (1 - sgm x))

/-! ## The payloads at an index -/

/-- A row of a tile's gated values. -/
def tileRow (y z : Vec Ideal S512x256 .f32) (r : Fin 512) : Fin 256 → EReal :=
  fun k => (show EReal from y (ix2 r k)) * silu (z (ix2 r k))

theorem pay5_apply (z : Vec Ideal S512x256 .f32) (r : Fin 512) (k : Fin 256) :
    k0_pay5 (F := Ideal) z (ix2 r k) = (silu (z (ix2 r k)) : EReal) := by
  unfold silu sgm
  pointwise [k0_pay5]
  rw [zero_sub]

theorem pay6_apply (y z : Vec Ideal S512x256 .f32) (r : Fin 512) (k : Fin 256) :
    k0_pay6 (F := Ideal) y z (ix2 r k) = (tileRow y z r k : EReal) :=
  congrArg (fun x : EReal => (show EReal from y (ix2 r k)) * x) (pay5_apply z r k)

theorem pay7_apply (y z : Vec Ideal S512x256 .f32) (r : Fin 512) :
    k0_pay7 (F := Ideal) y z (ix2 r (0 : Fin 1)) = (rmsOf W (tileRow y z r) : EReal) := by
  have h : tileRow y z r = fun k => (show EReal from k0_pay6 (F := Ideal) y z (ix2 r k)) := funext fun k => (pay6_apply y z r k).symm
  rw [h]
  unfold k0_pay7 rmsOf msOf
  generalize k0_pay6 (F := Ideal) y z = v
  pointwise []

theorem pay8_apply (y z : Vec Ideal S512x256 .f32) (r : Fin 512) (k : Fin 256) :
    k0_pay8 (F := Ideal) y z (ix2 r k) = (tileRow y z r k * rmsOf W (tileRow y z r) : EReal) := by
  rw [← pay7_apply, ← pay6_apply]
  unfold k0_pay8
  generalize k0_pay6 (F := Ideal) y z = v
  generalize k0_pay7 (F := Ideal) y z = s
  pointwise []

theorem pay10_apply (g : Vec Ideal S512x256 .f32) (w : Vec Ideal S1x256 .f32) (r : Fin 512) (k : Fin 256) :
    k0_pay10 (F := Ideal) g w (ix2 r k) = ((show EReal from g (ix2 r k)) * (show EReal from w (ix2 (0 : Fin 1) k)) : EReal) := by
  pointwise [k0_pay10]

/-- The gradient of a tile's gated values. -/
theorem pay1_apply (y z g : Vec Ideal S512x256 .f32) (w : Vec Ideal S1x256 .f32) (r : Fin 512) (k : Fin 256) :
    k0_pay1 (F := Ideal) (k0_pay7 y z) (k0_pay8 y z) (k0_pay10 g w) (ix2 r k)
      = (normGradOf W (tileRow y z r) (fun k => (show EReal from g (ix2 r k)) * (show EReal from w (ix2 (0 : Fin 1) k))) 0 k : EReal) := by
  have hg : (fun k => (show EReal from g (ix2 r k)) * (show EReal from w (ix2 (0 : Fin 1) k)) : Fin 256 → EReal)
      = fun k => (show EReal from k0_pay10 (F := Ideal) g w (ix2 r k)) := funext fun k => (pay10_apply g w r k).symm
  have h8 : (∑ j : Fin 256, (show EReal from k0_pay10 (F := Ideal) g w (ix2 r j)) * (tileRow y z r j * rmsOf W (tileRow y z r)) : EReal)
      = ∑ j : Fin 256, (show EReal from k0_pay10 (F := Ideal) g w (ix2 r j)) * (show EReal from k0_pay8 (F := Ideal) y z (ix2 r j)) :=
    Finset.sum_congr rfl fun j _ => congrArg (fun b : EReal => _ * b) (pay8_apply y z r j).symm
  rw [hg]
  unfold normGradOf
  beta_reduce
  rw [h8, ← pay8_apply, ← pay7_apply, zero_add]
  generalize k0_pay10 (F := Ideal) g w = u
  generalize k0_pay7 (F := Ideal) y z = s
  generalize k0_pay8 (F := Ideal) y z = n
  pointwise [k0_pay1]

theorem pay2_apply (y z g : Vec Ideal S512x256 .f32) (w : Vec Ideal S1x256 .f32) (r : Fin 512) (k : Fin 256) :
    k0_pay2 (F := Ideal) (k0_pay5 z) (k0_pay7 y z) (k0_pay8 y z) (k0_pay10 g w) (ix2 r k)
      = (normGradOf W (tileRow y z r) (fun k => (show EReal from g (ix2 r k)) * (show EReal from w (ix2 (0 : Fin 1) k))) 0 k * silu (z (ix2 r k)) : EReal) :=
  congrArg₂ (fun a b : EReal => a * b) (pay1_apply y z g w r k) (pay5_apply z r k)

theorem pay3_apply (y z g : Vec Ideal S512x256 .f32) (w : Vec Ideal S1x256 .f32) (r : Fin 512) (k : Fin 256) :
    k0_pay3 (F := Ideal) y z (k0_pay7 y z) (k0_pay8 y z) (k0_pay10 g w) (ix2 r k)
      = (normGradOf W (tileRow y z r) (fun k => (show EReal from g (ix2 r k)) * (show EReal from w (ix2 (0 : Fin 1) k))) 0 k
          * (show EReal from y (ix2 r k)) * dsilu (z (ix2 r k)) : EReal) := by
  rw [← pay1_apply]
  unfold dsilu sgm k0_pay3
  generalize k0_pay1 (F := Ideal) (k0_pay7 y z) (k0_pay8 y z) (k0_pay10 g w) = d
  pointwise []
  rw [zero_sub]

theorem pay9_apply (y z g : Vec Ideal S512x256 .f32) (w : Vec Ideal S1x256 .f32) (k : Fin 256) :
    k0_pay9 (F := Ideal) y z g w (ix2 (0 : Fin 1) k)
      = ((show EReal from w (ix2 (0 : Fin 1) k)) + ∑ r : Fin 512, (show EReal from g (ix2 r k)) * (tileRow y z r k * rmsOf W (tileRow y z r)) : EReal) := by
  refine Eq.trans (b := ((show EReal from w (ix2 (0 : Fin 1) k)) + ∑ r : Fin 512, (show EReal from g (ix2 r k)) * (show EReal from k0_pay8 (F := Ideal) y z (ix2 r k)) : EReal)) ?_
    (congrArg (fun x : EReal => _ + x) (Finset.sum_congr rfl fun r _ => congrArg (fun x : EReal => _ * x) (pay8_apply y z r k)))
  unfold k0_pay9
  generalize k0_pay8 (F := Ideal) y z = n
  pointwise []

theorem pay4_apply (k : Fin 256) : k0_pay4 (F := Ideal) (ix2 (0 : Fin 1) k) = (0 : EReal) := by
  pointwise [k0_pay4]

variable (m : (ℓ : Loc nD τ sig) → Buf (Elt Ideal) ℓ) (ρ : Dev nD → PrngReg)

/-! ## What each point leaves -/

/-- What the point before left. -/
abbrev before (c : Dev nD) (t : Fin cfg0.N) := outsAt0 m c (t.val - 1) (Nat.lt_of_le_of_lt (Nat.sub_le _ _) t.isLt)

/-- What a point leaves in the two tiles. -/
theorem tiles (c : Dev nD) (t : Fin cfg0.N) :
    (outsAt0 m c t.val t.isLt).1 = k0_pay2 (F := Ideal) (k0_pay5 (X0_1 m c t)) (k0_pay7 (iblk m c 0 t) (X0_1 m c t)) (k0_pay8 (iblk m c 0 t) (X0_1 m c t)) (k0_pay10 (iblk m c 3 t) (iblk m c 2 t))
      ∧ (outsAt0 m c t.val t.isLt).2.1 = k0_pay3 (F := Ideal) (iblk m c 0 t) (X0_1 m c t) (k0_pay7 (iblk m c 0 t) (X0_1 m c t)) (k0_pay8 (iblk m c 0 t) (X0_1 m c t)) (k0_pay10 (iblk m c 3 t) (iblk m c 2 t)) := by
  by_cases h0 : t.val % 4 = 0
  · rw [outsAt0_A m c t h0]
    refine ⟨?_, ?_⟩ <;> frame_out
  · rw [outsAt0_B m c t h0]
    refine ⟨?_, ?_⟩ <;> frame_out

/-- What a group's first point leaves in the weight's row. -/
theorem row_first (c : Dev nD) (t : Fin cfg0.N) (h : t.val % 4 = 0) :
    (outsAt0 m c t.val t.isLt).2.2 = k0_pay9 (F := Ideal) (iblk m c 0 t) (X0_1 m c t) (iblk m c 3 t) (k0_pay4 (F := Ideal)) := by
  rw [outsAt0_A m c t h]
  frame_out

/-- What another point leaves there. -/
theorem row_next (c : Dev nD) (t : Fin cfg0.N) (h : ¬t.val % 4 = 0) :
    (outsAt0 m c t.val t.isLt).2.2 = k0_pay9 (F := Ideal) (iblk m c 0 t) (X0_1 m c t) (iblk m c 3 t) (before m c t).2.2 := by
  rw [outsAt0_B m c t h]
  frame_out

/-! ## The blocks the points work on -/

theorem idx0 : ∀ t : Fin cfg0.N, win0_0.index t (0 : Fin 2) = t.val % 4 ∧ win0_0.index t (1 : Fin 2) = t.val / 4 :=
  (by decide +kernel : ∀ t : Fin grid0.N, _)
theorem idx1 : ∀ t : Fin cfg0.N, win0_1.index t (0 : Fin 2) = t.val % 4 ∧ win0_1.index t (1 : Fin 2) = t.val / 4 :=
  (by decide +kernel : ∀ t : Fin grid0.N, _)
theorem idx2 : ∀ t : Fin cfg0.N, win0_2.index t (0 : Fin 2) = 0 ∧ win0_2.index t (1 : Fin 2) = t.val / 4 :=
  (by decide +kernel : ∀ t : Fin grid0.N, _)
theorem idx3 : ∀ t : Fin cfg0.N, win0_3.index t (0 : Fin 2) = t.val % 4 ∧ win0_3.index t (1 : Fin 2) = t.val / 4 :=
  (by decide +kernel : ∀ t : Fin grid0.N, _)
theorem idx4 : ∀ t : Fin cfg0.N, win0_4.index t (0 : Fin 2) = t.val % 4 ∧ win0_4.index t (1 : Fin 2) = t.val / 4 :=
  (by decide +kernel : ∀ t : Fin grid0.N, _)
theorem idx5 : ∀ t : Fin cfg0.N, win0_5.index t (0 : Fin 2) = t.val % 4 ∧ win0_5.index t (1 : Fin 2) = t.val / 4 :=
  (by decide +kernel : ∀ t : Fin grid0.N, _)
theorem idx6 : ∀ t : Fin cfg0.N, win0_6.index t (0 : Fin 2) = 0 ∧ win0_6.index t (1 : Fin 2) = t.val / 4 :=
  (by decide +kernel : ∀ t : Fin grid0.N, _)

/-- The block of tokens and the group that point `t` works on. -/
def blkOf (t : Fin cfg0.N) : Fin 4 := ⟨t.val % 4, by omega⟩
def grpOf (t : Fin cfg0.N) : Fin 8 := ⟨t.val / 4, by have h : t.val < 32 := t.isLt; omega⟩

/-- Column `k` of group `g`, as a column of the 2048 and of the input projection's output. -/
def col (g : Fin 8) (k : Fin 256) : Fin 2048 := ⟨g.val * 256 + k.val, by omega⟩
def zcol (d : Fin 2048) : Fin 6176 := ⟨d.val, by omega⟩

/-- A column's group and its place there. -/
def grp (d : Fin 2048) : Fin 8 := ⟨d.val / 256, by omega⟩
def off (d : Fin 2048) : Fin 256 := ⟨d.val % 256, by omega⟩

theorem grp_col (g : Fin 8) (k : Fin 256) : grp (col g k) = g := Fin.ext (by show (g.val * 256 + k.val) / 256 = g.val; omega)
theorem off_col (g : Fin 8) (k : Fin 256) : off (col g k) = k := Fin.ext (by show (g.val * 256 + k.val) % 256 = k.val; omega)
theorem col_grp (d : Fin 2048) : col (grp d) (off d) = d := Fin.ext (by show d.val / 256 * 256 + d.val % 256 = d.val; omega)

theorem iblk0 (c : Dev nD) (t : Fin cfg0.N) (r : Fin 512) (k : Fin 256) :
    iblk m c 0 t (ix2 r k) = m ((c : Thread nD τ).loc main_arg0) (ix2 (blockRow (blkOf t) r) (col (grpOf t) k)) := by
  obtain ⟨e0, e1⟩ := idx0 t
  show V m c main_arg0 (((cfg0.win 0).blk t).view.emb (ix2 r k)) = _
  refine Eq.trans ?_ (congrFun (V_main_arg0 m c) _)
  congr 1
  funext a; apply Fin.ext
  match a with
  | ⟨0, _⟩ => show win0_0.index t (0 : Fin 2) * 512 + 1 * r.val = t.val % 4 * 512 + r.val; omega
  | ⟨1, _⟩ => show win0_0.index t (1 : Fin 2) * 256 + 1 * k.val = t.val / 4 * 256 + k.val; omega

theorem iblk3 (c : Dev nD) (t : Fin cfg0.N) (r : Fin 512) (k : Fin 256) :
    iblk m c 3 t (ix2 r k) = m ((c : Thread nD τ).loc main_arg3) (ix2 (blockRow (blkOf t) r) (col (grpOf t) k)) := by
  obtain ⟨e0, e1⟩ := idx3 t
  show V m c main_arg3 (((cfg0.win 3).blk t).view.emb (ix2 r k)) = _
  refine Eq.trans ?_ (congrFun (V_main_arg3 m c) _)
  congr 1
  funext a; apply Fin.ext
  match a with
  | ⟨0, _⟩ => show win0_3.index t (0 : Fin 2) * 512 + 1 * r.val = t.val % 4 * 512 + r.val; omega
  | ⟨1, _⟩ => show win0_3.index t (1 : Fin 2) * 256 + 1 * k.val = t.val / 4 * 256 + k.val; omega

theorem iblk1 (c : Dev nD) (t : Fin cfg0.N) (r : Fin 512) (k : Fin 256) :
    X0_1 m c t (ix2 r k) = m ((c : Thread nD τ).loc main_arg1) (ix2 (blockRow (blkOf t) r) (zcol (col (grpOf t) k))) := by
  obtain ⟨e0, e1⟩ := idx1 t
  unfold X0_1 Pipeline.Window.fill
  rw [dif_pos (moved0_1 t _)]
  show V m c main_arg1 (((cfg0.win 1).blk t).view.emb _) = _
  refine Eq.trans ?_ (congrFun (V_main_arg1 m c) _)
  congr 1
  funext a; apply Fin.ext
  match a with
  | ⟨0, _⟩ => show win0_1.index t (0 : Fin 2) * 512 + 1 * r.val = t.val % 4 * 512 + r.val; omega
  | ⟨1, _⟩ => show win0_1.index t (1 : Fin 2) * 256 + 1 * k.val = t.val / 4 * 256 + k.val; omega

theorem iblk2 (c : Dev nD) (t : Fin cfg0.N) (k : Fin 256) :
    iblk m c 2 t (ix2 (0 : Fin 1) k) = m ((c : Thread nD τ).loc main_arg2) (ix2 (0 : Fin 1) (col (grpOf t) k)) := by
  obtain ⟨e0, e1⟩ := idx2 t
  show V m c main_arg2 (((cfg0.win 2).blk t).view.emb (ix2 (0 : Fin 1) k)) = _
  refine Eq.trans ?_ (congrFun (V_main_arg2 m c) _)
  congr 1
  funext a; apply Fin.ext
  match a with
  | ⟨0, _⟩ => show win0_2.index t (0 : Fin 2) * 1 + 1 * 0 = 0; omega
  | ⟨1, _⟩ => show win0_2.index t (1 : Fin 2) * 256 + 1 * k.val = t.val / 4 * 256 + k.val; omega

/-- Where an index of an output's block lies in the result. -/
theorem emb4 (t : Fin cfg0.N) (j : S512x256.Idx) :
    ((cfg0.win 4).blk t).view.emb j = (ix2 (blockRow (blkOf t) (j 0)) (col (grpOf t) (j 1)) : S2048x2048.Idx) := by
  obtain ⟨e0, e1⟩ := idx4 t
  idx_vars j
  funext a; apply Fin.ext
  match a with
  | ⟨0, _⟩ => show win0_4.index t (0 : Fin 2) * 512 + 1 * j0.val = t.val % 4 * 512 + j0.val; omega
  | ⟨1, _⟩ => show win0_4.index t (1 : Fin 2) * 256 + 1 * j1.val = t.val / 4 * 256 + j1.val; omega

theorem emb5 (t : Fin cfg0.N) (j : S512x256.Idx) :
    ((cfg0.win 5).blk t).view.emb j = (ix2 (blockRow (blkOf t) (j 0)) (col (grpOf t) (j 1)) : S2048x2048.Idx) := by
  obtain ⟨e0, e1⟩ := idx5 t
  idx_vars j
  funext a; apply Fin.ext
  match a with
  | ⟨0, _⟩ => show win0_5.index t (0 : Fin 2) * 512 + 1 * j0.val = t.val % 4 * 512 + j0.val; omega
  | ⟨1, _⟩ => show win0_5.index t (1 : Fin 2) * 256 + 1 * j1.val = t.val / 4 * 256 + j1.val; omega

theorem emb6 (t : Fin cfg0.N) (j : S1x256.Idx) :
    ((cfg0.win 6).blk t).view.emb j = (ix2 (0 : Fin 1) (col (grpOf t) (j 1)) : S1x2048.Idx) := by
  obtain ⟨e0, e1⟩ := idx6 t
  idx_vars j
  funext a; apply Fin.ext
  match a with
  | ⟨0, _⟩ => show win0_6.index t (0 : Fin 2) * 1 + 1 * j0.val = 0; omega
  | ⟨1, _⟩ => show win0_6.index t (1 : Fin 2) * 256 + 1 * j1.val = t.val / 4 * 256 + j1.val; omega

/-! ## The results -/

/-- The gated values of token `l` in group `g`. -/
def hRow (y : Vec Ideal S2048x2048 .f32) (zx : Vec Ideal S2048x6176 .f32) (l : Fin 2048) (g : Fin 8) : Fin 256 → EReal :=
  fun k => (show EReal from y (ix2 l (col g k))) * silu (zx (ix2 l (zcol (col g k))))

/-- The normed values' gradient there. -/
def gRow (nw : Vec Ideal S1x2048 .f32) (dout : Vec Ideal S2048x2048 .f32) (l : Fin 2048) (g : Fin 8) : Fin 256 → EReal :=
  fun k => (show EReal from dout (ix2 l (col g k))) * (show EReal from nw (ix2 (0 : Fin 1) (col g k)))

/-- The gated values' gradient. -/
def dh (y : Vec Ideal S2048x2048 .f32) (zx : Vec Ideal S2048x6176 .f32) (nw : Vec Ideal S1x2048 .f32) (dout : Vec Ideal S2048x2048 .f32) (l : Fin 2048) (g : Fin 8) (k : Fin 256) : EReal :=
  normGradOf W (hRow y zx l g) (gRow nw dout l g) 0 k

/-- The gradient of the scan's output. -/
def Dy (y : Vec Ideal S2048x2048 .f32) (zx : Vec Ideal S2048x6176 .f32) (nw : Vec Ideal S1x2048 .f32) (dout : Vec Ideal S2048x2048 .f32) : Vec Ideal S2048x2048 .f32 :=
  fun i => (dh y zx nw dout (i 0) (grp (i 1)) (off (i 1)) * silu (zx (ix2 (i 0) (zcol (i 1)))) : EReal)

/-- The gradient of the gate's argument. -/
def Dz (y : Vec Ideal S2048x2048 .f32) (zx : Vec Ideal S2048x6176 .f32) (nw : Vec Ideal S1x2048 .f32) (dout : Vec Ideal S2048x2048 .f32) : Vec Ideal S2048x2048 .f32 :=
  fun i => (dh y zx nw dout (i 0) (grp (i 1)) (off (i 1)) * (show EReal from y (ix2 (i 0) (i 1))) * dsilu (zx (ix2 (i 0) (zcol (i 1)))) : EReal)

/-- The gradient of the norm's weight. -/
def Dnw (y : Vec Ideal S2048x2048 .f32) (zx : Vec Ideal S2048x6176 .f32) (dout : Vec Ideal S2048x2048 .f32) : Vec Ideal S1x2048 .f32 :=
  fun i => (∑ l : Fin 2048, (show EReal from dout (ix2 l (i 1))) * (hRow y zx l (grp (i 1)) (off (i 1)) * rmsOf W (hRow y zx l (grp (i 1)))) : EReal)

/-- A tile's rows are rows of the arrays. -/
theorem tileRow_eq (c : Dev nD) (t : Fin cfg0.N) (r : Fin 512) :
    tileRow (iblk m c 0 t) (X0_1 m c t) r = hRow (m ((c : Thread nD τ).loc main_arg0)) (m ((c : Thread nD τ).loc main_arg1)) (blockRow (blkOf t) r) (grpOf t) :=
  funext fun k => congrArg₂ (fun a b : EReal => a * silu b) (iblk0 m c t r k) (iblk1 m c t r k)

theorem tileGrad_eq (c : Dev nD) (t : Fin cfg0.N) (r : Fin 512) :
    (fun k => (show EReal from iblk m c 3 t (ix2 r k)) * (show EReal from iblk m c 2 t (ix2 (0 : Fin 1) k)) : Fin 256 → EReal)
      = gRow (m ((c : Thread nD τ).loc main_arg2)) (m ((c : Thread nD τ).loc main_arg3)) (blockRow (blkOf t) r) (grpOf t) :=
  funext fun k => congrArg₂ (fun a b : EReal => a * b) (iblk3 m c t r k) (iblk2 m c t k)

/-- Each point writes back its block of the scan output's gradient. -/
theorem flushed_Dy (c : Dev nD) (t : Fin cfg0.N) :
    (dats m 0 c).flushed 4 t = ((cfg0.win 4).blk t).view.read (Elt Ideal) (Dy (m ((c : Thread nD τ).loc main_arg0)) (m ((c : Thread nD τ).loc main_arg1)) (m ((c : Thread nD τ).loc main_arg2)) (m ((c : Thread nD τ).loc main_arg3))) := by
  rw [Value.flushed4]
  funext j
  show (outsAt0 m c t.val t.isLt).1 j = Dy _ _ _ _ (((cfg0.win 4).blk t).view.emb j)
  rw [emb4, (tiles m c t).1]
  idx_vars j
  rw [pay2_apply, tileRow_eq, tileGrad_eq]
  show _ = (dh _ _ _ _ (blockRow (blkOf t) j0) (grp (col (grpOf t) j1)) (off (col (grpOf t) j1)) * silu (m ((c : Thread nD τ).loc main_arg1) (ix2 (blockRow (blkOf t) j0) (zcol (col (grpOf t) j1)))) : EReal)
  rw [grp_col, off_col]
  exact congrArg (fun b : EReal => _ * silu b) (iblk1 m c t j0 j1)

/-- Each point writes back its block of the gate argument's gradient. -/
theorem flushed_Dz (c : Dev nD) (t : Fin cfg0.N) :
    (dats m 0 c).flushed 5 t = ((cfg0.win 5).blk t).view.read (Elt Ideal) (Dz (m ((c : Thread nD τ).loc main_arg0)) (m ((c : Thread nD τ).loc main_arg1)) (m ((c : Thread nD τ).loc main_arg2)) (m ((c : Thread nD τ).loc main_arg3))) := by
  rw [Value.flushed5]
  funext j
  show (outsAt0 m c t.val t.isLt).2.1 j = Dz _ _ _ _ (((cfg0.win 5).blk t).view.emb j)
  rw [emb5, (tiles m c t).2]
  idx_vars j
  rw [pay3_apply, tileRow_eq, tileGrad_eq]
  show _ = (dh _ _ _ _ (blockRow (blkOf t) j0) (grp (col (grpOf t) j1)) (off (col (grpOf t) j1)) * (show EReal from m ((c : Thread nD τ).loc main_arg0) (ix2 (blockRow (blkOf t) j0) (col (grpOf t) j1))) * dsilu (m ((c : Thread nD τ).loc main_arg1) (ix2 (blockRow (blkOf t) j0) (zcol (col (grpOf t) j1)))) : EReal)
  rw [grp_col, off_col]
  exact congrArg₂ (fun a b : EReal => _ * a * dsilu b) (iblk0 m c t j0 j1) (iblk1 m c t j0 j1)

/-- A group's last point writes back the weight's gradient in the group. -/
theorem flushed_Dnw (c : Dev nD) (t : Fin cfg0.N) (hf : (cfg0.win 6).flush t = true) :
    (dats m 0 c).flushed 6 t = ((cfg0.win 6).blk t).view.read (Elt Ideal) (Dnw (m ((c : Thread nD τ).loc main_arg0)) (m ((c : Thread nD τ).loc main_arg1)) (m ((c : Thread nD τ).loc main_arg3))) := by
  have hl : t.val % 4 = 3 := (flush0_6 t).mp hf
  have ht : t.val < 32 := t.isLt
  rw [Value.flushed6]
  funext j
  show (outsAt0 m c t.val t.isLt).2.2 j = Dnw _ _ _ (((cfg0.win 6).blk t).view.emb j)
  rw [emb6]
  idx_vars j
  fin_cases j0
  show _ = (∑ l : Fin 2048, (show EReal from m ((c : Thread nD τ).loc main_arg3) (ix2 l (col (grpOf t) j1))) * (hRow (m ((c : Thread nD τ).loc main_arg0)) (m ((c : Thread nD τ).loc main_arg1)) l (grp (col (grpOf t) j1)) (off (col (grpOf t) j1)) * rmsOf W (hRow (m ((c : Thread nD τ).loc main_arg0)) (m ((c : Thread nD τ).loc main_arg1)) l (grp (col (grpOf t) j1)))) : EReal)
  rw [grp_col, off_col]
  obtain ⟨f, hfe⟩ : ∃ f : Fin 2048 → EReal, f = fun l => (show EReal from m ((c : Thread nD τ).loc main_arg3) (ix2 l (col (grpOf t) j1))) * (hRow (m ((c : Thread nD τ).loc main_arg0)) (m ((c : Thread nD τ).loc main_arg1)) l (grpOf t) j1 * rmsOf W (hRow (m ((c : Thread nD τ).loc main_arg0)) (m ((c : Thread nD τ).loc main_arg1)) l (grpOf t))) := ⟨_, rfl⟩
  refine Eq.trans (b := ∑ l : Fin 2048, f l) ?_ (by rw [hfe])
  have step : ∀ (w : Vec Ideal S1x256 .f32) (s : Fin cfg0.N) (i : Fin 4), s.val = t.val / 4 * 4 + i.val →
      k0_pay9 (F := Ideal) (iblk m c 0 s) (X0_1 m c s) (iblk m c 3 s) w (ix2 (0 : Fin 1) j1) = ((show EReal from w (ix2 (0 : Fin 1) j1)) + ∑ r : Fin 512, f (blockRow i r) : EReal) := by
    intro w s i hs
    have hb : blkOf s = i := Fin.ext (by show s.val % 4 = i.val; omega)
    have hg : grpOf s = grpOf t := Fin.ext (by show s.val / 4 = t.val / 4; omega)
    refine (pay9_apply _ _ _ _ j1).trans (congrArg (fun y : EReal => _ + y) (Finset.sum_congr rfl fun r _ => ?_))
    rw [tileRow_eq, hb, hg, hfe]
    have h3 := iblk3 m c s r j1
    rw [hb, hg] at h3
    exact congrArg (fun a : EReal => a * _) h3
  refine Eq.trans ?_ ((rows4 (fun n hn => ((outsAt0 m c (t.val / 4 * 4 + n) (by show _ < 32; omega)).2.2 (ix2 (0 : Fin 1) j1) : EReal))
    (fun i => ∑ r : Fin 512, f (blockRow i r)) ?_ (fun n hn => ?_)).trans (sum_tokens f).symm)
  · have e : t = ⟨t.val / 4 * 4 + 3, by show _ < 32; omega⟩ := Fin.ext (by show t.val = t.val / 4 * 4 + 3; omega)
    exact congrArg (fun s : Fin cfg0.N => ((outsAt0 m c s.val s.isLt).2.2 (ix2 (0 : Fin 1) j1) : EReal)) e
  · refine (congrFun (row_first m c ⟨t.val / 4 * 4 + 0, by show _ < 32; omega⟩ (by show (t.val / 4 * 4 + 0) % 4 = 0; omega)) (ix2 (0 : Fin 1) j1)).trans ((step _ _ 0 rfl).trans ?_)
    rw [pay4_apply]
    exact zero_add _
  · exact (congrFun (row_next m c ⟨t.val / 4 * 4 + (n + 1), by show _ < 32; omega⟩ (by show ¬(t.val / 4 * 4 + (n + 1)) % 4 = 0; omega)) (ix2 (0 : Fin 1) j1)).trans (step _ _ ⟨n + 1, hn⟩ rfl)

/-- Every index of a result is in some point's block. -/
theorem point_of (l d : Fin 2048) : ∃ (t : Fin cfg0.N) (r : Fin 512) (k : Fin 256), blockRow (blkOf t) r = l ∧ col (grpOf t) k = d := by
  refine ⟨⟨d.val / 256 * 4 + l.val / 512, by show _ < 32; omega⟩, ⟨l.val % 512, by omega⟩, ⟨d.val % 256, by omega⟩, Fin.ext ?_, Fin.ext ?_⟩
  · show (d.val / 256 * 4 + l.val / 512) % 4 * 512 + l.val % 512 = l.val
    omega
  · show (d.val / 256 * 4 + l.val / 512) / 4 * 256 + d.val % 256 = d.val
    omega

theorem covered4 (i : S2048x2048.Idx) : ∃ t : Fin cfg0.N, (cfg0.win 4).flush t = true ∧ i ∈ ((cfg0.win 4).blk t).view.set := by
  idx_vars i
  obtain ⟨t, r, k, hr, hk⟩ := point_of i0 i1
  refine ⟨t, flush0_4 t, ?_⟩
  have h := ((cfg0.win 4).blk t).view.emb_mem_set (ix2 r k : S512x256.Idx)
  have e : ((cfg0.win 4).blk t).view.emb (ix2 r k : S512x256.Idx) = (ix2 i0 i1 : S2048x2048.Idx) := (emb4 t _).trans (congrArg₂ (fun a b => (ix2 a b : S2048x2048.Idx)) hr hk)
  rw [e] at h
  exact h

theorem covered5 (i : S2048x2048.Idx) : ∃ t : Fin cfg0.N, (cfg0.win 5).flush t = true ∧ i ∈ ((cfg0.win 5).blk t).view.set := by
  idx_vars i
  obtain ⟨t, r, k, hr, hk⟩ := point_of i0 i1
  refine ⟨t, flush0_5 t, ?_⟩
  have h := ((cfg0.win 5).blk t).view.emb_mem_set (ix2 r k : S512x256.Idx)
  have e : ((cfg0.win 5).blk t).view.emb (ix2 r k : S512x256.Idx) = (ix2 i0 i1 : S2048x2048.Idx) := (emb5 t _).trans (congrArg₂ (fun a b => (ix2 a b : S2048x2048.Idx)) hr hk)
  rw [e] at h
  exact h

theorem covered6 (i : S1x2048.Idx) : ∃ t : Fin cfg0.N, (cfg0.win 6).flush t = true ∧ i ∈ ((cfg0.win 6).blk t).view.set := by
  have h1 : (i 1).val < 2048 := (i 1).isLt
  refine ⟨⟨(i 1).val / 256 * 4 + 3, by show _ < 32; omega⟩, (flush0_6 _).mpr (by show ((i 1).val / 256 * 4 + 3) % 4 = 3; omega), ?_⟩
  obtain ⟨t, ht⟩ : ∃ t : Fin cfg0.N, t = ⟨(i 1).val / 256 * 4 + 3, by show _ < 32; omega⟩ := ⟨_, rfl⟩
  rw [← ht]
  have h := ((cfg0.win 6).blk t).view.emb_mem_set (ix2 (0 : Fin 1) (⟨(i 1).val % 256, by omega⟩ : Fin 256) : S1x256.Idx)
  have e : ((cfg0.win 6).blk t).view.emb (ix2 (0 : Fin 1) (⟨(i 1).val % 256, by omega⟩ : Fin 256) : S1x256.Idx) = i := by
    rw [emb6, ht]
    funext a; apply Fin.ext
    match a with
    | ⟨0, _⟩ => show 0 = (i 0).val; have h0 : (i 0).val < 1 := (i 0).isLt; omega
    | ⟨1, _⟩ => show ((i 1).val / 256 * 4 + 3) / 4 * 256 + (i 1).val % 256 = (i 1).val; omega
  rw [e] at h
  exact h

/-- The run: the three results are the gradients of the arguments, which end unchanged. -/
theorem run : θ_run defs (onTc (τ := τ) (main (F := Ideal))) ⟨m, fun _ => 0, ρ⟩ fun r => ∀ c : Dev nD,
      r.2.mem ((c : Thread nD τ).loc main_v0_0) = Dy (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = Dz (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = Dnw (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨
      (h c).1.trans ((dats m 0 c).arrAt_eq_of_cover 4 _ (fun t _ => flushed_Dy m c t) covered4),
      (h c).2.1.trans ((dats m 0 c).arrAt_eq_of_cover 5 _ (fun t _ => flushed_Dz m c t) covered5),
      (h c).2.2.1.trans ((dats m 0 c).arrAt_eq_of_cover 6 _ (fun t hf => flushed_Dnw m c t hf) covered6), (h c).2.2.2⟩) (Value.run_blocks m ρ)

end Cert.GnormBwdIdeal.Hand

namespace Cert.Proof

open Idealize.ShloMosaic Idealize.ShloMosaic.TcCoe Idealize.SL.Sem
open Cert.GnormBwdIdeal.Hand (W sgm silu dsilu col zcol grp off col_grp hRow gRow dh Dy Dz Dnw)
open Cert.GnormBwdRefIdeal.Read

section
variable (y : Vec Ideal Cert.GnormBwdIdeal.S2048x2048 .f32) (zx : Vec Ideal Cert.GnormBwdIdeal.S2048x6176 .f32) (nw : Vec Ideal Cert.GnormBwdIdeal.S1x2048 .f32) (dout : Vec Ideal Cert.GnormBwdIdeal.S2048x2048 .f32)

/-- The gate in the reference. -/
theorem gnormBwd_silu (l d : Fin 2048) : val_main_v1_0 (F := Ideal) zx (ix2 l d) = (silu (zx (ix2 l (zcol d))) : EReal) := by
  unfold silu sgm
  pointwise [val_main_v1_0, val_main_v1_2, val_main_call0_v4, val_main_call0_cst_0, val_main_call0_v3, val_main_call0_v2, val_main_call0_cst, val_main_call0_v1, val_main_call0_v0, val_main_v0]
  rfl

/-- The gated values in groups. -/
theorem gnormBwd_v3 (l : Fin 2048) (g : Fin 8) (k : Fin 256) : val_main_v3 (F := Ideal) y zx (ix3 l g k) = (hRow y zx l g k : EReal) := by
  rw [val_main_v3_apply]
  have e : idx_main_v3 (ix3 l g k) = ix2 l (col g k) := by
    funext a; apply Fin.ext
    match a with
    | ⟨0, _⟩ => show ((l.val * 8 + g.val) * 256 + k.val) / 2048 = l.val; omega
    | ⟨1, _⟩ => show ((l.val * 8 + g.val) * 256 + k.val) % 2048 = g.val * 256 + k.val; omega
  rw [e]
  exact congrArg (fun a : EReal => (show EReal from y (ix2 l (col g k))) * a) (gnormBwd_silu zx l (col g k))

theorem gnormBwd_v25 (l : Fin 2048) (g : Fin 8) (k : Fin 256) : val_main_v25 (F := Ideal) nw dout (ix3 l g k) = (gRow nw dout l g k : EReal) := by
  rw [val_main_v25_apply]
  have e : idx_main_v25 (ix3 l g k) = ix2 l (col g k) := by
    funext a; apply Fin.ext
    match a with
    | ⟨0, _⟩ => show ((l.val * 8 + g.val) * 256 + k.val) / 2048 = l.val; omega
    | ⟨1, _⟩ => show ((l.val * 8 + g.val) * 256 + k.val) % 2048 = g.val * 256 + k.val; omega
  rw [e]
  unfold gRow
  pointwise [val_main_v24, val_main_v23]

/-- The mean of the squares, and the norm's factor. -/
theorem gnormBwd_v10 (l : Fin 2048) (g : Fin 8) : val_main_v10 (F := Ideal) y zx (ix3 l g (0 : Fin 1)) = (msOf W (hRow y zx l g) : EReal) := by
  have h : hRow y zx l g = fun k => (show EReal from val_main_v3 (F := Ideal) y zx (ix3 l g k)) := funext fun k => (gnormBwd_v3 y zx l g k).symm
  rw [h]
  unfold msOf val_main_v10 val_main_v8 val_main_v6 val_main_v5 val_main_v4
  generalize val_main_v3 (F := Ideal) y zx = v
  pointwise [val_main_v9, val_main_cst_1, val_main_v7, val_main_cst_0, val_main_cst]

theorem gnormBwd_v11 (l : Fin 2048) (g : Fin 8) : val_main_v11 (F := Ideal) y zx (ix3 l g (0 : Fin 1)) = (rmsOf W (hRow y zx l g) : EReal) :=
  congrArg Ideal.rsqrt (gnormBwd_v10 y zx l g)

/-- The factor of the mean of the squares in the reference's gradient. -/
theorem gnormBwd_v34 (l : Fin 2048) (g : Fin 8) :
    val_main_v34 (F := Ideal) y zx nw dout (ix2 l g) = (msGradOf W (hRow y zx l g) (gRow nw dout l g) : EReal) := by
  unfold msGradOf
  have h : (∑ k, hRow y zx l g k * gRow nw dout l g k : EReal)
      = ∑ k : Fin 256, (show EReal from val_main_v3 (F := Ideal) y zx (ix3 l g k)) * (show EReal from val_main_v25 (F := Ideal) nw dout (ix3 l g k)) :=
    Finset.sum_congr rfl fun k _ => congrArg₂ (fun a b : EReal => a * b) (gnormBwd_v3 y zx l g k).symm (gnormBwd_v25 nw dout l g k).symm
  rw [h, ← gnormBwd_v11, ← gnormBwd_v10]
  unfold val_main_v34 val_main_v33 val_main_v31 val_main_v28 val_main_v27 val_main_v26 val_main_v14 val_main_v12
  generalize val_main_v3 (F := Ideal) y zx = v
  generalize val_main_v25 (F := Ideal) nw dout = u
  generalize val_main_v11 (F := Ideal) y zx = r
  generalize val_main_v10 (F := Ideal) y zx = s
  pointwise [val_main_cst_6, val_main_v32, val_main_cst_5, val_main_cst_4, val_main_v13, val_main_cst_2]
  exact Fin.sum_univ_one _

/-- The gated values' gradient in the reference, in groups. -/
theorem gnormBwd_v39 (l : Fin 2048) (g : Fin 8) (k : Fin 256) :
    val_main_v39 (F := Ideal) y zx nw dout (ix3 l g k) = (dh y zx nw dout l g k : EReal) := by
  refine Eq.trans ?_ (norm_grad_of word_256 (by norm_num) (hRow y zx l g) (gRow nw dout l g) 0 k)
  rw [zero_add, ← gnormBwd_v34, ← gnormBwd_v11, ← gnormBwd_v3, ← gnormBwd_v25]
  unfold val_main_v39 val_main_v38 val_main_v37 val_main_v36 val_main_v35 val_main_v30 val_main_v29
  generalize val_main_v3 (F := Ideal) y zx = v
  generalize val_main_v25 (F := Ideal) nw dout = u
  generalize val_main_v11 (F := Ideal) y zx = r
  generalize val_main_v34 (F := Ideal) y zx nw dout = s
  pointwise []

theorem gnormBwd_v40 (l d : Fin 2048) : val_main_v40 (F := Ideal) y zx nw dout (ix2 l d) = (dh y zx nw dout l (grp d) (off d) : EReal) := by
  rw [val_main_v40_apply, ← gnormBwd_v39]
  congr 1
  funext a; apply Fin.ext
  match a with
  | ⟨0, _⟩ => show (l.val * 2048 + d.val) / 2048 = l.val; omega
  | ⟨1, _⟩ => show (l.val * 2048 + d.val) / 256 % 8 = d.val / 256; omega
  | ⟨2, _⟩ => show (l.val * 2048 + d.val) % 256 = d.val % 256; omega

/-- The scan output's gradient in the reference. -/
theorem gnormBwd_dy : val_main_v42 (F := Ideal) y zx nw dout = Dy y zx nw dout := by
  funext i
  idx_vars i
  exact congrArg₂ (fun a b : EReal => a * b) (gnormBwd_v40 y zx nw dout i0 i1) (gnormBwd_silu zx i0 i1)

/-- The normed values in the reference. -/
theorem gnormBwd_v17 (l i1 : Fin 2048) : val_main_v17 (F := Ideal) y zx (ix2 l i1) = (hRow y zx l (grp i1) (off i1) * rmsOf W (hRow y zx l (grp i1)) : EReal) := by
  rw [val_main_v17_apply]
  have e : idx_main_v17 (ix2 l i1) = ix3 l (grp i1) (off i1) := by
    funext a; apply Fin.ext
    match a with
    | ⟨0, _⟩ => show (l.val * 2048 + i1.val) / 2048 = l.val; omega
    | ⟨1, _⟩ => show (l.val * 2048 + i1.val) / 256 % 8 = i1.val / 256; omega
    | ⟨2, _⟩ => show (l.val * 2048 + i1.val) % 256 = i1.val % 256; omega
  rw [e, ← gnormBwd_v11, ← gnormBwd_v3]
  unfold val_main_v16 val_main_v15
  generalize val_main_v3 (F := Ideal) y zx = v
  generalize val_main_v11 (F := Ideal) y zx = r
  pointwise []

/-- The weight's gradient in the reference. -/
theorem gnormBwd_dnw : val_main_v22 (F := Ideal) y zx dout = Dnw y zx dout := by
  funext i
  idx_vars i
  fin_cases i0
  refine Eq.trans (b := (∑ l : Fin 2048, (show EReal from val_main_v17 (F := Ideal) y zx (ix2 l i1)) * (show EReal from dout (ix2 l i1)) : EReal)) ?_
    (Finset.sum_congr rfl fun l _ => (mul_comm _ _).trans (congrArg (fun a : EReal => (show EReal from dout (ix2 l i1)) * a) (gnormBwd_v17 y zx l i1)))
  unfold val_main_v22 val_main_v21 val_main_v20
  generalize val_main_v17 (F := Ideal) y zx = v
  pointwise [val_main_cst_3]

/-- The gate argument's gradient in the reference, at an index. -/
theorem gnormBwd_v43 (l d : Fin 2048) :
    val_main_v43 (F := Ideal) y zx nw dout (ix2 l d)
      = ((show EReal from y (ix2 l d)) * dh y zx nw dout l (grp d) (off d) * sgm (zx (ix2 l (zcol d)))
          + (show EReal from zx (ix2 l (zcol d))) * ((show EReal from y (ix2 l d)) * dh y zx nw dout l (grp d) (off d)) * (sgm (zx (ix2 l (zcol d))) * (1 - sgm (zx (ix2 l (zcol d))))) : EReal) := by
  rw [← gnormBwd_v40]
  unfold val_main_v43 val_main_call1_v2 val_main_call1_v1 val_main_call1_v0 val_main_v41 sgm
  generalize val_main_v40 (F := Ideal) y zx nw dout = v
  pointwise [val_main_v1_1, val_main_call0_v7, val_main_call0_v6, val_main_call0_cst_1, val_main_v1_2, val_main_call0_v4, val_main_call0_cst_0, val_main_call0_v3, val_main_call0_v2, val_main_call0_cst, val_main_call0_v1, val_main_call0_v0, val_main_v0]
  rfl

end

/-- Over real numbers the two forms of the gate's gradient are equal. -/
theorem gate_grad (y z d : ℝ) :
    (y : EReal) * d * sgm z + (z : EReal) * ((y : EReal) * d) * (sgm z * (1 - sgm z)) = (d : EReal) * y * dsilu z := by
  unfold dsilu sgm
  rw [sigmoid_coe]
  norm_cast
  ring

open Cert.Pre_gnorm_real in
/-- The precondition says that the four arguments hold real numbers. -/
theorem gnorm_reals_of_pre (y : Vec Ideal Cert.GnormBwdIdeal.S2048x2048 .f32) (zx : Vec Ideal Cert.GnormBwdIdeal.S2048x6176 .f32) (nw : Vec Ideal Cert.GnormBwdIdeal.S1x2048 .f32) (dout : Vec Ideal Cert.GnormBwdIdeal.S2048x2048 .f32)
    (h : Cert.Pre_gnorm_real.fn (F := Ideal) y zx nw dout = fun _ => 1#1) :
    (∃ f : Cert.GnormBwdIdeal.S2048x2048.Idx → ℝ, y = fun i => (f i : EReal))
      ∧ (∃ f : Cert.GnormBwdIdeal.S2048x6176.Idx → ℝ, zx = fun i => (f i : EReal))
      ∧ (∃ f : Cert.GnormBwdIdeal.S1x2048.Idx → ℝ, nw = fun i => (f i : EReal))
      ∧ (∃ f : Cert.GnormBwdIdeal.S2048x2048.Idx → ℝ, dout = fun i => (f i : EReal)) := by
  have h0 := congrFun h (Shape.Idx.first (by decide))
  obtain ⟨h1, h2⟩ := IntOp.andi_eq_one.1 h0
  obtain ⟨h3, h4⟩ := IntOp.andi_eq_one.1 h1
  obtain ⟨h5, h6⟩ := IntOp.andi_eq_one.1 h3
  haveI : Subsingleton S_.Idx := ⟨fun a b => funext fun x => x.elim0⟩
  exact ⟨all_real_f32 y _ (fun _ => rfl) _ _ _ _ h5, all_real_f32 zx _ (fun _ => rfl) _ _ _ _ h6, all_real_f32 nw _ (fun _ => rfl) _ _ _ _ h4, all_real_f32 dout _ (fun _ => rfl) _ _ _ _ h2⟩

/-- The gate argument's gradient in the reference is the kernel's under the precondition. -/
theorem gnormBwd_dz (y : Vec Ideal Cert.GnormBwdIdeal.S2048x2048 .f32) (zx : Vec Ideal Cert.GnormBwdIdeal.S2048x6176 .f32) (nw : Vec Ideal Cert.GnormBwdIdeal.S1x2048 .f32) (dout : Vec Ideal Cert.GnormBwdIdeal.S2048x2048 .f32)
    (h : Cert.Pre_gnorm_real.fn (F := Ideal) y zx nw dout = fun _ => 1#1) : val_main_v43 (F := Ideal) y zx nw dout = Dz y zx nw dout := by
  obtain ⟨⟨f0, rfl⟩, ⟨f1, rfl⟩, ⟨f2, rfl⟩, ⟨f3, rfl⟩⟩ := gnorm_reals_of_pre _ _ _ _ h
  funext i
  idx_vars i
  rw [gnormBwd_v43]
  have hs : ∀ x : ℝ, ∃ r : ℝ, silu (x : EReal) = (r : EReal) := fun x => by
    unfold silu sgm
    rw [sigmoid_coe]
    exact ⟨_, (EReal.coe_mul _ _).symm⟩
  obtain ⟨d, hd⟩ : ∃ d : ℝ, dh (fun i => (f0 i : EReal)) (fun i => (f1 i : EReal)) (fun i => (f2 i : EReal)) (fun i => (f3 i : EReal)) i0 (grp i1) (off i1) = (d : EReal) :=
    normGradOf_real word_256 (by norm_num) _ _ _ (fun k => real_mul ⟨_, rfl⟩ (hs _)) (fun k => real_mul ⟨_, rfl⟩ ⟨_, rfl⟩)
  show _ = (dh _ _ _ _ i0 (grp i1) (off i1) * _ * _ : EReal)
  rw [hd]
  exact gate_grad _ _ d

/-- The kernel's call and the reference, from memories that agree on real arguments, end with equal results. -/
theorem gnormBwd : Cert.algebraic_GnormBwdIdeal_GnormBwdRefIdeal_pre_gnorm_real (hGnormBwdIdeal := Cert.GnormBwdIdeal.Gen.facts) (hGnormBwdRefIdeal := Cert.GnormBwdRefIdeal.Gen.facts) (hPre_gnorm_real := Cert.Pre_gnorm_real.Gen.facts) := by
  intro m ρ m' ρ' hpre hag
  refine ⟨_, _, _, Cert.GnormBwdIdeal.Hand.run m ρ, (θ_run _ _ _).mono (fun _ h c => ⟨(h c).1.trans ?_, (h c).2.1.trans ?_, (h c).2.2.1.trans ?_, (h c).2.2.2⟩) (Cert.GnormBwdRefIdeal.Value.run m' ρ')⟩
  · rw [val_main_v42_eq, (hag c).1, (hag c).2.1, (hag c).2.2.1, (hag c).2.2.2]
    exact gnormBwd_dy _ _ _ _
  · rw [val_main_v43_eq, (hag c).1, (hag c).2.1, (hag c).2.2.1, (hag c).2.2.2]
    exact gnormBwd_dz _ _ _ _ (hpre c)
  · rw [val_main_v22_eq, (hag c).1, (hag c).2.1, (hag c).2.2.2]
    exact gnormBwd_dnw _ _ _

end Cert.Proof

end
-- ==== Proof.ConvBwd.lean ====
/-
  Hand-written. The gradient of the causal convolution and its gate: the kernel's call and the reference end with the same three
  arrays, the gradients of the convolution's argument, of its weight and of its bias.
-/
module

public import proofs.«01_k».proof.Defs
public import proofs.«01_k».proof.Proof.Gen.ConvBwdIdeal.Value
public import proofs.«01_k».proof.Proof.Gen.ConvBwdRefIdeal.Run
public import proofs.«01_k».proof.Proof.Gen.ConvBwdRefIdeal.Read
public import proofs.«01_k».proof.Proof.Gen.Pre_conv_real
public import proofs.«01_k».proof.Proof.AllReal
public import proofs.«01_k».proof.Proof.Rms
public import Idealize.ShloMosaic.Lib.Pipeline.Value
public import Idealize.ShloMosaic.Lib.Pipeline.ValueKit
public import Idealize.ShloMosaic.Lib.Pointwise

@[expose] public section

set_option maxRecDepth 16384

noncomputable section

namespace Cert.ConvBwdIdeal.Hand

open Cert.ConvBwdIdeal Cert.ConvBwdIdeal.Gen Idealize.ShloMosaic Idealize.ShloMosaic.TcCoe Idealize.SL.Sem
open Idealize.ShloMosaic.Pipeline (Dat)

/-- The sigmoid as the kernel computes it, and the derivative of the gate. -/
def sgm (x : EReal) : EReal := Ideal.div 1 (1 + Ideal.exp (-x))
def dsilu (x : EReal) : EReal := sgm x * (1 + x * (1 - sgm x))

/-! ## The column's functions -/

/-- A column moved down by `k` rows, and moved up, with zeros where it is empty. -/
def back (k : ℕ) (x : Fin 2048 → EReal) (l : Fin 2048) : EReal := if k ≤ l.val then x ⟨l.val - k, by omega⟩ else 0
def ahead (k : ℕ) (x : Fin 2048 → EReal) (l : Fin 2048) : EReal := if h : l.val + k < 2048 then x ⟨l.val + k, h⟩ else 0

/-- The convolution of a column, and the gradient at its output. -/
def pre (u : Fin 2048 → EReal) (w : Fin 4 → EReal) (b : EReal) (l : Fin 2048) : EReal :=
  b + w 3 * u l + w 2 * back 1 u l + w 1 * back 2 u l + w 0 * back 3 u l
def dpre (u : Fin 2048 → EReal) (w : Fin 4 → EReal) (b : EReal) (g : Fin 2048 → EReal) (l : Fin 2048) : EReal :=
  g l * dsilu (pre u w b l)

/-- The gradient of the convolution's argument. -/
def du (w : Fin 4 → EReal) (dp : Fin 2048 → EReal) (l : Fin 2048) : EReal :=
  w 3 * dp l + w 2 * ahead 1 dp l + w 1 * ahead 2 dp l + w 0 * ahead 3 dp l

/-! ## The payloads at an index -/

/-- A column of a tile. -/
abbrev tcol (v : Vec Ideal S2048x256 .f32) (k : Fin 256) : Fin 2048 → EReal := fun l => (show EReal from v (ix2 l k))

theorem sel_back (kw : ℕ) (h : kw < 2048) (l : Fin 2048) (x : EReal) :
    Scalar.select (IntOp.cmpi CmpIPredicate.sge (BitVec.ofNat 32 l.val) (BitVec.ofNat 32 kw)) x 0 = if kw ≤ l.val then x else 0 := by
  have hl := l.isLt
  unfold Scalar.select
  congr 1
  exact propext (WordCmp.cmpi_sge_ofNat_eq_one_iff (by omega) (by omega))

theorem sel_ahead (kw : ℕ) (h : kw < 2049) (l : Fin 2048) (x : EReal) :
    Scalar.select (IntOp.cmpi CmpIPredicate.slt (BitVec.ofNat 32 l.val) (BitVec.ofNat 32 kw)) x 0 = if l.val < kw then x else 0 := by
  have hl := l.isLt
  unfold Scalar.select
  congr 1
  exact propext (WordCmp.cmpi_slt_ofNat_eq_one_iff (by omega) (by omega))

/-- A masked rotation of a column, times a factor. -/
theorem mul_back (k : ℕ) (hk : k < 2048) (w : EReal) (x : Fin 2048 → EReal) (l q : Fin 2048) (hq : q.val = (l.val + 2048 - k) % 2048) :
    Scalar.select (IntOp.cmpi CmpIPredicate.sge (BitVec.ofNat 32 l.val) (BitVec.ofNat 32 k)) (w * x q) 0 = w * back k x l := by
  rw [sel_back k hk]
  unfold back
  split
  · have e : q = ⟨l.val - k, by omega⟩ := Fin.ext (by show q.val = l.val - k; have := l.isLt; omega)
    rw [e]
  · rw [mul_zero]

theorem mul_ahead (k n : ℕ) (hn : n + k = 2048) (w : EReal) (x : Fin 2048 → EReal) (l q : Fin 2048) (hq : q.val = (l.val + 2048 - n) % 2048) :
    Scalar.select (IntOp.cmpi CmpIPredicate.slt (BitVec.ofNat 32 l.val) (BitVec.ofNat 32 n)) (w * x q) 0 = w * ahead k x l := by
  rw [sel_ahead n (by omega)]
  unfold ahead
  by_cases h : l.val < n
  · rw [if_pos h, dif_pos (by omega)]
    have e : q = ⟨l.val + k, by omega⟩ := Fin.ext (by show q.val = l.val + k; omega)
    rw [e]
  · rw [if_neg h, dif_neg (by omega), mul_zero]

/-- The four rows of the weight's tile, and the rows as the body loads them. -/
abbrev wcol (w : Vec Ideal S4x256 .f32) (k : Fin 256) : Fin 4 → EReal := fun j => (show EReal from w (ix2 j k))
abbrev row0 (w : Vec Ideal S4x256 .f32) : Vec Ideal S1x256 .f32 := View.ld w (Rect.unit (s := S4x256) ![0, 0] S1x256.size inb_S4x256_S1x256_0_0)
abbrev row1 (w : Vec Ideal S4x256 .f32) : Vec Ideal S1x256 .f32 := View.ld w (Rect.unit (s := S4x256) ![1, 0] S1x256.size inb_S4x256_S1x256_1_0)
abbrev row2 (w : Vec Ideal S4x256 .f32) : Vec Ideal S1x256 .f32 := View.ld w (Rect.unit (s := S4x256) ![2, 0] S1x256.size inb_S4x256_S1x256_2_0)
abbrev row3 (w : Vec Ideal S4x256 .f32) : Vec Ideal S1x256 .f32 := View.ld w (Rect.unit (s := S4x256) ![3, 0] S1x256.size inb_S4x256_S1x256_3_0)

theorem row_apply (w : Vec Ideal S4x256 .f32) (k : Fin 256) :
    (row0 w (ix2 (0 : Fin 1) k) = wcol w k 0 ∧ row1 w (ix2 (0 : Fin 1) k) = wcol w k 1)
      ∧ row2 w (ix2 (0 : Fin 1) k) = wcol w k 2 ∧ row3 w (ix2 (0 : Fin 1) k) = wcol w k 3 := by
  refine ⟨⟨?_, ?_⟩, ?_, ?_⟩ <;>
  · refine View.ld_unit_apply_of _ _ _ _ _ _ fun a => ?_
    match a with
    | ⟨0, _⟩ => rfl
    | ⟨1, _⟩ => exact (Nat.zero_add _).symm

/-- The convolution of a tile. -/
abbrev convT (u : Vec Ideal S2048x256 .f32) (w : Vec Ideal S4x256 .f32) (b : Vec Ideal S1x256 .f32) : FVec Ideal S2048x256 .f32 :=
  k0_pay2 (F := Ideal) u b (row3 w) (row2 w) (row1 w) (row0 w)

theorem pay2_apply (u : Vec Ideal S2048x256 .f32) (w : Vec Ideal S4x256 .f32) (b : Vec Ideal S1x256 .f32) (l : Fin 2048) (k : Fin 256) :
    convT u w b (ix2 l k) = (pre (tcol u k) (wcol w k) (show EReal from b (ix2 (0 : Fin 1) k)) l : EReal) := by
  obtain ⟨⟨h0, h1⟩, h2, h3⟩ := row_apply w k
  unfold pre convT
  rw [← h0, ← h1, ← h2, ← h3]
  generalize row0 w = w0
  generalize row1 w = w1
  generalize row2 w = w2
  generalize row3 w = w3
  rw [← mul_back 1 (by omega) _ (tcol u k) l ⟨(l.val + 2048 - 1) % 2048, by omega⟩ rfl, ← mul_back 2 (by omega) _ (tcol u k) l ⟨(l.val + 2048 - 2) % 2048, by omega⟩ rfl,
    ← mul_back 3 (by omega) _ (tcol u k) l ⟨(l.val + 2048 - 3) % 2048, by omega⟩ rfl]
  pointwise [k0_pay2]

/-- The gradient at the convolution's output, in a tile. -/
abbrev gradT (u : Vec Ideal S2048x256 .f32) (w : Vec Ideal S4x256 .f32) (b : Vec Ideal S1x256 .f32) (g : Vec Ideal S2048x256 .f32) : FVec Ideal S2048x256 .f32 :=
  k0_pay3 (F := Ideal) g (convT u w b)

theorem pay3_apply (u : Vec Ideal S2048x256 .f32) (w : Vec Ideal S4x256 .f32) (b : Vec Ideal S1x256 .f32) (g : Vec Ideal S2048x256 .f32) (l : Fin 2048) (k : Fin 256) :
    gradT u w b g (ix2 l k) = (dpre (tcol u k) (wcol w k) (show EReal from b (ix2 (0 : Fin 1) k)) (tcol g k) l : EReal) := by
  unfold dpre dsilu sgm gradT
  rw [← pay2_apply]
  generalize convT u w b = z
  pointwise [k0_pay3]
  rw [zero_sub]

/-- The same, as a column. -/
theorem tcol_grad (u : Vec Ideal S2048x256 .f32) (w : Vec Ideal S4x256 .f32) (b : Vec Ideal S1x256 .f32) (g : Vec Ideal S2048x256 .f32) (k : Fin 256) :
    tcol (gradT u w b g) k = dpre (tcol u k) (wcol w k) (show EReal from b (ix2 (0 : Fin 1) k)) (tcol g k) :=
  funext fun l => pay3_apply u w b g l k

/-- The bias's gradient. -/
theorem pay4_apply (g z : Vec Ideal S2048x256 .f32) (k : Fin 256) :
    k0_pay4 (F := Ideal) g z (ix2 (0 : Fin 1) k) = (∑ l : Fin 2048, tcol (k0_pay3 (F := Ideal) g z) k l : EReal) := by
  unfold k0_pay4
  generalize k0_pay3 (F := Ideal) g z = d
  pointwise []

/-- The rows' indices. -/
abbrev rowIx : IVec S2048x256 32 := iota .tc S2048x256 32 [0] iota_S2048x256_d0_w32

/-- The weight's gradient, row by row. -/
theorem pay6_apply (u g z : Vec Ideal S2048x256 .f32) (k : Fin 256) :
    k0_pay6 (F := Ideal) u g z (ix2 (0 : Fin 1) k) = (∑ l : Fin 2048, tcol (k0_pay3 (F := Ideal) g z) k l * back 0 (tcol u k) l : EReal) := by
  unfold k0_pay6
  generalize k0_pay3 (F := Ideal) g z = d
  pointwise []
  exact Finset.sum_congr rfl fun l _ => congrArg (fun x : EReal => _ * x) (if_pos (Nat.zero_le _)).symm

theorem pay7_apply (u g z : Vec Ideal S2048x256 .f32) (k : Fin 256) :
    k0_pay7 (F := Ideal) rowIx u g z (ix2 (0 : Fin 1) k) = (∑ l : Fin 2048, tcol (k0_pay3 (F := Ideal) g z) k l * back 1 (tcol u k) l : EReal) := by
  unfold k0_pay7
  generalize k0_pay3 (F := Ideal) g z = d
  rw [← Finset.sum_congr rfl fun l _ => mul_back 1 (by omega) (tcol d k l) (tcol u k) l ⟨(l.val + 2048 - 1) % 2048, by omega⟩ rfl]
  pointwise []

theorem pay9_apply (u d : Vec Ideal S2048x256 .f32) (k : Fin 256) :
    k0_pay9 (F := Ideal) rowIx u d (ix2 (0 : Fin 1) k) = (∑ l : Fin 2048, tcol d k l * back 2 (tcol u k) l : EReal) := by
  rw [← Finset.sum_congr rfl fun l _ => mul_back 2 (by omega) (tcol d k l) (tcol u k) l ⟨(l.val + 2048 - 2) % 2048, by omega⟩ rfl]
  pointwise [k0_pay9]

theorem pay11_apply (u d : Vec Ideal S2048x256 .f32) (k : Fin 256) :
    k0_pay11 (F := Ideal) rowIx u d (ix2 (0 : Fin 1) k) = (∑ l : Fin 2048, tcol d k l * back 3 (tcol u k) l : EReal) := by
  rw [← Finset.sum_congr rfl fun l _ => mul_back 3 (by omega) (tcol d k l) (tcol u k) l ⟨(l.val + 2048 - 3) % 2048, by omega⟩ rfl]
  pointwise [k0_pay11]

/-- The gradient of the convolution's argument. -/
theorem pay1_apply (g z : Vec Ideal S2048x256 .f32) (w : Vec Ideal S4x256 .f32) (l : Fin 2048) (k : Fin 256) :
    k0_pay1 (F := Ideal) rowIx (k0_pay3 g z) (k0_pay10 rowIx (k0_pay3 g z) (k0_pay5 g z (row3 w)) (row2 w) k0_pay8 (row1 w)) (row0 w) k0_pay12 (ix2 l k)
      = (du (wcol w k) (tcol (k0_pay3 (F := Ideal) g z) k) l : EReal) := by
  obtain ⟨⟨h0, h1⟩, h2, h3⟩ := row_apply w k
  unfold du k0_pay1 k0_pay10 k0_pay5 k0_pay8 k0_pay12
  rw [← h0, ← h1, ← h2, ← h3]
  generalize row0 w = w0
  generalize row1 w = w1
  generalize row2 w = w2
  generalize row3 w = w3
  generalize k0_pay3 (F := Ideal) g z = d
  rw [← mul_ahead 1 2047 (by omega) _ (tcol d k) l ⟨(l.val + 2048 - 2047) % 2048, by omega⟩ rfl, ← mul_ahead 2 2046 (by omega) _ (tcol d k) l ⟨(l.val + 2048 - 2046) % 2048, by omega⟩ rfl,
    ← mul_ahead 3 2045 (by omega) _ (tcol d k) l ⟨(l.val + 2048 - 2045) % 2048, by omega⟩ rfl]
  pointwise []

/-- Four rows stored one by one are a tile's four rows. -/
theorem canon_rows (p : Fin 4 → Vec Ideal S1x256 .f32) (j : Fin 4) (k : Fin 256) :
    View.canon (Val := Elt Ideal) (s := S4x256) (e := .f32)
      [⟨Rect.unit (s := S4x256) ![0, 0] S1x256.size inb_S4x256_S1x256_0_0, p 0⟩, ⟨Rect.unit (s := S4x256) ![1, 0] S1x256.size inb_S4x256_S1x256_1_0, p 1⟩,
        ⟨Rect.unit (s := S4x256) ![2, 0] S1x256.size inb_S4x256_S1x256_2_0, p 2⟩, ⟨Rect.unit (s := S4x256) ![3, 0] S1x256.size inb_S4x256_S1x256_3_0, p 3⟩] (ix2 j k)
      = p j (ix2 (0 : Fin 1) k) := by
  have hit : ∀ (a : ℕ) (ha : a < 4) (inb : ∀ x, (![a, 0] : Fin 2 → ℕ) x + S1x256.size x ≤ S4x256.size x) (q : Vec Ideal S1x256 .f32) (L : List (View.Piece (Elt Ideal) S4x256 .f32)),
      View.canon (⟨Rect.unit (s := S4x256) ![a, 0] S1x256.size inb, q⟩ :: L) (ix2 (⟨a, ha⟩ : Fin 4) k) = q (ix2 (0 : Fin 1) k) := by
    intro a ha inb q L
    have e : (ix2 (⟨a, ha⟩ : Fin 4) k : S4x256.Idx) = (Rect.unit (s := S4x256) ![a, 0] S1x256.size inb).emb (ix2 (0 : Fin 1) k) := by
      funext x; apply Fin.ext
      refine Eq.trans ?_ (Rect.idx_unit_val _ _ _ _ _).symm
      match x with
      | ⟨0, _⟩ => rfl
      | ⟨1, _⟩ => exact (Nat.zero_add _).symm
    rw [e]
    exact View.canon_cons_emb _ _ _ _
  have miss : ∀ (a : ℕ) (inb : ∀ x, (![a, 0] : Fin 2 → ℕ) x + S1x256.size x ≤ S4x256.size x) (q : Vec Ideal S1x256 .f32) (L : List (View.Piece (Elt Ideal) S4x256 .f32)) (b : Fin 4), b.val ≠ a →
      View.canon (⟨Rect.unit (s := S4x256) ![a, 0] S1x256.size inb, q⟩ :: L) (ix2 b k) = View.canon L (ix2 b k) := by
    intro a inb q L b hb
    refine View.canon_cons_of_not_mem _ _ fun hm => hb ?_
    obtain ⟨x, hx⟩ := (Rect.unit (s := S4x256) ![a, 0] S1x256.size inb).exists_idx_of_mem hm
    have h0 := congrArg Fin.val (congrFun hx (0 : Fin 2))
    rw [Rect.idx_unit_val] at h0
    have hx0 : (x (0 : Fin 2)).val < 1 := (x (0 : Fin 2)).isLt
    have h1 : a + (x (0 : Fin 2)).val = b.val := h0
    omega
  fin_cases j
  · exact hit 0 _ _ _ _
  · exact (miss 0 _ _ _ 1 (by decide)).trans (hit 1 _ _ _ _)
  · exact (miss 0 _ _ _ 2 (by decide)).trans ((miss 1 _ _ _ 2 (by decide)).trans (hit 2 _ _ _ _))
  · exact (miss 0 _ _ _ 3 (by decide)).trans ((miss 1 _ _ _ 3 (by decide)).trans ((miss 2 _ _ _ 3 (by decide)).trans (hit 3 _ _ _ _)))

variable (m : (ℓ : Loc nD τ sig) → Buf (Elt Ideal) ℓ) (ρ : Dev nD → PrngReg)

/-! ## What each point leaves -/

/-- The gradient at the convolution's output at a point, as a column. -/
abbrev dcol (c : Dev nD) (t : Fin cfg0.N) (k : Fin 256) : Fin 2048 → EReal :=
  dpre (tcol (X0_0 m c t) k) (wcol (iblk m c 1 t) k) (show EReal from iblk m c 2 t (ix2 (0 : Fin 1) k)) (tcol (iblk m c 3 t) k)

theorem left_du (c : Dev nD) (t : Fin cfg0.N) (l : Fin 2048) (k : Fin 256) :
    (outsAt0 m c t).1 (ix2 l k) = (du (wcol (iblk m c 1 t) k) (dcol m c t k) l : EReal) := by
  refine Eq.trans ?_ ((pay1_apply (iblk m c 3 t) (convT (X0_0 m c t) (iblk m c 1 t) (iblk m c 2 t)) (iblk m c 1 t) l k).trans
    (congrArg (fun d => (du (wcol (iblk m c 1 t) k) d l : EReal)) (tcol_grad (X0_0 m c t) (iblk m c 1 t) (iblk m c 2 t) (iblk m c 3 t) k)))
  refine congrFun ?_ (ix2 l k)
  unfold outsAt0
  frame_out

theorem left_db (c : Dev nD) (t : Fin cfg0.N) (k : Fin 256) :
    (outsAt0 m c t).2.2 (ix2 (0 : Fin 1) k) = (∑ l : Fin 2048, dcol m c t k l : EReal) := by
  refine Eq.trans ?_ ((pay4_apply (iblk m c 3 t) (convT (X0_0 m c t) (iblk m c 1 t) (iblk m c 2 t)) k).trans
    (congrArg (fun d : Fin 2048 → EReal => ∑ l, d l) (tcol_grad (X0_0 m c t) (iblk m c 1 t) (iblk m c 2 t) (iblk m c 3 t) k)))
  refine congrFun ?_ (ix2 (0 : Fin 1) k)
  unfold outsAt0
  frame_out

theorem left_dw (c : Dev nD) (t : Fin cfg0.N) (j : Fin 4) (k : Fin 256) :
    (outsAt0 m c t).2.1 (ix2 j k) = (∑ l : Fin 2048, dcol m c t k l * back (3 - j.val) (tcol (X0_0 m c t) k) l : EReal) := by
  have e : ∀ l, dcol m c t k l = tcol (gradT (X0_0 m c t) (iblk m c 1 t) (iblk m c 2 t) (iblk m c 3 t)) k l := fun l =>
    (congrFun (tcol_grad (X0_0 m c t) (iblk m c 1 t) (iblk m c 2 t) (iblk m c 3 t) k) l).symm
  refine Eq.trans ?_ (Finset.sum_congr rfl fun l _ => congrArg (fun d : EReal => d * back (3 - j.val) (tcol (X0_0 m c t) k) l) (e l).symm)
  refine Eq.trans ?_ ((canon_rows ![k0_pay11 (F := Ideal) rowIx (X0_0 m c t) (gradT (X0_0 m c t) (iblk m c 1 t) (iblk m c 2 t) (iblk m c 3 t)),
    k0_pay9 (F := Ideal) rowIx (X0_0 m c t) (gradT (X0_0 m c t) (iblk m c 1 t) (iblk m c 2 t) (iblk m c 3 t)),
    k0_pay7 (F := Ideal) rowIx (X0_0 m c t) (iblk m c 3 t) (convT (X0_0 m c t) (iblk m c 1 t) (iblk m c 2 t)),
    k0_pay6 (F := Ideal) (X0_0 m c t) (iblk m c 3 t) (convT (X0_0 m c t) (iblk m c 1 t) (iblk m c 2 t))] j k).trans ?_)
  · refine congrFun ?_ (ix2 j k)
    unfold outsAt0
    frame_out
    rfl
  · fin_cases j
    · exact pay11_apply _ _ k
    · exact pay9_apply _ _ k
    · exact pay7_apply _ _ _ k
    · exact pay6_apply _ _ _ k

/-! ## The blocks the points work on -/

theorem idx0 : ∀ t : Fin cfg0.N, win0_0.index t (0 : Fin 2) = 0 ∧ win0_0.index t (1 : Fin 2) = 8 + t.val :=
  (by decide +kernel : ∀ t : Fin grid0.N, _)
theorem idx1 : ∀ t : Fin cfg0.N, win0_1.index t (0 : Fin 2) = 0 ∧ win0_1.index t (1 : Fin 2) = t.val :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)
theorem idx4 : ∀ t : Fin cfg0.N, win0_4.index t (0 : Fin 2) = 0 ∧ win0_4.index t (1 : Fin 2) = t.val :=
  (by decide +kernel : ∀ t : Fin grid0.N, _)
theorem idx5 : ∀ t : Fin cfg0.N, win0_5.index t (0 : Fin 2) = 0 ∧ win0_5.index t (1 : Fin 2) = t.val :=
  (by decide +kernel : ∀ t : Fin grid0.N, _)
theorem idx6 : ∀ t : Fin cfg0.N, win0_6.index t (0 : Fin 2) = 0 ∧ win0_6.index t (1 : Fin 2) = t.val :=
  (by decide +kernel : ∀ t : Fin grid0.N, _)

/-- Column `k` of point `t`'s tile among the 4096, and a column's place in the input projection's output. -/
def col (t : Fin cfg0.N) (k : Fin 256) : Fin 4096 := ⟨t.val * 256 + k.val, by have h : t.val < 16 := t.isLt; omega⟩
def ucol (d : Fin 4096) : Fin 6176 := ⟨2048 + d.val, by omega⟩

theorem iblk0 (c : Dev nD) (t : Fin cfg0.N) (l : Fin 2048) (k : Fin 256) :
    X0_0 m c t (ix2 l k) = m ((c : Thread nD τ).loc main_arg0) (ix2 l (ucol (col t k))) := by
  obtain ⟨e0, e1⟩ := idx0 t
  unfold X0_0 Pipeline.Window.fill
  rw [dif_pos (moved0_0 t _)]
  show V m c main_arg0 (((cfg0.win 0).blk t).view.emb _) = _
  refine Eq.trans ?_ (congrFun (V_main_arg0 m c) _)
  congr 1
  funext a; apply Fin.ext
  match a with
  | ⟨0, _⟩ => show win0_0.index t (0 : Fin 2) * 2048 + 1 * l.val = l.val; omega
  | ⟨1, _⟩ => show win0_0.index t (1 : Fin 2) * 256 + 1 * k.val = 2048 + (t.val * 256 + k.val); omega

theorem iblk1 (c : Dev nD) (t : Fin cfg0.N) (j : Fin 4) (k : Fin 256) :
    iblk m c 1 t (ix2 j k) = m ((c : Thread nD τ).loc main_arg1) (ix2 j (col t k)) := by
  obtain ⟨e0, e1⟩ := idx1 t
  show V m c main_arg1 (((cfg0.win 1).blk t).view.emb (ix2 j k)) = _
  refine Eq.trans ?_ (congrFun (V_main_arg1 m c) _)
  congr 1
  funext a; apply Fin.ext
  match a with
  | ⟨0, _⟩ => show win0_1.index t (0 : Fin 2) * 4 + 1 * j.val = j.val; omega
  | ⟨1, _⟩ => show win0_1.index t (1 : Fin 2) * 256 + 1 * k.val = t.val * 256 + k.val; omega

theorem iblk2 (c : Dev nD) (t : Fin cfg0.N) (k : Fin 256) :
    iblk m c 2 t (ix2 (0 : Fin 1) k) = m ((c : Thread nD τ).loc main_arg2) (ix2 (0 : Fin 1) (col t k)) := by
  obtain ⟨e0, e1⟩ := idx2 t
  show V m c main_arg2 (((cfg0.win 2).blk t).view.emb (ix2 (0 : Fin 1) k)) = _
  refine Eq.trans ?_ (congrFun (V_main_arg2 m c) _)
  congr 1
  funext a; apply Fin.ext
  match a with
  | ⟨0, _⟩ => show win0_2.index t (0 : Fin 2) * 1 + 1 * 0 = 0; omega
  | ⟨1, _⟩ => show win0_2.index t (1 : Fin 2) * 256 + 1 * k.val = t.val * 256 + k.val; omega

theorem iblk3 (c : Dev nD) (t : Fin cfg0.N) (l : Fin 2048) (k : Fin 256) :
    iblk m c 3 t (ix2 l k) = m ((c : Thread nD τ).loc main_arg3) (ix2 l (col t k)) := by
  obtain ⟨e0, e1⟩ := idx3 t
  show V m c main_arg3 (((cfg0.win 3).blk t).view.emb (ix2 l k)) = _
  refine Eq.trans ?_ (congrFun (V_main_arg3 m c) _)
  congr 1
  funext a; apply Fin.ext
  match a with
  | ⟨0, _⟩ => show win0_3.index t (0 : Fin 2) * 2048 + 1 * l.val = l.val; omega
  | ⟨1, _⟩ => show win0_3.index t (1 : Fin 2) * 256 + 1 * k.val = t.val * 256 + k.val; omega

/-- Where an index of an output's block lies in the result. -/
theorem emb4 (t : Fin cfg0.N) (j : S2048x256.Idx) : ((cfg0.win 4).blk t).view.emb j = (ix2 (j 0) (col t (j 1)) : S2048x4096.Idx) := by
  obtain ⟨e0, e1⟩ := idx4 t
  idx_vars j
  funext a; apply Fin.ext
  match a with
  | ⟨0, _⟩ => show win0_4.index t (0 : Fin 2) * 2048 + 1 * j0.val = j0.val; omega
  | ⟨1, _⟩ => show win0_4.index t (1 : Fin 2) * 256 + 1 * j1.val = t.val * 256 + j1.val; omega

theorem emb5 (t : Fin cfg0.N) (j : S4x256.Idx) : ((cfg0.win 5).blk t).view.emb j = (ix2 (j 0) (col t (j 1)) : S4x4096.Idx) := by
  obtain ⟨e0, e1⟩ := idx5 t
  idx_vars j
  funext a; apply Fin.ext
  match a with
  | ⟨0, _⟩ => show win0_5.index t (0 : Fin 2) * 4 + 1 * j0.val = j0.val; omega
  | ⟨1, _⟩ => show win0_5.index t (1 : Fin 2) * 256 + 1 * j1.val = t.val * 256 + j1.val; omega

theorem emb6 (t : Fin cfg0.N) (j : S1x256.Idx) : ((cfg0.win 6).blk t).view.emb j = (ix2 (j 0) (col t (j 1)) : S1x4096.Idx) := by
  obtain ⟨e0, e1⟩ := idx6 t
  idx_vars j
  funext a; apply Fin.ext
  match a with
  | ⟨0, _⟩ => show win0_6.index t (0 : Fin 2) * 1 + 1 * j0.val = j0.val; omega
  | ⟨1, _⟩ => show win0_6.index t (1 : Fin 2) * 256 + 1 * j1.val = t.val * 256 + j1.val; omega

/-! ## The results -/

section
variable (zx : Vec Ideal S2048x6176 .f32) (w : Vec Ideal S4x4096 .f32) (b : Vec Ideal S1x4096 .f32) (g : Vec Ideal S2048x4096 .f32)

/-- Column `d` of the convolution's argument, of the weight and of the gradient at the gate's output. -/
abbrev ucolumn (d : Fin 4096) : Fin 2048 → EReal := fun l => (show EReal from zx (ix2 l (ucol d)))
abbrev wcolumn (d : Fin 4096) : Fin 4 → EReal := fun j => (show EReal from w (ix2 j d))
abbrev gcolumn (d : Fin 4096) : Fin 2048 → EReal := fun l => (show EReal from g (ix2 l d))

/-- The gradient at the convolution's output in column `d`. -/
abbrev dcolumn (d : Fin 4096) : Fin 2048 → EReal :=
  dpre (ucolumn zx d) (wcolumn w d) (show EReal from b (ix2 (0 : Fin 1) d)) (gcolumn g d)

/-- The three gradients. -/
def Du : Vec Ideal S2048x4096 .f32 := fun i => (du (wcolumn w (i 1)) (dcolumn zx w b g (i 1)) (i 0) : EReal)
def Dw : Vec Ideal S4x4096 .f32 := fun i => (∑ l : Fin 2048, dcolumn zx w b g (i 1) l * back (3 - (i 0).val) (ucolumn zx (i 1)) l : EReal)
def Db : Vec Ideal S1x4096 .f32 := fun i => (∑ l : Fin 2048, dcolumn zx w b g (i 1) l : EReal)
end

/-- A tile's columns are columns of the arrays. -/
theorem tcol_u (c : Dev nD) (t : Fin cfg0.N) (k : Fin 256) : tcol (X0_0 m c t) k = ucolumn (m ((c : Thread nD τ).loc main_arg0)) (col t k) :=
  funext fun l => iblk0 m c t l k
theorem wcol_w (c : Dev nD) (t : Fin cfg0.N) (k : Fin 256) : wcol (iblk m c 1 t) k = wcolumn (m ((c : Thread nD τ).loc main_arg1)) (col t k) :=
  funext fun j => iblk1 m c t j k
theorem dcol_eq (c : Dev nD) (t : Fin cfg0.N) (k : Fin 256) :
    dcol m c t k = dcolumn (m ((c : Thread nD τ).loc main_arg0)) (m ((c : Thread nD τ).loc main_arg1)) (m ((c : Thread nD τ).loc main_arg2)) (m ((c : Thread nD τ).loc main_arg3)) (col t k) := by
  have hb : (show EReal from iblk m c 2 t (ix2 (0 : Fin 1) k)) = (show EReal from m ((c : Thread nD τ).loc main_arg2) (ix2 (0 : Fin 1) (col t k))) := iblk2 m c t k
  have hg : tcol (iblk m c 3 t) k = gcolumn (m ((c : Thread nD τ).loc main_arg3)) (col t k) := funext fun l => iblk3 m c t l k
  unfold dcol
  rw [tcol_u, wcol_w, hb, hg]

/-- Each point writes back its block of each result. -/
theorem flushed_Du (c : Dev nD) (t : Fin cfg0.N) :
    (dats m 0 c).flushed 4 t = ((cfg0.win 4).blk t).view.read (Elt Ideal) (Du (m ((c : Thread nD τ).loc main_arg0)) (m ((c : Thread nD τ).loc main_arg1)) (m ((c : Thread nD τ).loc main_arg2)) (m ((c : Thread nD τ).loc main_arg3))) := by
  rw [Value.flushed4]
  funext j
  show (outsAt0 m c t).1 j = Du _ _ _ _ (((cfg0.win 4).blk t).view.emb j)
  rw [emb4]
  idx_vars j
  rw [left_du, dcol_eq, wcol_w]
  rfl

theorem flushed_Dw (c : Dev nD) (t : Fin cfg0.N) :
    (dats m 0 c).flushed 5 t = ((cfg0.win 5).blk t).view.read (Elt Ideal) (Dw (m ((c : Thread nD τ).loc main_arg0)) (m ((c : Thread nD τ).loc main_arg1)) (m ((c : Thread nD τ).loc main_arg2)) (m ((c : Thread nD τ).loc main_arg3))) := by
  rw [Value.flushed5]
  funext j
  show (outsAt0 m c t).2.1 j = Dw _ _ _ _ (((cfg0.win 5).blk t).view.emb j)
  rw [emb5]
  idx_vars j
  rw [left_dw, dcol_eq, tcol_u]
  rfl

theorem flushed_Db (c : Dev nD) (t : Fin cfg0.N) :
    (dats m 0 c).flushed 6 t = ((cfg0.win 6).blk t).view.read (Elt Ideal) (Db (m ((c : Thread nD τ).loc main_arg0)) (m ((c : Thread nD τ).loc main_arg1)) (m ((c : Thread nD τ).loc main_arg2)) (m ((c : Thread nD τ).loc main_arg3))) := by
  rw [Value.flushed6]
  funext j
  show (outsAt0 m c t).2.2 j = Db _ _ _ _ (((cfg0.win 6).blk t).view.emb j)
  rw [emb6]
  idx_vars j
  fin_cases j0
  refine (left_db m c t j1).trans ?_
  rw [dcol_eq]
  rfl

/-- Every column is in some point's tile. -/
theorem point_of (d : Fin 4096) : ∃ (t : Fin cfg0.N) (k : Fin 256), col t k = d :=
  ⟨⟨d.val / 256, by show _ < 16; omega⟩, ⟨d.val % 256, by omega⟩, Fin.ext (by show d.val / 256 * 256 + d.val % 256 = d.val; omega)⟩

theorem covered4 (i : S2048x4096.Idx) : ∃ t : Fin cfg0.N, (cfg0.win 4).flush t = true ∧ i ∈ ((cfg0.win 4).blk t).view.set := by
  idx_vars i
  obtain ⟨t, k, hk⟩ := point_of i1
  refine ⟨t, flush0_4 t, ?_⟩
  have h := ((cfg0.win 4).blk t).view.emb_mem_set (ix2 i0 k : S2048x256.Idx)
  rw [(emb4 t _).trans (congrArg (fun b => (ix2 i0 b : S2048x4096.Idx)) hk)] at h
  exact h

theorem covered5 (i : S4x4096.Idx) : ∃ t : Fin cfg0.N, (cfg0.win 5).flush t = true ∧ i ∈ ((cfg0.win 5).blk t).view.set := by
  idx_vars i
  obtain ⟨t, k, hk⟩ := point_of i1
  refine ⟨t, flush0_5 t, ?_⟩
  have h := ((cfg0.win 5).blk t).view.emb_mem_set (ix2 i0 k : S4x256.Idx)
  rw [(emb5 t _).trans (congrArg (fun b => (ix2 i0 b : S4x4096.Idx)) hk)] at h
  exact h

theorem covered6 (i : S1x4096.Idx) : ∃ t : Fin cfg0.N, (cfg0.win 6).flush t = true ∧ i ∈ ((cfg0.win 6).blk t).view.set := by
  idx_vars i
  obtain ⟨t, k, hk⟩ := point_of i1
  refine ⟨t, flush0_6 t, ?_⟩
  have h := ((cfg0.win 6).blk t).view.emb_mem_set (ix2 i0 k : S1x256.Idx)
  rw [(emb6 t _).trans (congrArg (fun b => (ix2 i0 b : S1x4096.Idx)) hk)] at h
  exact h

/-- The run: the three results are the gradients of the arguments, which end unchanged. -/
theorem run : θ_run defs (onTc (τ := τ) (main (F := Ideal))) ⟨m, fun _ => 0, ρ⟩ fun r => ∀ c : Dev nD,
      r.2.mem ((c : Thread nD τ).loc main_v0_0) = Du (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = Dw (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = Db (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨
      (h c).1.trans ((dats m 0 c).arrAt_eq_of_cover 4 _ (fun t _ => flushed_Du m c t) covered4),
      (h c).2.1.trans ((dats m 0 c).arrAt_eq_of_cover 5 _ (fun t _ => flushed_Dw m c t) covered5),
      (h c).2.2.1.trans ((dats m 0 c).arrAt_eq_of_cover 6 _ (fun t _ => flushed_Db m c t) covered6), (h c).2.2.2⟩) (Value.run_blocks m ρ)

end Cert.ConvBwdIdeal.Hand

namespace Cert.Proof

open Idealize.ShloMosaic Idealize.ShloMosaic.TcCoe Idealize.SL.Sem
open Cert.ConvBwdIdeal.Hand (sgm dsilu back ahead pre dpre du ucol ucolumn wcolumn gcolumn dcolumn Du Dw Db)
open Cert.ConvBwdRefIdeal Cert.ConvBwdRefIdeal.Read

section
variable (zx : Vec Ideal Cert.ConvBwdIdeal.S2048x6176 .f32) (w : Vec Ideal Cert.ConvBwdIdeal.S4x4096 .f32) (b : Vec Ideal Cert.ConvBwdIdeal.S1x4096 .f32) (g : Vec Ideal Cert.ConvBwdIdeal.S2048x4096 .f32)

/-- The convolution's argument with three rows of zeros before it. -/
theorem conv_v2 (r : Fin 2051) (d : Fin 4096) :
    val_main_v2 (F := Ideal) zx (ix2 r d) = (if h : r.val < 3 then 0 else ucolumn zx d ⟨r.val - 3, by omega⟩ : EReal) := by
  pointwise [val_main_v2, val_main_v1, val_main_cst, val_main_v0]
  rfl

/-- Its four slices are the argument moved down. -/
theorem conv_slice (k n : ℕ) (hk : n + k = 3) (l : Fin 2048) (d : Fin 4096) (i : S2051x4096.Idx) (h0 : (i (0 : Fin 2)).val = n + l.val) (h1 : (i (1 : Fin 2)).val = d.val) :
    val_main_v2 (F := Ideal) zx i = (back k (ucolumn zx d) l : EReal) := by
  have hl := l.isLt
  have e : i = ix2 (⟨n + l.val, by omega⟩ : Fin 2051) d := by
    funext a; apply Fin.ext
    match a with
    | ⟨0, _⟩ => exact h0
    | ⟨1, _⟩ => exact h1
  rw [e, conv_v2]
  unfold back
  by_cases h : k ≤ l.val
  · rw [dif_neg (by show ¬n + l.val < 3; omega), if_pos h]
    exact congrArg (ucolumn zx d) (Fin.ext (by show n + l.val - 3 = l.val - k; omega))
  · rw [dif_pos (by show n + l.val < 3; omega), if_neg h]

theorem conv_u (l : Fin 2048) (d : Fin 4096) :
    (val_main_v6 (F := Ideal) zx (ix2 l d) = (back 3 (ucolumn zx d) l : EReal) ∧ val_main_v14 (F := Ideal) zx (ix2 l d) = (back 2 (ucolumn zx d) l : EReal))
      ∧ val_main_v21 (F := Ideal) zx (ix2 l d) = (back 1 (ucolumn zx d) l : EReal) ∧ val_main_v28 (F := Ideal) zx (ix2 l d) = (back 0 (ucolumn zx d) l : EReal) := by
  refine ⟨⟨?_, ?_⟩, ?_, ?_⟩
  · rw [val_main_v6_apply]
    exact conv_slice zx 3 0 rfl l d _ (Nat.zero_add _).symm rfl
  · rw [val_main_v14_apply]
    exact conv_slice zx 2 1 rfl l d _ rfl rfl
  · rw [val_main_v21_apply]
    exact conv_slice zx 1 2 rfl l d _ rfl rfl
  · rw [val_main_v28_apply]
    exact conv_slice zx 0 3 rfl l d _ rfl rfl

/-- The rows of the weight, spread over the tokens. -/
theorem conv_w (l : Fin 2048) (d : Fin 4096) :
    (val_main_v8 (F := Ideal) w (ix2 l d) = (wcolumn w d 0 : EReal) ∧ val_main_v16 (F := Ideal) w (ix2 l d) = (wcolumn w d 1 : EReal))
      ∧ val_main_v23 (F := Ideal) w (ix2 l d) = (wcolumn w d 2 : EReal) ∧ val_main_v30 (F := Ideal) w (ix2 l d) = (wcolumn w d 3 : EReal) := by
  refine ⟨⟨?_, ?_⟩, ?_, ?_⟩
  · pointwise [val_main_v8, val_main_v7, val_main_v5, val_main_v4]
  · pointwise [val_main_v16, val_main_v15, val_main_v13, val_main_v12]
  · pointwise [val_main_v23, val_main_v22, val_main_v20, val_main_v19]
  · pointwise [val_main_v30, val_main_v29, val_main_v27, val_main_v26]

/-- The convolution in the reference. -/
theorem conv_v34 (l : Fin 2048) (d : Fin 4096) :
    val_main_v34 (F := Ideal) zx w b (ix2 l d) = (pre (ucolumn zx d) (wcolumn w d) (show EReal from b (ix2 (0 : Fin 1) d)) l : EReal) := by
  obtain ⟨⟨h0, h1⟩, h2, h3⟩ := conv_w w l d
  obtain ⟨⟨u3, u2⟩, u1, u0⟩ := conv_u zx l d
  have e0 : ucolumn zx d l = back 0 (ucolumn zx d) l := (if_pos (Nat.zero_le _)).symm
  unfold pre
  rw [e0, ← h0, ← h1, ← h2, ← h3, ← u0, ← u1, ← u2, ← u3]
  unfold val_main_v34 val_main_v32 val_main_v31 val_main_v25 val_main_v24 val_main_v18 val_main_v17 val_main_v11 val_main_v9
  generalize val_main_v8 (F := Ideal) w = w0
  generalize val_main_v16 (F := Ideal) w = w1
  generalize val_main_v23 (F := Ideal) w = w2
  generalize val_main_v30 (F := Ideal) w = w3
  generalize val_main_v6 (F := Ideal) zx = u3
  generalize val_main_v14 (F := Ideal) zx = u2
  generalize val_main_v21 (F := Ideal) zx = u1
  generalize val_main_v28 (F := Ideal) zx = u0
  pointwise [val_main_v33, val_main_v10, val_main_cst_1]
  ac_rfl

/-- The gradient at the convolution's output in the reference. -/
theorem conv_v36 (l : Fin 2048) (d : Fin 4096) :
    val_main_v36 (F := Ideal) zx w b g (ix2 l d)
      = (gcolumn g d l * sgm (pre (ucolumn zx d) (wcolumn w d) (show EReal from b (ix2 (0 : Fin 1) d)) l)
          + pre (ucolumn zx d) (wcolumn w d) (show EReal from b (ix2 (0 : Fin 1) d)) l * gcolumn g d l
            * (sgm (pre (ucolumn zx d) (wcolumn w d) (show EReal from b (ix2 (0 : Fin 1) d)) l) * (1 - sgm (pre (ucolumn zx d) (wcolumn w d) (show EReal from b (ix2 (0 : Fin 1) d)) l))) : EReal) := by
  rw [← conv_v34]
  unfold sgm val_main_v36 val_main_call1_v2 val_main_call1_v1 val_main_call1_v0 val_main_v35_1 val_main_call0_v7 val_main_v35_2 val_main_call0_v3 val_main_call0_v1 val_main_call0_v0
  generalize val_main_v34 (F := Ideal) zx w b = z
  pointwise [val_main_call0_v6, val_main_call0_cst_1, val_main_call0_v4, val_main_call0_cst_0, val_main_call0_v2, val_main_call0_cst]

/-- The gradient of the argument in the reference: four products, moved up and added. -/
theorem conv_v82 (l : Fin 2048) (d : Fin 4096) :
    val_main_v82 (F := Ideal) zx w b g (ix2 l d) = (du (wcolumn w d) (fun l => (show EReal from val_main_v36 (F := Ideal) zx w b g (ix2 l d))) l : EReal) := by
  have hl := l.isLt
  have s : ∀ (k : ℕ) (q : EReal) (x : Fin 2048 → EReal), q * ahead k x l = if h : l.val + k < 2048 then q * x ⟨l.val + k, h⟩ else 0 := fun k q x => by
    unfold ahead
    split
    · rfl
    · exact mul_zero q
  unfold du
  rw [s, s, s]
  unfold val_main_v82 val_main_v77 val_main_v66 val_main_v55 val_main_v45 val_main_v54 val_main_v65 val_main_v76 val_main_v40 val_main_v49 val_main_v60 val_main_v71
  generalize val_main_v36 (F := Ideal) zx w b g = v
  pointwise [val_main_cst_5, val_main_cst_9, val_main_cst_13, val_main_cst_17, val_main_v39, val_main_v29, val_main_v27, val_main_v26, val_main_v48, val_main_v22, val_main_v20, val_main_v19,
    val_main_v59, val_main_v15, val_main_v13, val_main_v12, val_main_v70, val_main_v7, val_main_v5, val_main_v4]
  have t : ∀ (k n : ℕ) (_ : n + k = 3) (_ : 0 < k) (x : Fin 2048 → EReal) (q : EReal) (p : n ≤ 3 + l.val ∧ 3 + l.val - n < 2048 → 3 + l.val - n < 2048),
      (if h : n ≤ 3 + l.val ∧ 3 + l.val - n < 2048 then q * x ⟨3 + l.val - n, p h⟩ else 0) = if h : l.val + k < 2048 then q * x ⟨l.val + k, h⟩ else 0 := by
    intro k n hn hk x q p
    by_cases h : l.val + k < 2048
    · rw [dif_pos h, dif_pos ⟨by omega, by omega⟩]
      exact congrArg (fun a => q * x a) (Fin.ext (by show 3 + l.val - n = l.val + k; omega))
    · rw [dif_neg h, dif_neg (by omega)]
  have t0 : ∀ (x : Fin 2048 → EReal) (q : EReal) (p : 3 + l.val < 2048 → 3 + l.val < 2048),
      (if h : 3 + l.val < 2048 then q * x ⟨3 + l.val, p h⟩ else 0) = if h : l.val + 3 < 2048 then q * x ⟨l.val + 3, h⟩ else 0 := by
    intro x q p
    by_cases h : l.val + 3 < 2048
    · rw [dif_pos h, dif_pos (by omega)]
      exact congrArg (fun a => q * x a) (Fin.ext (by show 3 + l.val = l.val + 3; omega))
    · rw [dif_neg h, dif_neg (by omega)]
  exact congrArg₂ (fun a b : EReal => a + b) (congrArg₂ (fun a b : EReal => a + b) (congrArg (fun a : EReal => _ + a)
    (t 1 2 rfl (by omega) (fun r => (show EReal from v (ix2 r d))) _ fun h => h.2)) (t 2 1 rfl (by omega) (fun r => (show EReal from v (ix2 r d))) _ fun h => h.2))
    (t0 (fun r => (show EReal from v (ix2 r d))) _ fun h => h)

/-- The weight's gradient in the reference, row by row. -/
theorem conv_v80 (j : Fin 4) (d : Fin 4096) :
    val_main_v80 (F := Ideal) zx w b g (ix2 j d) = (∑ l : Fin 2048, (show EReal from val_main_v36 (F := Ideal) zx w b g (ix2 l d)) * back (3 - j.val) (ucolumn zx d) l : EReal) := by
  have e : val_main_v80 (F := Ideal) zx w b g (ix2 j d) = (match j with
      | 0 => val_main_v78 (F := Ideal) zx w b g (ix2 (0 : Fin 1) d) | 1 => val_main_v67 (F := Ideal) zx w b g (ix2 (0 : Fin 1) d)
      | 2 => val_main_v56 (F := Ideal) zx w b g (ix2 (0 : Fin 1) d) | 3 => val_main_v46 (F := Ideal) zx w b g (ix2 (0 : Fin 1) d) : EReal) := by
    unfold val_main_v80 val_main_v69 val_main_v58 val_main_v47 val_main_v57 val_main_v68 val_main_v79
    generalize val_main_v46 (F := Ideal) zx w b g = x0
    generalize val_main_v56 (F := Ideal) zx w b g = x1
    generalize val_main_v67 (F := Ideal) zx w b g = x2
    generalize val_main_v78 (F := Ideal) zx w b g = x3
    pointwise [val_main_cst_6, val_main_cst_10, val_main_cst_14, val_main_cst_18]
    fin_cases j <;> simp
  rw [e]
  fin_cases j
  · refine Eq.trans (b := (∑ l : Fin 2048, (show EReal from val_main_v36 (F := Ideal) zx w b g (ix2 l d)) * (show EReal from val_main_v6 (F := Ideal) zx (ix2 l d)) : EReal)) ?_
      (Finset.sum_congr rfl fun l _ => congrArg (fun x : EReal => _ * x) (conv_u zx l d).1.1)
    show val_main_v78 (F := Ideal) zx w b g (ix2 (0 : Fin 1) d) = _
    unfold val_main_v78 val_main_v75 val_main_v74 val_main_v73 val_main_v72
    generalize val_main_v36 (F := Ideal) zx w b g = z
    generalize val_main_v6 (F := Ideal) zx = u
    pointwise [val_main_cst_15, val_main_cst_16]
    exact Fin.sum_univ_one _
  · refine Eq.trans (b := (∑ l : Fin 2048, (show EReal from val_main_v36 (F := Ideal) zx w b g (ix2 l d)) * (show EReal from val_main_v14 (F := Ideal) zx (ix2 l d)) : EReal)) ?_
      (Finset.sum_congr rfl fun l _ => congrArg (fun x : EReal => _ * x) (conv_u zx l d).1.2)
    show val_main_v67 (F := Ideal) zx w b g (ix2 (0 : Fin 1) d) = _
    unfold val_main_v67 val_main_v64 val_main_v63 val_main_v62 val_main_v61
    generalize val_main_v36 (F := Ideal) zx w b g = z
    generalize val_main_v14 (F := Ideal) zx = u
    pointwise [val_main_cst_11, val_main_cst_12]
    exact Fin.sum_univ_one _
  · refine Eq.trans (b := (∑ l : Fin 2048, (show EReal from val_main_v36 (F := Ideal) zx w b g (ix2 l d)) * (show EReal from val_main_v21 (F := Ideal) zx (ix2 l d)) : EReal)) ?_
      (Finset.sum_congr rfl fun l _ => congrArg (fun x : EReal => _ * x) (conv_u zx l d).2.1)
    show val_main_v56 (F := Ideal) zx w b g (ix2 (0 : Fin 1) d) = _
    unfold val_main_v56 val_main_v53 val_main_v52 val_main_v51 val_main_v50
    generalize val_main_v36 (F := Ideal) zx w b g = z
    generalize val_main_v21 (F := Ideal) zx = u
    pointwise [val_main_cst_7, val_main_cst_8]
    exact Fin.sum_univ_one _
  · refine Eq.trans (b := (∑ l : Fin 2048, (show EReal from val_main_v36 (F := Ideal) zx w b g (ix2 l d)) * (show EReal from val_main_v28 (F := Ideal) zx (ix2 l d)) : EReal)) ?_
      (Finset.sum_congr rfl fun l _ => congrArg (fun x : EReal => _ * x) (conv_u zx l d).2.2)
    show val_main_v46 (F := Ideal) zx w b g (ix2 (0 : Fin 1) d) = _
    unfold val_main_v46 val_main_v44 val_main_v43 val_main_v42 val_main_v41
    generalize val_main_v36 (F := Ideal) zx w b g = z
    generalize val_main_v28 (F := Ideal) zx = u
    pointwise [val_main_cst_3, val_main_cst_4]
    exact Fin.sum_univ_one _

/-- The bias's gradient in the reference. -/
theorem conv_v38 (d : Fin 4096) :
    val_main_v38 (F := Ideal) zx w b g (ix2 (0 : Fin 1) d) = (∑ l : Fin 2048, (show EReal from val_main_v36 (F := Ideal) zx w b g (ix2 l d)) : EReal) := by
  unfold val_main_v38 val_main_v37
  generalize val_main_v36 (F := Ideal) zx w b g = v
  pointwise [val_main_cst_2]

end

open Cert.Pre_conv_real in
/-- The precondition says that the four arguments hold real numbers. -/
theorem conv_reals_of_pre (zx : Vec Ideal Cert.ConvBwdIdeal.S2048x6176 .f32) (w : Vec Ideal Cert.ConvBwdIdeal.S4x4096 .f32) (b : Vec Ideal Cert.ConvBwdIdeal.S1x4096 .f32) (g : Vec Ideal Cert.ConvBwdIdeal.S2048x4096 .f32)
    (h : Cert.Pre_conv_real.fn (F := Ideal) zx w b g = fun _ => 1#1) :
    (∃ f : Cert.ConvBwdIdeal.S2048x6176.Idx → ℝ, zx = fun i => (f i : EReal))
      ∧ (∃ f : Cert.ConvBwdIdeal.S4x4096.Idx → ℝ, w = fun i => (f i : EReal))
      ∧ (∃ f : Cert.ConvBwdIdeal.S1x4096.Idx → ℝ, b = fun i => (f i : EReal))
      ∧ (∃ f : Cert.ConvBwdIdeal.S2048x4096.Idx → ℝ, g = fun i => (f i : EReal)) := by
  have h0 := congrFun h (Shape.Idx.first (by decide))
  obtain ⟨h1, h2⟩ := IntOp.andi_eq_one.1 h0
  obtain ⟨h3, h4⟩ := IntOp.andi_eq_one.1 h1
  obtain ⟨h5, h6⟩ := IntOp.andi_eq_one.1 h3
  haveI : Subsingleton Cert.Pre_conv_real.S_.Idx := ⟨fun a b => funext fun x => x.elim0⟩
  exact ⟨all_real_f32 zx _ (fun _ => rfl) _ _ _ _ h5, all_real_f32 w _ (fun _ => rfl) _ _ _ _ h6, all_real_f32 b _ (fun _ => rfl) _ _ _ _ h4, all_real_f32 g _ (fun _ => rfl) _ _ _ _ h2⟩

/-- Over real numbers the two forms of the gate's gradient are equal. -/
theorem conv_gate (z d : ℝ) : (d : EReal) * sgm z + (z : EReal) * d * (sgm z * (1 - sgm z)) = (d : EReal) * dsilu z := by
  unfold dsilu sgm
  rw [sigmoid_coe]
  norm_cast
  ring

/-- Under the precondition the gradient at the convolution's output is the kernel's. -/
theorem conv_dcolumn (zx : Vec Ideal Cert.ConvBwdIdeal.S2048x6176 .f32) (w : Vec Ideal Cert.ConvBwdIdeal.S4x4096 .f32) (b : Vec Ideal Cert.ConvBwdIdeal.S1x4096 .f32) (g : Vec Ideal Cert.ConvBwdIdeal.S2048x4096 .f32)
    (h : Cert.Pre_conv_real.fn (F := Ideal) zx w b g = fun _ => 1#1) (d : Fin 4096) :
    (fun l => (show EReal from val_main_v36 (F := Ideal) zx w b g (ix2 l d))) = dcolumn zx w b g d := by
  obtain ⟨⟨f0, rfl⟩, ⟨f1, rfl⟩, ⟨f2, rfl⟩, ⟨f3, rfl⟩⟩ := conv_reals_of_pre _ _ _ _ h
  funext l
  refine (conv_v36 _ _ _ _ l d).trans ?_
  unfold dcolumn dpre
  have hu : ∀ k, ∃ r : ℝ, back k (ucolumn (fun i => (f0 i : EReal)) d) l = (r : EReal) := fun k => by
    unfold back
    split
    · exact ⟨_, rfl⟩
    · exact ⟨0, rfl⟩
  obtain ⟨z, hz⟩ : ∃ z : ℝ, pre (ucolumn (fun i => (f0 i : EReal)) d) (wcolumn (fun i => (f1 i : EReal)) d) (f2 (ix2 (0 : Fin 1) d) : EReal) l = (z : EReal) :=
    real_add (real_add (real_add (real_add ⟨_, rfl⟩ (real_mul ⟨_, rfl⟩ ⟨_, rfl⟩)) (real_mul ⟨_, rfl⟩ (hu 1))) (real_mul ⟨_, rfl⟩ (hu 2))) (real_mul ⟨_, rfl⟩ (hu 3))
  show (_ * sgm (pre _ _ (f2 (ix2 (0 : Fin 1) d) : EReal) l) + _ : EReal) = _
  rw [hz]
  exact conv_gate z _

/-- The kernel's call and the reference, from memories that agree on real arguments, end with equal results. -/
theorem convBwd : Cert.algebraic_ConvBwdIdeal_ConvBwdRefIdeal_pre_conv_real (hConvBwdIdeal := Cert.ConvBwdIdeal.Gen.facts) (hConvBwdRefIdeal := Cert.ConvBwdRefIdeal.Gen.facts) (hPre_conv_real := Cert.Pre_conv_real.Gen.facts) := by
  intro m ρ m' ρ' hpre hag
  refine ⟨_, _, _, Cert.ConvBwdIdeal.Hand.run m ρ, (θ_run _ _ _).mono (fun _ h c => ⟨(h c).1.trans ?_, (h c).2.1.trans ?_, (h c).2.2.1.trans ?_, (h c).2.2.2⟩) (Cert.ConvBwdRefIdeal.Value.run m' ρ')⟩
  · rw [val_main_v82_eq, (hag c).1, (hag c).2.1, (hag c).2.2.1, (hag c).2.2.2]
    funext i
    idx_vars i
    rw [conv_v82, conv_dcolumn _ _ _ _ (hpre c)]
    rfl
  · rw [val_main_v80_eq, (hag c).1, (hag c).2.1, (hag c).2.2.1, (hag c).2.2.2]
    funext i
    idx_vars i
    refine (conv_v80 _ _ _ _ i0 i1).trans (Finset.sum_congr rfl fun l _ => congrArg (fun x : EReal => x * _) (congrFun (conv_dcolumn _ _ _ _ (hpre c) i1) l))
  · rw [val_main_v38_eq, (hag c).1, (hag c).2.1, (hag c).2.2.1, (hag c).2.2.2]
    funext i
    idx_vars i
    fin_cases i0
    exact (conv_v38 _ _ _ _ i1).trans (Finset.sum_congr rfl fun l _ => congrFun (conv_dcolumn _ _ _ _ (hpre c) i1) l)

end Cert.Proof

end
-- ==== Proof.FinalLoss.lean ====
/-
  Hand-written. The loss and its gradient at the end of the network: the kernel's call and the reference end with the same three
  arrays, the loss, the gradient of the last residual stream and the gradient of the final norm's weight.
-/
module

public import proofs.«01_k».proof.Defs
public import proofs.«01_k».proof.Proof.Gen.FinalLossIdeal.Value
public import proofs.«01_k».proof.Proof.Gen.FinalLossRefIdeal.Run
public import proofs.«01_k».proof.Proof.Gen.FinalLossRefIdeal.Read
public import proofs.«01_k».proof.Proof.Rms
public import Idealize.ShloMosaic.Lib.Pipeline.Value
public import Idealize.ShloMosaic.Lib.Pipeline.ValueKit
public import Idealize.ShloMosaic.Lib.Pointwise

@[expose] public section

set_option maxRecDepth 16384

noncomputable section

namespace Cert.FinalLossIdeal.Hand

open Cert.FinalLossIdeal Cert.FinalLossIdeal.Gen Idealize.ShloMosaic Idealize.ShloMosaic.TcCoe Idealize.SL.Sem
open Idealize.ShloMosaic.Pipeline (Dat)
open Cert.Proof (ms rms normGrad rows4 mul_sum4 blockRow sum_tokens)

/-- One over the width, one half, and the width. -/
abbrev inv : EReal := Ideal.ofBits .f32 0x3A800000#32
abbrev half : EReal := Ideal.ofBits .f32 0x3F000000#32
abbrev W : EReal := Ideal.ofBits .f32 0x44800000#32

/-- The error of a row at a column: the normed row times the weight, less the target. -/
def errOf (x fw t : Fin 1024 → EReal) (k : Fin 1024) : EReal := x k * rms x * fw k - t k

/-- The mean of the squares of a row's errors. -/
def lossOf (x fw t : Fin 1024 → EReal) : EReal := Ideal.div (∑ k, errOf x fw t k * errOf x fw t k) W

/-- The gradient of the norm's result at a column. -/
def dyOf (x fw t : Fin 1024 → EReal) (k : Fin 1024) : EReal := errOf x fw t k * inv

/-- A row of a tile, of an array over the tokens, and the weight's row. -/
def tileRow (x : Vec Ideal S512x1024 .f32) (r : Fin 512) : Fin 1024 → EReal := fun k => (show EReal from x (ix2 r k))
def row (x : Vec Ideal S2048x1024 .f32) (l : Fin 2048) : Fin 1024 → EReal := fun k => (show EReal from x (ix2 l k))
def wRow (w : Vec Ideal S1x1024 .f32) : Fin 1024 → EReal := fun k => (show EReal from w (ix2 (0 : Fin 1) k))

/-! ## The payloads at an index -/

theorem pay5_apply (x : Vec Ideal S512x1024 .f32) (r : Fin 512) : k0_pay5 (F := Ideal) x (ix2 r (0 : Fin 1)) = (rms (tileRow x r) : EReal) := by
  unfold rms ms tileRow
  pointwise [k0_pay5]

theorem pay6_apply (x : Vec Ideal S512x1024 .f32) (r : Fin 512) (k : Fin 1024) :
    k0_pay6 (F := Ideal) x (ix2 r k) = (tileRow x r k * rms (tileRow x r) : EReal) := by
  rw [← pay5_apply]
  unfold k0_pay6
  generalize k0_pay5 (F := Ideal) x = s
  pointwise []
  rfl

theorem pay7_apply (x : Vec Ideal S512x1024 .f32) (w : Vec Ideal S1x1024 .f32) (t : Vec Ideal S512x1024 .f32) (r : Fin 512) (k : Fin 1024) :
    k0_pay7 (F := Ideal) x w t (ix2 r k) = (errOf (tileRow x r) (wRow w) (tileRow t r) k : EReal) := by
  unfold errOf
  rw [← pay6_apply]
  unfold k0_pay7
  generalize k0_pay6 (F := Ideal) x = s
  pointwise []
  rfl

theorem pay9_apply (x : Vec Ideal S512x1024 .f32) (w : Vec Ideal S1x1024 .f32) (t : Vec Ideal S512x1024 .f32) (r : Fin 512) (k : Fin 1024) :
    k0_pay9 (F := Ideal) x w t (ix2 r k) = (dyOf (tileRow x r) (wRow w) (tileRow t r) k : EReal) := by
  unfold dyOf
  rw [← pay7_apply]
  unfold k0_pay9
  generalize k0_pay7 (F := Ideal) x w t = s
  pointwise []

theorem pay8_apply (x : Vec Ideal S512x1024 .f32) (w : Vec Ideal S1x1024 .f32) (t : Vec Ideal S512x1024 .f32) (a : Vec Ideal S1x1 .f32) :
    k0_pay8 (F := Ideal) x w t a (ix2 (0 : Fin 1) (0 : Fin 1))
      = ((show EReal from a (ix2 (0 : Fin 1) (0 : Fin 1))) + half * ∑ r : Fin 512, lossOf (tileRow x r) (wRow w) (tileRow t r) : EReal) := by
  have h : ∀ r : Fin 512, lossOf (tileRow x r) (wRow w) (tileRow t r)
      = Ideal.div (∑ k : Fin 1024, (show EReal from k0_pay7 (F := Ideal) x w t (ix2 r k)) * (show EReal from k0_pay7 (F := Ideal) x w t (ix2 r k))) W := fun r =>
    congrArg (fun y : EReal => Ideal.div y W) (Finset.sum_congr rfl fun k _ => congrArg₂ (fun a b : EReal => a * b) (pay7_apply x w t r k).symm (pay7_apply x w t r k).symm)
  rw [Finset.sum_congr rfl fun r _ => h r]
  unfold k0_pay8
  generalize k0_pay7 (F := Ideal) x w t = s
  pointwise []

/-- The weight's row after a point. -/
theorem pay1_apply (x : Vec Ideal S512x1024 .f32) (w : Vec Ideal S1x1024 .f32) (t : Vec Ideal S512x1024 .f32) (a : Vec Ideal S1x1024 .f32) (k : Fin 1024) :
    k0_pay1 (F := Ideal) (k0_pay6 x) (k0_pay9 x w t) a (ix2 (0 : Fin 1) k)
      = ((show EReal from a (ix2 (0 : Fin 1) k)) + ∑ r : Fin 512, dyOf (tileRow x r) (wRow w) (tileRow t r) k * (tileRow x r k * rms (tileRow x r)) : EReal) := by
  refine Eq.trans (b := ((show EReal from a (ix2 (0 : Fin 1) k)) + ∑ r : Fin 512, (show EReal from k0_pay9 (F := Ideal) x w t (ix2 r k)) * (show EReal from k0_pay6 (F := Ideal) x (ix2 r k)) : EReal)) ?_
    (congrArg (fun y : EReal => _ + y) (Finset.sum_congr rfl fun r _ => congrArg₂ (fun a b : EReal => a * b) (pay9_apply x w t r k) (pay6_apply x r k)))
  unfold k0_pay1
  generalize k0_pay9 (F := Ideal) x w t = d
  generalize k0_pay6 (F := Ideal) x = n
  pointwise []

/-- The gradient of a tile. -/
theorem pay2_apply (x : Vec Ideal S512x1024 .f32) (w : Vec Ideal S1x1024 .f32) (t : Vec Ideal S512x1024 .f32) (r : Fin 512) (k : Fin 1024) :
    k0_pay2 (F := Ideal) w (k0_pay5 x) (k0_pay6 x) (k0_pay9 x w t) (ix2 r k)
      = (normGrad (tileRow x r) (fun k => dyOf (tileRow x r) (wRow w) (tileRow t r) k * wRow w k) 0 k : EReal) := by
  have hg : (fun k => dyOf (tileRow x r) (wRow w) (tileRow t r) k * wRow w k : Fin 1024 → EReal)
      = fun k => (show EReal from k0_pay9 (F := Ideal) x w t (ix2 r k)) * (show EReal from w (ix2 (0 : Fin 1) k)) :=
    funext fun k => congrArg (fun a : EReal => a * wRow w k) (pay9_apply x w t r k).symm
  have hs : (∑ j : Fin 1024, (show EReal from k0_pay9 (F := Ideal) x w t (ix2 r j)) * (show EReal from w (ix2 (0 : Fin 1) j)) * (tileRow x r j * rms (tileRow x r)) : EReal)
      = ∑ j : Fin 1024, (show EReal from k0_pay9 (F := Ideal) x w t (ix2 r j)) * (show EReal from w (ix2 (0 : Fin 1) j)) * (show EReal from k0_pay6 (F := Ideal) x (ix2 r j)) :=
    Finset.sum_congr rfl fun j _ => congrArg (fun b : EReal => _ * b) (pay6_apply x r j).symm
  rw [hg]
  unfold normGrad
  beta_reduce
  rw [hs, ← pay6_apply, ← pay5_apply, zero_add]
  generalize k0_pay9 (F := Ideal) x w t = d
  generalize k0_pay5 (F := Ideal) x = s
  generalize k0_pay6 (F := Ideal) x = n
  pointwise [k0_pay2]

theorem pay3_apply : k0_pay3 (F := Ideal) (ix2 (0 : Fin 1) (0 : Fin 1)) = (0 : EReal) := by
  pointwise [k0_pay3]

theorem pay4_apply (k : Fin 1024) : k0_pay4 (F := Ideal) (ix2 (0 : Fin 1) k) = (0 : EReal) := by
  pointwise [k0_pay4]

variable (m : (ℓ : Loc nD τ sig) → Buf (Elt Ideal) ℓ) (ρ : Dev nD → PrngReg)

/-! ## What each point leaves -/

/-- What the point before left. -/
abbrev before (c : Dev nD) (t : Fin cfg0.N) := outsAt0 m c (t.val - 1) (Nat.lt_of_le_of_lt (Nat.sub_le _ _) t.isLt)

/-- What a point leaves in the gradient's tile. -/
theorem tile (c : Dev nD) (t : Fin cfg0.N) :
    (outsAt0 m c t.val t.isLt).2.1 = k0_pay2 (F := Ideal) (iblk m c 1 t) (k0_pay5 (iblk m c 0 t)) (k0_pay6 (iblk m c 0 t)) (k0_pay9 (iblk m c 0 t) (iblk m c 1 t) (iblk m c 2 t)) := by
  by_cases h0 : t.val % 4 = 0
  · rw [outsAt0_A m c t h0]
    frame_out
  · rw [outsAt0_B m c t h0]
    frame_out

/-- What the first point leaves in the loss and in the weight's row. -/
theorem rows_first (c : Dev nD) (t : Fin cfg0.N) (h : t.val % 4 = 0) :
    (outsAt0 m c t.val t.isLt).1 = k0_pay8 (F := Ideal) (iblk m c 0 t) (iblk m c 1 t) (iblk m c 2 t) (k0_pay3 (F := Ideal))
      ∧ (outsAt0 m c t.val t.isLt).2.2 = k0_pay1 (F := Ideal) (k0_pay6 (iblk m c 0 t)) (k0_pay9 (iblk m c 0 t) (iblk m c 1 t) (iblk m c 2 t)) (k0_pay4 (F := Ideal)) := by
  rw [outsAt0_A m c t h]
  refine ⟨?_, ?_⟩ <;> frame_out

/-- What another point leaves there. -/
theorem rows_next (c : Dev nD) (t : Fin cfg0.N) (h : ¬t.val % 4 = 0) :
    (outsAt0 m c t.val t.isLt).1 = k0_pay8 (F := Ideal) (iblk m c 0 t) (iblk m c 1 t) (iblk m c 2 t) (before m c t).1
      ∧ (outsAt0 m c t.val t.isLt).2.2 = k0_pay1 (F := Ideal) (k0_pay6 (iblk m c 0 t)) (k0_pay9 (iblk m c 0 t) (iblk m c 1 t) (iblk m c 2 t)) (before m c t).2.2 := by
  rw [outsAt0_B m c t h]
  refine ⟨?_, ?_⟩ <;> frame_out

/-! ## The blocks the points work on -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

/-- The block of tokens that point `t` works on. -/
def blkOf (t : Fin cfg0.N) : Fin 4 := ⟨t.val, t.isLt⟩

theorem iblk0 (c : Dev nD) (t : Fin cfg0.N) (r : Fin 512) :
    tileRow (iblk m c 0 t) r = row (m ((c : Thread nD τ).loc main_arg0)) (blockRow (blkOf t) r) := by
  obtain ⟨e0, e1⟩ := idx0 t
  funext k
  show V m c main_arg0 (((cfg0.win 0).blk t).view.emb (ix2 r k)) = _
  refine Eq.trans ?_ (congrFun (V_main_arg0 m c) _)
  congr 1
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem iblk1 (c : Dev nD) (t : Fin cfg0.N) : wRow (iblk m c 1 t) = wRow (m ((c : Thread nD τ).loc main_arg1)) := by
  obtain ⟨e0, e1⟩ := idx1 t
  funext k
  show V m c main_arg1 (((cfg0.win 1).blk t).view.emb (ix2 (0 : Fin 1) k)) = _
  refine Eq.trans ?_ (congrFun (V_main_arg1 m c) _)
  congr 1
  funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem iblk2 (c : Dev nD) (t : Fin cfg0.N) (r : Fin 512) :
    tileRow (iblk m c 2 t) r = row (m ((c : Thread nD τ).loc main_arg2)) (blockRow (blkOf t) r) := by
  obtain ⟨e0, e1⟩ := idx2 t
  funext k
  show V m c main_arg2 (((cfg0.win 2).blk t).view.emb (ix2 r k)) = _
  refine Eq.trans ?_ (congrFun (V_main_arg2 m c) _)
  congr 1
  funext a; apply Fin.ext
  match a with
  | ⟨0, _⟩ => show win0_2.index t (0 : Fin 2) * 512 + 1 * r.val = t.val * 512 + r.val; omega
  | ⟨1, _⟩ => show win0_2.index t (1 : Fin 2) * 1024 + 1 * k.val = k.val; omega

/-- Where an index of an output's block lies in the result. -/
theorem emb3 (t : Fin cfg0.N) (j : S1x1.Idx) : ((cfg0.win 3).blk t).view.emb j = j := by
  obtain ⟨e0, e1⟩ := idx3 t
  idx_vars j
  funext a; apply Fin.ext
  match a with
  | ⟨0, _⟩ => show win0_3.index t (0 : Fin 2) * 1 + 1 * j0.val = j0.val; omega
  | ⟨1, _⟩ => show win0_3.index t (1 : Fin 2) * 1 + 1 * j1.val = j1.val; omega

theorem emb4 (t : Fin cfg0.N) (j : S512x1024.Idx) :
    ((cfg0.win 4).blk t).view.emb j = (ix2 (blockRow (blkOf t) (j 0)) (j 1) : S2048x1024.Idx) := by
  obtain ⟨e0, e1⟩ := idx4 t
  idx_vars j
  funext a; apply Fin.ext
  match a with
  | ⟨0, _⟩ => show win0_4.index t (0 : Fin 2) * 512 + 1 * j0.val = t.val * 512 + j0.val; omega
  | ⟨1, _⟩ => show win0_4.index t (1 : Fin 2) * 1024 + 1 * j1.val = j1.val; omega

theorem emb5 (t : Fin cfg0.N) (j : S1x1024.Idx) : ((cfg0.win 5).blk t).view.emb j = j := by
  obtain ⟨e0, e1⟩ := idx5 t
  idx_vars j
  funext a; apply Fin.ext
  match a with
  | ⟨0, _⟩ => show win0_5.index t (0 : Fin 2) * 1 + 1 * j0.val = j0.val; omega
  | ⟨1, _⟩ => show win0_5.index t (1 : Fin 2) * 1024 + 1 * j1.val = j1.val; omega

/-! ## The results -/

/-- The gradient of the norm's result. -/
def dy (x : Vec Ideal S2048x1024 .f32) (fw : Vec Ideal S1x1024 .f32) (t : Vec Ideal S2048x1024 .f32) (l : Fin 2048) : Fin 1024 → EReal :=
  dyOf (row x l) (wRow fw) (row t l)

/-- The gradient of the normed row before the weight. -/
def dxhat (x : Vec Ideal S2048x1024 .f32) (fw : Vec Ideal S1x1024 .f32) (t : Vec Ideal S2048x1024 .f32) (l : Fin 2048) : Fin 1024 → EReal :=
  fun k => dy x fw t l k * wRow fw k

/-- The loss: half the sum over the tokens of the mean squared error. -/
def Loss (x : Vec Ideal S2048x1024 .f32) (fw : Vec Ideal S1x1024 .f32) (t : Vec Ideal S2048x1024 .f32) : Vec Ideal S1x1 .f32 :=
  fun _ => (half * ∑ l : Fin 2048, lossOf (row x l) (wRow fw) (row t l) : EReal)

/-- The gradient of the last residual stream. -/
def Dx (x : Vec Ideal S2048x1024 .f32) (fw : Vec Ideal S1x1024 .f32) (t : Vec Ideal S2048x1024 .f32) : Vec Ideal S2048x1024 .f32 :=
  fun i => (normGrad (row x (i 0)) (dxhat x fw t (i 0)) 0 (i 1) : EReal)

/-- The gradient of the final norm's weight. -/
def Dfw (x : Vec Ideal S2048x1024 .f32) (fw : Vec Ideal S1x1024 .f32) (t : Vec Ideal S2048x1024 .f32) : Vec Ideal S1x1024 .f32 :=
  fun i => (∑ l : Fin 2048, dy x fw t l (i 1) * (row x l (i 1) * rms (row x l)) : EReal)

/-- The grid's last point. -/
abbrev lastPt : Fin cfg0.N := ⟨3, by show 3 < 4; omega⟩

theorem last_point (t : Fin cfg0.N) (h : t.val % 4 = 3) : t = lastPt :=
  Fin.ext (by have h' : t.val < 4 := t.isLt; show t.val = 3; omega)

theorem half_nonneg : 0 ≤ half := by
  unfold half
  rw [Cert.Proof.word_half]
  exact_mod_cast (by norm_num : (0 : ℝ) ≤ 1 / 2)

theorem half_ne_top : half ≠ ⊤ := by
  unfold half
  rw [Cert.Proof.word_half]
  exact EReal.coe_ne_top _

/-- Each point writes back its block of the gradient. -/
theorem flushed_Dx (c : Dev nD) (t : Fin cfg0.N) :
    (dats m 0 c).flushed 4 t = ((cfg0.win 4).blk t).view.read (Elt Ideal) (Dx (m ((c : Thread nD τ).loc main_arg0)) (m ((c : Thread nD τ).loc main_arg1)) (m ((c : Thread nD τ).loc main_arg2))) := by
  rw [Value.flushed4]
  funext j
  show (outsAt0 m c t.val t.isLt).2.1 j = Dx _ _ _ (((cfg0.win 4).blk t).view.emb j)
  rw [emb4, tile]
  idx_vars j
  rw [pay2_apply, iblk0, iblk1, iblk2]
  rfl

/-- The last point writes back the loss. -/
theorem flushed_Loss (c : Dev nD) (t : Fin cfg0.N) (hf : (cfg0.win 3).flush t = true) :
    (dats m 0 c).flushed 3 t = ((cfg0.win 3).blk t).view.read (Elt Ideal) (Loss (m ((c : Thread nD τ).loc main_arg0)) (m ((c : Thread nD τ).loc main_arg1)) (m ((c : Thread nD τ).loc main_arg2))) := by
  obtain rfl := last_point t ((flush0_3 t).mp hf)
  rw [Value.flushed3]
  funext j
  refine Eq.trans (b := Loss (m ((c : Thread nD τ).loc main_arg0)) (m ((c : Thread nD τ).loc main_arg1)) (m ((c : Thread nD τ).loc main_arg2)) j) ?_ (congrArg (Loss (m ((c : Thread nD τ).loc main_arg0)) (m ((c : Thread nD τ).loc main_arg1)) (m ((c : Thread nD τ).loc main_arg2))) (emb3 lastPt j).symm)
  idx_vars j
  fin_cases j0
  fin_cases j1
  obtain ⟨f, hf⟩ : ∃ f : Fin 2048 → EReal, f = fun l => lossOf (row (m ((c : Thread nD τ).loc main_arg0)) l) (wRow (m ((c : Thread nD τ).loc main_arg1))) (row (m ((c : Thread nD τ).loc main_arg2)) l) := ⟨_, rfl⟩
  have step : ∀ (w : Vec Ideal S1x1 .f32) (n : ℕ) (hn : n < cfg0.N), k0_pay8 (F := Ideal) (iblk m c 0 ⟨n, hn⟩) (iblk m c 1 ⟨n, hn⟩) (iblk m c 2 ⟨n, hn⟩) w (ix2 (0 : Fin 1) (0 : Fin 1))
      = ((show EReal from w (ix2 (0 : Fin 1) (0 : Fin 1))) + half * ∑ r : Fin 512, f (blockRow (blkOf ⟨n, hn⟩) r) : EReal) := fun w n hn => by
    rw [pay8_apply, hf]
    refine congrArg (fun y : EReal => _ + half * y) (Finset.sum_congr rfl fun r _ => ?_)
    rw [iblk0, iblk1, iblk2]
  refine (rows4 (fun n hn => ((outsAt0 m c n hn).1 (ix2 (0 : Fin 1) (0 : Fin 1)) : EReal)) (fun i => half * ∑ r : Fin 512, f (blockRow i r)) ?_ (fun n hn => ?_)).trans ?_
  · refine (congrFun (rows_first m c ⟨0, by show 0 < 4; omega⟩ rfl).1 _).trans ((step _ 0 _).trans ?_)
    rw [pay3_apply]
    exact zero_add _
  · exact (congrFun (rows_next m c ⟨n + 1, hn⟩ (by show ¬(n + 1) % 4 = 0; omega)).1 _).trans (step _ (n + 1) hn)
  · rw [← mul_sum4 half_nonneg half_ne_top, ← sum_tokens, hf]
    rfl

/-- The last point writes back the weight's gradient. -/
theorem flushed_Dfw (c : Dev nD) (t : Fin cfg0.N) (hf : (cfg0.win 5).flush t = true) :
    (dats m 0 c).flushed 5 t = ((cfg0.win 5).blk t).view.read (Elt Ideal) (Dfw (m ((c : Thread nD τ).loc main_arg0)) (m ((c : Thread nD τ).loc main_arg1)) (m ((c : Thread nD τ).loc main_arg2))) := by
  obtain rfl := last_point t ((flush0_5 t).mp hf)
  rw [Value.flushed5]
  funext j
  refine Eq.trans (b := Dfw (m ((c : Thread nD τ).loc main_arg0)) (m ((c : Thread nD τ).loc main_arg1)) (m ((c : Thread nD τ).loc main_arg2)) j) ?_ (congrArg (Dfw (m ((c : Thread nD τ).loc main_arg0)) (m ((c : Thread nD τ).loc main_arg1)) (m ((c : Thread nD τ).loc main_arg2))) (emb5 lastPt j).symm)
  idx_vars j
  fin_cases j0
  obtain ⟨f, hf⟩ : ∃ f : Fin 2048 → EReal, f = fun l => dy (m ((c : Thread nD τ).loc main_arg0)) (m ((c : Thread nD τ).loc main_arg1)) (m ((c : Thread nD τ).loc main_arg2)) l j1 * (row (m ((c : Thread nD τ).loc main_arg0)) l j1 * rms (row (m ((c : Thread nD τ).loc main_arg0)) l)) := ⟨_, rfl⟩
  have step : ∀ (w : Vec Ideal S1x1024 .f32) (n : ℕ) (hn : n < cfg0.N), k0_pay1 (F := Ideal) (k0_pay6 (iblk m c 0 ⟨n, hn⟩)) (k0_pay9 (iblk m c 0 ⟨n, hn⟩) (iblk m c 1 ⟨n, hn⟩) (iblk m c 2 ⟨n, hn⟩)) w (ix2 (0 : Fin 1) j1)
      = ((show EReal from w (ix2 (0 : Fin 1) j1)) + ∑ r : Fin 512, f (blockRow (blkOf ⟨n, hn⟩) r) : EReal) := fun w n hn => by
    rw [pay1_apply, hf]
    refine congrArg (fun y : EReal => _ + y) (Finset.sum_congr rfl fun r _ => ?_)
    rw [iblk0, iblk1, iblk2]
    rfl
  refine (rows4 (fun n hn => ((outsAt0 m c n hn).2.2 (ix2 (0 : Fin 1) j1) : EReal)) (fun i => ∑ r : Fin 512, f (blockRow i r)) ?_ (fun n hn => ?_)).trans ?_
  · refine (congrFun (rows_first m c ⟨0, by show 0 < 4; omega⟩ rfl).2 (ix2 (0 : Fin 1) j1)).trans ((step _ 0 _).trans ?_)
    rw [pay4_apply]
    exact zero_add _
  · exact (congrFun (rows_next m c ⟨n + 1, hn⟩ (by show ¬(n + 1) % 4 = 0; omega)).2 (ix2 (0 : Fin 1) j1)).trans (step _ (n + 1) hn)
  · rw [← sum_tokens, hf]
    rfl

/-- Every index of a result is in some point's block. -/
theorem covered4 (i : S2048x1024.Idx) :
    ∃ t : Fin cfg0.N, (cfg0.win 4).flush t = true ∧ i ∈ ((cfg0.win 4).blk t).view.set := by
  have h0 : (i 0).val < 2048 := (i 0).isLt
  obtain ⟨t, ht⟩ : ∃ t : Fin cfg0.N, t.val = (i 0).val / 512 := ⟨⟨(i 0).val / 512, by show _ < 4; omega⟩, rfl⟩
  obtain ⟨r, hr⟩ : ∃ r : Fin 512, r.val = (i 0).val % 512 := ⟨⟨(i 0).val % 512, by omega⟩, rfl⟩
  refine ⟨t, flush0_4 t, ?_⟩
  have h := ((cfg0.win 4).blk t).view.emb_mem_set (ix2 r (i 1) : S512x1024.Idx)
  have e : ((cfg0.win 4).blk t).view.emb (ix2 r (i 1) : S512x1024.Idx) = i := by
    rw [emb4]
    funext a; apply Fin.ext
    match a with
    | ⟨0, _⟩ => show t.val * 512 + r.val = (i 0).val; omega
    | ⟨1, _⟩ => rfl
  rw [e] at h
  exact h

theorem covered3 (i : S1x1.Idx) : ∃ t : Fin cfg0.N, (cfg0.win 3).flush t = true ∧ i ∈ ((cfg0.win 3).blk t).view.set := by
  refine ⟨lastPt, (flush0_3 _).mpr rfl, ?_⟩
  have h := ((cfg0.win 3).blk lastPt).view.emb_mem_set i
  rw [emb3] at h
  exact h

theorem covered5 (i : S1x1024.Idx) : ∃ t : Fin cfg0.N, (cfg0.win 5).flush t = true ∧ i ∈ ((cfg0.win 5).blk t).view.set := by
  refine ⟨lastPt, (flush0_5 _).mpr rfl, ?_⟩
  have h := ((cfg0.win 5).blk lastPt).view.emb_mem_set i
  rw [emb5] at h
  exact h

/-- The run: the three results are the loss and the gradients of the arguments, which end unchanged. -/
theorem run : θ_run defs (onTc (τ := τ) (main (F := Ideal))) ⟨m, fun _ => 0, ρ⟩ fun r => ∀ c : Dev nD,
      r.2.mem ((c : Thread nD τ).loc main_v0_0) = Loss (m ((c : Thread nD τ).loc main_arg0)) (m ((c : Thread nD τ).loc main_arg1)) (m ((c : Thread nD τ).loc main_arg2))
      ∧ r.2.mem ((c : Thread nD τ).loc main_v0_1) = Dx (m ((c : Thread nD τ).loc main_arg0)) (m ((c : Thread nD τ).loc main_arg1)) (m ((c : Thread nD τ).loc main_arg2))
      ∧ r.2.mem ((c : Thread nD τ).loc main_v0_2) = Dfw (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨
      (h c).1.trans ((dats m 0 c).arrAt_eq_of_cover 3 _ (fun t hf => flushed_Loss m c t hf) covered3),
      (h c).2.1.trans ((dats m 0 c).arrAt_eq_of_cover 4 _ (fun t _ => flushed_Dx m c t) covered4),
      (h c).2.2.1.trans ((dats m 0 c).arrAt_eq_of_cover 5 _ (fun t hf => flushed_Dfw m c t hf) covered5), (h c).2.2.2⟩) (Value.run_blocks m ρ)

end Cert.FinalLossIdeal.Hand

namespace Cert.Proof

open Idealize.ShloMosaic Idealize.ShloMosaic.TcCoe Idealize.SL.Sem
open Cert.FinalLossIdeal.Hand (row wRow errOf lossOf dyOf dy dxhat Loss Dx Dfw inv half W)
open Cert.FinalLossRefIdeal.Read

theorem finalLoss_v6 (x : Vec Ideal Cert.FinalLossIdeal.S2048x1024 .f32) (l : Fin 2048) :
    val_main_v6 (F := Ideal) x (ix2 l (0 : Fin 1)) = (ms (row x l) : EReal) := by
  pointwise [val_main_v6, val_main_v5, val_main_cst_1, val_main_v4, val_main_v3, val_main_cst_0, val_main_v2, val_main_v1, val_main_v0, val_main_cst]
  rfl

theorem finalLoss_v7 (x : Vec Ideal Cert.FinalLossIdeal.S2048x1024 .f32) (l : Fin 2048) :
    val_main_v7 (F := Ideal) x (ix2 l (0 : Fin 1)) = (rms (row x l) : EReal) :=
  congrArg Ideal.rsqrt (finalLoss_v6 x l)

theorem finalLoss_v12 (x : Vec Ideal Cert.FinalLossIdeal.S2048x1024 .f32) (l : Fin 2048) (k : Fin 1024) :
    val_main_v12 (F := Ideal) x (ix2 l k) = (row x l k * rms (row x l) : EReal) := by
  rw [← finalLoss_v7]
  unfold val_main_v12 val_main_v11
  generalize val_main_v7 (F := Ideal) x = r
  pointwise []
  rfl

/-- The error in the reference. -/
theorem finalLoss_v15 (x : Vec Ideal Cert.FinalLossIdeal.S2048x1024 .f32) (fw : Vec Ideal Cert.FinalLossIdeal.S1x1024 .f32) (t : Vec Ideal Cert.FinalLossIdeal.S2048x1024 .f32) (l : Fin 2048) (k : Fin 1024) :
    val_main_v15 (F := Ideal) x fw t (ix2 l k) = (errOf (row x l) (wRow fw) (row t l) k : EReal) := by
  unfold errOf
  rw [← finalLoss_v12]
  unfold val_main_v15 val_main_v14
  generalize val_main_v12 (F := Ideal) x = r
  pointwise [val_main_v13]
  rfl

/-- The word of 2, and of one over the width. -/
theorem word_two : Ideal.ofBits .f32 0x40000000#32 = ((2 : ℝ) : EReal) := by
  simp [Ideal.ofBits, Ideal.ieee]
  rw [← EReal.coe_mul]
  norm_num

theorem word_inv : Ideal.ofBits .f32 0x3A800000#32 = ((1 / 1024 : ℝ) : EReal) := by
  simp [Ideal.ofBits, Ideal.ieee]
  rw [← EReal.coe_mul]
  norm_num

/-- Half of one over the width, times twice an error, is the error over the width. -/
theorem dy_word (e : EReal) :
    Ideal.div (Ideal.ofBits .f32 0x3F000000#32 * Ideal.ofBits .f32 0x3F800000#32) (Ideal.ofBits .f32 0x44800000#32) * (Ideal.ofBits .f32 0x40000000#32 * e)
      = e * Ideal.ofBits .f32 0x3A800000#32 := by
  rw [word_one, mul_one, word_half, word_1024, Ideal.div_coe (by norm_num), word_two, word_inv, ← mul_assoc, ← EReal.coe_mul, ← EReal.coe_mul, mul_comm]
  congr 2
  norm_num

/-- The gradient of the norm's result in the reference. -/
theorem finalLoss_v30 (x : Vec Ideal Cert.FinalLossIdeal.S2048x1024 .f32) (fw : Vec Ideal Cert.FinalLossIdeal.S1x1024 .f32) (t : Vec Ideal Cert.FinalLossIdeal.S2048x1024 .f32) (l : Fin 2048) (k : Fin 1024) :
    val_main_v30 (F := Ideal) x fw t (ix2 l k) = (dy x fw t l k : EReal) := by
  unfold dy dyOf
  rw [← finalLoss_v15, ← dy_word]
  unfold val_main_v30 val_main_v18
  generalize val_main_v15 (F := Ideal) x fw t = r
  pointwise [val_main_v29, val_main_v28, val_main_v27, val_main_cst_10, val_main_v26, val_main_v25, val_main_cst_9, val_main_cst_8, val_main_v17, val_main_cst_3]

/-- The loss in the reference. -/
theorem finalLoss_loss (x : Vec Ideal Cert.FinalLossIdeal.S2048x1024 .f32) (fw : Vec Ideal Cert.FinalLossIdeal.S1x1024 .f32) (t : Vec Ideal Cert.FinalLossIdeal.S2048x1024 .f32) :
    val_main_v24 (F := Ideal) x fw t = Loss x fw t := by
  funext j
  idx_vars j
  fin_cases j0
  fin_cases j1
  have h : ∀ l : Fin 2048, lossOf (row x l) (wRow fw) (row t l)
      = Ideal.div (∑ k : Fin 1024, (show EReal from val_main_v15 (F := Ideal) x fw t (ix2 l k)) * (show EReal from val_main_v15 (F := Ideal) x fw t (ix2 l k))) W := fun l =>
    congrArg (fun y : EReal => Ideal.div y W) (Finset.sum_congr rfl fun k _ => congrArg₂ (fun a b : EReal => a * b) (finalLoss_v15 x fw t l k).symm (finalLoss_v15 x fw t l k).symm)
  unfold Loss
  rw [Finset.sum_congr rfl fun l _ => h l]
  unfold val_main_v24 val_main_v23 val_main_v22 val_main_v21 val_main_v19 val_main_v16
  generalize val_main_v15 (F := Ideal) x fw t = r
  pointwise [val_main_cst_7, val_main_cst_6, val_main_v20, val_main_cst_5, val_main_cst_4]

/-- The weight's gradient in the reference. -/
theorem finalLoss_dfw (x : Vec Ideal Cert.FinalLossIdeal.S2048x1024 .f32) (fw : Vec Ideal Cert.FinalLossIdeal.S1x1024 .f32) (t : Vec Ideal Cert.FinalLossIdeal.S2048x1024 .f32) :
    val_main_v33 (F := Ideal) x fw t = Dfw x fw t := by
  funext j
  idx_vars j
  fin_cases j0
  refine Eq.trans (b := (∑ l : Fin 2048, (show EReal from val_main_v12 (F := Ideal) x (ix2 l j1)) * (show EReal from val_main_v30 (F := Ideal) x fw t (ix2 l j1)) : EReal)) ?_
    (Finset.sum_congr rfl fun l _ => (mul_comm _ _).trans (congrArg₂ (fun a b : EReal => a * b) (finalLoss_v30 x fw t l j1) (finalLoss_v12 x l j1)))
  unfold val_main_v33 val_main_v32 val_main_v31
  generalize val_main_v30 (F := Ideal) x fw t = r
  generalize val_main_v12 (F := Ideal) x = h
  pointwise [val_main_cst_11]

theorem finalLoss_v35 (x : Vec Ideal Cert.FinalLossIdeal.S2048x1024 .f32) (fw : Vec Ideal Cert.FinalLossIdeal.S1x1024 .f32) (t : Vec Ideal Cert.FinalLossIdeal.S2048x1024 .f32) (l : Fin 2048) (k : Fin 1024) :
    val_main_v35 (F := Ideal) x fw t (ix2 l k) = (dxhat x fw t l k : EReal) := by
  unfold dxhat
  rw [← finalLoss_v30]
  unfold val_main_v35
  generalize val_main_v30 (F := Ideal) x fw t = r
  pointwise [val_main_v34]
  rfl

/-- The factor of the mean of the squares in the reference's gradient. -/
theorem finalLoss_v44 (x : Vec Ideal Cert.FinalLossIdeal.S2048x1024 .f32) (fw : Vec Ideal Cert.FinalLossIdeal.S1x1024 .f32) (t : Vec Ideal Cert.FinalLossIdeal.S2048x1024 .f32) (l : Fin 2048) :
    val_main_v44 (F := Ideal) x fw t (ix1 l) = (msGrad (row x l) (dxhat x fw t l) : EReal) := by
  unfold msGrad
  rw [← finalLoss_v7, ← finalLoss_v6]
  refine Eq.trans (b := (Ideal.div ((∑ k : Fin 1024, (show EReal from x (ix2 l k)) * (show EReal from val_main_v35 (F := Ideal) x fw t (ix2 l k)))
      * (Ideal.ofBits .f32 0xBF000000#32 * Ideal.div (show EReal from val_main_v7 (F := Ideal) x (ix2 l (0 : Fin 1))) (show EReal from val_main_v6 (F := Ideal) x (ix2 l (0 : Fin 1))))) (Ideal.ofBits .f32 0x44800000#32) : EReal)) ?_ ?_
  · unfold val_main_v44 val_main_v43 val_main_v41 val_main_v38 val_main_v37 val_main_v36 val_main_v10 val_main_v8
    generalize val_main_v35 (F := Ideal) x fw t = g
    generalize val_main_v7 (F := Ideal) x = r
    generalize val_main_v6 (F := Ideal) x = s
    pointwise [val_main_cst_14, val_main_v42, val_main_cst_13, val_main_cst_12, val_main_v9, val_main_cst_2]
    exact Fin.sum_univ_one _
  · refine congrArg (fun y : EReal => Ideal.div (y * _) _) (Finset.sum_congr rfl fun k _ => ?_)
    exact congrArg (fun y : EReal => (show EReal from x (ix2 l k)) * y) (finalLoss_v35 x fw t l k)

/-- The last residual stream's gradient in the reference, at an index. -/
theorem finalLoss_v49 (x : Vec Ideal Cert.FinalLossIdeal.S2048x1024 .f32) (fw : Vec Ideal Cert.FinalLossIdeal.S1x1024 .f32) (t : Vec Ideal Cert.FinalLossIdeal.S2048x1024 .f32) (l : Fin 2048) (k : Fin 1024) :
    val_main_v49 (F := Ideal) x fw t (ix2 l k)
      = (dxhat x fw t l k * rms (row x l) + row x l k * msGrad (row x l) (dxhat x fw t l) + msGrad (row x l) (dxhat x fw t l) * row x l k : EReal) := by
  have e35 := finalLoss_v35 x fw t l k
  have e44 := finalLoss_v44 x fw t l
  have e7 := finalLoss_v7 x l
  rw [← e35, ← e44, ← e7]
  unfold val_main_v49 val_main_v48 val_main_v47 val_main_v46 val_main_v45 val_main_v40 val_main_v39
  generalize val_main_v35 (F := Ideal) x fw t = g
  generalize val_main_v44 (F := Ideal) x fw t = s
  generalize val_main_v7 (F := Ideal) x = r
  pointwise []
  rfl

theorem finalLoss_dx (x : Vec Ideal Cert.FinalLossIdeal.S2048x1024 .f32) (fw : Vec Ideal Cert.FinalLossIdeal.S1x1024 .f32) (t : Vec Ideal Cert.FinalLossIdeal.S2048x1024 .f32) :
    val_main_v49 (F := Ideal) x fw t = Dx x fw t := by
  funext i
  idx_vars i
  refine (finalLoss_v49 x fw t i0 i1).trans (Eq.trans ?_ (norm_grad (row x i0) (dxhat x fw t i0) 0 i1))
  exact (zero_add _).symm

/-- The kernel's call and the reference, from memories that agree on the arguments, end with equal results. -/
theorem finalLoss : Cert.algebraic_FinalLossIdeal_FinalLossRefIdeal (hFinalLossIdeal := Cert.FinalLossIdeal.Gen.facts) (hFinalLossRefIdeal := Cert.FinalLossRefIdeal.Gen.facts) := by
  intro m ρ m' ρ' _ hag
  refine ⟨_, _, _, Cert.FinalLossIdeal.Hand.run m ρ, (θ_run _ _ _).mono (fun _ h c => ⟨(h c).1.trans ?_, (h c).2.1.trans ?_, (h c).2.2.1.trans ?_, (h c).2.2.2⟩) (Cert.FinalLossRefIdeal.Value.run m' ρ')⟩
  · rw [val_main_v24_eq, (hag c).1, (hag c).2.1, (hag c).2.2]
    exact finalLoss_loss _ _ _
  · rw [val_main_v49_eq, (hag c).1, (hag c).2.1, (hag c).2.2]
    exact finalLoss_dx _ _ _
  · rw [val_main_v33_eq, (hag c).1, (hag c).2.1, (hag c).2.2]
    exact finalLoss_dfw _ _ _

end Cert.Proof

end
-- ==== Proof.NormMod.lean ====
/-
  Hand-written. The modulated norm of the residual stream: the kernel's call and the reference end with the same array.
-/
module

public import proofs.«01_k».proof.Defs
public import proofs.«01_k».proof.Proof.Gen.NormModIdeal.Value
public import proofs.«01_k».proof.Proof.Gen.NormModRefIdeal.Run
public import proofs.«01_k».proof.Proof.Gen.NormModRefIdeal.Read
public import proofs.«01_k».proof.Proof.Rms
public import Idealize.ShloMosaic.Lib.Pipeline.Value
public import Idealize.ShloMosaic.Lib.Pipeline.ValueKit
public import Idealize.ShloMosaic.Lib.Pointwise

@[expose] public section

set_option maxRecDepth 16384

noncomputable section

namespace Cert.NormModIdeal.Hand

open Cert.NormModIdeal Cert.NormModIdeal.Gen Idealize.ShloMosaic Idealize.ShloMosaic.TcCoe Idealize.SL.Sem
open Idealize.ShloMosaic.Pipeline (Dat)
open Cert.Proof (ms rms blockRow)

/-- A normed row, times the weight and one plus the scale, plus the shift. -/
def modRow (x w sc sh : Fin 1024 → EReal) (k : Fin 1024) : EReal := x k * rms x * w k * (Ideal.ofBits .f32 0x3F800000#32 + sc k) + sh k

/-- A row of a tile, of an array over the tokens, and the one row of a vector. -/
def tileRow (x : Vec Ideal S512x1024 .f32) (r : Fin 512) : Fin 1024 → EReal := fun k => (show EReal from x (ix2 r k))
def row (x : Vec Ideal S2048x1024 .f32) (l : Fin 2048) : Fin 1024 → EReal := fun k => (show EReal from x (ix2 l k))
def vRow (w : Vec Ideal S1x1024 .f32) : Fin 1024 → EReal := fun k => (show EReal from w (ix2 (0 : Fin 1) k))

/-- The payload at an index. -/
theorem pay1_apply (x : Vec Ideal S512x1024 .f32) (w sc sh : Vec Ideal S1x1024 .f32) (r : Fin 512) (k : Fin 1024) :
    k0_pay1 (F := Ideal) x w sc sh (ix2 r k) = (modRow (tileRow x r) (vRow w) (vRow sc) (vRow sh) k : EReal) := by
  unfold modRow rms ms tileRow vRow
  pointwise [k0_pay1]

theorem hz2 : (![0, 0] : Fin 2 → Nat) = fun _ => 0 := funext fun a => by fin_cases a <;> rfl

/-- The tile that a point stores. -/
theorem out4_eq (x : Vec Ideal S512x1024 .f32) (w sc sh : Vec Ideal S1x1024 .f32) : out0_4 (F := Ideal) x w sc sh = k0_pay1 (F := Ideal) x w sc sh := by
  unfold out0_4
  rw [View.canon_unit_zero hz2, View.ld_unit_zero hz2, View.ld_unit_zero hz2, View.ld_unit_zero hz2, View.ld_unit_zero hz2]

variable (m : (ℓ : Loc nD τ sig) → Buf (Elt Ideal) ℓ) (ρ : Dev nD → PrngReg)

/-! ## The blocks the points work on -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)

/-- The block of tokens that point `t` works on. -/
def blkOf (t : Fin cfg0.N) : Fin 4 := ⟨t.val, t.isLt⟩

theorem iblk0 (c : Dev nD) (t : Fin cfg0.N) (r : Fin 512) :
    tileRow (iblk m c 0 t) r = row (m ((c : Thread nD τ).loc main_arg0)) (blockRow (blkOf t) r) := by
  obtain ⟨e0, e1⟩ := idx0 t
  funext k
  show V m c main_arg0 (((cfg0.win 0).blk t).view.emb (ix2 r k)) = _
  refine Eq.trans ?_ (congrFun (V_main_arg0 m c) _)
  congr 1
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem iblk1 (c : Dev nD) (t : Fin cfg0.N) : vRow (iblk m c 1 t) = vRow (m ((c : Thread nD τ).loc main_arg1)) := by
  obtain ⟨e0, e1⟩ := idx1 t
  funext k
  show V m c main_arg1 (((cfg0.win 1).blk t).view.emb (ix2 (0 : Fin 1) k)) = _
  refine Eq.trans ?_ (congrFun (V_main_arg1 m c) _)
  congr 1
  funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem iblk2 (c : Dev nD) (t : Fin cfg0.N) : vRow (iblk m c 2 t) = vRow (m ((c : Thread nD τ).loc main_arg2)) := by
  obtain ⟨e0, e1⟩ := idx2 t
  funext k
  show V m c main_arg2 (((cfg0.win 2).blk t).view.emb (ix2 (0 : Fin 1) k)) = _
  refine Eq.trans ?_ (congrFun (V_main_arg2 m c) _)
  congr 1
  funext a; apply Fin.ext
  match a with
  | ⟨0, _⟩ => show win0_2.index t (0 : Fin 2) * 1 + 1 * 0 = 0; omega
  | ⟨1, _⟩ => show win0_2.index t (1 : Fin 2) * 1024 + 1 * k.val = k.val; omega

theorem iblk3 (c : Dev nD) (t : Fin cfg0.N) : vRow (iblk m c 3 t) = vRow (m ((c : Thread nD τ).loc main_arg3)) := by
  obtain ⟨e0, e1⟩ := idx3 t
  funext k
  show V m c main_arg3 (((cfg0.win 3).blk t).view.emb (ix2 (0 : Fin 1) k)) = _
  refine Eq.trans ?_ (congrFun (V_main_arg3 m c) _)
  congr 1
  funext a; apply Fin.ext
  match a with
  | ⟨0, _⟩ => show win0_3.index t (0 : Fin 2) * 1 + 1 * 0 = 0; omega
  | ⟨1, _⟩ => show win0_3.index t (1 : Fin 2) * 1024 + 1 * k.val = k.val; omega

/-- Where an index of a point's tile lies in the result. -/
theorem emb4 (t : Fin cfg0.N) (j : S512x1024.Idx) :
    ((cfg0.win 4).blk t).view.emb j = (ix2 (blockRow (blkOf t) (j 0)) (j 1) : S2048x1024.Idx) := by
  obtain ⟨e0, e1⟩ := idx4 t
  idx_vars j
  funext a; apply Fin.ext
  match a with
  | ⟨0, _⟩ => show win0_4.index t (0 : Fin 2) * 512 + 1 * j0.val = t.val * 512 + j0.val; omega
  | ⟨1, _⟩ => show win0_4.index t (1 : Fin 2) * 1024 + 1 * j1.val = j1.val; omega

/-! ## The result -/

/-- The modulated norm of every row. -/
def H (x : Vec Ideal S2048x1024 .f32) (w sc sh : Vec Ideal S1x1024 .f32) : Vec Ideal S2048x1024 .bf16 :=
  fun i => (modRow (row x (i 0)) (vRow w) (vRow sc) (vRow sh) (i 1) : EReal)

/-- Each point writes back its rows of the result. -/
theorem flushed_H (c : Dev nD) (t : Fin cfg0.N) :
    (dats m 0 c).flushed 4 t = ((cfg0.win 4).blk t).view.read (Elt Ideal)
      (H (m ((c : Thread nD τ).loc main_arg0)) (m ((c : Thread nD τ).loc main_arg1)) (m ((c : Thread nD τ).loc main_arg2)) (m ((c : Thread nD τ).loc main_arg3))) := by
  rw [Value.flushed4]
  funext j
  show out0_4 (F := Ideal) (iblk m c 0 t) (iblk m c 1 t) (iblk m c 2 t) (iblk m c 3 t) j = H _ _ _ _ (((cfg0.win 4).blk t).view.emb j)
  rw [emb4, out4_eq]
  idx_vars j
  rw [pay1_apply, iblk0, iblk1, iblk2, iblk3]
  rfl

/-- Every index of the result is in the tile of a point. -/
theorem covered (i : S2048x1024.Idx) : ∃ t : Fin cfg0.N, (cfg0.win 4).flush t = true ∧ i ∈ ((cfg0.win 4).blk t).view.set := by
  have h0 : (i 0).val < 2048 := (i 0).isLt
  obtain ⟨t, ht⟩ : ∃ t : Fin cfg0.N, t.val = (i 0).val / 512 := ⟨⟨(i 0).val / 512, by show _ < 4; omega⟩, rfl⟩
  refine ⟨t, flush0_4 t, ?_⟩
  have h := ((cfg0.win 4).blk t).view.emb_mem_set (ix2 (⟨(i 0).val % 512, by omega⟩ : Fin 512) (i 1) : S512x1024.Idx)
  rw [emb4] at h
  refine Eq.mp (congrArg (· ∈ ((cfg0.win 4).blk t).view.set) ?_) h
  funext a; apply Fin.ext
  match a with
  | ⟨0, _⟩ => show t.val * 512 + (i 0).val % 512 = (i 0).val; omega
  | ⟨1, _⟩ => rfl

/-- The run: the result is the modulated norm, and the arguments end unchanged. -/
theorem run : θ_run defs (onTc (τ := τ) (main (F := Ideal))) ⟨m, fun _ => 0, ρ⟩ fun r => ∀ c : Dev nD,
      r.2.mem ((c : Thread nD τ).loc main_v0)
        = H (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 _ (fun t _ => flushed_H m c t) covered), (h c).2⟩) (Value.run_blocks m ρ)

end Cert.NormModIdeal.Hand

namespace Cert.Proof

open Idealize.ShloMosaic Idealize.ShloMosaic.TcCoe Idealize.SL.Sem
open Cert.NormModRefIdeal Cert.NormModRefIdeal.Read
open Cert.NormModIdeal.Hand (modRow row vRow H)

variable (x : Vec Ideal S2048x1024 .f32) (w sc sh : Vec Ideal S1x1024 .f32)

/-- The norm's factor in the reference. -/
theorem normMod_v7 (l : Fin 2048) : val_main_v7 (F := Ideal) x (ix2 l (0 : Fin 1)) = (rms (row x l) : EReal) := by
  unfold rms ms row
  pointwise [val_main_v7, val_main_v6, val_main_v5, val_main_cst_1, val_main_v4, val_main_v3, val_main_cst_0, val_main_v2, val_main_v1, val_main_cst, val_main_v0]

/-- The reference's result. -/
theorem normMod_ref : val_main_v18 (F := Ideal) x w sc sh = H x w sc sh := by
  funext i
  idx_vars i
  show _ = (modRow (row x i0) (vRow w) (vRow sc) (vRow sh) i1 : EReal)
  unfold modRow
  rw [← normMod_v7]
  unfold val_main_v18 val_main_v17 val_main_v15 val_main_v11 val_main_v9 val_main_v8 row vRow
  generalize val_main_v7 (F := Ideal) x = s
  pointwise [val_main_v16, val_main_v14, val_main_v13, val_main_v12, val_main_cst_2, val_main_v10]

/-- The kernel's call and the reference, from memories that agree on the arguments, end with equal results. -/
theorem normMod : Cert.algebraic_NormModIdeal_NormModRefIdeal (hNormModIdeal := Cert.NormModIdeal.Gen.facts) (hNormModRefIdeal := Cert.NormModRefIdeal.Gen.facts) := by
  intro m ρ m' ρ' _ hag
  refine ⟨_, Cert.NormModIdeal.Hand.run m ρ, (θ_run _ _ _).mono (fun _ h c => ⟨(h c).1.trans ?_, (h c).2⟩) (Cert.NormModRefIdeal.Value.run m' ρ')⟩
  rw [val_main_v18_eq, (hag c).1, (hag c).2.1, (hag c).2.2.1, (hag c).2.2.2]
  exact normMod_ref _ _ _ _

end Cert.Proof

end
-- ==== Proof.FfnUp.lean ====
/-
  Hand-written. The first half of the FFN: the kernel's call and the reference end with the same two arrays, the products
  `h @ w_gu` of the gate and up halves and the activation `silu(gate) · up`.
-/
module

public import proofs.«01_k».proof.Defs
public import proofs.«01_k».proof.Proof.Gen.FfnUpIdeal.Value
public import proofs.«01_k».proof.Proof.Gen.FfnUpRefIdeal.Run
public import proofs.«01_k».proof.Proof.Gen.FfnUpRefIdeal.Read
public import Idealize.ShloMosaic.Lib.Pipeline.Value
public import Idealize.ShloMosaic.Lib.Pointwise

@[expose] public section

set_option maxRecDepth 16384

noncomputable section

namespace Cert.FfnUpIdeal.Hand

open Cert.FfnUpIdeal Cert.FfnUpIdeal.Gen Idealize.ShloMosaic Idealize.ShloMosaic.TcCoe Idealize.SL.Sem
open Idealize.ShloMosaic.Pipeline (Dat)

/-- The activation of a gate `g` and an up value `u`: `g · sigmoid(g) · u`. -/
def act (g u : EReal) : EReal := g * Ideal.div 1 (1 + Ideal.exp (-g)) * u

/-- Half `c` and part `p` of the four parts of the weight's columns. -/
def part (c p : Fin 2) : Fin 4 := ⟨c.val * 2 + p.val, by omega⟩

/-- The product at half `c`, part `p`, token `l` and column `t`. -/
def dot (h : Vec Ideal S2048x1024 .bf16) (w : Vec Ideal S4x1024x1408 .bf16) (c p : Fin 2) (l : Fin 2048) (t : Fin 1408) : EReal :=
  ∑ d : Fin 1024, (show EReal from h (ix2 l d)) * (show EReal from w (ix3 (part c p) d t))

/-- The products of both halves. -/
def G (h : Vec Ideal S2048x1024 .bf16) (w : Vec Ideal S4x1024x1408 .bf16) : Vec Ideal S2x2x2048x1408 .f32 :=
  fun i => (dot h w (i 0) (i 1) (i 2) (i 3) : EReal)

/-- The activation. -/
def A (h : Vec Ideal S2048x1024 .bf16) (w : Vec Ideal S4x1024x1408 .bf16) : Vec Ideal S2x2048x1408 .bf16 :=
  fun i => (act (dot h w 0 (i 0) (i 1) (i 2)) (dot h w 1 (i 0) (i 1) (i 2)) : EReal)

theorem hz2 : (![0, 0] : Fin 2 → Nat) = fun _ => 0 := funext fun a => by fin_cases a <;> rfl
theorem hz3 : (![0, 0, 0] : Fin 3 → Nat) = fun _ => 0 := funext fun a => by fin_cases a <;> rfl

/-- The gate's product in a block. -/
theorem pay1_apply (v0 : Vec Ideal S512x1024 .bf16) (v1 : Vec Ideal S1x1x1024x1408 .bf16) (r : Fin 512) (t : Fin 1408) :
    k0_pay1 (F := Ideal) v0 v1 (ix2 r t) = (∑ d : Fin 1024, (show EReal from v0 (ix2 r d)) * (show EReal from v1 (ix4 (0 : Fin 1) (0 : Fin 1) d t)) : EReal) := by
  pointwise [k0_pay1]

/-- The up half's product in a block. -/
theorem pay2_apply (v0 : Vec Ideal S512x1024 .bf16) (v1 : Vec Ideal S1x1x1024x1408 .bf16) (r : Fin 512) (t : Fin 1408) :
    k0_pay2 (F := Ideal) v0 v1 (ix2 r t) = (∑ d : Fin 1024, (show EReal from v0 (ix2 r d)) * (show EReal from v1 (ix4 (0 : Fin 1) (0 : Fin 1) d t)) : EReal) := by
  pointwise [k0_pay2]

theorem pay3_apply (v0 : Vec Ideal S512x1024 .bf16) (v1 : Vec Ideal S1x1x1024x1408 .bf16) (r : Fin 512) (t : Fin 1408) :
    k0_pay3 (F := Ideal) v0 v1 (ix4 (0 : Fin 1) (0 : Fin 1) r t) = k0_pay1 (F := Ideal) v0 v1 (ix2 r t) := by
  unfold k0_pay3
  generalize k0_pay1 (F := Ideal) v0 v1 = x
  pointwise

theorem pay4_apply (v0 : Vec Ideal S512x1024 .bf16) (v1 : Vec Ideal S1x1x1024x1408 .bf16) (r : Fin 512) (t : Fin 1408) :
    k0_pay4 (F := Ideal) v0 v1 (ix4 (0 : Fin 1) (0 : Fin 1) r t) = k0_pay2 (F := Ideal) v0 v1 (ix2 r t) := by
  unfold k0_pay4
  generalize k0_pay2 (F := Ideal) v0 v1 = x
  pointwise

/-- The activation in a block. -/
theorem pay5_apply (v0 : Vec Ideal S512x1024 .bf16) (v1 v4 : Vec Ideal S1x1x1024x1408 .bf16) (r : Fin 512) (t : Fin 1408) :
    k0_pay5 (F := Ideal) v0 v1 v4 (ix3 (0 : Fin 1) r t)
      = (act (k0_pay1 (F := Ideal) v0 v1 (ix2 r t)) (k0_pay2 (F := Ideal) v0 v4 (ix2 r t)) : EReal) := by
  unfold k0_pay5
  generalize k0_pay1 (F := Ideal) v0 v1 = x
  generalize k0_pay2 (F := Ideal) v0 v4 = y
  pointwise
  simp [act]

/-- What the body leaves in the products' block, at an index. -/
def B (x0 : Vec Ideal S512x1024 .bf16) (x1 : Vec Ideal S2x1x1024x1408 .bf16) : Vec Ideal S2x1x512x1408 .f32 :=
  fun j => (∑ d : Fin 1024, (show EReal from x0 (ix2 (j 2) d)) * (show EReal from x1 (ix4 (j 0) (0 : Fin 1) d (j 3))) : EReal)

theorem emb_r0_3 (r : Fin 512) (t : Fin 1408) :
    r0_3.emb (ix4 (0 : Fin 1) (0 : Fin 1) r t : S1x1x512x1408.Idx) = (ix4 (0 : Fin 2) (0 : Fin 1) r t : S2x1x512x1408.Idx) := by
  funext a; apply Fin.ext
  match a with
  | ⟨0, _⟩ => rfl
  | ⟨1, _⟩ => rfl
  | ⟨2, _⟩ => show 0 + 1 * r.val = r.val; omega
  | ⟨3, _⟩ => show 0 + 1 * t.val = t.val; omega

theorem emb_r0_4 (r : Fin 512) (t : Fin 1408) :
    r0_4.emb (ix4 (0 : Fin 1) (0 : Fin 1) r t : S1x1x512x1408.Idx) = (ix4 (1 : Fin 2) (0 : Fin 1) r t : S2x1x512x1408.Idx) := by
  funext a; apply Fin.ext
  match a with
  | ⟨0, _⟩ => rfl
  | ⟨1, _⟩ => rfl
  | ⟨2, _⟩ => show 0 + 1 * r.val = r.val; omega
  | ⟨3, _⟩ => show 0 + 1 * t.val = t.val; omega

/-- Where the two loads of the weight's block read it. -/
theorem ld_g (x1 : Vec Ideal S2x1x1024x1408 .bf16) (d : Fin 1024) (t : Fin 1408) :
    View.ld x1 r0_1 (ix4 (0 : Fin 1) (0 : Fin 1) d t) = x1 (ix4 (0 : Fin 2) (0 : Fin 1) d t) := by
  refine congrArg x1 (funext fun a => Fin.ext ?_)
  match a with
  | ⟨0, _⟩ => rfl
  | ⟨1, _⟩ => rfl
  | ⟨2, _⟩ => show 0 + 1 * d.val = d.val; omega
  | ⟨3, _⟩ => show 0 + 1 * t.val = t.val; omega

theorem ld_u (x1 : Vec Ideal S2x1x1024x1408 .bf16) (d : Fin 1024) (t : Fin 1408) :
    View.ld x1 r0_2 (ix4 (0 : Fin 1) (0 : Fin 1) d t) = x1 (ix4 (1 : Fin 2) (0 : Fin 1) d t) := by
  refine congrArg x1 (funext fun a => Fin.ext ?_)
  match a with
  | ⟨0, _⟩ => rfl
  | ⟨1, _⟩ => rfl
  | ⟨2, _⟩ => show 0 + 1 * d.val = d.val; omega
  | ⟨3, _⟩ => show 0 + 1 * t.val = t.val; omega

/-- The gate's product over the weight's block. -/
theorem gate_apply (x0 : Vec Ideal S512x1024 .bf16) (x1 : Vec Ideal S2x1x1024x1408 .bf16) (r : Fin 512) (t : Fin 1408) :
    k0_pay1 (F := Ideal) x0 (View.ld x1 r0_1) (ix2 r t) = B x0 x1 (ix4 (0 : Fin 2) (0 : Fin 1) r t) := by
  rw [pay1_apply]
  show (∑ d : Fin 1024, _ : EReal) = (∑ d : Fin 1024, _ : EReal)
  refine Finset.sum_congr rfl fun d _ => congrArg (fun z : EReal => (show EReal from x0 (ix2 r d)) * z) (ld_g x1 d t)

/-- The up half's product over the weight's block. -/
theorem up_apply (x0 : Vec Ideal S512x1024 .bf16) (x1 : Vec Ideal S2x1x1024x1408 .bf16) (r : Fin 512) (t : Fin 1408) :
    k0_pay2 (F := Ideal) x0 (View.ld x1 r0_2) (ix2 r t) = B x0 x1 (ix4 (1 : Fin 2) (0 : Fin 1) r t) := by
  rw [pay2_apply]
  show (∑ d : Fin 1024, _ : EReal) = (∑ d : Fin 1024, _ : EReal)
  refine Finset.sum_congr rfl fun d _ => congrArg (fun z : EReal => (show EReal from x0 (ix2 r d)) * z) (ld_u x1 d t)

theorem out2_eq (x0 : Vec Ideal S512x1024 .bf16) (x1 : Vec Ideal S2x1x1024x1408 .bf16) : out0_2 (F := Ideal) x0 x1 = B x0 x1 := by
  unfold out0_2
  rw [View.ld_unit_zero hz2]
  funext y
  refine View.canon_apply_of_pieces (B x0 x1) _ (fun p hp j => ?_) y (cover0_2 _ _ y)
  simp only [List.mem_cons, List.mem_nil_iff, or_false] at hp
  rcases hp with rfl | rfl
  · idx_vars j
    fin_cases j0; fin_cases j1
    exact (pay4_apply x0 (View.ld x1 r0_2) j2 j3).trans ((up_apply x0 x1 j2 j3).trans (congrArg (B x0 x1) (emb_r0_4 j2 j3)).symm)
  · idx_vars j
    fin_cases j0; fin_cases j1
    exact (pay3_apply x0 (View.ld x1 r0_1) j2 j3).trans ((gate_apply x0 x1 j2 j3).trans (congrArg (B x0 x1) (emb_r0_3 j2 j3)).symm)

theorem out3_apply (x0 : Vec Ideal S512x1024 .bf16) (x1 : Vec Ideal S2x1x1024x1408 .bf16) (r : Fin 512) (t : Fin 1408) :
    out0_3 (F := Ideal) x0 x1 (ix3 (0 : Fin 1) r t)
      = (act (B x0 x1 (ix4 (0 : Fin 2) (0 : Fin 1) r t)) (B x0 x1 (ix4 (1 : Fin 2) (0 : Fin 1) r t)) : EReal) := by
  unfold out0_3
  rw [View.canon_unit_zero hz3, View.ld_unit_zero hz2, pay5_apply, gate_apply, up_apply]

variable (m : (ℓ : Loc nD τ sig) → Buf (Elt Ideal) ℓ) (ρ : Dev nD → PrngReg)

/-- The call's second operand: the four parts of the weight as two halves of two parts. -/
theorem V_main_v0 (c : Dev nD) :
    V m c main_v0 = shapeCast S2x2x1024x1408 (m ((c : Thread nD τ).loc main_arg1)) shapeCasts_S4x1024x1408_S2x2x1024x1408 := by
  show StableHlo.after hostOps0 _ (Proc.devRef .tc main_v0) = _
  after_results
  rfl

/-- That operand at an index. -/
theorem parts_apply (x : Vec Ideal S4x1024x1408 .bf16) (h p : Fin 2) (d : Fin 1024) (t : Fin 1408) :
    shapeCast S2x2x1024x1408 x shapeCasts_S4x1024x1408_S2x2x1024x1408 (ix4 h p d t) = x (ix3 (part h p) d t) := by
  refine shapeCast_apply x _ _ _ ?_
  rw [Shape.rowMajor_val_three, Shape.rowMajor_val_four]
  rfl

theorem V_main_v0_apply (c : Dev nD) (h p : Fin 2) (d : Fin 1024) (t : Fin 1408) :
    V m c main_v0 (ix4 h p d t) = m ((c : Thread nD τ).loc main_arg1) (ix3 (part h p) d t) :=
  (congrFun (V_main_v0 m c) _).trans (parts_apply _ h p d t)

theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, win0_1.index t (0 : Fin 4) = 0 ∧ win0_1.index t (1 : Fin 4) = t.val / 4 ∧ win0_1.index t (2 : Fin 4) = 0 ∧ win0_1.index t (3 : Fin 4) = 0 :=
  (by decide +kernel : ∀ t : Fin grid0.N, _)
theorem idx2 : ∀ t : Fin cfg0.N, win0_2.index t (0 : Fin 4) = 0 ∧ win0_2.index t (1 : Fin 4) = t.val / 4 ∧ win0_2.index t (2 : Fin 4) = t.val % 4 ∧ win0_2.index t (3 : Fin 4) = 0 :=
  (by decide +kernel : ∀ t : Fin grid0.N, _)
theorem idx3 : ∀ t : Fin cfg0.N, win0_3.index t (0 : Fin 3) = t.val / 4 ∧ win0_3.index t (1 : Fin 3) = t.val % 4 ∧ win0_3.index t (2 : Fin 3) = 0 :=
  (by decide +kernel : ∀ t : Fin grid0.N, _)

/-- The part that point `t` works on. -/
def pt (t : Fin cfg0.N) : Fin 2 := ⟨t.val / 4, by have h : t.val < 8 := t.isLt; omega⟩
/-- The token that row `r` of point `t`'s block is. -/
def tok (t : Fin cfg0.N) (r : Fin 512) : Fin 2048 := ⟨t.val % 4 * 512 + r.val, by have h := r.isLt; omega⟩

theorem iblk0 (c : Dev nD) (t : Fin cfg0.N) (r : Fin 512) (d : Fin 1024) :
    iblk m c 0 t (ix2 r d) = V m c main_arg0 (ix2 (tok t r) d) := by
  obtain ⟨e0, e1⟩ := idx0 t
  show V m c main_arg0 (((cfg0.win 0).blk t).view.emb (ix2 r d)) = _
  congr 1
  funext a; apply Fin.ext
  match a with
  | ⟨0, _⟩ => show win0_0.index t (0 : Fin 2) * 512 + 1 * r.val = t.val % 4 * 512 + r.val; omega
  | ⟨1, _⟩ => show win0_0.index t (1 : Fin 2) * 1024 + 1 * d.val = d.val; omega

theorem iblk1 (c : Dev nD) (t : Fin cfg0.N) (h : Fin 2) (d : Fin 1024) (x : Fin 1408) :
    iblk m c 1 t (ix4 h (0 : Fin 1) d x) = V m c main_v0 (ix4 h (pt t) d x) := by
  obtain ⟨e0, e1, e2, e3⟩ := idx1 t
  show V m c main_v0 (((cfg0.win 1).blk t).view.emb (ix4 h (0 : Fin 1) d x)) = _
  congr 1
  funext a; apply Fin.ext
  match a with
  | ⟨0, _⟩ => show win0_1.index t (0 : Fin 4) * 2 + 1 * h.val = h.val; omega
  | ⟨1, _⟩ => show win0_1.index t (1 : Fin 4) * 1 + 1 * 0 = t.val / 4; omega
  | ⟨2, _⟩ => show win0_1.index t (2 : Fin 4) * 1024 + 1 * d.val = d.val; omega
  | ⟨3, _⟩ => show win0_1.index t (3 : Fin 4) * 1408 + 1 * x.val = x.val; omega

/-- A block's product is the product at the block's place. -/
theorem block_eq (c : Dev nD) (t : Fin cfg0.N) (h : Fin 2) (r : Fin 512) (x : Fin 1408) :
    B (iblk m c 0 t) (iblk m c 1 t) (ix4 h (0 : Fin 1) r x)
      = (dot (m ((c : Thread nD τ).loc main_arg0)) (m ((c : Thread nD τ).loc main_arg1)) h (pt t) (tok t r) x : EReal) := by
  show (∑ d : Fin 1024, _ : EReal) = (∑ d : Fin 1024, _ : EReal)
  refine Finset.sum_congr rfl fun d _ => ?_
  exact congrArg₂ (fun x y : EReal => x * y) ((iblk0 m c t r d).trans (congrFun (V_main_arg0 m c) _))
    ((iblk1 m c t h d x).trans (V_main_v0_apply m c h (pt t) d x))

/-- Where an index of an output's block `t` lies in the result. -/
theorem emb2 (t : Fin cfg0.N) (j : S2x1x512x1408.Idx) :
    ((cfg0.win 2).blk t).view.emb j = (ix4 (j 0) (pt t) (tok t (j 2)) (j 3) : S2x2x2048x1408.Idx) := by
  obtain ⟨e0, e1, e2, e3⟩ := idx2 t
  idx_vars j
  funext a; apply Fin.ext
  match a with
  | ⟨0, _⟩ => show win0_2.index t (0 : Fin 4) * 2 + 1 * j0.val = j0.val; omega
  | ⟨1, _⟩ => show win0_2.index t (1 : Fin 4) * 1 + 1 * (j1 : Fin 1).val = t.val / 4; omega
  | ⟨2, _⟩ => show win0_2.index t (2 : Fin 4) * 512 + 1 * j2.val = t.val % 4 * 512 + j2.val; omega
  | ⟨3, _⟩ => show win0_2.index t (3 : Fin 4) * 1408 + 1 * j3.val = j3.val; omega

theorem emb3 (t : Fin cfg0.N) (j : S1x512x1408.Idx) :
    ((cfg0.win 3).blk t).view.emb j = (ix3 (pt t) (tok t (j 1)) (j 2) : S2x2048x1408.Idx) := by
  obtain ⟨e0, e1, e2⟩ := idx3 t
  idx_vars j
  funext a; apply Fin.ext
  match a with
  | ⟨0, _⟩ => show win0_3.index t (0 : Fin 3) * 1 + 1 * (j0 : Fin 1).val = t.val / 4; omega
  | ⟨1, _⟩ => show win0_3.index t (1 : Fin 3) * 512 + 1 * j1.val = t.val % 4 * 512 + j1.val; omega
  | ⟨2, _⟩ => show win0_3.index t (2 : Fin 3) * 1408 + 1 * j2.val = j2.val; omega

/-- Each point writes back its block of the products. -/
theorem flushed_G (c : Dev nD) (t : Fin cfg0.N) :
    (dats m 0 c).flushed 2 t = ((cfg0.win 2).blk t).view.read (Elt Ideal)
      (G (m ((c : Thread nD τ).loc main_arg0)) (m ((c : Thread nD τ).loc main_arg1))) := by
  rw [Value.flushed2]
  funext j
  show out0_2 (F := Ideal) (iblk m c 0 t) (iblk m c 1 t) j
    = G (m ((c : Thread nD τ).loc main_arg0)) (m ((c : Thread nD τ).loc main_arg1)) (((cfg0.win 2).blk t).view.emb j)
  rw [emb2, out2_eq]
  idx_vars j
  fin_cases j1
  exact block_eq m c t j0 j2 j3

/-- Each point writes back its block of the activation. -/
theorem flushed_A (c : Dev nD) (t : Fin cfg0.N) :
    (dats m 0 c).flushed 3 t = ((cfg0.win 3).blk t).view.read (Elt Ideal)
      (A (m ((c : Thread nD τ).loc main_arg0)) (m ((c : Thread nD τ).loc main_arg1))) := by
  rw [Value.flushed3]
  funext j
  show out0_3 (F := Ideal) (iblk m c 0 t) (iblk m c 1 t) j
    = A (m ((c : Thread nD τ).loc main_arg0)) (m ((c : Thread nD τ).loc main_arg1)) (((cfg0.win 3).blk t).view.emb j)
  rw [emb3]
  idx_vars j
  fin_cases j0
  refine (out3_apply (iblk m c 0 t) (iblk m c 1 t) j1 j2).trans ?_
  exact congrArg₂ act (block_eq m c t 0 j1 j2) (block_eq m c t 1 j1 j2)

/-- Every index of a result is in some point's block. -/
theorem covered2 (i : S2x2x2048x1408.Idx) :
    ∃ t : Fin cfg0.N, (cfg0.win 2).flush t = true ∧ i ∈ ((cfg0.win 2).blk t).view.set := by
  have h1 : (i 1).val < 2 := (i 1).isLt
  have h2 : (i 2).val < 2048 := (i 2).isLt
  obtain ⟨t, ht⟩ : ∃ t : Fin cfg0.N, t.val = (i 1).val * 4 + (i 2).val / 512 :=
    ⟨⟨(i 1).val * 4 + (i 2).val / 512, by show _ < 8; omega⟩, rfl⟩
  obtain ⟨r, hr⟩ : ∃ r : Fin 512, r.val = (i 2).val % 512 := ⟨⟨(i 2).val % 512, by omega⟩, rfl⟩
  refine ⟨t, flush0_2 _, ?_⟩
  have h := ((cfg0.win 2).blk t).view.emb_mem_set (ix4 (i 0) (0 : Fin 1) r (i 3) : S2x1x512x1408.Idx)
  have e : ((cfg0.win 2).blk t).view.emb (ix4 (i 0) (0 : Fin 1) r (i 3) : S2x1x512x1408.Idx) = i := by
    rw [emb2]
    funext a; apply Fin.ext
    match a with
    | ⟨0, _⟩ => rfl
    | ⟨1, _⟩ => show t.val / 4 = (i 1).val; omega
    | ⟨2, _⟩ => show t.val % 4 * 512 + r.val = (i 2).val; omega
    | ⟨3, _⟩ => rfl
  rw [e] at h
  exact h

theorem covered3 (i : S2x2048x1408.Idx) :
    ∃ t : Fin cfg0.N, (cfg0.win 3).flush t = true ∧ i ∈ ((cfg0.win 3).blk t).view.set := by
  have h1 : (i 0).val < 2 := (i 0).isLt
  have h2 : (i 1).val < 2048 := (i 1).isLt
  obtain ⟨t, ht⟩ : ∃ t : Fin cfg0.N, t.val = (i 0).val * 4 + (i 1).val / 512 :=
    ⟨⟨(i 0).val * 4 + (i 1).val / 512, by show _ < 8; omega⟩, rfl⟩
  obtain ⟨r, hr⟩ : ∃ r : Fin 512, r.val = (i 1).val % 512 := ⟨⟨(i 1).val % 512, by omega⟩, rfl⟩
  refine ⟨t, flush0_3 _, ?_⟩
  have h := ((cfg0.win 3).blk t).view.emb_mem_set (ix3 (0 : Fin 1) r (i 2) : S1x512x1408.Idx)
  have e : ((cfg0.win 3).blk t).view.emb (ix3 (0 : Fin 1) r (i 2) : S1x512x1408.Idx) = i := by
    rw [emb3]
    funext a; apply Fin.ext
    match a with
    | ⟨0, _⟩ => show t.val / 4 = (i 0).val; omega
    | ⟨1, _⟩ => show t.val % 4 * 512 + r.val = (i 1).val; omega
    | ⟨2, _⟩ => rfl
  rw [e] at h
  exact h

/-- The run: the results are `G` and `A` of the arguments, which end unchanged. -/
theorem run : θ_run defs (onTc (τ := τ) (main (F := Ideal))) ⟨m, fun _ => 0, ρ⟩ fun r => ∀ c : Dev nD,
      r.2.mem ((c : Thread nD τ).loc main_v1_0) = G (m ((c : Thread nD τ).loc main_arg0)) (m ((c : Thread nD τ).loc main_arg1))
      ∧ r.2.mem ((c : Thread nD τ).loc main_v1_1) = A (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
      ((dats m 0 c).arrAt_eq_of_cover 2 _ (fun t _ => flushed_G m c t) covered2), (h c).2.1.trans
      ((dats m 0 c).arrAt_eq_of_cover 3 _ (fun t _ => flushed_A m c t) covered3), (h c).2.2⟩) (Value.run_blocks m ρ)

end Cert.FfnUpIdeal.Hand

namespace Cert.Proof

open Idealize.ShloMosaic Idealize.ShloMosaic.TcCoe Idealize.SL.Sem
open Cert.FfnUpRefIdeal.Read
open Cert.FfnUpIdeal.Hand (G A dot act part)

/-- The reference's products, at every index. -/
theorem ffnUp_gu (h : Vec Ideal Cert.FfnUpIdeal.S2048x1024 .bf16) (w : Vec Ideal Cert.FfnUpIdeal.S4x1024x1408 .bf16) (c p : Fin 2) (l : Fin 2048) (t : Fin 1408) :
    val_main_v4 (F := Ideal) h w (ix4 c p l t) = (dot h w c p l t : EReal) := by
  refine Eq.trans (b := (∑ d : Fin 1024, (show EReal from w (ix3 (part c p) d t)) * (show EReal from h (ix2 l d)) : EReal)) ?_ (Finset.sum_congr rfl fun d _ => mul_comm _ _)
  rw [val_main_v4_apply, val_main_v3_apply]
  show (∑ d : Fin 1024, _ : EReal) = (∑ d : Fin 1024, _ : EReal)
  refine Finset.sum_congr rfl fun d _ => ?_
  refine congrArg₂ (fun x y : EReal => x * y) ?_ ?_
  · unfold val_main_v2 val_main_v1
    refine shapeCast_apply _ _ _ (ix3 (part c p) d t) ?_
    rw [Shape.rowMajor_val_three, Shape.rowMajor_val_four]
    rfl
  · refine congrArg h (funext fun x => ?_)
    match x with
    | ⟨0, _⟩ => rfl
    | ⟨1, _⟩ => rfl

/-- The reference's activation, at every index. -/
theorem ffnUp_a (h : Vec Ideal Cert.FfnUpIdeal.S2048x1024 .bf16) (w : Vec Ideal Cert.FfnUpIdeal.S4x1024x1408 .bf16) :
    val_main_v11 (F := Ideal) h w = A h w := by
  funext j
  idx_vars j
  show _ = (act (dot h w 0 j0 j1 j2) (dot h w 1 j0 j1 j2) : EReal)
  rw [← ffnUp_gu, ← ffnUp_gu]
  unfold val_main_v11 val_main_v10 val_main_v9 val_main_v8 val_main_v7 val_main_call0_v5 val_main_call0_v3 val_main_call0_v1 val_main_call0_v0 val_main_v6 val_main_v5
  generalize val_main_v4 (F := Ideal) h w = gu
  pointwise [val_main_call0_v4, val_main_call0_v2, val_main_call0_cst, val_main_call0_cst_0]
  simp [act]

/-- The kernel's call and the reference, from memories that agree on the arguments, end with equal results. -/
theorem ffnUp : Cert.algebraic_FfnUpIdeal_FfnUpRefIdeal (hFfnUpIdeal := Cert.FfnUpIdeal.Gen.facts) (hFfnUpRefIdeal := Cert.FfnUpRefIdeal.Gen.facts) := by
  intro m ρ m' ρ' _ hag
  refine ⟨fun c => G (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)),
    fun c => A (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)),
    Cert.FfnUpIdeal.Hand.run m ρ, (θ_run _ _ _).mono (fun _ h c => ⟨(h c).1.trans ?_, (h c).2.1.trans ?_, (h c).2.2⟩) (Cert.FfnUpRefIdeal.Value.run m' ρ')⟩
  · rw [val_main_v4_eq, (hag c).1, (hag c).2]
    funext j
    idx_vars j
    exact ffnUp_gu _ _ j0 j1 j2 j3
  · rw [val_main_v11_eq, (hag c).1, (hag c).2]
    exact ffnUp_a _ _

end Cert.Proof

end
-- ==== Proof.FfnDown.lean ====
/-
  Hand-written. The second half of the FFN: the kernel's call and the reference end with the same two arrays, the product
  `a @ w_down` and the residual stream with half of its gated value added.
-/
module

public import proofs.«01_k».proof.Defs
public import proofs.«01_k».proof.Proof.Gen.FfnDownIdeal.Value
public import proofs.«01_k».proof.Proof.Gen.FfnDownRefIdeal.Run
public import proofs.«01_k».proof.Proof.Gen.FfnDownRefIdeal.Read
public import Idealize.ShloMosaic.Lib.Pipeline.Value
public import Idealize.ShloMosaic.Lib.Pipeline.ValueKit
public import Idealize.ShloMosaic.Lib.Pointwise

@[expose] public section

set_option maxRecDepth 16384

noncomputable section

namespace Cert.FfnDownIdeal.Hand

open Cert.FfnDownIdeal Cert.FfnDownIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the first part's point leaves in the accumulator. -/
theorem acc_A (c : Dev nD) (t : Fin cfg0.N) (h0 : t.val % 2 = 0) :
    (outsAt0 m c t.val t.isLt).2.2 = k0_pay2 (F := Ideal) (k0_pay1 (F := Ideal)) (iblk m c 0 t) (iblk m c 1 t) := by
  rw [outsAt0_A m c t h0 (by omega)]
  frame_out

/-- What the second part's point leaves in the product's block. -/
theorem out_B4 (c : Dev nD) (t : Fin cfg0.N) (h0 : ¬t.val % 2 = 0) :
    (outsAt0 m c t.val t.isLt).1 = k0_pay2 (F := Ideal) (outsAt0 m c (t.val - 1) (Nat.lt_of_le_of_lt (Nat.sub_le _ _) t.isLt)).2.2 (iblk m c 0 t) (iblk m c 1 t) := by
  rw [outsAt0_B m c t h0 (by omega)]
  frame_out
  exact congrArg (fun a => k0_pay2 (F := Ideal) a (iblk m c 0 t) (iblk m c 1 t)) ((Memref.isWhole_whole cc0_scratch0).read_unread _)

/-- What it leaves in the residual stream's block. -/
theorem out_B5 (c : Dev nD) (t : Fin cfg0.N) (h0 : ¬t.val % 2 = 0) :
    (outsAt0 m c t.val t.isLt).2.1 = k0_pay3 (F := Ideal) (outsAt0 m c t.val t.isLt).1 (iblk m c 2 t) (iblk m c 3 t) := by
  rw [out_B4 m c t h0, outsAt0_B m c t h0 (by omega)]
  frame_out
  exact congrArg (fun a => k0_pay3 (F := Ideal) (k0_pay2 (F := Ideal) a (iblk m c 0 t) (iblk m c 1 t)) (iblk m c 2 t) (iblk m c 3 t)) ((Memref.isWhole_whole cc0_scratch0).read_unread _)

/-- A part's product added to the accumulator, at an index. -/
theorem pay2_apply (v5 : Vec Ideal S512x1024 .f32) (v6 : Vec Ideal S1x512x1408 .bf16) (v8 : Vec Ideal S1x1408x1024 .bf16) (r : Fin 512) (d : Fin 1024) :
    k0_pay2 (F := Ideal) v5 v6 v8 (ix2 r d)
      = ((show EReal from v5 (ix2 r d)) + ∑ k : Fin 1408, (show EReal from v6 (ix3 (0 : Fin 1) r k)) * (show EReal from v8 (ix3 (0 : Fin 1) k d)) : EReal) := by
  pointwise [k0_pay2]

theorem pay1_apply (r : Fin 512) (d : Fin 1024) : k0_pay1 (F := Ideal) (ix2 r d) = (0 : EReal) := by
  pointwise [k0_pay1]

/-- The residual stream's payload at an index. -/
theorem pay3_apply (v20 v22 : Vec Ideal S512x1024 .f32) (v23 : Vec Ideal S1x1024 .f32) (r : Fin 512) (d : Fin 1024) :
    k0_pay3 (F := Ideal) v20 v22 v23 (ix2 r d)
      = ((show EReal from v22 (ix2 r d)) + Ideal.ofBits .f32 0x3F000000#32 * (show EReal from v23 (ix2 (0 : Fin 1) d)) * (show EReal from v20 (ix2 r d)) : EReal) := by
  pointwise [k0_pay3]

/-- The product at token `l` and column `d`: the sum over the two parts and their columns. -/
def dot (a : Vec Ideal S2x2048x1408 .bf16) (w : Vec Ideal S2x1408x1024 .bf16) (l : Fin 2048) (d : Fin 1024) : EReal :=
  (∑ k : Fin 1408, (show EReal from a (ix3 (0 : Fin 2) l k)) * (show EReal from w (ix3 (0 : Fin 2) k d)))
    + ∑ k : Fin 1408, (show EReal from a (ix3 (1 : Fin 2) l k)) * (show EReal from w (ix3 (1 : Fin 2) k d))

/-- The product. -/
def P (a : Vec Ideal S2x2048x1408 .bf16) (w : Vec Ideal S2x1408x1024 .bf16) : Vec Ideal S2048x1024 .f32 :=
  fun i => (dot a w (i 0) (i 1) : EReal)

/-- The residual stream with half of the gated product added. -/
def R (a : Vec Ideal S2x2048x1408 .bf16) (w : Vec Ideal S2x1408x1024 .bf16) (x : Vec Ideal S2048x1024 .f32) (g : Vec Ideal S1x1024 .f32) : Vec Ideal S2048x1024 .f32 :=
  fun i => ((show EReal from x (ix2 (i 0) (i 1))) + Ideal.ofBits .f32 0x3F000000#32 * (show EReal from g (ix2 (0 : Fin 1) (i 1))) * dot a w (i 0) (i 1) : EReal)

theorem idx0 : ∀ t : Fin cfg0.N, win0_0.index t (0 : Fin 3) = t.val % 2 ∧ win0_0.index t (1 : Fin 3) = t.val / 2 ∧ win0_0.index t (2 : Fin 3) = 0 :=
  (by decide +kernel : ∀ t : Fin grid0.N, _)
theorem idx1 : ∀ t : Fin cfg0.N, win0_1.index t (0 : Fin 3) = t.val % 2 ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val / 2 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val / 2 ∧ win0_4.index t (1 : Fin 2) = 0 :=
  (by decide +kernel : ∀ t : Fin grid0.N, _)
theorem idx5 : ∀ t : Fin cfg0.N, win0_5.index t (0 : Fin 2) = t.val / 2 ∧ win0_5.index t (1 : Fin 2) = 0 :=
  (by decide +kernel : ∀ t : Fin grid0.N, _)

/-- The part that point `t` works on. -/
def pt (t : Fin cfg0.N) : Fin 2 := ⟨t.val % 2, by omega⟩
/-- The token that row `r` of point `t`'s block is. -/
def tok (t : Fin cfg0.N) (r : Fin 512) : Fin 2048 := ⟨t.val / 2 * 512 + r.val, by have h := r.isLt; have h' : t.val < 8 := t.isLt; omega⟩

theorem iblk0 (c : Dev nD) (t : Fin cfg0.N) (r : Fin 512) (k : Fin 1408) :
    iblk m c 0 t (ix3 (0 : Fin 1) r k) = m ((c : Thread nD τ).loc main_arg0) (ix3 (pt t) (tok t r) k) := by
  obtain ⟨e0, e1, e2⟩ := idx0 t
  show V m c main_arg0 (((cfg0.win 0).blk t).view.emb (ix3 (0 : Fin 1) r k)) = _
  refine Eq.trans ?_ (congrFun (V_main_arg0 m c) _)
  congr 1
  funext a; apply Fin.ext
  match a with
  | ⟨0, _⟩ => show win0_0.index t (0 : Fin 3) * 1 + 1 * 0 = t.val % 2; omega
  | ⟨1, _⟩ => show win0_0.index t (1 : Fin 3) * 512 + 1 * r.val = t.val / 2 * 512 + r.val; omega
  | ⟨2, _⟩ => show win0_0.index t (2 : Fin 3) * 1408 + 1 * k.val = k.val; omega

theorem iblk1 (c : Dev nD) (t : Fin cfg0.N) (k : Fin 1408) (d : Fin 1024) :
    iblk m c 1 t (ix3 (0 : Fin 1) k d) = m ((c : Thread nD τ).loc main_arg1) (ix3 (pt t) k d) := by
  obtain ⟨e0, e1, e2⟩ := idx1 t
  show V m c main_arg1 (((cfg0.win 1).blk t).view.emb (ix3 (0 : Fin 1) k d)) = _
  refine Eq.trans ?_ (congrFun (V_main_arg1 m c) _)
  congr 1
  funext a; apply Fin.ext
  match a with
  | ⟨0, _⟩ => show win0_1.index t (0 : Fin 3) * 1 + 1 * 0 = t.val % 2; omega
  | ⟨1, _⟩ => show win0_1.index t (1 : Fin 3) * 1408 + 1 * k.val = k.val; omega
  | ⟨2, _⟩ => show win0_1.index t (2 : Fin 3) * 1024 + 1 * d.val = d.val; omega

theorem iblk2 (c : Dev nD) (t : Fin cfg0.N) (r : Fin 512) (d : Fin 1024) :
    iblk m c 2 t (ix2 r d) = m ((c : Thread nD τ).loc main_arg2) (ix2 (tok t r) d) := by
  obtain ⟨e0, e1⟩ := idx2 t
  show V m c main_arg2 (((cfg0.win 2).blk t).view.emb (ix2 r d)) = _
  refine Eq.trans ?_ (congrFun (V_main_arg2 m c) _)
  congr 1
  funext a; apply Fin.ext
  match a with
  | ⟨0, _⟩ => show win0_2.index t (0 : Fin 2) * 512 + 1 * r.val = t.val / 2 * 512 + r.val; omega
  | ⟨1, _⟩ => show win0_2.index t (1 : Fin 2) * 1024 + 1 * d.val = d.val; omega

theorem iblk3 (c : Dev nD) (t : Fin cfg0.N) (d : Fin 1024) :
    iblk m c 3 t (ix2 (0 : Fin 1) d) = m ((c : Thread nD τ).loc main_arg3) (ix2 (0 : Fin 1) d) := by
  obtain ⟨e0, e1⟩ := idx3 t
  show V m c main_arg3 (((cfg0.win 3).blk t).view.emb (ix2 (0 : Fin 1) d)) = _
  refine Eq.trans ?_ (congrFun (V_main_arg3 m c) _)
  congr 1
  funext a; apply Fin.ext
  match a with
  | ⟨0, _⟩ => show win0_3.index t (0 : Fin 2) * 1 + 1 * 0 = 0; omega
  | ⟨1, _⟩ => show win0_3.index t (1 : Fin 2) * 1024 + 1 * d.val = d.val; omega

/-- Where an index of an output's block `t` lies in the result. -/
theorem emb4 (t : Fin cfg0.N) (j : S512x1024.Idx) :
    ((cfg0.win 4).blk t).view.emb j = (ix2 (tok t (j 0)) (j 1) : S2048x1024.Idx) := by
  obtain ⟨e0, e1⟩ := idx4 t
  idx_vars j
  funext a; apply Fin.ext
  match a with
  | ⟨0, _⟩ => show win0_4.index t (0 : Fin 2) * 512 + 1 * j0.val = t.val / 2 * 512 + j0.val; omega
  | ⟨1, _⟩ => show win0_4.index t (1 : Fin 2) * 1024 + 1 * j1.val = j1.val; omega

theorem emb5 (t : Fin cfg0.N) (j : S512x1024.Idx) :
    ((cfg0.win 5).blk t).view.emb j = (ix2 (tok t (j 0)) (j 1) : S2048x1024.Idx) := by
  obtain ⟨e0, e1⟩ := idx5 t
  idx_vars j
  funext a; apply Fin.ext
  match a with
  | ⟨0, _⟩ => show win0_5.index t (0 : Fin 2) * 512 + 1 * j0.val = t.val / 2 * 512 + j0.val; omega
  | ⟨1, _⟩ => show win0_5.index t (1 : Fin 2) * 1024 + 1 * j1.val = j1.val; omega

/-- The points that write back are the second parts'. -/
theorem odd4 : ∀ t : Fin cfg0.N, (cfg0.win 4).flush t = true ↔ t.val % 2 = 1 := flush0_4
theorem odd5 : ∀ t : Fin cfg0.N, (cfg0.win 5).flush t = true ↔ t.val % 2 = 1 := flush0_5

/-- After the second part's point the product's block is complete. -/
theorem block_eq (c : Dev nD) (t : Fin cfg0.N) (h1 : t.val % 2 = 1) (r : Fin 512) (d : Fin 1024) :
    (outsAt0 m c t.val t.isLt).1 (ix2 r d)
      = (dot (m ((c : Thread nD τ).loc main_arg0)) (m ((c : Thread nD τ).loc main_arg1)) (tok t r) d : EReal) := by
  have hN : t.val < 8 := t.isLt
  obtain ⟨t', ht'⟩ : ∃ t' : Fin cfg0.N, t'.val = t.val - 1 := ⟨⟨t.val - 1, by show _ < 8; omega⟩, rfl⟩
  have e0 : pt t' = 0 := Fin.ext (by show t'.val % 2 = 0; omega)
  have e1 : pt t = 1 := Fin.ext (by show t.val % 2 = 1; omega)
  have e2 : tok t' r = tok t r := Fin.ext (by show t'.val / 2 * 512 + r.val = t.val / 2 * 512 + r.val; omega)
  have ea : ∀ (n : ℕ) (hn : n < cfg0.N), n = t'.val → (outsAt0 m c n hn).2.2 (ix2 r d)
      = (∑ k : Fin 1408, (show EReal from m ((c : Thread nD τ).loc main_arg0) (ix3 (0 : Fin 2) (tok t r) k))
          * (show EReal from m ((c : Thread nD τ).loc main_arg1) (ix3 (0 : Fin 2) k d)) : EReal) := by
    intro n hn e
    subst e
    rw [acc_A m c t' (by omega), pay2_apply, pay1_apply]
    refine (zero_add _).trans ?_
    refine Finset.sum_congr rfl fun k _ => ?_
    refine congrArg₂ (fun x y : EReal => x * y) ((iblk0 m c t' r k).trans ?_) ((iblk1 m c t' k d).trans ?_)
    · rw [e0, e2]
    · rw [e0]
  rw [out_B4 m c t (by omega), pay2_apply]
  refine congrArg₂ (fun x y : EReal => x + y) (ea _ _ ht'.symm) ?_
  refine Finset.sum_congr rfl fun k _ => ?_
  refine congrArg₂ (fun x y : EReal => x * y) ((iblk0 m c t r k).trans ?_) ((iblk1 m c t k d).trans ?_) <;> rw [e1]

/-- Each point that writes back writes its block of the product. -/
theorem flushed_P (c : Dev nD) (t : Fin cfg0.N) (hf : (cfg0.win 4).flush t = true) :
    (dats m 0 c).flushed 4 t = ((cfg0.win 4).blk t).view.read (Elt Ideal)
      (P (m ((c : Thread nD τ).loc main_arg0)) (m ((c : Thread nD τ).loc main_arg1))) := by
  rw [Value.flushed4]
  funext j
  show (outsAt0 m c t.val t.isLt).1 j = P (m ((c : Thread nD τ).loc main_arg0)) (m ((c : Thread nD τ).loc main_arg1)) (((cfg0.win 4).blk t).view.emb j)
  rw [emb4]
  idx_vars j
  exact block_eq m c t ((odd4 t).mp hf) j0 j1

/-- Each point that writes back writes its block of the residual stream. -/
theorem flushed_R (c : Dev nD) (t : Fin cfg0.N) (hf : (cfg0.win 5).flush t = true) :
    (dats m 0 c).flushed 5 t = ((cfg0.win 5).blk t).view.read (Elt Ideal)
      (R (m ((c : Thread nD τ).loc main_arg0)) (m ((c : Thread nD τ).loc main_arg1)) (m ((c : Thread nD τ).loc main_arg2)) (m ((c : Thread nD τ).loc main_arg3))) := by
  rw [Value.flushed5]
  funext j
  show (outsAt0 m c t.val t.isLt).2.1 j = R (m ((c : Thread nD τ).loc main_arg0)) (m ((c : Thread nD τ).loc main_arg1)) (m ((c : Thread nD τ).loc main_arg2)) (m ((c : Thread nD τ).loc main_arg3)) (((cfg0.win 5).blk t).view.emb j)
  have h1 := (odd5 t).mp hf
  rw [emb5, out_B5 m c t (by omega)]
  idx_vars j
  rw [pay3_apply]
  refine congrArg₂ (fun x y : EReal => x + y) (iblk2 m c t j0 j1) ?_
  refine congrArg₂ (fun x y : EReal => x * y) ?_ (block_eq m c t h1 j0 j1)
  exact congrArg (fun y : EReal => Ideal.ofBits .f32 0x3F000000#32 * y) (iblk3 m c t j1)

/-- Every index of a result is in some point's block. -/
theorem covered4 (i : S2048x1024.Idx) :
    ∃ t : Fin cfg0.N, (cfg0.win 4).flush t = true ∧ i ∈ ((cfg0.win 4).blk t).view.set := by
  have h0 : (i 0).val < 2048 := (i 0).isLt
  obtain ⟨t, ht⟩ : ∃ t : Fin cfg0.N, t.val = (i 0).val / 512 * 2 + 1 :=
    ⟨⟨(i 0).val / 512 * 2 + 1, by show _ < 8; omega⟩, rfl⟩
  obtain ⟨r, hr⟩ : ∃ r : Fin 512, r.val = (i 0).val % 512 := ⟨⟨(i 0).val % 512, by omega⟩, rfl⟩
  refine ⟨t, (odd4 t).mpr (by omega), ?_⟩
  have h := ((cfg0.win 4).blk t).view.emb_mem_set (ix2 r (i 1) : S512x1024.Idx)
  have e : ((cfg0.win 4).blk t).view.emb (ix2 r (i 1) : S512x1024.Idx) = i := by
    rw [emb4]
    funext a; apply Fin.ext
    match a with
    | ⟨0, _⟩ => show t.val / 2 * 512 + r.val = (i 0).val; omega
    | ⟨1, _⟩ => rfl
  rw [e] at h
  exact h

theorem covered5 (i : S2048x1024.Idx) :
    ∃ t : Fin cfg0.N, (cfg0.win 5).flush t = true ∧ i ∈ ((cfg0.win 5).blk t).view.set := by
  have h0 : (i 0).val < 2048 := (i 0).isLt
  obtain ⟨t, ht⟩ : ∃ t : Fin cfg0.N, t.val = (i 0).val / 512 * 2 + 1 :=
    ⟨⟨(i 0).val / 512 * 2 + 1, by show _ < 8; omega⟩, rfl⟩
  obtain ⟨r, hr⟩ : ∃ r : Fin 512, r.val = (i 0).val % 512 := ⟨⟨(i 0).val % 512, by omega⟩, rfl⟩
  refine ⟨t, (odd5 t).mpr (by omega), ?_⟩
  have h := ((cfg0.win 5).blk t).view.emb_mem_set (ix2 r (i 1) : S512x1024.Idx)
  have e : ((cfg0.win 5).blk t).view.emb (ix2 r (i 1) : S512x1024.Idx) = i := by
    rw [emb5]
    funext a; apply Fin.ext
    match a with
    | ⟨0, _⟩ => show t.val / 2 * 512 + r.val = (i 0).val; omega
    | ⟨1, _⟩ => rfl
  rw [e] at h
  exact h

/-- The run: the results are `P` and `R` of the arguments, which end unchanged. -/
theorem run : θ_run defs (onTc (τ := τ) (main (F := Ideal))) ⟨m, fun _ => 0, ρ⟩ fun r => ∀ c : Dev nD,
      r.2.mem ((c : Thread nD τ).loc main_v0_0) = P (m ((c : Thread nD τ).loc main_arg0)) (m ((c : Thread nD τ).loc main_arg1))
      ∧ r.2.mem ((c : Thread nD τ).loc main_v0_1) = R (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans
      ((dats m 0 c).arrAt_eq_of_cover 4 _ (fun t hf => flushed_P m c t hf) covered4), (h c).2.1.trans
      ((dats m 0 c).arrAt_eq_of_cover 5 _ (fun t hf => flushed_R m c t hf) covered5), (h c).2.2⟩) (Value.run_blocks m ρ)

end Cert.FfnDownIdeal.Hand

namespace Cert.Proof

open Idealize.ShloMosaic Idealize.ShloMosaic.TcCoe Idealize.SL.Sem
open Cert.FfnDownRefIdeal.Read
open Cert.FfnDownIdeal.Hand (P R dot)

/-- The reference's product, at every index. -/
theorem ffnDown_f (a : Vec Ideal Cert.FfnDownIdeal.S2x2048x1408 .bf16) (w : Vec Ideal Cert.FfnDownIdeal.S2x1408x1024 .bf16) :
    val_main_v2 (F := Ideal) a w = P a w := by
  funext j
  idx_vars j
  pointwise [val_main_v2, val_main_v1, val_main_v0]
  exact Fin.sum_univ_two _

/-- The reference's residual stream, at every index. -/
theorem ffnDown_x (a : Vec Ideal Cert.FfnDownIdeal.S2x2048x1408 .bf16) (w : Vec Ideal Cert.FfnDownIdeal.S2x1408x1024 .bf16)
    (x : Vec Ideal Cert.FfnDownIdeal.S2048x1024 .f32) (g : Vec Ideal Cert.FfnDownIdeal.S1x1024 .f32) :
    val_main_v7 (F := Ideal) a w x g = R a w x g := by
  funext j
  idx_vars j
  unfold val_main_v7 val_main_v6
  rw [ffnDown_f]
  generalize hp : P a w = p
  have e : (show EReal from p (ix2 j0 j1)) = dot a w j0 j1 := by rw [← hp]; rfl
  refine Eq.trans (b := ((show EReal from x (ix2 j0 j1)) + Ideal.ofBits .f32 0x3F000000#32 * (show EReal from g (ix2 (0 : Fin 1) j1)) * (show EReal from p (ix2 j0 j1)) : EReal)) ?_ ?_
  · pointwise [val_main_v5, val_main_v4, val_main_v3, val_main_cst]
  · rw [e]; rfl

/-- The kernel's call and the reference, from memories that agree on the arguments, end with equal results. -/
theorem ffnDown : Cert.algebraic_FfnDownIdeal_FfnDownRefIdeal (hFfnDownIdeal := Cert.FfnDownIdeal.Gen.facts) (hFfnDownRefIdeal := Cert.FfnDownRefIdeal.Gen.facts) := by
  intro m ρ m' ρ' _ hag
  refine ⟨fun c => P (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)),
    fun c => R (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1))
      (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)),
    Cert.FfnDownIdeal.Hand.run m ρ, (θ_run _ _ _).mono (fun _ h c => ⟨(h c).1.trans ?_, (h c).2.1.trans ?_, (h c).2.2⟩) (Cert.FfnDownRefIdeal.Value.run m' ρ')⟩
  · rw [val_main_v2_eq, (hag c).1, (hag c).2.1]
    exact ffnDown_f _ _
  · rw [val_main_v7_eq, (hag c).1, (hag c).2.1, (hag c).2.2.1, (hag c).2.2.2]
    exact ffnDown_x _ _ _ _

end Cert.Proof

end
-- ==== Proof.SsmIn.lean ====
/-
  Hand-written. The state-space layer's input projection: the kernel's call and the reference end with the same array.
-/
module

public import proofs.«01_k».proof.Defs
public import proofs.«01_k».proof.Proof.Gen.SsmInIdeal.Value
public import proofs.«01_k».proof.Proof.Gen.SsmInRefIdeal.Run
public import proofs.«01_k».proof.Proof.Gen.SsmInRefIdeal.Read
public import Idealize.ShloMosaic.Lib.Pipeline.Value
public import Idealize.ShloMosaic.Lib.Pointwise

@[expose] public section

set_option maxRecDepth 16384

noncomputable section

namespace Cert.SsmInIdeal.Hand

open Cert.SsmInIdeal Cert.SsmInIdeal.Gen Idealize.ShloMosaic Idealize.ShloMosaic.TcCoe Idealize.SL.Sem
open Idealize.ShloMosaic.Pipeline (Dat)

/-- `h @ w_in` with the columns of `w_in` in four parts: at part `c`, token `l` and column `t` the sum over `d` of `h[l, d] · w_in[c, d, t]`. -/
def G (a : Vec Ideal S2048x1024 .bf16) (b : Vec Ideal S4x1024x1544 .bf16) : Vec Ideal S4x2048x1544 .f32 :=
  fun i => (∑ k : Fin 1024, (show EReal from a (ix2 (i 1) k)) * (show EReal from b (ix3 (i 0) k (i 2))) : EReal)

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output's block, at an index. -/
theorem out_apply (x0 : Vec Ideal S1024x1024 .bf16) (x1 : Vec Ideal S1x1024x1544 .bf16) (j : S1x1024x1544.Idx) :
    out0_2 (F := Ideal) x0 x1 j = (∑ k : Fin 1024, (show EReal from x0 (ix2 (j 1) k)) * (show EReal from x1 (ix3 (0 : Fin 1) k (j 2))) : EReal) := by
  unfold out0_2
  rw [View.canon_unit_zero hz3, View.ld_unit_zero hz2, View.ld_unit_zero hz3]
  idx_vars j
  pointwise [k0_pay1]

variable (m : (ℓ : Loc nD τ sig) → Buf (Elt Ideal) ℓ) (ρ : Dev nD → PrngReg)

theorem idx0 : ∀ t : Fin cfg0.N, win0_0.index t (0 : Fin 2) = t.val % 2 ∧ win0_0.index t (1 : Fin 2) = 0 :=
  (by decide +kernel : ∀ t : Fin grid0.N, _)
theorem idx1 : ∀ t : Fin cfg0.N, win0_1.index t (0 : Fin 3) = t.val / 2 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 2 ∧ win0_2.index t (1 : Fin 3) = t.val % 2 ∧ win0_2.index t (2 : Fin 3) = 0 :=
  (by decide +kernel : ∀ t : Fin grid0.N, _)

/-- The part that point `t` works on. -/
def at0 (t : Fin cfg0.N) : Fin 4 := ⟨t.val / 2, by have h : t.val < 8 := t.isLt; omega⟩
/-- The array's coordinate of the block's coordinate `x` at point `t`. -/
def blk1 (t : Fin cfg0.N) (x : Fin 1024) : Fin 2048 := ⟨t.val % 2 * 1024 + x.val, by have h : t.val < 8 := t.isLt; have hx := x.isLt; omega⟩

theorem iblk0 (c : Dev nD) (t : Fin cfg0.N) (x : Fin 1024) (y : Fin 1024) :
    iblk m c 0 t (ix2 x y) = V m c main_arg0 (ix2 (blk1 t x : Fin 2048) y) := by
  obtain ⟨e0, e1⟩ := idx0 t
  show V m c main_arg0 (((cfg0.win 0).blk t).view.emb (ix2 x y)) = _
  congr 1
  funext a; apply Fin.ext
  match a with
  | ⟨0, _⟩ => show win0_0.index t (0 : Fin 2) * 1024 + 1 * x.val = t.val % 2 * 1024 + x.val; omega
  | ⟨1, _⟩ => show win0_0.index t (1 : Fin 2) * 1024 + 1 * y.val = y.val; omega

theorem iblk1 (c : Dev nD) (t : Fin cfg0.N) (x : Fin 1024) (y : Fin 1544) :
    iblk m c 1 t (ix3 (0 : Fin 1) x y) = V m c main_arg1 (ix3 (at0 t : Fin 4) x y) := by
  obtain ⟨e0, e1, e2⟩ := idx1 t
  show V m c main_arg1 (((cfg0.win 1).blk t).view.emb (ix3 (0 : Fin 1) x y)) = _
  congr 1
  funext a; apply Fin.ext
  match a with
  | ⟨0, _⟩ => show win0_1.index t (0 : Fin 3) * 1 + 1 * 0 = t.val / 2; omega
  | ⟨1, _⟩ => show win0_1.index t (1 : Fin 3) * 1024 + 1 * x.val = x.val; omega
  | ⟨2, _⟩ => show win0_1.index t (2 : Fin 3) * 1544 + 1 * y.val = y.val; omega

/-- Where an index of the output's block `t` lies in the result. -/
theorem emb2 (t : Fin cfg0.N) (j : S1x1024x1544.Idx) :
    ((cfg0.win 2).blk t).view.emb j = (ix3 (at0 t : Fin 4) (blk1 t (j 1) : Fin 2048) (j 2) : S4x2048x1544.Idx) := by
  obtain ⟨e0, e1, e2⟩ := idx2 t
  idx_vars j
  funext a; apply Fin.ext
  match a with
  | ⟨0, _⟩ => show win0_2.index t (0 : Fin 3) * 1 + 1 * (j0 : Fin 1).val = t.val / 2; omega
  | ⟨1, _⟩ => show win0_2.index t (1 : Fin 3) * 1024 + 1 * j1.val = t.val % 2 * 1024 + j1.val; omega
  | ⟨2, _⟩ => show win0_2.index t (2 : Fin 3) * 1544 + 1 * j2.val = j2.val; omega

/-- Each point writes back its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2]
  funext j
  show out0_2 (F := Ideal) (iblk m c 0 t) (iblk m c 1 t) j = G (V m c main_arg0) (V m c main_arg1) (((cfg0.win 2).blk t).view.emb j)
  rw [emb2, out_apply]
  show (∑ k : Fin 1024, _ : EReal) = (∑ k : Fin 1024, _ : EReal)
  refine Finset.sum_congr rfl fun k _ => ?_
  exact congrArg₂ (fun x y : EReal => x * y) (iblk0 m c t (j 1) k) (iblk1 m c t k (j 2))

/-- Every index of the result is in some point's block. -/
theorem covered (i : S4x2048x1544.Idx) :
    ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 1544 := (i 2).isLt
  obtain ⟨t, ht⟩ : ∃ t : Fin cfg0.N, t.val = (i 0).val * 2 + (i 1).val / 1024 :=
    ⟨⟨(i 0).val * 2 + (i 1).val / 1024, by show _ < 8; omega⟩, rfl⟩
  obtain ⟨r1, hr1⟩ : ∃ r : Fin 1024, r.val = (i 1).val % 1024 := ⟨⟨(i 1).val % 1024, by omega⟩, rfl⟩
  refine ⟨t, flush0_2 _, ?_⟩
  have h := ((cfg0.win 2).blk t).view.emb_mem_set (ix3 (0 : Fin 1) r1 (i 2) : S1x1024x1544.Idx)
  have e : ((cfg0.win 2).blk t).view.emb (ix3 (0 : Fin 1) r1 (i 2) : S1x1024x1544.Idx) = i := by
    rw [emb2]
    funext a; apply Fin.ext
    match a with
    | ⟨0, _⟩ => show t.val / 2 = (i 0).val; omega
    | ⟨1, _⟩ => show t.val % 2 * 1024 + r1.val = (i 1).val; omega
    | ⟨2, _⟩ => rfl
  rw [e] at h
  exact h

/-- The run: the result is `G` of the arguments, which end unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
      ((dats m 0 c).arrAt_eq_of_cover 2 _ (fun t _ => flushed_eq m c t) covered), (h c).2⟩) (Value.run_blocks m ρ)

end Cert.SsmInIdeal.Hand

namespace Cert.Proof

open Idealize.ShloMosaic Idealize.ShloMosaic.TcCoe Idealize.SL.Sem
open Cert.SsmInRefIdeal.Read

/-- The reference's result, at every index. -/
theorem ssmIn_ref (a : Vec Ideal Cert.SsmInIdeal.S2048x1024 .bf16) (b : Vec Ideal Cert.SsmInIdeal.S4x1024x1544 .bf16) :
    val_main_v3 (F := Ideal) a b = Cert.SsmInIdeal.Hand.G a b := by
  funext j
  idx_vars j
  refine Eq.trans (b := (∑ k : Fin 1024, (show EReal from b (ix3 j0 k j2)) * (show EReal from a (ix2 j1 k)) : EReal)) ?_ (Finset.sum_congr rfl fun k _ => mul_comm _ _)
  pointwise [val_main_v3, val_main_v2, val_main_v1, val_main_v0]

/-- The kernel's call and the reference, from memories that agree on the arguments, end with equal results. -/
theorem ssmIn : Cert.algebraic_SsmInIdeal_SsmInRefIdeal (hSsmInIdeal := Cert.SsmInIdeal.Gen.facts) (hSsmInRefIdeal := Cert.SsmInRefIdeal.Gen.facts) := by
  intro m ρ m' ρ' _ hag
  refine ⟨fun c => Cert.SsmInIdeal.Hand.G (m ((c.tc : Thread Cert.SsmInIdeal.nD Cert.SsmInIdeal.τ).loc Cert.SsmInIdeal.main_arg0)) (m ((c.tc : Thread Cert.SsmInIdeal.nD Cert.SsmInIdeal.τ).loc Cert.SsmInIdeal.main_arg1)),
    Cert.SsmInIdeal.Hand.run m ρ, (θ_run _ _ _).mono (fun _ h c => ⟨(h c).1.trans ?_, (h c).2⟩) (Cert.SsmInRefIdeal.Value.run m' ρ')⟩
  rw [val_main_v3_eq, (hag c).1, (hag c).2]
  exact ssmIn_ref _ _

end Cert.Proof

end
-- ==== Proof.ConvFwd.lean ====
/-
  Hand-written. The causal convolution and its gate: the kernel's call and the reference end with the same array. The
  convolution of a column is that of the gradient's module.
-/
module

public import proofs.«01_k».proof.Defs
public import proofs.«01_k».proof.Proof.Gen.ConvFwdIdeal.Value
public import proofs.«01_k».proof.Proof.Gen.ConvFwdRefIdeal.Run
public import proofs.«01_k».proof.Proof.Gen.ConvFwdRefIdeal.Read
public import proofs.«01_k».proof.Proof.ConvBwd

@[expose] public section

set_option maxRecDepth 16384

noncomputable section

namespace Cert.ConvFwdIdeal.Hand

open Cert.ConvFwdIdeal Cert.ConvFwdIdeal.Gen Idealize.ShloMosaic Idealize.ShloMosaic.TcCoe Idealize.SL.Sem
open Idealize.ShloMosaic.Pipeline (Dat)
open Cert.ConvBwdIdeal.Hand (sgm pre tcol wcol convT row0 row1 row2 row3 pay2_apply ucol ucolumn wcolumn)

/-- The gated convolution of a column. -/
def act (u : Fin 2048 → EReal) (w : Fin 4 → EReal) (b : EReal) (l : Fin 2048) : EReal := pre u w b l * sgm (pre u w b l)

/-- The payload at an index. -/
theorem pay1_apply (u : Vec Ideal S2048x256 .f32) (w : Vec Ideal S4x256 .f32) (b : Vec Ideal S1x256 .f32) (l : Fin 2048) (k : Fin 256) :
    k0_pay1 (F := Ideal) (k0_pay2 u b (row3 w) (row2 w) (row1 w) (row0 w)) (k0_pay3 u b (row3 w) (row2 w) (row1 w) (row0 w)) (ix2 l k)
      = (act (tcol u k) (wcol w k) (show EReal from b (ix2 (0 : Fin 1) k)) l : EReal) := by
  unfold act sgm
  rw [← pay2_apply]
  refine Eq.trans (b := (k0_pay1 (F := Ideal) (convT u w b) (subf (broadcast S2048x256 (Scalar.ofBits .f32 0x00000000#32)) (convT u w b)) (ix2 l k) : EReal)) rfl ?_
  generalize convT u w b = z
  pointwise [k0_pay1]
  rw [zero_sub]

variable (m : (ℓ : Loc nD τ sig) → Buf (Elt Ideal) ℓ) (ρ : Dev nD → PrngReg)

/-- What a point leaves in its tile. -/
theorem tile (c : Dev nD) (t : Fin cfg0.N) (l : Fin 2048) (k : Fin 256) :
    outsAt0 m c t (ix2 l k) = (act (tcol (X0_0 m c t) k) (wcol (iblk m c 1 t) k) (show EReal from iblk m c 2 t (ix2 (0 : Fin 1) k)) l : EReal) := by
  refine Eq.trans ?_ (pay1_apply (X0_0 m c t) (iblk m c 1 t) (iblk m c 2 t) l k)
  refine congrFun ?_ (ix2 l k)
  unfold outsAt0
  frame_out

/-! ## The blocks the points work on -/

theorem idx0 : ∀ t : Fin cfg0.N, win0_0.index t (0 : Fin 2) = 0 ∧ win0_0.index t (1 : Fin 2) = 8 + t.val :=
  (by decide +kernel : ∀ t : Fin grid0.N, _)
theorem idx1 : ∀ t : Fin cfg0.N, win0_1.index t (0 : Fin 2) = 0 ∧ win0_1.index t (1 : Fin 2) = t.val :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)

/-- Column `k` of point `t`'s tile among the 4096. -/
def col (t : Fin cfg0.N) (k : Fin 256) : Fin 4096 := ⟨t.val * 256 + k.val, by have h : t.val < 16 := t.isLt; omega⟩

theorem iblk0 (c : Dev nD) (t : Fin cfg0.N) (k : Fin 256) : tcol (X0_0 m c t) k = ucolumn (m ((c : Thread nD τ).loc main_arg0)) (col t k) := by
  obtain ⟨e0, e1⟩ := idx0 t
  funext l
  show X0_0 m c t (ix2 l k) = m ((c : Thread nD τ).loc main_arg0) (ix2 l (ucol (col t k)))
  unfold X0_0 Pipeline.Window.fill
  rw [dif_pos (moved0_0 t _)]
  show V m c main_arg0 (((cfg0.win 0).blk t).view.emb _) = _
  refine Eq.trans ?_ (congrFun (V_main_arg0 m c) _)
  congr 1
  funext a; apply Fin.ext
  match a with
  | ⟨0, _⟩ => show win0_0.index t (0 : Fin 2) * 2048 + 1 * l.val = l.val; omega
  | ⟨1, _⟩ => show win0_0.index t (1 : Fin 2) * 256 + 1 * k.val = 2048 + (t.val * 256 + k.val); omega

theorem iblk1 (c : Dev nD) (t : Fin cfg0.N) (k : Fin 256) : wcol (iblk m c 1 t) k = wcolumn (m ((c : Thread nD τ).loc main_arg1)) (col t k) := by
  obtain ⟨e0, e1⟩ := idx1 t
  funext j
  show V m c main_arg1 (((cfg0.win 1).blk t).view.emb (ix2 j k)) = _
  refine Eq.trans ?_ (congrFun (V_main_arg1 m c) _)
  congr 1
  funext a; apply Fin.ext
  match a with
  | ⟨0, _⟩ => show win0_1.index t (0 : Fin 2) * 4 + 1 * j.val = j.val; omega
  | ⟨1, _⟩ => show win0_1.index t (1 : Fin 2) * 256 + 1 * k.val = t.val * 256 + k.val; omega

theorem iblk2 (c : Dev nD) (t : Fin cfg0.N) (k : Fin 256) :
    iblk m c 2 t (ix2 (0 : Fin 1) k) = m ((c : Thread nD τ).loc main_arg2) (ix2 (0 : Fin 1) (col t k)) := by
  obtain ⟨e0, e1⟩ := idx2 t
  show V m c main_arg2 (((cfg0.win 2).blk t).view.emb (ix2 (0 : Fin 1) k)) = _
  refine Eq.trans ?_ (congrFun (V_main_arg2 m c) _)
  congr 1
  funext a; apply Fin.ext
  match a with
  | ⟨0, _⟩ => show win0_2.index t (0 : Fin 2) * 1 + 1 * 0 = 0; omega
  | ⟨1, _⟩ => show win0_2.index t (1 : Fin 2) * 256 + 1 * k.val = t.val * 256 + k.val; omega

/-- Where an index of a point's tile lies in the result. -/
theorem emb3 (t : Fin cfg0.N) (j : S2048x256.Idx) : ((cfg0.win 3).blk t).view.emb j = (ix2 (j 0) (col t (j 1)) : S2048x4096.Idx) := by
  obtain ⟨e0, e1⟩ := idx3 t
  idx_vars j
  funext a; apply Fin.ext
  match a with
  | ⟨0, _⟩ => show win0_3.index t (0 : Fin 2) * 2048 + 1 * j0.val = j0.val; omega
  | ⟨1, _⟩ => show win0_3.index t (1 : Fin 2) * 256 + 1 * j1.val = t.val * 256 + j1.val; omega

/-! ## The result -/

/-- The gated convolution of every column. -/
def Act (zx : Vec Ideal S2048x6176 .f32) (w : Vec Ideal S4x4096 .f32) (b : Vec Ideal S1x4096 .f32) : Vec Ideal S2048x4096 .f32 :=
  fun i => (act (ucolumn zx (i 1)) (wcolumn w (i 1)) (show EReal from b (ix2 (0 : Fin 1) (i 1))) (i 0) : EReal)

/-- Each point writes back its columns of the result. -/
theorem flushed_Act (c : Dev nD) (t : Fin cfg0.N) :
    (dats m 0 c).flushed 3 t = ((cfg0.win 3).blk t).view.read (Elt Ideal) (Act (m ((c : Thread nD τ).loc main_arg0)) (m ((c : Thread nD τ).loc main_arg1)) (m ((c : Thread nD τ).loc main_arg2))) := by
  rw [Value.flushed3]
  funext j
  show outsAt0 m c t j = Act _ _ _ (((cfg0.win 3).blk t).view.emb j)
  rw [emb3]
  idx_vars j
  rw [tile, iblk0, iblk1, iblk2]
  rfl

/-- Every index of the result is in the tile of a point. -/
theorem covered (i : S2048x4096.Idx) : ∃ t : Fin cfg0.N, (cfg0.win 3).flush t = true ∧ i ∈ ((cfg0.win 3).blk t).view.set := by
  have h1 : (i 1).val < 4096 := (i 1).isLt
  obtain ⟨t, ht⟩ : ∃ t : Fin cfg0.N, t.val = (i 1).val / 256 := ⟨⟨(i 1).val / 256, by show _ < 16; omega⟩, rfl⟩
  refine ⟨t, flush0_3 t, ?_⟩
  have h := ((cfg0.win 3).blk t).view.emb_mem_set (ix2 (i 0) (⟨(i 1).val % 256, by omega⟩ : Fin 256) : S2048x256.Idx)
  rw [emb3] at h
  refine Eq.mp (congrArg (· ∈ ((cfg0.win 3).blk t).view.set) ?_) h
  funext a; apply Fin.ext
  match a with
  | ⟨0, _⟩ => rfl
  | ⟨1, _⟩ => show t.val * 256 + (i 1).val % 256 = (i 1).val; omega

/-- The run: the result is the gated convolution, and the arguments end unchanged. -/
theorem run : θ_run defs (onTc (τ := τ) (main (F := Ideal))) ⟨m, fun _ => 0, ρ⟩ fun r => ∀ c : Dev nD,
      r.2.mem ((c : Thread nD τ).loc main_v0) = Act (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 _ (fun t _ => flushed_Act m c t) covered), (h c).2⟩) (Value.run_blocks m ρ)

end Cert.ConvFwdIdeal.Hand

namespace Cert.Proof

open Idealize.ShloMosaic Idealize.ShloMosaic.TcCoe Idealize.SL.Sem
open Cert.ConvFwdRefIdeal Cert.ConvFwdRefIdeal.Read
open Cert.ConvBwdIdeal.Hand (sgm pre ucolumn wcolumn)
open Cert.ConvFwdIdeal.Hand (act Act)

variable (zx : Vec Ideal S2048x6176 .f32) (w : Vec Ideal S4x4096 .f32) (b : Vec Ideal S1x4096 .f32)

/-- The convolution in the reference, which is that of the gradient's reference. -/
theorem convFwd_v33 (l : Fin 2048) (d : Fin 4096) :
    val_main_v33 (F := Ideal) zx w b (ix2 l d) = (pre (ucolumn zx d) (wcolumn w d) (show EReal from b (ix2 (0 : Fin 1) d)) l : EReal) :=
  Eq.trans (b := (Cert.ConvBwdRefIdeal.Read.val_main_v34 (F := Ideal) zx w b (ix2 l d) : EReal)) rfl (conv_v34 zx w b l d)

/-- The reference's result. -/
theorem convFwd_ref : val_main_v34 (F := Ideal) zx w b = Act zx w b := by
  funext i
  idx_vars i
  show _ = (act (ucolumn zx i1) (wcolumn w i1) (show EReal from b (ix2 (0 : Fin 1) i1)) i0 : EReal)
  unfold act sgm
  rw [← convFwd_v33]
  unfold val_main_v34 val_main_call0_v5 val_main_call0_v3 val_main_call0_v1 val_main_call0_v0
  generalize val_main_v33 (F := Ideal) zx w b = z
  pointwise [val_main_call0_v4, val_main_call0_cst_0, val_main_call0_v2, val_main_call0_cst]

/-- The kernel's call and the reference, from memories that agree on the arguments, end with equal results. -/
theorem convFwd : Cert.algebraic_ConvFwdIdeal_ConvFwdRefIdeal (hConvFwdIdeal := Cert.ConvFwdIdeal.Gen.facts) (hConvFwdRefIdeal := Cert.ConvFwdRefIdeal.Gen.facts) := by
  intro m ρ m' ρ' _ hag
  refine ⟨_, Cert.ConvFwdIdeal.Hand.run m ρ, (θ_run _ _ _).mono (fun _ h c => ⟨(h c).1.trans ?_, (h c).2⟩) (Cert.ConvFwdRefIdeal.Value.run m' ρ')⟩
  rw [val_main_v34_eq, (hag c).1, (hag c).2.1, (hag c).2.2]
  exact convFwd_ref _ _ _

end Cert.Proof

end
-- ==== Proof.GnormFwd.lean ====
/-
  Hand-written. The mixer's gated norm: the kernel's call and the reference end with the same array. The gate, the rows and the
  norm's factor are those of the gradient's module.
-/
module

public import proofs.«01_k».proof.Defs
public import proofs.«01_k».proof.Proof.Gen.GnormFwdIdeal.Value
public import proofs.«01_k».proof.Proof.Gen.GnormFwdRefIdeal.Run
public import proofs.«01_k».proof.Proof.Gen.GnormFwdRefIdeal.Read
public import proofs.«01_k».proof.Proof.GnormBwd

@[expose] public section

set_option maxRecDepth 16384

noncomputable section

namespace Cert.GnormFwdIdeal.Hand

open Cert.GnormFwdIdeal Cert.GnormFwdIdeal.Gen Idealize.ShloMosaic Idealize.ShloMosaic.TcCoe Idealize.SL.Sem
open Idealize.ShloMosaic.Pipeline (Dat)
open Cert.Proof (rmsOf blockRow)
open Cert.GnormBwdIdeal.Hand (W tileRow pay8_apply col zcol grp off grp_col off_col col_grp hRow)

/-- The payload at an index: the gradient's call computes the same normed values. -/
theorem pay1_apply (y z : Vec Ideal S512x256 .f32) (w : Vec Ideal S1x256 .f32) (r : Fin 512) (k : Fin 256) :
    k0_pay1 (F := Ideal) y z w (ix2 r k) = (tileRow y z r k * rmsOf W (tileRow y z r) * (show EReal from w (ix2 (0 : Fin 1) k)) : EReal) := by
  rw [← pay8_apply]
  refine Eq.trans (b := (mulf (F := Ideal) (Cert.GnormBwdIdeal.Gen.k0_pay8 (F := Ideal) y z) (broadcastTo S512x256 w broadcasts_S1x256_S512x256) (ix2 r k) : EReal)) rfl ?_
  generalize Cert.GnormBwdIdeal.Gen.k0_pay8 (F := Ideal) y z = v
  pointwise []

variable (m : (ℓ : Loc nD τ sig) → Buf (Elt Ideal) ℓ) (ρ : Dev nD → PrngReg)

/-- What a point leaves in its tile. -/
theorem tile (c : Dev nD) (t : Fin cfg0.N) :
    outsAt0 m c t = k0_pay1 (F := Ideal) (iblk m c 0 t) (X0_1 m c t) (iblk m c 2 t) := by
  unfold outsAt0
  frame_out

/-! ## The blocks the points work on -/

theorem idx0 : ∀ t : Fin cfg0.N, win0_0.index t (0 : Fin 2) = t.val / 8 ∧ win0_0.index t (1 : Fin 2) = t.val % 8 :=
  (by decide +kernel : ∀ t : Fin grid0.N, _)
theorem idx1 : ∀ t : Fin cfg0.N, win0_1.index t (0 : Fin 2) = t.val / 8 ∧ win0_1.index t (1 : Fin 2) = t.val % 8 :=
  (by decide +kernel : ∀ t : Fin grid0.N, _)
theorem idx2 : ∀ t : Fin cfg0.N, win0_2.index t (0 : Fin 2) = 0 ∧ win0_2.index t (1 : Fin 2) = t.val % 8 :=
  (by decide +kernel : ∀ t : Fin grid0.N, _)
theorem idx3 : ∀ t : Fin cfg0.N, win0_3.index t (0 : Fin 2) = t.val / 8 ∧ win0_3.index t (1 : Fin 2) = t.val % 8 :=
  (by decide +kernel : ∀ t : Fin grid0.N, _)

/-- The block of tokens and the group that point `t` works on. -/
def blkOf (t : Fin cfg0.N) : Fin 4 := ⟨t.val / 8, by have h : t.val < 32 := t.isLt; omega⟩
def grpOf (t : Fin cfg0.N) : Fin 8 := ⟨t.val % 8, by omega⟩

theorem iblk0 (c : Dev nD) (t : Fin cfg0.N) (r : Fin 512) (k : Fin 256) :
    iblk m c 0 t (ix2 r k) = m ((c : Thread nD τ).loc main_arg0) (ix2 (blockRow (blkOf t) r) (col (grpOf t) k)) := by
  obtain ⟨e0, e1⟩ := idx0 t
  show V m c main_arg0 (((cfg0.win 0).blk t).view.emb (ix2 r k)) = _
  refine Eq.trans ?_ (congrFun (V_main_arg0 m c) _)
  congr 1
  funext a; apply Fin.ext
  match a with
  | ⟨0, _⟩ => show win0_0.index t (0 : Fin 2) * 512 + 1 * r.val = t.val / 8 * 512 + r.val; omega
  | ⟨1, _⟩ => show win0_0.index t (1 : Fin 2) * 256 + 1 * k.val = t.val % 8 * 256 + k.val; omega

theorem iblk1 (c : Dev nD) (t : Fin cfg0.N) (r : Fin 512) (k : Fin 256) :
    X0_1 m c t (ix2 r k) = m ((c : Thread nD τ).loc main_arg1) (ix2 (blockRow (blkOf t) r) (zcol (col (grpOf t) k))) := by
  obtain ⟨e0, e1⟩ := idx1 t
  unfold X0_1 Pipeline.Window.fill
  rw [dif_pos (moved0_1 t _)]
  show V m c main_arg1 (((cfg0.win 1).blk t).view.emb _) = _
  refine Eq.trans ?_ (congrFun (V_main_arg1 m c) _)
  congr 1
  funext a; apply Fin.ext
  match a with
  | ⟨0, _⟩ => show win0_1.index t (0 : Fin 2) * 512 + 1 * r.val = t.val / 8 * 512 + r.val; omega
  | ⟨1, _⟩ => show win0_1.index t (1 : Fin 2) * 256 + 1 * k.val = t.val % 8 * 256 + k.val; omega

theorem iblk2 (c : Dev nD) (t : Fin cfg0.N) (k : Fin 256) :
    iblk m c 2 t (ix2 (0 : Fin 1) k) = m ((c : Thread nD τ).loc main_arg2) (ix2 (0 : Fin 1) (col (grpOf t) k)) := by
  obtain ⟨e0, e1⟩ := idx2 t
  show V m c main_arg2 (((cfg0.win 2).blk t).view.emb (ix2 (0 : Fin 1) k)) = _
  refine Eq.trans ?_ (congrFun (V_main_arg2 m c) _)
  congr 1
  funext a; apply Fin.ext
  match a with
  | ⟨0, _⟩ => show win0_2.index t (0 : Fin 2) * 1 + 1 * 0 = 0; omega
  | ⟨1, _⟩ => show win0_2.index t (1 : Fin 2) * 256 + 1 * k.val = t.val % 8 * 256 + k.val; omega

/-- Where an index of a point's tile lies in the result. -/
theorem emb3 (t : Fin cfg0.N) (j : S512x256.Idx) :
    ((cfg0.win 3).blk t).view.emb j = (ix2 (blockRow (blkOf t) (j 0)) (col (grpOf t) (j 1)) : S2048x2048.Idx) := by
  obtain ⟨e0, e1⟩ := idx3 t
  idx_vars j
  funext a; apply Fin.ext
  match a with
  | ⟨0, _⟩ => show win0_3.index t (0 : Fin 2) * 512 + 1 * j0.val = t.val / 8 * 512 + j0.val; omega
  | ⟨1, _⟩ => show win0_3.index t (1 : Fin 2) * 256 + 1 * j1.val = t.val % 8 * 256 + j1.val; omega

/-! ## The result -/

/-- The normed gated values, times the weight. -/
def normed (y : Vec Ideal S2048x2048 .f32) (zx : Vec Ideal S2048x6176 .f32) (nw : Vec Ideal S1x2048 .f32) : Vec Ideal S2048x2048 .bf16 :=
  fun i => (hRow y zx (i 0) (grp (i 1)) (off (i 1)) * rmsOf W (hRow y zx (i 0) (grp (i 1))) * (show EReal from nw (ix2 (0 : Fin 1) (i 1))) : EReal)

/-- A tile's rows are rows of the arrays. -/
theorem tileRow_eq (c : Dev nD) (t : Fin cfg0.N) (r : Fin 512) :
    tileRow (iblk m c 0 t) (X0_1 m c t) r = hRow (m ((c : Thread nD τ).loc main_arg0)) (m ((c : Thread nD τ).loc main_arg1)) (blockRow (blkOf t) r) (grpOf t) :=
  funext fun k => congrArg₂ (fun a b : EReal => a * Cert.GnormBwdIdeal.Hand.silu b) (iblk0 m c t r k) (iblk1 m c t r k)

/-- Each point writes back its tile of the result. -/
theorem flushed_normed (c : Dev nD) (t : Fin cfg0.N) :
    (dats m 0 c).flushed 3 t = ((cfg0.win 3).blk t).view.read (Elt Ideal) (normed (m ((c : Thread nD τ).loc main_arg0)) (m ((c : Thread nD τ).loc main_arg1)) (m ((c : Thread nD τ).loc main_arg2))) := by
  rw [Value.flushed3]
  funext j
  show outsAt0 m c t j = normed _ _ _ (((cfg0.win 3).blk t).view.emb j)
  rw [emb3, tile]
  idx_vars j
  rw [pay1_apply, tileRow_eq]
  show _ = (hRow _ _ (blockRow (blkOf t) j0) (grp (col (grpOf t) j1)) (off (col (grpOf t) j1)) * rmsOf W (hRow _ _ (blockRow (blkOf t) j0) (grp (col (grpOf t) j1)))
    * (show EReal from m ((c : Thread nD τ).loc main_arg2) (ix2 (0 : Fin 1) (col (grpOf t) j1))) : EReal)
  rw [grp_col, off_col]
  exact congrArg (fun b : EReal => _ * b) (iblk2 m c t j1)

/-- Every index of the result is in the tile of a point. -/
theorem covered (i : S2048x2048.Idx) : ∃ t : Fin cfg0.N, (cfg0.win 3).flush t = true ∧ i ∈ ((cfg0.win 3).blk t).view.set := by
  have h0 : (i 0).val < 2048 := (i 0).isLt
  have h1 : (i 1).val < 2048 := (i 1).isLt
  obtain ⟨t, ht⟩ : ∃ t : Fin cfg0.N, t.val = (i 0).val / 512 * 8 + (i 1).val / 256 := ⟨⟨(i 0).val / 512 * 8 + (i 1).val / 256, by show _ < 32; omega⟩, rfl⟩
  refine ⟨t, flush0_3 t, ?_⟩
  have h := ((cfg0.win 3).blk t).view.emb_mem_set (ix2 (⟨(i 0).val % 512, by omega⟩ : Fin 512) (⟨(i 1).val % 256, by omega⟩ : Fin 256) : S512x256.Idx)
  rw [emb3] at h
  refine Eq.mp (congrArg (· ∈ ((cfg0.win 3).blk t).view.set) ?_) h
  funext a; apply Fin.ext
  match a with
  | ⟨0, _⟩ => show t.val / 8 * 512 + (i 0).val % 512 = (i 0).val; omega
  | ⟨1, _⟩ => show t.val % 8 * 256 + (i 1).val % 256 = (i 1).val; omega

/-- The run: the result is the gated norm, and the arguments end unchanged. -/
theorem run : θ_run defs (onTc (τ := τ) (main (F := Ideal))) ⟨m, fun _ => 0, ρ⟩ fun r => ∀ c : Dev nD,
      r.2.mem ((c : Thread nD τ).loc main_v0) = normed (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 _ (fun t _ => flushed_normed m c t) covered), (h c).2⟩) (Value.run_blocks m ρ)

end Cert.GnormFwdIdeal.Hand

namespace Cert.Proof

open Idealize.ShloMosaic Idealize.ShloMosaic.TcCoe Idealize.SL.Sem
open Cert.GnormBwdIdeal.Hand (W grp off hRow)
open Cert.GnormFwdIdeal.Hand (normed)

/-- The reference's result, whose normed values are those of the gradient's reference. -/
theorem gnormFwd_ref (y : Vec Ideal Cert.GnormFwdIdeal.S2048x2048 .f32) (zx : Vec Ideal Cert.GnormFwdIdeal.S2048x6176 .f32) (nw : Vec Ideal Cert.GnormFwdIdeal.S1x2048 .f32) :
    Cert.GnormFwdRefIdeal.Read.val_main_v17 (F := Ideal) y zx nw = normed y zx nw := by
  funext i
  idx_vars i
  refine Eq.trans (b := ((show EReal from Cert.GnormBwdRefIdeal.Read.val_main_v17 (F := Ideal) y zx (ix2 i0 i1)) * (show EReal from nw (ix2 (0 : Fin 1) i1)) : EReal)) ?_
    (congrArg (fun a : EReal => a * (show EReal from nw (ix2 (0 : Fin 1) i1))) (gnormBwd_v17 y zx i0 i1))
  refine Eq.trans (b := (Cert.GnormBwdRefIdeal.Read.val_main_v19 (F := Ideal) y zx nw (ix2 i0 i1) : EReal)) rfl ?_
  unfold Cert.GnormBwdRefIdeal.Read.val_main_v19
  generalize Cert.GnormBwdRefIdeal.Read.val_main_v17 (F := Ideal) y zx = v
  pointwise [Cert.GnormBwdRefIdeal.Read.val_main_v18]

/-- The kernel's call and the reference, from memories that agree on the arguments, end with equal results. -/
theorem gnormFwd : Cert.algebraic_GnormFwdIdeal_GnormFwdRefIdeal (hGnormFwdIdeal := Cert.GnormFwdIdeal.Gen.facts) (hGnormFwdRefIdeal := Cert.GnormFwdRefIdeal.Gen.facts) := by
  intro m ρ m' ρ' _ hag
  refine ⟨_, Cert.GnormFwdIdeal.Hand.run m ρ, (θ_run _ _ _).mono (fun _ h c => ⟨(h c).1.trans ?_, (h c).2⟩) (Cert.GnormFwdRefIdeal.Value.run m' ρ')⟩
  rw [Cert.GnormFwdRefIdeal.Read.val_main_v17_eq, (hag c).1, (hag c).2.1, (hag c).2.2]
  exact gnormFwd_ref _ _ _

end Cert.Proof

end
-- ==== Proof.SsmOut.lean ====
/-
  Hand-written. The state-space layer's output projection: the kernel's call and the reference end with the same two
  arrays, the product `y @ w_out` and the residual stream with its gated value added.
-/
module

public import proofs.«01_k».proof.Defs
public import proofs.«01_k».proof.Proof.Gen.SsmOutIdeal.Value
public import proofs.«01_k».proof.Proof.Gen.SsmOutRefIdeal.Run
public import proofs.«01_k».proof.Proof.Gen.SsmOutRefIdeal.Read
public import Idealize.ShloMosaic.Lib.Pipeline.Value
public import Idealize.ShloMosaic.Lib.Pipeline.ValueKit
public import Idealize.ShloMosaic.Lib.Pointwise

@[expose] public section

set_option maxRecDepth 16384

noncomputable section

namespace Cert.SsmOutIdeal.Hand

open Cert.SsmOutIdeal Cert.SsmOutIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the first half's point leaves in the accumulator. -/
theorem acc_A (c : Dev nD) (t : Fin cfg0.N) (h0 : t.val % 2 = 0) :
    (outsAt0 m c t.val t.isLt).2.2 = k0_pay2 (F := Ideal) (k0_pay1 (F := Ideal)) (iblk m c 0 t) (iblk m c 1 t) := by
  rw [outsAt0_A m c t h0 (by omega)]
  frame_out

/-- What the second half's point leaves in the product's block. -/
theorem out_B4 (c : Dev nD) (t : Fin cfg0.N) (h0 : ¬t.val % 2 = 0) :
    (outsAt0 m c t.val t.isLt).1 = k0_pay2 (F := Ideal) (outsAt0 m c (t.val - 1) (Nat.lt_of_le_of_lt (Nat.sub_le _ _) t.isLt)).2.2 (iblk m c 0 t) (iblk m c 1 t) := by
  rw [outsAt0_B m c t h0 (by omega)]
  frame_out
  exact congrArg (fun a => k0_pay2 (F := Ideal) a (iblk m c 0 t) (iblk m c 1 t)) ((Memref.isWhole_whole cc0_scratch0).read_unread _)

/-- What it leaves in the residual stream's block. -/
theorem out_B5 (c : Dev nD) (t : Fin cfg0.N) (h0 : ¬t.val % 2 = 0) :
    (outsAt0 m c t.val t.isLt).2.1 = k0_pay3 (F := Ideal) (outsAt0 m c t.val t.isLt).1 (iblk m c 2 t) (iblk m c 3 t) := by
  rw [out_B4 m c t h0, outsAt0_B m c t h0 (by omega)]
  frame_out
  exact congrArg (fun a => k0_pay3 (F := Ideal) (k0_pay2 (F := Ideal) a (iblk m c 0 t) (iblk m c 1 t)) (iblk m c 2 t) (iblk m c 3 t)) ((Memref.isWhole_whole cc0_scratch0).read_unread _)

/-- A half's product added to the accumulator, at an index. -/
theorem pay2_apply (v5 : Vec Ideal S512x1024 .f32) (v6 : Vec Ideal S512x1024 .bf16) (v8 : Vec Ideal S1024x1024 .bf16) (r : Fin 512) (d : Fin 1024) :
    k0_pay2 (F := Ideal) v5 v6 v8 (ix2 r d)
      = ((show EReal from v5 (ix2 r d)) + ∑ k : Fin 1024, (show EReal from v6 (ix2 r k)) * (show EReal from v8 (ix2 k d)) : EReal) := by
  pointwise [k0_pay2]

theorem pay1_apply (r : Fin 512) (d : Fin 1024) : k0_pay1 (F := Ideal) (ix2 r d) = (0 : EReal) := by
  pointwise [k0_pay1]

/-- The residual stream's payload at an index. -/
theorem pay3_apply (v20 v22 : Vec Ideal S512x1024 .f32) (v23 : Vec Ideal S1x1024 .f32) (r : Fin 512) (d : Fin 1024) :
    k0_pay3 (F := Ideal) v20 v22 v23 (ix2 r d)
      = ((show EReal from v22 (ix2 r d)) + (show EReal from v23 (ix2 (0 : Fin 1) d)) * (show EReal from v20 (ix2 r d)) : EReal) := by
  pointwise [k0_pay3]

/-- The product at token `l` and column `d`: the sum over the two halves of the contracted axis. -/
def dot (a : Vec Ideal S2048x2048 .bf16) (w : Vec Ideal S2048x1024 .bf16) (l : Fin 2048) (d : Fin 1024) : EReal :=
  (∑ k : Fin 1024, (show EReal from a (ix2 l (Fin.castAdd 1024 k : Fin (1024 + 1024)))) * (show EReal from w (ix2 (Fin.castAdd 1024 k : Fin (1024 + 1024)) d)))
    + ∑ k : Fin 1024, (show EReal from a (ix2 l (Fin.natAdd 1024 k : Fin (1024 + 1024)))) * (show EReal from w (ix2 (Fin.natAdd 1024 k : Fin (1024 + 1024)) d))

/-- The sum over the whole axis is the sums over its halves. -/
theorem dot_eq (a : Vec Ideal S2048x2048 .bf16) (w : Vec Ideal S2048x1024 .bf16) (l : Fin 2048) (d : Fin 1024) :
    (∑ k : Fin 2048, (show EReal from a (ix2 l k)) * (show EReal from w (ix2 k d)) : EReal) = dot a w l d :=
  Fin.sum_univ_add (a := 1024) (b := 1024) (fun k : Fin (1024 + 1024) => (show EReal from a (ix2 l k)) * (show EReal from w (ix2 k d)))

/-- The product. -/
def P (a : Vec Ideal S2048x2048 .bf16) (w : Vec Ideal S2048x1024 .bf16) : Vec Ideal S2048x1024 .f32 :=
  fun i => (dot a w (i 0) (i 1) : EReal)

/-- The residual stream with the gated product added. -/
def R (a : Vec Ideal S2048x2048 .bf16) (w : Vec Ideal S2048x1024 .bf16) (x : Vec Ideal S2048x1024 .f32) (g : Vec Ideal S1x1024 .f32) : Vec Ideal S2048x1024 .f32 :=
  fun i => ((show EReal from x (ix2 (i 0) (i 1))) + (show EReal from g (ix2 (0 : Fin 1) (i 1))) * dot a w (i 0) (i 1) : EReal)

theorem idx0 : ∀ t : Fin cfg0.N, win0_0.index t (0 : Fin 2) = t.val / 2 ∧ win0_0.index t (1 : Fin 2) = t.val % 2 :=
  (by decide +kernel : ∀ t : Fin grid0.N, _)
theorem idx1 : ∀ t : Fin cfg0.N, win0_1.index t (0 : Fin 2) = t.val % 2 ∧ win0_1.index t (1 : Fin 2) = 0 :=
  (by decide +kernel : ∀ t : Fin grid0.N, _)
theorem idx2 : ∀ t : Fin cfg0.N, win0_2.index t (0 : Fin 2) = t.val / 2 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val / 2 ∧ win0_4.index t (1 : Fin 2) = 0 :=
  (by decide +kernel : ∀ t : Fin grid0.N, _)
theorem idx5 : ∀ t : Fin cfg0.N, win0_5.index t (0 : Fin 2) = t.val / 2 ∧ win0_5.index t (1 : Fin 2) = 0 :=
  (by decide +kernel : ∀ t : Fin grid0.N, _)

/-- The place of column `k` of point `t`'s half in the contracted axis. -/
def col (t : Fin cfg0.N) (k : Fin 1024) : Fin 2048 := ⟨t.val % 2 * 1024 + k.val, by have h := k.isLt; omega⟩
/-- The token that row `r` of point `t`'s block is. -/
def tok (t : Fin cfg0.N) (r : Fin 512) : Fin 2048 := ⟨t.val / 2 * 512 + r.val, by have h := r.isLt; have h' : t.val < 8 := t.isLt; omega⟩

theorem iblk0 (c : Dev nD) (t : Fin cfg0.N) (r : Fin 512) (k : Fin 1024) :
    iblk m c 0 t (ix2 r k) = m ((c : Thread nD τ).loc main_arg0) (ix2 (tok t r) (col t k)) := by
  obtain ⟨e0, e1⟩ := idx0 t
  show V m c main_arg0 (((cfg0.win 0).blk t).view.emb (ix2 r k)) = _
  refine Eq.trans ?_ (congrFun (V_main_arg0 m c) _)
  congr 1
  funext a; apply Fin.ext
  match a with
  | ⟨0, _⟩ => show win0_0.index t (0 : Fin 2) * 512 + 1 * r.val = t.val / 2 * 512 + r.val; omega
  | ⟨1, _⟩ => show win0_0.index t (1 : Fin 2) * 1024 + 1 * k.val = t.val % 2 * 1024 + k.val; omega

theorem iblk1 (c : Dev nD) (t : Fin cfg0.N) (k : Fin 1024) (d : Fin 1024) :
    iblk m c 1 t (ix2 k d) = m ((c : Thread nD τ).loc main_arg1) (ix2 (col t k) d) := by
  obtain ⟨e0, e1⟩ := idx1 t
  show V m c main_arg1 (((cfg0.win 1).blk t).view.emb (ix2 k d)) = _
  refine Eq.trans ?_ (congrFun (V_main_arg1 m c) _)
  congr 1
  funext a; apply Fin.ext
  match a with
  | ⟨0, _⟩ => show win0_1.index t (0 : Fin 2) * 1024 + 1 * k.val = t.val % 2 * 1024 + k.val; omega
  | ⟨1, _⟩ => show win0_1.index t (1 : Fin 2) * 1024 + 1 * d.val = d.val; omega

theorem iblk2 (c : Dev nD) (t : Fin cfg0.N) (r : Fin 512) (d : Fin 1024) :
    iblk m c 2 t (ix2 r d) = m ((c : Thread nD τ).loc main_arg2) (ix2 (tok t r) d) := by
  obtain ⟨e0, e1⟩ := idx2 t
  show V m c main_arg2 (((cfg0.win 2).blk t).view.emb (ix2 r d)) = _
  refine Eq.trans ?_ (congrFun (V_main_arg2 m c) _)
  congr 1
  funext a; apply Fin.ext
  match a with
  | ⟨0, _⟩ => show win0_2.index t (0 : Fin 2) * 512 + 1 * r.val = t.val / 2 * 512 + r.val; omega
  | ⟨1, _⟩ => show win0_2.index t (1 : Fin 2) * 1024 + 1 * d.val = d.val; omega

theorem iblk3 (c : Dev nD) (t : Fin cfg0.N) (d : Fin 1024) :
    iblk m c 3 t (ix2 (0 : Fin 1) d) = m ((c : Thread nD τ).loc main_arg3) (ix2 (0 : Fin 1) d) := by
  obtain ⟨e0, e1⟩ := idx3 t
  show V m c main_arg3 (((cfg0.win 3).blk t).view.emb (ix2 (0 : Fin 1) d)) = _
  refine Eq.trans ?_ (congrFun (V_main_arg3 m c) _)
  congr 1
  funext a; apply Fin.ext
  match a with
  | ⟨0, _⟩ => show win0_3.index t (0 : Fin 2) * 1 + 1 * 0 = 0; omega
  | ⟨1, _⟩ => show win0_3.index t (1 : Fin 2) * 1024 + 1 * d.val = d.val; omega

/-- Where an index of an output's block `t` lies in the result. -/
theorem emb4 (t : Fin cfg0.N) (j : S512x1024.Idx) :
    ((cfg0.win 4).blk t).view.emb j = (ix2 (tok t (j 0)) (j 1) : S2048x1024.Idx) := by
  obtain ⟨e0, e1⟩ := idx4 t
  idx_vars j
  funext a; apply Fin.ext
  match a with
  | ⟨0, _⟩ => show win0_4.index t (0 : Fin 2) * 512 + 1 * j0.val = t.val / 2 * 512 + j0.val; omega
  | ⟨1, _⟩ => show win0_4.index t (1 : Fin 2) * 1024 + 1 * j1.val = j1.val; omega

theorem emb5 (t : Fin cfg0.N) (j : S512x1024.Idx) :
    ((cfg0.win 5).blk t).view.emb j = (ix2 (tok t (j 0)) (j 1) : S2048x1024.Idx) := by
  obtain ⟨e0, e1⟩ := idx5 t
  idx_vars j
  funext a; apply Fin.ext
  match a with
  | ⟨0, _⟩ => show win0_5.index t (0 : Fin 2) * 512 + 1 * j0.val = t.val / 2 * 512 + j0.val; omega
  | ⟨1, _⟩ => show win0_5.index t (1 : Fin 2) * 1024 + 1 * j1.val = j1.val; omega

/-- The points that write back are the second halves'. -/
theorem odd4 : ∀ t : Fin cfg0.N, (cfg0.win 4).flush t = true ↔ t.val % 2 = 1 := flush0_4
theorem odd5 : ∀ t : Fin cfg0.N, (cfg0.win 5).flush t = true ↔ t.val % 2 = 1 := flush0_5

/-- After the second half's point the product's block is complete. -/
theorem block_eq (c : Dev nD) (t : Fin cfg0.N) (h1 : t.val % 2 = 1) (r : Fin 512) (d : Fin 1024) :
    (outsAt0 m c t.val t.isLt).1 (ix2 r d)
      = (dot (m ((c : Thread nD τ).loc main_arg0)) (m ((c : Thread nD τ).loc main_arg1)) (tok t r) d : EReal) := by
  have hN : t.val < 8 := t.isLt
  obtain ⟨t', ht'⟩ : ∃ t' : Fin cfg0.N, t'.val = t.val - 1 := ⟨⟨t.val - 1, by show _ < 8; omega⟩, rfl⟩
  have e0 : ∀ k : Fin 1024, col t' k = (Fin.castAdd 1024 k : Fin (1024 + 1024)) := fun k => Fin.ext (by show t'.val % 2 * 1024 + k.val = k.val; omega)
  have e1 : ∀ k : Fin 1024, col t k = (Fin.natAdd 1024 k : Fin (1024 + 1024)) := fun k => Fin.ext (by show t.val % 2 * 1024 + k.val = 1024 + k.val; omega)
  have e2 : tok t' r = tok t r := Fin.ext (by show t'.val / 2 * 512 + r.val = t.val / 2 * 512 + r.val; omega)
  have ea : ∀ (n : ℕ) (hn : n < cfg0.N), n = t'.val → (outsAt0 m c n hn).2.2 (ix2 r d)
      = (∑ k : Fin 1024, (show EReal from m ((c : Thread nD τ).loc main_arg0) (ix2 (tok t r) (Fin.castAdd 1024 k : Fin (1024 + 1024))))
          * (show EReal from m ((c : Thread nD τ).loc main_arg1) (ix2 (Fin.castAdd 1024 k : Fin (1024 + 1024)) d)) : EReal) := by
    intro n hn e
    subst e
    rw [acc_A m c t' (by omega), pay2_apply, pay1_apply]
    refine (zero_add _).trans ?_
    refine Finset.sum_congr rfl fun k _ => ?_
    refine congrArg₂ (fun x y : EReal => x * y) ((iblk0 m c t' r k).trans ?_) ((iblk1 m c t' k d).trans ?_)
    · rw [e0, e2]
    · rw [e0]
  rw [out_B4 m c t (by omega), pay2_apply]
  refine congrArg₂ (fun x y : EReal => x + y) (ea _ _ ht'.symm) ?_
  refine Finset.sum_congr rfl fun k _ => ?_
  refine congrArg₂ (fun x y : EReal => x * y) ((iblk0 m c t r k).trans ?_) ((iblk1 m c t k d).trans ?_) <;> rw [e1]

/-- Each point that writes back writes its block of the product. -/
theorem flushed_P (c : Dev nD) (t : Fin cfg0.N) (hf : (cfg0.win 4).flush t = true) :
    (dats m 0 c).flushed 4 t = ((cfg0.win 4).blk t).view.read (Elt Ideal)
      (P (m ((c : Thread nD τ).loc main_arg0)) (m ((c : Thread nD τ).loc main_arg1))) := by
  rw [Value.flushed4]
  funext j
  show (outsAt0 m c t.val t.isLt).1 j = P (m ((c : Thread nD τ).loc main_arg0)) (m ((c : Thread nD τ).loc main_arg1)) (((cfg0.win 4).blk t).view.emb j)
  rw [emb4]
  idx_vars j
  exact block_eq m c t ((odd4 t).mp hf) j0 j1

/-- Each point that writes back writes its block of the residual stream. -/
theorem flushed_R (c : Dev nD) (t : Fin cfg0.N) (hf : (cfg0.win 5).flush t = true) :
    (dats m 0 c).flushed 5 t = ((cfg0.win 5).blk t).view.read (Elt Ideal)
      (R (m ((c : Thread nD τ).loc main_arg0)) (m ((c : Thread nD τ).loc main_arg1)) (m ((c : Thread nD τ).loc main_arg2)) (m ((c : Thread nD τ).loc main_arg3))) := by
  rw [Value.flushed5]
  funext j
  show (outsAt0 m c t.val t.isLt).2.1 j = R (m ((c : Thread nD τ).loc main_arg0)) (m ((c : Thread nD τ).loc main_arg1)) (m ((c : Thread nD τ).loc main_arg2)) (m ((c : Thread nD τ).loc main_arg3)) (((cfg0.win 5).blk t).view.emb j)
  have h1 := (odd5 t).mp hf
  rw [emb5, out_B5 m c t (by omega)]
  idx_vars j
  rw [pay3_apply]
  refine congrArg₂ (fun x y : EReal => x + y) (iblk2 m c t j0 j1) ?_
  exact congrArg₂ (fun x y : EReal => x * y) (iblk3 m c t j1) (block_eq m c t h1 j0 j1)

/-- Every index of a result is in some point's block. -/
theorem covered4 (i : S2048x1024.Idx) :
    ∃ t : Fin cfg0.N, (cfg0.win 4).flush t = true ∧ i ∈ ((cfg0.win 4).blk t).view.set := by
  have h0 : (i 0).val < 2048 := (i 0).isLt
  obtain ⟨t, ht⟩ : ∃ t : Fin cfg0.N, t.val = (i 0).val / 512 * 2 + 1 :=
    ⟨⟨(i 0).val / 512 * 2 + 1, by show _ < 8; omega⟩, rfl⟩
  obtain ⟨r, hr⟩ : ∃ r : Fin 512, r.val = (i 0).val % 512 := ⟨⟨(i 0).val % 512, by omega⟩, rfl⟩
  refine ⟨t, (odd4 t).mpr (by omega), ?_⟩
  have h := ((cfg0.win 4).blk t).view.emb_mem_set (ix2 r (i 1) : S512x1024.Idx)
  have e : ((cfg0.win 4).blk t).view.emb (ix2 r (i 1) : S512x1024.Idx) = i := by
    rw [emb4]
    funext a; apply Fin.ext
    match a with
    | ⟨0, _⟩ => show t.val / 2 * 512 + r.val = (i 0).val; omega
    | ⟨1, _⟩ => rfl
  rw [e] at h
  exact h

theorem covered5 (i : S2048x1024.Idx) :
    ∃ t : Fin cfg0.N, (cfg0.win 5).flush t = true ∧ i ∈ ((cfg0.win 5).blk t).view.set := by
  have h0 : (i 0).val < 2048 := (i 0).isLt
  obtain ⟨t, ht⟩ : ∃ t : Fin cfg0.N, t.val = (i 0).val / 512 * 2 + 1 :=
    ⟨⟨(i 0).val / 512 * 2 + 1, by show _ < 8; omega⟩, rfl⟩
  obtain ⟨r, hr⟩ : ∃ r : Fin 512, r.val = (i 0).val % 512 := ⟨⟨(i 0).val % 512, by omega⟩, rfl⟩
  refine ⟨t, (odd5 t).mpr (by omega), ?_⟩
  have h := ((cfg0.win 5).blk t).view.emb_mem_set (ix2 r (i 1) : S512x1024.Idx)
  have e : ((cfg0.win 5).blk t).view.emb (ix2 r (i 1) : S512x1024.Idx) = i := by
    rw [emb5]
    funext a; apply Fin.ext
    match a with
    | ⟨0, _⟩ => show t.val / 2 * 512 + r.val = (i 0).val; omega
    | ⟨1, _⟩ => rfl
  rw [e] at h
  exact h

/-- The run: the results are `P` and `R` of the arguments, which end unchanged. -/
theorem run : θ_run defs (onTc (τ := τ) (main (F := Ideal))) ⟨m, fun _ => 0, ρ⟩ fun r => ∀ c : Dev nD,
      r.2.mem ((c : Thread nD τ).loc main_v0_0) = P (m ((c : Thread nD τ).loc main_arg0)) (m ((c : Thread nD τ).loc main_arg1))
      ∧ r.2.mem ((c : Thread nD τ).loc main_v0_1) = R (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans
      ((dats m 0 c).arrAt_eq_of_cover 4 _ (fun t hf => flushed_P m c t hf) covered4), (h c).2.1.trans
      ((dats m 0 c).arrAt_eq_of_cover 5 _ (fun t hf => flushed_R m c t hf) covered5), (h c).2.2⟩) (Value.run_blocks m ρ)

end Cert.SsmOutIdeal.Hand

namespace Cert.Proof

open Idealize.ShloMosaic Idealize.ShloMosaic.TcCoe Idealize.SL.Sem
open Cert.SsmOutRefIdeal.Read
open Cert.SsmOutIdeal.Hand (P R dot)

/-- The reference's product, at every index. -/
theorem ssmOut_f (a : Vec Ideal Cert.SsmOutIdeal.S2048x2048 .bf16) (w : Vec Ideal Cert.SsmOutIdeal.S2048x1024 .bf16) :
    val_main_v2 (F := Ideal) a w = P a w := by
  funext j
  idx_vars j
  refine Eq.trans ?_ (Cert.SsmOutIdeal.Hand.dot_eq a w j0 j1)
  pointwise [val_main_v2, val_main_v1, val_main_v0]

/-- The reference's residual stream, at every index. -/
theorem ssmOut_x (a : Vec Ideal Cert.SsmOutIdeal.S2048x2048 .bf16) (w : Vec Ideal Cert.SsmOutIdeal.S2048x1024 .bf16)
    (x : Vec Ideal Cert.SsmOutIdeal.S2048x1024 .f32) (g : Vec Ideal Cert.SsmOutIdeal.S1x1024 .f32) :
    val_main_v5 (F := Ideal) a w x g = R a w x g := by
  funext j
  idx_vars j
  unfold val_main_v5 val_main_v4
  rw [ssmOut_f]
  generalize hp : P a w = p
  have e : (show EReal from p (ix2 j0 j1)) = dot a w j0 j1 := by rw [← hp]; rfl
  refine Eq.trans (b := ((show EReal from x (ix2 j0 j1)) + (show EReal from g (ix2 (0 : Fin 1) j1)) * (show EReal from p (ix2 j0 j1)) : EReal)) ?_ ?_
  · pointwise [val_main_v3]
  · rw [e]; rfl

/-- The kernel's call and the reference, from memories that agree on the arguments, end with equal results. -/
theorem ssmOut : Cert.algebraic_SsmOutIdeal_SsmOutRefIdeal (hSsmOutIdeal := Cert.SsmOutIdeal.Gen.facts) (hSsmOutRefIdeal := Cert.SsmOutRefIdeal.Gen.facts) := by
  intro m ρ m' ρ' _ hag
  refine ⟨fun c => P (m ((c.tc : Thread Cert.SsmOutIdeal.nD Cert.SsmOutIdeal.τ).loc Cert.SsmOutIdeal.main_arg0)) (m ((c.tc : Thread Cert.SsmOutIdeal.nD Cert.SsmOutIdeal.τ).loc Cert.SsmOutIdeal.main_arg1)),
    fun c => R (m ((c.tc : Thread Cert.SsmOutIdeal.nD Cert.SsmOutIdeal.τ).loc Cert.SsmOutIdeal.main_arg0)) (m ((c.tc : Thread Cert.SsmOutIdeal.nD Cert.SsmOutIdeal.τ).loc Cert.SsmOutIdeal.main_arg1))
      (m ((c.tc : Thread Cert.SsmOutIdeal.nD Cert.SsmOutIdeal.τ).loc Cert.SsmOutIdeal.main_arg2)) (m ((c.tc : Thread Cert.SsmOutIdeal.nD Cert.SsmOutIdeal.τ).loc Cert.SsmOutIdeal.main_arg3)),
    Cert.SsmOutIdeal.Hand.run m ρ, (θ_run _ _ _).mono (fun _ h c => ⟨(h c).1.trans ?_, (h c).2.1.trans ?_, (h c).2.2⟩) (Cert.SsmOutRefIdeal.Value.run m' ρ')⟩
  · rw [val_main_v2_eq, (hag c).1, (hag c).2.1]
    exact ssmOut_f _ _
  · rw [val_main_v5_eq, (hag c).1, (hag c).2.1, (hag c).2.2.1, (hag c).2.2.2]
    exact ssmOut_x _ _ _ _

end Cert.Proof

end
-- ==== Proof.ModW.lean ====
/-
  Hand-written. The gradient of `mod_w`: the kernel's call and the reference end with the same array, at every element
  the sum over the eight sequences of `silu(c) · dmod`.
-/
module

public import proofs.«01_k».proof.Defs
public import proofs.«01_k».proof.Proof.Gen.ModWIdeal.Value
public import proofs.«01_k».proof.Proof.Gen.ModWRefIdeal.Run
public import proofs.«01_k».proof.Proof.Gen.ModWRefIdeal.Read
public import Idealize.ShloMosaic.Lib.Pipeline.Value
public import Idealize.ShloMosaic.Lib.Pointwise

@[expose] public section

set_option maxRecDepth 16384

noncomputable section

namespace Cert.ModWIdeal.Hand

open Cert.ModWIdeal Cert.ModWIdeal.Gen Idealize.ShloMosaic Idealize.ShloMosaic.TcCoe Idealize.SL.Sem
open Idealize.ShloMosaic.Pipeline (Dat)

/-- The gradient: at layer `s`, row `d` and column `n` the sum over the sequences `b` of `c[d, b] · dmod[s, b, n]`. -/
def G (c : Vec Ideal S1024x8 .f32) (dm : Vec Ideal S4x8x2304 .f32) : Vec Ideal S4x1024x2304 .f32 :=
  fun i => (∑ b : Fin 8, (show EReal from c (ix2 (i 1) b)) * (show EReal from dm (ix3 (i 0) b (i 2))) : EReal)

theorem hz3 : (![0, 0, 0] : Fin 3 → Nat) = fun _ => 0 := funext fun a => by fin_cases a <;> rfl

/-- The load of column `b` of the block of `c`, at row `r`. -/
theorem ld_c (x0 : Vec Ideal S512x8 .f32) (r : Fin 512) (b : Fin 8) (inb) :
    View.ld x0 (Rect.unit (s := S512x8) ![0, b.val] S512x1.size inb) (ix2 r (0 : Fin 1) : S512x1.Idx) = x0 (ix2 r b) := by
  refine congrArg x0 (funext fun a => Fin.ext ?_)
  match a with
  | ⟨0, _⟩ => show 0 + 1 * r.val = r.val; omega
  | ⟨1, _⟩ => show b.val + 1 * 0 = b.val; omega

/-- The load of row `b` of the block of `dmod`, at column `n`. -/
theorem ld_d (x1 : Vec Ideal S1x8x256 .f32) (n : Fin 256) (b : Fin 8) (inb) :
    View.ld x1 (Rect.unit (s := S1x8x256) ![0, b.val, 0] S1x1x256.size inb) (ix3 (0 : Fin 1) (0 : Fin 1) n : S1x1x256.Idx) = x1 (ix3 (0 : Fin 1) b n) := by
  refine congrArg x1 (funext fun a => Fin.ext ?_)
  match a with
  | ⟨0, _⟩ => rfl
  | ⟨1, _⟩ => show b.val + 1 * 0 = b.val; omega
  | ⟨2, _⟩ => show 0 + 1 * n.val = n.val; omega

/-- What the body leaves in the output's block, at an index. -/
theorem out_apply (x0 : Vec Ideal S512x8 .f32) (x1 : Vec Ideal S1x8x256 .f32) (j : S1x512x256.Idx) :
    out0_2 (F := Ideal) x0 x1 j = (∑ b : Fin 8, (show EReal from x0 (ix2 (j 1) b)) * (show EReal from x1 (ix3 (0 : Fin 1) b (j 2))) : EReal) := by
  unfold out0_2
  rw [View.canon_unit_zero hz3]
  idx_vars j
  rw [Fin.sum_univ_eight]
  rw [← ld_c x0 j1 0 inb_S512x8_S512x1_0_0, ← ld_d x1 j2 0 inb_S1x8x256_S1x1x256_0_0_0, ← ld_c x0 j1 1 inb_S512x8_S512x1_0_1, ← ld_d x1 j2 1 inb_S1x8x256_S1x1x256_0_1_0, ← ld_c x0 j1 2 inb_S512x8_S512x1_0_2, ← ld_d x1 j2 2 inb_S1x8x256_S1x1x256_0_2_0, ← ld_c x0 j1 3 inb_S512x8_S512x1_0_3, ← ld_d x1 j2 3 inb_S1x8x256_S1x1x256_0_3_0, ← ld_c x0 j1 4 inb_S512x8_S512x1_0_4, ← ld_d x1 j2 4 inb_S1x8x256_S1x1x256_0_4_0, ← ld_c x0 j1 5 inb_S512x8_S512x1_0_5, ← ld_d x1 j2 5 inb_S1x8x256_S1x1x256_0_5_0, ← ld_c x0 j1 6 inb_S512x8_S512x1_0_6, ← ld_d x1 j2 6 inb_S1x8x256_S1x1x256_0_6_0, ← ld_c x0 j1 7 inb_S512x8_S512x1_0_7, ← ld_d x1 j2 7 inb_S1x8x256_S1x1x256_0_7_0]
  pointwise [k0_pay1, k0_pay2, k0_pay3, k0_pay4]

variable (m : (ℓ : Loc nD τ sig) → Buf (Elt Ideal) ℓ) (ρ : Dev nD → PrngReg)

theorem idx0 : ∀ t : Fin cfg0.N, win0_0.index t (0 : Fin 2) = t.val / 9 % 2 ∧ win0_0.index t (1 : Fin 2) = 0 :=
  (by decide +kernel : ∀ t : Fin grid0.N, _)
theorem idx1 : ∀ t : Fin cfg0.N, win0_1.index t (0 : Fin 3) = t.val / 18 ∧ win0_1.index t (1 : Fin 3) = 0 ∧ win0_1.index t (2 : Fin 3) = t.val % 9 :=
  (by decide +kernel : ∀ t : Fin grid0.N, _)
theorem idx2 : ∀ t : Fin cfg0.N, win0_2.index t (0 : Fin 3) = t.val / 18 ∧ win0_2.index t (1 : Fin 3) = t.val / 9 % 2 ∧ win0_2.index t (2 : Fin 3) = t.val % 9 :=
  (by decide +kernel : ∀ t : Fin grid0.N, _)

/-- The layer, and the array's row and column of the block's row `x` and column `y`, at point `t`. -/
def at0 (t : Fin cfg0.N) : Fin 4 := ⟨t.val / 18, by have h : t.val < 72 := t.isLt; omega⟩
def row (t : Fin cfg0.N) (x : Fin 512) : Fin 1024 := ⟨t.val / 9 % 2 * 512 + x.val, by have hx := x.isLt; omega⟩
def col (t : Fin cfg0.N) (y : Fin 256) : Fin 2304 := ⟨t.val % 9 * 256 + y.val, by have hy := y.isLt; omega⟩

theorem iblk0 (c : Dev nD) (t : Fin cfg0.N) (x : Fin 512) (b : Fin 8) :
    iblk m c 0 t (ix2 x b) = V m c main_arg0 (ix2 (row t x) b) := by
  obtain ⟨e0, e1⟩ := idx0 t
  show V m c main_arg0 (((cfg0.win 0).blk t).view.emb (ix2 x b)) = _
  congr 1
  funext a; apply Fin.ext
  match a with
  | ⟨0, _⟩ => show win0_0.index t (0 : Fin 2) * 512 + 1 * x.val = t.val / 9 % 2 * 512 + x.val; omega
  | ⟨1, _⟩ => show win0_0.index t (1 : Fin 2) * 8 + 1 * b.val = b.val; omega

theorem iblk1 (c : Dev nD) (t : Fin cfg0.N) (b : Fin 8) (y : Fin 256) :
    iblk m c 1 t (ix3 (0 : Fin 1) b y) = V m c main_arg1 (ix3 (at0 t) b (col t y)) := by
  obtain ⟨e0, e1, e2⟩ := idx1 t
  show V m c main_arg1 (((cfg0.win 1).blk t).view.emb (ix3 (0 : Fin 1) b y)) = _
  congr 1
  funext a; apply Fin.ext
  match a with
  | ⟨0, _⟩ => show win0_1.index t (0 : Fin 3) * 1 + 1 * 0 = t.val / 18; omega
  | ⟨1, _⟩ => show win0_1.index t (1 : Fin 3) * 8 + 1 * b.val = b.val; omega
  | ⟨2, _⟩ => show win0_1.index t (2 : Fin 3) * 256 + 1 * y.val = t.val % 9 * 256 + y.val; omega

/-- Where an index of the output's block `t` lies in the result. -/
theorem emb2 (t : Fin cfg0.N) (j : S1x512x256.Idx) :
    ((cfg0.win 2).blk t).view.emb j = (ix3 (at0 t) (row t (j 1)) (col t (j 2)) : S4x1024x2304.Idx) := by
  obtain ⟨e0, e1, e2⟩ := idx2 t
  idx_vars j
  funext a; apply Fin.ext
  match a with
  | ⟨0, _⟩ => show win0_2.index t (0 : Fin 3) * 1 + 1 * (j0 : Fin 1).val = t.val / 18; omega
  | ⟨1, _⟩ => show win0_2.index t (1 : Fin 3) * 512 + 1 * j1.val = t.val / 9 % 2 * 512 + j1.val; omega
  | ⟨2, _⟩ => show win0_2.index t (2 : Fin 3) * 256 + 1 * j2.val = t.val % 9 * 256 + j2.val; omega

/-- Each point writes back its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2]
  funext j
  show out0_2 (F := Ideal) (iblk m c 0 t) (iblk m c 1 t) j = G (V m c main_arg0) (V m c main_arg1) (((cfg0.win 2).blk t).view.emb j)
  rw [emb2, out_apply]
  show (∑ b : Fin 8, _ : EReal) = (∑ b : Fin 8, _ : EReal)
  refine Finset.sum_congr rfl fun b _ => ?_
  exact congrArg₂ (fun x y : EReal => x * y) (iblk0 m c t (j 1) b) (iblk1 m c t b (j 2))

/-- Every index of the result is in some point's block. -/
theorem covered (i : S4x1024x2304.Idx) :
    ∃ t : Fin cfg0.N, (cfg0.win 2).flush t = true ∧ i ∈ ((cfg0.win 2).blk t).view.set := by
  have h0 : (i 0).val < 4 := (i 0).isLt
  have h1 : (i 1).val < 1024 := (i 1).isLt
  have h2 : (i 2).val < 2304 := (i 2).isLt
  obtain ⟨t, ht⟩ : ∃ t : Fin cfg0.N, t.val = (i 0).val * 18 + (i 1).val / 512 * 9 + (i 2).val / 256 :=
    ⟨⟨(i 0).val * 18 + (i 1).val / 512 * 9 + (i 2).val / 256, by show _ < 72; omega⟩, rfl⟩
  obtain ⟨r1, hr1⟩ : ∃ r : Fin 512, r.val = (i 1).val % 512 := ⟨⟨(i 1).val % 512, by omega⟩, rfl⟩
  obtain ⟨r2, hr2⟩ : ∃ r : Fin 256, r.val = (i 2).val % 256 := ⟨⟨(i 2).val % 256, by omega⟩, rfl⟩
  refine ⟨t, flush0_2 _, ?_⟩
  have h := ((cfg0.win 2).blk t).view.emb_mem_set (ix3 (0 : Fin 1) r1 r2 : S1x512x256.Idx)
  have e : ((cfg0.win 2).blk t).view.emb (ix3 (0 : Fin 1) r1 r2 : S1x512x256.Idx) = i := by
    rw [emb2]
    funext a; apply Fin.ext
    match a with
    | ⟨0, _⟩ => show t.val / 18 = (i 0).val; omega
    | ⟨1, _⟩ => show t.val / 9 % 2 * 512 + r1.val = (i 1).val; omega
    | ⟨2, _⟩ => show t.val % 9 * 256 + r2.val = (i 2).val; omega
  rw [e] at h
  exact h

/-- The run: the result is `G` of the arguments, which end unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
      ((dats m 0 c).arrAt_eq_of_cover 2 _ (fun t _ => flushed_eq m c t) covered), (h c).2⟩) (Value.run_blocks m ρ)

end Cert.ModWIdeal.Hand

namespace Cert.Proof

open Idealize.ShloMosaic Idealize.ShloMosaic.TcCoe Idealize.SL.Sem
open Cert.ModWRefIdeal.Read

/-- The reference's result, at every index. -/
theorem modW_ref (a : Vec Ideal Cert.ModWIdeal.S1024x8 .f32) (b : Vec Ideal Cert.ModWIdeal.S4x8x2304 .f32) :
    val_main_v6 (F := Ideal) a b = Cert.ModWIdeal.Hand.G a b := by
  funext j
  idx_vars j
  refine Eq.trans (b := (∑ k : Fin 8, (show EReal from b (ix3 j0 k j2)) * (show EReal from a (ix2 j1 k)) : EReal)) ?_ (Finset.sum_congr rfl fun k _ => mul_comm _ _)
  pointwise [val_main_v6, val_main_v5, val_main_v4, val_main_v1]

/-- The kernel's call and the reference, from memories that agree on the arguments, end with equal results. -/
theorem modW : Cert.algebraic_ModWIdeal_ModWRefIdeal (hModWIdeal := Cert.ModWIdeal.Gen.facts) (hModWRefIdeal := Cert.ModWRefIdeal.Gen.facts) := by
  intro m ρ m' ρ' _ hag
  refine ⟨fun c => Cert.ModWIdeal.Hand.G (m ((c.tc : Thread Cert.ModWIdeal.nD Cert.ModWIdeal.τ).loc Cert.ModWIdeal.main_arg0)) (m ((c.tc : Thread Cert.ModWIdeal.nD Cert.ModWIdeal.τ).loc Cert.ModWIdeal.main_arg1)),
    Cert.ModWIdeal.Hand.run m ρ, (θ_run _ _ _).mono (fun _ h c => ⟨(h c).1.trans ?_, (h c).2⟩) (Cert.ModWRefIdeal.Value.run m' ρ')⟩
  rw [val_main_v6_eq, (hag c).1, (hag c).2]
  exact modW_ref _ _

end Cert.Proof

end
-- ==== Proof.KvModW.lean ====
/-
  Hand-written. The gradient of `kv_mod_w`: the kernel's call and the reference end with the same array, at every element
  the sum over the eight sequences of `silu(c) · dmod`.
-/
module

public import proofs.«01_k».proof.Defs
public import proofs.«01_k».proof.Proof.Gen.KvModWIdeal.Value
public import proofs.«01_k».proof.Proof.Gen.KvModWRefIdeal.Run
public import proofs.«01_k».proof.Proof.Gen.KvModWRefIdeal.Read
public import Idealize.ShloMosaic.Lib.Pipeline.Value
public import Idealize.ShloMosaic.Lib.Pointwise

@[expose] public section

set_option maxRecDepth 16384

noncomputable section

namespace Cert.KvModWIdeal.Hand

open Cert.KvModWIdeal Cert.KvModWIdeal.Gen Idealize.ShloMosaic Idealize.ShloMosaic.TcCoe Idealize.SL.Sem
open Idealize.ShloMosaic.Pipeline (Dat)

/-- The gradient: at layer `s`, row `d` and column `n` the sum over the sequences `b` of `c[d, b] · dmod[s, b, n]`. -/
def G (c : Vec Ideal S1024x8 .f32) (dm : Vec Ideal S1x8x512 .f32) : Vec Ideal S1x1024x512 .f32 :=
  fun i => (∑ b : Fin 8, (show EReal from c (ix2 (i 1) b)) * (show EReal from dm (ix3 (i 0) b (i 2))) : EReal)

theorem hz3 : (![0, 0, 0] : Fin 3 → Nat) = fun _ => 0 := funext fun a => by fin_cases a <;> rfl

/-- The load of column `b` of the block of `c`, at row `r`. -/
theorem ld_c (x0 : Vec Ideal S512x8 .f32) (r : Fin 512) (b : Fin 8) (inb) :
    View.ld x0 (Rect.unit (s := S512x8) ![0, b.val] S512x1.size inb) (ix2 r (0 : Fin 1) : S512x1.Idx) = x0 (ix2 r b) := by
  refine congrArg x0 (funext fun a => Fin.ext ?_)
  match a with
  | ⟨0, _⟩ => show 0 + 1 * r.val = r.val; omega
  | ⟨1, _⟩ => show b.val + 1 * 0 = b.val; omega

/-- The load of row `b` of the block of `dmod`, at column `n`. -/
theorem ld_d (x1 : Vec Ideal S1x8x256 .f32) (n : Fin 256) (b : Fin 8) (inb) :
    View.ld x1 (Rect.unit (s := S1x8x256) ![0, b.val, 0] S1x1x256.size inb) (ix3 (0 : Fin 1) (0 : Fin 1) n : S1x1x256.Idx) = x1 (ix3 (0 : Fin 1) b n) := by
  refine congrArg x1 (funext fun a => Fin.ext ?_)
  match a with
  | ⟨0, _⟩ => rfl
  | ⟨1, _⟩ => show b.val + 1 * 0 = b.val; omega
  | ⟨2, _⟩ => show 0 + 1 * n.val = n.val; omega

/-- What the body leaves in the output's block, at an index. -/
theorem out_apply (x0 : Vec Ideal S512x8 .f32) (x1 : Vec Ideal S1x8x256 .f32) (j : S1x512x256.Idx) :
    out0_2 (F := Ideal) x0 x1 j = (∑ b : Fin 8, (show EReal from x0 (ix2 (j 1) b)) * (show EReal from x1 (ix3 (0 : Fin 1) b (j 2))) : EReal) := by
  unfold out0_2
  rw [View.canon_unit_zero hz3]
  idx_vars j
  rw [Fin.sum_univ_eight]
  rw [← ld_c x0 j1 0 inb_S512x8_S512x1_0_0, ← ld_d x1 j2 0 inb_S1x8x256_S1x1x256_0_0_0, ← ld_c x0 j1 1 inb_S512x8_S512x1_0_1, ← ld_d x1 j2 1 inb_S1x8x256_S1x1x256_0_1_0, ← ld_c x0 j1 2 inb_S512x8_S512x1_0_2, ← ld_d x1 j2 2 inb_S1x8x256_S1x1x256_0_2_0, ← ld_c x0 j1 3 inb_S512x8_S512x1_0_3, ← ld_d x1 j2 3 inb_S1x8x256_S1x1x256_0_3_0, ← ld_c x0 j1 4 inb_S512x8_S512x1_0_4, ← ld_d x1 j2 4 inb_S1x8x256_S1x1x256_0_4_0, ← ld_c x0 j1 5 inb_S512x8_S512x1_0_5, ← ld_d x1 j2 5 inb_S1x8x256_S1x1x256_0_5_0, ← ld_c x0 j1 6 inb_S512x8_S512x1_0_6, ← ld_d x1 j2 6 inb_S1x8x256_S1x1x256_0_6_0, ← ld_c x0 j1 7 inb_S512x8_S512x1_0_7, ← ld_d x1 j2 7 inb_S1x8x256_S1x1x256_0_7_0]
  pointwise [k0_pay1, k0_pay2, k0_pay3, k0_pay4]

variable (m : (ℓ : Loc nD τ sig) → Buf (Elt Ideal) ℓ) (ρ : Dev nD → PrngReg)

theorem idx0 : ∀ t : Fin cfg0.N, win0_0.index t (0 : Fin 2) = t.val / 2 % 2 ∧ win0_0.index t (1 : Fin 2) = 0 :=
  (by decide +kernel : ∀ t : Fin grid0.N, _)
theorem idx1 : ∀ t : Fin cfg0.N, win0_1.index t (0 : Fin 3) = t.val / 4 ∧ win0_1.index t (1 : Fin 3) = 0 ∧ win0_1.index t (2 : Fin 3) = t.val % 2 :=
  (by decide +kernel : ∀ t : Fin grid0.N, _)
theorem idx2 : ∀ t : Fin cfg0.N, win0_2.index t (0 : Fin 3) = t.val / 4 ∧ win0_2.index t (1 : Fin 3) = t.val / 2 % 2 ∧ win0_2.index t (2 : Fin 3) = t.val % 2 :=
  (by decide +kernel : ∀ t : Fin grid0.N, _)

/-- The layer, and the array's row and column of the block's row `x` and column `y`, at point `t`. -/
def at0 (t : Fin cfg0.N) : Fin 1 := ⟨t.val / 4, by have h : t.val < 4 := t.isLt; omega⟩
def row (t : Fin cfg0.N) (x : Fin 512) : Fin 1024 := ⟨t.val / 2 % 2 * 512 + x.val, by have hx := x.isLt; omega⟩
def col (t : Fin cfg0.N) (y : Fin 256) : Fin 512 := ⟨t.val % 2 * 256 + y.val, by have hy := y.isLt; omega⟩

theorem iblk0 (c : Dev nD) (t : Fin cfg0.N) (x : Fin 512) (b : Fin 8) :
    iblk m c 0 t (ix2 x b) = V m c main_arg0 (ix2 (row t x) b) := by
  obtain ⟨e0, e1⟩ := idx0 t
  show V m c main_arg0 (((cfg0.win 0).blk t).view.emb (ix2 x b)) = _
  congr 1
  funext a; apply Fin.ext
  match a with
  | ⟨0, _⟩ => show win0_0.index t (0 : Fin 2) * 512 + 1 * x.val = t.val / 2 % 2 * 512 + x.val; omega
  | ⟨1, _⟩ => show win0_0.index t (1 : Fin 2) * 8 + 1 * b.val = b.val; omega

theorem iblk1 (c : Dev nD) (t : Fin cfg0.N) (b : Fin 8) (y : Fin 256) :
    iblk m c 1 t (ix3 (0 : Fin 1) b y) = V m c main_arg1 (ix3 (at0 t) b (col t y)) := by
  obtain ⟨e0, e1, e2⟩ := idx1 t
  show V m c main_arg1 (((cfg0.win 1).blk t).view.emb (ix3 (0 : Fin 1) b y)) = _
  congr 1
  funext a; apply Fin.ext
  match a with
  | ⟨0, _⟩ => show win0_1.index t (0 : Fin 3) * 1 + 1 * 0 = t.val / 4; omega
  | ⟨1, _⟩ => show win0_1.index t (1 : Fin 3) * 8 + 1 * b.val = b.val; omega
  | ⟨2, _⟩ => show win0_1.index t (2 : Fin 3) * 256 + 1 * y.val = t.val % 2 * 256 + y.val; omega

/-- Where an index of the output's block `t` lies in the result. -/
theorem emb2 (t : Fin cfg0.N) (j : S1x512x256.Idx) :
    ((cfg0.win 2).blk t).view.emb j = (ix3 (at0 t) (row t (j 1)) (col t (j 2)) : S1x1024x512.Idx) := by
  obtain ⟨e0, e1, e2⟩ := idx2 t
  idx_vars j
  funext a; apply Fin.ext
  match a with
  | ⟨0, _⟩ => show win0_2.index t (0 : Fin 3) * 1 + 1 * (j0 : Fin 1).val = t.val / 4; omega
  | ⟨1, _⟩ => show win0_2.index t (1 : Fin 3) * 512 + 1 * j1.val = t.val / 2 % 2 * 512 + j1.val; omega
  | ⟨2, _⟩ => show win0_2.index t (2 : Fin 3) * 256 + 1 * j2.val = t.val % 2 * 256 + j2.val; omega

/-- Each point writes back its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2]
  funext j
  show out0_2 (F := Ideal) (iblk m c 0 t) (iblk m c 1 t) j = G (V m c main_arg0) (V m c main_arg1) (((cfg0.win 2).blk t).view.emb j)
  rw [emb2, out_apply]
  show (∑ b : Fin 8, _ : EReal) = (∑ b : Fin 8, _ : EReal)
  refine Finset.sum_congr rfl fun b _ => ?_
  exact congrArg₂ (fun x y : EReal => x * y) (iblk0 m c t (j 1) b) (iblk1 m c t b (j 2))

/-- Every index of the result is in some point's block. -/
theorem covered (i : S1x1024x512.Idx) :
    ∃ t : Fin cfg0.N, (cfg0.win 2).flush t = true ∧ i ∈ ((cfg0.win 2).blk t).view.set := by
  have h0 : (i 0).val < 1 := (i 0).isLt
  have h1 : (i 1).val < 1024 := (i 1).isLt
  have h2 : (i 2).val < 512 := (i 2).isLt
  obtain ⟨t, ht⟩ : ∃ t : Fin cfg0.N, t.val = (i 0).val * 4 + (i 1).val / 512 * 2 + (i 2).val / 256 :=
    ⟨⟨(i 0).val * 4 + (i 1).val / 512 * 2 + (i 2).val / 256, by show _ < 4; omega⟩, rfl⟩
  obtain ⟨r1, hr1⟩ : ∃ r : Fin 512, r.val = (i 1).val % 512 := ⟨⟨(i 1).val % 512, by omega⟩, rfl⟩
  obtain ⟨r2, hr2⟩ : ∃ r : Fin 256, r.val = (i 2).val % 256 := ⟨⟨(i 2).val % 256, by omega⟩, rfl⟩
  refine ⟨t, flush0_2 _, ?_⟩
  have h := ((cfg0.win 2).blk t).view.emb_mem_set (ix3 (0 : Fin 1) r1 r2 : S1x512x256.Idx)
  have e : ((cfg0.win 2).blk t).view.emb (ix3 (0 : Fin 1) r1 r2 : S1x512x256.Idx) = i := by
    rw [emb2]
    funext a; apply Fin.ext
    match a with
    | ⟨0, _⟩ => show t.val / 4 = (i 0).val; omega
    | ⟨1, _⟩ => show t.val / 2 % 2 * 512 + r1.val = (i 1).val; omega
    | ⟨2, _⟩ => show t.val % 2 * 256 + r2.val = (i 2).val; omega
  rw [e] at h
  exact h

/-- The run: the result is `G` of the arguments, which end unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
      ((dats m 0 c).arrAt_eq_of_cover 2 _ (fun t _ => flushed_eq m c t) covered), (h c).2⟩) (Value.run_blocks m ρ)

end Cert.KvModWIdeal.Hand

namespace Cert.Proof

open Idealize.ShloMosaic Idealize.ShloMosaic.TcCoe Idealize.SL.Sem
open Cert.KvModWRefIdeal.Read

/-- The reference's result, at every index. -/
theorem kvModW_ref (a : Vec Ideal Cert.KvModWIdeal.S1024x8 .f32) (b : Vec Ideal Cert.KvModWIdeal.S1x8x512 .f32) :
    val_main_v6 (F := Ideal) a b = Cert.KvModWIdeal.Hand.G a b := by
  funext j
  idx_vars j
  have e0 : j0 = (0 : Fin 1) := Subsingleton.elim _ _
  rw [e0]
  refine Eq.trans (b := (∑ k : Fin 8, (show EReal from b (ix3 (0 : Fin 1) k j2)) * (show EReal from a (ix2 j1 k)) : EReal)) ?_ (Finset.sum_congr rfl fun k _ => mul_comm _ _)
  pointwise [val_main_v6, val_main_v5, val_main_v4, val_main_v1]

/-- The kernel's call and the reference, from memories that agree on the arguments, end with equal results. -/
theorem kvModW : Cert.algebraic_KvModWIdeal_KvModWRefIdeal (hKvModWIdeal := Cert.KvModWIdeal.Gen.facts) (hKvModWRefIdeal := Cert.KvModWRefIdeal.Gen.facts) := by
  intro m ρ m' ρ' _ hag
  refine ⟨fun c => Cert.KvModWIdeal.Hand.G (m ((c.tc : Thread Cert.KvModWIdeal.nD Cert.KvModWIdeal.τ).loc Cert.KvModWIdeal.main_arg0)) (m ((c.tc : Thread Cert.KvModWIdeal.nD Cert.KvModWIdeal.τ).loc Cert.KvModWIdeal.main_arg1)),
    Cert.KvModWIdeal.Hand.run m ρ, (θ_run _ _ _).mono (fun _ h c => ⟨(h c).1.trans ?_, (h c).2⟩) (Cert.KvModWRefIdeal.Value.run m' ρ')⟩
  rw [val_main_v6_eq, (hag c).1, (hag c).2]
  exact kvModW_ref _ _

end Cert.Proof

end
-- ==== Proof.SmallSum.lean ====
/-
  Hand-written. The small weights' gradients, packed into one array: the kernel's call and the reference end with the same
  array, the sum of the eight sequences' arrays.
-/
module

public import proofs.«01_k».proof.Defs
public import proofs.«01_k».proof.Proof.Gen.SmallSumIdeal.Value
public import proofs.«01_k».proof.Proof.Gen.SmallSumRefIdeal.Run
public import proofs.«01_k».proof.Proof.Gen.SmallSumRefIdeal.Read
public import Idealize.ShloMosaic.Lib.Pointwise

@[expose] public section

set_option maxRecDepth 16384

noncomputable section

namespace Cert.SmallSumIdeal.Hand

open Cert.SmallSumIdeal Cert.SmallSumIdeal.Gen Idealize.ShloMosaic Idealize.ShloMosaic.TcCoe Idealize.SL.Sem

/-- The load of sequence `b`'s array, at an index. -/
theorem ld_g (g : Vec Ideal S8x8x7936 .f32) (r : Fin 8) (n : Fin 7936) (b : Fin 8) (inb) :
    View.ld g (Rect.unit (s := S8x8x7936) ![b.val, 0, 0] S1x8x7936.size inb) (ix3 (0 : Fin 1) r n : S1x8x7936.Idx) = g (ix3 b r n) := by
  refine congrArg g (funext fun a => Fin.ext ?_)
  match a with
  | ⟨0, _⟩ => show b.val + 1 * 0 = b.val; omega
  | ⟨1, _⟩ => show 0 + 1 * r.val = r.val; omega
  | ⟨2, _⟩ => show 0 + 1 * n.val = n.val; omega

/-- The kernel's result, at an index. -/
theorem G1_apply (g : Vec Ideal S8x8x7936 .f32) (r : Fin 8) (n : Fin 7936) :
    Value.G1 (F := Ideal) g (ix2 r n) = Finset.univ.sum (M := EReal) fun b : Fin 8 => g (ix3 b r n) := by
  rw [Fin.sum_univ_eight]
  rw [← ld_g g r n 0 inb_S8x8x7936_S1x8x7936_0_0_0, ← ld_g g r n 1 inb_S8x8x7936_S1x8x7936_1_0_0, ← ld_g g r n 2 inb_S8x8x7936_S1x8x7936_2_0_0, ← ld_g g r n 3 inb_S8x8x7936_S1x8x7936_3_0_0, ← ld_g g r n 4 inb_S8x8x7936_S1x8x7936_4_0_0, ← ld_g g r n 5 inb_S8x8x7936_S1x8x7936_5_0_0, ← ld_g g r n 6 inb_S8x8x7936_S1x8x7936_6_0_0, ← ld_g g r n 7 inb_S8x8x7936_S1x8x7936_7_0_0]
  pointwise [k0_pay1]

end Cert.SmallSumIdeal.Hand

namespace Cert.Proof

open Idealize.ShloMosaic Idealize.ShloMosaic.TcCoe Idealize.SL.Sem
open Cert.SmallSumRefIdeal.Read

/-- The reference's result is the kernel's. -/
theorem smallSum_ref (g : Vec Ideal Cert.SmallSumIdeal.S8x8x7936 .f32) :
    val_main_v0 (F := Ideal) g = Cert.SmallSumIdeal.Value.G1 (F := Ideal) g := by
  funext j
  idx_vars j
  refine Eq.trans ?_ (Cert.SmallSumIdeal.Hand.G1_apply g j0 j1).symm
  pointwise [val_main_v0]
  exact (congrArg (fun z : EReal => z + Finset.univ.sum (M := EReal) fun b : Fin 8 => g (ix3 b j0 j1)) (Ideal.ofBits_zero .f32)).trans (zero_add _)

/-- The kernel's call and the reference, from memories that agree on the argument, end with equal results. -/
theorem smallSum : Cert.algebraic_SmallSumIdeal_SmallSumRefIdeal (hSmallSumIdeal := Cert.SmallSumIdeal.Gen.facts) (hSmallSumRefIdeal := Cert.SmallSumRefIdeal.Gen.facts) := by
  intro m ρ m' ρ' _ hag
  refine ⟨fun c => Cert.SmallSumIdeal.Value.G1 (F := Ideal) (m ((c.tc : Thread Cert.SmallSumIdeal.nD Cert.SmallSumIdeal.τ).loc Cert.SmallSumIdeal.main_arg0)),
    Cert.SmallSumIdeal.Value.run m ρ, (θ_run _ _ _).mono (fun _ h c => ⟨(h c).1.trans ?_, (h c).2⟩) (Cert.SmallSumRefIdeal.Value.run m' ρ')⟩
  rw [val_main_v0_eq, hag c]
  exact smallSum_ref _

end Cert.Proof

end
-- ==== Proof.GradSum.lean ====
/-
  Hand-written. What the calls that sum a large weight's gradient over the devices have in common: the sum of the five parts,
  written in the first block of an array of two blocks a layer.
-/
module

public import proofs.«01_k».proof.Proof.AllReal
public import Idealize.ShloMosaic.Lib.Pointwise
public import Idealize.ShloMosaic.Lib.WordCmp

@[expose] public section

noncomputable section

namespace Cert.Proof

open Idealize.ShloMosaic

/-- The sum of the five parts at a row and a column: the device's own, its sibling's and those of the three other chips. -/
def gradTotal {R C : ℕ} (g : Vec Ideal ⟨5, ![1, 4, 2, R, C]⟩ .bf16) (r : Vec Ideal ⟨4, ![1, 4, R, C]⟩ .bf16) (t : Vec Ideal ⟨4, ![3, 1, R, C]⟩ .bf16)
    (a : Fin R) (b : Fin C) : EReal :=
  (show EReal from g (ix5 (0 : Fin 1) (0 : Fin 4) (0 : Fin 2) a b)) + (show EReal from r (ix4 (0 : Fin 1) (0 : Fin 4) a b))
    + (show EReal from t (ix4 (0 : Fin 3) (0 : Fin 1) a b)) + (show EReal from t (ix4 (1 : Fin 3) (0 : Fin 1) a b))
    + (show EReal from t (ix4 (2 : Fin 3) (0 : Fin 1) a b))

/-- The result: the sum in the first block, the array as it was elsewhere. -/
def gradOf {n R C : ℕ} (g : Vec Ideal ⟨5, ![1, 4, 2, R, C]⟩ .bf16) (r : Vec Ideal ⟨4, ![1, 4, R, C]⟩ .bf16) (t : Vec Ideal ⟨4, ![3, 1, R, C]⟩ .bf16)
    (full : Vec Ideal ⟨4, ![n, 2, R, C]⟩ .f32) : Vec Ideal ⟨4, ![n, 2, R, C]⟩ .f32 :=
  fun i => if (i 0).val = 0 ∧ (i 1).val = 0 then gradTotal g r t (i 2) (i 3) else full i

/-- One of the three parts from the other chips. -/
abbrev part {T C : ℕ} (x : Vec Ideal ⟨4, ![3, 1, T, C]⟩ .bf16) (k : Fin 3) (inb : ∀ a, (![k.val, 0, 0, 0] : Fin 4 → ℕ) a + (⟨4, ![1, 1, T, C]⟩ : Shape).size a ≤ (⟨4, ![3, 1, T, C]⟩ : Shape).size a) :
    Vec Ideal ⟨4, ![1, 1, T, C]⟩ .bf16 :=
  View.ld x (Rect.unit (s := ⟨4, ![3, 1, T, C]⟩) ![k.val, 0, 0, 0] (⟨4, ![1, 1, T, C]⟩ : Shape).size inb)

theorem part_apply {T C : ℕ} (x : Vec Ideal ⟨4, ![3, 1, T, C]⟩ .bf16) (k : Fin 3) (inb : ∀ a, (![k.val, 0, 0, 0] : Fin 4 → ℕ) a + (⟨4, ![1, 1, T, C]⟩ : Shape).size a ≤ (⟨4, ![3, 1, T, C]⟩ : Shape).size a)
    (a : Fin T) (b : Fin C) : part x k inb (ix4 (0 : Fin 1) (0 : Fin 1) a b) = x (ix4 k (0 : Fin 1) a b) := by
  refine congrArg x (funext fun d => Fin.ext ?_)
  match d with
  | ⟨0, _⟩ => show k.val + 1 * 0 = k.val; omega
  | ⟨1, _⟩ => rfl
  | ⟨2, _⟩ => show 0 + 1 * a.val = a.val; omega
  | ⟨3, _⟩ => show 0 + 1 * b.val = b.val; omega

/-- An update at the first block writes that block and leaves the others. -/
theorem update_block {n R C : ℕ} (g : Vec Ideal ⟨5, ![1, 4, 2, R, C]⟩ .bf16) (r : Vec Ideal ⟨4, ![1, 4, R, C]⟩ .bf16) (t : Vec Ideal ⟨4, ![3, 1, R, C]⟩ .bf16)
    (full : Vec Ideal ⟨4, ![n, 2, R, C]⟩ .f32) (u : Vec Ideal ⟨4, ![1, 1, R, C]⟩ .f32) (start : Fin 4 → ℤ)
    (h : Shape.Slices ⟨4, ![n, 2, R, C]⟩ (fun _ => 0) ⟨4, ![1, 1, R, C]⟩) (h0 : ∀ k, start k = 0)
    (hu : ∀ a b, u (ix4 (0 : Fin 1) (0 : Fin 1) a b) = gradTotal g r t a b) :
    Host.dynamicUpdateSlice full u start h = gradOf g r t full := by
  rw [WordCmp.dynamicUpdateSlice_eq_update _ _ _ _ (fun _ => 0) h h0]
  funext i
  rw [updateSlice_apply]
  have l2 : (i 2).val < R := (i 2).isLt
  have l3 : (i 3).val < C := (i 3).isLt
  by_cases hi : (i 0).val = 0 ∧ (i 1).val = 0
  · obtain ⟨e0, e1⟩ := hi
    refine (dif_pos fun d => ?_).trans (Eq.trans (congrArg u ?_) ((hu (i 2) (i 3)).trans (if_pos ⟨e0, e1⟩).symm))
    · match d with
      | ⟨0, _⟩ => exact ⟨Nat.zero_le _, by show (i 0).val < 0 + 1; omega⟩
      | ⟨1, _⟩ => exact ⟨Nat.zero_le _, by show (i 1).val < 0 + 1; omega⟩
      | ⟨2, _⟩ => exact ⟨Nat.zero_le _, by show (i 2).val < 0 + R; omega⟩
      | ⟨3, _⟩ => exact ⟨Nat.zero_le _, by show (i 3).val < 0 + C; omega⟩
    · funext d; apply Fin.ext
      match d with
      | ⟨0, _⟩ => exact e0
      | ⟨1, _⟩ => exact e1
      | ⟨2, _⟩ => rfl
      | ⟨3, _⟩ => rfl
  · refine (dif_neg ?_).trans (if_neg hi).symm
    intro hd
    have h0 : (i 0).val < 0 + 1 := (hd 0).2
    have h1 : (i 1).val < 0 + 1 := (hd 1).2
    exact hi ⟨by omega, by omega⟩

end Cert.Proof

end
-- ==== Proof.GradGu.lean ====
/-
  Hand-written. A block of the gradient of `w_gu`, summed over the devices: the kernel's call and the reference end with the
  same array, the sum of the five parts in the block and the array as it was elsewhere.
-/
module

public import proofs.«01_k».proof.Defs
public import proofs.«01_k».proof.Proof.Gen.GradGuIdeal.Value
public import proofs.«01_k».proof.Proof.Gen.GradGuRefIdeal.Run
public import proofs.«01_k».proof.Proof.Gen.GradGuRefIdeal.Read
public import Idealize.ShloMosaic.Lib.Pipeline.Value
public import Idealize.ShloMosaic.Lib.Pipeline.ValueKit
public import Idealize.ShloMosaic.Lib.Pointwise
public import proofs.«01_k».proof.Proof.GradSum

@[expose] public section

set_option maxRecDepth 16384

noncomputable section

namespace Cert.GradGuIdeal.Hand

open Cert.GradGuIdeal Cert.GradGuIdeal.Gen Idealize.ShloMosaic Idealize.ShloMosaic.TcCoe Idealize.SL.Sem
open Idealize.ShloMosaic.Pipeline (Dat)

open Cert.Proof (gradTotal gradOf part part_apply)

/-- The payload at an index. -/
theorem pay_apply (g : Vec Ideal S1x1x1x256x1408 .bf16) (r t0 t1 t2 : Vec Ideal S1x1x256x1408 .bf16) (a : Fin 256) (b : Fin 1408) :
    k0_pay1 (F := Ideal) g r t0 t1 t2 (ix4 (0 : Fin 1) (0 : Fin 1) a b)
      = ((show EReal from g (ix5 (0 : Fin 1) (0 : Fin 1) (0 : Fin 1) a b)) + (show EReal from r (ix4 (0 : Fin 1) (0 : Fin 1) a b))
        + (show EReal from t0 (ix4 (0 : Fin 1) (0 : Fin 1) a b)) + (show EReal from t1 (ix4 (0 : Fin 1) (0 : Fin 1) a b))
        + (show EReal from t2 (ix4 (0 : Fin 1) (0 : Fin 1) a b)) : EReal) := by
  pointwise [k0_pay1]

variable (m : (ℓ : Loc nD τ sig) → Buf (Elt Ideal) ℓ) (ρ : Dev nD → PrngReg)

/-- What a point leaves in its block. -/
theorem out_eq (c : Dev nD) (t : Fin cfg0.N) :
    outsAt0 m c t = k0_pay1 (F := Ideal) (iblk m c 0 t) (iblk m c 1 t) (part (iblk m c 2 t) 0 inb_S3x1x256x1408_S1x1x256x1408_0_0_0_0)
      (part (iblk m c 2 t) 1 inb_S3x1x256x1408_S1x1x256x1408_1_0_0_0) (part (iblk m c 2 t) 2 inb_S3x1x256x1408_S1x1x256x1408_2_0_0_0) := by
  unfold outsAt0
  frame_out
  rfl

/-! ## The blocks the points work on -/

theorem idx0 : ∀ t : Fin cfg0.N, win0_0.index t = ![0, 0, 0, t.val, 0] := (by decide +kernel : ∀ t : Fin grid0.N, _)
theorem idx1 : ∀ t : Fin cfg0.N, win0_1.index t = ![0, 0, t.val, 0] := (by decide +kernel : ∀ t : Fin grid0.N, _)
theorem idx2 : ∀ t : Fin cfg0.N, win0_2.index t = ![0, 0, t.val, 0] := (by decide +kernel : ∀ t : Fin grid0.N, _)
theorem idx3 : ∀ t : Fin cfg0.N, win0_3.index t = ![0, 0, t.val, 0] := (by decide +kernel : ∀ t : Fin grid0.N, _)

/-- The row of the array that row `a` of point `t`'s block is. -/
def rowOf (t : Fin cfg0.N) (a : Fin 256) : Fin 512 := ⟨t.val * 256 + a.val, by have h : t.val < 2 := t.isLt; omega⟩

theorem iblk0 (c : Dev nD) (t : Fin cfg0.N) (a : Fin 256) (b : Fin 1408) :
    iblk m c 0 t (ix5 (0 : Fin 1) (0 : Fin 1) (0 : Fin 1) a b) = m ((c : Thread nD τ).loc main_arg0) (ix5 (0 : Fin 1) (0 : Fin 4) (0 : Fin 2) (rowOf t a) b) := by
  show V m c main_arg0 (((cfg0.win 0).blk t).view.emb (ix5 (0 : Fin 1) (0 : Fin 1) (0 : Fin 1) a b)) = _
  refine Eq.trans ?_ (congrFun (V_main_arg0 m c) _)
  congr 1
  funext d; apply Fin.ext
  have e := congrFun (idx0 t) d
  match d with
  | ⟨0, _⟩ => show win0_0.index t (0 : Fin 5) * 1 + 1 * 0 = 0; rw [show win0_0.index t (0 : Fin 5) = 0 from e]
  | ⟨1, _⟩ => show win0_0.index t (1 : Fin 5) * 1 + 1 * 0 = 0; rw [show win0_0.index t (1 : Fin 5) = 0 from e]
  | ⟨2, _⟩ => show win0_0.index t (2 : Fin 5) * 1 + 1 * 0 = 0; rw [show win0_0.index t (2 : Fin 5) = 0 from e]
  | ⟨3, _⟩ => show win0_0.index t (3 : Fin 5) * 256 + 1 * a.val = t.val * 256 + a.val; rw [show win0_0.index t (3 : Fin 5) = t.val from e]; omega
  | ⟨4, _⟩ => show win0_0.index t (4 : Fin 5) * 1408 + 1 * b.val = b.val; rw [show win0_0.index t (4 : Fin 5) = 0 from e]; omega

theorem iblk1 (c : Dev nD) (t : Fin cfg0.N) (a : Fin 256) (b : Fin 1408) :
    iblk m c 1 t (ix4 (0 : Fin 1) (0 : Fin 1) a b) = m ((c : Thread nD τ).loc main_arg1) (ix4 (0 : Fin 1) (0 : Fin 4) (rowOf t a) b) := by
  show V m c main_arg1 (((cfg0.win 1).blk t).view.emb (ix4 (0 : Fin 1) (0 : Fin 1) a b)) = _
  refine Eq.trans ?_ (congrFun (V_main_arg1 m c) _)
  congr 1
  funext d; apply Fin.ext
  have e := congrFun (idx1 t) d
  match d with
  | ⟨0, _⟩ => show win0_1.index t (0 : Fin 4) * 1 + 1 * 0 = 0; rw [show win0_1.index t (0 : Fin 4) = 0 from e]
  | ⟨1, _⟩ => show win0_1.index t (1 : Fin 4) * 1 + 1 * 0 = 0; rw [show win0_1.index t (1 : Fin 4) = 0 from e]
  | ⟨2, _⟩ => show win0_1.index t (2 : Fin 4) * 256 + 1 * a.val = t.val * 256 + a.val; rw [show win0_1.index t (2 : Fin 4) = t.val from e]; omega
  | ⟨3, _⟩ => show win0_1.index t (3 : Fin 4) * 1408 + 1 * b.val = b.val; rw [show win0_1.index t (3 : Fin 4) = 0 from e]; omega

theorem iblk2 (c : Dev nD) (t : Fin cfg0.N) (k : Fin 3) (a : Fin 256) (b : Fin 1408) :
    iblk m c 2 t (ix4 k (0 : Fin 1) a b) = m ((c : Thread nD τ).loc main_arg2) (ix4 k (0 : Fin 1) (rowOf t a) b) := by
  show V m c main_arg2 (((cfg0.win 2).blk t).view.emb (ix4 k (0 : Fin 1) a b)) = _
  refine Eq.trans ?_ (congrFun (V_main_arg2 m c) _)
  congr 1
  funext d; apply Fin.ext
  have e := congrFun (idx2 t) d
  match d with
  | ⟨0, _⟩ => show win0_2.index t (0 : Fin 4) * 3 + 1 * k.val = k.val; rw [show win0_2.index t (0 : Fin 4) = 0 from e]; omega
  | ⟨1, _⟩ => show win0_2.index t (1 : Fin 4) * 1 + 1 * 0 = 0; rw [show win0_2.index t (1 : Fin 4) = 0 from e]
  | ⟨2, _⟩ => show win0_2.index t (2 : Fin 4) * 256 + 1 * a.val = t.val * 256 + a.val; rw [show win0_2.index t (2 : Fin 4) = t.val from e]; omega
  | ⟨3, _⟩ => show win0_2.index t (3 : Fin 4) * 1408 + 1 * b.val = b.val; rw [show win0_2.index t (3 : Fin 4) = 0 from e]; omega

/-- Where an index of a point's block lies in the result. -/
theorem emb3 (t : Fin cfg0.N) (j : S1x1x256x1408.Idx) :
    ((cfg0.win 3).blk t).view.emb j = (ix4 (0 : Fin 8) (0 : Fin 2) (rowOf t (j 2)) (j 3) : S8x2x512x1408.Idx) := by
  idx_vars j
  funext d; apply Fin.ext
  have e := congrFun (idx3 t) d
  match d with
  | ⟨0, _⟩ => show win0_3.index t (0 : Fin 4) * 1 + 1 * j0.val = 0; rw [show win0_3.index t (0 : Fin 4) = 0 from e]; omega
  | ⟨1, _⟩ => show win0_3.index t (1 : Fin 4) * 1 + 1 * j1.val = 0; rw [show win0_3.index t (1 : Fin 4) = 0 from e]; omega
  | ⟨2, _⟩ => show win0_3.index t (2 : Fin 4) * 256 + 1 * j2.val = t.val * 256 + j2.val; rw [show win0_3.index t (2 : Fin 4) = t.val from e]; omega
  | ⟨3, _⟩ => show win0_3.index t (3 : Fin 4) * 1408 + 1 * j3.val = j3.val; rw [show win0_3.index t (3 : Fin 4) = 0 from e]; omega

/-- The region finds the result as a copy of the array that it is laid over. -/
theorem entry (c : Dev nD) : V m c main_v0 = m ((c : Thread nD τ).loc main_arg3) := by
  show StableHlo.after hostOps0 _ _ = _
  rfl

/-- An index in the first block is the image of one of a point's. -/
theorem covered (i : S8x2x512x1408.Idx) (h0 : (i 0).val = 0) (h1 : (i 1).val = 0) :
    ∃ (t : Fin cfg0.N) (j : S1x1x256x1408.Idx), ((cfg0.win 3).blk t).view.emb j = i := by
  have h2 : (i 2).val < 512 := (i 2).isLt
  obtain ⟨t, ht⟩ : ∃ t : Fin cfg0.N, t.val = (i 2).val / 256 := ⟨⟨(i 2).val / 256, by show _ < 2; omega⟩, rfl⟩
  obtain ⟨r, hr⟩ : ∃ r : Fin 256, r.val = (i 2).val % 256 := ⟨⟨(i 2).val % 256, by omega⟩, rfl⟩
  refine ⟨t, (ix4 (0 : Fin 1) (0 : Fin 1) r (i 3) : S1x1x256x1408.Idx), ?_⟩
  rw [emb3]
  funext d; apply Fin.ext
  match d with
  | ⟨0, _⟩ => exact h0.symm
  | ⟨1, _⟩ => exact h1.symm
  | ⟨2, _⟩ => show t.val * 256 + r.val = (i 2).val; omega
  | ⟨3, _⟩ => rfl

/-- The array after the last point. -/
theorem final_eq (c : Dev nD) : (dats m 0 c).arrAt 3 cfg0.N
    = gradOf (m ((c : Thread nD τ).loc main_arg0)) (m ((c : Thread nD τ).loc main_arg1)) (m ((c : Thread nD τ).loc main_arg2)) (m ((c : Thread nD τ).loc main_arg3)) := by
  funext i
  by_cases h : (i 0).val = 0 ∧ (i 1).val = 0
  · obtain ⟨t, j, rfl⟩ := covered i h.1 h.2
    refine (congrFun (Value.blocks3 m c t (flush0_3 t)) j).trans ?_
    rw [Value.flushed3]
    show outsAt0 m c t j = gradOf _ _ _ _ _
    rw [emb3, out_eq]
    idx_vars j
    fin_cases j0; fin_cases j1
    refine (pay_apply _ _ _ _ _ j2 j3).trans ?_
    refine Eq.trans ?_ (if_pos ⟨rfl, rfl⟩).symm
    refine congrArg₂ (fun x y : EReal => x + y) (congrArg₂ (fun x y : EReal => x + y) (congrArg₂ (fun x y : EReal => x + y)
      (congrArg₂ (fun x y : EReal => x + y) (iblk0 m c t j2 j3) (iblk1 m c t j2 j3)) ?_) ?_) ?_
    · exact (part_apply _ 0 _ j2 j3).trans (iblk2 m c t 0 j2 j3)
    · exact (part_apply _ 1 _ j2 j3).trans (iblk2 m c t 1 j2 j3)
    · exact (part_apply _ 2 _ j2 j3).trans (iblk2 m c t 2 j2 j3)
  · refine (Value.entry3 m c i fun t _ hi => h ?_).trans ((congrFun (entry m c) i).trans (if_neg h).symm)
    obtain ⟨j, rfl⟩ := View.exists_emb_of_mem_set _ hi
    rw [emb3]
    exact ⟨rfl, rfl⟩

/-- The run: the result is `gradOf` of the arguments, which end unchanged. -/
theorem run : θ_run defs (onTc (τ := τ) (main (F := Ideal))) ⟨m, fun _ => 0, ρ⟩ fun r => ∀ c : Dev nD,
      r.2.mem ((c : Thread nD τ).loc main_v0) = gradOf (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_eq m c), (h c).2⟩) (Value.run_blocks m ρ)

end Cert.GradGuIdeal.Hand

namespace Cert.Proof

open Idealize.ShloMosaic Idealize.ShloMosaic.TcCoe Idealize.SL.Sem
open Cert.GradGuRefIdeal.Read

/-- The sum of the five parts in the reference. -/
theorem gradGu_total (g : Vec Ideal Cert.GradGuIdeal.S1x4x2x512x1408 .bf16) (r : Vec Ideal Cert.GradGuIdeal.S1x4x512x1408 .bf16)
    (t : Vec Ideal Cert.GradGuIdeal.S3x1x512x1408 .bf16) (a : Fin 512) (b : Fin 1408) :
    val_main_v10 (F := Ideal) g r t (ix4 (0 : Fin 1) (0 : Fin 1) a b) = gradTotal g r t a b := by
  refine Eq.trans (b := (∑ k : Fin 5, (show EReal from val_main_v8 (F := Ideal) g r t (ix3 k a b)) : EReal)) ?_ ?_
  · unfold val_main_v10 val_main_v9
    generalize val_main_v8 (F := Ideal) g r t = v
    pointwise [val_main_cst]
  · rw [Fin.sum_univ_five]
    pointwise [val_main_v8, val_main_v7, val_main_v6, val_main_v5, val_main_v4, val_main_v3, val_main_v2, val_main_v1, val_main_v0]
    rfl

/-- The reference's result. -/
theorem gradGu_ref (g : Vec Ideal Cert.GradGuIdeal.S1x4x2x512x1408 .bf16) (r : Vec Ideal Cert.GradGuIdeal.S1x4x512x1408 .bf16)
    (t : Vec Ideal Cert.GradGuIdeal.S3x1x512x1408 .bf16) (full : Vec Ideal Cert.GradGuIdeal.S8x2x512x1408 .f32) :
    val_main_v11 (F := Ideal) g r t full = gradOf g r t full :=
  update_block g r t full _ _ _ (fun k => by fin_cases k <;> rfl) (gradGu_total g r t)

/-- The kernel's call and the reference, from memories that agree on the arguments, end with equal results. -/
theorem gradGu : Cert.algebraic_GradGuIdeal_GradGuRefIdeal (hGradGuIdeal := Cert.GradGuIdeal.Gen.facts) (hGradGuRefIdeal := Cert.GradGuRefIdeal.Gen.facts) := by
  intro m ρ m' ρ' _ hag
  refine ⟨_, Cert.GradGuIdeal.Hand.run m ρ, (θ_run _ _ _).mono (fun _ h c => ⟨(h c).1.trans ?_, (h c).2⟩) (Cert.GradGuRefIdeal.Value.run m' ρ')⟩
  refine (val_main_v11_eq _ _ _ _).trans ((gradGu_ref _ _ _ _).trans ?_)
  rw [(hag c).1, (hag c).2.1, (hag c).2.2.1, (hag c).2.2.2]

end Cert.Proof

end
-- ==== Proof.GradDown.lean ====
/-
  Hand-written. A block of the gradient of `w_down`, summed over the devices: the kernel's call and the reference end with the
  same array, the sum of the five parts in the block and the array as it was elsewhere.
-/
module

public import proofs.«01_k».proof.Defs
public import proofs.«01_k».proof.Proof.Gen.GradDownIdeal.Value
public import proofs.«01_k».proof.Proof.Gen.GradDownRefIdeal.Run
public import proofs.«01_k».proof.Proof.Gen.GradDownRefIdeal.Read
public import Idealize.ShloMosaic.Lib.Pipeline.Value
public import Idealize.ShloMosaic.Lib.Pipeline.ValueKit
public import Idealize.ShloMosaic.Lib.Pointwise
public import proofs.«01_k».proof.Proof.GradSum

@[expose] public section

set_option maxRecDepth 16384

noncomputable section

namespace Cert.GradDownIdeal.Hand

open Cert.GradDownIdeal Cert.GradDownIdeal.Gen Idealize.ShloMosaic Idealize.ShloMosaic.TcCoe Idealize.SL.Sem
open Idealize.ShloMosaic.Pipeline (Dat)

open Cert.Proof (gradTotal gradOf part part_apply)

/-- The payload at an index. -/
theorem pay_apply (g : Vec Ideal S1x1x1x352x1024 .bf16) (r t0 t1 t2 : Vec Ideal S1x1x352x1024 .bf16) (a : Fin 352) (b : Fin 1024) :
    k0_pay1 (F := Ideal) g r t0 t1 t2 (ix4 (0 : Fin 1) (0 : Fin 1) a b)
      = ((show EReal from g (ix5 (0 : Fin 1) (0 : Fin 1) (0 : Fin 1) a b)) + (show EReal from r (ix4 (0 : Fin 1) (0 : Fin 1) a b))
        + (show EReal from t0 (ix4 (0 : Fin 1) (0 : Fin 1) a b)) + (show EReal from t1 (ix4 (0 : Fin 1) (0 : Fin 1) a b))
        + (show EReal from t2 (ix4 (0 : Fin 1) (0 : Fin 1) a b)) : EReal) := by
  pointwise [k0_pay1]

variable (m : (ℓ : Loc nD τ sig) → Buf (Elt Ideal) ℓ) (ρ : Dev nD → PrngReg)

/-- What a point leaves in its block. -/
theorem out_eq (c : Dev nD) (t : Fin cfg0.N) :
    outsAt0 m c t = k0_pay1 (F := Ideal) (iblk m c 0 t) (iblk m c 1 t) (part (iblk m c 2 t) 0 inb_S3x1x352x1024_S1x1x352x1024_0_0_0_0)
      (part (iblk m c 2 t) 1 inb_S3x1x352x1024_S1x1x352x1024_1_0_0_0) (part (iblk m c 2 t) 2 inb_S3x1x352x1024_S1x1x352x1024_2_0_0_0) := by
  unfold outsAt0
  frame_out
  rfl

/-! ## The blocks the points work on -/

theorem idx0 : ∀ t : Fin cfg0.N, win0_0.index t = ![0, 0, 0, t.val, 0] := (by decide +kernel : ∀ t : Fin grid0.N, _)
theorem idx1 : ∀ t : Fin cfg0.N, win0_1.index t = ![0, 0, t.val, 0] := (by decide +kernel : ∀ t : Fin grid0.N, _)
theorem idx2 : ∀ t : Fin cfg0.N, win0_2.index t = ![0, 0, t.val, 0] := (by decide +kernel : ∀ t : Fin grid0.N, _)
theorem idx3 : ∀ t : Fin cfg0.N, win0_3.index t = ![0, 0, t.val, 0] := (by decide +kernel : ∀ t : Fin grid0.N, _)

/-- The row of the array that row `a` of point `t`'s block is. -/
def rowOf (t : Fin cfg0.N) (a : Fin 352) : Fin 352 := ⟨t.val * 352 + a.val, by have h : t.val < 1 := t.isLt; omega⟩

theorem iblk0 (c : Dev nD) (t : Fin cfg0.N) (a : Fin 352) (b : Fin 1024) :
    iblk m c 0 t (ix5 (0 : Fin 1) (0 : Fin 1) (0 : Fin 1) a b) = m ((c : Thread nD τ).loc main_arg0) (ix5 (0 : Fin 1) (0 : Fin 4) (0 : Fin 2) (rowOf t a) b) := by
  show V m c main_arg0 (((cfg0.win 0).blk t).view.emb (ix5 (0 : Fin 1) (0 : Fin 1) (0 : Fin 1) a b)) = _
  refine Eq.trans ?_ (congrFun (V_main_arg0 m c) _)
  congr 1
  funext d; apply Fin.ext
  have e := congrFun (idx0 t) d
  match d with
  | ⟨0, _⟩ => show win0_0.index t (0 : Fin 5) * 1 + 1 * 0 = 0; rw [show win0_0.index t (0 : Fin 5) = 0 from e]
  | ⟨1, _⟩ => show win0_0.index t (1 : Fin 5) * 1 + 1 * 0 = 0; rw [show win0_0.index t (1 : Fin 5) = 0 from e]
  | ⟨2, _⟩ => show win0_0.index t (2 : Fin 5) * 1 + 1 * 0 = 0; rw [show win0_0.index t (2 : Fin 5) = 0 from e]
  | ⟨3, _⟩ => show win0_0.index t (3 : Fin 5) * 352 + 1 * a.val = t.val * 352 + a.val; rw [show win0_0.index t (3 : Fin 5) = t.val from e]; omega
  | ⟨4, _⟩ => show win0_0.index t (4 : Fin 5) * 1024 + 1 * b.val = b.val; rw [show win0_0.index t (4 : Fin 5) = 0 from e]; omega

theorem iblk1 (c : Dev nD) (t : Fin cfg0.N) (a : Fin 352) (b : Fin 1024) :
    iblk m c 1 t (ix4 (0 : Fin 1) (0 : Fin 1) a b) = m ((c : Thread nD τ).loc main_arg1) (ix4 (0 : Fin 1) (0 : Fin 4) (rowOf t a) b) := by
  show V m c main_arg1 (((cfg0.win 1).blk t).view.emb (ix4 (0 : Fin 1) (0 : Fin 1) a b)) = _
  refine Eq.trans ?_ (congrFun (V_main_arg1 m c) _)
  congr 1
  funext d; apply Fin.ext
  have e := congrFun (idx1 t) d
  match d with
  | ⟨0, _⟩ => show win0_1.index t (0 : Fin 4) * 1 + 1 * 0 = 0; rw [show win0_1.index t (0 : Fin 4) = 0 from e]
  | ⟨1, _⟩ => show win0_1.index t (1 : Fin 4) * 1 + 1 * 0 = 0; rw [show win0_1.index t (1 : Fin 4) = 0 from e]
  | ⟨2, _⟩ => show win0_1.index t (2 : Fin 4) * 352 + 1 * a.val = t.val * 352 + a.val; rw [show win0_1.index t (2 : Fin 4) = t.val from e]; omega
  | ⟨3, _⟩ => show win0_1.index t (3 : Fin 4) * 1024 + 1 * b.val = b.val; rw [show win0_1.index t (3 : Fin 4) = 0 from e]; omega

theorem iblk2 (c : Dev nD) (t : Fin cfg0.N) (k : Fin 3) (a : Fin 352) (b : Fin 1024) :
    iblk m c 2 t (ix4 k (0 : Fin 1) a b) = m ((c : Thread nD τ).loc main_arg2) (ix4 k (0 : Fin 1) (rowOf t a) b) := by
  show V m c main_arg2 (((cfg0.win 2).blk t).view.emb (ix4 k (0 : Fin 1) a b)) = _
  refine Eq.trans ?_ (congrFun (V_main_arg2 m c) _)
  congr 1
  funext d; apply Fin.ext
  have e := congrFun (idx2 t) d
  match d with
  | ⟨0, _⟩ => show win0_2.index t (0 : Fin 4) * 3 + 1 * k.val = k.val; rw [show win0_2.index t (0 : Fin 4) = 0 from e]; omega
  | ⟨1, _⟩ => show win0_2.index t (1 : Fin 4) * 1 + 1 * 0 = 0; rw [show win0_2.index t (1 : Fin 4) = 0 from e]
  | ⟨2, _⟩ => show win0_2.index t (2 : Fin 4) * 352 + 1 * a.val = t.val * 352 + a.val; rw [show win0_2.index t (2 : Fin 4) = t.val from e]; omega
  | ⟨3, _⟩ => show win0_2.index t (3 : Fin 4) * 1024 + 1 * b.val = b.val; rw [show win0_2.index t (3 : Fin 4) = 0 from e]; omega

/-- Where an index of a point's block lies in the result. -/
theorem emb3 (t : Fin cfg0.N) (j : S1x1x352x1024.Idx) :
    ((cfg0.win 3).blk t).view.emb j = (ix4 (0 : Fin 8) (0 : Fin 2) (rowOf t (j 2)) (j 3) : S8x2x352x1024.Idx) := by
  idx_vars j
  funext d; apply Fin.ext
  have e := congrFun (idx3 t) d
  match d with
  | ⟨0, _⟩ => show win0_3.index t (0 : Fin 4) * 1 + 1 * j0.val = 0; rw [show win0_3.index t (0 : Fin 4) = 0 from e]; omega
  | ⟨1, _⟩ => show win0_3.index t (1 : Fin 4) * 1 + 1 * j1.val = 0; rw [show win0_3.index t (1 : Fin 4) = 0 from e]; omega
  | ⟨2, _⟩ => show win0_3.index t (2 : Fin 4) * 352 + 1 * j2.val = t.val * 352 + j2.val; rw [show win0_3.index t (2 : Fin 4) = t.val from e]; omega
  | ⟨3, _⟩ => show win0_3.index t (3 : Fin 4) * 1024 + 1 * j3.val = j3.val; rw [show win0_3.index t (3 : Fin 4) = 0 from e]; omega

/-- The region finds the result as a copy of the array that it is laid over. -/
theorem entry (c : Dev nD) : V m c main_v0 = m ((c : Thread nD τ).loc main_arg3) := by
  show StableHlo.after hostOps0 _ _ = _
  rfl

/-- An index in the first block is the image of one of a point's. -/
theorem covered (i : S8x2x352x1024.Idx) (h0 : (i 0).val = 0) (h1 : (i 1).val = 0) :
    ∃ (t : Fin cfg0.N) (j : S1x1x352x1024.Idx), ((cfg0.win 3).blk t).view.emb j = i := by
  have h2 : (i 2).val < 352 := (i 2).isLt
  obtain ⟨t, ht⟩ : ∃ t : Fin cfg0.N, t.val = (i 2).val / 352 := ⟨⟨(i 2).val / 352, by show _ < 1; omega⟩, rfl⟩
  obtain ⟨r, hr⟩ : ∃ r : Fin 352, r.val = (i 2).val % 352 := ⟨⟨(i 2).val % 352, by omega⟩, rfl⟩
  refine ⟨t, (ix4 (0 : Fin 1) (0 : Fin 1) r (i 3) : S1x1x352x1024.Idx), ?_⟩
  rw [emb3]
  funext d; apply Fin.ext
  match d with
  | ⟨0, _⟩ => exact h0.symm
  | ⟨1, _⟩ => exact h1.symm
  | ⟨2, _⟩ => show t.val * 352 + r.val = (i 2).val; omega
  | ⟨3, _⟩ => rfl

/-- The array after the last point. -/
theorem final_eq (c : Dev nD) : (dats m 0 c).arrAt 3 cfg0.N
    = gradOf (m ((c : Thread nD τ).loc main_arg0)) (m ((c : Thread nD τ).loc main_arg1)) (m ((c : Thread nD τ).loc main_arg2)) (m ((c : Thread nD τ).loc main_arg3)) := by
  funext i
  by_cases h : (i 0).val = 0 ∧ (i 1).val = 0
  · obtain ⟨t, j, rfl⟩ := covered i h.1 h.2
    refine (congrFun (Value.blocks3 m c t (flush0_3 t)) j).trans ?_
    rw [Value.flushed3]
    show outsAt0 m c t j = gradOf _ _ _ _ _
    rw [emb3, out_eq]
    idx_vars j
    fin_cases j0; fin_cases j1
    refine (pay_apply _ _ _ _ _ j2 j3).trans ?_
    refine Eq.trans ?_ (if_pos ⟨rfl, rfl⟩).symm
    refine congrArg₂ (fun x y : EReal => x + y) (congrArg₂ (fun x y : EReal => x + y) (congrArg₂ (fun x y : EReal => x + y)
      (congrArg₂ (fun x y : EReal => x + y) (iblk0 m c t j2 j3) (iblk1 m c t j2 j3)) ?_) ?_) ?_
    · exact (part_apply _ 0 _ j2 j3).trans (iblk2 m c t 0 j2 j3)
    · exact (part_apply _ 1 _ j2 j3).trans (iblk2 m c t 1 j2 j3)
    · exact (part_apply _ 2 _ j2 j3).trans (iblk2 m c t 2 j2 j3)
  · refine (Value.entry3 m c i fun t _ hi => h ?_).trans ((congrFun (entry m c) i).trans (if_neg h).symm)
    obtain ⟨j, rfl⟩ := View.exists_emb_of_mem_set _ hi
    rw [emb3]
    exact ⟨rfl, rfl⟩

/-- The run: the result is `gradOf` of the arguments, which end unchanged. -/
theorem run : θ_run defs (onTc (τ := τ) (main (F := Ideal))) ⟨m, fun _ => 0, ρ⟩ fun r => ∀ c : Dev nD,
      r.2.mem ((c : Thread nD τ).loc main_v0) = gradOf (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_eq m c), (h c).2⟩) (Value.run_blocks m ρ)

end Cert.GradDownIdeal.Hand

namespace Cert.Proof

open Idealize.ShloMosaic Idealize.ShloMosaic.TcCoe Idealize.SL.Sem
open Cert.GradDownRefIdeal.Read

/-- The sum of the five parts in the reference. -/
theorem gradDown_total (g : Vec Ideal Cert.GradDownIdeal.S1x4x2x352x1024 .bf16) (r : Vec Ideal Cert.GradDownIdeal.S1x4x352x1024 .bf16)
    (t : Vec Ideal Cert.GradDownIdeal.S3x1x352x1024 .bf16) (a : Fin 352) (b : Fin 1024) :
    val_main_v10 (F := Ideal) g r t (ix4 (0 : Fin 1) (0 : Fin 1) a b) = gradTotal g r t a b := by
  refine Eq.trans (b := (∑ k : Fin 5, (show EReal from val_main_v8 (F := Ideal) g r t (ix3 k a b)) : EReal)) ?_ ?_
  · unfold val_main_v10 val_main_v9
    generalize val_main_v8 (F := Ideal) g r t = v
    pointwise [val_main_cst]
  · rw [Fin.sum_univ_five]
    pointwise [val_main_v8, val_main_v7, val_main_v6, val_main_v5, val_main_v4, val_main_v3, val_main_v2, val_main_v1, val_main_v0]
    rfl

/-- The reference's result. -/
theorem gradDown_ref (g : Vec Ideal Cert.GradDownIdeal.S1x4x2x352x1024 .bf16) (r : Vec Ideal Cert.GradDownIdeal.S1x4x352x1024 .bf16)
    (t : Vec Ideal Cert.GradDownIdeal.S3x1x352x1024 .bf16) (full : Vec Ideal Cert.GradDownIdeal.S8x2x352x1024 .f32) :
    val_main_v11 (F := Ideal) g r t full = gradOf g r t full :=
  update_block g r t full _ _ _ (fun k => by fin_cases k <;> rfl) (gradDown_total g r t)

/-- The kernel's call and the reference, from memories that agree on the arguments, end with equal results. -/
theorem gradDown : Cert.algebraic_GradDownIdeal_GradDownRefIdeal (hGradDownIdeal := Cert.GradDownIdeal.Gen.facts) (hGradDownRefIdeal := Cert.GradDownRefIdeal.Gen.facts) := by
  intro m ρ m' ρ' _ hag
  refine ⟨_, Cert.GradDownIdeal.Hand.run m ρ, (θ_run _ _ _).mono (fun _ h c => ⟨(h c).1.trans ?_, (h c).2⟩) (Cert.GradDownRefIdeal.Value.run m' ρ')⟩
  refine (val_main_v11_eq _ _ _ _).trans ((gradDown_ref _ _ _ _).trans ?_)
  rw [(hag c).1, (hag c).2.1, (hag c).2.2.1, (hag c).2.2.2]

end Cert.Proof

end
-- ==== Proof.GradSsmIn.lean ====
/-
  Hand-written. A block of the gradient of `ssm_w_in`, summed over the devices: the kernel's call and the reference end with the
  same array, the sum of the five parts in the block and the array as it was elsewhere.
-/
module

public import proofs.«01_k».proof.Defs
public import proofs.«01_k».proof.Proof.Gen.GradSsmInIdeal.Value
public import proofs.«01_k».proof.Proof.Gen.GradSsmInRefIdeal.Run
public import proofs.«01_k».proof.Proof.Gen.GradSsmInRefIdeal.Read
public import Idealize.ShloMosaic.Lib.Pipeline.Value
public import Idealize.ShloMosaic.Lib.Pipeline.ValueKit
public import Idealize.ShloMosaic.Lib.Pointwise
public import proofs.«01_k».proof.Proof.GradSum

@[expose] public section

set_option maxRecDepth 16384

noncomputable section

namespace Cert.GradSsmInIdeal.Hand

open Cert.GradSsmInIdeal Cert.GradSsmInIdeal.Gen Idealize.ShloMosaic Idealize.ShloMosaic.TcCoe Idealize.SL.Sem
open Idealize.ShloMosaic.Pipeline (Dat)

open Cert.Proof (gradTotal gradOf part part_apply)

/-- The payload at an index. -/
theorem pay_apply (g : Vec Ideal S1x1x1x256x1544 .bf16) (r t0 t1 t2 : Vec Ideal S1x1x256x1544 .bf16) (a : Fin 256) (b : Fin 1544) :
    k0_pay1 (F := Ideal) g r t0 t1 t2 (ix4 (0 : Fin 1) (0 : Fin 1) a b)
      = ((show EReal from g (ix5 (0 : Fin 1) (0 : Fin 1) (0 : Fin 1) a b)) + (show EReal from r (ix4 (0 : Fin 1) (0 : Fin 1) a b))
        + (show EReal from t0 (ix4 (0 : Fin 1) (0 : Fin 1) a b)) + (show EReal from t1 (ix4 (0 : Fin 1) (0 : Fin 1) a b))
        + (show EReal from t2 (ix4 (0 : Fin 1) (0 : Fin 1) a b)) : EReal) := by
  pointwise [k0_pay1]

variable (m : (ℓ : Loc nD τ sig) → Buf (Elt Ideal) ℓ) (ρ : Dev nD → PrngReg)

/-- What a point leaves in its block. -/
theorem out_eq (c : Dev nD) (t : Fin cfg0.N) :
    outsAt0 m c t = k0_pay1 (F := Ideal) (iblk m c 0 t) (iblk m c 1 t) (part (iblk m c 2 t) 0 inb_S3x1x256x1544_S1x1x256x1544_0_0_0_0)
      (part (iblk m c 2 t) 1 inb_S3x1x256x1544_S1x1x256x1544_1_0_0_0) (part (iblk m c 2 t) 2 inb_S3x1x256x1544_S1x1x256x1544_2_0_0_0) := by
  unfold outsAt0
  frame_out
  rfl

/-! ## The blocks the points work on -/

theorem idx0 : ∀ t : Fin cfg0.N, win0_0.index t = ![0, 0, 0, t.val, 0] := (by decide +kernel : ∀ t : Fin grid0.N, _)
theorem idx1 : ∀ t : Fin cfg0.N, win0_1.index t = ![0, 0, t.val, 0] := (by decide +kernel : ∀ t : Fin grid0.N, _)
theorem idx2 : ∀ t : Fin cfg0.N, win0_2.index t = ![0, 0, t.val, 0] := (by decide +kernel : ∀ t : Fin grid0.N, _)
theorem idx3 : ∀ t : Fin cfg0.N, win0_3.index t = ![0, 0, t.val, 0] := (by decide +kernel : ∀ t : Fin grid0.N, _)

/-- The row of the array that row `a` of point `t`'s block is. -/
def rowOf (t : Fin cfg0.N) (a : Fin 256) : Fin 512 := ⟨t.val * 256 + a.val, by have h : t.val < 2 := t.isLt; omega⟩

theorem iblk0 (c : Dev nD) (t : Fin cfg0.N) (a : Fin 256) (b : Fin 1544) :
    iblk m c 0 t (ix5 (0 : Fin 1) (0 : Fin 1) (0 : Fin 1) a b) = m ((c : Thread nD τ).loc main_arg0) (ix5 (0 : Fin 1) (0 : Fin 4) (0 : Fin 2) (rowOf t a) b) := by
  show V m c main_arg0 (((cfg0.win 0).blk t).view.emb (ix5 (0 : Fin 1) (0 : Fin 1) (0 : Fin 1) a b)) = _
  refine Eq.trans ?_ (congrFun (V_main_arg0 m c) _)
  congr 1
  funext d; apply Fin.ext
  have e := congrFun (idx0 t) d
  match d with
  | ⟨0, _⟩ => show win0_0.index t (0 : Fin 5) * 1 + 1 * 0 = 0; rw [show win0_0.index t (0 : Fin 5) = 0 from e]
  | ⟨1, _⟩ => show win0_0.index t (1 : Fin 5) * 1 + 1 * 0 = 0; rw [show win0_0.index t (1 : Fin 5) = 0 from e]
  | ⟨2, _⟩ => show win0_0.index t (2 : Fin 5) * 1 + 1 * 0 = 0; rw [show win0_0.index t (2 : Fin 5) = 0 from e]
  | ⟨3, _⟩ => show win0_0.index t (3 : Fin 5) * 256 + 1 * a.val = t.val * 256 + a.val; rw [show win0_0.index t (3 : Fin 5) = t.val from e]; omega
  | ⟨4, _⟩ => show win0_0.index t (4 : Fin 5) * 1544 + 1 * b.val = b.val; rw [show win0_0.index t (4 : Fin 5) = 0 from e]; omega

theorem iblk1 (c : Dev nD) (t : Fin cfg0.N) (a : Fin 256) (b : Fin 1544) :
    iblk m c 1 t (ix4 (0 : Fin 1) (0 : Fin 1) a b) = m ((c : Thread nD τ).loc main_arg1) (ix4 (0 : Fin 1) (0 : Fin 4) (rowOf t a) b) := by
  show V m c main_arg1 (((cfg0.win 1).blk t).view.emb (ix4 (0 : Fin 1) (0 : Fin 1) a b)) = _
  refine Eq.trans ?_ (congrFun (V_main_arg1 m c) _)
  congr 1
  funext d; apply Fin.ext
  have e := congrFun (idx1 t) d
  match d with
  | ⟨0, _⟩ => show win0_1.index t (0 : Fin 4) * 1 + 1 * 0 = 0; rw [show win0_1.index t (0 : Fin 4) = 0 from e]
  | ⟨1, _⟩ => show win0_1.index t (1 : Fin 4) * 1 + 1 * 0 = 0; rw [show win0_1.index t (1 : Fin 4) = 0 from e]
  | ⟨2, _⟩ => show win0_1.index t (2 : Fin 4) * 256 + 1 * a.val = t.val * 256 + a.val; rw [show win0_1.index t (2 : Fin 4) = t.val from e]; omega
  | ⟨3, _⟩ => show win0_1.index t (3 : Fin 4) * 1544 + 1 * b.val = b.val; rw [show win0_1.index t (3 : Fin 4) = 0 from e]; omega

theorem iblk2 (c : Dev nD) (t : Fin cfg0.N) (k : Fin 3) (a : Fin 256) (b : Fin 1544) :
    iblk m c 2 t (ix4 k (0 : Fin 1) a b) = m ((c : Thread nD τ).loc main_arg2) (ix4 k (0 : Fin 1) (rowOf t a) b) := by
  show V m c main_arg2 (((cfg0.win 2).blk t).view.emb (ix4 k (0 : Fin 1) a b)) = _
  refine Eq.trans ?_ (congrFun (V_main_arg2 m c) _)
  congr 1
  funext d; apply Fin.ext
  have e := congrFun (idx2 t) d
  match d with
  | ⟨0, _⟩ => show win0_2.index t (0 : Fin 4) * 3 + 1 * k.val = k.val; rw [show win0_2.index t (0 : Fin 4) = 0 from e]; omega
  | ⟨1, _⟩ => show win0_2.index t (1 : Fin 4) * 1 + 1 * 0 = 0; rw [show win0_2.index t (1 : Fin 4) = 0 from e]
  | ⟨2, _⟩ => show win0_2.index t (2 : Fin 4) * 256 + 1 * a.val = t.val * 256 + a.val; rw [show win0_2.index t (2 : Fin 4) = t.val from e]; omega
  | ⟨3, _⟩ => show win0_2.index t (3 : Fin 4) * 1544 + 1 * b.val = b.val; rw [show win0_2.index t (3 : Fin 4) = 0 from e]; omega

/-- Where an index of a point's block lies in the result. -/
theorem emb3 (t : Fin cfg0.N) (j : S1x1x256x1544.Idx) :
    ((cfg0.win 3).blk t).view.emb j = (ix4 (0 : Fin 2) (0 : Fin 2) (rowOf t (j 2)) (j 3) : S2x2x512x1544.Idx) := by
  idx_vars j
  funext d; apply Fin.ext
  have e := congrFun (idx3 t) d
  match d with
  | ⟨0, _⟩ => show win0_3.index t (0 : Fin 4) * 1 + 1 * j0.val = 0; rw [show win0_3.index t (0 : Fin 4) = 0 from e]; omega
  | ⟨1, _⟩ => show win0_3.index t (1 : Fin 4) * 1 + 1 * j1.val = 0; rw [show win0_3.index t (1 : Fin 4) = 0 from e]; omega
  | ⟨2, _⟩ => show win0_3.index t (2 : Fin 4) * 256 + 1 * j2.val = t.val * 256 + j2.val; rw [show win0_3.index t (2 : Fin 4) = t.val from e]; omega
  | ⟨3, _⟩ => show win0_3.index t (3 : Fin 4) * 1544 + 1 * j3.val = j3.val; rw [show win0_3.index t (3 : Fin 4) = 0 from e]; omega

/-- The region finds the result as a copy of the array that it is laid over. -/
theorem entry (c : Dev nD) : V m c main_v0 = m ((c : Thread nD τ).loc main_arg3) := by
  show StableHlo.after hostOps0 _ _ = _
  rfl

/-- An index in the first block is the image of one of a point's. -/
theorem covered (i : S2x2x512x1544.Idx) (h0 : (i 0).val = 0) (h1 : (i 1).val = 0) :
    ∃ (t : Fin cfg0.N) (j : S1x1x256x1544.Idx), ((cfg0.win 3).blk t).view.emb j = i := by
  have h2 : (i 2).val < 512 := (i 2).isLt
  obtain ⟨t, ht⟩ : ∃ t : Fin cfg0.N, t.val = (i 2).val / 256 := ⟨⟨(i 2).val / 256, by show _ < 2; omega⟩, rfl⟩
  obtain ⟨r, hr⟩ : ∃ r : Fin 256, r.val = (i 2).val % 256 := ⟨⟨(i 2).val % 256, by omega⟩, rfl⟩
  refine ⟨t, (ix4 (0 : Fin 1) (0 : Fin 1) r (i 3) : S1x1x256x1544.Idx), ?_⟩
  rw [emb3]
  funext d; apply Fin.ext
  match d with
  | ⟨0, _⟩ => exact h0.symm
  | ⟨1, _⟩ => exact h1.symm
  | ⟨2, _⟩ => show t.val * 256 + r.val = (i 2).val; omega
  | ⟨3, _⟩ => rfl

/-- The array after the last point. -/
theorem final_eq (c : Dev nD) : (dats m 0 c).arrAt 3 cfg0.N
    = gradOf (m ((c : Thread nD τ).loc main_arg0)) (m ((c : Thread nD τ).loc main_arg1)) (m ((c : Thread nD τ).loc main_arg2)) (m ((c : Thread nD τ).loc main_arg3)) := by
  funext i
  by_cases h : (i 0).val = 0 ∧ (i 1).val = 0
  · obtain ⟨t, j, rfl⟩ := covered i h.1 h.2
    refine (congrFun (Value.blocks3 m c t (flush0_3 t)) j).trans ?_
    rw [Value.flushed3]
    show outsAt0 m c t j = gradOf _ _ _ _ _
    rw [emb3, out_eq]
    idx_vars j
    fin_cases j0; fin_cases j1
    refine (pay_apply _ _ _ _ _ j2 j3).trans ?_
    refine Eq.trans ?_ (if_pos ⟨rfl, rfl⟩).symm
    refine congrArg₂ (fun x y : EReal => x + y) (congrArg₂ (fun x y : EReal => x + y) (congrArg₂ (fun x y : EReal => x + y)
      (congrArg₂ (fun x y : EReal => x + y) (iblk0 m c t j2 j3) (iblk1 m c t j2 j3)) ?_) ?_) ?_
    · exact (part_apply _ 0 _ j2 j3).trans (iblk2 m c t 0 j2 j3)
    · exact (part_apply _ 1 _ j2 j3).trans (iblk2 m c t 1 j2 j3)
    · exact (part_apply _ 2 _ j2 j3).trans (iblk2 m c t 2 j2 j3)
  · refine (Value.entry3 m c i fun t _ hi => h ?_).trans ((congrFun (entry m c) i).trans (if_neg h).symm)
    obtain ⟨j, rfl⟩ := View.exists_emb_of_mem_set _ hi
    rw [emb3]
    exact ⟨rfl, rfl⟩

/-- The run: the result is `gradOf` of the arguments, which end unchanged. -/
theorem run : θ_run defs (onTc (τ := τ) (main (F := Ideal))) ⟨m, fun _ => 0, ρ⟩ fun r => ∀ c : Dev nD,
      r.2.mem ((c : Thread nD τ).loc main_v0) = gradOf (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_eq m c), (h c).2⟩) (Value.run_blocks m ρ)

end Cert.GradSsmInIdeal.Hand

namespace Cert.Proof

open Idealize.ShloMosaic Idealize.ShloMosaic.TcCoe Idealize.SL.Sem
open Cert.GradSsmInRefIdeal.Read

/-- The sum of the five parts in the reference. -/
theorem gradSsmIn_total (g : Vec Ideal Cert.GradSsmInIdeal.S1x4x2x512x1544 .bf16) (r : Vec Ideal Cert.GradSsmInIdeal.S1x4x512x1544 .bf16)
    (t : Vec Ideal Cert.GradSsmInIdeal.S3x1x512x1544 .bf16) (a : Fin 512) (b : Fin 1544) :
    val_main_v10 (F := Ideal) g r t (ix4 (0 : Fin 1) (0 : Fin 1) a b) = gradTotal g r t a b := by
  refine Eq.trans (b := (∑ k : Fin 5, (show EReal from val_main_v8 (F := Ideal) g r t (ix3 k a b)) : EReal)) ?_ ?_
  · unfold val_main_v10 val_main_v9
    generalize val_main_v8 (F := Ideal) g r t = v
    pointwise [val_main_cst]
  · rw [Fin.sum_univ_five]
    pointwise [val_main_v8, val_main_v7, val_main_v6, val_main_v5, val_main_v4, val_main_v3, val_main_v2, val_main_v1, val_main_v0]
    rfl

/-- The reference's result. -/
theorem gradSsmIn_ref (g : Vec Ideal Cert.GradSsmInIdeal.S1x4x2x512x1544 .bf16) (r : Vec Ideal Cert.GradSsmInIdeal.S1x4x512x1544 .bf16)
    (t : Vec Ideal Cert.GradSsmInIdeal.S3x1x512x1544 .bf16) (full : Vec Ideal Cert.GradSsmInIdeal.S2x2x512x1544 .f32) :
    val_main_v11 (F := Ideal) g r t full = gradOf g r t full :=
  update_block g r t full _ _ _ (fun k => by fin_cases k <;> rfl) (gradSsmIn_total g r t)

/-- The kernel's call and the reference, from memories that agree on the arguments, end with equal results. -/
theorem gradSsmIn : Cert.algebraic_GradSsmInIdeal_GradSsmInRefIdeal (hGradSsmInIdeal := Cert.GradSsmInIdeal.Gen.facts) (hGradSsmInRefIdeal := Cert.GradSsmInRefIdeal.Gen.facts) := by
  intro m ρ m' ρ' _ hag
  refine ⟨_, Cert.GradSsmInIdeal.Hand.run m ρ, (θ_run _ _ _).mono (fun _ h c => ⟨(h c).1.trans ?_, (h c).2⟩) (Cert.GradSsmInRefIdeal.Value.run m' ρ')⟩
  refine (val_main_v11_eq _ _ _ _).trans ((gradSsmIn_ref _ _ _ _).trans ?_)
  rw [(hag c).1, (hag c).2.1, (hag c).2.2.1, (hag c).2.2.2]

end Cert.Proof

end
-- ==== Proof.GradSsmOut.lean ====
/-
  Hand-written. A block of the gradient of `ssm_w_out`, summed over the devices: the kernel's call and the reference end with the
  same array, the sum of the five parts in the block and the array as it was elsewhere.
-/
module

public import proofs.«01_k».proof.Defs
public import proofs.«01_k».proof.Proof.Gen.GradSsmOutIdeal.Value
public import proofs.«01_k».proof.Proof.Gen.GradSsmOutRefIdeal.Run
public import proofs.«01_k».proof.Proof.Gen.GradSsmOutRefIdeal.Read
public import Idealize.ShloMosaic.Lib.Pipeline.Value
public import Idealize.ShloMosaic.Lib.Pipeline.ValueKit
public import Idealize.ShloMosaic.Lib.Pointwise
public import proofs.«01_k».proof.Proof.GradSum

@[expose] public section

set_option maxRecDepth 16384

noncomputable section

namespace Cert.GradSsmOutIdeal.Hand

open Cert.GradSsmOutIdeal Cert.GradSsmOutIdeal.Gen Idealize.ShloMosaic Idealize.ShloMosaic.TcCoe Idealize.SL.Sem
open Idealize.ShloMosaic.Pipeline (Dat)

open Cert.Proof (gradTotal gradOf part part_apply)

/-- The payload at an index. -/
theorem pay_apply (g : Vec Ideal S1x1x1x256x1024 .bf16) (r t0 t1 t2 : Vec Ideal S1x1x256x1024 .bf16) (a : Fin 256) (b : Fin 1024) :
    k0_pay1 (F := Ideal) g r t0 t1 t2 (ix4 (0 : Fin 1) (0 : Fin 1) a b)
      = ((show EReal from g (ix5 (0 : Fin 1) (0 : Fin 1) (0 : Fin 1) a b)) + (show EReal from r (ix4 (0 : Fin 1) (0 : Fin 1) a b))
        + (show EReal from t0 (ix4 (0 : Fin 1) (0 : Fin 1) a b)) + (show EReal from t1 (ix4 (0 : Fin 1) (0 : Fin 1) a b))
        + (show EReal from t2 (ix4 (0 : Fin 1) (0 : Fin 1) a b)) : EReal) := by
  pointwise [k0_pay1]

variable (m : (ℓ : Loc nD τ sig) → Buf (Elt Ideal) ℓ) (ρ : Dev nD → PrngReg)

/-- What a point leaves in its block. -/
theorem out_eq (c : Dev nD) (t : Fin cfg0.N) :
    outsAt0 m c t = k0_pay1 (F := Ideal) (iblk m c 0 t) (iblk m c 1 t) (part (iblk m c 2 t) 0 inb_S3x1x256x1024_S1x1x256x1024_0_0_0_0)
      (part (iblk m c 2 t) 1 inb_S3x1x256x1024_S1x1x256x1024_1_0_0_0) (part (iblk m c 2 t) 2 inb_S3x1x256x1024_S1x1x256x1024_2_0_0_0) := by
  unfold outsAt0
  frame_out
  rfl

/-! ## The blocks the points work on -/

theorem idx0 : ∀ t : Fin cfg0.N, win0_0.index t = ![0, 0, 0, t.val, 0] := (by decide +kernel : ∀ t : Fin grid0.N, _)
theorem idx1 : ∀ t : Fin cfg0.N, win0_1.index t = ![0, 0, t.val, 0] := (by decide +kernel : ∀ t : Fin grid0.N, _)
theorem idx2 : ∀ t : Fin cfg0.N, win0_2.index t = ![0, 0, t.val, 0] := (by decide +kernel : ∀ t : Fin grid0.N, _)
theorem idx3 : ∀ t : Fin cfg0.N, win0_3.index t = ![0, 0, t.val, 0] := (by decide +kernel : ∀ t : Fin grid0.N, _)

/-- The row of the array that row `a` of point `t`'s block is. -/
def rowOf (t : Fin cfg0.N) (a : Fin 256) : Fin 256 := ⟨t.val * 256 + a.val, by have h : t.val < 1 := t.isLt; omega⟩

theorem iblk0 (c : Dev nD) (t : Fin cfg0.N) (a : Fin 256) (b : Fin 1024) :
    iblk m c 0 t (ix5 (0 : Fin 1) (0 : Fin 1) (0 : Fin 1) a b) = m ((c : Thread nD τ).loc main_arg0) (ix5 (0 : Fin 1) (0 : Fin 4) (0 : Fin 2) (rowOf t a) b) := by
  show V m c main_arg0 (((cfg0.win 0).blk t).view.emb (ix5 (0 : Fin 1) (0 : Fin 1) (0 : Fin 1) a b)) = _
  refine Eq.trans ?_ (congrFun (V_main_arg0 m c) _)
  congr 1
  funext d; apply Fin.ext
  have e := congrFun (idx0 t) d
  match d with
  | ⟨0, _⟩ => show win0_0.index t (0 : Fin 5) * 1 + 1 * 0 = 0; rw [show win0_0.index t (0 : Fin 5) = 0 from e]
  | ⟨1, _⟩ => show win0_0.index t (1 : Fin 5) * 1 + 1 * 0 = 0; rw [show win0_0.index t (1 : Fin 5) = 0 from e]
  | ⟨2, _⟩ => show win0_0.index t (2 : Fin 5) * 1 + 1 * 0 = 0; rw [show win0_0.index t (2 : Fin 5) = 0 from e]
  | ⟨3, _⟩ => show win0_0.index t (3 : Fin 5) * 256 + 1 * a.val = t.val * 256 + a.val; rw [show win0_0.index t (3 : Fin 5) = t.val from e]; omega
  | ⟨4, _⟩ => show win0_0.index t (4 : Fin 5) * 1024 + 1 * b.val = b.val; rw [show win0_0.index t (4 : Fin 5) = 0 from e]; omega

theorem iblk1 (c : Dev nD) (t : Fin cfg0.N) (a : Fin 256) (b : Fin 1024) :
    iblk m c 1 t (ix4 (0 : Fin 1) (0 : Fin 1) a b) = m ((c : Thread nD τ).loc main_arg1) (ix4 (0 : Fin 1) (0 : Fin 4) (rowOf t a) b) := by
  show V m c main_arg1 (((cfg0.win 1).blk t).view.emb (ix4 (0 : Fin 1) (0 : Fin 1) a b)) = _
  refine Eq.trans ?_ (congrFun (V_main_arg1 m c) _)
  congr 1
  funext d; apply Fin.ext
  have e := congrFun (idx1 t) d
  match d with
  | ⟨0, _⟩ => show win0_1.index t (0 : Fin 4) * 1 + 1 * 0 = 0; rw [show win0_1.index t (0 : Fin 4) = 0 from e]
  | ⟨1, _⟩ => show win0_1.index t (1 : Fin 4) * 1 + 1 * 0 = 0; rw [show win0_1.index t (1 : Fin 4) = 0 from e]
  | ⟨2, _⟩ => show win0_1.index t (2 : Fin 4) * 256 + 1 * a.val = t.val * 256 + a.val; rw [show win0_1.index t (2 : Fin 4) = t.val from e]; omega
  | ⟨3, _⟩ => show win0_1.index t (3 : Fin 4) * 1024 + 1 * b.val = b.val; rw [show win0_1.index t (3 : Fin 4) = 0 from e]; omega

theorem iblk2 (c : Dev nD) (t : Fin cfg0.N) (k : Fin 3) (a : Fin 256) (b : Fin 1024) :
    iblk m c 2 t (ix4 k (0 : Fin 1) a b) = m ((c : Thread nD τ).loc main_arg2) (ix4 k (0 : Fin 1) (rowOf t a) b) := by
  show V m c main_arg2 (((cfg0.win 2).blk t).view.emb (ix4 k (0 : Fin 1) a b)) = _
  refine Eq.trans ?_ (congrFun (V_main_arg2 m c) _)
  congr 1
  funext d; apply Fin.ext
  have e := congrFun (idx2 t) d
  match d with
  | ⟨0, _⟩ => show win0_2.index t (0 : Fin 4) * 3 + 1 * k.val = k.val; rw [show win0_2.index t (0 : Fin 4) = 0 from e]; omega
  | ⟨1, _⟩ => show win0_2.index t (1 : Fin 4) * 1 + 1 * 0 = 0; rw [show win0_2.index t (1 : Fin 4) = 0 from e]
  | ⟨2, _⟩ => show win0_2.index t (2 : Fin 4) * 256 + 1 * a.val = t.val * 256 + a.val; rw [show win0_2.index t (2 : Fin 4) = t.val from e]; omega
  | ⟨3, _⟩ => show win0_2.index t (3 : Fin 4) * 1024 + 1 * b.val = b.val; rw [show win0_2.index t (3 : Fin 4) = 0 from e]; omega

/-- Where an index of a point's block lies in the result. -/
theorem emb3 (t : Fin cfg0.N) (j : S1x1x256x1024.Idx) :
    ((cfg0.win 3).blk t).view.emb j = (ix4 (0 : Fin 2) (0 : Fin 2) (rowOf t (j 2)) (j 3) : S2x2x256x1024.Idx) := by
  idx_vars j
  funext d; apply Fin.ext
  have e := congrFun (idx3 t) d
  match d with
  | ⟨0, _⟩ => show win0_3.index t (0 : Fin 4) * 1 + 1 * j0.val = 0; rw [show win0_3.index t (0 : Fin 4) = 0 from e]; omega
  | ⟨1, _⟩ => show win0_3.index t (1 : Fin 4) * 1 + 1 * j1.val = 0; rw [show win0_3.index t (1 : Fin 4) = 0 from e]; omega
  | ⟨2, _⟩ => show win0_3.index t (2 : Fin 4) * 256 + 1 * j2.val = t.val * 256 + j2.val; rw [show win0_3.index t (2 : Fin 4) = t.val from e]; omega
  | ⟨3, _⟩ => show win0_3.index t (3 : Fin 4) * 1024 + 1 * j3.val = j3.val; rw [show win0_3.index t (3 : Fin 4) = 0 from e]; omega

/-- The region finds the result as a copy of the array that it is laid over. -/
theorem entry (c : Dev nD) : V m c main_v0 = m ((c : Thread nD τ).loc main_arg3) := by
  show StableHlo.after hostOps0 _ _ = _
  rfl

/-- An index in the first block is the image of one of a point's. -/
theorem covered (i : S2x2x256x1024.Idx) (h0 : (i 0).val = 0) (h1 : (i 1).val = 0) :
    ∃ (t : Fin cfg0.N) (j : S1x1x256x1024.Idx), ((cfg0.win 3).blk t).view.emb j = i := by
  have h2 : (i 2).val < 256 := (i 2).isLt
  obtain ⟨t, ht⟩ : ∃ t : Fin cfg0.N, t.val = (i 2).val / 256 := ⟨⟨(i 2).val / 256, by show _ < 1; omega⟩, rfl⟩
  obtain ⟨r, hr⟩ : ∃ r : Fin 256, r.val = (i 2).val % 256 := ⟨⟨(i 2).val % 256, by omega⟩, rfl⟩
  refine ⟨t, (ix4 (0 : Fin 1) (0 : Fin 1) r (i 3) : S1x1x256x1024.Idx), ?_⟩
  rw [emb3]
  funext d; apply Fin.ext
  match d with
  | ⟨0, _⟩ => exact h0.symm
  | ⟨1, _⟩ => exact h1.symm
  | ⟨2, _⟩ => show t.val * 256 + r.val = (i 2).val; omega
  | ⟨3, _⟩ => rfl

/-- The array after the last point. -/
theorem final_eq (c : Dev nD) : (dats m 0 c).arrAt 3 cfg0.N
    = gradOf (m ((c : Thread nD τ).loc main_arg0)) (m ((c : Thread nD τ).loc main_arg1)) (m ((c : Thread nD τ).loc main_arg2)) (m ((c : Thread nD τ).loc main_arg3)) := by
  funext i
  by_cases h : (i 0).val = 0 ∧ (i 1).val = 0
  · obtain ⟨t, j, rfl⟩ := covered i h.1 h.2
    refine (congrFun (Value.blocks3 m c t (flush0_3 t)) j).trans ?_
    rw [Value.flushed3]
    show outsAt0 m c t j = gradOf _ _ _ _ _
    rw [emb3, out_eq]
    idx_vars j
    fin_cases j0; fin_cases j1
    refine (pay_apply _ _ _ _ _ j2 j3).trans ?_
    refine Eq.trans ?_ (if_pos ⟨rfl, rfl⟩).symm
    refine congrArg₂ (fun x y : EReal => x + y) (congrArg₂ (fun x y : EReal => x + y) (congrArg₂ (fun x y : EReal => x + y)
      (congrArg₂ (fun x y : EReal => x + y) (iblk0 m c t j2 j3) (iblk1 m c t j2 j3)) ?_) ?_) ?_
    · exact (part_apply _ 0 _ j2 j3).trans (iblk2 m c t 0 j2 j3)
    · exact (part_apply _ 1 _ j2 j3).trans (iblk2 m c t 1 j2 j3)
    · exact (part_apply _ 2 _ j2 j3).trans (iblk2 m c t 2 j2 j3)
  · refine (Value.entry3 m c i fun t _ hi => h ?_).trans ((congrFun (entry m c) i).trans (if_neg h).symm)
    obtain ⟨j, rfl⟩ := View.exists_emb_of_mem_set _ hi
    rw [emb3]
    exact ⟨rfl, rfl⟩

/-- The run: the result is `gradOf` of the arguments, which end unchanged. -/
theorem run : θ_run defs (onTc (τ := τ) (main (F := Ideal))) ⟨m, fun _ => 0, ρ⟩ fun r => ∀ c : Dev nD,
      r.2.mem ((c : Thread nD τ).loc main_v0) = gradOf (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_eq m c), (h c).2⟩) (Value.run_blocks m ρ)

end Cert.GradSsmOutIdeal.Hand

namespace Cert.Proof

open Idealize.ShloMosaic Idealize.ShloMosaic.TcCoe Idealize.SL.Sem
open Cert.GradSsmOutRefIdeal.Read

/-- The sum of the five parts in the reference. -/
theorem gradSsmOut_total (g : Vec Ideal Cert.GradSsmOutIdeal.S1x4x2x256x1024 .bf16) (r : Vec Ideal Cert.GradSsmOutIdeal.S1x4x256x1024 .bf16)
    (t : Vec Ideal Cert.GradSsmOutIdeal.S3x1x256x1024 .bf16) (a : Fin 256) (b : Fin 1024) :
    val_main_v10 (F := Ideal) g r t (ix4 (0 : Fin 1) (0 : Fin 1) a b) = gradTotal g r t a b := by
  refine Eq.trans (b := (∑ k : Fin 5, (show EReal from val_main_v8 (F := Ideal) g r t (ix3 k a b)) : EReal)) ?_ ?_
  · unfold val_main_v10 val_main_v9
    generalize val_main_v8 (F := Ideal) g r t = v
    pointwise [val_main_cst]
  · rw [Fin.sum_univ_five]
    pointwise [val_main_v8, val_main_v7, val_main_v6, val_main_v5, val_main_v4, val_main_v3, val_main_v2, val_main_v1, val_main_v0]
    rfl

/-- The reference's result. -/
theorem gradSsmOut_ref (g : Vec Ideal Cert.GradSsmOutIdeal.S1x4x2x256x1024 .bf16) (r : Vec Ideal Cert.GradSsmOutIdeal.S1x4x256x1024 .bf16)
    (t : Vec Ideal Cert.GradSsmOutIdeal.S3x1x256x1024 .bf16) (full : Vec Ideal Cert.GradSsmOutIdeal.S2x2x256x1024 .f32) :
    val_main_v11 (F := Ideal) g r t full = gradOf g r t full :=
  update_block g r t full _ _ _ (fun k => by fin_cases k <;> rfl) (gradSsmOut_total g r t)

/-- The kernel's call and the reference, from memories that agree on the arguments, end with equal results. -/
theorem gradSsmOut : Cert.algebraic_GradSsmOutIdeal_GradSsmOutRefIdeal (hGradSsmOutIdeal := Cert.GradSsmOutIdeal.Gen.facts) (hGradSsmOutRefIdeal := Cert.GradSsmOutRefIdeal.Gen.facts) := by
  intro m ρ m' ρ' _ hag
  refine ⟨_, Cert.GradSsmOutIdeal.Hand.run m ρ, (θ_run _ _ _).mono (fun _ h c => ⟨(h c).1.trans ?_, (h c).2⟩) (Cert.GradSsmOutRefIdeal.Value.run m' ρ')⟩
  refine (val_main_v11_eq _ _ _ _).trans ((gradSsmOut_ref _ _ _ _).trans ?_)
  rw [(hag c).1, (hag c).2.1, (hag c).2.2.1, (hag c).2.2.2]

end Cert.Proof

end
-- ==== Proof.GradKv.lean ====
/-
  Hand-written. A block of the gradient of `w_kv`, summed over the devices: the kernel's call and the reference end with the
  same array, the sum of the five parts in the block and the array as it was elsewhere.
-/
module

public import proofs.«01_k».proof.Defs
public import proofs.«01_k».proof.Proof.Gen.GradKvIdeal.Value
public import proofs.«01_k».proof.Proof.Gen.GradKvRefIdeal.Run
public import proofs.«01_k».proof.Proof.Gen.GradKvRefIdeal.Read
public import Idealize.ShloMosaic.Lib.Pipeline.Value
public import Idealize.ShloMosaic.Lib.Pipeline.ValueKit
public import Idealize.ShloMosaic.Lib.Pointwise
public import proofs.«01_k».proof.Proof.GradSum

@[expose] public section

set_option maxRecDepth 16384

noncomputable section

namespace Cert.GradKvIdeal.Hand

open Cert.GradKvIdeal Cert.GradKvIdeal.Gen Idealize.ShloMosaic Idealize.ShloMosaic.TcCoe Idealize.SL.Sem
open Idealize.ShloMosaic.Pipeline (Dat)

open Cert.Proof (gradTotal gradOf part part_apply)

/-- The payload at an index. -/
theorem pay_apply (g : Vec Ideal S1x1x1x128x512 .bf16) (r t0 t1 t2 : Vec Ideal S1x1x128x512 .bf16) (a : Fin 128) (b : Fin 512) :
    k0_pay1 (F := Ideal) g r t0 t1 t2 (ix4 (0 : Fin 1) (0 : Fin 1) a b)
      = ((show EReal from g (ix5 (0 : Fin 1) (0 : Fin 1) (0 : Fin 1) a b)) + (show EReal from r (ix4 (0 : Fin 1) (0 : Fin 1) a b))
        + (show EReal from t0 (ix4 (0 : Fin 1) (0 : Fin 1) a b)) + (show EReal from t1 (ix4 (0 : Fin 1) (0 : Fin 1) a b))
        + (show EReal from t2 (ix4 (0 : Fin 1) (0 : Fin 1) a b)) : EReal) := by
  pointwise [k0_pay1]

variable (m : (ℓ : Loc nD τ sig) → Buf (Elt Ideal) ℓ) (ρ : Dev nD → PrngReg)

/-- What a point leaves in its block. -/
theorem out_eq (c : Dev nD) (t : Fin cfg0.N) :
    outsAt0 m c t = k0_pay1 (F := Ideal) (iblk m c 0 t) (iblk m c 1 t) (part (iblk m c 2 t) 0 inb_S3x1x128x512_S1x1x128x512_0_0_0_0)
      (part (iblk m c 2 t) 1 inb_S3x1x128x512_S1x1x128x512_1_0_0_0) (part (iblk m c 2 t) 2 inb_S3x1x128x512_S1x1x128x512_2_0_0_0) := by
  unfold outsAt0
  frame_out
  rfl

/-! ## The blocks the points work on -/

theorem idx0 : ∀ t : Fin cfg0.N, win0_0.index t = ![0, 0, 0, t.val, 0] := (by decide +kernel : ∀ t : Fin grid0.N, _)
theorem idx1 : ∀ t : Fin cfg0.N, win0_1.index t = ![0, 0, t.val, 0] := (by decide +kernel : ∀ t : Fin grid0.N, _)
theorem idx2 : ∀ t : Fin cfg0.N, win0_2.index t = ![0, 0, t.val, 0] := (by decide +kernel : ∀ t : Fin grid0.N, _)
theorem idx3 : ∀ t : Fin cfg0.N, win0_3.index t = ![0, 0, t.val, 0] := (by decide +kernel : ∀ t : Fin grid0.N, _)

/-- The row of the array that row `a` of point `t`'s block is. -/
def rowOf (t : Fin cfg0.N) (a : Fin 128) : Fin 128 := ⟨t.val * 128 + a.val, by have h : t.val < 1 := t.isLt; omega⟩

theorem iblk0 (c : Dev nD) (t : Fin cfg0.N) (a : Fin 128) (b : Fin 512) :
    iblk m c 0 t (ix5 (0 : Fin 1) (0 : Fin 1) (0 : Fin 1) a b) = m ((c : Thread nD τ).loc main_arg0) (ix5 (0 : Fin 1) (0 : Fin 4) (0 : Fin 2) (rowOf t a) b) := by
  show V m c main_arg0 (((cfg0.win 0).blk t).view.emb (ix5 (0 : Fin 1) (0 : Fin 1) (0 : Fin 1) a b)) = _
  refine Eq.trans ?_ (congrFun (V_main_arg0 m c) _)
  congr 1
  funext d; apply Fin.ext
  have e := congrFun (idx0 t) d
  match d with
  | ⟨0, _⟩ => show win0_0.index t (0 : Fin 5) * 1 + 1 * 0 = 0; rw [show win0_0.index t (0 : Fin 5) = 0 from e]
  | ⟨1, _⟩ => show win0_0.index t (1 : Fin 5) * 1 + 1 * 0 = 0; rw [show win0_0.index t (1 : Fin 5) = 0 from e]
  | ⟨2, _⟩ => show win0_0.index t (2 : Fin 5) * 1 + 1 * 0 = 0; rw [show win0_0.index t (2 : Fin 5) = 0 from e]
  | ⟨3, _⟩ => show win0_0.index t (3 : Fin 5) * 128 + 1 * a.val = t.val * 128 + a.val; rw [show win0_0.index t (3 : Fin 5) = t.val from e]; omega
  | ⟨4, _⟩ => show win0_0.index t (4 : Fin 5) * 512 + 1 * b.val = b.val; rw [show win0_0.index t (4 : Fin 5) = 0 from e]; omega

theorem iblk1 (c : Dev nD) (t : Fin cfg0.N) (a : Fin 128) (b : Fin 512) :
    iblk m c 1 t (ix4 (0 : Fin 1) (0 : Fin 1) a b) = m ((c : Thread nD τ).loc main_arg1) (ix4 (0 : Fin 1) (0 : Fin 4) (rowOf t a) b) := by
  show V m c main_arg1 (((cfg0.win 1).blk t).view.emb (ix4 (0 : Fin 1) (0 : Fin 1) a b)) = _
  refine Eq.trans ?_ (congrFun (V_main_arg1 m c) _)
  congr 1
  funext d; apply Fin.ext
  have e := congrFun (idx1 t) d
  match d with
  | ⟨0, _⟩ => show win0_1.index t (0 : Fin 4) * 1 + 1 * 0 = 0; rw [show win0_1.index t (0 : Fin 4) = 0 from e]
  | ⟨1, _⟩ => show win0_1.index t (1 : Fin 4) * 1 + 1 * 0 = 0; rw [show win0_1.index t (1 : Fin 4) = 0 from e]
  | ⟨2, _⟩ => show win0_1.index t (2 : Fin 4) * 128 + 1 * a.val = t.val * 128 + a.val; rw [show win0_1.index t (2 : Fin 4) = t.val from e]; omega
  | ⟨3, _⟩ => show win0_1.index t (3 : Fin 4) * 512 + 1 * b.val = b.val; rw [show win0_1.index t (3 : Fin 4) = 0 from e]; omega

theorem iblk2 (c : Dev nD) (t : Fin cfg0.N) (k : Fin 3) (a : Fin 128) (b : Fin 512) :
    iblk m c 2 t (ix4 k (0 : Fin 1) a b) = m ((c : Thread nD τ).loc main_arg2) (ix4 k (0 : Fin 1) (rowOf t a) b) := by
  show V m c main_arg2 (((cfg0.win 2).blk t).view.emb (ix4 k (0 : Fin 1) a b)) = _
  refine Eq.trans ?_ (congrFun (V_main_arg2 m c) _)
  congr 1
  funext d; apply Fin.ext
  have e := congrFun (idx2 t) d
  match d with
  | ⟨0, _⟩ => show win0_2.index t (0 : Fin 4) * 3 + 1 * k.val = k.val; rw [show win0_2.index t (0 : Fin 4) = 0 from e]; omega
  | ⟨1, _⟩ => show win0_2.index t (1 : Fin 4) * 1 + 1 * 0 = 0; rw [show win0_2.index t (1 : Fin 4) = 0 from e]
  | ⟨2, _⟩ => show win0_2.index t (2 : Fin 4) * 128 + 1 * a.val = t.val * 128 + a.val; rw [show win0_2.index t (2 : Fin 4) = t.val from e]; omega
  | ⟨3, _⟩ => show win0_2.index t (3 : Fin 4) * 512 + 1 * b.val = b.val; rw [show win0_2.index t (3 : Fin 4) = 0 from e]; omega

/-- Where an index of a point's block lies in the result. -/
theorem emb3 (t : Fin cfg0.N) (j : S1x1x128x512.Idx) :
    ((cfg0.win 3).blk t).view.emb j = (ix4 (0 : Fin 1) (0 : Fin 2) (rowOf t (j 2)) (j 3) : S1x2x128x512.Idx) := by
  idx_vars j
  funext d; apply Fin.ext
  have e := congrFun (idx3 t) d
  match d with
  | ⟨0, _⟩ => show win0_3.index t (0 : Fin 4) * 1 + 1 * j0.val = 0; rw [show win0_3.index t (0 : Fin 4) = 0 from e]; omega
  | ⟨1, _⟩ => show win0_3.index t (1 : Fin 4) * 1 + 1 * j1.val = 0; rw [show win0_3.index t (1 : Fin 4) = 0 from e]; omega
  | ⟨2, _⟩ => show win0_3.index t (2 : Fin 4) * 128 + 1 * j2.val = t.val * 128 + j2.val; rw [show win0_3.index t (2 : Fin 4) = t.val from e]; omega
  | ⟨3, _⟩ => show win0_3.index t (3 : Fin 4) * 512 + 1 * j3.val = j3.val; rw [show win0_3.index t (3 : Fin 4) = 0 from e]; omega

/-- The region finds the result as a copy of the array that it is laid over. -/
theorem entry (c : Dev nD) : V m c main_v0 = m ((c : Thread nD τ).loc main_arg3) := by
  show StableHlo.after hostOps0 _ _ = _
  rfl

/-- An index in the first block is the image of one of a point's. -/
theorem covered (i : S1x2x128x512.Idx) (h0 : (i 0).val = 0) (h1 : (i 1).val = 0) :
    ∃ (t : Fin cfg0.N) (j : S1x1x128x512.Idx), ((cfg0.win 3).blk t).view.emb j = i := by
  have h2 : (i 2).val < 128 := (i 2).isLt
  obtain ⟨t, ht⟩ : ∃ t : Fin cfg0.N, t.val = (i 2).val / 128 := ⟨⟨(i 2).val / 128, by show _ < 1; omega⟩, rfl⟩
  obtain ⟨r, hr⟩ : ∃ r : Fin 128, r.val = (i 2).val % 128 := ⟨⟨(i 2).val % 128, by omega⟩, rfl⟩
  refine ⟨t, (ix4 (0 : Fin 1) (0 : Fin 1) r (i 3) : S1x1x128x512.Idx), ?_⟩
  rw [emb3]
  funext d; apply Fin.ext
  match d with
  | ⟨0, _⟩ => exact h0.symm
  | ⟨1, _⟩ => exact h1.symm
  | ⟨2, _⟩ => show t.val * 128 + r.val = (i 2).val; omega
  | ⟨3, _⟩ => rfl

/-- The array after the last point. -/
theorem final_eq (c : Dev nD) : (dats m 0 c).arrAt 3 cfg0.N
    = gradOf (m ((c : Thread nD τ).loc main_arg0)) (m ((c : Thread nD τ).loc main_arg1)) (m ((c : Thread nD τ).loc main_arg2)) (m ((c : Thread nD τ).loc main_arg3)) := by
  funext i
  by_cases h : (i 0).val = 0 ∧ (i 1).val = 0
  · obtain ⟨t, j, rfl⟩ := covered i h.1 h.2
    refine (congrFun (Value.blocks3 m c t (flush0_3 t)) j).trans ?_
    rw [Value.flushed3]
    show outsAt0 m c t j = gradOf _ _ _ _ _
    rw [emb3, out_eq]
    idx_vars j
    fin_cases j0; fin_cases j1
    refine (pay_apply _ _ _ _ _ j2 j3).trans ?_
    refine Eq.trans ?_ (if_pos ⟨rfl, rfl⟩).symm
    refine congrArg₂ (fun x y : EReal => x + y) (congrArg₂ (fun x y : EReal => x + y) (congrArg₂ (fun x y : EReal => x + y)
      (congrArg₂ (fun x y : EReal => x + y) (iblk0 m c t j2 j3) (iblk1 m c t j2 j3)) ?_) ?_) ?_
    · exact (part_apply _ 0 _ j2 j3).trans (iblk2 m c t 0 j2 j3)
    · exact (part_apply _ 1 _ j2 j3).trans (iblk2 m c t 1 j2 j3)
    · exact (part_apply _ 2 _ j2 j3).trans (iblk2 m c t 2 j2 j3)
  · refine (Value.entry3 m c i fun t _ hi => h ?_).trans ((congrFun (entry m c) i).trans (if_neg h).symm)
    obtain ⟨j, rfl⟩ := View.exists_emb_of_mem_set _ hi
    rw [emb3]
    exact ⟨rfl, rfl⟩

/-- The run: the result is `gradOf` of the arguments, which end unchanged. -/
theorem run : θ_run defs (onTc (τ := τ) (main (F := Ideal))) ⟨m, fun _ => 0, ρ⟩ fun r => ∀ c : Dev nD,
      r.2.mem ((c : Thread nD τ).loc main_v0) = gradOf (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_eq m c), (h c).2⟩) (Value.run_blocks m ρ)

end Cert.GradKvIdeal.Hand

namespace Cert.Proof

open Idealize.ShloMosaic Idealize.ShloMosaic.TcCoe Idealize.SL.Sem
open Cert.GradKvRefIdeal.Read

/-- The sum of the five parts in the reference. -/
theorem gradKv_total (g : Vec Ideal Cert.GradKvIdeal.S1x4x2x128x512 .bf16) (r : Vec Ideal Cert.GradKvIdeal.S1x4x128x512 .bf16)
    (t : Vec Ideal Cert.GradKvIdeal.S3x1x128x512 .bf16) (a : Fin 128) (b : Fin 512) :
    val_main_v10 (F := Ideal) g r t (ix4 (0 : Fin 1) (0 : Fin 1) a b) = gradTotal g r t a b := by
  refine Eq.trans (b := (∑ k : Fin 5, (show EReal from val_main_v8 (F := Ideal) g r t (ix3 k a b)) : EReal)) ?_ ?_
  · unfold val_main_v10 val_main_v9
    generalize val_main_v8 (F := Ideal) g r t = v
    pointwise [val_main_cst]
  · rw [Fin.sum_univ_five]
    pointwise [val_main_v8, val_main_v7, val_main_v6, val_main_v5, val_main_v4, val_main_v3, val_main_v2, val_main_v1, val_main_v0]
    rfl

/-- The reference's result. -/
theorem gradKv_ref (g : Vec Ideal Cert.GradKvIdeal.S1x4x2x128x512 .bf16) (r : Vec Ideal Cert.GradKvIdeal.S1x4x128x512 .bf16)
    (t : Vec Ideal Cert.GradKvIdeal.S3x1x128x512 .bf16) (full : Vec Ideal Cert.GradKvIdeal.S1x2x128x512 .f32) :
    val_main_v11 (F := Ideal) g r t full = gradOf g r t full :=
  update_block g r t full _ _ _ (fun k => by fin_cases k <;> rfl) (gradKv_total g r t)

/-- The kernel's call and the reference, from memories that agree on the arguments, end with equal results. -/
theorem gradKv : Cert.algebraic_GradKvIdeal_GradKvRefIdeal (hGradKvIdeal := Cert.GradKvIdeal.Gen.facts) (hGradKvRefIdeal := Cert.GradKvRefIdeal.Gen.facts) := by
  intro m ρ m' ρ' _ hag
  refine ⟨_, Cert.GradKvIdeal.Hand.run m ρ, (θ_run _ _ _).mono (fun _ h c => ⟨(h c).1.trans ?_, (h c).2⟩) (Cert.GradKvRefIdeal.Value.run m' ρ')⟩
  refine (val_main_v11_eq _ _ _ _).trans ((gradKv_ref _ _ _ _).trans ?_)
  rw [(hag c).1, (hag c).2.1, (hag c).2.2.1, (hag c).2.2.2]

end Cert.Proof

end
-- ==== Proof.GradAttn.lean ====
/-
  Hand-written. A block of the gradient of `attn_w_q or attn_w_o`, summed over the devices: the kernel's call and the reference end with the
  same array, the sum of the five parts in the block and the array as it was elsewhere.
-/
module

public import proofs.«01_k».proof.Defs
public import proofs.«01_k».proof.Proof.Gen.GradAttnIdeal.Value
public import proofs.«01_k».proof.Proof.Gen.GradAttnRefIdeal.Run
public import proofs.«01_k».proof.Proof.Gen.GradAttnRefIdeal.Read
public import Idealize.ShloMosaic.Lib.Pipeline.Value
public import Idealize.ShloMosaic.Lib.Pipeline.ValueKit
public import Idealize.ShloMosaic.Lib.Pointwise
public import proofs.«01_k».proof.Proof.GradSum

@[expose] public section

set_option maxRecDepth 16384

noncomputable section

namespace Cert.GradAttnIdeal.Hand

open Cert.GradAttnIdeal Cert.GradAttnIdeal.Gen Idealize.ShloMosaic Idealize.ShloMosaic.TcCoe Idealize.SL.Sem
open Idealize.ShloMosaic.Pipeline (Dat)

open Cert.Proof (gradTotal gradOf part part_apply)

/-- The payload at an index. -/
theorem pay_apply (g : Vec Ideal S1x1x1x128x1024 .bf16) (r t0 t1 t2 : Vec Ideal S1x1x128x1024 .bf16) (a : Fin 128) (b : Fin 1024) :
    k0_pay1 (F := Ideal) g r t0 t1 t2 (ix4 (0 : Fin 1) (0 : Fin 1) a b)
      = ((show EReal from g (ix5 (0 : Fin 1) (0 : Fin 1) (0 : Fin 1) a b)) + (show EReal from r (ix4 (0 : Fin 1) (0 : Fin 1) a b))
        + (show EReal from t0 (ix4 (0 : Fin 1) (0 : Fin 1) a b)) + (show EReal from t1 (ix4 (0 : Fin 1) (0 : Fin 1) a b))
        + (show EReal from t2 (ix4 (0 : Fin 1) (0 : Fin 1) a b)) : EReal) := by
  pointwise [k0_pay1]

variable (m : (ℓ : Loc nD τ sig) → Buf (Elt Ideal) ℓ) (ρ : Dev nD → PrngReg)

/-- What a point leaves in its block. -/
theorem out_eq (c : Dev nD) (t : Fin cfg0.N) :
    outsAt0 m c t = k0_pay1 (F := Ideal) (iblk m c 0 t) (iblk m c 1 t) (part (iblk m c 2 t) 0 inb_S3x1x128x1024_S1x1x128x1024_0_0_0_0)
      (part (iblk m c 2 t) 1 inb_S3x1x128x1024_S1x1x128x1024_1_0_0_0) (part (iblk m c 2 t) 2 inb_S3x1x128x1024_S1x1x128x1024_2_0_0_0) := by
  unfold outsAt0
  frame_out
  rfl

/-! ## The blocks the points work on -/

theorem idx0 : ∀ t : Fin cfg0.N, win0_0.index t = ![0, 0, 0, t.val, 0] := (by decide +kernel : ∀ t : Fin grid0.N, _)
theorem idx1 : ∀ t : Fin cfg0.N, win0_1.index t = ![0, 0, t.val, 0] := (by decide +kernel : ∀ t : Fin grid0.N, _)
theorem idx2 : ∀ t : Fin cfg0.N, win0_2.index t = ![0, 0, t.val, 0] := (by decide +kernel : ∀ t : Fin grid0.N, _)
theorem idx3 : ∀ t : Fin cfg0.N, win0_3.index t = ![0, 0, t.val, 0] := (by decide +kernel : ∀ t : Fin grid0.N, _)

/-- The row of the array that row `a` of point `t`'s block is. -/
def rowOf (t : Fin cfg0.N) (a : Fin 128) : Fin 128 := ⟨t.val * 128 + a.val, by have h : t.val < 1 := t.isLt; omega⟩

theorem iblk0 (c : Dev nD) (t : Fin cfg0.N) (a : Fin 128) (b : Fin 1024) :
    iblk m c 0 t (ix5 (0 : Fin 1) (0 : Fin 1) (0 : Fin 1) a b) = m ((c : Thread nD τ).loc main_arg0) (ix5 (0 : Fin 1) (0 : Fin 4) (0 : Fin 2) (rowOf t a) b) := by
  show V m c main_arg0 (((cfg0.win 0).blk t).view.emb (ix5 (0 : Fin 1) (0 : Fin 1) (0 : Fin 1) a b)) = _
  refine Eq.trans ?_ (congrFun (V_main_arg0 m c) _)
  congr 1
  funext d; apply Fin.ext
  have e := congrFun (idx0 t) d
  match d with
  | ⟨0, _⟩ => show win0_0.index t (0 : Fin 5) * 1 + 1 * 0 = 0; rw [show win0_0.index t (0 : Fin 5) = 0 from e]
  | ⟨1, _⟩ => show win0_0.index t (1 : Fin 5) * 1 + 1 * 0 = 0; rw [show win0_0.index t (1 : Fin 5) = 0 from e]
  | ⟨2, _⟩ => show win0_0.index t (2 : Fin 5) * 1 + 1 * 0 = 0; rw [show win0_0.index t (2 : Fin 5) = 0 from e]
  | ⟨3, _⟩ => show win0_0.index t (3 : Fin 5) * 128 + 1 * a.val = t.val * 128 + a.val; rw [show win0_0.index t (3 : Fin 5) = t.val from e]; omega
  | ⟨4, _⟩ => show win0_0.index t (4 : Fin 5) * 1024 + 1 * b.val = b.val; rw [show win0_0.index t (4 : Fin 5) = 0 from e]; omega

theorem iblk1 (c : Dev nD) (t : Fin cfg0.N) (a : Fin 128) (b : Fin 1024) :
    iblk m c 1 t (ix4 (0 : Fin 1) (0 : Fin 1) a b) = m ((c : Thread nD τ).loc main_arg1) (ix4 (0 : Fin 1) (0 : Fin 4) (rowOf t a) b) := by
  show V m c main_arg1 (((cfg0.win 1).blk t).view.emb (ix4 (0 : Fin 1) (0 : Fin 1) a b)) = _
  refine Eq.trans ?_ (congrFun (V_main_arg1 m c) _)
  congr 1
  funext d; apply Fin.ext
  have e := congrFun (idx1 t) d
  match d with
  | ⟨0, _⟩ => show win0_1.index t (0 : Fin 4) * 1 + 1 * 0 = 0; rw [show win0_1.index t (0 : Fin 4) = 0 from e]
  | ⟨1, _⟩ => show win0_1.index t (1 : Fin 4) * 1 + 1 * 0 = 0; rw [show win0_1.index t (1 : Fin 4) = 0 from e]
  | ⟨2, _⟩ => show win0_1.index t (2 : Fin 4) * 128 + 1 * a.val = t.val * 128 + a.val; rw [show win0_1.index t (2 : Fin 4) = t.val from e]; omega
  | ⟨3, _⟩ => show win0_1.index t (3 : Fin 4) * 1024 + 1 * b.val = b.val; rw [show win0_1.index t (3 : Fin 4) = 0 from e]; omega

theorem iblk2 (c : Dev nD) (t : Fin cfg0.N) (k : Fin 3) (a : Fin 128) (b : Fin 1024) :
    iblk m c 2 t (ix4 k (0 : Fin 1) a b) = m ((c : Thread nD τ).loc main_arg2) (ix4 k (0 : Fin 1) (rowOf t a) b) := by
  show V m c main_arg2 (((cfg0.win 2).blk t).view.emb (ix4 k (0 : Fin 1) a b)) = _
  refine Eq.trans ?_ (congrFun (V_main_arg2 m c) _)
  congr 1
  funext d; apply Fin.ext
  have e := congrFun (idx2 t) d
  match d with
  | ⟨0, _⟩ => show win0_2.index t (0 : Fin 4) * 3 + 1 * k.val = k.val; rw [show win0_2.index t (0 : Fin 4) = 0 from e]; omega
  | ⟨1, _⟩ => show win0_2.index t (1 : Fin 4) * 1 + 1 * 0 = 0; rw [show win0_2.index t (1 : Fin 4) = 0 from e]
  | ⟨2, _⟩ => show win0_2.index t (2 : Fin 4) * 128 + 1 * a.val = t.val * 128 + a.val; rw [show win0_2.index t (2 : Fin 4) = t.val from e]; omega
  | ⟨3, _⟩ => show win0_2.index t (3 : Fin 4) * 1024 + 1 * b.val = b.val; rw [show win0_2.index t (3 : Fin 4) = 0 from e]; omega

/-- Where an index of a point's block lies in the result. -/
theorem emb3 (t : Fin cfg0.N) (j : S1x1x128x1024.Idx) :
    ((cfg0.win 3).blk t).view.emb j = (ix4 (0 : Fin 2) (0 : Fin 2) (rowOf t (j 2)) (j 3) : S2x2x128x1024.Idx) := by
  idx_vars j
  funext d; apply Fin.ext
  have e := congrFun (idx3 t) d
  match d with
  | ⟨0, _⟩ => show win0_3.index t (0 : Fin 4) * 1 + 1 * j0.val = 0; rw [show win0_3.index t (0 : Fin 4) = 0 from e]; omega
  | ⟨1, _⟩ => show win0_3.index t (1 : Fin 4) * 1 + 1 * j1.val = 0; rw [show win0_3.index t (1 : Fin 4) = 0 from e]; omega
  | ⟨2, _⟩ => show win0_3.index t (2 : Fin 4) * 128 + 1 * j2.val = t.val * 128 + j2.val; rw [show win0_3.index t (2 : Fin 4) = t.val from e]; omega
  | ⟨3, _⟩ => show win0_3.index t (3 : Fin 4) * 1024 + 1 * j3.val = j3.val; rw [show win0_3.index t (3 : Fin 4) = 0 from e]; omega

/-- The region finds the result as a copy of the array that it is laid over. -/
theorem entry (c : Dev nD) : V m c main_v0 = m ((c : Thread nD τ).loc main_arg3) := by
  show StableHlo.after hostOps0 _ _ = _
  rfl

/-- An index in the first block is the image of one of a point's. -/
theorem covered (i : S2x2x128x1024.Idx) (h0 : (i 0).val = 0) (h1 : (i 1).val = 0) :
    ∃ (t : Fin cfg0.N) (j : S1x1x128x1024.Idx), ((cfg0.win 3).blk t).view.emb j = i := by
  have h2 : (i 2).val < 128 := (i 2).isLt
  obtain ⟨t, ht⟩ : ∃ t : Fin cfg0.N, t.val = (i 2).val / 128 := ⟨⟨(i 2).val / 128, by show _ < 1; omega⟩, rfl⟩
  obtain ⟨r, hr⟩ : ∃ r : Fin 128, r.val = (i 2).val % 128 := ⟨⟨(i 2).val % 128, by omega⟩, rfl⟩
  refine ⟨t, (ix4 (0 : Fin 1) (0 : Fin 1) r (i 3) : S1x1x128x1024.Idx), ?_⟩
  rw [emb3]
  funext d; apply Fin.ext
  match d with
  | ⟨0, _⟩ => exact h0.symm
  | ⟨1, _⟩ => exact h1.symm
  | ⟨2, _⟩ => show t.val * 128 + r.val = (i 2).val; omega
  | ⟨3, _⟩ => rfl

/-- The array after the last point. -/
theorem final_eq (c : Dev nD) : (dats m 0 c).arrAt 3 cfg0.N
    = gradOf (m ((c : Thread nD τ).loc main_arg0)) (m ((c : Thread nD τ).loc main_arg1)) (m ((c : Thread nD τ).loc main_arg2)) (m ((c : Thread nD τ).loc main_arg3)) := by
  funext i
  by_cases h : (i 0).val = 0 ∧ (i 1).val = 0
  · obtain ⟨t, j, rfl⟩ := covered i h.1 h.2
    refine (congrFun (Value.blocks3 m c t (flush0_3 t)) j).trans ?_
    rw [Value.flushed3]
    show outsAt0 m c t j = gradOf _ _ _ _ _
    rw [emb3, out_eq]
    idx_vars j
    fin_cases j0; fin_cases j1
    refine (pay_apply _ _ _ _ _ j2 j3).trans ?_
    refine Eq.trans ?_ (if_pos ⟨rfl, rfl⟩).symm
    refine congrArg₂ (fun x y : EReal => x + y) (congrArg₂ (fun x y : EReal => x + y) (congrArg₂ (fun x y : EReal => x + y)
      (congrArg₂ (fun x y : EReal => x + y) (iblk0 m c t j2 j3) (iblk1 m c t j2 j3)) ?_) ?_) ?_
    · exact (part_apply _ 0 _ j2 j3).trans (iblk2 m c t 0 j2 j3)
    · exact (part_apply _ 1 _ j2 j3).trans (iblk2 m c t 1 j2 j3)
    · exact (part_apply _ 2 _ j2 j3).trans (iblk2 m c t 2 j2 j3)
  · refine (Value.entry3 m c i fun t _ hi => h ?_).trans ((congrFun (entry m c) i).trans (if_neg h).symm)
    obtain ⟨j, rfl⟩ := View.exists_emb_of_mem_set _ hi
    rw [emb3]
    exact ⟨rfl, rfl⟩

/-- The run: the result is `gradOf` of the arguments, which end unchanged. -/
theorem run : θ_run defs (onTc (τ := τ) (main (F := Ideal))) ⟨m, fun _ => 0, ρ⟩ fun r => ∀ c : Dev nD,
      r.2.mem ((c : Thread nD τ).loc main_v0) = gradOf (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_eq m c), (h c).2⟩) (Value.run_blocks m ρ)

end Cert.GradAttnIdeal.Hand

namespace Cert.Proof

open Idealize.ShloMosaic Idealize.ShloMosaic.TcCoe Idealize.SL.Sem
open Cert.GradAttnRefIdeal.Read

/-- The sum of the five parts in the reference. -/
theorem gradAttn_total (g : Vec Ideal Cert.GradAttnIdeal.S1x4x2x128x1024 .bf16) (r : Vec Ideal Cert.GradAttnIdeal.S1x4x128x1024 .bf16)
    (t : Vec Ideal Cert.GradAttnIdeal.S3x1x128x1024 .bf16) (a : Fin 128) (b : Fin 1024) :
    val_main_v10 (F := Ideal) g r t (ix4 (0 : Fin 1) (0 : Fin 1) a b) = gradTotal g r t a b := by
  refine Eq.trans (b := (∑ k : Fin 5, (show EReal from val_main_v8 (F := Ideal) g r t (ix3 k a b)) : EReal)) ?_ ?_
  · unfold val_main_v10 val_main_v9
    generalize val_main_v8 (F := Ideal) g r t = v
    pointwise [val_main_cst]
  · rw [Fin.sum_univ_five]
    pointwise [val_main_v8, val_main_v7, val_main_v6, val_main_v5, val_main_v4, val_main_v3, val_main_v2, val_main_v1, val_main_v0]
    rfl

/-- The reference's result. -/
theorem gradAttn_ref (g : Vec Ideal Cert.GradAttnIdeal.S1x4x2x128x1024 .bf16) (r : Vec Ideal Cert.GradAttnIdeal.S1x4x128x1024 .bf16)
    (t : Vec Ideal Cert.GradAttnIdeal.S3x1x128x1024 .bf16) (full : Vec Ideal Cert.GradAttnIdeal.S2x2x128x1024 .f32) :
    val_main_v11 (F := Ideal) g r t full = gradOf g r t full :=
  update_block g r t full _ _ _ (fun k => by fin_cases k <;> rfl) (gradAttn_total g r t)

/-- The kernel's call and the reference, from memories that agree on the arguments, end with equal results. -/
theorem gradAttn : Cert.algebraic_GradAttnIdeal_GradAttnRefIdeal (hGradAttnIdeal := Cert.GradAttnIdeal.Gen.facts) (hGradAttnRefIdeal := Cert.GradAttnRefIdeal.Gen.facts) := by
  intro m ρ m' ρ' _ hag
  refine ⟨_, Cert.GradAttnIdeal.Hand.run m ρ, (θ_run _ _ _).mono (fun _ h c => ⟨(h c).1.trans ?_, (h c).2⟩) (Cert.GradAttnRefIdeal.Value.run m' ρ')⟩
  refine (val_main_v11_eq _ _ _ _).trans ((gradAttn_ref _ _ _ _).trans ?_)
  rw [(hag c).1, (hag c).2.1, (hag c).2.2.1, (hag c).2.2.2]

end Cert.Proof

end
-- ==== Proof.Adam.lean ====
/-
  Hand-written. One step of AdamW at one element, over the extended reals, and the same at every element of an array.
-/
module

public import Idealize.ShloMosaic.Lib.Pipeline.Value
public import Idealize.ShloMosaic.Lib.Pointwise

@[expose] public section

noncomputable section

namespace Cert.Adam

open Idealize.ShloMosaic

/-- The new first moment: `0.9 * m + 0.1 * g`. -/
def newM (g m : Ideal .f32) : Ideal .f32 :=
  FloatOps.addf (FloatOps.mulf (FloatOps.ofBits .f32 0x3F666666#32) m) (FloatOps.mulf (FloatOps.ofBits .f32 0x3DCCCCCD#32) g)

/-- The new second moment: `0.999 * v + 0.001 * g²`. -/
def newV (g v : Ideal .f32) : Ideal .f32 :=
  FloatOps.addf (FloatOps.mulf (FloatOps.ofBits .f32 0x3F7FBE77#32) v)
    (FloatOps.mulf (FloatOps.ofBits .f32 0x3A83126F#32) (FloatOps.mulf g g))

/-- The step: minus the rate times the corrected first moment over the root of the corrected second one, and the decay. -/
def delta (w g m v : Ideal .f32) : Ideal .f32 :=
  FloatOps.mulf (FloatOps.ofBits .f32 0xBA83126F#32)
    (FloatOps.addf
      (FloatOps.divf (FloatOps.divf (newM g m) (FloatOps.ofBits .f32 0x3F26BD02#32))
        (FloatOps.addf (FloatOps.sqrt (FloatOps.divf (newV g v) (FloatOps.ofBits .f32 0x3C231ACC#32)))
          (FloatOps.ofBits .f32 0x322BCC77#32)))
      (FloatOps.mulf (FloatOps.ofBits .f32 0x3C23D70A#32) w))

variable {S : Shape}

/-- The new first moment of every element. -/
def newMs (g m : Vec Ideal S .f32) : Vec Ideal S .f32 := fun i => newM (g i) (m i)
/-- The new second moment of every element. -/
def newVs (g v : Vec Ideal S .f32) : Vec Ideal S .f32 := fun i => newV (g i) (v i)
/-- The step of every element. -/
def deltas (w g m v : Vec Ideal S .f32) : Vec Ideal S .f32 := fun i => delta (w i) (g i) (m i) (v i)

end Cert.Adam

end
-- ==== Proof.AdamGu.lean ====
/-
  Hand-written. The optimiser's step for `ffn_w_gu`: the kernel's call and the reference end with the
  same three arrays, at every element one step of AdamW.
-/
module

public import proofs.«01_k».proof.Defs
public import proofs.«01_k».proof.Proof.Gen.AdamGuIdeal.Value
public import proofs.«01_k».proof.Proof.Gen.AdamGuRefIdeal.Run
public import proofs.«01_k».proof.Proof.Gen.AdamGuRefIdeal.Read
public import proofs.«01_k».proof.Proof.Adam

@[expose] public section

set_option maxRecDepth 16384

noncomputable section

namespace Cert.AdamGuIdeal.Hand

open Cert.AdamGuIdeal Cert.AdamGuIdeal.Gen Cert.Adam Idealize.ShloMosaic Idealize.ShloMosaic.TcCoe Idealize.SL.Sem
open Idealize.ShloMosaic.Pipeline (Dat)

theorem hz3 : (![0, 0, 0] : Fin 3 → Nat) = fun _ => 0 := funext fun a => by fin_cases a <;> rfl

/-- An index of a block, rebuilt from its coordinates. -/
theorem self (y : S1x256x1408.Idx) : (fun a => match a with | ⟨0, _⟩ => ⟨0, Nat.one_pos⟩ | ⟨1, _⟩ => ⟨(y 1).val, (y 1).isLt⟩ | ⟨2, _⟩ => ⟨(y 2).val, (y 2).isLt⟩ : S1x256x1408.Idx) = y := by
  funext a; apply Fin.ext
  match a with
  | ⟨0, _⟩ => have h : (y 0).val < 1 := (y 0).isLt; show 0 = (y 0).val; omega
  | ⟨1, _⟩ => rfl
  | ⟨2, _⟩ => rfl

variable (m : (ℓ : Loc nD τ sig) → Buf (Elt Ideal) ℓ) (ρ : Dev nD → PrngReg)

/-- Each point writes back its block of the steps. -/
theorem flushed4 (c : Dev nD) (t : Fin cfg0.N) :
    (dats m 0 c).flushed 4 t = ((cfg0.win 4).blk t).view.read (Elt Ideal) (deltas (V m c main_arg0) (V m c main_arg1) (V m c main_arg2) (V m c main_arg3)) := by
  rw [Value.flushed4]
  funext j
  show out0_4 (F := Ideal) (iblk m c 0 t) (iblk m c 1 t) (iblk m c 2 t) (iblk m c 3 t) j = _
  unfold out0_4
  rw [Value.canon4_eq, View.ld_unit_zero hz3, View.ld_unit_zero hz3, View.ld_unit_zero hz3, View.ld_unit_zero hz3]
  exact congrArg (deltas (iblk m c 0 t) (iblk m c 1 t) (iblk m c 2 t) (iblk m c 3 t)) (self j)

/-- Each point writes back its block of the first moments. -/
theorem flushed5 (c : Dev nD) (t : Fin cfg0.N) :
    (dats m 0 c).flushed 5 t = ((cfg0.win 5).blk t).view.read (Elt Ideal) (newMs (V m c main_arg1) (V m c main_arg2)) := by
  rw [Value.flushed5]
  funext j
  show out0_5 (F := Ideal) (iblk m c 0 t) (iblk m c 1 t) (iblk m c 2 t) (iblk m c 3 t) j = _
  unfold out0_5
  rw [Value.canon5_eq, View.ld_unit_zero hz3, View.ld_unit_zero hz3]
  exact congrArg (newMs (iblk m c 1 t) (iblk m c 2 t)) (self j)

/-- Each point writes back its block of the second moments. -/
theorem flushed6 (c : Dev nD) (t : Fin cfg0.N) :
    (dats m 0 c).flushed 6 t = ((cfg0.win 6).blk t).view.read (Elt Ideal) (newVs (V m c main_arg1) (V m c main_arg3)) := by
  rw [Value.flushed6]
  funext j
  show out0_6 (F := Ideal) (iblk m c 0 t) (iblk m c 1 t) (iblk m c 2 t) (iblk m c 3 t) j = _
  unfold out0_6
  rw [Value.canon6_eq, View.ld_unit_zero hz3, View.ld_unit_zero hz3]
  exact congrArg (newVs (iblk m c 1 t) (iblk m c 3 t)) (self j)

theorem idx4 : ∀ t : Fin cfg0.N, win0_4.index t (0 : Fin 3) = t.val / 4 ∧ win0_4.index t (1 : Fin 3) = t.val % 4 ∧ win0_4.index t (2 : Fin 3) = 0 :=
  (by decide +kernel : ∀ t : Fin grid0.N, _)

/-- The point whose block holds an index. -/
abbrev pt (i : S8x1024x1408.Idx) : Fin cfg0.N :=
  ⟨(i 0).val * 4 + (i 1).val / 256, by
    have h0 : (i 0).val < 8 := (i 0).isLt
    have h1 : (i 1).val < 1024 := (i 1).isLt
    show _ < 32
    omega⟩

/-- Every index of a result is in the block of `pt`. -/
theorem mem_pt (i : S8x1024x1408.Idx) : i ∈ ((cfg0.win 4).blk (pt i)).view.set := by
  have h1 : (i 1).val < 1024 := (i 1).isLt
  have h := ((cfg0.win 4).blk (pt i)).view.emb_mem_set
    (ix3 (0 : Fin 1) (⟨(i 1).val % 256, Nat.mod_lt _ (by norm_num)⟩ : Fin 256) (i 2) : S1x256x1408.Idx)
  have e : ((cfg0.win 4).blk (pt i)).view.emb (ix3 (0 : Fin 1) (⟨(i 1).val % 256, Nat.mod_lt _ (by norm_num)⟩ : Fin 256) (i 2) : S1x256x1408.Idx) = i := by
    obtain ⟨e0, e1, e2⟩ := idx4 (pt i)
    funext a; apply Fin.ext
    match a with
    | ⟨0, _⟩ => show win0_4.index (pt i) (0 : Fin 3) * 1 + 1 * 0 = (i 0).val; rw [e0]; show ((i 0).val * 4 + (i 1).val / 256) / 4 * 1 + 1 * 0 = _; omega
    | ⟨1, _⟩ => show win0_4.index (pt i) (1 : Fin 3) * 256 + 1 * ((i 1).val % 256) = (i 1).val; rw [e1]; show ((i 0).val * 4 + (i 1).val / 256) % 4 * 256 + 1 * ((i 1).val % 256) = _; omega
    | ⟨2, _⟩ => show win0_4.index (pt i) (2 : Fin 3) * 1408 + 1 * (i 2).val = (i 2).val; rw [e2]; omega
  rw [e] at h
  exact h

/-- The run: the three results are the step and the two moments, and the arguments end unchanged. -/
theorem run : θ_run defs (onTc (τ := τ) (main (F := Ideal))) ⟨m, fun _ => 0, ρ⟩ fun r => ∀ c : Dev nD,
      r.2.mem ((c : Thread nD τ).loc main_v0_0) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = newMs (m ((c : Thread nD τ).loc main_arg1)) (m ((c : Thread nD τ).loc main_arg2))
      ∧ r.2.mem ((c : Thread nD τ).loc main_v0_2) = newVs (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨
      (h c).1.trans ((dats m 0 c).arrAt_eq_of_cover 4 _ (fun t _ => flushed4 m c t) fun i => ⟨pt i, flush0_4 _, mem_pt i⟩),
      (h c).2.1.trans ((dats m 0 c).arrAt_eq_of_cover 5 _ (fun t _ => flushed5 m c t) fun i => ⟨pt i, flush0_5 _, mem_pt i⟩),
      (h c).2.2.1.trans ((dats m 0 c).arrAt_eq_of_cover 6 _ (fun t _ => flushed6 m c t) fun i => ⟨pt i, flush0_6 _, mem_pt i⟩),
      (h c).2.2.2⟩) (Value.run_blocks m ρ)

end Cert.AdamGuIdeal.Hand

namespace Cert.Proof

open Idealize.ShloMosaic Idealize.ShloMosaic.TcCoe Idealize.SL.Sem

/-- The reference's first moments. -/
theorem adamGu_refM (g m : Vec Ideal Cert.AdamGuIdeal.S8x1024x1408 .f32) :
    Cert.AdamGuRefIdeal.Read.val_main_v4 (F := Ideal) g m = Cert.Adam.newMs g m := by
  rfl

/-- The reference's second moments. -/
theorem adamGu_refV (g v : Vec Ideal Cert.AdamGuIdeal.S8x1024x1408 .f32) :
    Cert.AdamGuRefIdeal.Read.val_main_v10 (F := Ideal) g v = Cert.Adam.newVs g v := by
  rfl

/-- The reference's steps. -/
theorem adamGu_refD (w g m v : Vec Ideal Cert.AdamGuIdeal.S8x1024x1408 .f32) :
    Cert.AdamGuRefIdeal.Read.val_main_v23 (F := Ideal) w g m v = Cert.Adam.deltas w g m v := by
  rfl

/-- The kernel's call and the reference, from memories that agree on the arguments, end with equal results. -/
theorem adamGu : Cert.algebraic_AdamGuIdeal_AdamGuRefIdeal (hAdamGuIdeal := Cert.AdamGuIdeal.Gen.facts) (hAdamGuRefIdeal := Cert.AdamGuRefIdeal.Gen.facts) := by
  intro m ρ m' ρ' _ hag
  refine ⟨_, _, _, Cert.AdamGuIdeal.Hand.run m ρ, (θ_run _ _ _).mono (fun _ h c => ⟨(h c).1.trans ?_, (h c).2.1.trans ?_, (h c).2.2.1.trans ?_, (h c).2.2.2⟩) (Cert.AdamGuRefIdeal.Value.run m' ρ')⟩
  · rw [Cert.AdamGuRefIdeal.Read.val_main_v23_eq, (hag c).1, (hag c).2.1, (hag c).2.2.1, (hag c).2.2.2]
    exact adamGu_refD _ _ _ _
  · rw [Cert.AdamGuRefIdeal.Read.val_main_v4_eq, (hag c).2.1, (hag c).2.2.1]
    exact adamGu_refM _ _
  · rw [Cert.AdamGuRefIdeal.Read.val_main_v10_eq, (hag c).2.1, (hag c).2.2.2]
    exact adamGu_refV _ _

end Cert.Proof

end
-- ==== Proof.AdamDown.lean ====
/-
  Hand-written. The optimiser's step for `ffn_w_down`: the kernel's call and the reference end with the
  same three arrays, at every element one step of AdamW.
-/
module

public import proofs.«01_k».proof.Defs
public import proofs.«01_k».proof.Proof.Gen.AdamDownIdeal.Value
public import proofs.«01_k».proof.Proof.Gen.AdamDownRefIdeal.Run
public import proofs.«01_k».proof.Proof.Gen.AdamDownRefIdeal.Read
public import proofs.«01_k».proof.Proof.Adam

@[expose] public section

set_option maxRecDepth 16384

noncomputable section

namespace Cert.AdamDownIdeal.Hand

open Cert.AdamDownIdeal Cert.AdamDownIdeal.Gen Cert.Adam Idealize.ShloMosaic Idealize.ShloMosaic.TcCoe Idealize.SL.Sem
open Idealize.ShloMosaic.Pipeline (Dat)

theorem hz3 : (![0, 0, 0] : Fin 3 → Nat) = fun _ => 0 := funext fun a => by fin_cases a <;> rfl

/-- An index of a block, rebuilt from its coordinates. -/
theorem self (y : S1x352x1024.Idx) : (fun a => match a with | ⟨0, _⟩ => ⟨0, Nat.one_pos⟩ | ⟨1, _⟩ => ⟨(y 1).val, (y 1).isLt⟩ | ⟨2, _⟩ => ⟨(y 2).val, (y 2).isLt⟩ : S1x352x1024.Idx) = y := by
  funext a; apply Fin.ext
  match a with
  | ⟨0, _⟩ => have h : (y 0).val < 1 := (y 0).isLt; show 0 = (y 0).val; omega
  | ⟨1, _⟩ => rfl
  | ⟨2, _⟩ => rfl

variable (m : (ℓ : Loc nD τ sig) → Buf (Elt Ideal) ℓ) (ρ : Dev nD → PrngReg)

/-- Each point writes back its block of the steps. -/
theorem flushed4 (c : Dev nD) (t : Fin cfg0.N) :
    (dats m 0 c).flushed 4 t = ((cfg0.win 4).blk t).view.read (Elt Ideal) (deltas (V m c main_arg0) (V m c main_arg1) (V m c main_arg2) (V m c main_arg3)) := by
  rw [Value.flushed4]
  funext j
  show out0_4 (F := Ideal) (iblk m c 0 t) (iblk m c 1 t) (iblk m c 2 t) (iblk m c 3 t) j = _
  unfold out0_4
  rw [Value.canon4_eq, View.ld_unit_zero hz3, View.ld_unit_zero hz3, View.ld_unit_zero hz3, View.ld_unit_zero hz3]
  exact congrArg (deltas (iblk m c 0 t) (iblk m c 1 t) (iblk m c 2 t) (iblk m c 3 t)) (self j)

/-- Each point writes back its block of the first moments. -/
theorem flushed5 (c : Dev nD) (t : Fin cfg0.N) :
    (dats m 0 c).flushed 5 t = ((cfg0.win 5).blk t).view.read (Elt Ideal) (newMs (V m c main_arg1) (V m c main_arg2)) := by
  rw [Value.flushed5]
  funext j
  show out0_5 (F := Ideal) (iblk m c 0 t) (iblk m c 1 t) (iblk m c 2 t) (iblk m c 3 t) j = _
  unfold out0_5
  rw [Value.canon5_eq, View.ld_unit_zero hz3, View.ld_unit_zero hz3]
  exact congrArg (newMs (iblk m c 1 t) (iblk m c 2 t)) (self j)

/-- Each point writes back its block of the second moments. -/
theorem flushed6 (c : Dev nD) (t : Fin cfg0.N) :
    (dats m 0 c).flushed 6 t = ((cfg0.win 6).blk t).view.read (Elt Ideal) (newVs (V m c main_arg1) (V m c main_arg3)) := by
  rw [Value.flushed6]
  funext j
  show out0_6 (F := Ideal) (iblk m c 0 t) (iblk m c 1 t) (iblk m c 2 t) (iblk m c 3 t) j = _
  unfold out0_6
  rw [Value.canon6_eq, View.ld_unit_zero hz3, View.ld_unit_zero hz3]
  exact congrArg (newVs (iblk m c 1 t) (iblk m c 3 t)) (self j)

theorem idx4 : ∀ t : Fin cfg0.N, win0_4.index t (0 : Fin 3) = t.val / 2 ∧ win0_4.index t (1 : Fin 3) = t.val % 2 ∧ win0_4.index t (2 : Fin 3) = 0 :=
  (by decide +kernel : ∀ t : Fin grid0.N, _)

/-- The point whose block holds an index. -/
abbrev pt (i : S8x704x1024.Idx) : Fin cfg0.N :=
  ⟨(i 0).val * 2 + (i 1).val / 352, by
    have h0 : (i 0).val < 8 := (i 0).isLt
    have h1 : (i 1).val < 704 := (i 1).isLt
    show _ < 16
    omega⟩

/-- Every index of a result is in the block of `pt`. -/
theorem mem_pt (i : S8x704x1024.Idx) : i ∈ ((cfg0.win 4).blk (pt i)).view.set := by
  have h1 : (i 1).val < 704 := (i 1).isLt
  have h := ((cfg0.win 4).blk (pt i)).view.emb_mem_set
    (ix3 (0 : Fin 1) (⟨(i 1).val % 352, Nat.mod_lt _ (by norm_num)⟩ : Fin 352) (i 2) : S1x352x1024.Idx)
  have e : ((cfg0.win 4).blk (pt i)).view.emb (ix3 (0 : Fin 1) (⟨(i 1).val % 352, Nat.mod_lt _ (by norm_num)⟩ : Fin 352) (i 2) : S1x352x1024.Idx) = i := by
    obtain ⟨e0, e1, e2⟩ := idx4 (pt i)
    funext a; apply Fin.ext
    match a with
    | ⟨0, _⟩ => show win0_4.index (pt i) (0 : Fin 3) * 1 + 1 * 0 = (i 0).val; rw [e0]; show ((i 0).val * 2 + (i 1).val / 352) / 2 * 1 + 1 * 0 = _; omega
    | ⟨1, _⟩ => show win0_4.index (pt i) (1 : Fin 3) * 352 + 1 * ((i 1).val % 352) = (i 1).val; rw [e1]; show ((i 0).val * 2 + (i 1).val / 352) % 2 * 352 + 1 * ((i 1).val % 352) = _; omega
    | ⟨2, _⟩ => show win0_4.index (pt i) (2 : Fin 3) * 1024 + 1 * (i 2).val = (i 2).val; rw [e2]; omega
  rw [e] at h
  exact h

/-- The run: the three results are the step and the two moments, and the arguments end unchanged. -/
theorem run : θ_run defs (onTc (τ := τ) (main (F := Ideal))) ⟨m, fun _ => 0, ρ⟩ fun r => ∀ c : Dev nD,
      r.2.mem ((c : Thread nD τ).loc main_v0_0) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = newMs (m ((c : Thread nD τ).loc main_arg1)) (m ((c : Thread nD τ).loc main_arg2))
      ∧ r.2.mem ((c : Thread nD τ).loc main_v0_2) = newVs (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨
      (h c).1.trans ((dats m 0 c).arrAt_eq_of_cover 4 _ (fun t _ => flushed4 m c t) fun i => ⟨pt i, flush0_4 _, mem_pt i⟩),
      (h c).2.1.trans ((dats m 0 c).arrAt_eq_of_cover 5 _ (fun t _ => flushed5 m c t) fun i => ⟨pt i, flush0_5 _, mem_pt i⟩),
      (h c).2.2.1.trans ((dats m 0 c).arrAt_eq_of_cover 6 _ (fun t _ => flushed6 m c t) fun i => ⟨pt i, flush0_6 _, mem_pt i⟩),
      (h c).2.2.2⟩) (Value.run_blocks m ρ)

end Cert.AdamDownIdeal.Hand

namespace Cert.Proof

open Idealize.ShloMosaic Idealize.ShloMosaic.TcCoe Idealize.SL.Sem

/-- The reference's first moments. -/
theorem adamDown_refM (g m : Vec Ideal Cert.AdamDownIdeal.S8x704x1024 .f32) :
    Cert.AdamDownRefIdeal.Read.val_main_v4 (F := Ideal) g m = Cert.Adam.newMs g m := by
  rfl

/-- The reference's second moments. -/
theorem adamDown_refV (g v : Vec Ideal Cert.AdamDownIdeal.S8x704x1024 .f32) :
    Cert.AdamDownRefIdeal.Read.val_main_v10 (F := Ideal) g v = Cert.Adam.newVs g v := by
  rfl

/-- The reference's steps. -/
theorem adamDown_refD (w g m v : Vec Ideal Cert.AdamDownIdeal.S8x704x1024 .f32) :
    Cert.AdamDownRefIdeal.Read.val_main_v23 (F := Ideal) w g m v = Cert.Adam.deltas w g m v := by
  rfl

/-- The kernel's call and the reference, from memories that agree on the arguments, end with equal results. -/
theorem adamDown : Cert.algebraic_AdamDownIdeal_AdamDownRefIdeal (hAdamDownIdeal := Cert.AdamDownIdeal.Gen.facts) (hAdamDownRefIdeal := Cert.AdamDownRefIdeal.Gen.facts) := by
  intro m ρ m' ρ' _ hag
  refine ⟨_, _, _, Cert.AdamDownIdeal.Hand.run m ρ, (θ_run _ _ _).mono (fun _ h c => ⟨(h c).1.trans ?_, (h c).2.1.trans ?_, (h c).2.2.1.trans ?_, (h c).2.2.2⟩) (Cert.AdamDownRefIdeal.Value.run m' ρ')⟩
  · rw [Cert.AdamDownRefIdeal.Read.val_main_v23_eq, (hag c).1, (hag c).2.1, (hag c).2.2.1, (hag c).2.2.2]
    exact adamDown_refD _ _ _ _
  · rw [Cert.AdamDownRefIdeal.Read.val_main_v4_eq, (hag c).2.1, (hag c).2.2.1]
    exact adamDown_refM _ _
  · rw [Cert.AdamDownRefIdeal.Read.val_main_v10_eq, (hag c).2.1, (hag c).2.2.2]
    exact adamDown_refV _ _

end Cert.Proof

end
-- ==== Proof.AdamSsmIn.lean ====
/-
  Hand-written. The optimiser's step for `ssm_w_in`: the kernel's call and the reference end with the
  same three arrays, at every element one step of AdamW.
-/
module

public import proofs.«01_k».proof.Defs
public import proofs.«01_k».proof.Proof.Gen.AdamSsmInIdeal.Value
public import proofs.«01_k».proof.Proof.Gen.AdamSsmInRefIdeal.Run
public import proofs.«01_k».proof.Proof.Gen.AdamSsmInRefIdeal.Read
public import proofs.«01_k».proof.Proof.Adam

@[expose] public section

set_option maxRecDepth 16384

noncomputable section

namespace Cert.AdamSsmInIdeal.Hand

open Cert.AdamSsmInIdeal Cert.AdamSsmInIdeal.Gen Cert.Adam Idealize.ShloMosaic Idealize.ShloMosaic.TcCoe Idealize.SL.Sem
open Idealize.ShloMosaic.Pipeline (Dat)

theorem hz3 : (![0, 0, 0] : Fin 3 → Nat) = fun _ => 0 := funext fun a => by fin_cases a <;> rfl

/-- An index of a block, rebuilt from its coordinates. -/
theorem self (y : S1x256x1544.Idx) : (fun a => match a with | ⟨0, _⟩ => ⟨0, Nat.one_pos⟩ | ⟨1, _⟩ => ⟨(y 1).val, (y 1).isLt⟩ | ⟨2, _⟩ => ⟨(y 2).val, (y 2).isLt⟩ : S1x256x1544.Idx) = y := by
  funext a; apply Fin.ext
  match a with
  | ⟨0, _⟩ => have h : (y 0).val < 1 := (y 0).isLt; show 0 = (y 0).val; omega
  | ⟨1, _⟩ => rfl
  | ⟨2, _⟩ => rfl

variable (m : (ℓ : Loc nD τ sig) → Buf (Elt Ideal) ℓ) (ρ : Dev nD → PrngReg)

/-- Each point writes back its block of the steps. -/
theorem flushed4 (c : Dev nD) (t : Fin cfg0.N) :
    (dats m 0 c).flushed 4 t = ((cfg0.win 4).blk t).view.read (Elt Ideal) (deltas (V m c main_arg0) (V m c main_arg1) (V m c main_arg2) (V m c main_arg3)) := by
  rw [Value.flushed4]
  funext j
  show out0_4 (F := Ideal) (iblk m c 0 t) (iblk m c 1 t) (iblk m c 2 t) (iblk m c 3 t) j = _
  unfold out0_4
  rw [Value.canon4_eq, View.ld_unit_zero hz3, View.ld_unit_zero hz3, View.ld_unit_zero hz3, View.ld_unit_zero hz3]
  exact congrArg (deltas (iblk m c 0 t) (iblk m c 1 t) (iblk m c 2 t) (iblk m c 3 t)) (self j)

/-- Each point writes back its block of the first moments. -/
theorem flushed5 (c : Dev nD) (t : Fin cfg0.N) :
    (dats m 0 c).flushed 5 t = ((cfg0.win 5).blk t).view.read (Elt Ideal) (newMs (V m c main_arg1) (V m c main_arg2)) := by
  rw [Value.flushed5]
  funext j
  show out0_5 (F := Ideal) (iblk m c 0 t) (iblk m c 1 t) (iblk m c 2 t) (iblk m c 3 t) j = _
  unfold out0_5
  rw [Value.canon5_eq, View.ld_unit_zero hz3, View.ld_unit_zero hz3]
  exact congrArg (newMs (iblk m c 1 t) (iblk m c 2 t)) (self j)

/-- Each point writes back its block of the second moments. -/
theorem flushed6 (c : Dev nD) (t : Fin cfg0.N) :
    (dats m 0 c).flushed 6 t = ((cfg0.win 6).blk t).view.read (Elt Ideal) (newVs (V m c main_arg1) (V m c main_arg3)) := by
  rw [Value.flushed6]
  funext j
  show out0_6 (F := Ideal) (iblk m c 0 t) (iblk m c 1 t) (iblk m c 2 t) (iblk m c 3 t) j = _
  unfold out0_6
  rw [Value.canon6_eq, View.ld_unit_zero hz3, View.ld_unit_zero hz3]
  exact congrArg (newVs (iblk m c 1 t) (iblk m c 3 t)) (self j)

theorem idx4 : ∀ t : Fin cfg0.N, win0_4.index t (0 : Fin 3) = t.val / 4 ∧ win0_4.index t (1 : Fin 3) = t.val % 4 ∧ win0_4.index t (2 : Fin 3) = 0 :=
  (by decide +kernel : ∀ t : Fin grid0.N, _)

/-- The point whose block holds an index. -/
abbrev pt (i : S2x1024x1544.Idx) : Fin cfg0.N :=
  ⟨(i 0).val * 4 + (i 1).val / 256, by
    have h0 : (i 0).val < 2 := (i 0).isLt
    have h1 : (i 1).val < 1024 := (i 1).isLt
    show _ < 8
    omega⟩

/-- Every index of a result is in the block of `pt`. -/
theorem mem_pt (i : S2x1024x1544.Idx) : i ∈ ((cfg0.win 4).blk (pt i)).view.set := by
  have h1 : (i 1).val < 1024 := (i 1).isLt
  have h := ((cfg0.win 4).blk (pt i)).view.emb_mem_set
    (ix3 (0 : Fin 1) (⟨(i 1).val % 256, Nat.mod_lt _ (by norm_num)⟩ : Fin 256) (i 2) : S1x256x1544.Idx)
  have e : ((cfg0.win 4).blk (pt i)).view.emb (ix3 (0 : Fin 1) (⟨(i 1).val % 256, Nat.mod_lt _ (by norm_num)⟩ : Fin 256) (i 2) : S1x256x1544.Idx) = i := by
    obtain ⟨e0, e1, e2⟩ := idx4 (pt i)
    funext a; apply Fin.ext
    match a with
    | ⟨0, _⟩ => show win0_4.index (pt i) (0 : Fin 3) * 1 + 1 * 0 = (i 0).val; rw [e0]; show ((i 0).val * 4 + (i 1).val / 256) / 4 * 1 + 1 * 0 = _; omega
    | ⟨1, _⟩ => show win0_4.index (pt i) (1 : Fin 3) * 256 + 1 * ((i 1).val % 256) = (i 1).val; rw [e1]; show ((i 0).val * 4 + (i 1).val / 256) % 4 * 256 + 1 * ((i 1).val % 256) = _; omega
    | ⟨2, _⟩ => show win0_4.index (pt i) (2 : Fin 3) * 1544 + 1 * (i 2).val = (i 2).val; rw [e2]; omega
  rw [e] at h
  exact h

/-- The run: the three results are the step and the two moments, and the arguments end unchanged. -/
theorem run : θ_run defs (onTc (τ := τ) (main (F := Ideal))) ⟨m, fun _ => 0, ρ⟩ fun r => ∀ c : Dev nD,
      r.2.mem ((c : Thread nD τ).loc main_v0_0) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = newMs (m ((c : Thread nD τ).loc main_arg1)) (m ((c : Thread nD τ).loc main_arg2))
      ∧ r.2.mem ((c : Thread nD τ).loc main_v0_2) = newVs (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨
      (h c).1.trans ((dats m 0 c).arrAt_eq_of_cover 4 _ (fun t _ => flushed4 m c t) fun i => ⟨pt i, flush0_4 _, mem_pt i⟩),
      (h c).2.1.trans ((dats m 0 c).arrAt_eq_of_cover 5 _ (fun t _ => flushed5 m c t) fun i => ⟨pt i, flush0_5 _, mem_pt i⟩),
      (h c).2.2.1.trans ((dats m 0 c).arrAt_eq_of_cover 6 _ (fun t _ => flushed6 m c t) fun i => ⟨pt i, flush0_6 _, mem_pt i⟩),
      (h c).2.2.2⟩) (Value.run_blocks m ρ)

end Cert.AdamSsmInIdeal.Hand

namespace Cert.Proof

open Idealize.ShloMosaic Idealize.ShloMosaic.TcCoe Idealize.SL.Sem

/-- The reference's first moments. -/
theorem adamSsmIn_refM (g m : Vec Ideal Cert.AdamSsmInIdeal.S2x1024x1544 .f32) :
    Cert.AdamSsmInRefIdeal.Read.val_main_v4 (F := Ideal) g m = Cert.Adam.newMs g m := by
  rfl

/-- The reference's second moments. -/
theorem adamSsmIn_refV (g v : Vec Ideal Cert.AdamSsmInIdeal.S2x1024x1544 .f32) :
    Cert.AdamSsmInRefIdeal.Read.val_main_v10 (F := Ideal) g v = Cert.Adam.newVs g v := by
  rfl

/-- The reference's steps. -/
theorem adamSsmIn_refD (w g m v : Vec Ideal Cert.AdamSsmInIdeal.S2x1024x1544 .f32) :
    Cert.AdamSsmInRefIdeal.Read.val_main_v23 (F := Ideal) w g m v = Cert.Adam.deltas w g m v := by
  rfl

/-- The kernel's call and the reference, from memories that agree on the arguments, end with equal results. -/
theorem adamSsmIn : Cert.algebraic_AdamSsmInIdeal_AdamSsmInRefIdeal (hAdamSsmInIdeal := Cert.AdamSsmInIdeal.Gen.facts) (hAdamSsmInRefIdeal := Cert.AdamSsmInRefIdeal.Gen.facts) := by
  intro m ρ m' ρ' _ hag
  refine ⟨_, _, _, Cert.AdamSsmInIdeal.Hand.run m ρ, (θ_run _ _ _).mono (fun _ h c => ⟨(h c).1.trans ?_, (h c).2.1.trans ?_, (h c).2.2.1.trans ?_, (h c).2.2.2⟩) (Cert.AdamSsmInRefIdeal.Value.run m' ρ')⟩
  · rw [Cert.AdamSsmInRefIdeal.Read.val_main_v23_eq, (hag c).1, (hag c).2.1, (hag c).2.2.1, (hag c).2.2.2]
    exact adamSsmIn_refD _ _ _ _
  · rw [Cert.AdamSsmInRefIdeal.Read.val_main_v4_eq, (hag c).2.1, (hag c).2.2.1]
    exact adamSsmIn_refM _ _
  · rw [Cert.AdamSsmInRefIdeal.Read.val_main_v10_eq, (hag c).2.1, (hag c).2.2.2]
    exact adamSsmIn_refV _ _

end Cert.Proof

end
-- ==== Proof.AdamSsmOut.lean ====
/-
  Hand-written. The optimiser's step for `ssm_w_out`: the kernel's call and the reference end with the
  same three arrays, at every element one step of AdamW.
-/
module

public import proofs.«01_k».proof.Defs
public import proofs.«01_k».proof.Proof.Gen.AdamSsmOutIdeal.Value
public import proofs.«01_k».proof.Proof.Gen.AdamSsmOutRefIdeal.Run
public import proofs.«01_k».proof.Proof.Gen.AdamSsmOutRefIdeal.Read
public import proofs.«01_k».proof.Proof.Adam

@[expose] public section

set_option maxRecDepth 16384

noncomputable section

namespace Cert.AdamSsmOutIdeal.Hand

open Cert.AdamSsmOutIdeal Cert.AdamSsmOutIdeal.Gen Cert.Adam Idealize.ShloMosaic Idealize.ShloMosaic.TcCoe Idealize.SL.Sem
open Idealize.ShloMosaic.Pipeline (Dat)

theorem hz3 : (![0, 0, 0] : Fin 3 → Nat) = fun _ => 0 := funext fun a => by fin_cases a <;> rfl

/-- An index of a block, rebuilt from its coordinates. -/
theorem self (y : S1x512x1024.Idx) : (fun a => match a with | ⟨0, _⟩ => ⟨0, Nat.one_pos⟩ | ⟨1, _⟩ => ⟨(y 1).val, (y 1).isLt⟩ | ⟨2, _⟩ => ⟨(y 2).val, (y 2).isLt⟩ : S1x512x1024.Idx) = y := by
  funext a; apply Fin.ext
  match a with
  | ⟨0, _⟩ => have h : (y 0).val < 1 := (y 0).isLt; show 0 = (y 0).val; omega
  | ⟨1, _⟩ => rfl
  | ⟨2, _⟩ => rfl

variable (m : (ℓ : Loc nD τ sig) → Buf (Elt Ideal) ℓ) (ρ : Dev nD → PrngReg)

/-- Each point writes back its block of the steps. -/
theorem flushed4 (c : Dev nD) (t : Fin cfg0.N) :
    (dats m 0 c).flushed 4 t = ((cfg0.win 4).blk t).view.read (Elt Ideal) (deltas (V m c main_arg0) (V m c main_arg1) (V m c main_arg2) (V m c main_arg3)) := by
  rw [Value.flushed4]
  funext j
  show out0_4 (F := Ideal) (iblk m c 0 t) (iblk m c 1 t) (iblk m c 2 t) (iblk m c 3 t) j = _
  unfold out0_4
  rw [Value.canon4_eq, View.ld_unit_zero hz3, View.ld_unit_zero hz3, View.ld_unit_zero hz3, View.ld_unit_zero hz3]
  exact congrArg (deltas (iblk m c 0 t) (iblk m c 1 t) (iblk m c 2 t) (iblk m c 3 t)) (self j)

/-- Each point writes back its block of the first moments. -/
theorem flushed5 (c : Dev nD) (t : Fin cfg0.N) :
    (dats m 0 c).flushed 5 t = ((cfg0.win 5).blk t).view.read (Elt Ideal) (newMs (V m c main_arg1) (V m c main_arg2)) := by
  rw [Value.flushed5]
  funext j
  show out0_5 (F := Ideal) (iblk m c 0 t) (iblk m c 1 t) (iblk m c 2 t) (iblk m c 3 t) j = _
  unfold out0_5
  rw [Value.canon5_eq, View.ld_unit_zero hz3, View.ld_unit_zero hz3]
  exact congrArg (newMs (iblk m c 1 t) (iblk m c 2 t)) (self j)

/-- Each point writes back its block of the second moments. -/
theorem flushed6 (c : Dev nD) (t : Fin cfg0.N) :
    (dats m 0 c).flushed 6 t = ((cfg0.win 6).blk t).view.read (Elt Ideal) (newVs (V m c main_arg1) (V m c main_arg3)) := by
  rw [Value.flushed6]
  funext j
  show out0_6 (F := Ideal) (iblk m c 0 t) (iblk m c 1 t) (iblk m c 2 t) (iblk m c 3 t) j = _
  unfold out0_6
  rw [Value.canon6_eq, View.ld_unit_zero hz3, View.ld_unit_zero hz3]
  exact congrArg (newVs (iblk m c 1 t) (iblk m c 3 t)) (self j)

theorem idx4 : ∀ t : Fin cfg0.N, win0_4.index t (0 : Fin 3) = t.val / 1 ∧ win0_4.index t (1 : Fin 3) = t.val % 1 ∧ win0_4.index t (2 : Fin 3) = 0 :=
  (by decide +kernel : ∀ t : Fin grid0.N, _)

/-- The point whose block holds an index. -/
abbrev pt (i : S2x512x1024.Idx) : Fin cfg0.N :=
  ⟨(i 0).val * 1 + (i 1).val / 512, by
    have h0 : (i 0).val < 2 := (i 0).isLt
    have h1 : (i 1).val < 512 := (i 1).isLt
    show _ < 2
    omega⟩

/-- Every index of a result is in the block of `pt`. -/
theorem mem_pt (i : S2x512x1024.Idx) : i ∈ ((cfg0.win 4).blk (pt i)).view.set := by
  have h1 : (i 1).val < 512 := (i 1).isLt
  have h := ((cfg0.win 4).blk (pt i)).view.emb_mem_set
    (ix3 (0 : Fin 1) (⟨(i 1).val % 512, Nat.mod_lt _ (by norm_num)⟩ : Fin 512) (i 2) : S1x512x1024.Idx)
  have e : ((cfg0.win 4).blk (pt i)).view.emb (ix3 (0 : Fin 1) (⟨(i 1).val % 512, Nat.mod_lt _ (by norm_num)⟩ : Fin 512) (i 2) : S1x512x1024.Idx) = i := by
    obtain ⟨e0, e1, e2⟩ := idx4 (pt i)
    funext a; apply Fin.ext
    match a with
    | ⟨0, _⟩ => show win0_4.index (pt i) (0 : Fin 3) * 1 + 1 * 0 = (i 0).val; rw [e0]; show ((i 0).val * 1 + (i 1).val / 512) / 1 * 1 + 1 * 0 = _; omega
    | ⟨1, _⟩ => show win0_4.index (pt i) (1 : Fin 3) * 512 + 1 * ((i 1).val % 512) = (i 1).val; rw [e1]; show ((i 0).val * 1 + (i 1).val / 512) % 1 * 512 + 1 * ((i 1).val % 512) = _; omega
    | ⟨2, _⟩ => show win0_4.index (pt i) (2 : Fin 3) * 1024 + 1 * (i 2).val = (i 2).val; rw [e2]; omega
  rw [e] at h
  exact h

/-- The run: the three results are the step and the two moments, and the arguments end unchanged. -/
theorem run : θ_run defs (onTc (τ := τ) (main (F := Ideal))) ⟨m, fun _ => 0, ρ⟩ fun r => ∀ c : Dev nD,
      r.2.mem ((c : Thread nD τ).loc main_v0_0) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = newMs (m ((c : Thread nD τ).loc main_arg1)) (m ((c : Thread nD τ).loc main_arg2))
      ∧ r.2.mem ((c : Thread nD τ).loc main_v0_2) = newVs (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨
      (h c).1.trans ((dats m 0 c).arrAt_eq_of_cover 4 _ (fun t _ => flushed4 m c t) fun i => ⟨pt i, flush0_4 _, mem_pt i⟩),
      (h c).2.1.trans ((dats m 0 c).arrAt_eq_of_cover 5 _ (fun t _ => flushed5 m c t) fun i => ⟨pt i, flush0_5 _, mem_pt i⟩),
      (h c).2.2.1.trans ((dats m 0 c).arrAt_eq_of_cover 6 _ (fun t _ => flushed6 m c t) fun i => ⟨pt i, flush0_6 _, mem_pt i⟩),
      (h c).2.2.2⟩) (Value.run_blocks m ρ)

end Cert.AdamSsmOutIdeal.Hand

namespace Cert.Proof

open Idealize.ShloMosaic Idealize.ShloMosaic.TcCoe Idealize.SL.Sem

/-- The reference's first moments. -/
theorem adamSsmOut_refM (g m : Vec Ideal Cert.AdamSsmOutIdeal.S2x512x1024 .f32) :
    Cert.AdamSsmOutRefIdeal.Read.val_main_v4 (F := Ideal) g m = Cert.Adam.newMs g m := by
  rfl

/-- The reference's second moments. -/
theorem adamSsmOut_refV (g v : Vec Ideal Cert.AdamSsmOutIdeal.S2x512x1024 .f32) :
    Cert.AdamSsmOutRefIdeal.Read.val_main_v10 (F := Ideal) g v = Cert.Adam.newVs g v := by
  rfl

/-- The reference's steps. -/
theorem adamSsmOut_refD (w g m v : Vec Ideal Cert.AdamSsmOutIdeal.S2x512x1024 .f32) :
    Cert.AdamSsmOutRefIdeal.Read.val_main_v23 (F := Ideal) w g m v = Cert.Adam.deltas w g m v := by
  rfl

/-- The kernel's call and the reference, from memories that agree on the arguments, end with equal results. -/
theorem adamSsmOut : Cert.algebraic_AdamSsmOutIdeal_AdamSsmOutRefIdeal (hAdamSsmOutIdeal := Cert.AdamSsmOutIdeal.Gen.facts) (hAdamSsmOutRefIdeal := Cert.AdamSsmOutRefIdeal.Gen.facts) := by
  intro m ρ m' ρ' _ hag
  refine ⟨_, _, _, Cert.AdamSsmOutIdeal.Hand.run m ρ, (θ_run _ _ _).mono (fun _ h c => ⟨(h c).1.trans ?_, (h c).2.1.trans ?_, (h c).2.2.1.trans ?_, (h c).2.2.2⟩) (Cert.AdamSsmOutRefIdeal.Value.run m' ρ')⟩
  · rw [Cert.AdamSsmOutRefIdeal.Read.val_main_v23_eq, (hag c).1, (hag c).2.1, (hag c).2.2.1, (hag c).2.2.2]
    exact adamSsmOut_refD _ _ _ _
  · rw [Cert.AdamSsmOutRefIdeal.Read.val_main_v4_eq, (hag c).2.1, (hag c).2.2.1]
    exact adamSsmOut_refM _ _
  · rw [Cert.AdamSsmOutRefIdeal.Read.val_main_v10_eq, (hag c).2.1, (hag c).2.2.2]
    exact adamSsmOut_refV _ _

end Cert.Proof

end
-- ==== Proof.AdamKv.lean ====
/-
  Hand-written. The optimiser's step for `w_kv`: the kernel's call and the reference end with the
  same three arrays, at every element one step of AdamW.
-/
module

public import proofs.«01_k».proof.Defs
public import proofs.«01_k».proof.Proof.Gen.AdamKvIdeal.Value
public import proofs.«01_k».proof.Proof.Gen.AdamKvRefIdeal.Run
public import proofs.«01_k».proof.Proof.Gen.AdamKvRefIdeal.Read
public import proofs.«01_k».proof.Proof.Adam

@[expose] public section

set_option maxRecDepth 16384

noncomputable section

namespace Cert.AdamKvIdeal.Hand

open Cert.AdamKvIdeal Cert.AdamKvIdeal.Gen Cert.Adam Idealize.ShloMosaic Idealize.ShloMosaic.TcCoe Idealize.SL.Sem
open Idealize.ShloMosaic.Pipeline (Dat)

theorem hz3 : (![0, 0, 0] : Fin 3 → Nat) = fun _ => 0 := funext fun a => by fin_cases a <;> rfl

/-- An index of a block, rebuilt from its coordinates. -/
theorem self (y : S1x256x512.Idx) : (fun a => match a with | ⟨0, _⟩ => ⟨0, Nat.one_pos⟩ | ⟨1, _⟩ => ⟨(y 1).val, (y 1).isLt⟩ | ⟨2, _⟩ => ⟨(y 2).val, (y 2).isLt⟩ : S1x256x512.Idx) = y := by
  funext a; apply Fin.ext
  match a with
  | ⟨0, _⟩ => have h : (y 0).val < 1 := (y 0).isLt; show 0 = (y 0).val; omega
  | ⟨1, _⟩ => rfl
  | ⟨2, _⟩ => rfl

variable (m : (ℓ : Loc nD τ sig) → Buf (Elt Ideal) ℓ) (ρ : Dev nD → PrngReg)

/-- Each point writes back its block of the steps. -/
theorem flushed4 (c : Dev nD) (t : Fin cfg0.N) :
    (dats m 0 c).flushed 4 t = ((cfg0.win 4).blk t).view.read (Elt Ideal) (deltas (V m c main_arg0) (V m c main_arg1) (V m c main_arg2) (V m c main_arg3)) := by
  rw [Value.flushed4]
  funext j
  show out0_4 (F := Ideal) (iblk m c 0 t) (iblk m c 1 t) (iblk m c 2 t) (iblk m c 3 t) j = _
  unfold out0_4
  rw [Value.canon4_eq, View.ld_unit_zero hz3, View.ld_unit_zero hz3, View.ld_unit_zero hz3, View.ld_unit_zero hz3]
  exact congrArg (deltas (iblk m c 0 t) (iblk m c 1 t) (iblk m c 2 t) (iblk m c 3 t)) (self j)

/-- Each point writes back its block of the first moments. -/
theorem flushed5 (c : Dev nD) (t : Fin cfg0.N) :
    (dats m 0 c).flushed 5 t = ((cfg0.win 5).blk t).view.read (Elt Ideal) (newMs (V m c main_arg1) (V m c main_arg2)) := by
  rw [Value.flushed5]
  funext j
  show out0_5 (F := Ideal) (iblk m c 0 t) (iblk m c 1 t) (iblk m c 2 t) (iblk m c 3 t) j = _
  unfold out0_5
  rw [Value.canon5_eq, View.ld_unit_zero hz3, View.ld_unit_zero hz3]
  exact congrArg (newMs (iblk m c 1 t) (iblk m c 2 t)) (self j)

/-- Each point writes back its block of the second moments. -/
theorem flushed6 (c : Dev nD) (t : Fin cfg0.N) :
    (dats m 0 c).flushed 6 t = ((cfg0.win 6).blk t).view.read (Elt Ideal) (newVs (V m c main_arg1) (V m c main_arg3)) := by
  rw [Value.flushed6]
  funext j
  show out0_6 (F := Ideal) (iblk m c 0 t) (iblk m c 1 t) (iblk m c 2 t) (iblk m c 3 t) j = _
  unfold out0_6
  rw [Value.canon6_eq, View.ld_unit_zero hz3, View.ld_unit_zero hz3]
  exact congrArg (newVs (iblk m c 1 t) (iblk m c 3 t)) (self j)

theorem idx4 : ∀ t : Fin cfg0.N, win0_4.index t (0 : Fin 3) = t.val / 1 ∧ win0_4.index t (1 : Fin 3) = t.val % 1 ∧ win0_4.index t (2 : Fin 3) = 0 :=
  (by decide +kernel : ∀ t : Fin grid0.N, _)

/-- The point whose block holds an index. -/
abbrev pt (i : S1x256x512.Idx) : Fin cfg0.N :=
  ⟨(i 0).val * 1 + (i 1).val / 256, by
    have h0 : (i 0).val < 1 := (i 0).isLt
    have h1 : (i 1).val < 256 := (i 1).isLt
    show _ < 1
    omega⟩

/-- Every index of a result is in the block of `pt`. -/
theorem mem_pt (i : S1x256x512.Idx) : i ∈ ((cfg0.win 4).blk (pt i)).view.set := by
  have h1 : (i 1).val < 256 := (i 1).isLt
  have h := ((cfg0.win 4).blk (pt i)).view.emb_mem_set
    (ix3 (0 : Fin 1) (⟨(i 1).val % 256, Nat.mod_lt _ (by norm_num)⟩ : Fin 256) (i 2) : S1x256x512.Idx)
  have e : ((cfg0.win 4).blk (pt i)).view.emb (ix3 (0 : Fin 1) (⟨(i 1).val % 256, Nat.mod_lt _ (by norm_num)⟩ : Fin 256) (i 2) : S1x256x512.Idx) = i := by
    obtain ⟨e0, e1, e2⟩ := idx4 (pt i)
    funext a; apply Fin.ext
    match a with
    | ⟨0, _⟩ => show win0_4.index (pt i) (0 : Fin 3) * 1 + 1 * 0 = (i 0).val; rw [e0]; show ((i 0).val * 1 + (i 1).val / 256) / 1 * 1 + 1 * 0 = _; omega
    | ⟨1, _⟩ => show win0_4.index (pt i) (1 : Fin 3) * 256 + 1 * ((i 1).val % 256) = (i 1).val; rw [e1]; show ((i 0).val * 1 + (i 1).val / 256) % 1 * 256 + 1 * ((i 1).val % 256) = _; omega
    | ⟨2, _⟩ => show win0_4.index (pt i) (2 : Fin 3) * 512 + 1 * (i 2).val = (i 2).val; rw [e2]; omega
  rw [e] at h
  exact h

/-- The run: the three results are the step and the two moments, and the arguments end unchanged. -/
theorem run : θ_run defs (onTc (τ := τ) (main (F := Ideal))) ⟨m, fun _ => 0, ρ⟩ fun r => ∀ c : Dev nD,
      r.2.mem ((c : Thread nD τ).loc main_v0_0) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = newMs (m ((c : Thread nD τ).loc main_arg1)) (m ((c : Thread nD τ).loc main_arg2))
      ∧ r.2.mem ((c : Thread nD τ).loc main_v0_2) = newVs (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨
      (h c).1.trans ((dats m 0 c).arrAt_eq_of_cover 4 _ (fun t _ => flushed4 m c t) fun i => ⟨pt i, flush0_4 _, mem_pt i⟩),
      (h c).2.1.trans ((dats m 0 c).arrAt_eq_of_cover 5 _ (fun t _ => flushed5 m c t) fun i => ⟨pt i, flush0_5 _, mem_pt i⟩),
      (h c).2.2.1.trans ((dats m 0 c).arrAt_eq_of_cover 6 _ (fun t _ => flushed6 m c t) fun i => ⟨pt i, flush0_6 _, mem_pt i⟩),
      (h c).2.2.2⟩) (Value.run_blocks m ρ)

end Cert.AdamKvIdeal.Hand

namespace Cert.Proof

open Idealize.ShloMosaic Idealize.ShloMosaic.TcCoe Idealize.SL.Sem

/-- The reference's first moments. -/
theorem adamKv_refM (g m : Vec Ideal Cert.AdamKvIdeal.S1x256x512 .f32) :
    Cert.AdamKvRefIdeal.Read.val_main_v4 (F := Ideal) g m = Cert.Adam.newMs g m := by
  rfl

/-- The reference's second moments. -/
theorem adamKv_refV (g v : Vec Ideal Cert.AdamKvIdeal.S1x256x512 .f32) :
    Cert.AdamKvRefIdeal.Read.val_main_v10 (F := Ideal) g v = Cert.Adam.newVs g v := by
  rfl

/-- The reference's steps. -/
theorem adamKv_refD (w g m v : Vec Ideal Cert.AdamKvIdeal.S1x256x512 .f32) :
    Cert.AdamKvRefIdeal.Read.val_main_v23 (F := Ideal) w g m v = Cert.Adam.deltas w g m v := by
  rfl

/-- The kernel's call and the reference, from memories that agree on the arguments, end with equal results. -/
theorem adamKv : Cert.algebraic_AdamKvIdeal_AdamKvRefIdeal (hAdamKvIdeal := Cert.AdamKvIdeal.Gen.facts) (hAdamKvRefIdeal := Cert.AdamKvRefIdeal.Gen.facts) := by
  intro m ρ m' ρ' _ hag
  refine ⟨_, _, _, Cert.AdamKvIdeal.Hand.run m ρ, (θ_run _ _ _).mono (fun _ h c => ⟨(h c).1.trans ?_, (h c).2.1.trans ?_, (h c).2.2.1.trans ?_, (h c).2.2.2⟩) (Cert.AdamKvRefIdeal.Value.run m' ρ')⟩
  · rw [Cert.AdamKvRefIdeal.Read.val_main_v23_eq, (hag c).1, (hag c).2.1, (hag c).2.2.1, (hag c).2.2.2]
    exact adamKv_refD _ _ _ _
  · rw [Cert.AdamKvRefIdeal.Read.val_main_v4_eq, (hag c).2.1, (hag c).2.2.1]
    exact adamKv_refM _ _
  · rw [Cert.AdamKvRefIdeal.Read.val_main_v10_eq, (hag c).2.1, (hag c).2.2.2]
    exact adamKv_refV _ _

end Cert.Proof

end
-- ==== Proof.AdamAttn.lean ====
/-
  Hand-written. The optimiser's step for `attn_w_q` and `attn_w_o`: the kernel's call and the reference end with the
  same three arrays, at every element one step of AdamW.
-/
module

public import proofs.«01_k».proof.Defs
public import proofs.«01_k».proof.Proof.Gen.AdamAttnIdeal.Value
public import proofs.«01_k».proof.Proof.Gen.AdamAttnRefIdeal.Run
public import proofs.«01_k».proof.Proof.Gen.AdamAttnRefIdeal.Read
public import proofs.«01_k».proof.Proof.Adam

@[expose] public section

set_option maxRecDepth 16384

noncomputable section

namespace Cert.AdamAttnIdeal.Hand

open Cert.AdamAttnIdeal Cert.AdamAttnIdeal.Gen Cert.Adam Idealize.ShloMosaic Idealize.ShloMosaic.TcCoe Idealize.SL.Sem
open Idealize.ShloMosaic.Pipeline (Dat)

theorem hz3 : (![0, 0, 0] : Fin 3 → Nat) = fun _ => 0 := funext fun a => by fin_cases a <;> rfl

/-- An index of a block, rebuilt from its coordinates. -/
theorem self (y : S1x256x1024.Idx) : (fun a => match a with | ⟨0, _⟩ => ⟨0, Nat.one_pos⟩ | ⟨1, _⟩ => ⟨(y 1).val, (y 1).isLt⟩ | ⟨2, _⟩ => ⟨(y 2).val, (y 2).isLt⟩ : S1x256x1024.Idx) = y := by
  funext a; apply Fin.ext
  match a with
  | ⟨0, _⟩ => have h : (y 0).val < 1 := (y 0).isLt; show 0 = (y 0).val; omega
  | ⟨1, _⟩ => rfl
  | ⟨2, _⟩ => rfl

variable (m : (ℓ : Loc nD τ sig) → Buf (Elt Ideal) ℓ) (ρ : Dev nD → PrngReg)

/-- Each point writes back its block of the steps. -/
theorem flushed4 (c : Dev nD) (t : Fin cfg0.N) :
    (dats m 0 c).flushed 4 t = ((cfg0.win 4).blk t).view.read (Elt Ideal) (deltas (V m c main_arg0) (V m c main_arg1) (V m c main_arg2) (V m c main_arg3)) := by
  rw [Value.flushed4]
  funext j
  show out0_4 (F := Ideal) (iblk m c 0 t) (iblk m c 1 t) (iblk m c 2 t) (iblk m c 3 t) j = _
  unfold out0_4
  rw [Value.canon4_eq, View.ld_unit_zero hz3, View.ld_unit_zero hz3, View.ld_unit_zero hz3, View.ld_unit_zero hz3]
  exact congrArg (deltas (iblk m c 0 t) (iblk m c 1 t) (iblk m c 2 t) (iblk m c 3 t)) (self j)

/-- Each point writes back its block of the first moments. -/
theorem flushed5 (c : Dev nD) (t : Fin cfg0.N) :
    (dats m 0 c).flushed 5 t = ((cfg0.win 5).blk t).view.read (Elt Ideal) (newMs (V m c main_arg1) (V m c main_arg2)) := by
  rw [Value.flushed5]
  funext j
  show out0_5 (F := Ideal) (iblk m c 0 t) (iblk m c 1 t) (iblk m c 2 t) (iblk m c 3 t) j = _
  unfold out0_5
  rw [Value.canon5_eq, View.ld_unit_zero hz3, View.ld_unit_zero hz3]
  exact congrArg (newMs (iblk m c 1 t) (iblk m c 2 t)) (self j)

/-- Each point writes back its block of the second moments. -/
theorem flushed6 (c : Dev nD) (t : Fin cfg0.N) :
    (dats m 0 c).flushed 6 t = ((cfg0.win 6).blk t).view.read (Elt Ideal) (newVs (V m c main_arg1) (V m c main_arg3)) := by
  rw [Value.flushed6]
  funext j
  show out0_6 (F := Ideal) (iblk m c 0 t) (iblk m c 1 t) (iblk m c 2 t) (iblk m c 3 t) j = _
  unfold out0_6
  rw [Value.canon6_eq, View.ld_unit_zero hz3, View.ld_unit_zero hz3]
  exact congrArg (newVs (iblk m c 1 t) (iblk m c 3 t)) (self j)

theorem idx4 : ∀ t : Fin cfg0.N, win0_4.index t (0 : Fin 3) = t.val / 1 ∧ win0_4.index t (1 : Fin 3) = t.val % 1 ∧ win0_4.index t (2 : Fin 3) = 0 :=
  (by decide +kernel : ∀ t : Fin grid0.N, _)

/-- The point whose block holds an index. -/
abbrev pt (i : S2x256x1024.Idx) : Fin cfg0.N :=
  ⟨(i 0).val * 1 + (i 1).val / 256, by
    have h0 : (i 0).val < 2 := (i 0).isLt
    have h1 : (i 1).val < 256 := (i 1).isLt
    show _ < 2
    omega⟩

/-- Every index of a result is in the block of `pt`. -/
theorem mem_pt (i : S2x256x1024.Idx) : i ∈ ((cfg0.win 4).blk (pt i)).view.set := by
  have h1 : (i 1).val < 256 := (i 1).isLt
  have h := ((cfg0.win 4).blk (pt i)).view.emb_mem_set
    (ix3 (0 : Fin 1) (⟨(i 1).val % 256, Nat.mod_lt _ (by norm_num)⟩ : Fin 256) (i 2) : S1x256x1024.Idx)
  have e : ((cfg0.win 4).blk (pt i)).view.emb (ix3 (0 : Fin 1) (⟨(i 1).val % 256, Nat.mod_lt _ (by norm_num)⟩ : Fin 256) (i 2) : S1x256x1024.Idx) = i := by
    obtain ⟨e0, e1, e2⟩ := idx4 (pt i)
    funext a; apply Fin.ext
    match a with
    | ⟨0, _⟩ => show win0_4.index (pt i) (0 : Fin 3) * 1 + 1 * 0 = (i 0).val; rw [e0]; show ((i 0).val * 1 + (i 1).val / 256) / 1 * 1 + 1 * 0 = _; omega
    | ⟨1, _⟩ => show win0_4.index (pt i) (1 : Fin 3) * 256 + 1 * ((i 1).val % 256) = (i 1).val; rw [e1]; show ((i 0).val * 1 + (i 1).val / 256) % 1 * 256 + 1 * ((i 1).val % 256) = _; omega
    | ⟨2, _⟩ => show win0_4.index (pt i) (2 : Fin 3) * 1024 + 1 * (i 2).val = (i 2).val; rw [e2]; omega
  rw [e] at h
  exact h

/-- The run: the three results are the step and the two moments, and the arguments end unchanged. -/
theorem run : θ_run defs (onTc (τ := τ) (main (F := Ideal))) ⟨m, fun _ => 0, ρ⟩ fun r => ∀ c : Dev nD,
      r.2.mem ((c : Thread nD τ).loc main_v0_0) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = newMs (m ((c : Thread nD τ).loc main_arg1)) (m ((c : Thread nD τ).loc main_arg2))
      ∧ r.2.mem ((c : Thread nD τ).loc main_v0_2) = newVs (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨
      (h c).1.trans ((dats m 0 c).arrAt_eq_of_cover 4 _ (fun t _ => flushed4 m c t) fun i => ⟨pt i, flush0_4 _, mem_pt i⟩),
      (h c).2.1.trans ((dats m 0 c).arrAt_eq_of_cover 5 _ (fun t _ => flushed5 m c t) fun i => ⟨pt i, flush0_5 _, mem_pt i⟩),
      (h c).2.2.1.trans ((dats m 0 c).arrAt_eq_of_cover 6 _ (fun t _ => flushed6 m c t) fun i => ⟨pt i, flush0_6 _, mem_pt i⟩),
      (h c).2.2.2⟩) (Value.run_blocks m ρ)

end Cert.AdamAttnIdeal.Hand

namespace Cert.Proof

open Idealize.ShloMosaic Idealize.ShloMosaic.TcCoe Idealize.SL.Sem

/-- The reference's first moments. -/
theorem adamAttn_refM (g m : Vec Ideal Cert.AdamAttnIdeal.S2x256x1024 .f32) :
    Cert.AdamAttnRefIdeal.Read.val_main_v4 (F := Ideal) g m = Cert.Adam.newMs g m := by
  rfl

/-- The reference's second moments. -/
theorem adamAttn_refV (g v : Vec Ideal Cert.AdamAttnIdeal.S2x256x1024 .f32) :
    Cert.AdamAttnRefIdeal.Read.val_main_v10 (F := Ideal) g v = Cert.Adam.newVs g v := by
  rfl

/-- The reference's steps. -/
theorem adamAttn_refD (w g m v : Vec Ideal Cert.AdamAttnIdeal.S2x256x1024 .f32) :
    Cert.AdamAttnRefIdeal.Read.val_main_v23 (F := Ideal) w g m v = Cert.Adam.deltas w g m v := by
  rfl

/-- The kernel's call and the reference, from memories that agree on the arguments, end with equal results. -/
theorem adamAttn : Cert.algebraic_AdamAttnIdeal_AdamAttnRefIdeal (hAdamAttnIdeal := Cert.AdamAttnIdeal.Gen.facts) (hAdamAttnRefIdeal := Cert.AdamAttnRefIdeal.Gen.facts) := by
  intro m ρ m' ρ' _ hag
  refine ⟨_, _, _, Cert.AdamAttnIdeal.Hand.run m ρ, (θ_run _ _ _).mono (fun _ h c => ⟨(h c).1.trans ?_, (h c).2.1.trans ?_, (h c).2.2.1.trans ?_, (h c).2.2.2⟩) (Cert.AdamAttnRefIdeal.Value.run m' ρ')⟩
  · rw [Cert.AdamAttnRefIdeal.Read.val_main_v23_eq, (hag c).1, (hag c).2.1, (hag c).2.2.1, (hag c).2.2.2]
    exact adamAttn_refD _ _ _ _
  · rw [Cert.AdamAttnRefIdeal.Read.val_main_v4_eq, (hag c).2.1, (hag c).2.2.1]
    exact adamAttn_refM _ _
  · rw [Cert.AdamAttnRefIdeal.Read.val_main_v10_eq, (hag c).2.1, (hag c).2.2.2]
    exact adamAttn_refV _ _

end Cert.Proof

end
-- ==== Proof.AdamMod.lean ====
/-
  Hand-written. The optimiser's step for `mod_w`: the kernel's call and the reference end with the
  same three arrays, at every element one step of AdamW.
-/
module

public import proofs.«01_k».proof.Defs
public import proofs.«01_k».proof.Proof.Gen.AdamModIdeal.Value
public import proofs.«01_k».proof.Proof.Gen.AdamModRefIdeal.Run
public import proofs.«01_k».proof.Proof.Gen.AdamModRefIdeal.Read
public import proofs.«01_k».proof.Proof.Adam

@[expose] public section

set_option maxRecDepth 16384

noncomputable section

namespace Cert.AdamModIdeal.Hand

open Cert.AdamModIdeal Cert.AdamModIdeal.Gen Cert.Adam Idealize.ShloMosaic Idealize.ShloMosaic.TcCoe Idealize.SL.Sem
open Idealize.ShloMosaic.Pipeline (Dat)

theorem hz3 : (![0, 0, 0] : Fin 3 → Nat) = fun _ => 0 := funext fun a => by fin_cases a <;> rfl

/-- An index of a block, rebuilt from its coordinates. -/
theorem self (y : S1x128x2304.Idx) : (fun a => match a with | ⟨0, _⟩ => ⟨0, Nat.one_pos⟩ | ⟨1, _⟩ => ⟨(y 1).val, (y 1).isLt⟩ | ⟨2, _⟩ => ⟨(y 2).val, (y 2).isLt⟩ : S1x128x2304.Idx) = y := by
  funext a; apply Fin.ext
  match a with
  | ⟨0, _⟩ => have h : (y 0).val < 1 := (y 0).isLt; show 0 = (y 0).val; omega
  | ⟨1, _⟩ => rfl
  | ⟨2, _⟩ => rfl

variable (m : (ℓ : Loc nD τ sig) → Buf (Elt Ideal) ℓ) (ρ : Dev nD → PrngReg)

/-- Each point writes back its block of the steps. -/
theorem flushed4 (c : Dev nD) (t : Fin cfg0.N) :
    (dats m 0 c).flushed 4 t = ((cfg0.win 4).blk t).view.read (Elt Ideal) (deltas (V m c main_arg0) (V m c main_arg1) (V m c main_arg2) (V m c main_arg3)) := by
  rw [Value.flushed4]
  funext j
  show out0_4 (F := Ideal) (iblk m c 0 t) (iblk m c 1 t) (iblk m c 2 t) (iblk m c 3 t) j = _
  unfold out0_4
  rw [Value.canon4_eq, View.ld_unit_zero hz3, View.ld_unit_zero hz3, View.ld_unit_zero hz3, View.ld_unit_zero hz3]
  exact congrArg (deltas (iblk m c 0 t) (iblk m c 1 t) (iblk m c 2 t) (iblk m c 3 t)) (self j)

/-- Each point writes back its block of the first moments. -/
theorem flushed5 (c : Dev nD) (t : Fin cfg0.N) :
    (dats m 0 c).flushed 5 t = ((cfg0.win 5).blk t).view.read (Elt Ideal) (newMs (V m c main_arg1) (V m c main_arg2)) := by
  rw [Value.flushed5]
  funext j
  show out0_5 (F := Ideal) (iblk m c 0 t) (iblk m c 1 t) (iblk m c 2 t) (iblk m c 3 t) j = _
  unfold out0_5
  rw [Value.canon5_eq, View.ld_unit_zero hz3, View.ld_unit_zero hz3]
  exact congrArg (newMs (iblk m c 1 t) (iblk m c 2 t)) (self j)

/-- Each point writes back its block of the second moments. -/
theorem flushed6 (c : Dev nD) (t : Fin cfg0.N) :
    (dats m 0 c).flushed 6 t = ((cfg0.win 6).blk t).view.read (Elt Ideal) (newVs (V m c main_arg1) (V m c main_arg3)) := by
  rw [Value.flushed6]
  funext j
  show out0_6 (F := Ideal) (iblk m c 0 t) (iblk m c 1 t) (iblk m c 2 t) (iblk m c 3 t) j = _
  unfold out0_6
  rw [Value.canon6_eq, View.ld_unit_zero hz3, View.ld_unit_zero hz3]
  exact congrArg (newVs (iblk m c 1 t) (iblk m c 3 t)) (self j)

theorem idx4 : ∀ t : Fin cfg0.N, win0_4.index t (0 : Fin 3) = t.val / 8 ∧ win0_4.index t (1 : Fin 3) = t.val % 8 ∧ win0_4.index t (2 : Fin 3) = 0 :=
  (by decide +kernel : ∀ t : Fin grid0.N, _)

/-- The point whose block holds an index. -/
abbrev pt (i : S4x1024x2304.Idx) : Fin cfg0.N :=
  ⟨(i 0).val * 8 + (i 1).val / 128, by
    have h0 : (i 0).val < 4 := (i 0).isLt
    have h1 : (i 1).val < 1024 := (i 1).isLt
    show _ < 32
    omega⟩

/-- Every index of a result is in the block of `pt`. -/
theorem mem_pt (i : S4x1024x2304.Idx) : i ∈ ((cfg0.win 4).blk (pt i)).view.set := by
  have h1 : (i 1).val < 1024 := (i 1).isLt
  have h := ((cfg0.win 4).blk (pt i)).view.emb_mem_set
    (ix3 (0 : Fin 1) (⟨(i 1).val % 128, Nat.mod_lt _ (by norm_num)⟩ : Fin 128) (i 2) : S1x128x2304.Idx)
  have e : ((cfg0.win 4).blk (pt i)).view.emb (ix3 (0 : Fin 1) (⟨(i 1).val % 128, Nat.mod_lt _ (by norm_num)⟩ : Fin 128) (i 2) : S1x128x2304.Idx) = i := by
    obtain ⟨e0, e1, e2⟩ := idx4 (pt i)
    funext a; apply Fin.ext
    match a with
    | ⟨0, _⟩ => show win0_4.index (pt i) (0 : Fin 3) * 1 + 1 * 0 = (i 0).val; rw [e0]; show ((i 0).val * 8 + (i 1).val / 128) / 8 * 1 + 1 * 0 = _; omega
    | ⟨1, _⟩ => show win0_4.index (pt i) (1 : Fin 3) * 128 + 1 * ((i 1).val % 128) = (i 1).val; rw [e1]; show ((i 0).val * 8 + (i 1).val / 128) % 8 * 128 + 1 * ((i 1).val % 128) = _; omega
    | ⟨2, _⟩ => show win0_4.index (pt i) (2 : Fin 3) * 2304 + 1 * (i 2).val = (i 2).val; rw [e2]; omega
  rw [e] at h
  exact h

/-- The run: the three results are the step and the two moments, and the arguments end unchanged. -/
theorem run : θ_run defs (onTc (τ := τ) (main (F := Ideal))) ⟨m, fun _ => 0, ρ⟩ fun r => ∀ c : Dev nD,
      r.2.mem ((c : Thread nD τ).loc main_v0_0) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = newMs (m ((c : Thread nD τ).loc main_arg1)) (m ((c : Thread nD τ).loc main_arg2))
      ∧ r.2.mem ((c : Thread nD τ).loc main_v0_2) = newVs (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨
      (h c).1.trans ((dats m 0 c).arrAt_eq_of_cover 4 _ (fun t _ => flushed4 m c t) fun i => ⟨pt i, flush0_4 _, mem_pt i⟩),
      (h c).2.1.trans ((dats m 0 c).arrAt_eq_of_cover 5 _ (fun t _ => flushed5 m c t) fun i => ⟨pt i, flush0_5 _, mem_pt i⟩),
      (h c).2.2.1.trans ((dats m 0 c).arrAt_eq_of_cover 6 _ (fun t _ => flushed6 m c t) fun i => ⟨pt i, flush0_6 _, mem_pt i⟩),
      (h c).2.2.2⟩) (Value.run_blocks m ρ)

end Cert.AdamModIdeal.Hand

namespace Cert.Proof

open Idealize.ShloMosaic Idealize.ShloMosaic.TcCoe Idealize.SL.Sem

/-- The reference's first moments. -/
theorem adamMod_refM (g m : Vec Ideal Cert.AdamModIdeal.S4x1024x2304 .f32) :
    Cert.AdamModRefIdeal.Read.val_main_v4 (F := Ideal) g m = Cert.Adam.newMs g m := by
  rfl

/-- The reference's second moments. -/
theorem adamMod_refV (g v : Vec Ideal Cert.AdamModIdeal.S4x1024x2304 .f32) :
    Cert.AdamModRefIdeal.Read.val_main_v10 (F := Ideal) g v = Cert.Adam.newVs g v := by
  rfl

/-- The reference's steps. -/
theorem adamMod_refD (w g m v : Vec Ideal Cert.AdamModIdeal.S4x1024x2304 .f32) :
    Cert.AdamModRefIdeal.Read.val_main_v23 (F := Ideal) w g m v = Cert.Adam.deltas w g m v := by
  rfl

/-- The kernel's call and the reference, from memories that agree on the arguments, end with equal results. -/
theorem adamMod : Cert.algebraic_AdamModIdeal_AdamModRefIdeal (hAdamModIdeal := Cert.AdamModIdeal.Gen.facts) (hAdamModRefIdeal := Cert.AdamModRefIdeal.Gen.facts) := by
  intro m ρ m' ρ' _ hag
  refine ⟨_, _, _, Cert.AdamModIdeal.Hand.run m ρ, (θ_run _ _ _).mono (fun _ h c => ⟨(h c).1.trans ?_, (h c).2.1.trans ?_, (h c).2.2.1.trans ?_, (h c).2.2.2⟩) (Cert.AdamModRefIdeal.Value.run m' ρ')⟩
  · rw [Cert.AdamModRefIdeal.Read.val_main_v23_eq, (hag c).1, (hag c).2.1, (hag c).2.2.1, (hag c).2.2.2]
    exact adamMod_refD _ _ _ _
  · rw [Cert.AdamModRefIdeal.Read.val_main_v4_eq, (hag c).2.1, (hag c).2.2.1]
    exact adamMod_refM _ _
  · rw [Cert.AdamModRefIdeal.Read.val_main_v10_eq, (hag c).2.1, (hag c).2.2.2]
    exact adamMod_refV _ _

end Cert.Proof

end
-- ==== Proof.AdamKvMod.lean ====
/-
  Hand-written. The optimiser's step for `kv_mod_w`: the kernel's call and the reference end with the
  same three arrays, at every element one step of AdamW.
-/
module

public import proofs.«01_k».proof.Defs
public import proofs.«01_k».proof.Proof.Gen.AdamKvModIdeal.Value
public import proofs.«01_k».proof.Proof.Gen.AdamKvModRefIdeal.Run
public import proofs.«01_k».proof.Proof.Gen.AdamKvModRefIdeal.Read
public import proofs.«01_k».proof.Proof.Adam

@[expose] public section

set_option maxRecDepth 16384

noncomputable section

namespace Cert.AdamKvModIdeal.Hand

open Cert.AdamKvModIdeal Cert.AdamKvModIdeal.Gen Cert.Adam Idealize.ShloMosaic Idealize.ShloMosaic.TcCoe Idealize.SL.Sem
open Idealize.ShloMosaic.Pipeline (Dat)

theorem hz3 : (![0, 0, 0] : Fin 3 → Nat) = fun _ => 0 := funext fun a => by fin_cases a <;> rfl

/-- An index of a block, rebuilt from its coordinates. -/
theorem self (y : S1x1024x512.Idx) : (fun a => match a with | ⟨0, _⟩ => ⟨0, Nat.one_pos⟩ | ⟨1, _⟩ => ⟨(y 1).val, (y 1).isLt⟩ | ⟨2, _⟩ => ⟨(y 2).val, (y 2).isLt⟩ : S1x1024x512.Idx) = y := by
  funext a; apply Fin.ext
  match a with
  | ⟨0, _⟩ => have h : (y 0).val < 1 := (y 0).isLt; show 0 = (y 0).val; omega
  | ⟨1, _⟩ => rfl
  | ⟨2, _⟩ => rfl

variable (m : (ℓ : Loc nD τ sig) → Buf (Elt Ideal) ℓ) (ρ : Dev nD → PrngReg)

/-- Each point writes back its block of the steps. -/
theorem flushed4 (c : Dev nD) (t : Fin cfg0.N) :
    (dats m 0 c).flushed 4 t = ((cfg0.win 4).blk t).view.read (Elt Ideal) (deltas (V m c main_arg0) (V m c main_arg1) (V m c main_arg2) (V m c main_arg3)) := by
  rw [Value.flushed4]
  funext j
  show out0_4 (F := Ideal) (iblk m c 0 t) (iblk m c 1 t) (iblk m c 2 t) (iblk m c 3 t) j = _
  unfold out0_4
  rw [Value.canon4_eq, View.ld_unit_zero hz3, View.ld_unit_zero hz3, View.ld_unit_zero hz3, View.ld_unit_zero hz3]
  exact congrArg (deltas (iblk m c 0 t) (iblk m c 1 t) (iblk m c 2 t) (iblk m c 3 t)) (self j)

/-- Each point writes back its block of the first moments. -/
theorem flushed5 (c : Dev nD) (t : Fin cfg0.N) :
    (dats m 0 c).flushed 5 t = ((cfg0.win 5).blk t).view.read (Elt Ideal) (newMs (V m c main_arg1) (V m c main_arg2)) := by
  rw [Value.flushed5]
  funext j
  show out0_5 (F := Ideal) (iblk m c 0 t) (iblk m c 1 t) (iblk m c 2 t) (iblk m c 3 t) j = _
  unfold out0_5
  rw [Value.canon5_eq, View.ld_unit_zero hz3, View.ld_unit_zero hz3]
  exact congrArg (newMs (iblk m c 1 t) (iblk m c 2 t)) (self j)

/-- Each point writes back its block of the second moments. -/
theorem flushed6 (c : Dev nD) (t : Fin cfg0.N) :
    (dats m 0 c).flushed 6 t = ((cfg0.win 6).blk t).view.read (Elt Ideal) (newVs (V m c main_arg1) (V m c main_arg3)) := by
  rw [Value.flushed6]
  funext j
  show out0_6 (F := Ideal) (iblk m c 0 t) (iblk m c 1 t) (iblk m c 2 t) (iblk m c 3 t) j = _
  unfold out0_6
  rw [Value.canon6_eq, View.ld_unit_zero hz3, View.ld_unit_zero hz3]
  exact congrArg (newVs (iblk m c 1 t) (iblk m c 3 t)) (self j)

theorem idx4 : ∀ t : Fin cfg0.N, win0_4.index t (0 : Fin 3) = t.val / 1 ∧ win0_4.index t (1 : Fin 3) = t.val % 1 ∧ win0_4.index t (2 : Fin 3) = 0 :=
  (by decide +kernel : ∀ t : Fin grid0.N, _)

/-- The point whose block holds an index. -/
abbrev pt (i : S1x1024x512.Idx) : Fin cfg0.N :=
  ⟨(i 0).val * 1 + (i 1).val / 1024, by
    have h0 : (i 0).val < 1 := (i 0).isLt
    have h1 : (i 1).val < 1024 := (i 1).isLt
    show _ < 1
    omega⟩

/-- Every index of a result is in the block of `pt`. -/
theorem mem_pt (i : S1x1024x512.Idx) : i ∈ ((cfg0.win 4).blk (pt i)).view.set := by
  have h1 : (i 1).val < 1024 := (i 1).isLt
  have h := ((cfg0.win 4).blk (pt i)).view.emb_mem_set
    (ix3 (0 : Fin 1) (⟨(i 1).val % 1024, Nat.mod_lt _ (by norm_num)⟩ : Fin 1024) (i 2) : S1x1024x512.Idx)
  have e : ((cfg0.win 4).blk (pt i)).view.emb (ix3 (0 : Fin 1) (⟨(i 1).val % 1024, Nat.mod_lt _ (by norm_num)⟩ : Fin 1024) (i 2) : S1x1024x512.Idx) = i := by
    obtain ⟨e0, e1, e2⟩ := idx4 (pt i)
    funext a; apply Fin.ext
    match a with
    | ⟨0, _⟩ => show win0_4.index (pt i) (0 : Fin 3) * 1 + 1 * 0 = (i 0).val; rw [e0]; show ((i 0).val * 1 + (i 1).val / 1024) / 1 * 1 + 1 * 0 = _; omega
    | ⟨1, _⟩ => show win0_4.index (pt i) (1 : Fin 3) * 1024 + 1 * ((i 1).val % 1024) = (i 1).val; rw [e1]; show ((i 0).val * 1 + (i 1).val / 1024) % 1 * 1024 + 1 * ((i 1).val % 1024) = _; omega
    | ⟨2, _⟩ => show win0_4.index (pt i) (2 : Fin 3) * 512 + 1 * (i 2).val = (i 2).val; rw [e2]; omega
  rw [e] at h
  exact h

/-- The run: the three results are the step and the two moments, and the arguments end unchanged. -/
theorem run : θ_run defs (onTc (τ := τ) (main (F := Ideal))) ⟨m, fun _ => 0, ρ⟩ fun r => ∀ c : Dev nD,
      r.2.mem ((c : Thread nD τ).loc main_v0_0) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = newMs (m ((c : Thread nD τ).loc main_arg1)) (m ((c : Thread nD τ).loc main_arg2))
      ∧ r.2.mem ((c : Thread nD τ).loc main_v0_2) = newVs (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨
      (h c).1.trans ((dats m 0 c).arrAt_eq_of_cover 4 _ (fun t _ => flushed4 m c t) fun i => ⟨pt i, flush0_4 _, mem_pt i⟩),
      (h c).2.1.trans ((dats m 0 c).arrAt_eq_of_cover 5 _ (fun t _ => flushed5 m c t) fun i => ⟨pt i, flush0_5 _, mem_pt i⟩),
      (h c).2.2.1.trans ((dats m 0 c).arrAt_eq_of_cover 6 _ (fun t _ => flushed6 m c t) fun i => ⟨pt i, flush0_6 _, mem_pt i⟩),
      (h c).2.2.2⟩) (Value.run_blocks m ρ)

end Cert.AdamKvModIdeal.Hand

namespace Cert.Proof

open Idealize.ShloMosaic Idealize.ShloMosaic.TcCoe Idealize.SL.Sem

/-- The reference's first moments. -/
theorem adamKvMod_refM (g m : Vec Ideal Cert.AdamKvModIdeal.S1x1024x512 .f32) :
    Cert.AdamKvModRefIdeal.Read.val_main_v4 (F := Ideal) g m = Cert.Adam.newMs g m := by
  rfl

/-- The reference's second moments. -/
theorem adamKvMod_refV (g v : Vec Ideal Cert.AdamKvModIdeal.S1x1024x512 .f32) :
    Cert.AdamKvModRefIdeal.Read.val_main_v10 (F := Ideal) g v = Cert.Adam.newVs g v := by
  rfl

/-- The reference's steps. -/
theorem adamKvMod_refD (w g m v : Vec Ideal Cert.AdamKvModIdeal.S1x1024x512 .f32) :
    Cert.AdamKvModRefIdeal.Read.val_main_v23 (F := Ideal) w g m v = Cert.Adam.deltas w g m v := by
  rfl

/-- The kernel's call and the reference, from memories that agree on the arguments, end with equal results. -/
theorem adamKvMod : Cert.algebraic_AdamKvModIdeal_AdamKvModRefIdeal (hAdamKvModIdeal := Cert.AdamKvModIdeal.Gen.facts) (hAdamKvModRefIdeal := Cert.AdamKvModRefIdeal.Gen.facts) := by
  intro m ρ m' ρ' _ hag
  refine ⟨_, _, _, Cert.AdamKvModIdeal.Hand.run m ρ, (θ_run _ _ _).mono (fun _ h c => ⟨(h c).1.trans ?_, (h c).2.1.trans ?_, (h c).2.2.1.trans ?_, (h c).2.2.2⟩) (Cert.AdamKvModRefIdeal.Value.run m' ρ')⟩
  · rw [Cert.AdamKvModRefIdeal.Read.val_main_v23_eq, (hag c).1, (hag c).2.1, (hag c).2.2.1, (hag c).2.2.2]
    exact adamKvMod_refD _ _ _ _
  · rw [Cert.AdamKvModRefIdeal.Read.val_main_v4_eq, (hag c).2.1, (hag c).2.2.1]
    exact adamKvMod_refM _ _
  · rw [Cert.AdamKvModRefIdeal.Read.val_main_v10_eq, (hag c).2.1, (hag c).2.2.2]
    exact adamKvMod_refV _ _

end Cert.Proof

end
-- ==== Proof.AdamSmall.lean ====
/-
  Hand-written. The optimiser's step for the sixteen small weights, packed one after the other: the kernel's call and the reference end with the
  same three arrays, at every element one step of AdamW.
-/
module

public import proofs.«01_k».proof.Defs
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Adam

@[expose] public section

set_option maxRecDepth 16384

noncomputable section

namespace Cert.AdamSmallIdeal.Hand

open Cert.AdamSmallIdeal Cert.AdamSmallIdeal.Gen Cert.Adam Idealize.ShloMosaic Idealize.ShloMosaic.TcCoe Idealize.SL.Sem
open Idealize.ShloMosaic.Pipeline (Dat)

theorem hz3 : (![0, 0, 0] : Fin 3 → Nat) = fun _ => 0 := funext fun a => by fin_cases a <;> rfl

/-- An index of a block, rebuilt from its coordinates. -/
theorem self (y : S1x8x7936.Idx) : (fun a => match a with | ⟨0, _⟩ => ⟨0, Nat.one_pos⟩ | ⟨1, _⟩ => ⟨(y 1).val, (y 1).isLt⟩ | ⟨2, _⟩ => ⟨(y 2).val, (y 2).isLt⟩ : S1x8x7936.Idx) = y := by
  funext a; apply Fin.ext
  match a with
  | ⟨0, _⟩ => have h : (y 0).val < 1 := (y 0).isLt; show 0 = (y 0).val; omega
  | ⟨1, _⟩ => rfl
  | ⟨2, _⟩ => rfl

variable (m : (ℓ : Loc nD τ sig) → Buf (Elt Ideal) ℓ) (ρ : Dev nD → PrngReg)

/-- Each point writes back its block of the steps. -/
theorem flushed4 (c : Dev nD) (t : Fin cfg0.N) :
    (dats m 0 c).flushed 4 t = ((cfg0.win 4).blk t).view.read (Elt Ideal) (deltas (V m c main_arg0) (V m c main_arg1) (V m c main_arg2) (V m c main_arg3)) := by
  rw [Value.flushed4]
  funext j
  show out0_4 (F := Ideal) (iblk m c 0 t) (iblk m c 1 t) (iblk m c 2 t) (iblk m c 3 t) j = _
  unfold out0_4
  rw [Value.canon4_eq, View.ld_unit_zero hz3, View.ld_unit_zero hz3, View.ld_unit_zero hz3, View.ld_unit_zero hz3]
  exact congrArg (deltas (iblk m c 0 t) (iblk m c 1 t) (iblk m c 2 t) (iblk m c 3 t)) (self j)

/-- Each point writes back its block of the first moments. -/
theorem flushed5 (c : Dev nD) (t : Fin cfg0.N) :
    (dats m 0 c).flushed 5 t = ((cfg0.win 5).blk t).view.read (Elt Ideal) (newMs (V m c main_arg1) (V m c main_arg2)) := by
  rw [Value.flushed5]
  funext j
  show out0_5 (F := Ideal) (iblk m c 0 t) (iblk m c 1 t) (iblk m c 2 t) (iblk m c 3 t) j = _
  unfold out0_5
  rw [Value.canon5_eq, View.ld_unit_zero hz3, View.ld_unit_zero hz3]
  exact congrArg (newMs (iblk m c 1 t) (iblk m c 2 t)) (self j)

/-- Each point writes back its block of the second moments. -/
theorem flushed6 (c : Dev nD) (t : Fin cfg0.N) :
    (dats m 0 c).flushed 6 t = ((cfg0.win 6).blk t).view.read (Elt Ideal) (newVs (V m c main_arg1) (V m c main_arg3)) := by
  rw [Value.flushed6]
  funext j
  show out0_6 (F := Ideal) (iblk m c 0 t) (iblk m c 1 t) (iblk m c 2 t) (iblk m c 3 t) j = _
  unfold out0_6
  rw [Value.canon6_eq, View.ld_unit_zero hz3, View.ld_unit_zero hz3]
  exact congrArg (newVs (iblk m c 1 t) (iblk m c 3 t)) (self j)

theorem idx4 : ∀ t : Fin cfg0.N, win0_4.index t (0 : Fin 3) = t.val / 1 ∧ win0_4.index t (1 : Fin 3) = t.val % 1 ∧ win0_4.index t (2 : Fin 3) = 0 :=
  (by decide +kernel : ∀ t : Fin grid0.N, _)

/-- The point whose block holds an index. -/
abbrev pt (i : S1x8x7936.Idx) : Fin cfg0.N :=
  ⟨(i 0).val * 1 + (i 1).val / 8, by
    have h0 : (i 0).val < 1 := (i 0).isLt
    have h1 : (i 1).val < 8 := (i 1).isLt
    show _ < 1
    omega⟩

/-- Every index of a result is in the block of `pt`. -/
theorem mem_pt (i : S1x8x7936.Idx) : i ∈ ((cfg0.win 4).blk (pt i)).view.set := by
  have h1 : (i 1).val < 8 := (i 1).isLt
  have h := ((cfg0.win 4).blk (pt i)).view.emb_mem_set
    (ix3 (0 : Fin 1) (⟨(i 1).val % 8, Nat.mod_lt _ (by norm_num)⟩ : Fin 8) (i 2) : S1x8x7936.Idx)
  have e : ((cfg0.win 4).blk (pt i)).view.emb (ix3 (0 : Fin 1) (⟨(i 1).val % 8, Nat.mod_lt _ (by norm_num)⟩ : Fin 8) (i 2) : S1x8x7936.Idx) = i := by
    obtain ⟨e0, e1, e2⟩ := idx4 (pt i)
    funext a; apply Fin.ext
    match a with
    | ⟨0, _⟩ => show win0_4.index (pt i) (0 : Fin 3) * 1 + 1 * 0 = (i 0).val; rw [e0]; show ((i 0).val * 1 + (i 1).val / 8) / 1 * 1 + 1 * 0 = _; omega
    | ⟨1, _⟩ => show win0_4.index (pt i) (1 : Fin 3) * 8 + 1 * ((i 1).val % 8) = (i 1).val; rw [e1]; show ((i 0).val * 1 + (i 1).val / 8) % 1 * 8 + 1 * ((i 1).val % 8) = _; omega
    | ⟨2, _⟩ => show win0_4.index (pt i) (2 : Fin 3) * 7936 + 1 * (i 2).val = (i 2).val; rw [e2]; omega
  rw [e] at h
  exact h

/-- The run: the three results are the step and the two moments, and the arguments end unchanged. -/
theorem run : θ_run defs (onTc (τ := τ) (main (F := Ideal))) ⟨m, fun _ => 0, ρ⟩ fun r => ∀ c : Dev nD,
      r.2.mem ((c : Thread nD τ).loc main_v0_0) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = newMs (m ((c : Thread nD τ).loc main_arg1)) (m ((c : Thread nD τ).loc main_arg2))
      ∧ r.2.mem ((c : Thread nD τ).loc main_v0_2) = newVs (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨
      (h c).1.trans ((dats m 0 c).arrAt_eq_of_cover 4 _ (fun t _ => flushed4 m c t) fun i => ⟨pt i, flush0_4 _, mem_pt i⟩),
      (h c).2.1.trans ((dats m 0 c).arrAt_eq_of_cover 5 _ (fun t _ => flushed5 m c t) fun i => ⟨pt i, flush0_5 _, mem_pt i⟩),
      (h c).2.2.1.trans ((dats m 0 c).arrAt_eq_of_cover 6 _ (fun t _ => flushed6 m c t) fun i => ⟨pt i, flush0_6 _, mem_pt i⟩),
      (h c).2.2.2⟩) (Value.run_blocks m ρ)

end Cert.AdamSmallIdeal.Hand

namespace Cert.Proof

open Idealize.ShloMosaic Idealize.ShloMosaic.TcCoe Idealize.SL.Sem

/-- The reference's first moments. -/
theorem adamSmall_refM (g m : Vec Ideal Cert.AdamSmallIdeal.S1x8x7936 .f32) :
    Cert.AdamSmallRefIdeal.Read.val_main_v4 (F := Ideal) g m = Cert.Adam.newMs g m := by
  rfl

/-- The reference's second moments. -/
theorem adamSmall_refV (g v : Vec Ideal Cert.AdamSmallIdeal.S1x8x7936 .f32) :
    Cert.AdamSmallRefIdeal.Read.val_main_v10 (F := Ideal) g v = Cert.Adam.newVs g v := by
  rfl

/-- The reference's steps. -/
theorem adamSmall_refD (w g m v : Vec Ideal Cert.AdamSmallIdeal.S1x8x7936 .f32) :
    Cert.AdamSmallRefIdeal.Read.val_main_v23 (F := Ideal) w g m v = Cert.Adam.deltas w g m v := by
  rfl

/-- The kernel's call and the reference, from memories that agree on the arguments, end with equal results. -/
theorem adamSmall : Cert.algebraic_AdamSmallIdeal_AdamSmallRefIdeal (hAdamSmallIdeal := Cert.AdamSmallIdeal.Gen.facts) (hAdamSmallRefIdeal := Cert.AdamSmallRefIdeal.Gen.facts) := by
  intro m ρ m' ρ' _ hag
  refine ⟨_, _, _, Cert.AdamSmallIdeal.Hand.run m ρ, (θ_run _ _ _).mono (fun _ h c => ⟨(h c).1.trans ?_, (h c).2.1.trans ?_, (h c).2.2.1.trans ?_, (h c).2.2.2⟩) (Cert.AdamSmallRefIdeal.Value.run m' ρ')⟩
  · rw [Cert.AdamSmallRefIdeal.Read.val_main_v23_eq, (hag c).1, (hag c).2.1, (hag c).2.2.1, (hag c).2.2.2]
    exact adamSmall_refD _ _ _ _
  · rw [Cert.AdamSmallRefIdeal.Read.val_main_v4_eq, (hag c).2.1, (hag c).2.2.1]
    exact adamSmall_refM _ _
  · rw [Cert.AdamSmallRefIdeal.Read.val_main_v10_eq, (hag c).2.1, (hag c).2.2.2]
    exact adamSmall_refV _ _

end Cert.Proof

end
-- ==== Proof.lean ====
/-
  Hand-written. The proof of `Cert.Claim`, the conjunction of all claims: for each program that it runs without a fault and
  leaves its arguments and counters as they were, for each kernel that its ideal program is the kernel's, and that it ends
  with its reference's results.
-/
module

public import proofs.«01_k».proof.Defs
public import proofs.«01_k».proof.Proof.Gen.DownDx.Frame
public import proofs.«01_k».proof.Proof.Gen.DownDxIdeal.Value
public import proofs.«01_k».proof.Proof.Gen.DownDxRefIdeal.Run
public import proofs.«01_k».proof.Proof.Gen.DownDxRefIdeal.Read
public import proofs.«01_k».proof.Proof.Gen.DownDw.Frame
public import proofs.«01_k».proof.Proof.Gen.DownDwIdeal.Value
public import proofs.«01_k».proof.Proof.Gen.DownDwRefIdeal.Run
public import proofs.«01_k».proof.Proof.Gen.DownDwRefIdeal.Read
public import proofs.«01_k».proof.Proof.Gen.GateBwd.Frame
public import proofs.«01_k».proof.Proof.Gen.GateBwdIdeal.Value
public import proofs.«01_k».proof.Proof.Gen.GateBwdRefIdeal.Run
public import proofs.«01_k».proof.Proof.Gen.GateBwdRefIdeal.Read
public import proofs.«01_k».proof.Proof.Gen.GuDx.Frame
public import proofs.«01_k».proof.Proof.Gen.GuDxIdeal.Value
public import proofs.«01_k».proof.Proof.Gen.GuDxRefIdeal.Run
public import proofs.«01_k».proof.Proof.Gen.GuDxRefIdeal.Read
public import proofs.«01_k».proof.Proof.Gen.GuDw.Frame
public import proofs.«01_k».proof.Proof.Gen.GuDwIdeal.Value
public import proofs.«01_k».proof.Proof.Gen.GuDwRefIdeal.Run
public import proofs.«01_k».proof.Proof.Gen.GuDwRefIdeal.Read
public import proofs.«01_k».proof.Proof.Gen.MixGateBwd.Frame
public import proofs.«01_k».proof.Proof.Gen.MixGateBwdIdeal.Value
public import proofs.«01_k».proof.Proof.Gen.MixGateBwdRefIdeal.Run
public import proofs.«01_k».proof.Proof.Gen.MixGateBwdRefIdeal.Read
public import proofs.«01_k».proof.Proof.Gen.SsmInDx.Frame
public import proofs.«01_k».proof.Proof.Gen.SsmInDxIdeal.Value
public import proofs.«01_k».proof.Proof.Gen.SsmInDxRefIdeal.Run
public import proofs.«01_k».proof.Proof.Gen.SsmInDxRefIdeal.Read
public import proofs.«01_k».proof.Proof.Gen.SsmInDw.Frame
public import proofs.«01_k».proof.Proof.Gen.SsmInDwIdeal.Value
public import proofs.«01_k».proof.Proof.Gen.SsmInDwRefIdeal.Run
public import proofs.«01_k».proof.Proof.Gen.SsmInDwRefIdeal.Read
public import proofs.«01_k».proof.Proof.Gen.SsmOutDx.Frame
public import proofs.«01_k».proof.Proof.Gen.SsmOutDxIdeal.Value
public import proofs.«01_k».proof.Proof.Gen.SsmOutDxRefIdeal.Run
public import proofs.«01_k».proof.Proof.Gen.SsmOutDxRefIdeal.Read
public import proofs.«01_k».proof.Proof.Gen.SsmOutDw.Frame
public import proofs.«01_k».proof.Proof.Gen.SsmOutDwIdeal.Value
public import proofs.«01_k».proof.Proof.Gen.SsmOutDwRefIdeal.Run
public import proofs.«01_k».proof.Proof.Gen.SsmOutDwRefIdeal.Read
public import proofs.«01_k».proof.Proof.Gen.GnormBwd.Frame
public import proofs.«01_k».proof.Proof.Gen.GnormBwdIdeal.Value
public import proofs.«01_k».proof.Proof.Gen.GnormBwdRefIdeal.Run
public import proofs.«01_k».proof.Proof.Gen.GnormBwdRefIdeal.Read
public import proofs.«01_k».proof.Proof.Gen.ConvBwd.Frame
public import proofs.«01_k».proof.Proof.Gen.ConvBwdIdeal.Value
public import proofs.«01_k».proof.Proof.Gen.ConvBwdRefIdeal.Run
public import proofs.«01_k».proof.Proof.Gen.ConvBwdRefIdeal.Read
public import proofs.«01_k».proof.Proof.Gen.FinalLoss.Frame
public import proofs.«01_k».proof.Proof.Gen.FinalLossIdeal.Value
public import proofs.«01_k».proof.Proof.Gen.FinalLossRefIdeal.Run
public import proofs.«01_k».proof.Proof.Gen.FinalLossRefIdeal.Read
public import proofs.«01_k».proof.Proof.Gen.NormMod.Frame
public import proofs.«01_k».proof.Proof.Gen.NormModIdeal.Value
public import proofs.«01_k».proof.Proof.Gen.NormModRefIdeal.Run
public import proofs.«01_k».proof.Proof.Gen.NormModRefIdeal.Read
public import proofs.«01_k».proof.Proof.Gen.FfnUp.Frame
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.Gen.FfnDown.Frame
public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.Gen.SsmIn.Frame
public import proofs.«01_k».proof.Proof.Gen.SsmInIdeal.Value
public import proofs.«01_k».proof.Proof.Gen.SsmInRefIdeal.Run
public import proofs.«01_k».proof.Proof.Gen.SsmInRefIdeal.Read
public import proofs.«01_k».proof.Proof.Gen.ConvFwd.Frame
public import proofs.«01_k».proof.Proof.Gen.ConvFwdIdeal.Value
public import proofs.«01_k».proof.Proof.Gen.ConvFwdRefIdeal.Run
public import proofs.«01_k».proof.Proof.Gen.ConvFwdRefIdeal.Read
public import proofs.«01_k».proof.Proof.Gen.GnormFwd.Frame
public import proofs.«01_k».proof.Proof.Gen.GnormFwdIdeal.Value
public import proofs.«01_k».proof.Proof.Gen.GnormFwdRefIdeal.Run
public import proofs.«01_k».proof.Proof.Gen.GnormFwdRefIdeal.Read
public import proofs.«01_k».proof.Proof.Gen.SsmOut.Frame
public import proofs.«01_k».proof.Proof.Gen.SsmOutIdeal.Value
public import proofs.«01_k».proof.Proof.Gen.SsmOutRefIdeal.Run
public import proofs.«01_k».proof.Proof.Gen.SsmOutRefIdeal.Read
public import proofs.«01_k».proof.Proof.Gen.ModW.Frame
public import proofs.«01_k».proof.Proof.Gen.ModWIdeal.Value
public import proofs.«01_k».proof.Proof.Gen.ModWRefIdeal.Run
public import proofs.«01_k».proof.Proof.Gen.ModWRefIdeal.Read
public import proofs.«01_k».proof.Proof.Gen.KvModW.Frame
public import proofs.«01_k».proof.Proof.Gen.KvModWIdeal.Value
public import proofs.«01_k».proof.Proof.Gen.KvModWRefIdeal.Run
public import proofs.«01_k».proof.Proof.Gen.KvModWRefIdeal.Read
public import proofs.«01_k».proof.Proof.Gen.SmallSum.Frame
public import proofs.«01_k».proof.Proof.Gen.SmallSumIdeal.Value
public import proofs.«01_k».proof.Proof.Gen.SmallSumRefIdeal.Run
public import proofs.«01_k».proof.Proof.Gen.SmallSumRefIdeal.Read
public import proofs.«01_k».proof.Proof.Gen.GradGu.Frame
public import proofs.«01_k».proof.Proof.Gen.GradGuIdeal.Value
public import proofs.«01_k».proof.Proof.Gen.GradGuRefIdeal.Run
public import proofs.«01_k».proof.Proof.Gen.GradGuRefIdeal.Read
public import proofs.«01_k».proof.Proof.Gen.GradDown.Frame
public import proofs.«01_k».proof.Proof.Gen.GradDownIdeal.Value
public import proofs.«01_k».proof.Proof.Gen.GradDownRefIdeal.Run
public import proofs.«01_k».proof.Proof.Gen.GradDownRefIdeal.Read
public import proofs.«01_k».proof.Proof.Gen.GradSsmIn.Frame
public import proofs.«01_k».proof.Proof.Gen.GradSsmInIdeal.Value
public import proofs.«01_k».proof.Proof.Gen.GradSsmInRefIdeal.Run
public import proofs.«01_k».proof.Proof.Gen.GradSsmInRefIdeal.Read
public import proofs.«01_k».proof.Proof.Gen.GradSsmOut.Frame
public import proofs.«01_k».proof.Proof.Gen.GradSsmOutIdeal.Value
public import proofs.«01_k».proof.Proof.Gen.GradSsmOutRefIdeal.Run
public import proofs.«01_k».proof.Proof.Gen.GradSsmOutRefIdeal.Read
public import proofs.«01_k».proof.Proof.Gen.GradKv.Frame
public import proofs.«01_k».proof.Proof.Gen.GradKvIdeal.Value
public import proofs.«01_k».proof.Proof.Gen.GradKvRefIdeal.Run
public import proofs.«01_k».proof.Proof.Gen.GradKvRefIdeal.Read
public import proofs.«01_k».proof.Proof.Gen.GradAttn.Frame
public import proofs.«01_k».proof.Proof.Gen.GradAttnIdeal.Value
public import proofs.«01_k».proof.Proof.Gen.GradAttnRefIdeal.Run
public import proofs.«01_k».proof.Proof.Gen.GradAttnRefIdeal.Read
public import proofs.«01_k».proof.Proof.Gen.AdamGu.Frame
public import proofs.«01_k».proof.Proof.Gen.AdamGuIdeal.Value
public import proofs.«01_k».proof.Proof.Gen.AdamGuRefIdeal.Run
public import proofs.«01_k».proof.Proof.Gen.AdamGuRefIdeal.Read
public import proofs.«01_k».proof.Proof.Gen.AdamDown.Frame
public import proofs.«01_k».proof.Proof.Gen.AdamDownIdeal.Value
public import proofs.«01_k».proof.Proof.Gen.AdamDownRefIdeal.Run
public import proofs.«01_k».proof.Proof.Gen.AdamDownRefIdeal.Read
public import proofs.«01_k».proof.Proof.Gen.AdamSsmIn.Frame
public import proofs.«01_k».proof.Proof.Gen.AdamSsmInIdeal.Value
public import proofs.«01_k».proof.Proof.Gen.AdamSsmInRefIdeal.Run
public import proofs.«01_k».proof.Proof.Gen.AdamSsmInRefIdeal.Read
public import proofs.«01_k».proof.Proof.Gen.AdamSsmOut.Frame
public import proofs.«01_k».proof.Proof.Gen.AdamSsmOutIdeal.Value
public import proofs.«01_k».proof.Proof.Gen.AdamSsmOutRefIdeal.Run
public import proofs.«01_k».proof.Proof.Gen.AdamSsmOutRefIdeal.Read
public import proofs.«01_k».proof.Proof.Gen.AdamKv.Frame
public import proofs.«01_k».proof.Proof.Gen.AdamKvIdeal.Value
public import proofs.«01_k».proof.Proof.Gen.AdamKvRefIdeal.Run
public import proofs.«01_k».proof.Proof.Gen.AdamKvRefIdeal.Read
public import proofs.«01_k».proof.Proof.Gen.AdamAttn.Frame
public import proofs.«01_k».proof.Proof.Gen.AdamAttnIdeal.Value
public import proofs.«01_k».proof.Proof.Gen.AdamAttnRefIdeal.Run
public import proofs.«01_k».proof.Proof.Gen.AdamAttnRefIdeal.Read
public import proofs.«01_k».proof.Proof.Gen.AdamMod.Frame
public import proofs.«01_k».proof.Proof.Gen.AdamModIdeal.Value
public import proofs.«01_k».proof.Proof.Gen.AdamModRefIdeal.Run
public import proofs.«01_k».proof.Proof.Gen.AdamModRefIdeal.Read
public import proofs.«01_k».proof.Proof.Gen.AdamKvMod.Frame
public import proofs.«01_k».proof.Proof.Gen.AdamKvModIdeal.Value
public import proofs.«01_k».proof.Proof.Gen.AdamKvModRefIdeal.Run
public import proofs.«01_k».proof.Proof.Gen.AdamKvModRefIdeal.Read
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Gen.Pre_all_real
public import proofs.«01_k».proof.Proof.Gen.Pre_gnorm_real
public import proofs.«01_k».proof.Proof.Gen.Pre_conv_real
public import proofs.«01_k».proof.Proof.DownDx
public import proofs.«01_k».proof.Proof.DownDw
public import proofs.«01_k».proof.Proof.GateBwd
public import proofs.«01_k».proof.Proof.GuDx
public import proofs.«01_k».proof.Proof.GuDw
public import proofs.«01_k».proof.Proof.MixGateBwd
public import proofs.«01_k».proof.Proof.SsmInDx
public import proofs.«01_k».proof.Proof.SsmInDw
public import proofs.«01_k».proof.Proof.SsmOutDx
public import proofs.«01_k».proof.Proof.SsmOutDw
public import proofs.«01_k».proof.Proof.GnormBwd
public import proofs.«01_k».proof.Proof.ConvBwd
public import proofs.«01_k».proof.Proof.FinalLoss
public import proofs.«01_k».proof.Proof.NormMod
public import proofs.«01_k».proof.Proof.FfnUp
public import proofs.«01_k».proof.Proof.FfnDown
public import proofs.«01_k».proof.Proof.SsmIn
public import proofs.«01_k».proof.Proof.ConvFwd
public import proofs.«01_k».proof.Proof.GnormFwd
public import proofs.«01_k».proof.Proof.SsmOut
public import proofs.«01_k».proof.Proof.ModW
public import proofs.«01_k».proof.Proof.KvModW
public import proofs.«01_k».proof.Proof.SmallSum
public import proofs.«01_k».proof.Proof.GradGu
public import proofs.«01_k».proof.Proof.GradDown
public import proofs.«01_k».proof.Proof.GradSsmIn
public import proofs.«01_k».proof.Proof.GradSsmOut
public import proofs.«01_k».proof.Proof.GradKv
public import proofs.«01_k».proof.Proof.GradAttn
public import proofs.«01_k».proof.Proof.AdamGu
public import proofs.«01_k».proof.Proof.AdamDown
public import proofs.«01_k».proof.Proof.AdamSsmIn
public import proofs.«01_k».proof.Proof.AdamSsmOut
public import proofs.«01_k».proof.Proof.AdamKv
public import proofs.«01_k».proof.Proof.AdamAttn
public import proofs.«01_k».proof.Proof.AdamMod
public import proofs.«01_k».proof.Proof.AdamKvMod
public import proofs.«01_k».proof.Proof.AdamSmall
public import Idealize.ShloMosaic.Lib.Quiescent
public import Idealize.ShloMosaic.Adequacy
public import Idealize.ShloMosaic.Init

@[expose] public section

noncomputable section

namespace Cert.Proof

open Idealize.ShloMosaic Idealize.SL.Sem

/-- Each program runs without a fault, leaves its arguments unchanged and every counter at zero; each kernel's ideal
    program is the kernel's; and each kernel ends with its reference's results. -/
theorem claim : Cert.Claim := ⟨Cert.DownDx.Gen.facts, Cert.DownDxIdeal.Gen.facts, Cert.DownDxRefIdeal.Gen.facts, Cert.DownDw.Gen.facts, Cert.DownDwIdeal.Gen.facts, Cert.DownDwRefIdeal.Gen.facts, Cert.GateBwd.Gen.facts, Cert.GateBwdIdeal.Gen.facts, Cert.GateBwdRefIdeal.Gen.facts, Cert.GuDx.Gen.facts, Cert.GuDxIdeal.Gen.facts, Cert.GuDxRefIdeal.Gen.facts, Cert.GuDw.Gen.facts, Cert.GuDwIdeal.Gen.facts, Cert.GuDwRefIdeal.Gen.facts, Cert.MixGateBwd.Gen.facts, Cert.MixGateBwdIdeal.Gen.facts, Cert.MixGateBwdRefIdeal.Gen.facts, Cert.SsmInDx.Gen.facts, Cert.SsmInDxIdeal.Gen.facts, Cert.SsmInDxRefIdeal.Gen.facts, Cert.SsmInDw.Gen.facts, Cert.SsmInDwIdeal.Gen.facts, Cert.SsmInDwRefIdeal.Gen.facts, Cert.SsmOutDx.Gen.facts, Cert.SsmOutDxIdeal.Gen.facts, Cert.SsmOutDxRefIdeal.Gen.facts, Cert.SsmOutDw.Gen.facts, Cert.SsmOutDwIdeal.Gen.facts, Cert.SsmOutDwRefIdeal.Gen.facts, Cert.GnormBwd.Gen.facts, Cert.GnormBwdIdeal.Gen.facts, Cert.GnormBwdRefIdeal.Gen.facts, Cert.ConvBwd.Gen.facts, Cert.ConvBwdIdeal.Gen.facts, Cert.ConvBwdRefIdeal.Gen.facts, Cert.FinalLoss.Gen.facts, Cert.FinalLossIdeal.Gen.facts, Cert.FinalLossRefIdeal.Gen.facts, Cert.NormMod.Gen.facts, Cert.NormModIdeal.Gen.facts, Cert.NormModRefIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.SsmIn.Gen.facts, Cert.SsmInIdeal.Gen.facts, Cert.SsmInRefIdeal.Gen.facts, Cert.ConvFwd.Gen.facts, Cert.ConvFwdIdeal.Gen.facts, Cert.ConvFwdRefIdeal.Gen.facts, Cert.GnormFwd.Gen.facts, Cert.GnormFwdIdeal.Gen.facts, Cert.GnormFwdRefIdeal.Gen.facts, Cert.SsmOut.Gen.facts, Cert.SsmOutIdeal.Gen.facts, Cert.SsmOutRefIdeal.Gen.facts, Cert.ModW.Gen.facts, Cert.ModWIdeal.Gen.facts, Cert.ModWRefIdeal.Gen.facts, Cert.KvModW.Gen.facts, Cert.KvModWIdeal.Gen.facts, Cert.KvModWRefIdeal.Gen.facts, Cert.SmallSum.Gen.facts, Cert.SmallSumIdeal.Gen.facts, Cert.SmallSumRefIdeal.Gen.facts, Cert.GradGu.Gen.facts, Cert.GradGuIdeal.Gen.facts, Cert.GradGuRefIdeal.Gen.facts, Cert.GradDown.Gen.facts, Cert.GradDownIdeal.Gen.facts, Cert.GradDownRefIdeal.Gen.facts, Cert.GradSsmIn.Gen.facts, Cert.GradSsmInIdeal.Gen.facts, Cert.GradSsmInRefIdeal.Gen.facts, Cert.GradSsmOut.Gen.facts, Cert.GradSsmOutIdeal.Gen.facts, Cert.GradSsmOutRefIdeal.Gen.facts, Cert.GradKv.Gen.facts, Cert.GradKvIdeal.Gen.facts, Cert.GradKvRefIdeal.Gen.facts, Cert.GradAttn.Gen.facts, Cert.GradAttnIdeal.Gen.facts, Cert.GradAttnRefIdeal.Gen.facts, Cert.AdamGu.Gen.facts, Cert.AdamGuIdeal.Gen.facts, Cert.AdamGuRefIdeal.Gen.facts, Cert.AdamDown.Gen.facts, Cert.AdamDownIdeal.Gen.facts, Cert.AdamDownRefIdeal.Gen.facts, Cert.AdamSsmIn.Gen.facts, Cert.AdamSsmInIdeal.Gen.facts, Cert.AdamSsmInRefIdeal.Gen.facts, Cert.AdamSsmOut.Gen.facts, Cert.AdamSsmOutIdeal.Gen.facts, Cert.AdamSsmOutRefIdeal.Gen.facts, Cert.AdamKv.Gen.facts, Cert.AdamKvIdeal.Gen.facts, Cert.AdamKvRefIdeal.Gen.facts, Cert.AdamAttn.Gen.facts, Cert.AdamAttnIdeal.Gen.facts, Cert.AdamAttnRefIdeal.Gen.facts, Cert.AdamMod.Gen.facts, Cert.AdamModIdeal.Gen.facts, Cert.AdamModRefIdeal.Gen.facts, Cert.AdamKvMod.Gen.facts, Cert.AdamKvModIdeal.Gen.facts, Cert.AdamKvModRefIdeal.Gen.facts, Cert.AdamSmall.Gen.facts, Cert.AdamSmallIdeal.Gen.facts, Cert.AdamSmallRefIdeal.Gen.facts, Cert.Pre_all_real.Gen.facts, Cert.Pre_gnorm_real.Gen.facts, Cert.Pre_conv_real.Gen.facts,
  fun m ρ _ => Cert.DownDx.Gen.frame m ρ,
  fun m ρ _ => Cert.DownDxIdeal.Gen.frame m ρ,
  fun m ρ _ => Cert.DownDxIdeal.Gen.frame m ρ,
  fun m ρ _ => (θ_run _ _ _).mono (fun r h => ⟨fun c => (h c).2, sem_eq_zero_of_no_sems (by decide) r.2⟩) (Cert.DownDxRefIdeal.Value.run m ρ),
  fun m ρ _ => (θ_run _ _ _).mono (fun r h => ⟨fun c => (h c).2, sem_eq_zero_of_no_sems (by decide) r.2⟩) (Cert.DownDxRefIdeal.Value.run m ρ),
  fun m ρ _ => Cert.DownDw.Gen.frame m ρ,
  fun m ρ _ => Cert.DownDwIdeal.Gen.frame m ρ,
  fun m ρ _ => (θ_run _ _ _).mono (fun r h => ⟨fun c => (h c).2, sem_eq_zero_of_no_sems (by decide) r.2⟩) (Cert.DownDwRefIdeal.Value.run m ρ),
  fun m ρ _ => Cert.GateBwd.Gen.frame m ρ,
  fun m ρ _ => Cert.GateBwdIdeal.Gen.frame m ρ,
  fun m ρ _ => (θ_run _ _ _).mono (fun r h => ⟨fun c => (h c).2.2.2, sem_eq_zero_of_no_sems (by decide) r.2⟩) (Cert.GateBwdRefIdeal.Value.run m ρ),
  fun m ρ _ => Cert.GuDx.Gen.frame m ρ,
  fun m ρ _ => Cert.GuDxIdeal.Gen.frame m ρ,
  fun m ρ _ => (θ_run _ _ _).mono (fun r h => ⟨fun c => (h c).2.2.2.2, sem_eq_zero_of_no_sems (by decide) r.2⟩) (Cert.GuDxRefIdeal.Value.run m ρ),
  fun m ρ _ => Cert.GuDw.Gen.frame m ρ,
  fun m ρ _ => Cert.GuDwIdeal.Gen.frame m ρ,
  fun m ρ _ => (θ_run _ _ _).mono (fun r h => ⟨fun c => (h c).2, sem_eq_zero_of_no_sems (by decide) r.2⟩) (Cert.GuDwRefIdeal.Value.run m ρ),
  fun m ρ _ => Cert.MixGateBwd.Gen.frame m ρ,
  fun m ρ _ => Cert.MixGateBwdIdeal.Gen.frame m ρ,
  fun m ρ _ => (θ_run _ _ _).mono (fun r h => ⟨fun c => (h c).2.2.2, sem_eq_zero_of_no_sems (by decide) r.2⟩) (Cert.MixGateBwdRefIdeal.Value.run m ρ),
  fun m ρ _ => Cert.SsmInDx.Gen.frame m ρ,
  fun m ρ _ => Cert.SsmInDxIdeal.Gen.frame m ρ,
  fun m ρ _ => (θ_run _ _ _).mono (fun r h => ⟨fun c => (h c).2.2.2.2, sem_eq_zero_of_no_sems (by decide) r.2⟩) (Cert.SsmInDxRefIdeal.Value.run m ρ),
  fun m ρ _ => Cert.SsmInDw.Gen.frame m ρ,
  fun m ρ _ => Cert.SsmInDwIdeal.Gen.frame m ρ,
  fun m ρ _ => (θ_run _ _ _).mono (fun r h => ⟨fun c => (h c).2, sem_eq_zero_of_no_sems (by decide) r.2⟩) (Cert.SsmInDwRefIdeal.Value.run m ρ),
  fun m ρ _ => Cert.SsmOutDx.Gen.frame m ρ,
  fun m ρ _ => Cert.SsmOutDxIdeal.Gen.frame m ρ,
  fun m ρ _ => (θ_run _ _ _).mono (fun r h => ⟨fun c => (h c).2, sem_eq_zero_of_no_sems (by decide) r.2⟩) (Cert.SsmOutDxRefIdeal.Value.run m ρ),
  fun m ρ _ => Cert.SsmOutDw.Gen.frame m ρ,
  fun m ρ _ => Cert.SsmOutDwIdeal.Gen.frame m ρ,
  fun m ρ _ => (θ_run _ _ _).mono (fun r h => ⟨fun c => (h c).2, sem_eq_zero_of_no_sems (by decide) r.2⟩) (Cert.SsmOutDwRefIdeal.Value.run m ρ),
  fun m ρ _ => Cert.GnormBwd.Gen.frame m ρ,
  fun m ρ _ => Cert.GnormBwdIdeal.Gen.frame m ρ,
  fun m ρ _ => Cert.GnormBwdIdeal.Gen.frame m ρ,
  fun m ρ _ => (θ_run _ _ _).mono (fun r h => ⟨fun c => (h c).2.2.2, sem_eq_zero_of_no_sems (by decide) r.2⟩) (Cert.GnormBwdRefIdeal.Value.run m ρ),
  fun m ρ _ => (θ_run _ _ _).mono (fun r h => ⟨fun c => (h c).2.2.2, sem_eq_zero_of_no_sems (by decide) r.2⟩) (Cert.GnormBwdRefIdeal.Value.run m ρ),
  fun m ρ _ => Cert.ConvBwd.Gen.frame m ρ,
  fun m ρ _ => Cert.ConvBwdIdeal.Gen.frame m ρ,
  fun m ρ _ => Cert.ConvBwdIdeal.Gen.frame m ρ,
  fun m ρ _ => (θ_run _ _ _).mono (fun r h => ⟨fun c => (h c).2.2.2, sem_eq_zero_of_no_sems (by decide) r.2⟩) (Cert.ConvBwdRefIdeal.Value.run m ρ),
  fun m ρ _ => (θ_run _ _ _).mono (fun r h => ⟨fun c => (h c).2.2.2, sem_eq_zero_of_no_sems (by decide) r.2⟩) (Cert.ConvBwdRefIdeal.Value.run m ρ),
  fun m ρ _ => Cert.FinalLoss.Gen.frame m ρ,
  fun m ρ _ => Cert.FinalLossIdeal.Gen.frame m ρ,
  fun m ρ _ => (θ_run _ _ _).mono (fun r h => ⟨fun c => (h c).2.2.2, sem_eq_zero_of_no_sems (by decide) r.2⟩) (Cert.FinalLossRefIdeal.Value.run m ρ),
  fun m ρ _ => Cert.NormMod.Gen.frame m ρ,
  fun m ρ _ => Cert.NormModIdeal.Gen.frame m ρ,
  fun m ρ _ => (θ_run _ _ _).mono (fun r h => ⟨fun c => (h c).2, sem_eq_zero_of_no_sems (by decide) r.2⟩) (Cert.NormModRefIdeal.Value.run m ρ),
  fun m ρ _ => Cert.FfnUp.Gen.frame m ρ,
  fun m ρ _ => Cert.FfnUpIdeal.Gen.frame m ρ,
  fun m ρ _ => (θ_run _ _ _).mono (fun r h => ⟨fun c => (h c).2.2, sem_eq_zero_of_no_sems (by decide) r.2⟩) (Cert.FfnUpRefIdeal.Value.run m ρ),
  fun m ρ _ => Cert.FfnDown.Gen.frame m ρ,
  fun m ρ _ => Cert.FfnDownIdeal.Gen.frame m ρ,
  fun m ρ _ => (θ_run _ _ _).mono (fun r h => ⟨fun c => (h c).2.2, sem_eq_zero_of_no_sems (by decide) r.2⟩) (Cert.FfnDownRefIdeal.Value.run m ρ),
  fun m ρ _ => Cert.SsmIn.Gen.frame m ρ,
  fun m ρ _ => Cert.SsmInIdeal.Gen.frame m ρ,
  fun m ρ _ => (θ_run _ _ _).mono (fun r h => ⟨fun c => (h c).2, sem_eq_zero_of_no_sems (by decide) r.2⟩) (Cert.SsmInRefIdeal.Value.run m ρ),
  fun m ρ _ => Cert.ConvFwd.Gen.frame m ρ,
  fun m ρ _ => Cert.ConvFwdIdeal.Gen.frame m ρ,
  fun m ρ _ => (θ_run _ _ _).mono (fun r h => ⟨fun c => (h c).2, sem_eq_zero_of_no_sems (by decide) r.2⟩) (Cert.ConvFwdRefIdeal.Value.run m ρ),
  fun m ρ _ => Cert.GnormFwd.Gen.frame m ρ,
  fun m ρ _ => Cert.GnormFwdIdeal.Gen.frame m ρ,
  fun m ρ _ => (θ_run _ _ _).mono (fun r h => ⟨fun c => (h c).2, sem_eq_zero_of_no_sems (by decide) r.2⟩) (Cert.GnormFwdRefIdeal.Value.run m ρ),
  fun m ρ _ => Cert.SsmOut.Gen.frame m ρ,
  fun m ρ _ => Cert.SsmOutIdeal.Gen.frame m ρ,
  fun m ρ _ => (θ_run _ _ _).mono (fun r h => ⟨fun c => (h c).2.2, sem_eq_zero_of_no_sems (by decide) r.2⟩) (Cert.SsmOutRefIdeal.Value.run m ρ),
  fun m ρ _ => Cert.ModW.Gen.frame m ρ,
  fun m ρ _ => Cert.ModWIdeal.Gen.frame m ρ,
  fun m ρ _ => (θ_run _ _ _).mono (fun r h => ⟨fun c => (h c).2, sem_eq_zero_of_no_sems (by decide) r.2⟩) (Cert.ModWRefIdeal.Value.run m ρ),
  fun m ρ _ => Cert.KvModW.Gen.frame m ρ,
  fun m ρ _ => Cert.KvModWIdeal.Gen.frame m ρ,
  fun m ρ _ => (θ_run _ _ _).mono (fun r h => ⟨fun c => (h c).2, sem_eq_zero_of_no_sems (by decide) r.2⟩) (Cert.KvModWRefIdeal.Value.run m ρ),
  fun m ρ _ => Cert.SmallSum.Gen.frame m ρ,
  fun m ρ _ => Cert.SmallSumIdeal.Gen.frame m ρ,
  fun m ρ _ => (θ_run _ _ _).mono (fun r h => ⟨fun c => (h c).2, sem_eq_zero_of_no_sems (by decide) r.2⟩) (Cert.SmallSumRefIdeal.Value.run m ρ),
  fun m ρ _ => Cert.GradGu.Gen.frame m ρ,
  fun m ρ _ => Cert.GradGuIdeal.Gen.frame m ρ,
  fun m ρ _ => (θ_run _ _ _).mono (fun r h => ⟨fun c => (h c).2, sem_eq_zero_of_no_sems (by decide) r.2⟩) (Cert.GradGuRefIdeal.Value.run m ρ),
  fun m ρ _ => Cert.GradDown.Gen.frame m ρ,
  fun m ρ _ => Cert.GradDownIdeal.Gen.frame m ρ,
  fun m ρ _ => (θ_run _ _ _).mono (fun r h => ⟨fun c => (h c).2, sem_eq_zero_of_no_sems (by decide) r.2⟩) (Cert.GradDownRefIdeal.Value.run m ρ),
  fun m ρ _ => Cert.GradSsmIn.Gen.frame m ρ,
  fun m ρ _ => Cert.GradSsmInIdeal.Gen.frame m ρ,
  fun m ρ _ => (θ_run _ _ _).mono (fun r h => ⟨fun c => (h c).2, sem_eq_zero_of_no_sems (by decide) r.2⟩) (Cert.GradSsmInRefIdeal.Value.run m ρ),
  fun m ρ _ => Cert.GradSsmOut.Gen.frame m ρ,
  fun m ρ _ => Cert.GradSsmOutIdeal.Gen.frame m ρ,
  fun m ρ _ => (θ_run _ _ _).mono (fun r h => ⟨fun c => (h c).2, sem_eq_zero_of_no_sems (by decide) r.2⟩) (Cert.GradSsmOutRefIdeal.Value.run m ρ),
  fun m ρ _ => Cert.GradKv.Gen.frame m ρ,
  fun m ρ _ => Cert.GradKvIdeal.Gen.frame m ρ,
  fun m ρ _ => (θ_run _ _ _).mono (fun r h => ⟨fun c => (h c).2, sem_eq_zero_of_no_sems (by decide) r.2⟩) (Cert.GradKvRefIdeal.Value.run m ρ),
  fun m ρ _ => Cert.GradAttn.Gen.frame m ρ,
  fun m ρ _ => Cert.GradAttnIdeal.Gen.frame m ρ,
  fun m ρ _ => (θ_run _ _ _).mono (fun r h => ⟨fun c => (h c).2, sem_eq_zero_of_no_sems (by decide) r.2⟩) (Cert.GradAttnRefIdeal.Value.run m ρ),
  fun m ρ _ => Cert.AdamGu.Gen.frame m ρ,
  fun m ρ _ => Cert.AdamGuIdeal.Gen.frame m ρ,
  fun m ρ _ => (θ_run _ _ _).mono (fun r h => ⟨fun c => (h c).2.2.2, sem_eq_zero_of_no_sems (by decide) r.2⟩) (Cert.AdamGuRefIdeal.Value.run m ρ),
  fun m ρ _ => Cert.AdamDown.Gen.frame m ρ,
  fun m ρ _ => Cert.AdamDownIdeal.Gen.frame m ρ,
  fun m ρ _ => (θ_run _ _ _).mono (fun r h => ⟨fun c => (h c).2.2.2, sem_eq_zero_of_no_sems (by decide) r.2⟩) (Cert.AdamDownRefIdeal.Value.run m ρ),
  fun m ρ _ => Cert.AdamSsmIn.Gen.frame m ρ,
  fun m ρ _ => Cert.AdamSsmInIdeal.Gen.frame m ρ,
  fun m ρ _ => (θ_run _ _ _).mono (fun r h => ⟨fun c => (h c).2.2.2, sem_eq_zero_of_no_sems (by decide) r.2⟩) (Cert.AdamSsmInRefIdeal.Value.run m ρ),
  fun m ρ _ => Cert.AdamSsmOut.Gen.frame m ρ,
  fun m ρ _ => Cert.AdamSsmOutIdeal.Gen.frame m ρ,
  fun m ρ _ => (θ_run _ _ _).mono (fun r h => ⟨fun c => (h c).2.2.2, sem_eq_zero_of_no_sems (by decide) r.2⟩) (Cert.AdamSsmOutRefIdeal.Value.run m ρ),
  fun m ρ _ => Cert.AdamKv.Gen.frame m ρ,
  fun m ρ _ => Cert.AdamKvIdeal.Gen.frame m ρ,
  fun m ρ _ => (θ_run _ _ _).mono (fun r h => ⟨fun c => (h c).2.2.2, sem_eq_zero_of_no_sems (by decide) r.2⟩) (Cert.AdamKvRefIdeal.Value.run m ρ),
  fun m ρ _ => Cert.AdamAttn.Gen.frame m ρ,
  fun m ρ _ => Cert.AdamAttnIdeal.Gen.frame m ρ,
  fun m ρ _ => (θ_run _ _ _).mono (fun r h => ⟨fun c => (h c).2.2.2, sem_eq_zero_of_no_sems (by decide) r.2⟩) (Cert.AdamAttnRefIdeal.Value.run m ρ),
  fun m ρ _ => Cert.AdamMod.Gen.frame m ρ,
  fun m ρ _ => Cert.AdamModIdeal.Gen.frame m ρ,
  fun m ρ _ => (θ_run _ _ _).mono (fun r h => ⟨fun c => (h c).2.2.2, sem_eq_zero_of_no_sems (by decide) r.2⟩) (Cert.AdamModRefIdeal.Value.run m ρ),
  fun m ρ _ => Cert.AdamKvMod.Gen.frame m ρ,
  fun m ρ _ => Cert.AdamKvModIdeal.Gen.frame m ρ,
  fun m ρ _ => (θ_run _ _ _).mono (fun r h => ⟨fun c => (h c).2.2.2, sem_eq_zero_of_no_sems (by decide) r.2⟩) (Cert.AdamKvModRefIdeal.Value.run m ρ),
  fun m ρ _ => Cert.AdamSmall.Gen.frame m ρ,
  fun m ρ _ => Cert.AdamSmallIdeal.Gen.frame m ρ,
  fun m ρ _ => (θ_run _ _ _).mono (fun r h => ⟨fun c => (h c).2.2.2, sem_eq_zero_of_no_sems (by decide) r.2⟩) (Cert.AdamSmallRefIdeal.Value.run m ρ),
  trivial,
  downDx,
  trivial,
  downDw,
  trivial,
  gateBwd,
  trivial,
  guDx,
  trivial,
  guDw,
  trivial,
  mixGateBwd,
  trivial,
  ssmInDx,
  trivial,
  ssmInDw,
  trivial,
  ssmOutDx,
  trivial,
  ssmOutDw,
  trivial,
  gnormBwd,
  trivial,
  convBwd,
  trivial,
  finalLoss,
  trivial,
  normMod,
  trivial,
  ffnUp,
  trivial,
  ffnDown,
  trivial,
  ssmIn,
  trivial,
  convFwd,
  trivial,
  gnormFwd,
  trivial,
  ssmOut,
  trivial,
  modW,
  trivial,
  kvModW,
  trivial,
  smallSum,
  trivial,
  gradGu,
  trivial,
  gradDown,
  trivial,
  gradSsmIn,
  trivial,
  gradSsmOut,
  trivial,
  gradKv,
  trivial,
  gradAttn,
  trivial,
  adamGu,
  trivial,
  adamDown,
  trivial,
  adamSsmIn,
  trivial,
  adamSsmOut,
  trivial,
  adamKv,
  trivial,
  adamAttn,
  trivial,
  adamMod,
  trivial,
  adamKvMod,
  trivial,
  adamSmall⟩

end Cert.Proof

end
